-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelRefIdeal (m : (ℓ : Loc Cert.KernelRefIdeal.nD Cert.KernelRefIdeal.τ Cert.KernelRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxRefIdeal (m : (ℓ : Loc Cert.FfnDxRefIdeal.nD Cert.FfnDxRefIdeal.τ Cert.FfnDxRefIdeal.sig) → Buf (Elt Ideal) ℓ) : Prop :=
  True

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_WoutDx (m : (ℓ : Loc Cert.WoutDx.nD Cert.WoutDx.τ Cert.WoutDx.sig) → Buf (Elt Bits) ℓ) : Prop :=
  True

def Pre_WoutDxIdeal (m : (ℓ : Loc Cert.WoutDxIdeal.nD Cert.WoutDxIdeal.τ Cert.WoutDxIdeal.sig) → Buf (Elt Ideal) ℓ) : Prop :=
  True

def Pre_WoutDxRefIdeal (m : (ℓ : Loc Cert.WoutDxRefIdeal.nD Cert.WoutDxRefIdeal.τ Cert.WoutDxRefIdeal.sig) → Buf (Elt Ideal) ℓ) : Prop :=
  True

def Pre_WoutDw (m : (ℓ : Loc Cert.WoutDw.nD Cert.WoutDw.τ Cert.WoutDw.sig) → Buf (Elt Bits) ℓ) : Prop :=
  True

def Pre_WoutDwIdeal (m : (ℓ : Loc Cert.WoutDwIdeal.nD Cert.WoutDwIdeal.τ Cert.WoutDwIdeal.sig) → Buf (Elt Ideal) ℓ) : Prop :=
  True

def Pre_WoutDwRefIdeal (m : (ℓ : Loc Cert.WoutDwRefIdeal.nD Cert.WoutDwRefIdeal.τ Cert.WoutDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamBAda (m : (ℓ : Loc Cert.AdamBAda.nD Cert.AdamBAda.τ Cert.AdamBAda.sig) → Buf (Elt Bits) ℓ) : Prop :=
  True

def Pre_AdamBAdaIdeal (m : (ℓ : Loc Cert.AdamBAdaIdeal.nD Cert.AdamBAdaIdeal.τ Cert.AdamBAdaIdeal.sig) → Buf (Elt Ideal) ℓ) : Prop :=
  True

def Pre_AdamBAdaRefIdeal (m : (ℓ : Loc Cert.AdamBAdaRefIdeal.nD Cert.AdamBAdaRefIdeal.τ Cert.AdamBAdaRefIdeal.sig) → Buf (Elt Ideal) ℓ) : Prop :=
  True

def Pre_AdamBIn (m : (ℓ : Loc Cert.AdamBIn.nD Cert.AdamBIn.τ Cert.AdamBIn.sig) → Buf (Elt Bits) ℓ) : Prop :=
  True

def Pre_AdamBInIdeal (m : (ℓ : Loc Cert.AdamBInIdeal.nD Cert.AdamBInIdeal.τ Cert.AdamBInIdeal.sig) → Buf (Elt Ideal) ℓ) : Prop :=
  True

def Pre_AdamBInRefIdeal (m : (ℓ : Loc Cert.AdamBInRefIdeal.nD Cert.AdamBInRefIdeal.τ Cert.AdamBInRefIdeal.sig) → Buf (Elt Ideal) ℓ) : Prop :=
  True

def Pre_AdamLam (m : (ℓ : Loc Cert.AdamLam.nD Cert.AdamLam.τ Cert.AdamLam.sig) → Buf (Elt Bits) ℓ) : Prop :=
  True

def Pre_AdamLamIdeal (m : (ℓ : Loc Cert.AdamLamIdeal.nD Cert.AdamLamIdeal.τ Cert.AdamLamIdeal.sig) → Buf (Elt Ideal) ℓ) : Prop :=
  True

def Pre_AdamLamRefIdeal (m : (ℓ : Loc Cert.AdamLamRefIdeal.nD Cert.AdamLamRefIdeal.τ Cert.AdamLamRefIdeal.sig) → Buf (Elt Ideal) ℓ) : Prop :=
  True

def Pre_AdamLogDt (m : (ℓ : Loc Cert.AdamLogDt.nD Cert.AdamLogDt.τ Cert.AdamLogDt.sig) → Buf (Elt Bits) ℓ) : Prop :=
  True

def Pre_AdamLogDtIdeal (m : (ℓ : Loc Cert.AdamLogDtIdeal.nD Cert.AdamLogDtIdeal.τ Cert.AdamLogDtIdeal.sig) → Buf (Elt Ideal) ℓ) : Prop :=
  True

def Pre_AdamLogDtRefIdeal (m : (ℓ : Loc Cert.AdamLogDtRefIdeal.nD Cert.AdamLogDtRefIdeal.τ Cert.AdamLogDtRefIdeal.sig) → Buf (Elt Ideal) ℓ) : Prop :=
  True

def Pre_AdamS5B (m : (ℓ : Loc Cert.AdamS5B.nD Cert.AdamS5B.τ Cert.AdamS5B.sig) → Buf (Elt Bits) ℓ) : Prop :=
  True

def Pre_AdamS5BIdeal (m : (ℓ : Loc Cert.AdamS5BIdeal.nD Cert.AdamS5BIdeal.τ Cert.AdamS5BIdeal.sig) → Buf (Elt Ideal) ℓ) : Prop :=
  True

def Pre_AdamS5BRefIdeal (m : (ℓ : Loc Cert.AdamS5BRefIdeal.nD Cert.AdamS5BRefIdeal.τ Cert.AdamS5BRefIdeal.sig) → Buf (Elt Ideal) ℓ) : Prop :=
  True

def Pre_AdamS5C (m : (ℓ : Loc Cert.AdamS5C.nD Cert.AdamS5C.τ Cert.AdamS5C.sig) → Buf (Elt Bits) ℓ) : Prop :=
  True

def Pre_AdamS5CIdeal (m : (ℓ : Loc Cert.AdamS5CIdeal.nD Cert.AdamS5CIdeal.τ Cert.AdamS5CIdeal.sig) → Buf (Elt Ideal) ℓ) : Prop :=
  True

def Pre_AdamS5CRefIdeal (m : (ℓ : Loc Cert.AdamS5CRefIdeal.nD Cert.AdamS5CRefIdeal.τ Cert.AdamS5CRefIdeal.sig) → Buf (Elt Ideal) ℓ) : Prop :=
  True

def Pre_AdamRow512 (m : (ℓ : Loc Cert.AdamRow512.nD Cert.AdamRow512.τ Cert.AdamRow512.sig) → Buf (Elt Bits) ℓ) : Prop :=
  True

def Pre_AdamRow512Ideal (m : (ℓ : Loc Cert.AdamRow512Ideal.nD Cert.AdamRow512Ideal.τ Cert.AdamRow512Ideal.sig) → Buf (Elt Ideal) ℓ) : Prop :=
  True

def Pre_AdamRow512RefIdeal (m : (ℓ : Loc Cert.AdamRow512RefIdeal.nD Cert.AdamRow512RefIdeal.τ Cert.AdamRow512RefIdeal.sig) → Buf (Elt Ideal) ℓ) : Prop :=
  True

def Pre_AdamQNorm (m : (ℓ : Loc Cert.AdamQNorm.nD Cert.AdamQNorm.τ Cert.AdamQNorm.sig) → Buf (Elt Bits) ℓ) : Prop :=
  True

def Pre_AdamQNormIdeal (m : (ℓ : Loc Cert.AdamQNormIdeal.nD Cert.AdamQNormIdeal.τ Cert.AdamQNormIdeal.sig) → Buf (Elt Ideal) ℓ) : Prop :=
  True

def Pre_AdamQNormRefIdeal (m : (ℓ : Loc Cert.AdamQNormRefIdeal.nD Cert.AdamQNormRefIdeal.τ Cert.AdamQNormRefIdeal.sig) → Buf (Elt Ideal) ℓ) : Prop :=
  True

def Pre_AdamKvNorm (m : (ℓ : Loc Cert.AdamKvNorm.nD Cert.AdamKvNorm.τ Cert.AdamKvNorm.sig) → Buf (Elt Bits) ℓ) : Prop :=
  True

def Pre_AdamKvNormIdeal (m : (ℓ : Loc Cert.AdamKvNormIdeal.nD Cert.AdamKvNormIdeal.τ Cert.AdamKvNormIdeal.sig) → Buf (Elt Ideal) ℓ) : Prop :=
  True

def Pre_AdamKvNormRefIdeal (m : (ℓ : Loc Cert.AdamKvNormRefIdeal.nD Cert.AdamKvNormRefIdeal.τ Cert.AdamKvNormRefIdeal.sig) → Buf (Elt Ideal) ℓ) : Prop :=
  True

def Pre_AdamSguW (m : (ℓ : Loc Cert.AdamSguW.nD Cert.AdamSguW.τ Cert.AdamSguW.sig) → Buf (Elt Bits) ℓ) : Prop :=
  True

def Pre_AdamSguWIdeal (m : (ℓ : Loc Cert.AdamSguWIdeal.nD Cert.AdamSguWIdeal.τ Cert.AdamSguWIdeal.sig) → Buf (Elt Ideal) ℓ) : Prop :=
  True

def Pre_AdamSguWRefIdeal (m : (ℓ : Loc Cert.AdamSguWRefIdeal.nD Cert.AdamSguWRefIdeal.τ Cert.AdamSguWRefIdeal.sig) → Buf (Elt Ideal) ℓ) : Prop :=
  True

def Pre_AdamSguB (m : (ℓ : Loc Cert.AdamSguB.nD Cert.AdamSguB.τ Cert.AdamSguB.sig) → Buf (Elt Bits) ℓ) : Prop :=
  True

def Pre_AdamSguBIdeal (m : (ℓ : Loc Cert.AdamSguBIdeal.nD Cert.AdamSguBIdeal.τ Cert.AdamSguBIdeal.sig) → Buf (Elt Ideal) ℓ) : Prop :=
  True

def Pre_AdamSguBRefIdeal (m : (ℓ : Loc Cert.AdamSguBRefIdeal.nD Cert.AdamSguBRefIdeal.τ Cert.AdamSguBRefIdeal.sig) → Buf (Elt Ideal) ℓ) : Prop :=
  True

def Pre_AdamRow1024 (m : (ℓ : Loc Cert.AdamRow1024.nD Cert.AdamRow1024.τ Cert.AdamRow1024.sig) → Buf (Elt Bits) ℓ) : Prop :=
  True

def Pre_AdamRow1024Ideal (m : (ℓ : Loc Cert.AdamRow1024Ideal.nD Cert.AdamRow1024Ideal.τ Cert.AdamRow1024Ideal.sig) → Buf (Elt Ideal) ℓ) : Prop :=
  True

def Pre_AdamRow1024RefIdeal (m : (ℓ : Loc Cert.AdamRow1024RefIdeal.nD Cert.AdamRow1024RefIdeal.τ Cert.AdamRow1024RefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamQUp (m : (ℓ : Loc Cert.AdamQUp.nD Cert.AdamQUp.τ Cert.AdamQUp.sig) → Buf (Elt Bits) ℓ) : Prop :=
  True

def Pre_AdamQUpIdeal (m : (ℓ : Loc Cert.AdamQUpIdeal.nD Cert.AdamQUpIdeal.τ Cert.AdamQUpIdeal.sig) → Buf (Elt Ideal) ℓ) : Prop :=
  True

def Pre_AdamQUpRefIdeal (m : (ℓ : Loc Cert.AdamQUpRefIdeal.nD Cert.AdamQUpRefIdeal.τ Cert.AdamQUpRefIdeal.sig) → Buf (Elt Ideal) ℓ) : Prop :=
  True

def Pre_AdamKvUp (m : (ℓ : Loc Cert.AdamKvUp.nD Cert.AdamKvUp.τ Cert.AdamKvUp.sig) → Buf (Elt Bits) ℓ) : Prop :=
  True

def Pre_AdamKvUpIdeal (m : (ℓ : Loc Cert.AdamKvUpIdeal.nD Cert.AdamKvUpIdeal.τ Cert.AdamKvUpIdeal.sig) → Buf (Elt Ideal) ℓ) : Prop :=
  True

def Pre_AdamKvUpRefIdeal (m : (ℓ : Loc Cert.AdamKvUpRefIdeal.nD Cert.AdamKvUpRefIdeal.τ Cert.AdamKvUpRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelRefIdeal [hKernelRefIdeal : Cert.KernelRefIdeal.Facts] : Prop :=
  ∀ (m : (ℓ : Loc Cert.KernelRefIdeal.nD Cert.KernelRefIdeal.τ Cert.KernelRefIdeal.sig) → Buf (Elt Ideal) ℓ) (g : Dev Cert.KernelRefIdeal.nD → PrngReg), Pre_KernelRefIdeal m →
    θ_run (Cert.KernelRefIdeal.defs (F := Ideal)) (onTc (τ := Cert.KernelRefIdeal.τ) (Cert.KernelRefIdeal.main (F := Ideal))) ⟨m, fun _ => 0, g⟩ (fun r => (∀ c : Dev Cert.KernelRefIdeal.nD,
      r.2.mem ((c.tc : Thread Cert.KernelRefIdeal.nD Cert.KernelRefIdeal.τ).loc Cert.KernelRefIdeal.main_arg0) = m ((c.tc : Thread Cert.KernelRefIdeal.nD Cert.KernelRefIdeal.τ).loc Cert.KernelRefIdeal.main_arg0)
      ∧ r.2.mem ((c.tc : Thread Cert.KernelRefIdeal.nD Cert.KernelRefIdeal.τ).loc Cert.KernelRefIdeal.main_arg1) = m ((c.tc : Thread Cert.KernelRefIdeal.nD Cert.KernelRefIdeal.τ).loc Cert.KernelRefIdeal.main_arg1)
      ∧ r.2.mem ((c.tc : Thread Cert.KernelRefIdeal.nD Cert.KernelRefIdeal.τ).loc Cert.KernelRefIdeal.main_arg2) = m ((c.tc : Thread Cert.KernelRefIdeal.nD Cert.KernelRefIdeal.τ).loc Cert.KernelRefIdeal.main_arg2)
      ∧ r.2.mem ((c.tc : Thread Cert.KernelRefIdeal.nD Cert.KernelRefIdeal.τ).loc Cert.KernelRefIdeal.main_arg3) = m ((c.tc : Thread Cert.KernelRefIdeal.nD Cert.KernelRefIdeal.τ).loc Cert.KernelRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_WoutDx [hWoutDx : Cert.WoutDx.Facts] : Prop :=
  ∀ (m : (ℓ : Loc Cert.WoutDx.nD Cert.WoutDx.τ Cert.WoutDx.sig) → Buf (Elt Bits) ℓ) (g : Dev Cert.WoutDx.nD → PrngReg), Pre_WoutDx m →
    θ_run (Cert.WoutDx.defs (F := Bits)) (onTc (τ := Cert.WoutDx.τ) (Cert.WoutDx.main (F := Bits))) ⟨m, fun _ => 0, g⟩ (fun r => (∀ c : Dev Cert.WoutDx.nD,
      r.2.mem ((c.tc : Thread Cert.WoutDx.nD Cert.WoutDx.τ).loc Cert.WoutDx.main_arg0) = m ((c.tc : Thread Cert.WoutDx.nD Cert.WoutDx.τ).loc Cert.WoutDx.main_arg0)
      ∧ r.2.mem ((c.tc : Thread Cert.WoutDx.nD Cert.WoutDx.τ).loc Cert.WoutDx.main_arg1) = m ((c.tc : Thread Cert.WoutDx.nD Cert.WoutDx.τ).loc Cert.WoutDx.main_arg1))
      ∧ r.2.sem = fun _ => 0)

def quiescent_WoutDxIdeal [hWoutDxIdeal : Cert.WoutDxIdeal.Facts] : Prop :=
  ∀ (m : (ℓ : Loc Cert.WoutDxIdeal.nD Cert.WoutDxIdeal.τ Cert.WoutDxIdeal.sig) → Buf (Elt Ideal) ℓ) (g : Dev Cert.WoutDxIdeal.nD → PrngReg), Pre_WoutDxIdeal m →
    θ_run (Cert.WoutDxIdeal.defs (F := Ideal)) (onTc (τ := Cert.WoutDxIdeal.τ) (Cert.WoutDxIdeal.main (F := Ideal))) ⟨m, fun _ => 0, g⟩ (fun r => (∀ c : Dev Cert.WoutDxIdeal.nD,
      r.2.mem ((c.tc : Thread Cert.WoutDxIdeal.nD Cert.WoutDxIdeal.τ).loc Cert.WoutDxIdeal.main_arg0) = m ((c.tc : Thread Cert.WoutDxIdeal.nD Cert.WoutDxIdeal.τ).loc Cert.WoutDxIdeal.main_arg0)
      ∧ r.2.mem ((c.tc : Thread Cert.WoutDxIdeal.nD Cert.WoutDxIdeal.τ).loc Cert.WoutDxIdeal.main_arg1) = m ((c.tc : Thread Cert.WoutDxIdeal.nD Cert.WoutDxIdeal.τ).loc Cert.WoutDxIdeal.main_arg1))
      ∧ r.2.sem = fun _ => 0)

def quiescent_WoutDxRefIdeal [hWoutDxRefIdeal : Cert.WoutDxRefIdeal.Facts] : Prop :=
  ∀ (m : (ℓ : Loc Cert.WoutDxRefIdeal.nD Cert.WoutDxRefIdeal.τ Cert.WoutDxRefIdeal.sig) → Buf (Elt Ideal) ℓ) (g : Dev Cert.WoutDxRefIdeal.nD → PrngReg), Pre_WoutDxRefIdeal m →
    θ_run (Cert.WoutDxRefIdeal.defs (F := Ideal)) (onTc (τ := Cert.WoutDxRefIdeal.τ) (Cert.WoutDxRefIdeal.main (F := Ideal))) ⟨m, fun _ => 0, g⟩ (fun r => (∀ c : Dev Cert.WoutDxRefIdeal.nD,
      r.2.mem ((c.tc : Thread Cert.WoutDxRefIdeal.nD Cert.WoutDxRefIdeal.τ).loc Cert.WoutDxRefIdeal.main_arg0) = m ((c.tc : Thread Cert.WoutDxRefIdeal.nD Cert.WoutDxRefIdeal.τ).loc Cert.WoutDxRefIdeal.main_arg0)
      ∧ r.2.mem ((c.tc : Thread Cert.WoutDxRefIdeal.nD Cert.WoutDxRefIdeal.τ).loc Cert.WoutDxRefIdeal.main_arg1) = m ((c.tc : Thread Cert.WoutDxRefIdeal.nD Cert.WoutDxRefIdeal.τ).loc Cert.WoutDxRefIdeal.main_arg1))
      ∧ r.2.sem = fun _ => 0)

def quiescent_WoutDw [hWoutDw : Cert.WoutDw.Facts] : Prop :=
  ∀ (m : (ℓ : Loc Cert.WoutDw.nD Cert.WoutDw.τ Cert.WoutDw.sig) → Buf (Elt Bits) ℓ) (g : Dev Cert.WoutDw.nD → PrngReg), Pre_WoutDw m →
    θ_run (Cert.WoutDw.defs (F := Bits)) (onTc (τ := Cert.WoutDw.τ) (Cert.WoutDw.main (F := Bits))) ⟨m, fun _ => 0, g⟩ (fun r => (∀ c : Dev Cert.WoutDw.nD,
      r.2.mem ((c.tc : Thread Cert.WoutDw.nD Cert.WoutDw.τ).loc Cert.WoutDw.main_arg0) = m ((c.tc : Thread Cert.WoutDw.nD Cert.WoutDw.τ).loc Cert.WoutDw.main_arg0)
      ∧ r.2.mem ((c.tc : Thread Cert.WoutDw.nD Cert.WoutDw.τ).loc Cert.WoutDw.main_arg1) = m ((c.tc : Thread Cert.WoutDw.nD Cert.WoutDw.τ).loc Cert.WoutDw.main_arg1))
      ∧ r.2.sem = fun _ => 0)

def quiescent_WoutDwIdeal [hWoutDwIdeal : Cert.WoutDwIdeal.Facts] : Prop :=
  ∀ (m : (ℓ : Loc Cert.WoutDwIdeal.nD Cert.WoutDwIdeal.τ Cert.WoutDwIdeal.sig) → Buf (Elt Ideal) ℓ) (g : Dev Cert.WoutDwIdeal.nD → PrngReg), Pre_WoutDwIdeal m →
    θ_run (Cert.WoutDwIdeal.defs (F := Ideal)) (onTc (τ := Cert.WoutDwIdeal.τ) (Cert.WoutDwIdeal.main (F := Ideal))) ⟨m, fun _ => 0, g⟩ (fun r => (∀ c : Dev Cert.WoutDwIdeal.nD,
      r.2.mem ((c.tc : Thread Cert.WoutDwIdeal.nD Cert.WoutDwIdeal.τ).loc Cert.WoutDwIdeal.main_arg0) = m ((c.tc : Thread Cert.WoutDwIdeal.nD Cert.WoutDwIdeal.τ).loc Cert.WoutDwIdeal.main_arg0)
      ∧ r.2.mem ((c.tc : Thread Cert.WoutDwIdeal.nD Cert.WoutDwIdeal.τ).loc Cert.WoutDwIdeal.main_arg1) = m ((c.tc : Thread Cert.WoutDwIdeal.nD Cert.WoutDwIdeal.τ).loc Cert.WoutDwIdeal.main_arg1))
      ∧ r.2.sem = fun _ => 0)

def quiescent_WoutDwRefIdeal [hWoutDwRefIdeal : Cert.WoutDwRefIdeal.Facts] : Prop :=
  ∀ (m : (ℓ : Loc Cert.WoutDwRefIdeal.nD Cert.WoutDwRefIdeal.τ Cert.WoutDwRefIdeal.sig) → Buf (Elt Ideal) ℓ) (g : Dev Cert.WoutDwRefIdeal.nD → PrngReg), Pre_WoutDwRefIdeal m →
    θ_run (Cert.WoutDwRefIdeal.defs (F := Ideal)) (onTc (τ := Cert.WoutDwRefIdeal.τ) (Cert.WoutDwRefIdeal.main (F := Ideal))) ⟨m, fun _ => 0, g⟩ (fun r => (∀ c : Dev Cert.WoutDwRefIdeal.nD,
      r.2.mem ((c.tc : Thread Cert.WoutDwRefIdeal.nD Cert.WoutDwRefIdeal.τ).loc Cert.WoutDwRefIdeal.main_arg0) = m ((c.tc : Thread Cert.WoutDwRefIdeal.nD Cert.WoutDwRefIdeal.τ).loc Cert.WoutDwRefIdeal.main_arg0)
      ∧ r.2.mem ((c.tc : Thread Cert.WoutDwRefIdeal.nD Cert.WoutDwRefIdeal.τ).loc Cert.WoutDwRefIdeal.main_arg1) = m ((c.tc : Thread Cert.WoutDwRefIdeal.nD Cert.WoutDwRefIdeal.τ).loc Cert.WoutDwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamBAda [hAdamBAda : Cert.AdamBAda.Facts] : Prop :=
  ∀ (m : (ℓ : Loc Cert.AdamBAda.nD Cert.AdamBAda.τ Cert.AdamBAda.sig) → Buf (Elt Bits) ℓ) (g : Dev Cert.AdamBAda.nD → PrngReg), Pre_AdamBAda m →
    θ_run (Cert.AdamBAda.defs (F := Bits)) (onTc (τ := Cert.AdamBAda.τ) (Cert.AdamBAda.main (F := Bits))) ⟨m, fun _ => 0, g⟩ (fun r => (∀ c : Dev Cert.AdamBAda.nD,
      r.2.mem ((c.tc : Thread Cert.AdamBAda.nD Cert.AdamBAda.τ).loc Cert.AdamBAda.main_arg0) = m ((c.tc : Thread Cert.AdamBAda.nD Cert.AdamBAda.τ).loc Cert.AdamBAda.main_arg0)
      ∧ r.2.mem ((c.tc : Thread Cert.AdamBAda.nD Cert.AdamBAda.τ).loc Cert.AdamBAda.main_arg1) = m ((c.tc : Thread Cert.AdamBAda.nD Cert.AdamBAda.τ).loc Cert.AdamBAda.main_arg1)
      ∧ r.2.mem ((c.tc : Thread Cert.AdamBAda.nD Cert.AdamBAda.τ).loc Cert.AdamBAda.main_arg2) = m ((c.tc : Thread Cert.AdamBAda.nD Cert.AdamBAda.τ).loc Cert.AdamBAda.main_arg2)
      ∧ r.2.mem ((c.tc : Thread Cert.AdamBAda.nD Cert.AdamBAda.τ).loc Cert.AdamBAda.main_arg3) = m ((c.tc : Thread Cert.AdamBAda.nD Cert.AdamBAda.τ).loc Cert.AdamBAda.main_arg3))
      ∧ r.2.sem = fun _ => 0)

def quiescent_AdamBAdaIdeal [hAdamBAdaIdeal : Cert.AdamBAdaIdeal.Facts] : Prop :=
  ∀ (m : (ℓ : Loc Cert.AdamBAdaIdeal.nD Cert.AdamBAdaIdeal.τ Cert.AdamBAdaIdeal.sig) → Buf (Elt Ideal) ℓ) (g : Dev Cert.AdamBAdaIdeal.nD → PrngReg), Pre_AdamBAdaIdeal m →
    θ_run (Cert.AdamBAdaIdeal.defs (F := Ideal)) (onTc (τ := Cert.AdamBAdaIdeal.τ) (Cert.AdamBAdaIdeal.main (F := Ideal))) ⟨m, fun _ => 0, g⟩ (fun r => (∀ c : Dev Cert.AdamBAdaIdeal.nD,
      r.2.mem ((c.tc : Thread Cert.AdamBAdaIdeal.nD Cert.AdamBAdaIdeal.τ).loc Cert.AdamBAdaIdeal.main_arg0) = m ((c.tc : Thread Cert.AdamBAdaIdeal.nD Cert.AdamBAdaIdeal.τ).loc Cert.AdamBAdaIdeal.main_arg0)
      ∧ r.2.mem ((c.tc : Thread Cert.AdamBAdaIdeal.nD Cert.AdamBAdaIdeal.τ).loc Cert.AdamBAdaIdeal.main_arg1) = m ((c.tc : Thread Cert.AdamBAdaIdeal.nD Cert.AdamBAdaIdeal.τ).loc Cert.AdamBAdaIdeal.main_arg1)
      ∧ r.2.mem ((c.tc : Thread Cert.AdamBAdaIdeal.nD Cert.AdamBAdaIdeal.τ).loc Cert.AdamBAdaIdeal.main_arg2) = m ((c.tc : Thread Cert.AdamBAdaIdeal.nD Cert.AdamBAdaIdeal.τ).loc Cert.AdamBAdaIdeal.main_arg2)
      ∧ r.2.mem ((c.tc : Thread Cert.AdamBAdaIdeal.nD Cert.AdamBAdaIdeal.τ).loc Cert.AdamBAdaIdeal.main_arg3) = m ((c.tc : Thread Cert.AdamBAdaIdeal.nD Cert.AdamBAdaIdeal.τ).loc Cert.AdamBAdaIdeal.main_arg3))
      ∧ r.2.sem = fun _ => 0)

def quiescent_AdamBAdaRefIdeal [hAdamBAdaRefIdeal : Cert.AdamBAdaRefIdeal.Facts] : Prop :=
  ∀ (m : (ℓ : Loc Cert.AdamBAdaRefIdeal.nD Cert.AdamBAdaRefIdeal.τ Cert.AdamBAdaRefIdeal.sig) → Buf (Elt Ideal) ℓ) (g : Dev Cert.AdamBAdaRefIdeal.nD → PrngReg), Pre_AdamBAdaRefIdeal m →
    θ_run (Cert.AdamBAdaRefIdeal.defs (F := Ideal)) (onTc (τ := Cert.AdamBAdaRefIdeal.τ) (Cert.AdamBAdaRefIdeal.main (F := Ideal))) ⟨m, fun _ => 0, g⟩ (fun r => (∀ c : Dev Cert.AdamBAdaRefIdeal.nD,
      r.2.mem ((c.tc : Thread Cert.AdamBAdaRefIdeal.nD Cert.AdamBAdaRefIdeal.τ).loc Cert.AdamBAdaRefIdeal.main_arg0) = m ((c.tc : Thread Cert.AdamBAdaRefIdeal.nD Cert.AdamBAdaRefIdeal.τ).loc Cert.AdamBAdaRefIdeal.main_arg0)
      ∧ r.2.mem ((c.tc : Thread Cert.AdamBAdaRefIdeal.nD Cert.AdamBAdaRefIdeal.τ).loc Cert.AdamBAdaRefIdeal.main_arg1) = m ((c.tc : Thread Cert.AdamBAdaRefIdeal.nD Cert.AdamBAdaRefIdeal.τ).loc Cert.AdamBAdaRefIdeal.main_arg1)
      ∧ r.2.mem ((c.tc : Thread Cert.AdamBAdaRefIdeal.nD Cert.AdamBAdaRefIdeal.τ).loc Cert.AdamBAdaRefIdeal.main_arg2) = m ((c.tc : Thread Cert.AdamBAdaRefIdeal.nD Cert.AdamBAdaRefIdeal.τ).loc Cert.AdamBAdaRefIdeal.main_arg2)
      ∧ r.2.mem ((c.tc : Thread Cert.AdamBAdaRefIdeal.nD Cert.AdamBAdaRefIdeal.τ).loc Cert.AdamBAdaRefIdeal.main_arg3) = m ((c.tc : Thread Cert.AdamBAdaRefIdeal.nD Cert.AdamBAdaRefIdeal.τ).loc Cert.AdamBAdaRefIdeal.main_arg3))
      ∧ r.2.sem = fun _ => 0)

def quiescent_AdamBIn [hAdamBIn : Cert.AdamBIn.Facts] : Prop :=
  ∀ (m : (ℓ : Loc Cert.AdamBIn.nD Cert.AdamBIn.τ Cert.AdamBIn.sig) → Buf (Elt Bits) ℓ) (g : Dev Cert.AdamBIn.nD → PrngReg), Pre_AdamBIn m →
    θ_run (Cert.AdamBIn.defs (F := Bits)) (onTc (τ := Cert.AdamBIn.τ) (Cert.AdamBIn.main (F := Bits))) ⟨m, fun _ => 0, g⟩ (fun r => (∀ c : Dev Cert.AdamBIn.nD,
      r.2.mem ((c.tc : Thread Cert.AdamBIn.nD Cert.AdamBIn.τ).loc Cert.AdamBIn.main_arg0) = m ((c.tc : Thread Cert.AdamBIn.nD Cert.AdamBIn.τ).loc Cert.AdamBIn.main_arg0)
      ∧ r.2.mem ((c.tc : Thread Cert.AdamBIn.nD Cert.AdamBIn.τ).loc Cert.AdamBIn.main_arg1) = m ((c.tc : Thread Cert.AdamBIn.nD Cert.AdamBIn.τ).loc Cert.AdamBIn.main_arg1)
      ∧ r.2.mem ((c.tc : Thread Cert.AdamBIn.nD Cert.AdamBIn.τ).loc Cert.AdamBIn.main_arg2) = m ((c.tc : Thread Cert.AdamBIn.nD Cert.AdamBIn.τ).loc Cert.AdamBIn.main_arg2)
      ∧ r.2.mem ((c.tc : Thread Cert.AdamBIn.nD Cert.AdamBIn.τ).loc Cert.AdamBIn.main_arg3) = m ((c.tc : Thread Cert.AdamBIn.nD Cert.AdamBIn.τ).loc Cert.AdamBIn.main_arg3))
      ∧ r.2.sem = fun _ => 0)

def quiescent_AdamBInIdeal [hAdamBInIdeal : Cert.AdamBInIdeal.Facts] : Prop :=
  ∀ (m : (ℓ : Loc Cert.AdamBInIdeal.nD Cert.AdamBInIdeal.τ Cert.AdamBInIdeal.sig) → Buf (Elt Ideal) ℓ) (g : Dev Cert.AdamBInIdeal.nD → PrngReg), Pre_AdamBInIdeal m →
    θ_run (Cert.AdamBInIdeal.defs (F := Ideal)) (onTc (τ := Cert.AdamBInIdeal.τ) (Cert.AdamBInIdeal.main (F := Ideal))) ⟨m, fun _ => 0, g⟩ (fun r => (∀ c : Dev Cert.AdamBInIdeal.nD,
      r.2.mem ((c.tc : Thread Cert.AdamBInIdeal.nD Cert.AdamBInIdeal.τ).loc Cert.AdamBInIdeal.main_arg0) = m ((c.tc : Thread Cert.AdamBInIdeal.nD Cert.AdamBInIdeal.τ).loc Cert.AdamBInIdeal.main_arg0)
      ∧ r.2.mem ((c.tc : Thread Cert.AdamBInIdeal.nD Cert.AdamBInIdeal.τ).loc Cert.AdamBInIdeal.main_arg1) = m ((c.tc : Thread Cert.AdamBInIdeal.nD Cert.AdamBInIdeal.τ).loc Cert.AdamBInIdeal.main_arg1)
      ∧ r.2.mem ((c.tc : Thread Cert.AdamBInIdeal.nD Cert.AdamBInIdeal.τ).loc Cert.AdamBInIdeal.main_arg2) = m ((c.tc : Thread Cert.AdamBInIdeal.nD Cert.AdamBInIdeal.τ).loc Cert.AdamBInIdeal.main_arg2)
      ∧ r.2.mem ((c.tc : Thread Cert.AdamBInIdeal.nD Cert.AdamBInIdeal.τ).loc Cert.AdamBInIdeal.main_arg3) = m ((c.tc : Thread Cert.AdamBInIdeal.nD Cert.AdamBInIdeal.τ).loc Cert.AdamBInIdeal.main_arg3))
      ∧ r.2.sem = fun _ => 0)

def quiescent_AdamBInRefIdeal [hAdamBInRefIdeal : Cert.AdamBInRefIdeal.Facts] : Prop :=
  ∀ (m : (ℓ : Loc Cert.AdamBInRefIdeal.nD Cert.AdamBInRefIdeal.τ Cert.AdamBInRefIdeal.sig) → Buf (Elt Ideal) ℓ) (g : Dev Cert.AdamBInRefIdeal.nD → PrngReg), Pre_AdamBInRefIdeal m →
    θ_run (Cert.AdamBInRefIdeal.defs (F := Ideal)) (onTc (τ := Cert.AdamBInRefIdeal.τ) (Cert.AdamBInRefIdeal.main (F := Ideal))) ⟨m, fun _ => 0, g⟩ (fun r => (∀ c : Dev Cert.AdamBInRefIdeal.nD,
      r.2.mem ((c.tc : Thread Cert.AdamBInRefIdeal.nD Cert.AdamBInRefIdeal.τ).loc Cert.AdamBInRefIdeal.main_arg0) = m ((c.tc : Thread Cert.AdamBInRefIdeal.nD Cert.AdamBInRefIdeal.τ).loc Cert.AdamBInRefIdeal.main_arg0)
      ∧ r.2.mem ((c.tc : Thread Cert.AdamBInRefIdeal.nD Cert.AdamBInRefIdeal.τ).loc Cert.AdamBInRefIdeal.main_arg1) = m ((c.tc : Thread Cert.AdamBInRefIdeal.nD Cert.AdamBInRefIdeal.τ).loc Cert.AdamBInRefIdeal.main_arg1)
      ∧ r.2.mem ((c.tc : Thread Cert.AdamBInRefIdeal.nD Cert.AdamBInRefIdeal.τ).loc Cert.AdamBInRefIdeal.main_arg2) = m ((c.tc : Thread Cert.AdamBInRefIdeal.nD Cert.AdamBInRefIdeal.τ).loc Cert.AdamBInRefIdeal.main_arg2)
      ∧ r.2.mem ((c.tc : Thread Cert.AdamBInRefIdeal.nD Cert.AdamBInRefIdeal.τ).loc Cert.AdamBInRefIdeal.main_arg3) = m ((c.tc : Thread Cert.AdamBInRefIdeal.nD Cert.AdamBInRefIdeal.τ).loc Cert.AdamBInRefIdeal.main_arg3))
      ∧ r.2.sem = fun _ => 0)

def quiescent_AdamLam [hAdamLam : Cert.AdamLam.Facts] : Prop :=
  ∀ (m : (ℓ : Loc Cert.AdamLam.nD Cert.AdamLam.τ Cert.AdamLam.sig) → Buf (Elt Bits) ℓ) (g : Dev Cert.AdamLam.nD → PrngReg), Pre_AdamLam m →
    θ_run (Cert.AdamLam.defs (F := Bits)) (onTc (τ := Cert.AdamLam.τ) (Cert.AdamLam.main (F := Bits))) ⟨m, fun _ => 0, g⟩ (fun r => (∀ c : Dev Cert.AdamLam.nD,
      r.2.mem ((c.tc : Thread Cert.AdamLam.nD Cert.AdamLam.τ).loc Cert.AdamLam.main_arg0) = m ((c.tc : Thread Cert.AdamLam.nD Cert.AdamLam.τ).loc Cert.AdamLam.main_arg0)
      ∧ r.2.mem ((c.tc : Thread Cert.AdamLam.nD Cert.AdamLam.τ).loc Cert.AdamLam.main_arg1) = m ((c.tc : Thread Cert.AdamLam.nD Cert.AdamLam.τ).loc Cert.AdamLam.main_arg1)
      ∧ r.2.mem ((c.tc : Thread Cert.AdamLam.nD Cert.AdamLam.τ).loc Cert.AdamLam.main_arg2) = m ((c.tc : Thread Cert.AdamLam.nD Cert.AdamLam.τ).loc Cert.AdamLam.main_arg2)
      ∧ r.2.mem ((c.tc : Thread Cert.AdamLam.nD Cert.AdamLam.τ).loc Cert.AdamLam.main_arg3) = m ((c.tc : Thread Cert.AdamLam.nD Cert.AdamLam.τ).loc Cert.AdamLam.main_arg3))
      ∧ r.2.sem = fun _ => 0)

def quiescent_AdamLamIdeal [hAdamLamIdeal : Cert.AdamLamIdeal.Facts] : Prop :=
  ∀ (m : (ℓ : Loc Cert.AdamLamIdeal.nD Cert.AdamLamIdeal.τ Cert.AdamLamIdeal.sig) → Buf (Elt Ideal) ℓ) (g : Dev Cert.AdamLamIdeal.nD → PrngReg), Pre_AdamLamIdeal m →
    θ_run (Cert.AdamLamIdeal.defs (F := Ideal)) (onTc (τ := Cert.AdamLamIdeal.τ) (Cert.AdamLamIdeal.main (F := Ideal))) ⟨m, fun _ => 0, g⟩ (fun r => (∀ c : Dev Cert.AdamLamIdeal.nD,
      r.2.mem ((c.tc : Thread Cert.AdamLamIdeal.nD Cert.AdamLamIdeal.τ).loc Cert.AdamLamIdeal.main_arg0) = m ((c.tc : Thread Cert.AdamLamIdeal.nD Cert.AdamLamIdeal.τ).loc Cert.AdamLamIdeal.main_arg0)
      ∧ r.2.mem ((c.tc : Thread Cert.AdamLamIdeal.nD Cert.AdamLamIdeal.τ).loc Cert.AdamLamIdeal.main_arg1) = m ((c.tc : Thread Cert.AdamLamIdeal.nD Cert.AdamLamIdeal.τ).loc Cert.AdamLamIdeal.main_arg1)
      ∧ r.2.mem ((c.tc : Thread Cert.AdamLamIdeal.nD Cert.AdamLamIdeal.τ).loc Cert.AdamLamIdeal.main_arg2) = m ((c.tc : Thread Cert.AdamLamIdeal.nD Cert.AdamLamIdeal.τ).loc Cert.AdamLamIdeal.main_arg2)
      ∧ r.2.mem ((c.tc : Thread Cert.AdamLamIdeal.nD Cert.AdamLamIdeal.τ).loc Cert.AdamLamIdeal.main_arg3) = m ((c.tc : Thread Cert.AdamLamIdeal.nD Cert.AdamLamIdeal.τ).loc Cert.AdamLamIdeal.main_arg3))
      ∧ r.2.sem = fun _ => 0)

def quiescent_AdamLamRefIdeal [hAdamLamRefIdeal : Cert.AdamLamRefIdeal.Facts] : Prop :=
  ∀ (m : (ℓ : Loc Cert.AdamLamRefIdeal.nD Cert.AdamLamRefIdeal.τ Cert.AdamLamRefIdeal.sig) → Buf (Elt Ideal) ℓ) (g : Dev Cert.AdamLamRefIdeal.nD → PrngReg), Pre_AdamLamRefIdeal m →
    θ_run (Cert.AdamLamRefIdeal.defs (F := Ideal)) (onTc (τ := Cert.AdamLamRefIdeal.τ) (Cert.AdamLamRefIdeal.main (F := Ideal))) ⟨m, fun _ => 0, g⟩ (fun r => (∀ c : Dev Cert.AdamLamRefIdeal.nD,
      r.2.mem ((c.tc : Thread Cert.AdamLamRefIdeal.nD Cert.AdamLamRefIdeal.τ).loc Cert.AdamLamRefIdeal.main_arg0) = m ((c.tc : Thread Cert.AdamLamRefIdeal.nD Cert.AdamLamRefIdeal.τ).loc Cert.AdamLamRefIdeal.main_arg0)
      ∧ r.2.mem ((c.tc : Thread Cert.AdamLamRefIdeal.nD Cert.AdamLamRefIdeal.τ).loc Cert.AdamLamRefIdeal.main_arg1) = m ((c.tc : Thread Cert.AdamLamRefIdeal.nD Cert.AdamLamRefIdeal.τ).loc Cert.AdamLamRefIdeal.main_arg1)
      ∧ r.2.mem ((c.tc : Thread Cert.AdamLamRefIdeal.nD Cert.AdamLamRefIdeal.τ).loc Cert.AdamLamRefIdeal.main_arg2) = m ((c.tc : Thread Cert.AdamLamRefIdeal.nD Cert.AdamLamRefIdeal.τ).loc Cert.AdamLamRefIdeal.main_arg2)
      ∧ r.2.mem ((c.tc : Thread Cert.AdamLamRefIdeal.nD Cert.AdamLamRefIdeal.τ).loc Cert.AdamLamRefIdeal.main_arg3) = m ((c.tc : Thread Cert.AdamLamRefIdeal.nD Cert.AdamLamRefIdeal.τ).loc Cert.AdamLamRefIdeal.main_arg3))
      ∧ r.2.sem = fun _ => 0)

def quiescent_AdamLogDt [hAdamLogDt : Cert.AdamLogDt.Facts] : Prop :=
  ∀ (m : (ℓ : Loc Cert.AdamLogDt.nD Cert.AdamLogDt.τ Cert.AdamLogDt.sig) → Buf (Elt Bits) ℓ) (g : Dev Cert.AdamLogDt.nD → PrngReg), Pre_AdamLogDt m →
    θ_run (Cert.AdamLogDt.defs (F := Bits)) (onTc (τ := Cert.AdamLogDt.τ) (Cert.AdamLogDt.main (F := Bits))) ⟨m, fun _ => 0, g⟩ (fun r => (∀ c : Dev Cert.AdamLogDt.nD,
      r.2.mem ((c.tc : Thread Cert.AdamLogDt.nD Cert.AdamLogDt.τ).loc Cert.AdamLogDt.main_arg0) = m ((c.tc : Thread Cert.AdamLogDt.nD Cert.AdamLogDt.τ).loc Cert.AdamLogDt.main_arg0)
      ∧ r.2.mem ((c.tc : Thread Cert.AdamLogDt.nD Cert.AdamLogDt.τ).loc Cert.AdamLogDt.main_arg1) = m ((c.tc : Thread Cert.AdamLogDt.nD Cert.AdamLogDt.τ).loc Cert.AdamLogDt.main_arg1)
      ∧ r.2.mem ((c.tc : Thread Cert.AdamLogDt.nD Cert.AdamLogDt.τ).loc Cert.AdamLogDt.main_arg2) = m ((c.tc : Thread Cert.AdamLogDt.nD Cert.AdamLogDt.τ).loc Cert.AdamLogDt.main_arg2)
      ∧ r.2.mem ((c.tc : Thread Cert.AdamLogDt.nD Cert.AdamLogDt.τ).loc Cert.AdamLogDt.main_arg3) = m ((c.tc : Thread Cert.AdamLogDt.nD Cert.AdamLogDt.τ).loc Cert.AdamLogDt.main_arg3))
      ∧ r.2.sem = fun _ => 0)

def quiescent_AdamLogDtIdeal [hAdamLogDtIdeal : Cert.AdamLogDtIdeal.Facts] : Prop :=
  ∀ (m : (ℓ : Loc Cert.AdamLogDtIdeal.nD Cert.AdamLogDtIdeal.τ Cert.AdamLogDtIdeal.sig) → Buf (Elt Ideal) ℓ) (g : Dev Cert.AdamLogDtIdeal.nD → PrngReg), Pre_AdamLogDtIdeal m →
    θ_run (Cert.AdamLogDtIdeal.defs (F := Ideal)) (onTc (τ := Cert.AdamLogDtIdeal.τ) (Cert.AdamLogDtIdeal.main (F := Ideal))) ⟨m, fun _ => 0, g⟩ (fun r => (∀ c : Dev Cert.AdamLogDtIdeal.nD,
      r.2.mem ((c.tc : Thread Cert.AdamLogDtIdeal.nD Cert.AdamLogDtIdeal.τ).loc Cert.AdamLogDtIdeal.main_arg0) = m ((c.tc : Thread Cert.AdamLogDtIdeal.nD Cert.AdamLogDtIdeal.τ).loc Cert.AdamLogDtIdeal.main_arg0)
      ∧ r.2.mem ((c.tc : Thread Cert.AdamLogDtIdeal.nD Cert.AdamLogDtIdeal.τ).loc Cert.AdamLogDtIdeal.main_arg1) = m ((c.tc : Thread Cert.AdamLogDtIdeal.nD Cert.AdamLogDtIdeal.τ).loc Cert.AdamLogDtIdeal.main_arg1)
      ∧ r.2.mem ((c.tc : Thread Cert.AdamLogDtIdeal.nD Cert.AdamLogDtIdeal.τ).loc Cert.AdamLogDtIdeal.main_arg2) = m ((c.tc : Thread Cert.AdamLogDtIdeal.nD Cert.AdamLogDtIdeal.τ).loc Cert.AdamLogDtIdeal.main_arg2)
      ∧ r.2.mem ((c.tc : Thread Cert.AdamLogDtIdeal.nD Cert.AdamLogDtIdeal.τ).loc Cert.AdamLogDtIdeal.main_arg3) = m ((c.tc : Thread Cert.AdamLogDtIdeal.nD Cert.AdamLogDtIdeal.τ).loc Cert.AdamLogDtIdeal.main_arg3))
      ∧ r.2.sem = fun _ => 0)

def quiescent_AdamLogDtRefIdeal [hAdamLogDtRefIdeal : Cert.AdamLogDtRefIdeal.Facts] : Prop :=
  ∀ (m : (ℓ : Loc Cert.AdamLogDtRefIdeal.nD Cert.AdamLogDtRefIdeal.τ Cert.AdamLogDtRefIdeal.sig) → Buf (Elt Ideal) ℓ) (g : Dev Cert.AdamLogDtRefIdeal.nD → PrngReg), Pre_AdamLogDtRefIdeal m →
    θ_run (Cert.AdamLogDtRefIdeal.defs (F := Ideal)) (onTc (τ := Cert.AdamLogDtRefIdeal.τ) (Cert.AdamLogDtRefIdeal.main (F := Ideal))) ⟨m, fun _ => 0, g⟩ (fun r => (∀ c : Dev Cert.AdamLogDtRefIdeal.nD,
      r.2.mem ((c.tc : Thread Cert.AdamLogDtRefIdeal.nD Cert.AdamLogDtRefIdeal.τ).loc Cert.AdamLogDtRefIdeal.main_arg0) = m ((c.tc : Thread Cert.AdamLogDtRefIdeal.nD Cert.AdamLogDtRefIdeal.τ).loc Cert.AdamLogDtRefIdeal.main_arg0)
      ∧ r.2.mem ((c.tc : Thread Cert.AdamLogDtRefIdeal.nD Cert.AdamLogDtRefIdeal.τ).loc Cert.AdamLogDtRefIdeal.main_arg1) = m ((c.tc : Thread Cert.AdamLogDtRefIdeal.nD Cert.AdamLogDtRefIdeal.τ).loc Cert.AdamLogDtRefIdeal.main_arg1)
      ∧ r.2.mem ((c.tc : Thread Cert.AdamLogDtRefIdeal.nD Cert.AdamLogDtRefIdeal.τ).loc Cert.AdamLogDtRefIdeal.main_arg2) = m ((c.tc : Thread Cert.AdamLogDtRefIdeal.nD Cert.AdamLogDtRefIdeal.τ).loc Cert.AdamLogDtRefIdeal.main_arg2)
      ∧ r.2.mem ((c.tc : Thread Cert.AdamLogDtRefIdeal.nD Cert.AdamLogDtRefIdeal.τ).loc Cert.AdamLogDtRefIdeal.main_arg3) = m ((c.tc : Thread Cert.AdamLogDtRefIdeal.nD Cert.AdamLogDtRefIdeal.τ).loc Cert.AdamLogDtRefIdeal.main_arg3))
      ∧ r.2.sem = fun _ => 0)

def quiescent_AdamS5B [hAdamS5B : Cert.AdamS5B.Facts] : Prop :=
  ∀ (m : (ℓ : Loc Cert.AdamS5B.nD Cert.AdamS5B.τ Cert.AdamS5B.sig) → Buf (Elt Bits) ℓ) (g : Dev Cert.AdamS5B.nD → PrngReg), Pre_AdamS5B m →
    θ_run (Cert.AdamS5B.defs (F := Bits)) (onTc (τ := Cert.AdamS5B.τ) (Cert.AdamS5B.main (F := Bits))) ⟨m, fun _ => 0, g⟩ (fun r => (∀ c : Dev Cert.AdamS5B.nD,
      r.2.mem ((c.tc : Thread Cert.AdamS5B.nD Cert.AdamS5B.τ).loc Cert.AdamS5B.main_arg0) = m ((c.tc : Thread Cert.AdamS5B.nD Cert.AdamS5B.τ).loc Cert.AdamS5B.main_arg0)
      ∧ r.2.mem ((c.tc : Thread Cert.AdamS5B.nD Cert.AdamS5B.τ).loc Cert.AdamS5B.main_arg1) = m ((c.tc : Thread Cert.AdamS5B.nD Cert.AdamS5B.τ).loc Cert.AdamS5B.main_arg1)
      ∧ r.2.mem ((c.tc : Thread Cert.AdamS5B.nD Cert.AdamS5B.τ).loc Cert.AdamS5B.main_arg2) = m ((c.tc : Thread Cert.AdamS5B.nD Cert.AdamS5B.τ).loc Cert.AdamS5B.main_arg2)
      ∧ r.2.mem ((c.tc : Thread Cert.AdamS5B.nD Cert.AdamS5B.τ).loc Cert.AdamS5B.main_arg3) = m ((c.tc : Thread Cert.AdamS5B.nD Cert.AdamS5B.τ).loc Cert.AdamS5B.main_arg3))
      ∧ r.2.sem = fun _ => 0)

def quiescent_AdamS5BIdeal [hAdamS5BIdeal : Cert.AdamS5BIdeal.Facts] : Prop :=
  ∀ (m : (ℓ : Loc Cert.AdamS5BIdeal.nD Cert.AdamS5BIdeal.τ Cert.AdamS5BIdeal.sig) → Buf (Elt Ideal) ℓ) (g : Dev Cert.AdamS5BIdeal.nD → PrngReg), Pre_AdamS5BIdeal m →
    θ_run (Cert.AdamS5BIdeal.defs (F := Ideal)) (onTc (τ := Cert.AdamS5BIdeal.τ) (Cert.AdamS5BIdeal.main (F := Ideal))) ⟨m, fun _ => 0, g⟩ (fun r => (∀ c : Dev Cert.AdamS5BIdeal.nD,
      r.2.mem ((c.tc : Thread Cert.AdamS5BIdeal.nD Cert.AdamS5BIdeal.τ).loc Cert.AdamS5BIdeal.main_arg0) = m ((c.tc : Thread Cert.AdamS5BIdeal.nD Cert.AdamS5BIdeal.τ).loc Cert.AdamS5BIdeal.main_arg0)
      ∧ r.2.mem ((c.tc : Thread Cert.AdamS5BIdeal.nD Cert.AdamS5BIdeal.τ).loc Cert.AdamS5BIdeal.main_arg1) = m ((c.tc : Thread Cert.AdamS5BIdeal.nD Cert.AdamS5BIdeal.τ).loc Cert.AdamS5BIdeal.main_arg1)
      ∧ r.2.mem ((c.tc : Thread Cert.AdamS5BIdeal.nD Cert.AdamS5BIdeal.τ).loc Cert.AdamS5BIdeal.main_arg2) = m ((c.tc : Thread Cert.AdamS5BIdeal.nD Cert.AdamS5BIdeal.τ).loc Cert.AdamS5BIdeal.main_arg2)
      ∧ r.2.mem ((c.tc : Thread Cert.AdamS5BIdeal.nD Cert.AdamS5BIdeal.τ).loc Cert.AdamS5BIdeal.main_arg3) = m ((c.tc : Thread Cert.AdamS5BIdeal.nD Cert.AdamS5BIdeal.τ).loc Cert.AdamS5BIdeal.main_arg3))
      ∧ r.2.sem = fun _ => 0)

def quiescent_AdamS5BRefIdeal [hAdamS5BRefIdeal : Cert.AdamS5BRefIdeal.Facts] : Prop :=
  ∀ (m : (ℓ : Loc Cert.AdamS5BRefIdeal.nD Cert.AdamS5BRefIdeal.τ Cert.AdamS5BRefIdeal.sig) → Buf (Elt Ideal) ℓ) (g : Dev Cert.AdamS5BRefIdeal.nD → PrngReg), Pre_AdamS5BRefIdeal m →
    θ_run (Cert.AdamS5BRefIdeal.defs (F := Ideal)) (onTc (τ := Cert.AdamS5BRefIdeal.τ) (Cert.AdamS5BRefIdeal.main (F := Ideal))) ⟨m, fun _ => 0, g⟩ (fun r => (∀ c : Dev Cert.AdamS5BRefIdeal.nD,
      r.2.mem ((c.tc : Thread Cert.AdamS5BRefIdeal.nD Cert.AdamS5BRefIdeal.τ).loc Cert.AdamS5BRefIdeal.main_arg0) = m ((c.tc : Thread Cert.AdamS5BRefIdeal.nD Cert.AdamS5BRefIdeal.τ).loc Cert.AdamS5BRefIdeal.main_arg0)
      ∧ r.2.mem ((c.tc : Thread Cert.AdamS5BRefIdeal.nD Cert.AdamS5BRefIdeal.τ).loc Cert.AdamS5BRefIdeal.main_arg1) = m ((c.tc : Thread Cert.AdamS5BRefIdeal.nD Cert.AdamS5BRefIdeal.τ).loc Cert.AdamS5BRefIdeal.main_arg1)
      ∧ r.2.mem ((c.tc : Thread Cert.AdamS5BRefIdeal.nD Cert.AdamS5BRefIdeal.τ).loc Cert.AdamS5BRefIdeal.main_arg2) = m ((c.tc : Thread Cert.AdamS5BRefIdeal.nD Cert.AdamS5BRefIdeal.τ).loc Cert.AdamS5BRefIdeal.main_arg2)
      ∧ r.2.mem ((c.tc : Thread Cert.AdamS5BRefIdeal.nD Cert.AdamS5BRefIdeal.τ).loc Cert.AdamS5BRefIdeal.main_arg3) = m ((c.tc : Thread Cert.AdamS5BRefIdeal.nD Cert.AdamS5BRefIdeal.τ).loc Cert.AdamS5BRefIdeal.main_arg3))
      ∧ r.2.sem = fun _ => 0)

def quiescent_AdamS5C [hAdamS5C : Cert.AdamS5C.Facts] : Prop :=
  ∀ (m : (ℓ : Loc Cert.AdamS5C.nD Cert.AdamS5C.τ Cert.AdamS5C.sig) → Buf (Elt Bits) ℓ) (g : Dev Cert.AdamS5C.nD → PrngReg), Pre_AdamS5C m →
    θ_run (Cert.AdamS5C.defs (F := Bits)) (onTc (τ := Cert.AdamS5C.τ) (Cert.AdamS5C.main (F := Bits))) ⟨m, fun _ => 0, g⟩ (fun r => (∀ c : Dev Cert.AdamS5C.nD,
      r.2.mem ((c.tc : Thread Cert.AdamS5C.nD Cert.AdamS5C.τ).loc Cert.AdamS5C.main_arg0) = m ((c.tc : Thread Cert.AdamS5C.nD Cert.AdamS5C.τ).loc Cert.AdamS5C.main_arg0)
      ∧ r.2.mem ((c.tc : Thread Cert.AdamS5C.nD Cert.AdamS5C.τ).loc Cert.AdamS5C.main_arg1) = m ((c.tc : Thread Cert.AdamS5C.nD Cert.AdamS5C.τ).loc Cert.AdamS5C.main_arg1)
      ∧ r.2.mem ((c.tc : Thread Cert.AdamS5C.nD Cert.AdamS5C.τ).loc Cert.AdamS5C.main_arg2) = m ((c.tc : Thread Cert.AdamS5C.nD Cert.AdamS5C.τ).loc Cert.AdamS5C.main_arg2)
      ∧ r.2.mem ((c.tc : Thread Cert.AdamS5C.nD Cert.AdamS5C.τ).loc Cert.AdamS5C.main_arg3) = m ((c.tc : Thread Cert.AdamS5C.nD Cert.AdamS5C.τ).loc Cert.AdamS5C.main_arg3))
      ∧ r.2.sem = fun _ => 0)

def quiescent_AdamS5CIdeal [hAdamS5CIdeal : Cert.AdamS5CIdeal.Facts] : Prop :=
  ∀ (m : (ℓ : Loc Cert.AdamS5CIdeal.nD Cert.AdamS5CIdeal.τ Cert.AdamS5CIdeal.sig) → Buf (Elt Ideal) ℓ) (g : Dev Cert.AdamS5CIdeal.nD → PrngReg), Pre_AdamS5CIdeal m →
    θ_run (Cert.AdamS5CIdeal.defs (F := Ideal)) (onTc (τ := Cert.AdamS5CIdeal.τ) (Cert.AdamS5CIdeal.main (F := Ideal))) ⟨m, fun _ => 0, g⟩ (fun r => (∀ c : Dev Cert.AdamS5CIdeal.nD,
      r.2.mem ((c.tc : Thread Cert.AdamS5CIdeal.nD Cert.AdamS5CIdeal.τ).loc Cert.AdamS5CIdeal.main_arg0) = m ((c.tc : Thread Cert.AdamS5CIdeal.nD Cert.AdamS5CIdeal.τ).loc Cert.AdamS5CIdeal.main_arg0)
      ∧ r.2.mem ((c.tc : Thread Cert.AdamS5CIdeal.nD Cert.AdamS5CIdeal.τ).loc Cert.AdamS5CIdeal.main_arg1) = m ((c.tc : Thread Cert.AdamS5CIdeal.nD Cert.AdamS5CIdeal.τ).loc Cert.AdamS5CIdeal.main_arg1)
      ∧ r.2.mem ((c.tc : Thread Cert.AdamS5CIdeal.nD Cert.AdamS5CIdeal.τ).loc Cert.AdamS5CIdeal.main_arg2) = m ((c.tc : Thread Cert.AdamS5CIdeal.nD Cert.AdamS5CIdeal.τ).loc Cert.AdamS5CIdeal.main_arg2)
      ∧ r.2.mem ((c.tc : Thread Cert.AdamS5CIdeal.nD Cert.AdamS5CIdeal.τ).loc Cert.AdamS5CIdeal.main_arg3) = m ((c.tc : Thread Cert.AdamS5CIdeal.nD Cert.AdamS5CIdeal.τ).loc Cert.AdamS5CIdeal.main_arg3))
      ∧ r.2.sem = fun _ => 0)

def quiescent_AdamS5CRefIdeal [hAdamS5CRefIdeal : Cert.AdamS5CRefIdeal.Facts] : Prop :=
  ∀ (m : (ℓ : Loc Cert.AdamS5CRefIdeal.nD Cert.AdamS5CRefIdeal.τ Cert.AdamS5CRefIdeal.sig) → Buf (Elt Ideal) ℓ) (g : Dev Cert.AdamS5CRefIdeal.nD → PrngReg), Pre_AdamS5CRefIdeal m →
    θ_run (Cert.AdamS5CRefIdeal.defs (F := Ideal)) (onTc (τ := Cert.AdamS5CRefIdeal.τ) (Cert.AdamS5CRefIdeal.main (F := Ideal))) ⟨m, fun _ => 0, g⟩ (fun r => (∀ c : Dev Cert.AdamS5CRefIdeal.nD,
      r.2.mem ((c.tc : Thread Cert.AdamS5CRefIdeal.nD Cert.AdamS5CRefIdeal.τ).loc Cert.AdamS5CRefIdeal.main_arg0) = m ((c.tc : Thread Cert.AdamS5CRefIdeal.nD Cert.AdamS5CRefIdeal.τ).loc Cert.AdamS5CRefIdeal.main_arg0)
      ∧ r.2.mem ((c.tc : Thread Cert.AdamS5CRefIdeal.nD Cert.AdamS5CRefIdeal.τ).loc Cert.AdamS5CRefIdeal.main_arg1) = m ((c.tc : Thread Cert.AdamS5CRefIdeal.nD Cert.AdamS5CRefIdeal.τ).loc Cert.AdamS5CRefIdeal.main_arg1)
      ∧ r.2.mem ((c.tc : Thread Cert.AdamS5CRefIdeal.nD Cert.AdamS5CRefIdeal.τ).loc Cert.AdamS5CRefIdeal.main_arg2) = m ((c.tc : Thread Cert.AdamS5CRefIdeal.nD Cert.AdamS5CRefIdeal.τ).loc Cert.AdamS5CRefIdeal.main_arg2)
      ∧ r.2.mem ((c.tc : Thread Cert.AdamS5CRefIdeal.nD Cert.AdamS5CRefIdeal.τ).loc Cert.AdamS5CRefIdeal.main_arg3) = m ((c.tc : Thread Cert.AdamS5CRefIdeal.nD Cert.AdamS5CRefIdeal.τ).loc Cert.AdamS5CRefIdeal.main_arg3))
      ∧ r.2.sem = fun _ => 0)

def quiescent_AdamRow512 [hAdamRow512 : Cert.AdamRow512.Facts] : Prop :=
  ∀ (m : (ℓ : Loc Cert.AdamRow512.nD Cert.AdamRow512.τ Cert.AdamRow512.sig) → Buf (Elt Bits) ℓ) (g : Dev Cert.AdamRow512.nD → PrngReg), Pre_AdamRow512 m →
    θ_run (Cert.AdamRow512.defs (F := Bits)) (onTc (τ := Cert.AdamRow512.τ) (Cert.AdamRow512.main (F := Bits))) ⟨m, fun _ => 0, g⟩ (fun r => (∀ c : Dev Cert.AdamRow512.nD,
      r.2.mem ((c.tc : Thread Cert.AdamRow512.nD Cert.AdamRow512.τ).loc Cert.AdamRow512.main_arg0) = m ((c.tc : Thread Cert.AdamRow512.nD Cert.AdamRow512.τ).loc Cert.AdamRow512.main_arg0)
      ∧ r.2.mem ((c.tc : Thread Cert.AdamRow512.nD Cert.AdamRow512.τ).loc Cert.AdamRow512.main_arg1) = m ((c.tc : Thread Cert.AdamRow512.nD Cert.AdamRow512.τ).loc Cert.AdamRow512.main_arg1)
      ∧ r.2.mem ((c.tc : Thread Cert.AdamRow512.nD Cert.AdamRow512.τ).loc Cert.AdamRow512.main_arg2) = m ((c.tc : Thread Cert.AdamRow512.nD Cert.AdamRow512.τ).loc Cert.AdamRow512.main_arg2)
      ∧ r.2.mem ((c.tc : Thread Cert.AdamRow512.nD Cert.AdamRow512.τ).loc Cert.AdamRow512.main_arg3) = m ((c.tc : Thread Cert.AdamRow512.nD Cert.AdamRow512.τ).loc Cert.AdamRow512.main_arg3))
      ∧ r.2.sem = fun _ => 0)

def quiescent_AdamRow512Ideal [hAdamRow512Ideal : Cert.AdamRow512Ideal.Facts] : Prop :=
  ∀ (m : (ℓ : Loc Cert.AdamRow512Ideal.nD Cert.AdamRow512Ideal.τ Cert.AdamRow512Ideal.sig) → Buf (Elt Ideal) ℓ) (g : Dev Cert.AdamRow512Ideal.nD → PrngReg), Pre_AdamRow512Ideal m →
    θ_run (Cert.AdamRow512Ideal.defs (F := Ideal)) (onTc (τ := Cert.AdamRow512Ideal.τ) (Cert.AdamRow512Ideal.main (F := Ideal))) ⟨m, fun _ => 0, g⟩ (fun r => (∀ c : Dev Cert.AdamRow512Ideal.nD,
      r.2.mem ((c.tc : Thread Cert.AdamRow512Ideal.nD Cert.AdamRow512Ideal.τ).loc Cert.AdamRow512Ideal.main_arg0) = m ((c.tc : Thread Cert.AdamRow512Ideal.nD Cert.AdamRow512Ideal.τ).loc Cert.AdamRow512Ideal.main_arg0)
      ∧ r.2.mem ((c.tc : Thread Cert.AdamRow512Ideal.nD Cert.AdamRow512Ideal.τ).loc Cert.AdamRow512Ideal.main_arg1) = m ((c.tc : Thread Cert.AdamRow512Ideal.nD Cert.AdamRow512Ideal.τ).loc Cert.AdamRow512Ideal.main_arg1)
      ∧ r.2.mem ((c.tc : Thread Cert.AdamRow512Ideal.nD Cert.AdamRow512Ideal.τ).loc Cert.AdamRow512Ideal.main_arg2) = m ((c.tc : Thread Cert.AdamRow512Ideal.nD Cert.AdamRow512Ideal.τ).loc Cert.AdamRow512Ideal.main_arg2)
      ∧ r.2.mem ((c.tc : Thread Cert.AdamRow512Ideal.nD Cert.AdamRow512Ideal.τ).loc Cert.AdamRow512Ideal.main_arg3) = m ((c.tc : Thread Cert.AdamRow512Ideal.nD Cert.AdamRow512Ideal.τ).loc Cert.AdamRow512Ideal.main_arg3))
      ∧ r.2.sem = fun _ => 0)

def quiescent_AdamRow512RefIdeal [hAdamRow512RefIdeal : Cert.AdamRow512RefIdeal.Facts] : Prop :=
  ∀ (m : (ℓ : Loc Cert.AdamRow512RefIdeal.nD Cert.AdamRow512RefIdeal.τ Cert.AdamRow512RefIdeal.sig) → Buf (Elt Ideal) ℓ) (g : Dev Cert.AdamRow512RefIdeal.nD → PrngReg), Pre_AdamRow512RefIdeal m →
    θ_run (Cert.AdamRow512RefIdeal.defs (F := Ideal)) (onTc (τ := Cert.AdamRow512RefIdeal.τ) (Cert.AdamRow512RefIdeal.main (F := Ideal))) ⟨m, fun _ => 0, g⟩ (fun r => (∀ c : Dev Cert.AdamRow512RefIdeal.nD,
      r.2.mem ((c.tc : Thread Cert.AdamRow512RefIdeal.nD Cert.AdamRow512RefIdeal.τ).loc Cert.AdamRow512RefIdeal.main_arg0) = m ((c.tc : Thread Cert.AdamRow512RefIdeal.nD Cert.AdamRow512RefIdeal.τ).loc Cert.AdamRow512RefIdeal.main_arg0)
      ∧ r.2.mem ((c.tc : Thread Cert.AdamRow512RefIdeal.nD Cert.AdamRow512RefIdeal.τ).loc Cert.AdamRow512RefIdeal.main_arg1) = m ((c.tc : Thread Cert.AdamRow512RefIdeal.nD Cert.AdamRow512RefIdeal.τ).loc Cert.AdamRow512RefIdeal.main_arg1)
      ∧ r.2.mem ((c.tc : Thread Cert.AdamRow512RefIdeal.nD Cert.AdamRow512RefIdeal.τ).loc Cert.AdamRow512RefIdeal.main_arg2) = m ((c.tc : Thread Cert.AdamRow512RefIdeal.nD Cert.AdamRow512RefIdeal.τ).loc Cert.AdamRow512RefIdeal.main_arg2)
      ∧ r.2.mem ((c.tc : Thread Cert.AdamRow512RefIdeal.nD Cert.AdamRow512RefIdeal.τ).loc Cert.AdamRow512RefIdeal.main_arg3) = m ((c.tc : Thread Cert.AdamRow512RefIdeal.nD Cert.AdamRow512RefIdeal.τ).loc Cert.AdamRow512RefIdeal.main_arg3))
      ∧ r.2.sem = fun _ => 0)

def quiescent_AdamQNorm [hAdamQNorm : Cert.AdamQNorm.Facts] : Prop :=
  ∀ (m : (ℓ : Loc Cert.AdamQNorm.nD Cert.AdamQNorm.τ Cert.AdamQNorm.sig) → Buf (Elt Bits) ℓ) (g : Dev Cert.AdamQNorm.nD → PrngReg), Pre_AdamQNorm m →
    θ_run (Cert.AdamQNorm.defs (F := Bits)) (onTc (τ := Cert.AdamQNorm.τ) (Cert.AdamQNorm.main (F := Bits))) ⟨m, fun _ => 0, g⟩ (fun r => (∀ c : Dev Cert.AdamQNorm.nD,
      r.2.mem ((c.tc : Thread Cert.AdamQNorm.nD Cert.AdamQNorm.τ).loc Cert.AdamQNorm.main_arg0) = m ((c.tc : Thread Cert.AdamQNorm.nD Cert.AdamQNorm.τ).loc Cert.AdamQNorm.main_arg0)
      ∧ r.2.mem ((c.tc : Thread Cert.AdamQNorm.nD Cert.AdamQNorm.τ).loc Cert.AdamQNorm.main_arg1) = m ((c.tc : Thread Cert.AdamQNorm.nD Cert.AdamQNorm.τ).loc Cert.AdamQNorm.main_arg1)
      ∧ r.2.mem ((c.tc : Thread Cert.AdamQNorm.nD Cert.AdamQNorm.τ).loc Cert.AdamQNorm.main_arg2) = m ((c.tc : Thread Cert.AdamQNorm.nD Cert.AdamQNorm.τ).loc Cert.AdamQNorm.main_arg2)
      ∧ r.2.mem ((c.tc : Thread Cert.AdamQNorm.nD Cert.AdamQNorm.τ).loc Cert.AdamQNorm.main_arg3) = m ((c.tc : Thread Cert.AdamQNorm.nD Cert.AdamQNorm.τ).loc Cert.AdamQNorm.main_arg3))
      ∧ r.2.sem = fun _ => 0)

def quiescent_AdamQNormIdeal [hAdamQNormIdeal : Cert.AdamQNormIdeal.Facts] : Prop :=
  ∀ (m : (ℓ : Loc Cert.AdamQNormIdeal.nD Cert.AdamQNormIdeal.τ Cert.AdamQNormIdeal.sig) → Buf (Elt Ideal) ℓ) (g : Dev Cert.AdamQNormIdeal.nD → PrngReg), Pre_AdamQNormIdeal m →
    θ_run (Cert.AdamQNormIdeal.defs (F := Ideal)) (onTc (τ := Cert.AdamQNormIdeal.τ) (Cert.AdamQNormIdeal.main (F := Ideal))) ⟨m, fun _ => 0, g⟩ (fun r => (∀ c : Dev Cert.AdamQNormIdeal.nD,
      r.2.mem ((c.tc : Thread Cert.AdamQNormIdeal.nD Cert.AdamQNormIdeal.τ).loc Cert.AdamQNormIdeal.main_arg0) = m ((c.tc : Thread Cert.AdamQNormIdeal.nD Cert.AdamQNormIdeal.τ).loc Cert.AdamQNormIdeal.main_arg0)
      ∧ r.2.mem ((c.tc : Thread Cert.AdamQNormIdeal.nD Cert.AdamQNormIdeal.τ).loc Cert.AdamQNormIdeal.main_arg1) = m ((c.tc : Thread Cert.AdamQNormIdeal.nD Cert.AdamQNormIdeal.τ).loc Cert.AdamQNormIdeal.main_arg1)
      ∧ r.2.mem ((c.tc : Thread Cert.AdamQNormIdeal.nD Cert.AdamQNormIdeal.τ).loc Cert.AdamQNormIdeal.main_arg2) = m ((c.tc : Thread Cert.AdamQNormIdeal.nD Cert.AdamQNormIdeal.τ).loc Cert.AdamQNormIdeal.main_arg2)
      ∧ r.2.mem ((c.tc : Thread Cert.AdamQNormIdeal.nD Cert.AdamQNormIdeal.τ).loc Cert.AdamQNormIdeal.main_arg3) = m ((c.tc : Thread Cert.AdamQNormIdeal.nD Cert.AdamQNormIdeal.τ).loc Cert.AdamQNormIdeal.main_arg3))
      ∧ r.2.sem = fun _ => 0)

def quiescent_AdamQNormRefIdeal [hAdamQNormRefIdeal : Cert.AdamQNormRefIdeal.Facts] : Prop :=
  ∀ (m : (ℓ : Loc Cert.AdamQNormRefIdeal.nD Cert.AdamQNormRefIdeal.τ Cert.AdamQNormRefIdeal.sig) → Buf (Elt Ideal) ℓ) (g : Dev Cert.AdamQNormRefIdeal.nD → PrngReg), Pre_AdamQNormRefIdeal m →
    θ_run (Cert.AdamQNormRefIdeal.defs (F := Ideal)) (onTc (τ := Cert.AdamQNormRefIdeal.τ) (Cert.AdamQNormRefIdeal.main (F := Ideal))) ⟨m, fun _ => 0, g⟩ (fun r => (∀ c : Dev Cert.AdamQNormRefIdeal.nD,
      r.2.mem ((c.tc : Thread Cert.AdamQNormRefIdeal.nD Cert.AdamQNormRefIdeal.τ).loc Cert.AdamQNormRefIdeal.main_arg0) = m ((c.tc : Thread Cert.AdamQNormRefIdeal.nD Cert.AdamQNormRefIdeal.τ).loc Cert.AdamQNormRefIdeal.main_arg0)
      ∧ r.2.mem ((c.tc : Thread Cert.AdamQNormRefIdeal.nD Cert.AdamQNormRefIdeal.τ).loc Cert.AdamQNormRefIdeal.main_arg1) = m ((c.tc : Thread Cert.AdamQNormRefIdeal.nD Cert.AdamQNormRefIdeal.τ).loc Cert.AdamQNormRefIdeal.main_arg1)
      ∧ r.2.mem ((c.tc : Thread Cert.AdamQNormRefIdeal.nD Cert.AdamQNormRefIdeal.τ).loc Cert.AdamQNormRefIdeal.main_arg2) = m ((c.tc : Thread Cert.AdamQNormRefIdeal.nD Cert.AdamQNormRefIdeal.τ).loc Cert.AdamQNormRefIdeal.main_arg2)
      ∧ r.2.mem ((c.tc : Thread Cert.AdamQNormRefIdeal.nD Cert.AdamQNormRefIdeal.τ).loc Cert.AdamQNormRefIdeal.main_arg3) = m ((c.tc : Thread Cert.AdamQNormRefIdeal.nD Cert.AdamQNormRefIdeal.τ).loc Cert.AdamQNormRefIdeal.main_arg3))
      ∧ r.2.sem = fun _ => 0)

def quiescent_AdamKvNorm [hAdamKvNorm : Cert.AdamKvNorm.Facts] : Prop :=
  ∀ (m : (ℓ : Loc Cert.AdamKvNorm.nD Cert.AdamKvNorm.τ Cert.AdamKvNorm.sig) → Buf (Elt Bits) ℓ) (g : Dev Cert.AdamKvNorm.nD → PrngReg), Pre_AdamKvNorm m →
    θ_run (Cert.AdamKvNorm.defs (F := Bits)) (onTc (τ := Cert.AdamKvNorm.τ) (Cert.AdamKvNorm.main (F := Bits))) ⟨m, fun _ => 0, g⟩ (fun r => (∀ c : Dev Cert.AdamKvNorm.nD,
      r.2.mem ((c.tc : Thread Cert.AdamKvNorm.nD Cert.AdamKvNorm.τ).loc Cert.AdamKvNorm.main_arg0) = m ((c.tc : Thread Cert.AdamKvNorm.nD Cert.AdamKvNorm.τ).loc Cert.AdamKvNorm.main_arg0)
      ∧ r.2.mem ((c.tc : Thread Cert.AdamKvNorm.nD Cert.AdamKvNorm.τ).loc Cert.AdamKvNorm.main_arg1) = m ((c.tc : Thread Cert.AdamKvNorm.nD Cert.AdamKvNorm.τ).loc Cert.AdamKvNorm.main_arg1)
      ∧ r.2.mem ((c.tc : Thread Cert.AdamKvNorm.nD Cert.AdamKvNorm.τ).loc Cert.AdamKvNorm.main_arg2) = m ((c.tc : Thread Cert.AdamKvNorm.nD Cert.AdamKvNorm.τ).loc Cert.AdamKvNorm.main_arg2)
      ∧ r.2.mem ((c.tc : Thread Cert.AdamKvNorm.nD Cert.AdamKvNorm.τ).loc Cert.AdamKvNorm.main_arg3) = m ((c.tc : Thread Cert.AdamKvNorm.nD Cert.AdamKvNorm.τ).loc Cert.AdamKvNorm.main_arg3))
      ∧ r.2.sem = fun _ => 0)

def quiescent_AdamKvNormIdeal [hAdamKvNormIdeal : Cert.AdamKvNormIdeal.Facts] : Prop :=
  ∀ (m : (ℓ : Loc Cert.AdamKvNormIdeal.nD Cert.AdamKvNormIdeal.τ Cert.AdamKvNormIdeal.sig) → Buf (Elt Ideal) ℓ) (g : Dev Cert.AdamKvNormIdeal.nD → PrngReg), Pre_AdamKvNormIdeal m →
    θ_run (Cert.AdamKvNormIdeal.defs (F := Ideal)) (onTc (τ := Cert.AdamKvNormIdeal.τ) (Cert.AdamKvNormIdeal.main (F := Ideal))) ⟨m, fun _ => 0, g⟩ (fun r => (∀ c : Dev Cert.AdamKvNormIdeal.nD,
      r.2.mem ((c.tc : Thread Cert.AdamKvNormIdeal.nD Cert.AdamKvNormIdeal.τ).loc Cert.AdamKvNormIdeal.main_arg0) = m ((c.tc : Thread Cert.AdamKvNormIdeal.nD Cert.AdamKvNormIdeal.τ).loc Cert.AdamKvNormIdeal.main_arg0)
      ∧ r.2.mem ((c.tc : Thread Cert.AdamKvNormIdeal.nD Cert.AdamKvNormIdeal.τ).loc Cert.AdamKvNormIdeal.main_arg1) = m ((c.tc : Thread Cert.AdamKvNormIdeal.nD Cert.AdamKvNormIdeal.τ).loc Cert.AdamKvNormIdeal.main_arg1)
      ∧ r.2.mem ((c.tc : Thread Cert.AdamKvNormIdeal.nD Cert.AdamKvNormIdeal.τ).loc Cert.AdamKvNormIdeal.main_arg2) = m ((c.tc : Thread Cert.AdamKvNormIdeal.nD Cert.AdamKvNormIdeal.τ).loc Cert.AdamKvNormIdeal.main_arg2)
      ∧ r.2.mem ((c.tc : Thread Cert.AdamKvNormIdeal.nD Cert.AdamKvNormIdeal.τ).loc Cert.AdamKvNormIdeal.main_arg3) = m ((c.tc : Thread Cert.AdamKvNormIdeal.nD Cert.AdamKvNormIdeal.τ).loc Cert.AdamKvNormIdeal.main_arg3))
      ∧ r.2.sem = fun _ => 0)

def quiescent_AdamKvNormRefIdeal [hAdamKvNormRefIdeal : Cert.AdamKvNormRefIdeal.Facts] : Prop :=
  ∀ (m : (ℓ : Loc Cert.AdamKvNormRefIdeal.nD Cert.AdamKvNormRefIdeal.τ Cert.AdamKvNormRefIdeal.sig) → Buf (Elt Ideal) ℓ) (g : Dev Cert.AdamKvNormRefIdeal.nD → PrngReg), Pre_AdamKvNormRefIdeal m →
    θ_run (Cert.AdamKvNormRefIdeal.defs (F := Ideal)) (onTc (τ := Cert.AdamKvNormRefIdeal.τ) (Cert.AdamKvNormRefIdeal.main (F := Ideal))) ⟨m, fun _ => 0, g⟩ (fun r => (∀ c : Dev Cert.AdamKvNormRefIdeal.nD,
      r.2.mem ((c.tc : Thread Cert.AdamKvNormRefIdeal.nD Cert.AdamKvNormRefIdeal.τ).loc Cert.AdamKvNormRefIdeal.main_arg0) = m ((c.tc : Thread Cert.AdamKvNormRefIdeal.nD Cert.AdamKvNormRefIdeal.τ).loc Cert.AdamKvNormRefIdeal.main_arg0)
      ∧ r.2.mem ((c.tc : Thread Cert.AdamKvNormRefIdeal.nD Cert.AdamKvNormRefIdeal.τ).loc Cert.AdamKvNormRefIdeal.main_arg1) = m ((c.tc : Thread Cert.AdamKvNormRefIdeal.nD Cert.AdamKvNormRefIdeal.τ).loc Cert.AdamKvNormRefIdeal.main_arg1)
      ∧ r.2.mem ((c.tc : Thread Cert.AdamKvNormRefIdeal.nD Cert.AdamKvNormRefIdeal.τ).loc Cert.AdamKvNormRefIdeal.main_arg2) = m ((c.tc : Thread Cert.AdamKvNormRefIdeal.nD Cert.AdamKvNormRefIdeal.τ).loc Cert.AdamKvNormRefIdeal.main_arg2)
      ∧ r.2.mem ((c.tc : Thread Cert.AdamKvNormRefIdeal.nD Cert.AdamKvNormRefIdeal.τ).loc Cert.AdamKvNormRefIdeal.main_arg3) = m ((c.tc : Thread Cert.AdamKvNormRefIdeal.nD Cert.AdamKvNormRefIdeal.τ).loc Cert.AdamKvNormRefIdeal.main_arg3))
      ∧ r.2.sem = fun _ => 0)

def quiescent_AdamSguW [hAdamSguW : Cert.AdamSguW.Facts] : Prop :=
  ∀ (m : (ℓ : Loc Cert.AdamSguW.nD Cert.AdamSguW.τ Cert.AdamSguW.sig) → Buf (Elt Bits) ℓ) (g : Dev Cert.AdamSguW.nD → PrngReg), Pre_AdamSguW m →
    θ_run (Cert.AdamSguW.defs (F := Bits)) (onTc (τ := Cert.AdamSguW.τ) (Cert.AdamSguW.main (F := Bits))) ⟨m, fun _ => 0, g⟩ (fun r => (∀ c : Dev Cert.AdamSguW.nD,
      r.2.mem ((c.tc : Thread Cert.AdamSguW.nD Cert.AdamSguW.τ).loc Cert.AdamSguW.main_arg0) = m ((c.tc : Thread Cert.AdamSguW.nD Cert.AdamSguW.τ).loc Cert.AdamSguW.main_arg0)
      ∧ r.2.mem ((c.tc : Thread Cert.AdamSguW.nD Cert.AdamSguW.τ).loc Cert.AdamSguW.main_arg1) = m ((c.tc : Thread Cert.AdamSguW.nD Cert.AdamSguW.τ).loc Cert.AdamSguW.main_arg1)
      ∧ r.2.mem ((c.tc : Thread Cert.AdamSguW.nD Cert.AdamSguW.τ).loc Cert.AdamSguW.main_arg2) = m ((c.tc : Thread Cert.AdamSguW.nD Cert.AdamSguW.τ).loc Cert.AdamSguW.main_arg2)
      ∧ r.2.mem ((c.tc : Thread Cert.AdamSguW.nD Cert.AdamSguW.τ).loc Cert.AdamSguW.main_arg3) = m ((c.tc : Thread Cert.AdamSguW.nD Cert.AdamSguW.τ).loc Cert.AdamSguW.main_arg3))
      ∧ r.2.sem = fun _ => 0)

def quiescent_AdamSguWIdeal [hAdamSguWIdeal : Cert.AdamSguWIdeal.Facts] : Prop :=
  ∀ (m : (ℓ : Loc Cert.AdamSguWIdeal.nD Cert.AdamSguWIdeal.τ Cert.AdamSguWIdeal.sig) → Buf (Elt Ideal) ℓ) (g : Dev Cert.AdamSguWIdeal.nD → PrngReg), Pre_AdamSguWIdeal m →
    θ_run (Cert.AdamSguWIdeal.defs (F := Ideal)) (onTc (τ := Cert.AdamSguWIdeal.τ) (Cert.AdamSguWIdeal.main (F := Ideal))) ⟨m, fun _ => 0, g⟩ (fun r => (∀ c : Dev Cert.AdamSguWIdeal.nD,
      r.2.mem ((c.tc : Thread Cert.AdamSguWIdeal.nD Cert.AdamSguWIdeal.τ).loc Cert.AdamSguWIdeal.main_arg0) = m ((c.tc : Thread Cert.AdamSguWIdeal.nD Cert.AdamSguWIdeal.τ).loc Cert.AdamSguWIdeal.main_arg0)
      ∧ r.2.mem ((c.tc : Thread Cert.AdamSguWIdeal.nD Cert.AdamSguWIdeal.τ).loc Cert.AdamSguWIdeal.main_arg1) = m ((c.tc : Thread Cert.AdamSguWIdeal.nD Cert.AdamSguWIdeal.τ).loc Cert.AdamSguWIdeal.main_arg1)
      ∧ r.2.mem ((c.tc : Thread Cert.AdamSguWIdeal.nD Cert.AdamSguWIdeal.τ).loc Cert.AdamSguWIdeal.main_arg2) = m ((c.tc : Thread Cert.AdamSguWIdeal.nD Cert.AdamSguWIdeal.τ).loc Cert.AdamSguWIdeal.main_arg2)
      ∧ r.2.mem ((c.tc : Thread Cert.AdamSguWIdeal.nD Cert.AdamSguWIdeal.τ).loc Cert.AdamSguWIdeal.main_arg3) = m ((c.tc : Thread Cert.AdamSguWIdeal.nD Cert.AdamSguWIdeal.τ).loc Cert.AdamSguWIdeal.main_arg3))
      ∧ r.2.sem = fun _ => 0)

def quiescent_AdamSguWRefIdeal [hAdamSguWRefIdeal : Cert.AdamSguWRefIdeal.Facts] : Prop :=
  ∀ (m : (ℓ : Loc Cert.AdamSguWRefIdeal.nD Cert.AdamSguWRefIdeal.τ Cert.AdamSguWRefIdeal.sig) → Buf (Elt Ideal) ℓ) (g : Dev Cert.AdamSguWRefIdeal.nD → PrngReg), Pre_AdamSguWRefIdeal m →
    θ_run (Cert.AdamSguWRefIdeal.defs (F := Ideal)) (onTc (τ := Cert.AdamSguWRefIdeal.τ) (Cert.AdamSguWRefIdeal.main (F := Ideal))) ⟨m, fun _ => 0, g⟩ (fun r => (∀ c : Dev Cert.AdamSguWRefIdeal.nD,
      r.2.mem ((c.tc : Thread Cert.AdamSguWRefIdeal.nD Cert.AdamSguWRefIdeal.τ).loc Cert.AdamSguWRefIdeal.main_arg0) = m ((c.tc : Thread Cert.AdamSguWRefIdeal.nD Cert.AdamSguWRefIdeal.τ).loc Cert.AdamSguWRefIdeal.main_arg0)
      ∧ r.2.mem ((c.tc : Thread Cert.AdamSguWRefIdeal.nD Cert.AdamSguWRefIdeal.τ).loc Cert.AdamSguWRefIdeal.main_arg1) = m ((c.tc : Thread Cert.AdamSguWRefIdeal.nD Cert.AdamSguWRefIdeal.τ).loc Cert.AdamSguWRefIdeal.main_arg1)
      ∧ r.2.mem ((c.tc : Thread Cert.AdamSguWRefIdeal.nD Cert.AdamSguWRefIdeal.τ).loc Cert.AdamSguWRefIdeal.main_arg2) = m ((c.tc : Thread Cert.AdamSguWRefIdeal.nD Cert.AdamSguWRefIdeal.τ).loc Cert.AdamSguWRefIdeal.main_arg2)
      ∧ r.2.mem ((c.tc : Thread Cert.AdamSguWRefIdeal.nD Cert.AdamSguWRefIdeal.τ).loc Cert.AdamSguWRefIdeal.main_arg3) = m ((c.tc : Thread Cert.AdamSguWRefIdeal.nD Cert.AdamSguWRefIdeal.τ).loc Cert.AdamSguWRefIdeal.main_arg3))
      ∧ r.2.sem = fun _ => 0)

def quiescent_AdamSguB [hAdamSguB : Cert.AdamSguB.Facts] : Prop :=
  ∀ (m : (ℓ : Loc Cert.AdamSguB.nD Cert.AdamSguB.τ Cert.AdamSguB.sig) → Buf (Elt Bits) ℓ) (g : Dev Cert.AdamSguB.nD → PrngReg), Pre_AdamSguB m →
    θ_run (Cert.AdamSguB.defs (F := Bits)) (onTc (τ := Cert.AdamSguB.τ) (Cert.AdamSguB.main (F := Bits))) ⟨m, fun _ => 0, g⟩ (fun r => (∀ c : Dev Cert.AdamSguB.nD,
      r.2.mem ((c.tc : Thread Cert.AdamSguB.nD Cert.AdamSguB.τ).loc Cert.AdamSguB.main_arg0) = m ((c.tc : Thread Cert.AdamSguB.nD Cert.AdamSguB.τ).loc Cert.AdamSguB.main_arg0)
      ∧ r.2.mem ((c.tc : Thread Cert.AdamSguB.nD Cert.AdamSguB.τ).loc Cert.AdamSguB.main_arg1) = m ((c.tc : Thread Cert.AdamSguB.nD Cert.AdamSguB.τ).loc Cert.AdamSguB.main_arg1)
      ∧ r.2.mem ((c.tc : Thread Cert.AdamSguB.nD Cert.AdamSguB.τ).loc Cert.AdamSguB.main_arg2) = m ((c.tc : Thread Cert.AdamSguB.nD Cert.AdamSguB.τ).loc Cert.AdamSguB.main_arg2)
      ∧ r.2.mem ((c.tc : Thread Cert.AdamSguB.nD Cert.AdamSguB.τ).loc Cert.AdamSguB.main_arg3) = m ((c.tc : Thread Cert.AdamSguB.nD Cert.AdamSguB.τ).loc Cert.AdamSguB.main_arg3))
      ∧ r.2.sem = fun _ => 0)

def quiescent_AdamSguBIdeal [hAdamSguBIdeal : Cert.AdamSguBIdeal.Facts] : Prop :=
  ∀ (m : (ℓ : Loc Cert.AdamSguBIdeal.nD Cert.AdamSguBIdeal.τ Cert.AdamSguBIdeal.sig) → Buf (Elt Ideal) ℓ) (g : Dev Cert.AdamSguBIdeal.nD → PrngReg), Pre_AdamSguBIdeal m →
    θ_run (Cert.AdamSguBIdeal.defs (F := Ideal)) (onTc (τ := Cert.AdamSguBIdeal.τ) (Cert.AdamSguBIdeal.main (F := Ideal))) ⟨m, fun _ => 0, g⟩ (fun r => (∀ c : Dev Cert.AdamSguBIdeal.nD,
      r.2.mem ((c.tc : Thread Cert.AdamSguBIdeal.nD Cert.AdamSguBIdeal.τ).loc Cert.AdamSguBIdeal.main_arg0) = m ((c.tc : Thread Cert.AdamSguBIdeal.nD Cert.AdamSguBIdeal.τ).loc Cert.AdamSguBIdeal.main_arg0)
      ∧ r.2.mem ((c.tc : Thread Cert.AdamSguBIdeal.nD Cert.AdamSguBIdeal.τ).loc Cert.AdamSguBIdeal.main_arg1) = m ((c.tc : Thread Cert.AdamSguBIdeal.nD Cert.AdamSguBIdeal.τ).loc Cert.AdamSguBIdeal.main_arg1)
      ∧ r.2.mem ((c.tc : Thread Cert.AdamSguBIdeal.nD Cert.AdamSguBIdeal.τ).loc Cert.AdamSguBIdeal.main_arg2) = m ((c.tc : Thread Cert.AdamSguBIdeal.nD Cert.AdamSguBIdeal.τ).loc Cert.AdamSguBIdeal.main_arg2)
      ∧ r.2.mem ((c.tc : Thread Cert.AdamSguBIdeal.nD Cert.AdamSguBIdeal.τ).loc Cert.AdamSguBIdeal.main_arg3) = m ((c.tc : Thread Cert.AdamSguBIdeal.nD Cert.AdamSguBIdeal.τ).loc Cert.AdamSguBIdeal.main_arg3))
      ∧ r.2.sem = fun _ => 0)

def quiescent_AdamSguBRefIdeal [hAdamSguBRefIdeal : Cert.AdamSguBRefIdeal.Facts] : Prop :=
  ∀ (m : (ℓ : Loc Cert.AdamSguBRefIdeal.nD Cert.AdamSguBRefIdeal.τ Cert.AdamSguBRefIdeal.sig) → Buf (Elt Ideal) ℓ) (g : Dev Cert.AdamSguBRefIdeal.nD → PrngReg), Pre_AdamSguBRefIdeal m →
    θ_run (Cert.AdamSguBRefIdeal.defs (F := Ideal)) (onTc (τ := Cert.AdamSguBRefIdeal.τ) (Cert.AdamSguBRefIdeal.main (F := Ideal))) ⟨m, fun _ => 0, g⟩ (fun r => (∀ c : Dev Cert.AdamSguBRefIdeal.nD,
      r.2.mem ((c.tc : Thread Cert.AdamSguBRefIdeal.nD Cert.AdamSguBRefIdeal.τ).loc Cert.AdamSguBRefIdeal.main_arg0) = m ((c.tc : Thread Cert.AdamSguBRefIdeal.nD Cert.AdamSguBRefIdeal.τ).loc Cert.AdamSguBRefIdeal.main_arg0)
      ∧ r.2.mem ((c.tc : Thread Cert.AdamSguBRefIdeal.nD Cert.AdamSguBRefIdeal.τ).loc Cert.AdamSguBRefIdeal.main_arg1) = m ((c.tc : Thread Cert.AdamSguBRefIdeal.nD Cert.AdamSguBRefIdeal.τ).loc Cert.AdamSguBRefIdeal.main_arg1)
      ∧ r.2.mem ((c.tc : Thread Cert.AdamSguBRefIdeal.nD Cert.AdamSguBRefIdeal.τ).loc Cert.AdamSguBRefIdeal.main_arg2) = m ((c.tc : Thread Cert.AdamSguBRefIdeal.nD Cert.AdamSguBRefIdeal.τ).loc Cert.AdamSguBRefIdeal.main_arg2)
      ∧ r.2.mem ((c.tc : Thread Cert.AdamSguBRefIdeal.nD Cert.AdamSguBRefIdeal.τ).loc Cert.AdamSguBRefIdeal.main_arg3) = m ((c.tc : Thread Cert.AdamSguBRefIdeal.nD Cert.AdamSguBRefIdeal.τ).loc Cert.AdamSguBRefIdeal.main_arg3))
      ∧ r.2.sem = fun _ => 0)

def quiescent_AdamRow1024 [hAdamRow1024 : Cert.AdamRow1024.Facts] : Prop :=
  ∀ (m : (ℓ : Loc Cert.AdamRow1024.nD Cert.AdamRow1024.τ Cert.AdamRow1024.sig) → Buf (Elt Bits) ℓ) (g : Dev Cert.AdamRow1024.nD → PrngReg), Pre_AdamRow1024 m →
    θ_run (Cert.AdamRow1024.defs (F := Bits)) (onTc (τ := Cert.AdamRow1024.τ) (Cert.AdamRow1024.main (F := Bits))) ⟨m, fun _ => 0, g⟩ (fun r => (∀ c : Dev Cert.AdamRow1024.nD,
      r.2.mem ((c.tc : Thread Cert.AdamRow1024.nD Cert.AdamRow1024.τ).loc Cert.AdamRow1024.main_arg0) = m ((c.tc : Thread Cert.AdamRow1024.nD Cert.AdamRow1024.τ).loc Cert.AdamRow1024.main_arg0)
      ∧ r.2.mem ((c.tc : Thread Cert.AdamRow1024.nD Cert.AdamRow1024.τ).loc Cert.AdamRow1024.main_arg1) = m ((c.tc : Thread Cert.AdamRow1024.nD Cert.AdamRow1024.τ).loc Cert.AdamRow1024.main_arg1)
      ∧ r.2.mem ((c.tc : Thread Cert.AdamRow1024.nD Cert.AdamRow1024.τ).loc Cert.AdamRow1024.main_arg2) = m ((c.tc : Thread Cert.AdamRow1024.nD Cert.AdamRow1024.τ).loc Cert.AdamRow1024.main_arg2)
      ∧ r.2.mem ((c.tc : Thread Cert.AdamRow1024.nD Cert.AdamRow1024.τ).loc Cert.AdamRow1024.main_arg3) = m ((c.tc : Thread Cert.AdamRow1024.nD Cert.AdamRow1024.τ).loc Cert.AdamRow1024.main_arg3))
      ∧ r.2.sem = fun _ => 0)

def quiescent_AdamRow1024Ideal [hAdamRow1024Ideal : Cert.AdamRow1024Ideal.Facts] : Prop :=
  ∀ (m : (ℓ : Loc Cert.AdamRow1024Ideal.nD Cert.AdamRow1024Ideal.τ Cert.AdamRow1024Ideal.sig) → Buf (Elt Ideal) ℓ) (g : Dev Cert.AdamRow1024Ideal.nD → PrngReg), Pre_AdamRow1024Ideal m →
    θ_run (Cert.AdamRow1024Ideal.defs (F := Ideal)) (onTc (τ := Cert.AdamRow1024Ideal.τ) (Cert.AdamRow1024Ideal.main (F := Ideal))) ⟨m, fun _ => 0, g⟩ (fun r => (∀ c : Dev Cert.AdamRow1024Ideal.nD,
      r.2.mem ((c.tc : Thread Cert.AdamRow1024Ideal.nD Cert.AdamRow1024Ideal.τ).loc Cert.AdamRow1024Ideal.main_arg0) = m ((c.tc : Thread Cert.AdamRow1024Ideal.nD Cert.AdamRow1024Ideal.τ).loc Cert.AdamRow1024Ideal.main_arg0)
      ∧ r.2.mem ((c.tc : Thread Cert.AdamRow1024Ideal.nD Cert.AdamRow1024Ideal.τ).loc Cert.AdamRow1024Ideal.main_arg1) = m ((c.tc : Thread Cert.AdamRow1024Ideal.nD Cert.AdamRow1024Ideal.τ).loc Cert.AdamRow1024Ideal.main_arg1)
      ∧ r.2.mem ((c.tc : Thread Cert.AdamRow1024Ideal.nD Cert.AdamRow1024Ideal.τ).loc Cert.AdamRow1024Ideal.main_arg2) = m ((c.tc : Thread Cert.AdamRow1024Ideal.nD Cert.AdamRow1024Ideal.τ).loc Cert.AdamRow1024Ideal.main_arg2)
      ∧ r.2.mem ((c.tc : Thread Cert.AdamRow1024Ideal.nD Cert.AdamRow1024Ideal.τ).loc Cert.AdamRow1024Ideal.main_arg3) = m ((c.tc : Thread Cert.AdamRow1024Ideal.nD Cert.AdamRow1024Ideal.τ).loc Cert.AdamRow1024Ideal.main_arg3))
      ∧ r.2.sem = fun _ => 0)

def quiescent_AdamRow1024RefIdeal [hAdamRow1024RefIdeal : Cert.AdamRow1024RefIdeal.Facts] : Prop :=
  ∀ (m : (ℓ : Loc Cert.AdamRow1024RefIdeal.nD Cert.AdamRow1024RefIdeal.τ Cert.AdamRow1024RefIdeal.sig) → Buf (Elt Ideal) ℓ) (g : Dev Cert.AdamRow1024RefIdeal.nD → PrngReg), Pre_AdamRow1024RefIdeal m →
    θ_run (Cert.AdamRow1024RefIdeal.defs (F := Ideal)) (onTc (τ := Cert.AdamRow1024RefIdeal.τ) (Cert.AdamRow1024RefIdeal.main (F := Ideal))) ⟨m, fun _ => 0, g⟩ (fun r => (∀ c : Dev Cert.AdamRow1024RefIdeal.nD,
      r.2.mem ((c.tc : Thread Cert.AdamRow1024RefIdeal.nD Cert.AdamRow1024RefIdeal.τ).loc Cert.AdamRow1024RefIdeal.main_arg0) = m ((c.tc : Thread Cert.AdamRow1024RefIdeal.nD Cert.AdamRow1024RefIdeal.τ).loc Cert.AdamRow1024RefIdeal.main_arg0)
      ∧ r.2.mem ((c.tc : Thread Cert.AdamRow1024RefIdeal.nD Cert.AdamRow1024RefIdeal.τ).loc Cert.AdamRow1024RefIdeal.main_arg1) = m ((c.tc : Thread Cert.AdamRow1024RefIdeal.nD Cert.AdamRow1024RefIdeal.τ).loc Cert.AdamRow1024RefIdeal.main_arg1)
      ∧ r.2.mem ((c.tc : Thread Cert.AdamRow1024RefIdeal.nD Cert.AdamRow1024RefIdeal.τ).loc Cert.AdamRow1024RefIdeal.main_arg2) = m ((c.tc : Thread Cert.AdamRow1024RefIdeal.nD Cert.AdamRow1024RefIdeal.τ).loc Cert.AdamRow1024RefIdeal.main_arg2)
      ∧ r.2.mem ((c.tc : Thread Cert.AdamRow1024RefIdeal.nD Cert.AdamRow1024RefIdeal.τ).loc Cert.AdamRow1024RefIdeal.main_arg3) = m ((c.tc : Thread Cert.AdamRow1024RefIdeal.nD Cert.AdamRow1024RefIdeal.τ).loc Cert.AdamRow1024RefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3)
      ∧ r.2.mem ((c.tc : Thread Cert.AdamWIn.nD Cert.AdamWIn.τ).loc Cert.AdamWIn.main_arg4) = m ((c.tc : Thread Cert.AdamWIn.nD Cert.AdamWIn.τ).loc Cert.AdamWIn.main_arg4)
      ∧ r.2.mem ((c.tc : Thread Cert.AdamWIn.nD Cert.AdamWIn.τ).loc Cert.AdamWIn.main_arg5) = m ((c.tc : Thread Cert.AdamWIn.nD Cert.AdamWIn.τ).loc Cert.AdamWIn.main_arg5)
      ∧ r.2.mem ((c.tc : Thread Cert.AdamWIn.nD Cert.AdamWIn.τ).loc Cert.AdamWIn.main_arg6) = m ((c.tc : Thread Cert.AdamWIn.nD Cert.AdamWIn.τ).loc Cert.AdamWIn.main_arg6))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
      ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4)
      ∧ r.2.mem ((c.tc : Thread Cert.AdamWInIdeal.nD Cert.AdamWInIdeal.τ).loc Cert.AdamWInIdeal.main_arg5) = m ((c.tc : Thread Cert.AdamWInIdeal.nD Cert.AdamWInIdeal.τ).loc Cert.AdamWInIdeal.main_arg5)
      ∧ r.2.mem ((c.tc : Thread Cert.AdamWInIdeal.nD Cert.AdamWInIdeal.τ).loc Cert.AdamWInIdeal.main_arg6) = m ((c.tc : Thread Cert.AdamWInIdeal.nD Cert.AdamWInIdeal.τ).loc Cert.AdamWInIdeal.main_arg6))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3)
      ∧ r.2.mem ((c.tc : Thread Cert.AdamWInRefIdeal.nD Cert.AdamWInRefIdeal.τ).loc Cert.AdamWInRefIdeal.main_arg4) = m ((c.tc : Thread Cert.AdamWInRefIdeal.nD Cert.AdamWInRefIdeal.τ).loc Cert.AdamWInRefIdeal.main_arg4)
      ∧ r.2.mem ((c.tc : Thread Cert.AdamWInRefIdeal.nD Cert.AdamWInRefIdeal.τ).loc Cert.AdamWInRefIdeal.main_arg5) = m ((c.tc : Thread Cert.AdamWInRefIdeal.nD Cert.AdamWInRefIdeal.τ).loc Cert.AdamWInRefIdeal.main_arg5)
      ∧ r.2.mem ((c.tc : Thread Cert.AdamWInRefIdeal.nD Cert.AdamWInRefIdeal.τ).loc Cert.AdamWInRefIdeal.main_arg6) = m ((c.tc : Thread Cert.AdamWInRefIdeal.nD Cert.AdamWInRefIdeal.τ).loc Cert.AdamWInRefIdeal.main_arg6))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3)
      ∧ r.2.mem ((c.tc : Thread Cert.AdamGlu.nD Cert.AdamGlu.τ).loc Cert.AdamGlu.main_arg4) = m ((c.tc : Thread Cert.AdamGlu.nD Cert.AdamGlu.τ).loc Cert.AdamGlu.main_arg4)
      ∧ r.2.mem ((c.tc : Thread Cert.AdamGlu.nD Cert.AdamGlu.τ).loc Cert.AdamGlu.main_arg5) = m ((c.tc : Thread Cert.AdamGlu.nD Cert.AdamGlu.τ).loc Cert.AdamGlu.main_arg5)
      ∧ r.2.mem ((c.tc : Thread Cert.AdamGlu.nD Cert.AdamGlu.τ).loc Cert.AdamGlu.main_arg6) = m ((c.tc : Thread Cert.AdamGlu.nD Cert.AdamGlu.τ).loc Cert.AdamGlu.main_arg6))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
      ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4)
      ∧ r.2.mem ((c.tc : Thread Cert.AdamGluIdeal.nD Cert.AdamGluIdeal.τ).loc Cert.AdamGluIdeal.main_arg5) = m ((c.tc : Thread Cert.AdamGluIdeal.nD Cert.AdamGluIdeal.τ).loc Cert.AdamGluIdeal.main_arg5)
      ∧ r.2.mem ((c.tc : Thread Cert.AdamGluIdeal.nD Cert.AdamGluIdeal.τ).loc Cert.AdamGluIdeal.main_arg6) = m ((c.tc : Thread Cert.AdamGluIdeal.nD Cert.AdamGluIdeal.τ).loc Cert.AdamGluIdeal.main_arg6))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3)
      ∧ r.2.mem ((c.tc : Thread Cert.AdamGluRefIdeal.nD Cert.AdamGluRefIdeal.τ).loc Cert.AdamGluRefIdeal.main_arg4) = m ((c.tc : Thread Cert.AdamGluRefIdeal.nD Cert.AdamGluRefIdeal.τ).loc Cert.AdamGluRefIdeal.main_arg4)
      ∧ r.2.mem ((c.tc : Thread Cert.AdamGluRefIdeal.nD Cert.AdamGluRefIdeal.τ).loc Cert.AdamGluRefIdeal.main_arg5) = m ((c.tc : Thread Cert.AdamGluRefIdeal.nD Cert.AdamGluRefIdeal.τ).loc Cert.AdamGluRefIdeal.main_arg5)
      ∧ r.2.mem ((c.tc : Thread Cert.AdamGluRefIdeal.nD Cert.AdamGluRefIdeal.τ).loc Cert.AdamGluRefIdeal.main_arg6) = m ((c.tc : Thread Cert.AdamGluRefIdeal.nD Cert.AdamGluRefIdeal.τ).loc Cert.AdamGluRefIdeal.main_arg6))
      ∧ r.2.sem = fun _ => 0)

def quiescent_AdamQUp [hAdamQUp : Cert.AdamQUp.Facts] : Prop :=
  ∀ (m : (ℓ : Loc Cert.AdamQUp.nD Cert.AdamQUp.τ Cert.AdamQUp.sig) → Buf (Elt Bits) ℓ) (g : Dev Cert.AdamQUp.nD → PrngReg), Pre_AdamQUp m →
    θ_run (Cert.AdamQUp.defs (F := Bits)) (onTc (τ := Cert.AdamQUp.τ) (Cert.AdamQUp.main (F := Bits))) ⟨m, fun _ => 0, g⟩ (fun r => (∀ c : Dev Cert.AdamQUp.nD,
      r.2.mem ((c.tc : Thread Cert.AdamQUp.nD Cert.AdamQUp.τ).loc Cert.AdamQUp.main_arg0) = m ((c.tc : Thread Cert.AdamQUp.nD Cert.AdamQUp.τ).loc Cert.AdamQUp.main_arg0)
      ∧ r.2.mem ((c.tc : Thread Cert.AdamQUp.nD Cert.AdamQUp.τ).loc Cert.AdamQUp.main_arg1) = m ((c.tc : Thread Cert.AdamQUp.nD Cert.AdamQUp.τ).loc Cert.AdamQUp.main_arg1)
      ∧ r.2.mem ((c.tc : Thread Cert.AdamQUp.nD Cert.AdamQUp.τ).loc Cert.AdamQUp.main_arg2) = m ((c.tc : Thread Cert.AdamQUp.nD Cert.AdamQUp.τ).loc Cert.AdamQUp.main_arg2)
      ∧ r.2.mem ((c.tc : Thread Cert.AdamQUp.nD Cert.AdamQUp.τ).loc Cert.AdamQUp.main_arg3) = m ((c.tc : Thread Cert.AdamQUp.nD Cert.AdamQUp.τ).loc Cert.AdamQUp.main_arg3)
      ∧ r.2.mem ((c.tc : Thread Cert.AdamQUp.nD Cert.AdamQUp.τ).loc Cert.AdamQUp.main_arg4) = m ((c.tc : Thread Cert.AdamQUp.nD Cert.AdamQUp.τ).loc Cert.AdamQUp.main_arg4)
      ∧ r.2.mem ((c.tc : Thread Cert.AdamQUp.nD Cert.AdamQUp.τ).loc Cert.AdamQUp.main_arg5) = m ((c.tc : Thread Cert.AdamQUp.nD Cert.AdamQUp.τ).loc Cert.AdamQUp.main_arg5)
      ∧ r.2.mem ((c.tc : Thread Cert.AdamQUp.nD Cert.AdamQUp.τ).loc Cert.AdamQUp.main_arg6) = m ((c.tc : Thread Cert.AdamQUp.nD Cert.AdamQUp.τ).loc Cert.AdamQUp.main_arg6))
      ∧ r.2.sem = fun _ => 0)

def quiescent_AdamQUpIdeal [hAdamQUpIdeal : Cert.AdamQUpIdeal.Facts] : Prop :=
  ∀ (m : (ℓ : Loc Cert.AdamQUpIdeal.nD Cert.AdamQUpIdeal.τ Cert.AdamQUpIdeal.sig) → Buf (Elt Ideal) ℓ) (g : Dev Cert.AdamQUpIdeal.nD → PrngReg), Pre_AdamQUpIdeal m →
    θ_run (Cert.AdamQUpIdeal.defs (F := Ideal)) (onTc (τ := Cert.AdamQUpIdeal.τ) (Cert.AdamQUpIdeal.main (F := Ideal))) ⟨m, fun _ => 0, g⟩ (fun r => (∀ c : Dev Cert.AdamQUpIdeal.nD,
      r.2.mem ((c.tc : Thread Cert.AdamQUpIdeal.nD Cert.AdamQUpIdeal.τ).loc Cert.AdamQUpIdeal.main_arg0) = m ((c.tc : Thread Cert.AdamQUpIdeal.nD Cert.AdamQUpIdeal.τ).loc Cert.AdamQUpIdeal.main_arg0)
      ∧ r.2.mem ((c.tc : Thread Cert.AdamQUpIdeal.nD Cert.AdamQUpIdeal.τ).loc Cert.AdamQUpIdeal.main_arg1) = m ((c.tc : Thread Cert.AdamQUpIdeal.nD Cert.AdamQUpIdeal.τ).loc Cert.AdamQUpIdeal.main_arg1)
      ∧ r.2.mem ((c.tc : Thread Cert.AdamQUpIdeal.nD Cert.AdamQUpIdeal.τ).loc Cert.AdamQUpIdeal.main_arg2) = m ((c.tc : Thread Cert.AdamQUpIdeal.nD Cert.AdamQUpIdeal.τ).loc Cert.AdamQUpIdeal.main_arg2)
      ∧ r.2.mem ((c.tc : Thread Cert.AdamQUpIdeal.nD Cert.AdamQUpIdeal.τ).loc Cert.AdamQUpIdeal.main_arg3) = m ((c.tc : Thread Cert.AdamQUpIdeal.nD Cert.AdamQUpIdeal.τ).loc Cert.AdamQUpIdeal.main_arg3)
      ∧ r.2.mem ((c.tc : Thread Cert.AdamQUpIdeal.nD Cert.AdamQUpIdeal.τ).loc Cert.AdamQUpIdeal.main_arg4) = m ((c.tc : Thread Cert.AdamQUpIdeal.nD Cert.AdamQUpIdeal.τ).loc Cert.AdamQUpIdeal.main_arg4)
      ∧ r.2.mem ((c.tc : Thread Cert.AdamQUpIdeal.nD Cert.AdamQUpIdeal.τ).loc Cert.AdamQUpIdeal.main_arg5) = m ((c.tc : Thread Cert.AdamQUpIdeal.nD Cert.AdamQUpIdeal.τ).loc Cert.AdamQUpIdeal.main_arg5)
      ∧ r.2.mem ((c.tc : Thread Cert.AdamQUpIdeal.nD Cert.AdamQUpIdeal.τ).loc Cert.AdamQUpIdeal.main_arg6) = m ((c.tc : Thread Cert.AdamQUpIdeal.nD Cert.AdamQUpIdeal.τ).loc Cert.AdamQUpIdeal.main_arg6))
      ∧ r.2.sem = fun _ => 0)

def quiescent_AdamQUpRefIdeal [hAdamQUpRefIdeal : Cert.AdamQUpRefIdeal.Facts] : Prop :=
  ∀ (m : (ℓ : Loc Cert.AdamQUpRefIdeal.nD Cert.AdamQUpRefIdeal.τ Cert.AdamQUpRefIdeal.sig) → Buf (Elt Ideal) ℓ) (g : Dev Cert.AdamQUpRefIdeal.nD → PrngReg), Pre_AdamQUpRefIdeal m →
    θ_run (Cert.AdamQUpRefIdeal.defs (F := Ideal)) (onTc (τ := Cert.AdamQUpRefIdeal.τ) (Cert.AdamQUpRefIdeal.main (F := Ideal))) ⟨m, fun _ => 0, g⟩ (fun r => (∀ c : Dev Cert.AdamQUpRefIdeal.nD,
      r.2.mem ((c.tc : Thread Cert.AdamQUpRefIdeal.nD Cert.AdamQUpRefIdeal.τ).loc Cert.AdamQUpRefIdeal.main_arg0) = m ((c.tc : Thread Cert.AdamQUpRefIdeal.nD Cert.AdamQUpRefIdeal.τ).loc Cert.AdamQUpRefIdeal.main_arg0)
      ∧ r.2.mem ((c.tc : Thread Cert.AdamQUpRefIdeal.nD Cert.AdamQUpRefIdeal.τ).loc Cert.AdamQUpRefIdeal.main_arg1) = m ((c.tc : Thread Cert.AdamQUpRefIdeal.nD Cert.AdamQUpRefIdeal.τ).loc Cert.AdamQUpRefIdeal.main_arg1)
      ∧ r.2.mem ((c.tc : Thread Cert.AdamQUpRefIdeal.nD Cert.AdamQUpRefIdeal.τ).loc Cert.AdamQUpRefIdeal.main_arg2) = m ((c.tc : Thread Cert.AdamQUpRefIdeal.nD Cert.AdamQUpRefIdeal.τ).loc Cert.AdamQUpRefIdeal.main_arg2)
      ∧ r.2.mem ((c.tc : Thread Cert.AdamQUpRefIdeal.nD Cert.AdamQUpRefIdeal.τ).loc Cert.AdamQUpRefIdeal.main_arg3) = m ((c.tc : Thread Cert.AdamQUpRefIdeal.nD Cert.AdamQUpRefIdeal.τ).loc Cert.AdamQUpRefIdeal.main_arg3)
      ∧ r.2.mem ((c.tc : Thread Cert.AdamQUpRefIdeal.nD Cert.AdamQUpRefIdeal.τ).loc Cert.AdamQUpRefIdeal.main_arg4) = m ((c.tc : Thread Cert.AdamQUpRefIdeal.nD Cert.AdamQUpRefIdeal.τ).loc Cert.AdamQUpRefIdeal.main_arg4)
      ∧ r.2.mem ((c.tc : Thread Cert.AdamQUpRefIdeal.nD Cert.AdamQUpRefIdeal.τ).loc Cert.AdamQUpRefIdeal.main_arg5) = m ((c.tc : Thread Cert.AdamQUpRefIdeal.nD Cert.AdamQUpRefIdeal.τ).loc Cert.AdamQUpRefIdeal.main_arg5)
      ∧ r.2.mem ((c.tc : Thread Cert.AdamQUpRefIdeal.nD Cert.AdamQUpRefIdeal.τ).loc Cert.AdamQUpRefIdeal.main_arg6) = m ((c.tc : Thread Cert.AdamQUpRefIdeal.nD Cert.AdamQUpRefIdeal.τ).loc Cert.AdamQUpRefIdeal.main_arg6))
      ∧ r.2.sem = fun _ => 0)

def quiescent_AdamKvUp [hAdamKvUp : Cert.AdamKvUp.Facts] : Prop :=
  ∀ (m : (ℓ : Loc Cert.AdamKvUp.nD Cert.AdamKvUp.τ Cert.AdamKvUp.sig) → Buf (Elt Bits) ℓ) (g : Dev Cert.AdamKvUp.nD → PrngReg), Pre_AdamKvUp m →
    θ_run (Cert.AdamKvUp.defs (F := Bits)) (onTc (τ := Cert.AdamKvUp.τ) (Cert.AdamKvUp.main (F := Bits))) ⟨m, fun _ => 0, g⟩ (fun r => (∀ c : Dev Cert.AdamKvUp.nD,
      r.2.mem ((c.tc : Thread Cert.AdamKvUp.nD Cert.AdamKvUp.τ).loc Cert.AdamKvUp.main_arg0) = m ((c.tc : Thread Cert.AdamKvUp.nD Cert.AdamKvUp.τ).loc Cert.AdamKvUp.main_arg0)
      ∧ r.2.mem ((c.tc : Thread Cert.AdamKvUp.nD Cert.AdamKvUp.τ).loc Cert.AdamKvUp.main_arg1) = m ((c.tc : Thread Cert.AdamKvUp.nD Cert.AdamKvUp.τ).loc Cert.AdamKvUp.main_arg1)
      ∧ r.2.mem ((c.tc : Thread Cert.AdamKvUp.nD Cert.AdamKvUp.τ).loc Cert.AdamKvUp.main_arg2) = m ((c.tc : Thread Cert.AdamKvUp.nD Cert.AdamKvUp.τ).loc Cert.AdamKvUp.main_arg2)
      ∧ r.2.mem ((c.tc : Thread Cert.AdamKvUp.nD Cert.AdamKvUp.τ).loc Cert.AdamKvUp.main_arg3) = m ((c.tc : Thread Cert.AdamKvUp.nD Cert.AdamKvUp.τ).loc Cert.AdamKvUp.main_arg3)
      ∧ r.2.mem ((c.tc : Thread Cert.AdamKvUp.nD Cert.AdamKvUp.τ).loc Cert.AdamKvUp.main_arg4) = m ((c.tc : Thread Cert.AdamKvUp.nD Cert.AdamKvUp.τ).loc Cert.AdamKvUp.main_arg4)
      ∧ r.2.mem ((c.tc : Thread Cert.AdamKvUp.nD Cert.AdamKvUp.τ).loc Cert.AdamKvUp.main_arg5) = m ((c.tc : Thread Cert.AdamKvUp.nD Cert.AdamKvUp.τ).loc Cert.AdamKvUp.main_arg5)
      ∧ r.2.mem ((c.tc : Thread Cert.AdamKvUp.nD Cert.AdamKvUp.τ).loc Cert.AdamKvUp.main_arg6) = m ((c.tc : Thread Cert.AdamKvUp.nD Cert.AdamKvUp.τ).loc Cert.AdamKvUp.main_arg6))
      ∧ r.2.sem = fun _ => 0)

def quiescent_AdamKvUpIdeal [hAdamKvUpIdeal : Cert.AdamKvUpIdeal.Facts] : Prop :=
  ∀ (m : (ℓ : Loc Cert.AdamKvUpIdeal.nD Cert.AdamKvUpIdeal.τ Cert.AdamKvUpIdeal.sig) → Buf (Elt Ideal) ℓ) (g : Dev Cert.AdamKvUpIdeal.nD → PrngReg), Pre_AdamKvUpIdeal m →
    θ_run (Cert.AdamKvUpIdeal.defs (F := Ideal)) (onTc (τ := Cert.AdamKvUpIdeal.τ) (Cert.AdamKvUpIdeal.main (F := Ideal))) ⟨m, fun _ => 0, g⟩ (fun r => (∀ c : Dev Cert.AdamKvUpIdeal.nD,
      r.2.mem ((c.tc : Thread Cert.AdamKvUpIdeal.nD Cert.AdamKvUpIdeal.τ).loc Cert.AdamKvUpIdeal.main_arg0) = m ((c.tc : Thread Cert.AdamKvUpIdeal.nD Cert.AdamKvUpIdeal.τ).loc Cert.AdamKvUpIdeal.main_arg0)
      ∧ r.2.mem ((c.tc : Thread Cert.AdamKvUpIdeal.nD Cert.AdamKvUpIdeal.τ).loc Cert.AdamKvUpIdeal.main_arg1) = m ((c.tc : Thread Cert.AdamKvUpIdeal.nD Cert.AdamKvUpIdeal.τ).loc Cert.AdamKvUpIdeal.main_arg1)
      ∧ r.2.mem ((c.tc : Thread Cert.AdamKvUpIdeal.nD Cert.AdamKvUpIdeal.τ).loc Cert.AdamKvUpIdeal.main_arg2) = m ((c.tc : Thread Cert.AdamKvUpIdeal.nD Cert.AdamKvUpIdeal.τ).loc Cert.AdamKvUpIdeal.main_arg2)
      ∧ r.2.mem ((c.tc : Thread Cert.AdamKvUpIdeal.nD Cert.AdamKvUpIdeal.τ).loc Cert.AdamKvUpIdeal.main_arg3) = m ((c.tc : Thread Cert.AdamKvUpIdeal.nD Cert.AdamKvUpIdeal.τ).loc Cert.AdamKvUpIdeal.main_arg3)
      ∧ r.2.mem ((c.tc : Thread Cert.AdamKvUpIdeal.nD Cert.AdamKvUpIdeal.τ).loc Cert.AdamKvUpIdeal.main_arg4) = m ((c.tc : Thread Cert.AdamKvUpIdeal.nD Cert.AdamKvUpIdeal.τ).loc Cert.AdamKvUpIdeal.main_arg4)
      ∧ r.2.mem ((c.tc : Thread Cert.AdamKvUpIdeal.nD Cert.AdamKvUpIdeal.τ).loc Cert.AdamKvUpIdeal.main_arg5) = m ((c.tc : Thread Cert.AdamKvUpIdeal.nD Cert.AdamKvUpIdeal.τ).loc Cert.AdamKvUpIdeal.main_arg5)
      ∧ r.2.mem ((c.tc : Thread Cert.AdamKvUpIdeal.nD Cert.AdamKvUpIdeal.τ).loc Cert.AdamKvUpIdeal.main_arg6) = m ((c.tc : Thread Cert.AdamKvUpIdeal.nD Cert.AdamKvUpIdeal.τ).loc Cert.AdamKvUpIdeal.main_arg6))
      ∧ r.2.sem = fun _ => 0)

def quiescent_AdamKvUpRefIdeal [hAdamKvUpRefIdeal : Cert.AdamKvUpRefIdeal.Facts] : Prop :=
  ∀ (m : (ℓ : Loc Cert.AdamKvUpRefIdeal.nD Cert.AdamKvUpRefIdeal.τ Cert.AdamKvUpRefIdeal.sig) → Buf (Elt Ideal) ℓ) (g : Dev Cert.AdamKvUpRefIdeal.nD → PrngReg), Pre_AdamKvUpRefIdeal m →
    θ_run (Cert.AdamKvUpRefIdeal.defs (F := Ideal)) (onTc (τ := Cert.AdamKvUpRefIdeal.τ) (Cert.AdamKvUpRefIdeal.main (F := Ideal))) ⟨m, fun _ => 0, g⟩ (fun r => (∀ c : Dev Cert.AdamKvUpRefIdeal.nD,
      r.2.mem ((c.tc : Thread Cert.AdamKvUpRefIdeal.nD Cert.AdamKvUpRefIdeal.τ).loc Cert.AdamKvUpRefIdeal.main_arg0) = m ((c.tc : Thread Cert.AdamKvUpRefIdeal.nD Cert.AdamKvUpRefIdeal.τ).loc Cert.AdamKvUpRefIdeal.main_arg0)
      ∧ r.2.mem ((c.tc : Thread Cert.AdamKvUpRefIdeal.nD Cert.AdamKvUpRefIdeal.τ).loc Cert.AdamKvUpRefIdeal.main_arg1) = m ((c.tc : Thread Cert.AdamKvUpRefIdeal.nD Cert.AdamKvUpRefIdeal.τ).loc Cert.AdamKvUpRefIdeal.main_arg1)
      ∧ r.2.mem ((c.tc : Thread Cert.AdamKvUpRefIdeal.nD Cert.AdamKvUpRefIdeal.τ).loc Cert.AdamKvUpRefIdeal.main_arg2) = m ((c.tc : Thread Cert.AdamKvUpRefIdeal.nD Cert.AdamKvUpRefIdeal.τ).loc Cert.AdamKvUpRefIdeal.main_arg2)
      ∧ r.2.mem ((c.tc : Thread Cert.AdamKvUpRefIdeal.nD Cert.AdamKvUpRefIdeal.τ).loc Cert.AdamKvUpRefIdeal.main_arg3) = m ((c.tc : Thread Cert.AdamKvUpRefIdeal.nD Cert.AdamKvUpRefIdeal.τ).loc Cert.AdamKvUpRefIdeal.main_arg3)
      ∧ r.2.mem ((c.tc : Thread Cert.AdamKvUpRefIdeal.nD Cert.AdamKvUpRefIdeal.τ).loc Cert.AdamKvUpRefIdeal.main_arg4) = m ((c.tc : Thread Cert.AdamKvUpRefIdeal.nD Cert.AdamKvUpRefIdeal.τ).loc Cert.AdamKvUpRefIdeal.main_arg4)
      ∧ r.2.mem ((c.tc : Thread Cert.AdamKvUpRefIdeal.nD Cert.AdamKvUpRefIdeal.τ).loc Cert.AdamKvUpRefIdeal.main_arg5) = m ((c.tc : Thread Cert.AdamKvUpRefIdeal.nD Cert.AdamKvUpRefIdeal.τ).loc Cert.AdamKvUpRefIdeal.main_arg5)
      ∧ r.2.mem ((c.tc : Thread Cert.AdamKvUpRefIdeal.nD Cert.AdamKvUpRefIdeal.τ).loc Cert.AdamKvUpRefIdeal.main_arg6) = m ((c.tc : Thread Cert.AdamKvUpRefIdeal.nD Cert.AdamKvUpRefIdeal.τ).loc Cert.AdamKvUpRefIdeal.main_arg6))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3)
      ∧ r.2.mem ((c.tc : Thread Cert.AdamBranch.nD Cert.AdamBranch.τ).loc Cert.AdamBranch.main_arg4) = m ((c.tc : Thread Cert.AdamBranch.nD Cert.AdamBranch.τ).loc Cert.AdamBranch.main_arg4)
      ∧ r.2.mem ((c.tc : Thread Cert.AdamBranch.nD Cert.AdamBranch.τ).loc Cert.AdamBranch.main_arg5) = m ((c.tc : Thread Cert.AdamBranch.nD Cert.AdamBranch.τ).loc Cert.AdamBranch.main_arg5)
      ∧ r.2.mem ((c.tc : Thread Cert.AdamBranch.nD Cert.AdamBranch.τ).loc Cert.AdamBranch.main_arg6) = m ((c.tc : Thread Cert.AdamBranch.nD Cert.AdamBranch.τ).loc Cert.AdamBranch.main_arg6))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
      ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
      ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5)
      ∧ r.2.mem ((c.tc : Thread Cert.AdamBranchIdeal.nD Cert.AdamBranchIdeal.τ).loc Cert.AdamBranchIdeal.main_arg6) = m ((c.tc : Thread Cert.AdamBranchIdeal.nD Cert.AdamBranchIdeal.τ).loc Cert.AdamBranchIdeal.main_arg6))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3)
      ∧ r.2.mem ((c.tc : Thread Cert.AdamBranchRefIdeal.nD Cert.AdamBranchRefIdeal.τ).loc Cert.AdamBranchRefIdeal.main_arg4) = m ((c.tc : Thread Cert.AdamBranchRefIdeal.nD Cert.AdamBranchRefIdeal.τ).loc Cert.AdamBranchRefIdeal.main_arg4)
      ∧ r.2.mem ((c.tc : Thread Cert.AdamBranchRefIdeal.nD Cert.AdamBranchRefIdeal.τ).loc Cert.AdamBranchRefIdeal.main_arg5) = m ((c.tc : Thread Cert.AdamBranchRefIdeal.nD Cert.AdamBranchRefIdeal.τ).loc Cert.AdamBranchRefIdeal.main_arg5)
      ∧ r.2.mem ((c.tc : Thread Cert.AdamBranchRefIdeal.nD Cert.AdamBranchRefIdeal.τ).loc Cert.AdamBranchRefIdeal.main_arg6) = m ((c.tc : Thread Cert.AdamBranchRefIdeal.nD Cert.AdamBranchRefIdeal.τ).loc Cert.AdamBranchRefIdeal.main_arg6))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3)
      ∧ r.2.mem ((c.tc : Thread Cert.AdamWOut.nD Cert.AdamWOut.τ).loc Cert.AdamWOut.main_arg4) = m ((c.tc : Thread Cert.AdamWOut.nD Cert.AdamWOut.τ).loc Cert.AdamWOut.main_arg4)
      ∧ r.2.mem ((c.tc : Thread Cert.AdamWOut.nD Cert.AdamWOut.τ).loc Cert.AdamWOut.main_arg5) = m ((c.tc : Thread Cert.AdamWOut.nD Cert.AdamWOut.τ).loc Cert.AdamWOut.main_arg5)
      ∧ r.2.mem ((c.tc : Thread Cert.AdamWOut.nD Cert.AdamWOut.τ).loc Cert.AdamWOut.main_arg6) = m ((c.tc : Thread Cert.AdamWOut.nD Cert.AdamWOut.τ).loc Cert.AdamWOut.main_arg6))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
      ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4)
      ∧ r.2.mem ((c.tc : Thread Cert.AdamWOutIdeal.nD Cert.AdamWOutIdeal.τ).loc Cert.AdamWOutIdeal.main_arg5) = m ((c.tc : Thread Cert.AdamWOutIdeal.nD Cert.AdamWOutIdeal.τ).loc Cert.AdamWOutIdeal.main_arg5)
      ∧ r.2.mem ((c.tc : Thread Cert.AdamWOutIdeal.nD Cert.AdamWOutIdeal.τ).loc Cert.AdamWOutIdeal.main_arg6) = m ((c.tc : Thread Cert.AdamWOutIdeal.nD Cert.AdamWOutIdeal.τ).loc Cert.AdamWOutIdeal.main_arg6))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3)
      ∧ r.2.mem ((c.tc : Thread Cert.AdamWOutRefIdeal.nD Cert.AdamWOutRefIdeal.τ).loc Cert.AdamWOutRefIdeal.main_arg4) = m ((c.tc : Thread Cert.AdamWOutRefIdeal.nD Cert.AdamWOutRefIdeal.τ).loc Cert.AdamWOutRefIdeal.main_arg4)
      ∧ r.2.mem ((c.tc : Thread Cert.AdamWOutRefIdeal.nD Cert.AdamWOutRefIdeal.τ).loc Cert.AdamWOutRefIdeal.main_arg5) = m ((c.tc : Thread Cert.AdamWOutRefIdeal.nD Cert.AdamWOutRefIdeal.τ).loc Cert.AdamWOutRefIdeal.main_arg5)
      ∧ r.2.mem ((c.tc : Thread Cert.AdamWOutRefIdeal.nD Cert.AdamWOutRefIdeal.τ).loc Cert.AdamWOutRefIdeal.main_arg6) = m ((c.tc : Thread Cert.AdamWOutRefIdeal.nD Cert.AdamWOutRefIdeal.τ).loc Cert.AdamWOutRefIdeal.main_arg6))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4)
      ∧ r.2.mem ((c.tc : Thread Cert.AdamFfnIn.nD Cert.AdamFfnIn.τ).loc Cert.AdamFfnIn.main_arg5) = m ((c.tc : Thread Cert.AdamFfnIn.nD Cert.AdamFfnIn.τ).loc Cert.AdamFfnIn.main_arg5)
      ∧ r.2.mem ((c.tc : Thread Cert.AdamFfnIn.nD Cert.AdamFfnIn.τ).loc Cert.AdamFfnIn.main_arg6) = m ((c.tc : Thread Cert.AdamFfnIn.nD Cert.AdamFfnIn.τ).loc Cert.AdamFfnIn.main_arg6))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
      ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5)
      ∧ r.2.mem ((c.tc : Thread Cert.AdamFfnInIdeal.nD Cert.AdamFfnInIdeal.τ).loc Cert.AdamFfnInIdeal.main_arg6) = m ((c.tc : Thread Cert.AdamFfnInIdeal.nD Cert.AdamFfnInIdeal.τ).loc Cert.AdamFfnInIdeal.main_arg6))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3)
      ∧ r.2.mem ((c.tc : Thread Cert.AdamFfnInRefIdeal.nD Cert.AdamFfnInRefIdeal.τ).loc Cert.AdamFfnInRefIdeal.main_arg4) = m ((c.tc : Thread Cert.AdamFfnInRefIdeal.nD Cert.AdamFfnInRefIdeal.τ).loc Cert.AdamFfnInRefIdeal.main_arg4)
      ∧ r.2.mem ((c.tc : Thread Cert.AdamFfnInRefIdeal.nD Cert.AdamFfnInRefIdeal.τ).loc Cert.AdamFfnInRefIdeal.main_arg5) = m ((c.tc : Thread Cert.AdamFfnInRefIdeal.nD Cert.AdamFfnInRefIdeal.τ).loc Cert.AdamFfnInRefIdeal.main_arg5)
      ∧ r.2.mem ((c.tc : Thread Cert.AdamFfnInRefIdeal.nD Cert.AdamFfnInRefIdeal.τ).loc Cert.AdamFfnInRefIdeal.main_arg6) = m ((c.tc : Thread Cert.AdamFfnInRefIdeal.nD Cert.AdamFfnInRefIdeal.τ).loc Cert.AdamFfnInRefIdeal.main_arg6))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4)
      ∧ r.2.mem ((c.tc : Thread Cert.AdamFfnOut.nD Cert.AdamFfnOut.τ).loc Cert.AdamFfnOut.main_arg5) = m ((c.tc : Thread Cert.AdamFfnOut.nD Cert.AdamFfnOut.τ).loc Cert.AdamFfnOut.main_arg5)
      ∧ r.2.mem ((c.tc : Thread Cert.AdamFfnOut.nD Cert.AdamFfnOut.τ).loc Cert.AdamFfnOut.main_arg6) = m ((c.tc : Thread Cert.AdamFfnOut.nD Cert.AdamFfnOut.τ).loc Cert.AdamFfnOut.main_arg6))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
      ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5)
      ∧ r.2.mem ((c.tc : Thread Cert.AdamFfnOutIdeal.nD Cert.AdamFfnOutIdeal.τ).loc Cert.AdamFfnOutIdeal.main_arg6) = m ((c.tc : Thread Cert.AdamFfnOutIdeal.nD Cert.AdamFfnOutIdeal.τ).loc Cert.AdamFfnOutIdeal.main_arg6))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3)
      ∧ r.2.mem ((c.tc : Thread Cert.AdamFfnOutRefIdeal.nD Cert.AdamFfnOutRefIdeal.τ).loc Cert.AdamFfnOutRefIdeal.main_arg4) = m ((c.tc : Thread Cert.AdamFfnOutRefIdeal.nD Cert.AdamFfnOutRefIdeal.τ).loc Cert.AdamFfnOutRefIdeal.main_arg4)
      ∧ r.2.mem ((c.tc : Thread Cert.AdamFfnOutRefIdeal.nD Cert.AdamFfnOutRefIdeal.τ).loc Cert.AdamFfnOutRefIdeal.main_arg5) = m ((c.tc : Thread Cert.AdamFfnOutRefIdeal.nD Cert.AdamFfnOutRefIdeal.τ).loc Cert.AdamFfnOutRefIdeal.main_arg5)
      ∧ r.2.mem ((c.tc : Thread Cert.AdamFfnOutRefIdeal.nD Cert.AdamFfnOutRefIdeal.τ).loc Cert.AdamFfnOutRefIdeal.main_arg6) = m ((c.tc : Thread Cert.AdamFfnOutRefIdeal.nD Cert.AdamFfnOutRefIdeal.τ).loc Cert.AdamFfnOutRefIdeal.main_arg6))
      ∧ r.2.sem = fun _ => 0)

def preserves_Kernel_KernelIdeal : Prop :=
  True

def algebraic_KernelIdeal_KernelRefIdeal [hKernelIdeal : Cert.KernelIdeal.Facts] [hKernelRefIdeal : Cert.KernelRefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KernelRefIdeal.nD Cert.KernelRefIdeal.τ Cert.KernelRefIdeal.sig) → Buf (Elt Ideal) ℓ) (g' : Dev Cert.KernelRefIdeal.nD → PrngReg), Pre_KernelIdeal m →
    (∀ c : Dev Cert.KernelIdeal.nD,
      m' ((c.tc : Thread Cert.KernelRefIdeal.nD Cert.KernelRefIdeal.τ).loc Cert.KernelRefIdeal.main_arg0) = m ((c.tc : Thread Cert.KernelIdeal.nD Cert.KernelIdeal.τ).loc Cert.KernelIdeal.main_arg0)
      ∧ m' ((c.tc : Thread Cert.KernelRefIdeal.nD Cert.KernelRefIdeal.τ).loc Cert.KernelRefIdeal.main_arg1) = m ((c.tc : Thread Cert.KernelIdeal.nD Cert.KernelIdeal.τ).loc Cert.KernelIdeal.main_arg1)
      ∧ m' ((c.tc : Thread Cert.KernelRefIdeal.nD Cert.KernelRefIdeal.τ).loc Cert.KernelRefIdeal.main_arg2) = m ((c.tc : Thread Cert.KernelIdeal.nD Cert.KernelIdeal.τ).loc Cert.KernelIdeal.main_arg2)
      ∧ m' ((c.tc : Thread Cert.KernelRefIdeal.nD Cert.KernelRefIdeal.τ).loc Cert.KernelRefIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.KernelRefIdeal.defs (F := Ideal)) (onTc (τ := Cert.KernelRefIdeal.τ) (Cert.KernelRefIdeal.main (F := Ideal))) ⟨m', fun _ => 0, g'⟩ (fun r => ∀ c : Dev Cert.KernelRefIdeal.nD,
          r.2.mem ((c.tc : Thread Cert.KernelRefIdeal.nD Cert.KernelRefIdeal.τ).loc Cert.KernelRefIdeal.main_v11) = v0 c
          ∧ r.2.mem ((c.tc : Thread Cert.KernelRefIdeal.nD Cert.KernelRefIdeal.τ).loc Cert.KernelRefIdeal.main_arg0) = m' ((c.tc : Thread Cert.KernelRefIdeal.nD Cert.KernelRefIdeal.τ).loc Cert.KernelRefIdeal.main_arg0)
          ∧ r.2.mem ((c.tc : Thread Cert.KernelRefIdeal.nD Cert.KernelRefIdeal.τ).loc Cert.KernelRefIdeal.main_arg1) = m' ((c.tc : Thread Cert.KernelRefIdeal.nD Cert.KernelRefIdeal.τ).loc Cert.KernelRefIdeal.main_arg1)
          ∧ r.2.mem ((c.tc : Thread Cert.KernelRefIdeal.nD Cert.KernelRefIdeal.τ).loc Cert.KernelRefIdeal.main_arg2) = m' ((c.tc : Thread Cert.KernelRefIdeal.nD Cert.KernelRefIdeal.τ).loc Cert.KernelRefIdeal.main_arg2)
          ∧ r.2.mem ((c.tc : Thread Cert.KernelRefIdeal.nD Cert.KernelRefIdeal.τ).loc Cert.KernelRefIdeal.main_arg3) = m' ((c.tc : Thread Cert.KernelRefIdeal.nD Cert.KernelRefIdeal.τ).loc Cert.KernelRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)) (v2 : (c : Dev Cert.FfnIdeal.nD) → Buf (Elt Ideal) ((c.tc : Thread Cert.FfnIdeal.nD Cert.FfnIdeal.τ).loc Cert.FfnIdeal.main_v2_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_v2_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v1) = v0 c
          ∧ r.2.mem ((c.tc : Thread Cert.FfnRefIdeal.nD Cert.FfnRefIdeal.τ).loc Cert.FfnRefIdeal.main_v2) = v1 c
          ∧ r.2.mem ((c.tc : Thread Cert.FfnRefIdeal.nD Cert.FfnRefIdeal.τ).loc Cert.FfnRefIdeal.main_v5) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1))

def preserves_FfnDx_FfnDxIdeal : Prop :=
  True

def algebraic_FfnDxIdeal_FfnDxRefIdeal [hFfnDxIdeal : Cert.FfnDxIdeal.Facts] [hFfnDxRefIdeal : Cert.FfnDxRefIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)) →
    ∃ (v0 : (c : Dev Cert.FfnDxIdeal.nD) → Buf (Elt Ideal) ((c.tc : Thread Cert.FfnDxIdeal.nD Cert.FfnDxIdeal.τ).loc Cert.FfnDxIdeal.main_v2)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v2) = v0 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v2) = v0 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1))

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)) →
    ∃ (v0 : (c : Dev Cert.FfnDwIdeal.nD) → Buf (Elt Ideal) ((c.tc : Thread Cert.FfnDwIdeal.nD Cert.FfnDwIdeal.τ).loc Cert.FfnDwIdeal.main_v2)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v2) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v3) = v0 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_WoutDx_WoutDxIdeal : Prop :=
  True

def algebraic_WoutDxIdeal_WoutDxRefIdeal [hWoutDxIdeal : Cert.WoutDxIdeal.Facts] [hWoutDxRefIdeal : Cert.WoutDxRefIdeal.Facts] : Prop :=
  ∀ (m : (ℓ : Loc Cert.WoutDxIdeal.nD Cert.WoutDxIdeal.τ Cert.WoutDxIdeal.sig) → Buf (Elt Ideal) ℓ) (g : Dev Cert.WoutDxIdeal.nD → PrngReg)
    (m' : (ℓ : Loc Cert.WoutDxRefIdeal.nD Cert.WoutDxRefIdeal.τ Cert.WoutDxRefIdeal.sig) → Buf (Elt Ideal) ℓ) (g' : Dev Cert.WoutDxRefIdeal.nD → PrngReg), Pre_WoutDxIdeal m →
    (∀ c : Dev Cert.WoutDxIdeal.nD,
      m' ((c.tc : Thread Cert.WoutDxRefIdeal.nD Cert.WoutDxRefIdeal.τ).loc Cert.WoutDxRefIdeal.main_arg0) = m ((c.tc : Thread Cert.WoutDxIdeal.nD Cert.WoutDxIdeal.τ).loc Cert.WoutDxIdeal.main_arg0)
      ∧ m' ((c.tc : Thread Cert.WoutDxRefIdeal.nD Cert.WoutDxRefIdeal.τ).loc Cert.WoutDxRefIdeal.main_arg1) = m ((c.tc : Thread Cert.WoutDxIdeal.nD Cert.WoutDxIdeal.τ).loc Cert.WoutDxIdeal.main_arg1)) →
    ∃ (v0 : (c : Dev Cert.WoutDxIdeal.nD) → Buf (Elt Ideal) ((c.tc : Thread Cert.WoutDxIdeal.nD Cert.WoutDxIdeal.τ).loc Cert.WoutDxIdeal.main_v2)),
      θ_run (Cert.WoutDxIdeal.defs (F := Ideal)) (onTc (τ := Cert.WoutDxIdeal.τ) (Cert.WoutDxIdeal.main (F := Ideal))) ⟨m, fun _ => 0, g⟩ (fun r => ∀ c : Dev Cert.WoutDxIdeal.nD,
          r.2.mem ((c.tc : Thread Cert.WoutDxIdeal.nD Cert.WoutDxIdeal.τ).loc Cert.WoutDxIdeal.main_v2) = v0 c
          ∧ r.2.mem ((c.tc : Thread Cert.WoutDxIdeal.nD Cert.WoutDxIdeal.τ).loc Cert.WoutDxIdeal.main_arg0) = m ((c.tc : Thread Cert.WoutDxIdeal.nD Cert.WoutDxIdeal.τ).loc Cert.WoutDxIdeal.main_arg0)
          ∧ r.2.mem ((c.tc : Thread Cert.WoutDxIdeal.nD Cert.WoutDxIdeal.τ).loc Cert.WoutDxIdeal.main_arg1) = m ((c.tc : Thread Cert.WoutDxIdeal.nD Cert.WoutDxIdeal.τ).loc Cert.WoutDxIdeal.main_arg1))
      ∧ θ_run (Cert.WoutDxRefIdeal.defs (F := Ideal)) (onTc (τ := Cert.WoutDxRefIdeal.τ) (Cert.WoutDxRefIdeal.main (F := Ideal))) ⟨m', fun _ => 0, g'⟩ (fun r => ∀ c : Dev Cert.WoutDxRefIdeal.nD,
          r.2.mem ((c.tc : Thread Cert.WoutDxRefIdeal.nD Cert.WoutDxRefIdeal.τ).loc Cert.WoutDxRefIdeal.main_v2) = v0 c
          ∧ r.2.mem ((c.tc : Thread Cert.WoutDxRefIdeal.nD Cert.WoutDxRefIdeal.τ).loc Cert.WoutDxRefIdeal.main_arg0) = m' ((c.tc : Thread Cert.WoutDxRefIdeal.nD Cert.WoutDxRefIdeal.τ).loc Cert.WoutDxRefIdeal.main_arg0)
          ∧ r.2.mem ((c.tc : Thread Cert.WoutDxRefIdeal.nD Cert.WoutDxRefIdeal.τ).loc Cert.WoutDxRefIdeal.main_arg1) = m' ((c.tc : Thread Cert.WoutDxRefIdeal.nD Cert.WoutDxRefIdeal.τ).loc Cert.WoutDxRefIdeal.main_arg1))

def preserves_WoutDw_WoutDwIdeal : Prop :=
  True

def algebraic_WoutDwIdeal_WoutDwRefIdeal [hWoutDwIdeal : Cert.WoutDwIdeal.Facts] [hWoutDwRefIdeal : Cert.WoutDwRefIdeal.Facts] : Prop :=
  ∀ (m : (ℓ : Loc Cert.WoutDwIdeal.nD Cert.WoutDwIdeal.τ Cert.WoutDwIdeal.sig) → Buf (Elt Ideal) ℓ) (g : Dev Cert.WoutDwIdeal.nD → PrngReg)
    (m' : (ℓ : Loc Cert.WoutDwRefIdeal.nD Cert.WoutDwRefIdeal.τ Cert.WoutDwRefIdeal.sig) → Buf (Elt Ideal) ℓ) (g' : Dev Cert.WoutDwRefIdeal.nD → PrngReg), Pre_WoutDwIdeal m →
    (∀ c : Dev Cert.WoutDwIdeal.nD,
      m' ((c.tc : Thread Cert.WoutDwRefIdeal.nD Cert.WoutDwRefIdeal.τ).loc Cert.WoutDwRefIdeal.main_arg0) = m ((c.tc : Thread Cert.WoutDwIdeal.nD Cert.WoutDwIdeal.τ).loc Cert.WoutDwIdeal.main_arg0)
      ∧ m' ((c.tc : Thread Cert.WoutDwRefIdeal.nD Cert.WoutDwRefIdeal.τ).loc Cert.WoutDwRefIdeal.main_arg1) = m ((c.tc : Thread Cert.WoutDwIdeal.nD Cert.WoutDwIdeal.τ).loc Cert.WoutDwIdeal.main_arg1)) →
    ∃ (v0 : (c : Dev Cert.WoutDwIdeal.nD) → Buf (Elt Ideal) ((c.tc : Thread Cert.WoutDwIdeal.nD Cert.WoutDwIdeal.τ).loc Cert.WoutDwIdeal.main_v2)),
      θ_run (Cert.WoutDwIdeal.defs (F := Ideal)) (onTc (τ := Cert.WoutDwIdeal.τ) (Cert.WoutDwIdeal.main (F := Ideal))) ⟨m, fun _ => 0, g⟩ (fun r => ∀ c : Dev Cert.WoutDwIdeal.nD,
          r.2.mem ((c.tc : Thread Cert.WoutDwIdeal.nD Cert.WoutDwIdeal.τ).loc Cert.WoutDwIdeal.main_v2) = v0 c
          ∧ r.2.mem ((c.tc : Thread Cert.WoutDwIdeal.nD Cert.WoutDwIdeal.τ).loc Cert.WoutDwIdeal.main_arg0) = m ((c.tc : Thread Cert.WoutDwIdeal.nD Cert.WoutDwIdeal.τ).loc Cert.WoutDwIdeal.main_arg0)
          ∧ r.2.mem ((c.tc : Thread Cert.WoutDwIdeal.nD Cert.WoutDwIdeal.τ).loc Cert.WoutDwIdeal.main_arg1) = m ((c.tc : Thread Cert.WoutDwIdeal.nD Cert.WoutDwIdeal.τ).loc Cert.WoutDwIdeal.main_arg1))
      ∧ θ_run (Cert.WoutDwRefIdeal.defs (F := Ideal)) (onTc (τ := Cert.WoutDwRefIdeal.τ) (Cert.WoutDwRefIdeal.main (F := Ideal))) ⟨m', fun _ => 0, g'⟩ (fun r => ∀ c : Dev Cert.WoutDwRefIdeal.nD,
          r.2.mem ((c.tc : Thread Cert.WoutDwRefIdeal.nD Cert.WoutDwRefIdeal.τ).loc Cert.WoutDwRefIdeal.main_v3) = v0 c
          ∧ r.2.mem ((c.tc : Thread Cert.WoutDwRefIdeal.nD Cert.WoutDwRefIdeal.τ).loc Cert.WoutDwRefIdeal.main_arg0) = m' ((c.tc : Thread Cert.WoutDwRefIdeal.nD Cert.WoutDwRefIdeal.τ).loc Cert.WoutDwRefIdeal.main_arg0)
          ∧ r.2.mem ((c.tc : Thread Cert.WoutDwRefIdeal.nD Cert.WoutDwRefIdeal.τ).loc Cert.WoutDwRefIdeal.main_arg1) = m' ((c.tc : Thread Cert.WoutDwRefIdeal.nD Cert.WoutDwRefIdeal.τ).loc Cert.WoutDwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v2)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v2) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v2) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v2)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v2) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v3) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v0) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v2)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v2) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v0) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)) (v3 : (c : Dev Cert.MergeIdeal.nD) → Buf (Elt Ideal) ((c.tc : Thread Cert.MergeIdeal.nD Cert.MergeIdeal.τ).loc Cert.MergeIdeal.main_v6_3)) (v4 : (c : Dev Cert.MergeIdeal.nD) → Buf (Elt Ideal) ((c.tc : Thread Cert.MergeIdeal.nD Cert.MergeIdeal.τ).loc Cert.MergeIdeal.main_v6_4)) (v5 : (c : Dev Cert.MergeIdeal.nD) → Buf (Elt Ideal) ((c.tc : Thread Cert.MergeIdeal.nD Cert.MergeIdeal.τ).loc Cert.MergeIdeal.main_v6_5)) (v6 : (c : Dev Cert.MergeIdeal.nD) → Buf (Elt Ideal) ((c.tc : Thread Cert.MergeIdeal.nD Cert.MergeIdeal.τ).loc Cert.MergeIdeal.main_v6_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_v6_3) = v3 c
          ∧ r.2.mem ((c.tc : Thread Cert.MergeIdeal.nD Cert.MergeIdeal.τ).loc Cert.MergeIdeal.main_v6_4) = v4 c
          ∧ r.2.mem ((c.tc : Thread Cert.MergeIdeal.nD Cert.MergeIdeal.τ).loc Cert.MergeIdeal.main_v6_5) = v5 c
          ∧ r.2.mem ((c.tc : Thread Cert.MergeIdeal.nD Cert.MergeIdeal.τ).loc Cert.MergeIdeal.main_v6_6) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v62) = v0 c
          ∧ r.2.mem ((c.tc : Thread Cert.MergeRefIdeal.nD Cert.MergeRefIdeal.τ).loc Cert.MergeRefIdeal.main_v56) = v1 c
          ∧ r.2.mem ((c.tc : Thread Cert.MergeRefIdeal.nD Cert.MergeRefIdeal.τ).loc Cert.MergeRefIdeal.main_v50) = v2 c
          ∧ r.2.mem ((c.tc : Thread Cert.MergeRefIdeal.nD Cert.MergeRefIdeal.τ).loc Cert.MergeRefIdeal.main_v63) = v3 c
          ∧ r.2.mem ((c.tc : Thread Cert.MergeRefIdeal.nD Cert.MergeRefIdeal.τ).loc Cert.MergeRefIdeal.main_v57) = v4 c
          ∧ r.2.mem ((c.tc : Thread Cert.MergeRefIdeal.nD Cert.MergeRefIdeal.τ).loc Cert.MergeRefIdeal.main_v51) = v5 c
          ∧ r.2.mem ((c.tc : Thread Cert.MergeRefIdeal.nD Cert.MergeRefIdeal.τ).loc Cert.MergeRefIdeal.main_v64) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v4_0)) (v1 : (c : Dev Cert.AdamAdaIdeal.nD) → Buf (Elt Ideal) ((c.tc : Thread Cert.AdamAdaIdeal.nD Cert.AdamAdaIdeal.τ).loc Cert.AdamAdaIdeal.main_v4_1)) (v2 : (c : Dev Cert.AdamAdaIdeal.nD) → Buf (Elt Ideal) ((c.tc : Thread Cert.AdamAdaIdeal.nD Cert.AdamAdaIdeal.τ).loc Cert.AdamAdaIdeal.main_v4_2)) (v3 : (c : Dev Cert.AdamAdaIdeal.nD) → Buf (Elt Ideal) ((c.tc : Thread Cert.AdamAdaIdeal.nD Cert.AdamAdaIdeal.τ).loc Cert.AdamAdaIdeal.main_v4_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v4_0) = v0 c
          ∧ r.2.mem ((c.tc : Thread Cert.AdamAdaIdeal.nD Cert.AdamAdaIdeal.τ).loc Cert.AdamAdaIdeal.main_v4_1) = v1 c
          ∧ r.2.mem ((c.tc : Thread Cert.AdamAdaIdeal.nD Cert.AdamAdaIdeal.τ).loc Cert.AdamAdaIdeal.main_v4_2) = v2 c
          ∧ r.2.mem ((c.tc : Thread Cert.AdamAdaIdeal.nD Cert.AdamAdaIdeal.τ).loc Cert.AdamAdaIdeal.main_v4_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v1) = v0 c
          ∧ r.2.mem ((c.tc : Thread Cert.AdamAdaRefIdeal.nD Cert.AdamAdaRefIdeal.τ).loc Cert.AdamAdaRefIdeal.main_v27) = v1 c
          ∧ r.2.mem ((c.tc : Thread Cert.AdamAdaRefIdeal.nD Cert.AdamAdaRefIdeal.τ).loc Cert.AdamAdaRefIdeal.main_v8) = v2 c
          ∧ r.2.mem ((c.tc : Thread Cert.AdamAdaRefIdeal.nD Cert.AdamAdaRefIdeal.τ).loc Cert.AdamAdaRefIdeal.main_v14) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamBAda_AdamBAdaIdeal : Prop :=
  True

def algebraic_AdamBAdaIdeal_AdamBAdaRefIdeal [hAdamBAdaIdeal : Cert.AdamBAdaIdeal.Facts] [hAdamBAdaRefIdeal : Cert.AdamBAdaRefIdeal.Facts] : Prop :=
  ∀ (m : (ℓ : Loc Cert.AdamBAdaIdeal.nD Cert.AdamBAdaIdeal.τ Cert.AdamBAdaIdeal.sig) → Buf (Elt Ideal) ℓ) (g : Dev Cert.AdamBAdaIdeal.nD → PrngReg)
    (m' : (ℓ : Loc Cert.AdamBAdaRefIdeal.nD Cert.AdamBAdaRefIdeal.τ Cert.AdamBAdaRefIdeal.sig) → Buf (Elt Ideal) ℓ) (g' : Dev Cert.AdamBAdaRefIdeal.nD → PrngReg), Pre_AdamBAdaIdeal m →
    (∀ c : Dev Cert.AdamBAdaIdeal.nD,
      m' ((c.tc : Thread Cert.AdamBAdaRefIdeal.nD Cert.AdamBAdaRefIdeal.τ).loc Cert.AdamBAdaRefIdeal.main_arg0) = m ((c.tc : Thread Cert.AdamBAdaIdeal.nD Cert.AdamBAdaIdeal.τ).loc Cert.AdamBAdaIdeal.main_arg0)
      ∧ m' ((c.tc : Thread Cert.AdamBAdaRefIdeal.nD Cert.AdamBAdaRefIdeal.τ).loc Cert.AdamBAdaRefIdeal.main_arg1) = m ((c.tc : Thread Cert.AdamBAdaIdeal.nD Cert.AdamBAdaIdeal.τ).loc Cert.AdamBAdaIdeal.main_arg1)
      ∧ m' ((c.tc : Thread Cert.AdamBAdaRefIdeal.nD Cert.AdamBAdaRefIdeal.τ).loc Cert.AdamBAdaRefIdeal.main_arg2) = m ((c.tc : Thread Cert.AdamBAdaIdeal.nD Cert.AdamBAdaIdeal.τ).loc Cert.AdamBAdaIdeal.main_arg2)
      ∧ m' ((c.tc : Thread Cert.AdamBAdaRefIdeal.nD Cert.AdamBAdaRefIdeal.τ).loc Cert.AdamBAdaRefIdeal.main_arg3) = m ((c.tc : Thread Cert.AdamBAdaIdeal.nD Cert.AdamBAdaIdeal.τ).loc Cert.AdamBAdaIdeal.main_arg3)) →
    ∃ (v0 : (c : Dev Cert.AdamBAdaIdeal.nD) → Buf (Elt Ideal) ((c.tc : Thread Cert.AdamBAdaIdeal.nD Cert.AdamBAdaIdeal.τ).loc Cert.AdamBAdaIdeal.main_v0_0)) (v1 : (c : Dev Cert.AdamBAdaIdeal.nD) → Buf (Elt Ideal) ((c.tc : Thread Cert.AdamBAdaIdeal.nD Cert.AdamBAdaIdeal.τ).loc Cert.AdamBAdaIdeal.main_v0_1)) (v2 : (c : Dev Cert.AdamBAdaIdeal.nD) → Buf (Elt Ideal) ((c.tc : Thread Cert.AdamBAdaIdeal.nD Cert.AdamBAdaIdeal.τ).loc Cert.AdamBAdaIdeal.main_v0_2)) (v3 : (c : Dev Cert.AdamBAdaIdeal.nD) → Buf (Elt Ideal) ((c.tc : Thread Cert.AdamBAdaIdeal.nD Cert.AdamBAdaIdeal.τ).loc Cert.AdamBAdaIdeal.main_v0_3)),
      θ_run (Cert.AdamBAdaIdeal.defs (F := Ideal)) (onTc (τ := Cert.AdamBAdaIdeal.τ) (Cert.AdamBAdaIdeal.main (F := Ideal))) ⟨m, fun _ => 0, g⟩ (fun r => ∀ c : Dev Cert.AdamBAdaIdeal.nD,
          r.2.mem ((c.tc : Thread Cert.AdamBAdaIdeal.nD Cert.AdamBAdaIdeal.τ).loc Cert.AdamBAdaIdeal.main_v0_0) = v0 c
          ∧ r.2.mem ((c.tc : Thread Cert.AdamBAdaIdeal.nD Cert.AdamBAdaIdeal.τ).loc Cert.AdamBAdaIdeal.main_v0_1) = v1 c
          ∧ r.2.mem ((c.tc : Thread Cert.AdamBAdaIdeal.nD Cert.AdamBAdaIdeal.τ).loc Cert.AdamBAdaIdeal.main_v0_2) = v2 c
          ∧ r.2.mem ((c.tc : Thread Cert.AdamBAdaIdeal.nD Cert.AdamBAdaIdeal.τ).loc Cert.AdamBAdaIdeal.main_v0_3) = v3 c
          ∧ r.2.mem ((c.tc : Thread Cert.AdamBAdaIdeal.nD Cert.AdamBAdaIdeal.τ).loc Cert.AdamBAdaIdeal.main_arg0) = m ((c.tc : Thread Cert.AdamBAdaIdeal.nD Cert.AdamBAdaIdeal.τ).loc Cert.AdamBAdaIdeal.main_arg0)
          ∧ r.2.mem ((c.tc : Thread Cert.AdamBAdaIdeal.nD Cert.AdamBAdaIdeal.τ).loc Cert.AdamBAdaIdeal.main_arg1) = m ((c.tc : Thread Cert.AdamBAdaIdeal.nD Cert.AdamBAdaIdeal.τ).loc Cert.AdamBAdaIdeal.main_arg1)
          ∧ r.2.mem ((c.tc : Thread Cert.AdamBAdaIdeal.nD Cert.AdamBAdaIdeal.τ).loc Cert.AdamBAdaIdeal.main_arg2) = m ((c.tc : Thread Cert.AdamBAdaIdeal.nD Cert.AdamBAdaIdeal.τ).loc Cert.AdamBAdaIdeal.main_arg2)
          ∧ r.2.mem ((c.tc : Thread Cert.AdamBAdaIdeal.nD Cert.AdamBAdaIdeal.τ).loc Cert.AdamBAdaIdeal.main_arg3) = m ((c.tc : Thread Cert.AdamBAdaIdeal.nD Cert.AdamBAdaIdeal.τ).loc Cert.AdamBAdaIdeal.main_arg3))
      ∧ θ_run (Cert.AdamBAdaRefIdeal.defs (F := Ideal)) (onTc (τ := Cert.AdamBAdaRefIdeal.τ) (Cert.AdamBAdaRefIdeal.main (F := Ideal))) ⟨m', fun _ => 0, g'⟩ (fun r => ∀ c : Dev Cert.AdamBAdaRefIdeal.nD,
          r.2.mem ((c.tc : Thread Cert.AdamBAdaRefIdeal.nD Cert.AdamBAdaRefIdeal.τ).loc Cert.AdamBAdaRefIdeal.main_arg1) = v0 c
          ∧ r.2.mem ((c.tc : Thread Cert.AdamBAdaRefIdeal.nD Cert.AdamBAdaRefIdeal.τ).loc Cert.AdamBAdaRefIdeal.main_v23) = v1 c
          ∧ r.2.mem ((c.tc : Thread Cert.AdamBAdaRefIdeal.nD Cert.AdamBAdaRefIdeal.τ).loc Cert.AdamBAdaRefIdeal.main_v4) = v2 c
          ∧ r.2.mem ((c.tc : Thread Cert.AdamBAdaRefIdeal.nD Cert.AdamBAdaRefIdeal.τ).loc Cert.AdamBAdaRefIdeal.main_v10) = v3 c
          ∧ r.2.mem ((c.tc : Thread Cert.AdamBAdaRefIdeal.nD Cert.AdamBAdaRefIdeal.τ).loc Cert.AdamBAdaRefIdeal.main_arg0) = m' ((c.tc : Thread Cert.AdamBAdaRefIdeal.nD Cert.AdamBAdaRefIdeal.τ).loc Cert.AdamBAdaRefIdeal.main_arg0)
          ∧ r.2.mem ((c.tc : Thread Cert.AdamBAdaRefIdeal.nD Cert.AdamBAdaRefIdeal.τ).loc Cert.AdamBAdaRefIdeal.main_arg1) = m' ((c.tc : Thread Cert.AdamBAdaRefIdeal.nD Cert.AdamBAdaRefIdeal.τ).loc Cert.AdamBAdaRefIdeal.main_arg1)
          ∧ r.2.mem ((c.tc : Thread Cert.AdamBAdaRefIdeal.nD Cert.AdamBAdaRefIdeal.τ).loc Cert.AdamBAdaRefIdeal.main_arg2) = m' ((c.tc : Thread Cert.AdamBAdaRefIdeal.nD Cert.AdamBAdaRefIdeal.τ).loc Cert.AdamBAdaRefIdeal.main_arg2)
          ∧ r.2.mem ((c.tc : Thread Cert.AdamBAdaRefIdeal.nD Cert.AdamBAdaRefIdeal.τ).loc Cert.AdamBAdaRefIdeal.main_arg3) = m' ((c.tc : Thread Cert.AdamBAdaRefIdeal.nD Cert.AdamBAdaRefIdeal.τ).loc Cert.AdamBAdaRefIdeal.main_arg3))

def preserves_AdamBIn_AdamBInIdeal : Prop :=
  True

def algebraic_AdamBInIdeal_AdamBInRefIdeal [hAdamBInIdeal : Cert.AdamBInIdeal.Facts] [hAdamBInRefIdeal : Cert.AdamBInRefIdeal.Facts] : Prop :=
  ∀ (m : (ℓ : Loc Cert.AdamBInIdeal.nD Cert.AdamBInIdeal.τ Cert.AdamBInIdeal.sig) → Buf (Elt Ideal) ℓ) (g : Dev Cert.AdamBInIdeal.nD → PrngReg)
    (m' : (ℓ : Loc Cert.AdamBInRefIdeal.nD Cert.AdamBInRefIdeal.τ Cert.AdamBInRefIdeal.sig) → Buf (Elt Ideal) ℓ) (g' : Dev Cert.AdamBInRefIdeal.nD → PrngReg), Pre_AdamBInIdeal m →
    (∀ c : Dev Cert.AdamBInIdeal.nD,
      m' ((c.tc : Thread Cert.AdamBInRefIdeal.nD Cert.AdamBInRefIdeal.τ).loc Cert.AdamBInRefIdeal.main_arg0) = m ((c.tc : Thread Cert.AdamBInIdeal.nD Cert.AdamBInIdeal.τ).loc Cert.AdamBInIdeal.main_arg0)
      ∧ m' ((c.tc : Thread Cert.AdamBInRefIdeal.nD Cert.AdamBInRefIdeal.τ).loc Cert.AdamBInRefIdeal.main_arg1) = m ((c.tc : Thread Cert.AdamBInIdeal.nD Cert.AdamBInIdeal.τ).loc Cert.AdamBInIdeal.main_arg1)
      ∧ m' ((c.tc : Thread Cert.AdamBInRefIdeal.nD Cert.AdamBInRefIdeal.τ).loc Cert.AdamBInRefIdeal.main_arg2) = m ((c.tc : Thread Cert.AdamBInIdeal.nD Cert.AdamBInIdeal.τ).loc Cert.AdamBInIdeal.main_arg2)
      ∧ m' ((c.tc : Thread Cert.AdamBInRefIdeal.nD Cert.AdamBInRefIdeal.τ).loc Cert.AdamBInRefIdeal.main_arg3) = m ((c.tc : Thread Cert.AdamBInIdeal.nD Cert.AdamBInIdeal.τ).loc Cert.AdamBInIdeal.main_arg3)) →
    ∃ (v0 : (c : Dev Cert.AdamBInIdeal.nD) → Buf (Elt Ideal) ((c.tc : Thread Cert.AdamBInIdeal.nD Cert.AdamBInIdeal.τ).loc Cert.AdamBInIdeal.main_v0_0)) (v1 : (c : Dev Cert.AdamBInIdeal.nD) → Buf (Elt Ideal) ((c.tc : Thread Cert.AdamBInIdeal.nD Cert.AdamBInIdeal.τ).loc Cert.AdamBInIdeal.main_v0_1)) (v2 : (c : Dev Cert.AdamBInIdeal.nD) → Buf (Elt Ideal) ((c.tc : Thread Cert.AdamBInIdeal.nD Cert.AdamBInIdeal.τ).loc Cert.AdamBInIdeal.main_v0_2)) (v3 : (c : Dev Cert.AdamBInIdeal.nD) → Buf (Elt Ideal) ((c.tc : Thread Cert.AdamBInIdeal.nD Cert.AdamBInIdeal.τ).loc Cert.AdamBInIdeal.main_v0_3)),
      θ_run (Cert.AdamBInIdeal.defs (F := Ideal)) (onTc (τ := Cert.AdamBInIdeal.τ) (Cert.AdamBInIdeal.main (F := Ideal))) ⟨m, fun _ => 0, g⟩ (fun r => ∀ c : Dev Cert.AdamBInIdeal.nD,
          r.2.mem ((c.tc : Thread Cert.AdamBInIdeal.nD Cert.AdamBInIdeal.τ).loc Cert.AdamBInIdeal.main_v0_0) = v0 c
          ∧ r.2.mem ((c.tc : Thread Cert.AdamBInIdeal.nD Cert.AdamBInIdeal.τ).loc Cert.AdamBInIdeal.main_v0_1) = v1 c
          ∧ r.2.mem ((c.tc : Thread Cert.AdamBInIdeal.nD Cert.AdamBInIdeal.τ).loc Cert.AdamBInIdeal.main_v0_2) = v2 c
          ∧ r.2.mem ((c.tc : Thread Cert.AdamBInIdeal.nD Cert.AdamBInIdeal.τ).loc Cert.AdamBInIdeal.main_v0_3) = v3 c
          ∧ r.2.mem ((c.tc : Thread Cert.AdamBInIdeal.nD Cert.AdamBInIdeal.τ).loc Cert.AdamBInIdeal.main_arg0) = m ((c.tc : Thread Cert.AdamBInIdeal.nD Cert.AdamBInIdeal.τ).loc Cert.AdamBInIdeal.main_arg0)
          ∧ r.2.mem ((c.tc : Thread Cert.AdamBInIdeal.nD Cert.AdamBInIdeal.τ).loc Cert.AdamBInIdeal.main_arg1) = m ((c.tc : Thread Cert.AdamBInIdeal.nD Cert.AdamBInIdeal.τ).loc Cert.AdamBInIdeal.main_arg1)
          ∧ r.2.mem ((c.tc : Thread Cert.AdamBInIdeal.nD Cert.AdamBInIdeal.τ).loc Cert.AdamBInIdeal.main_arg2) = m ((c.tc : Thread Cert.AdamBInIdeal.nD Cert.AdamBInIdeal.τ).loc Cert.AdamBInIdeal.main_arg2)
          ∧ r.2.mem ((c.tc : Thread Cert.AdamBInIdeal.nD Cert.AdamBInIdeal.τ).loc Cert.AdamBInIdeal.main_arg3) = m ((c.tc : Thread Cert.AdamBInIdeal.nD Cert.AdamBInIdeal.τ).loc Cert.AdamBInIdeal.main_arg3))
      ∧ θ_run (Cert.AdamBInRefIdeal.defs (F := Ideal)) (onTc (τ := Cert.AdamBInRefIdeal.τ) (Cert.AdamBInRefIdeal.main (F := Ideal))) ⟨m', fun _ => 0, g'⟩ (fun r => ∀ c : Dev Cert.AdamBInRefIdeal.nD,
          r.2.mem ((c.tc : Thread Cert.AdamBInRefIdeal.nD Cert.AdamBInRefIdeal.τ).loc Cert.AdamBInRefIdeal.main_arg1) = v0 c
          ∧ r.2.mem ((c.tc : Thread Cert.AdamBInRefIdeal.nD Cert.AdamBInRefIdeal.τ).loc Cert.AdamBInRefIdeal.main_v23) = v1 c
          ∧ r.2.mem ((c.tc : Thread Cert.AdamBInRefIdeal.nD Cert.AdamBInRefIdeal.τ).loc Cert.AdamBInRefIdeal.main_v4) = v2 c
          ∧ r.2.mem ((c.tc : Thread Cert.AdamBInRefIdeal.nD Cert.AdamBInRefIdeal.τ).loc Cert.AdamBInRefIdeal.main_v10) = v3 c
          ∧ r.2.mem ((c.tc : Thread Cert.AdamBInRefIdeal.nD Cert.AdamBInRefIdeal.τ).loc Cert.AdamBInRefIdeal.main_arg0) = m' ((c.tc : Thread Cert.AdamBInRefIdeal.nD Cert.AdamBInRefIdeal.τ).loc Cert.AdamBInRefIdeal.main_arg0)
          ∧ r.2.mem ((c.tc : Thread Cert.AdamBInRefIdeal.nD Cert.AdamBInRefIdeal.τ).loc Cert.AdamBInRefIdeal.main_arg1) = m' ((c.tc : Thread Cert.AdamBInRefIdeal.nD Cert.AdamBInRefIdeal.τ).loc Cert.AdamBInRefIdeal.main_arg1)
          ∧ r.2.mem ((c.tc : Thread Cert.AdamBInRefIdeal.nD Cert.AdamBInRefIdeal.τ).loc Cert.AdamBInRefIdeal.main_arg2) = m' ((c.tc : Thread Cert.AdamBInRefIdeal.nD Cert.AdamBInRefIdeal.τ).loc Cert.AdamBInRefIdeal.main_arg2)
          ∧ r.2.mem ((c.tc : Thread Cert.AdamBInRefIdeal.nD Cert.AdamBInRefIdeal.τ).loc Cert.AdamBInRefIdeal.main_arg3) = m' ((c.tc : Thread Cert.AdamBInRefIdeal.nD Cert.AdamBInRefIdeal.τ).loc Cert.AdamBInRefIdeal.main_arg3))

def preserves_AdamLam_AdamLamIdeal : Prop :=
  True

def algebraic_AdamLamIdeal_AdamLamRefIdeal [hAdamLamIdeal : Cert.AdamLamIdeal.Facts] [hAdamLamRefIdeal : Cert.AdamLamRefIdeal.Facts] : Prop :=
  ∀ (m : (ℓ : Loc Cert.AdamLamIdeal.nD Cert.AdamLamIdeal.τ Cert.AdamLamIdeal.sig) → Buf (Elt Ideal) ℓ) (g : Dev Cert.AdamLamIdeal.nD → PrngReg)
    (m' : (ℓ : Loc Cert.AdamLamRefIdeal.nD Cert.AdamLamRefIdeal.τ Cert.AdamLamRefIdeal.sig) → Buf (Elt Ideal) ℓ) (g' : Dev Cert.AdamLamRefIdeal.nD → PrngReg), Pre_AdamLamIdeal m →
    (∀ c : Dev Cert.AdamLamIdeal.nD,
      m' ((c.tc : Thread Cert.AdamLamRefIdeal.nD Cert.AdamLamRefIdeal.τ).loc Cert.AdamLamRefIdeal.main_arg0) = m ((c.tc : Thread Cert.AdamLamIdeal.nD Cert.AdamLamIdeal.τ).loc Cert.AdamLamIdeal.main_arg0)
      ∧ m' ((c.tc : Thread Cert.AdamLamRefIdeal.nD Cert.AdamLamRefIdeal.τ).loc Cert.AdamLamRefIdeal.main_arg1) = m ((c.tc : Thread Cert.AdamLamIdeal.nD Cert.AdamLamIdeal.τ).loc Cert.AdamLamIdeal.main_arg1)
      ∧ m' ((c.tc : Thread Cert.AdamLamRefIdeal.nD Cert.AdamLamRefIdeal.τ).loc Cert.AdamLamRefIdeal.main_arg2) = m ((c.tc : Thread Cert.AdamLamIdeal.nD Cert.AdamLamIdeal.τ).loc Cert.AdamLamIdeal.main_arg2)
      ∧ m' ((c.tc : Thread Cert.AdamLamRefIdeal.nD Cert.AdamLamRefIdeal.τ).loc Cert.AdamLamRefIdeal.main_arg3) = m ((c.tc : Thread Cert.AdamLamIdeal.nD Cert.AdamLamIdeal.τ).loc Cert.AdamLamIdeal.main_arg3)) →
    ∃ (v0 : (c : Dev Cert.AdamLamIdeal.nD) → Buf (Elt Ideal) ((c.tc : Thread Cert.AdamLamIdeal.nD Cert.AdamLamIdeal.τ).loc Cert.AdamLamIdeal.main_v4_0)) (v1 : (c : Dev Cert.AdamLamIdeal.nD) → Buf (Elt Ideal) ((c.tc : Thread Cert.AdamLamIdeal.nD Cert.AdamLamIdeal.τ).loc Cert.AdamLamIdeal.main_v4_1)) (v2 : (c : Dev Cert.AdamLamIdeal.nD) → Buf (Elt Ideal) ((c.tc : Thread Cert.AdamLamIdeal.nD Cert.AdamLamIdeal.τ).loc Cert.AdamLamIdeal.main_v4_2)) (v3 : (c : Dev Cert.AdamLamIdeal.nD) → Buf (Elt Ideal) ((c.tc : Thread Cert.AdamLamIdeal.nD Cert.AdamLamIdeal.τ).loc Cert.AdamLamIdeal.main_v4_3)),
      θ_run (Cert.AdamLamIdeal.defs (F := Ideal)) (onTc (τ := Cert.AdamLamIdeal.τ) (Cert.AdamLamIdeal.main (F := Ideal))) ⟨m, fun _ => 0, g⟩ (fun r => ∀ c : Dev Cert.AdamLamIdeal.nD,
          r.2.mem ((c.tc : Thread Cert.AdamLamIdeal.nD Cert.AdamLamIdeal.τ).loc Cert.AdamLamIdeal.main_v4_0) = v0 c
          ∧ r.2.mem ((c.tc : Thread Cert.AdamLamIdeal.nD Cert.AdamLamIdeal.τ).loc Cert.AdamLamIdeal.main_v4_1) = v1 c
          ∧ r.2.mem ((c.tc : Thread Cert.AdamLamIdeal.nD Cert.AdamLamIdeal.τ).loc Cert.AdamLamIdeal.main_v4_2) = v2 c
          ∧ r.2.mem ((c.tc : Thread Cert.AdamLamIdeal.nD Cert.AdamLamIdeal.τ).loc Cert.AdamLamIdeal.main_v4_3) = v3 c
          ∧ r.2.mem ((c.tc : Thread Cert.AdamLamIdeal.nD Cert.AdamLamIdeal.τ).loc Cert.AdamLamIdeal.main_arg0) = m ((c.tc : Thread Cert.AdamLamIdeal.nD Cert.AdamLamIdeal.τ).loc Cert.AdamLamIdeal.main_arg0)
          ∧ r.2.mem ((c.tc : Thread Cert.AdamLamIdeal.nD Cert.AdamLamIdeal.τ).loc Cert.AdamLamIdeal.main_arg1) = m ((c.tc : Thread Cert.AdamLamIdeal.nD Cert.AdamLamIdeal.τ).loc Cert.AdamLamIdeal.main_arg1)
          ∧ r.2.mem ((c.tc : Thread Cert.AdamLamIdeal.nD Cert.AdamLamIdeal.τ).loc Cert.AdamLamIdeal.main_arg2) = m ((c.tc : Thread Cert.AdamLamIdeal.nD Cert.AdamLamIdeal.τ).loc Cert.AdamLamIdeal.main_arg2)
          ∧ r.2.mem ((c.tc : Thread Cert.AdamLamIdeal.nD Cert.AdamLamIdeal.τ).loc Cert.AdamLamIdeal.main_arg3) = m ((c.tc : Thread Cert.AdamLamIdeal.nD Cert.AdamLamIdeal.τ).loc Cert.AdamLamIdeal.main_arg3))
      ∧ θ_run (Cert.AdamLamRefIdeal.defs (F := Ideal)) (onTc (τ := Cert.AdamLamRefIdeal.τ) (Cert.AdamLamRefIdeal.main (F := Ideal))) ⟨m', fun _ => 0, g'⟩ (fun r => ∀ c : Dev Cert.AdamLamRefIdeal.nD,
          r.2.mem ((c.tc : Thread Cert.AdamLamRefIdeal.nD Cert.AdamLamRefIdeal.τ).loc Cert.AdamLamRefIdeal.main_v1) = v0 c
          ∧ r.2.mem ((c.tc : Thread Cert.AdamLamRefIdeal.nD Cert.AdamLamRefIdeal.τ).loc Cert.AdamLamRefIdeal.main_v27) = v1 c
          ∧ r.2.mem ((c.tc : Thread Cert.AdamLamRefIdeal.nD Cert.AdamLamRefIdeal.τ).loc Cert.AdamLamRefIdeal.main_v8) = v2 c
          ∧ r.2.mem ((c.tc : Thread Cert.AdamLamRefIdeal.nD Cert.AdamLamRefIdeal.τ).loc Cert.AdamLamRefIdeal.main_v14) = v3 c
          ∧ r.2.mem ((c.tc : Thread Cert.AdamLamRefIdeal.nD Cert.AdamLamRefIdeal.τ).loc Cert.AdamLamRefIdeal.main_arg0) = m' ((c.tc : Thread Cert.AdamLamRefIdeal.nD Cert.AdamLamRefIdeal.τ).loc Cert.AdamLamRefIdeal.main_arg0)
          ∧ r.2.mem ((c.tc : Thread Cert.AdamLamRefIdeal.nD Cert.AdamLamRefIdeal.τ).loc Cert.AdamLamRefIdeal.main_arg1) = m' ((c.tc : Thread Cert.AdamLamRefIdeal.nD Cert.AdamLamRefIdeal.τ).loc Cert.AdamLamRefIdeal.main_arg1)
          ∧ r.2.mem ((c.tc : Thread Cert.AdamLamRefIdeal.nD Cert.AdamLamRefIdeal.τ).loc Cert.AdamLamRefIdeal.main_arg2) = m' ((c.tc : Thread Cert.AdamLamRefIdeal.nD Cert.AdamLamRefIdeal.τ).loc Cert.AdamLamRefIdeal.main_arg2)
          ∧ r.2.mem ((c.tc : Thread Cert.AdamLamRefIdeal.nD Cert.AdamLamRefIdeal.τ).loc Cert.AdamLamRefIdeal.main_arg3) = m' ((c.tc : Thread Cert.AdamLamRefIdeal.nD Cert.AdamLamRefIdeal.τ).loc Cert.AdamLamRefIdeal.main_arg3))

def preserves_AdamLogDt_AdamLogDtIdeal : Prop :=
  True

def algebraic_AdamLogDtIdeal_AdamLogDtRefIdeal [hAdamLogDtIdeal : Cert.AdamLogDtIdeal.Facts] [hAdamLogDtRefIdeal : Cert.AdamLogDtRefIdeal.Facts] : Prop :=
  ∀ (m : (ℓ : Loc Cert.AdamLogDtIdeal.nD Cert.AdamLogDtIdeal.τ Cert.AdamLogDtIdeal.sig) → Buf (Elt Ideal) ℓ) (g : Dev Cert.AdamLogDtIdeal.nD → PrngReg)
    (m' : (ℓ : Loc Cert.AdamLogDtRefIdeal.nD Cert.AdamLogDtRefIdeal.τ Cert.AdamLogDtRefIdeal.sig) → Buf (Elt Ideal) ℓ) (g' : Dev Cert.AdamLogDtRefIdeal.nD → PrngReg), Pre_AdamLogDtIdeal m →
    (∀ c : Dev Cert.AdamLogDtIdeal.nD,
      m' ((c.tc : Thread Cert.AdamLogDtRefIdeal.nD Cert.AdamLogDtRefIdeal.τ).loc Cert.AdamLogDtRefIdeal.main_arg0) = m ((c.tc : Thread Cert.AdamLogDtIdeal.nD Cert.AdamLogDtIdeal.τ).loc Cert.AdamLogDtIdeal.main_arg0)
      ∧ m' ((c.tc : Thread Cert.AdamLogDtRefIdeal.nD Cert.AdamLogDtRefIdeal.τ).loc Cert.AdamLogDtRefIdeal.main_arg1) = m ((c.tc : Thread Cert.AdamLogDtIdeal.nD Cert.AdamLogDtIdeal.τ).loc Cert.AdamLogDtIdeal.main_arg1)
      ∧ m' ((c.tc : Thread Cert.AdamLogDtRefIdeal.nD Cert.AdamLogDtRefIdeal.τ).loc Cert.AdamLogDtRefIdeal.main_arg2) = m ((c.tc : Thread Cert.AdamLogDtIdeal.nD Cert.AdamLogDtIdeal.τ).loc Cert.AdamLogDtIdeal.main_arg2)
      ∧ m' ((c.tc : Thread Cert.AdamLogDtRefIdeal.nD Cert.AdamLogDtRefIdeal.τ).loc Cert.AdamLogDtRefIdeal.main_arg3) = m ((c.tc : Thread Cert.AdamLogDtIdeal.nD Cert.AdamLogDtIdeal.τ).loc Cert.AdamLogDtIdeal.main_arg3)) →
    ∃ (v0 : (c : Dev Cert.AdamLogDtIdeal.nD) → Buf (Elt Ideal) ((c.tc : Thread Cert.AdamLogDtIdeal.nD Cert.AdamLogDtIdeal.τ).loc Cert.AdamLogDtIdeal.main_v0_0)) (v1 : (c : Dev Cert.AdamLogDtIdeal.nD) → Buf (Elt Ideal) ((c.tc : Thread Cert.AdamLogDtIdeal.nD Cert.AdamLogDtIdeal.τ).loc Cert.AdamLogDtIdeal.main_v0_1)) (v2 : (c : Dev Cert.AdamLogDtIdeal.nD) → Buf (Elt Ideal) ((c.tc : Thread Cert.AdamLogDtIdeal.nD Cert.AdamLogDtIdeal.τ).loc Cert.AdamLogDtIdeal.main_v0_2)) (v3 : (c : Dev Cert.AdamLogDtIdeal.nD) → Buf (Elt Ideal) ((c.tc : Thread Cert.AdamLogDtIdeal.nD Cert.AdamLogDtIdeal.τ).loc Cert.AdamLogDtIdeal.main_v0_3)),
      θ_run (Cert.AdamLogDtIdeal.defs (F := Ideal)) (onTc (τ := Cert.AdamLogDtIdeal.τ) (Cert.AdamLogDtIdeal.main (F := Ideal))) ⟨m, fun _ => 0, g⟩ (fun r => ∀ c : Dev Cert.AdamLogDtIdeal.nD,
          r.2.mem ((c.tc : Thread Cert.AdamLogDtIdeal.nD Cert.AdamLogDtIdeal.τ).loc Cert.AdamLogDtIdeal.main_v0_0) = v0 c
          ∧ r.2.mem ((c.tc : Thread Cert.AdamLogDtIdeal.nD Cert.AdamLogDtIdeal.τ).loc Cert.AdamLogDtIdeal.main_v0_1) = v1 c
          ∧ r.2.mem ((c.tc : Thread Cert.AdamLogDtIdeal.nD Cert.AdamLogDtIdeal.τ).loc Cert.AdamLogDtIdeal.main_v0_2) = v2 c
          ∧ r.2.mem ((c.tc : Thread Cert.AdamLogDtIdeal.nD Cert.AdamLogDtIdeal.τ).loc Cert.AdamLogDtIdeal.main_v0_3) = v3 c
          ∧ r.2.mem ((c.tc : Thread Cert.AdamLogDtIdeal.nD Cert.AdamLogDtIdeal.τ).loc Cert.AdamLogDtIdeal.main_arg0) = m ((c.tc : Thread Cert.AdamLogDtIdeal.nD Cert.AdamLogDtIdeal.τ).loc Cert.AdamLogDtIdeal.main_arg0)
          ∧ r.2.mem ((c.tc : Thread Cert.AdamLogDtIdeal.nD Cert.AdamLogDtIdeal.τ).loc Cert.AdamLogDtIdeal.main_arg1) = m ((c.tc : Thread Cert.AdamLogDtIdeal.nD Cert.AdamLogDtIdeal.τ).loc Cert.AdamLogDtIdeal.main_arg1)
          ∧ r.2.mem ((c.tc : Thread Cert.AdamLogDtIdeal.nD Cert.AdamLogDtIdeal.τ).loc Cert.AdamLogDtIdeal.main_arg2) = m ((c.tc : Thread Cert.AdamLogDtIdeal.nD Cert.AdamLogDtIdeal.τ).loc Cert.AdamLogDtIdeal.main_arg2)
          ∧ r.2.mem ((c.tc : Thread Cert.AdamLogDtIdeal.nD Cert.AdamLogDtIdeal.τ).loc Cert.AdamLogDtIdeal.main_arg3) = m ((c.tc : Thread Cert.AdamLogDtIdeal.nD Cert.AdamLogDtIdeal.τ).loc Cert.AdamLogDtIdeal.main_arg3))
      ∧ θ_run (Cert.AdamLogDtRefIdeal.defs (F := Ideal)) (onTc (τ := Cert.AdamLogDtRefIdeal.τ) (Cert.AdamLogDtRefIdeal.main (F := Ideal))) ⟨m', fun _ => 0, g'⟩ (fun r => ∀ c : Dev Cert.AdamLogDtRefIdeal.nD,
          r.2.mem ((c.tc : Thread Cert.AdamLogDtRefIdeal.nD Cert.AdamLogDtRefIdeal.τ).loc Cert.AdamLogDtRefIdeal.main_arg1) = v0 c
          ∧ r.2.mem ((c.tc : Thread Cert.AdamLogDtRefIdeal.nD Cert.AdamLogDtRefIdeal.τ).loc Cert.AdamLogDtRefIdeal.main_v23) = v1 c
          ∧ r.2.mem ((c.tc : Thread Cert.AdamLogDtRefIdeal.nD Cert.AdamLogDtRefIdeal.τ).loc Cert.AdamLogDtRefIdeal.main_v4) = v2 c
          ∧ r.2.mem ((c.tc : Thread Cert.AdamLogDtRefIdeal.nD Cert.AdamLogDtRefIdeal.τ).loc Cert.AdamLogDtRefIdeal.main_v10) = v3 c
          ∧ r.2.mem ((c.tc : Thread Cert.AdamLogDtRefIdeal.nD Cert.AdamLogDtRefIdeal.τ).loc Cert.AdamLogDtRefIdeal.main_arg0) = m' ((c.tc : Thread Cert.AdamLogDtRefIdeal.nD Cert.AdamLogDtRefIdeal.τ).loc Cert.AdamLogDtRefIdeal.main_arg0)
          ∧ r.2.mem ((c.tc : Thread Cert.AdamLogDtRefIdeal.nD Cert.AdamLogDtRefIdeal.τ).loc Cert.AdamLogDtRefIdeal.main_arg1) = m' ((c.tc : Thread Cert.AdamLogDtRefIdeal.nD Cert.AdamLogDtRefIdeal.τ).loc Cert.AdamLogDtRefIdeal.main_arg1)
          ∧ r.2.mem ((c.tc : Thread Cert.AdamLogDtRefIdeal.nD Cert.AdamLogDtRefIdeal.τ).loc Cert.AdamLogDtRefIdeal.main_arg2) = m' ((c.tc : Thread Cert.AdamLogDtRefIdeal.nD Cert.AdamLogDtRefIdeal.τ).loc Cert.AdamLogDtRefIdeal.main_arg2)
          ∧ r.2.mem ((c.tc : Thread Cert.AdamLogDtRefIdeal.nD Cert.AdamLogDtRefIdeal.τ).loc Cert.AdamLogDtRefIdeal.main_arg3) = m' ((c.tc : Thread Cert.AdamLogDtRefIdeal.nD Cert.AdamLogDtRefIdeal.τ).loc Cert.AdamLogDtRefIdeal.main_arg3))

def preserves_AdamS5B_AdamS5BIdeal : Prop :=
  True

def algebraic_AdamS5BIdeal_AdamS5BRefIdeal [hAdamS5BIdeal : Cert.AdamS5BIdeal.Facts] [hAdamS5BRefIdeal : Cert.AdamS5BRefIdeal.Facts] : Prop :=
  ∀ (m : (ℓ : Loc Cert.AdamS5BIdeal.nD Cert.AdamS5BIdeal.τ Cert.AdamS5BIdeal.sig) → Buf (Elt Ideal) ℓ) (g : Dev Cert.AdamS5BIdeal.nD → PrngReg)
    (m' : (ℓ : Loc Cert.AdamS5BRefIdeal.nD Cert.AdamS5BRefIdeal.τ Cert.AdamS5BRefIdeal.sig) → Buf (Elt Ideal) ℓ) (g' : Dev Cert.AdamS5BRefIdeal.nD → PrngReg), Pre_AdamS5BIdeal m →
    (∀ c : Dev Cert.AdamS5BIdeal.nD,
      m' ((c.tc : Thread Cert.AdamS5BRefIdeal.nD Cert.AdamS5BRefIdeal.τ).loc Cert.AdamS5BRefIdeal.main_arg0) = m ((c.tc : Thread Cert.AdamS5BIdeal.nD Cert.AdamS5BIdeal.τ).loc Cert.AdamS5BIdeal.main_arg0)
      ∧ m' ((c.tc : Thread Cert.AdamS5BRefIdeal.nD Cert.AdamS5BRefIdeal.τ).loc Cert.AdamS5BRefIdeal.main_arg1) = m ((c.tc : Thread Cert.AdamS5BIdeal.nD Cert.AdamS5BIdeal.τ).loc Cert.AdamS5BIdeal.main_arg1)
      ∧ m' ((c.tc : Thread Cert.AdamS5BRefIdeal.nD Cert.AdamS5BRefIdeal.τ).loc Cert.AdamS5BRefIdeal.main_arg2) = m ((c.tc : Thread Cert.AdamS5BIdeal.nD Cert.AdamS5BIdeal.τ).loc Cert.AdamS5BIdeal.main_arg2)
      ∧ m' ((c.tc : Thread Cert.AdamS5BRefIdeal.nD Cert.AdamS5BRefIdeal.τ).loc Cert.AdamS5BRefIdeal.main_arg3) = m ((c.tc : Thread Cert.AdamS5BIdeal.nD Cert.AdamS5BIdeal.τ).loc Cert.AdamS5BIdeal.main_arg3)) →
    ∃ (v0 : (c : Dev Cert.AdamS5BIdeal.nD) → Buf (Elt Ideal) ((c.tc : Thread Cert.AdamS5BIdeal.nD Cert.AdamS5BIdeal.τ).loc Cert.AdamS5BIdeal.main_v4_0)) (v1 : (c : Dev Cert.AdamS5BIdeal.nD) → Buf (Elt Ideal) ((c.tc : Thread Cert.AdamS5BIdeal.nD Cert.AdamS5BIdeal.τ).loc Cert.AdamS5BIdeal.main_v4_1)) (v2 : (c : Dev Cert.AdamS5BIdeal.nD) → Buf (Elt Ideal) ((c.tc : Thread Cert.AdamS5BIdeal.nD Cert.AdamS5BIdeal.τ).loc Cert.AdamS5BIdeal.main_v4_2)) (v3 : (c : Dev Cert.AdamS5BIdeal.nD) → Buf (Elt Ideal) ((c.tc : Thread Cert.AdamS5BIdeal.nD Cert.AdamS5BIdeal.τ).loc Cert.AdamS5BIdeal.main_v4_3)),
      θ_run (Cert.AdamS5BIdeal.defs (F := Ideal)) (onTc (τ := Cert.AdamS5BIdeal.τ) (Cert.AdamS5BIdeal.main (F := Ideal))) ⟨m, fun _ => 0, g⟩ (fun r => ∀ c : Dev Cert.AdamS5BIdeal.nD,
          r.2.mem ((c.tc : Thread Cert.AdamS5BIdeal.nD Cert.AdamS5BIdeal.τ).loc Cert.AdamS5BIdeal.main_v4_0) = v0 c
          ∧ r.2.mem ((c.tc : Thread Cert.AdamS5BIdeal.nD Cert.AdamS5BIdeal.τ).loc Cert.AdamS5BIdeal.main_v4_1) = v1 c
          ∧ r.2.mem ((c.tc : Thread Cert.AdamS5BIdeal.nD Cert.AdamS5BIdeal.τ).loc Cert.AdamS5BIdeal.main_v4_2) = v2 c
          ∧ r.2.mem ((c.tc : Thread Cert.AdamS5BIdeal.nD Cert.AdamS5BIdeal.τ).loc Cert.AdamS5BIdeal.main_v4_3) = v3 c
          ∧ r.2.mem ((c.tc : Thread Cert.AdamS5BIdeal.nD Cert.AdamS5BIdeal.τ).loc Cert.AdamS5BIdeal.main_arg0) = m ((c.tc : Thread Cert.AdamS5BIdeal.nD Cert.AdamS5BIdeal.τ).loc Cert.AdamS5BIdeal.main_arg0)
          ∧ r.2.mem ((c.tc : Thread Cert.AdamS5BIdeal.nD Cert.AdamS5BIdeal.τ).loc Cert.AdamS5BIdeal.main_arg1) = m ((c.tc : Thread Cert.AdamS5BIdeal.nD Cert.AdamS5BIdeal.τ).loc Cert.AdamS5BIdeal.main_arg1)
          ∧ r.2.mem ((c.tc : Thread Cert.AdamS5BIdeal.nD Cert.AdamS5BIdeal.τ).loc Cert.AdamS5BIdeal.main_arg2) = m ((c.tc : Thread Cert.AdamS5BIdeal.nD Cert.AdamS5BIdeal.τ).loc Cert.AdamS5BIdeal.main_arg2)
          ∧ r.2.mem ((c.tc : Thread Cert.AdamS5BIdeal.nD Cert.AdamS5BIdeal.τ).loc Cert.AdamS5BIdeal.main_arg3) = m ((c.tc : Thread Cert.AdamS5BIdeal.nD Cert.AdamS5BIdeal.τ).loc Cert.AdamS5BIdeal.main_arg3))
      ∧ θ_run (Cert.AdamS5BRefIdeal.defs (F := Ideal)) (onTc (τ := Cert.AdamS5BRefIdeal.τ) (Cert.AdamS5BRefIdeal.main (F := Ideal))) ⟨m', fun _ => 0, g'⟩ (fun r => ∀ c : Dev Cert.AdamS5BRefIdeal.nD,
          r.2.mem ((c.tc : Thread Cert.AdamS5BRefIdeal.nD Cert.AdamS5BRefIdeal.τ).loc Cert.AdamS5BRefIdeal.main_v1) = v0 c
          ∧ r.2.mem ((c.tc : Thread Cert.AdamS5BRefIdeal.nD Cert.AdamS5BRefIdeal.τ).loc Cert.AdamS5BRefIdeal.main_v27) = v1 c
          ∧ r.2.mem ((c.tc : Thread Cert.AdamS5BRefIdeal.nD Cert.AdamS5BRefIdeal.τ).loc Cert.AdamS5BRefIdeal.main_v8) = v2 c
          ∧ r.2.mem ((c.tc : Thread Cert.AdamS5BRefIdeal.nD Cert.AdamS5BRefIdeal.τ).loc Cert.AdamS5BRefIdeal.main_v14) = v3 c
          ∧ r.2.mem ((c.tc : Thread Cert.AdamS5BRefIdeal.nD Cert.AdamS5BRefIdeal.τ).loc Cert.AdamS5BRefIdeal.main_arg0) = m' ((c.tc : Thread Cert.AdamS5BRefIdeal.nD Cert.AdamS5BRefIdeal.τ).loc Cert.AdamS5BRefIdeal.main_arg0)
          ∧ r.2.mem ((c.tc : Thread Cert.AdamS5BRefIdeal.nD Cert.AdamS5BRefIdeal.τ).loc Cert.AdamS5BRefIdeal.main_arg1) = m' ((c.tc : Thread Cert.AdamS5BRefIdeal.nD Cert.AdamS5BRefIdeal.τ).loc Cert.AdamS5BRefIdeal.main_arg1)
          ∧ r.2.mem ((c.tc : Thread Cert.AdamS5BRefIdeal.nD Cert.AdamS5BRefIdeal.τ).loc Cert.AdamS5BRefIdeal.main_arg2) = m' ((c.tc : Thread Cert.AdamS5BRefIdeal.nD Cert.AdamS5BRefIdeal.τ).loc Cert.AdamS5BRefIdeal.main_arg2)
          ∧ r.2.mem ((c.tc : Thread Cert.AdamS5BRefIdeal.nD Cert.AdamS5BRefIdeal.τ).loc Cert.AdamS5BRefIdeal.main_arg3) = m' ((c.tc : Thread Cert.AdamS5BRefIdeal.nD Cert.AdamS5BRefIdeal.τ).loc Cert.AdamS5BRefIdeal.main_arg3))

def preserves_AdamS5C_AdamS5CIdeal : Prop :=
  True

def algebraic_AdamS5CIdeal_AdamS5CRefIdeal [hAdamS5CIdeal : Cert.AdamS5CIdeal.Facts] [hAdamS5CRefIdeal : Cert.AdamS5CRefIdeal.Facts] : Prop :=
  ∀ (m : (ℓ : Loc Cert.AdamS5CIdeal.nD Cert.AdamS5CIdeal.τ Cert.AdamS5CIdeal.sig) → Buf (Elt Ideal) ℓ) (g : Dev Cert.AdamS5CIdeal.nD → PrngReg)
    (m' : (ℓ : Loc Cert.AdamS5CRefIdeal.nD Cert.AdamS5CRefIdeal.τ Cert.AdamS5CRefIdeal.sig) → Buf (Elt Ideal) ℓ) (g' : Dev Cert.AdamS5CRefIdeal.nD → PrngReg), Pre_AdamS5CIdeal m →
    (∀ c : Dev Cert.AdamS5CIdeal.nD,
      m' ((c.tc : Thread Cert.AdamS5CRefIdeal.nD Cert.AdamS5CRefIdeal.τ).loc Cert.AdamS5CRefIdeal.main_arg0) = m ((c.tc : Thread Cert.AdamS5CIdeal.nD Cert.AdamS5CIdeal.τ).loc Cert.AdamS5CIdeal.main_arg0)
      ∧ m' ((c.tc : Thread Cert.AdamS5CRefIdeal.nD Cert.AdamS5CRefIdeal.τ).loc Cert.AdamS5CRefIdeal.main_arg1) = m ((c.tc : Thread Cert.AdamS5CIdeal.nD Cert.AdamS5CIdeal.τ).loc Cert.AdamS5CIdeal.main_arg1)
      ∧ m' ((c.tc : Thread Cert.AdamS5CRefIdeal.nD Cert.AdamS5CRefIdeal.τ).loc Cert.AdamS5CRefIdeal.main_arg2) = m ((c.tc : Thread Cert.AdamS5CIdeal.nD Cert.AdamS5CIdeal.τ).loc Cert.AdamS5CIdeal.main_arg2)
      ∧ m' ((c.tc : Thread Cert.AdamS5CRefIdeal.nD Cert.AdamS5CRefIdeal.τ).loc Cert.AdamS5CRefIdeal.main_arg3) = m ((c.tc : Thread Cert.AdamS5CIdeal.nD Cert.AdamS5CIdeal.τ).loc Cert.AdamS5CIdeal.main_arg3)) →
    ∃ (v0 : (c : Dev Cert.AdamS5CIdeal.nD) → Buf (Elt Ideal) ((c.tc : Thread Cert.AdamS5CIdeal.nD Cert.AdamS5CIdeal.τ).loc Cert.AdamS5CIdeal.main_v4_0)) (v1 : (c : Dev Cert.AdamS5CIdeal.nD) → Buf (Elt Ideal) ((c.tc : Thread Cert.AdamS5CIdeal.nD Cert.AdamS5CIdeal.τ).loc Cert.AdamS5CIdeal.main_v4_1)) (v2 : (c : Dev Cert.AdamS5CIdeal.nD) → Buf (Elt Ideal) ((c.tc : Thread Cert.AdamS5CIdeal.nD Cert.AdamS5CIdeal.τ).loc Cert.AdamS5CIdeal.main_v4_2)) (v3 : (c : Dev Cert.AdamS5CIdeal.nD) → Buf (Elt Ideal) ((c.tc : Thread Cert.AdamS5CIdeal.nD Cert.AdamS5CIdeal.τ).loc Cert.AdamS5CIdeal.main_v4_3)),
      θ_run (Cert.AdamS5CIdeal.defs (F := Ideal)) (onTc (τ := Cert.AdamS5CIdeal.τ) (Cert.AdamS5CIdeal.main (F := Ideal))) ⟨m, fun _ => 0, g⟩ (fun r => ∀ c : Dev Cert.AdamS5CIdeal.nD,
          r.2.mem ((c.tc : Thread Cert.AdamS5CIdeal.nD Cert.AdamS5CIdeal.τ).loc Cert.AdamS5CIdeal.main_v4_0) = v0 c
          ∧ r.2.mem ((c.tc : Thread Cert.AdamS5CIdeal.nD Cert.AdamS5CIdeal.τ).loc Cert.AdamS5CIdeal.main_v4_1) = v1 c
          ∧ r.2.mem ((c.tc : Thread Cert.AdamS5CIdeal.nD Cert.AdamS5CIdeal.τ).loc Cert.AdamS5CIdeal.main_v4_2) = v2 c
          ∧ r.2.mem ((c.tc : Thread Cert.AdamS5CIdeal.nD Cert.AdamS5CIdeal.τ).loc Cert.AdamS5CIdeal.main_v4_3) = v3 c
          ∧ r.2.mem ((c.tc : Thread Cert.AdamS5CIdeal.nD Cert.AdamS5CIdeal.τ).loc Cert.AdamS5CIdeal.main_arg0) = m ((c.tc : Thread Cert.AdamS5CIdeal.nD Cert.AdamS5CIdeal.τ).loc Cert.AdamS5CIdeal.main_arg0)
          ∧ r.2.mem ((c.tc : Thread Cert.AdamS5CIdeal.nD Cert.AdamS5CIdeal.τ).loc Cert.AdamS5CIdeal.main_arg1) = m ((c.tc : Thread Cert.AdamS5CIdeal.nD Cert.AdamS5CIdeal.τ).loc Cert.AdamS5CIdeal.main_arg1)
          ∧ r.2.mem ((c.tc : Thread Cert.AdamS5CIdeal.nD Cert.AdamS5CIdeal.τ).loc Cert.AdamS5CIdeal.main_arg2) = m ((c.tc : Thread Cert.AdamS5CIdeal.nD Cert.AdamS5CIdeal.τ).loc Cert.AdamS5CIdeal.main_arg2)
          ∧ r.2.mem ((c.tc : Thread Cert.AdamS5CIdeal.nD Cert.AdamS5CIdeal.τ).loc Cert.AdamS5CIdeal.main_arg3) = m ((c.tc : Thread Cert.AdamS5CIdeal.nD Cert.AdamS5CIdeal.τ).loc Cert.AdamS5CIdeal.main_arg3))
      ∧ θ_run (Cert.AdamS5CRefIdeal.defs (F := Ideal)) (onTc (τ := Cert.AdamS5CRefIdeal.τ) (Cert.AdamS5CRefIdeal.main (F := Ideal))) ⟨m', fun _ => 0, g'⟩ (fun r => ∀ c : Dev Cert.AdamS5CRefIdeal.nD,
          r.2.mem ((c.tc : Thread Cert.AdamS5CRefIdeal.nD Cert.AdamS5CRefIdeal.τ).loc Cert.AdamS5CRefIdeal.main_v1) = v0 c
          ∧ r.2.mem ((c.tc : Thread Cert.AdamS5CRefIdeal.nD Cert.AdamS5CRefIdeal.τ).loc Cert.AdamS5CRefIdeal.main_v27) = v1 c
          ∧ r.2.mem ((c.tc : Thread Cert.AdamS5CRefIdeal.nD Cert.AdamS5CRefIdeal.τ).loc Cert.AdamS5CRefIdeal.main_v8) = v2 c
          ∧ r.2.mem ((c.tc : Thread Cert.AdamS5CRefIdeal.nD Cert.AdamS5CRefIdeal.τ).loc Cert.AdamS5CRefIdeal.main_v14) = v3 c
          ∧ r.2.mem ((c.tc : Thread Cert.AdamS5CRefIdeal.nD Cert.AdamS5CRefIdeal.τ).loc Cert.AdamS5CRefIdeal.main_arg0) = m' ((c.tc : Thread Cert.AdamS5CRefIdeal.nD Cert.AdamS5CRefIdeal.τ).loc Cert.AdamS5CRefIdeal.main_arg0)
          ∧ r.2.mem ((c.tc : Thread Cert.AdamS5CRefIdeal.nD Cert.AdamS5CRefIdeal.τ).loc Cert.AdamS5CRefIdeal.main_arg1) = m' ((c.tc : Thread Cert.AdamS5CRefIdeal.nD Cert.AdamS5CRefIdeal.τ).loc Cert.AdamS5CRefIdeal.main_arg1)
          ∧ r.2.mem ((c.tc : Thread Cert.AdamS5CRefIdeal.nD Cert.AdamS5CRefIdeal.τ).loc Cert.AdamS5CRefIdeal.main_arg2) = m' ((c.tc : Thread Cert.AdamS5CRefIdeal.nD Cert.AdamS5CRefIdeal.τ).loc Cert.AdamS5CRefIdeal.main_arg2)
          ∧ r.2.mem ((c.tc : Thread Cert.AdamS5CRefIdeal.nD Cert.AdamS5CRefIdeal.τ).loc Cert.AdamS5CRefIdeal.main_arg3) = m' ((c.tc : Thread Cert.AdamS5CRefIdeal.nD Cert.AdamS5CRefIdeal.τ).loc Cert.AdamS5CRefIdeal.main_arg3))

def preserves_AdamRow512_AdamRow512Ideal : Prop :=
  True

def algebraic_AdamRow512Ideal_AdamRow512RefIdeal [hAdamRow512Ideal : Cert.AdamRow512Ideal.Facts] [hAdamRow512RefIdeal : Cert.AdamRow512RefIdeal.Facts] : Prop :=
  ∀ (m : (ℓ : Loc Cert.AdamRow512Ideal.nD Cert.AdamRow512Ideal.τ Cert.AdamRow512Ideal.sig) → Buf (Elt Ideal) ℓ) (g : Dev Cert.AdamRow512Ideal.nD → PrngReg)
    (m' : (ℓ : Loc Cert.AdamRow512RefIdeal.nD Cert.AdamRow512RefIdeal.τ Cert.AdamRow512RefIdeal.sig) → Buf (Elt Ideal) ℓ) (g' : Dev Cert.AdamRow512RefIdeal.nD → PrngReg), Pre_AdamRow512Ideal m →
    (∀ c : Dev Cert.AdamRow512Ideal.nD,
      m' ((c.tc : Thread Cert.AdamRow512RefIdeal.nD Cert.AdamRow512RefIdeal.τ).loc Cert.AdamRow512RefIdeal.main_arg0) = m ((c.tc : Thread Cert.AdamRow512Ideal.nD Cert.AdamRow512Ideal.τ).loc Cert.AdamRow512Ideal.main_arg0)
      ∧ m' ((c.tc : Thread Cert.AdamRow512RefIdeal.nD Cert.AdamRow512RefIdeal.τ).loc Cert.AdamRow512RefIdeal.main_arg1) = m ((c.tc : Thread Cert.AdamRow512Ideal.nD Cert.AdamRow512Ideal.τ).loc Cert.AdamRow512Ideal.main_arg1)
      ∧ m' ((c.tc : Thread Cert.AdamRow512RefIdeal.nD Cert.AdamRow512RefIdeal.τ).loc Cert.AdamRow512RefIdeal.main_arg2) = m ((c.tc : Thread Cert.AdamRow512Ideal.nD Cert.AdamRow512Ideal.τ).loc Cert.AdamRow512Ideal.main_arg2)
      ∧ m' ((c.tc : Thread Cert.AdamRow512RefIdeal.nD Cert.AdamRow512RefIdeal.τ).loc Cert.AdamRow512RefIdeal.main_arg3) = m ((c.tc : Thread Cert.AdamRow512Ideal.nD Cert.AdamRow512Ideal.τ).loc Cert.AdamRow512Ideal.main_arg3)) →
    ∃ (v0 : (c : Dev Cert.AdamRow512Ideal.nD) → Buf (Elt Ideal) ((c.tc : Thread Cert.AdamRow512Ideal.nD Cert.AdamRow512Ideal.τ).loc Cert.AdamRow512Ideal.main_v0_0)) (v1 : (c : Dev Cert.AdamRow512Ideal.nD) → Buf (Elt Ideal) ((c.tc : Thread Cert.AdamRow512Ideal.nD Cert.AdamRow512Ideal.τ).loc Cert.AdamRow512Ideal.main_v0_1)) (v2 : (c : Dev Cert.AdamRow512Ideal.nD) → Buf (Elt Ideal) ((c.tc : Thread Cert.AdamRow512Ideal.nD Cert.AdamRow512Ideal.τ).loc Cert.AdamRow512Ideal.main_v0_2)) (v3 : (c : Dev Cert.AdamRow512Ideal.nD) → Buf (Elt Ideal) ((c.tc : Thread Cert.AdamRow512Ideal.nD Cert.AdamRow512Ideal.τ).loc Cert.AdamRow512Ideal.main_v0_3)),
      θ_run (Cert.AdamRow512Ideal.defs (F := Ideal)) (onTc (τ := Cert.AdamRow512Ideal.τ) (Cert.AdamRow512Ideal.main (F := Ideal))) ⟨m, fun _ => 0, g⟩ (fun r => ∀ c : Dev Cert.AdamRow512Ideal.nD,
          r.2.mem ((c.tc : Thread Cert.AdamRow512Ideal.nD Cert.AdamRow512Ideal.τ).loc Cert.AdamRow512Ideal.main_v0_0) = v0 c
          ∧ r.2.mem ((c.tc : Thread Cert.AdamRow512Ideal.nD Cert.AdamRow512Ideal.τ).loc Cert.AdamRow512Ideal.main_v0_1) = v1 c
          ∧ r.2.mem ((c.tc : Thread Cert.AdamRow512Ideal.nD Cert.AdamRow512Ideal.τ).loc Cert.AdamRow512Ideal.main_v0_2) = v2 c
          ∧ r.2.mem ((c.tc : Thread Cert.AdamRow512Ideal.nD Cert.AdamRow512Ideal.τ).loc Cert.AdamRow512Ideal.main_v0_3) = v3 c
          ∧ r.2.mem ((c.tc : Thread Cert.AdamRow512Ideal.nD Cert.AdamRow512Ideal.τ).loc Cert.AdamRow512Ideal.main_arg0) = m ((c.tc : Thread Cert.AdamRow512Ideal.nD Cert.AdamRow512Ideal.τ).loc Cert.AdamRow512Ideal.main_arg0)
          ∧ r.2.mem ((c.tc : Thread Cert.AdamRow512Ideal.nD Cert.AdamRow512Ideal.τ).loc Cert.AdamRow512Ideal.main_arg1) = m ((c.tc : Thread Cert.AdamRow512Ideal.nD Cert.AdamRow512Ideal.τ).loc Cert.AdamRow512Ideal.main_arg1)
          ∧ r.2.mem ((c.tc : Thread Cert.AdamRow512Ideal.nD Cert.AdamRow512Ideal.τ).loc Cert.AdamRow512Ideal.main_arg2) = m ((c.tc : Thread Cert.AdamRow512Ideal.nD Cert.AdamRow512Ideal.τ).loc Cert.AdamRow512Ideal.main_arg2)
          ∧ r.2.mem ((c.tc : Thread Cert.AdamRow512Ideal.nD Cert.AdamRow512Ideal.τ).loc Cert.AdamRow512Ideal.main_arg3) = m ((c.tc : Thread Cert.AdamRow512Ideal.nD Cert.AdamRow512Ideal.τ).loc Cert.AdamRow512Ideal.main_arg3))
      ∧ θ_run (Cert.AdamRow512RefIdeal.defs (F := Ideal)) (onTc (τ := Cert.AdamRow512RefIdeal.τ) (Cert.AdamRow512RefIdeal.main (F := Ideal))) ⟨m', fun _ => 0, g'⟩ (fun r => ∀ c : Dev Cert.AdamRow512RefIdeal.nD,
          r.2.mem ((c.tc : Thread Cert.AdamRow512RefIdeal.nD Cert.AdamRow512RefIdeal.τ).loc Cert.AdamRow512RefIdeal.main_arg1) = v0 c
          ∧ r.2.mem ((c.tc : Thread Cert.AdamRow512RefIdeal.nD Cert.AdamRow512RefIdeal.τ).loc Cert.AdamRow512RefIdeal.main_v23) = v1 c
          ∧ r.2.mem ((c.tc : Thread Cert.AdamRow512RefIdeal.nD Cert.AdamRow512RefIdeal.τ).loc Cert.AdamRow512RefIdeal.main_v4) = v2 c
          ∧ r.2.mem ((c.tc : Thread Cert.AdamRow512RefIdeal.nD Cert.AdamRow512RefIdeal.τ).loc Cert.AdamRow512RefIdeal.main_v10) = v3 c
          ∧ r.2.mem ((c.tc : Thread Cert.AdamRow512RefIdeal.nD Cert.AdamRow512RefIdeal.τ).loc Cert.AdamRow512RefIdeal.main_arg0) = m' ((c.tc : Thread Cert.AdamRow512RefIdeal.nD Cert.AdamRow512RefIdeal.τ).loc Cert.AdamRow512RefIdeal.main_arg0)
          ∧ r.2.mem ((c.tc : Thread Cert.AdamRow512RefIdeal.nD Cert.AdamRow512RefIdeal.τ).loc Cert.AdamRow512RefIdeal.main_arg1) = m' ((c.tc : Thread Cert.AdamRow512RefIdeal.nD Cert.AdamRow512RefIdeal.τ).loc Cert.AdamRow512RefIdeal.main_arg1)
          ∧ r.2.mem ((c.tc : Thread Cert.AdamRow512RefIdeal.nD Cert.AdamRow512RefIdeal.τ).loc Cert.AdamRow512RefIdeal.main_arg2) = m' ((c.tc : Thread Cert.AdamRow512RefIdeal.nD Cert.AdamRow512RefIdeal.τ).loc Cert.AdamRow512RefIdeal.main_arg2)
          ∧ r.2.mem ((c.tc : Thread Cert.AdamRow512RefIdeal.nD Cert.AdamRow512RefIdeal.τ).loc Cert.AdamRow512RefIdeal.main_arg3) = m' ((c.tc : Thread Cert.AdamRow512RefIdeal.nD Cert.AdamRow512RefIdeal.τ).loc Cert.AdamRow512RefIdeal.main_arg3))

def preserves_AdamQNorm_AdamQNormIdeal : Prop :=
  True

def algebraic_AdamQNormIdeal_AdamQNormRefIdeal [hAdamQNormIdeal : Cert.AdamQNormIdeal.Facts] [hAdamQNormRefIdeal : Cert.AdamQNormRefIdeal.Facts] : Prop :=
  ∀ (m : (ℓ : Loc Cert.AdamQNormIdeal.nD Cert.AdamQNormIdeal.τ Cert.AdamQNormIdeal.sig) → Buf (Elt Ideal) ℓ) (g : Dev Cert.AdamQNormIdeal.nD → PrngReg)
    (m' : (ℓ : Loc Cert.AdamQNormRefIdeal.nD Cert.AdamQNormRefIdeal.τ Cert.AdamQNormRefIdeal.sig) → Buf (Elt Ideal) ℓ) (g' : Dev Cert.AdamQNormRefIdeal.nD → PrngReg), Pre_AdamQNormIdeal m →
    (∀ c : Dev Cert.AdamQNormIdeal.nD,
      m' ((c.tc : Thread Cert.AdamQNormRefIdeal.nD Cert.AdamQNormRefIdeal.τ).loc Cert.AdamQNormRefIdeal.main_arg0) = m ((c.tc : Thread Cert.AdamQNormIdeal.nD Cert.AdamQNormIdeal.τ).loc Cert.AdamQNormIdeal.main_arg0)
      ∧ m' ((c.tc : Thread Cert.AdamQNormRefIdeal.nD Cert.AdamQNormRefIdeal.τ).loc Cert.AdamQNormRefIdeal.main_arg1) = m ((c.tc : Thread Cert.AdamQNormIdeal.nD Cert.AdamQNormIdeal.τ).loc Cert.AdamQNormIdeal.main_arg1)
      ∧ m' ((c.tc : Thread Cert.AdamQNormRefIdeal.nD Cert.AdamQNormRefIdeal.τ).loc Cert.AdamQNormRefIdeal.main_arg2) = m ((c.tc : Thread Cert.AdamQNormIdeal.nD Cert.AdamQNormIdeal.τ).loc Cert.AdamQNormIdeal.main_arg2)
      ∧ m' ((c.tc : Thread Cert.AdamQNormRefIdeal.nD Cert.AdamQNormRefIdeal.τ).loc Cert.AdamQNormRefIdeal.main_arg3) = m ((c.tc : Thread Cert.AdamQNormIdeal.nD Cert.AdamQNormIdeal.τ).loc Cert.AdamQNormIdeal.main_arg3)) →
    ∃ (v0 : (c : Dev Cert.AdamQNormIdeal.nD) → Buf (Elt Ideal) ((c.tc : Thread Cert.AdamQNormIdeal.nD Cert.AdamQNormIdeal.τ).loc Cert.AdamQNormIdeal.main_v0_0)) (v1 : (c : Dev Cert.AdamQNormIdeal.nD) → Buf (Elt Ideal) ((c.tc : Thread Cert.AdamQNormIdeal.nD Cert.AdamQNormIdeal.τ).loc Cert.AdamQNormIdeal.main_v0_1)) (v2 : (c : Dev Cert.AdamQNormIdeal.nD) → Buf (Elt Ideal) ((c.tc : Thread Cert.AdamQNormIdeal.nD Cert.AdamQNormIdeal.τ).loc Cert.AdamQNormIdeal.main_v0_2)) (v3 : (c : Dev Cert.AdamQNormIdeal.nD) → Buf (Elt Ideal) ((c.tc : Thread Cert.AdamQNormIdeal.nD Cert.AdamQNormIdeal.τ).loc Cert.AdamQNormIdeal.main_v0_3)),
      θ_run (Cert.AdamQNormIdeal.defs (F := Ideal)) (onTc (τ := Cert.AdamQNormIdeal.τ) (Cert.AdamQNormIdeal.main (F := Ideal))) ⟨m, fun _ => 0, g⟩ (fun r => ∀ c : Dev Cert.AdamQNormIdeal.nD,
          r.2.mem ((c.tc : Thread Cert.AdamQNormIdeal.nD Cert.AdamQNormIdeal.τ).loc Cert.AdamQNormIdeal.main_v0_0) = v0 c
          ∧ r.2.mem ((c.tc : Thread Cert.AdamQNormIdeal.nD Cert.AdamQNormIdeal.τ).loc Cert.AdamQNormIdeal.main_v0_1) = v1 c
          ∧ r.2.mem ((c.tc : Thread Cert.AdamQNormIdeal.nD Cert.AdamQNormIdeal.τ).loc Cert.AdamQNormIdeal.main_v0_2) = v2 c
          ∧ r.2.mem ((c.tc : Thread Cert.AdamQNormIdeal.nD Cert.AdamQNormIdeal.τ).loc Cert.AdamQNormIdeal.main_v0_3) = v3 c
          ∧ r.2.mem ((c.tc : Thread Cert.AdamQNormIdeal.nD Cert.AdamQNormIdeal.τ).loc Cert.AdamQNormIdeal.main_arg0) = m ((c.tc : Thread Cert.AdamQNormIdeal.nD Cert.AdamQNormIdeal.τ).loc Cert.AdamQNormIdeal.main_arg0)
          ∧ r.2.mem ((c.tc : Thread Cert.AdamQNormIdeal.nD Cert.AdamQNormIdeal.τ).loc Cert.AdamQNormIdeal.main_arg1) = m ((c.tc : Thread Cert.AdamQNormIdeal.nD Cert.AdamQNormIdeal.τ).loc Cert.AdamQNormIdeal.main_arg1)
          ∧ r.2.mem ((c.tc : Thread Cert.AdamQNormIdeal.nD Cert.AdamQNormIdeal.τ).loc Cert.AdamQNormIdeal.main_arg2) = m ((c.tc : Thread Cert.AdamQNormIdeal.nD Cert.AdamQNormIdeal.τ).loc Cert.AdamQNormIdeal.main_arg2)
          ∧ r.2.mem ((c.tc : Thread Cert.AdamQNormIdeal.nD Cert.AdamQNormIdeal.τ).loc Cert.AdamQNormIdeal.main_arg3) = m ((c.tc : Thread Cert.AdamQNormIdeal.nD Cert.AdamQNormIdeal.τ).loc Cert.AdamQNormIdeal.main_arg3))
      ∧ θ_run (Cert.AdamQNormRefIdeal.defs (F := Ideal)) (onTc (τ := Cert.AdamQNormRefIdeal.τ) (Cert.AdamQNormRefIdeal.main (F := Ideal))) ⟨m', fun _ => 0, g'⟩ (fun r => ∀ c : Dev Cert.AdamQNormRefIdeal.nD,
          r.2.mem ((c.tc : Thread Cert.AdamQNormRefIdeal.nD Cert.AdamQNormRefIdeal.τ).loc Cert.AdamQNormRefIdeal.main_arg1) = v0 c
          ∧ r.2.mem ((c.tc : Thread Cert.AdamQNormRefIdeal.nD Cert.AdamQNormRefIdeal.τ).loc Cert.AdamQNormRefIdeal.main_v23) = v1 c
          ∧ r.2.mem ((c.tc : Thread Cert.AdamQNormRefIdeal.nD Cert.AdamQNormRefIdeal.τ).loc Cert.AdamQNormRefIdeal.main_v4) = v2 c
          ∧ r.2.mem ((c.tc : Thread Cert.AdamQNormRefIdeal.nD Cert.AdamQNormRefIdeal.τ).loc Cert.AdamQNormRefIdeal.main_v10) = v3 c
          ∧ r.2.mem ((c.tc : Thread Cert.AdamQNormRefIdeal.nD Cert.AdamQNormRefIdeal.τ).loc Cert.AdamQNormRefIdeal.main_arg0) = m' ((c.tc : Thread Cert.AdamQNormRefIdeal.nD Cert.AdamQNormRefIdeal.τ).loc Cert.AdamQNormRefIdeal.main_arg0)
          ∧ r.2.mem ((c.tc : Thread Cert.AdamQNormRefIdeal.nD Cert.AdamQNormRefIdeal.τ).loc Cert.AdamQNormRefIdeal.main_arg1) = m' ((c.tc : Thread Cert.AdamQNormRefIdeal.nD Cert.AdamQNormRefIdeal.τ).loc Cert.AdamQNormRefIdeal.main_arg1)
          ∧ r.2.mem ((c.tc : Thread Cert.AdamQNormRefIdeal.nD Cert.AdamQNormRefIdeal.τ).loc Cert.AdamQNormRefIdeal.main_arg2) = m' ((c.tc : Thread Cert.AdamQNormRefIdeal.nD Cert.AdamQNormRefIdeal.τ).loc Cert.AdamQNormRefIdeal.main_arg2)
          ∧ r.2.mem ((c.tc : Thread Cert.AdamQNormRefIdeal.nD Cert.AdamQNormRefIdeal.τ).loc Cert.AdamQNormRefIdeal.main_arg3) = m' ((c.tc : Thread Cert.AdamQNormRefIdeal.nD Cert.AdamQNormRefIdeal.τ).loc Cert.AdamQNormRefIdeal.main_arg3))

def preserves_AdamKvNorm_AdamKvNormIdeal : Prop :=
  True

def algebraic_AdamKvNormIdeal_AdamKvNormRefIdeal [hAdamKvNormIdeal : Cert.AdamKvNormIdeal.Facts] [hAdamKvNormRefIdeal : Cert.AdamKvNormRefIdeal.Facts] : Prop :=
  ∀ (m : (ℓ : Loc Cert.AdamKvNormIdeal.nD Cert.AdamKvNormIdeal.τ Cert.AdamKvNormIdeal.sig) → Buf (Elt Ideal) ℓ) (g : Dev Cert.AdamKvNormIdeal.nD → PrngReg)
    (m' : (ℓ : Loc Cert.AdamKvNormRefIdeal.nD Cert.AdamKvNormRefIdeal.τ Cert.AdamKvNormRefIdeal.sig) → Buf (Elt Ideal) ℓ) (g' : Dev Cert.AdamKvNormRefIdeal.nD → PrngReg), Pre_AdamKvNormIdeal m →
    (∀ c : Dev Cert.AdamKvNormIdeal.nD,
      m' ((c.tc : Thread Cert.AdamKvNormRefIdeal.nD Cert.AdamKvNormRefIdeal.τ).loc Cert.AdamKvNormRefIdeal.main_arg0) = m ((c.tc : Thread Cert.AdamKvNormIdeal.nD Cert.AdamKvNormIdeal.τ).loc Cert.AdamKvNormIdeal.main_arg0)
      ∧ m' ((c.tc : Thread Cert.AdamKvNormRefIdeal.nD Cert.AdamKvNormRefIdeal.τ).loc Cert.AdamKvNormRefIdeal.main_arg1) = m ((c.tc : Thread Cert.AdamKvNormIdeal.nD Cert.AdamKvNormIdeal.τ).loc Cert.AdamKvNormIdeal.main_arg1)
      ∧ m' ((c.tc : Thread Cert.AdamKvNormRefIdeal.nD Cert.AdamKvNormRefIdeal.τ).loc Cert.AdamKvNormRefIdeal.main_arg2) = m ((c.tc : Thread Cert.AdamKvNormIdeal.nD Cert.AdamKvNormIdeal.τ).loc Cert.AdamKvNormIdeal.main_arg2)
      ∧ m' ((c.tc : Thread Cert.AdamKvNormRefIdeal.nD Cert.AdamKvNormRefIdeal.τ).loc Cert.AdamKvNormRefIdeal.main_arg3) = m ((c.tc : Thread Cert.AdamKvNormIdeal.nD Cert.AdamKvNormIdeal.τ).loc Cert.AdamKvNormIdeal.main_arg3)) →
    ∃ (v0 : (c : Dev Cert.AdamKvNormIdeal.nD) → Buf (Elt Ideal) ((c.tc : Thread Cert.AdamKvNormIdeal.nD Cert.AdamKvNormIdeal.τ).loc Cert.AdamKvNormIdeal.main_v0_0)) (v1 : (c : Dev Cert.AdamKvNormIdeal.nD) → Buf (Elt Ideal) ((c.tc : Thread Cert.AdamKvNormIdeal.nD Cert.AdamKvNormIdeal.τ).loc Cert.AdamKvNormIdeal.main_v0_1)) (v2 : (c : Dev Cert.AdamKvNormIdeal.nD) → Buf (Elt Ideal) ((c.tc : Thread Cert.AdamKvNormIdeal.nD Cert.AdamKvNormIdeal.τ).loc Cert.AdamKvNormIdeal.main_v0_2)) (v3 : (c : Dev Cert.AdamKvNormIdeal.nD) → Buf (Elt Ideal) ((c.tc : Thread Cert.AdamKvNormIdeal.nD Cert.AdamKvNormIdeal.τ).loc Cert.AdamKvNormIdeal.main_v0_3)),
      θ_run (Cert.AdamKvNormIdeal.defs (F := Ideal)) (onTc (τ := Cert.AdamKvNormIdeal.τ) (Cert.AdamKvNormIdeal.main (F := Ideal))) ⟨m, fun _ => 0, g⟩ (fun r => ∀ c : Dev Cert.AdamKvNormIdeal.nD,
          r.2.mem ((c.tc : Thread Cert.AdamKvNormIdeal.nD Cert.AdamKvNormIdeal.τ).loc Cert.AdamKvNormIdeal.main_v0_0) = v0 c
          ∧ r.2.mem ((c.tc : Thread Cert.AdamKvNormIdeal.nD Cert.AdamKvNormIdeal.τ).loc Cert.AdamKvNormIdeal.main_v0_1) = v1 c
          ∧ r.2.mem ((c.tc : Thread Cert.AdamKvNormIdeal.nD Cert.AdamKvNormIdeal.τ).loc Cert.AdamKvNormIdeal.main_v0_2) = v2 c
          ∧ r.2.mem ((c.tc : Thread Cert.AdamKvNormIdeal.nD Cert.AdamKvNormIdeal.τ).loc Cert.AdamKvNormIdeal.main_v0_3) = v3 c
          ∧ r.2.mem ((c.tc : Thread Cert.AdamKvNormIdeal.nD Cert.AdamKvNormIdeal.τ).loc Cert.AdamKvNormIdeal.main_arg0) = m ((c.tc : Thread Cert.AdamKvNormIdeal.nD Cert.AdamKvNormIdeal.τ).loc Cert.AdamKvNormIdeal.main_arg0)
          ∧ r.2.mem ((c.tc : Thread Cert.AdamKvNormIdeal.nD Cert.AdamKvNormIdeal.τ).loc Cert.AdamKvNormIdeal.main_arg1) = m ((c.tc : Thread Cert.AdamKvNormIdeal.nD Cert.AdamKvNormIdeal.τ).loc Cert.AdamKvNormIdeal.main_arg1)
          ∧ r.2.mem ((c.tc : Thread Cert.AdamKvNormIdeal.nD Cert.AdamKvNormIdeal.τ).loc Cert.AdamKvNormIdeal.main_arg2) = m ((c.tc : Thread Cert.AdamKvNormIdeal.nD Cert.AdamKvNormIdeal.τ).loc Cert.AdamKvNormIdeal.main_arg2)
          ∧ r.2.mem ((c.tc : Thread Cert.AdamKvNormIdeal.nD Cert.AdamKvNormIdeal.τ).loc Cert.AdamKvNormIdeal.main_arg3) = m ((c.tc : Thread Cert.AdamKvNormIdeal.nD Cert.AdamKvNormIdeal.τ).loc Cert.AdamKvNormIdeal.main_arg3))
      ∧ θ_run (Cert.AdamKvNormRefIdeal.defs (F := Ideal)) (onTc (τ := Cert.AdamKvNormRefIdeal.τ) (Cert.AdamKvNormRefIdeal.main (F := Ideal))) ⟨m', fun _ => 0, g'⟩ (fun r => ∀ c : Dev Cert.AdamKvNormRefIdeal.nD,
          r.2.mem ((c.tc : Thread Cert.AdamKvNormRefIdeal.nD Cert.AdamKvNormRefIdeal.τ).loc Cert.AdamKvNormRefIdeal.main_arg1) = v0 c
          ∧ r.2.mem ((c.tc : Thread Cert.AdamKvNormRefIdeal.nD Cert.AdamKvNormRefIdeal.τ).loc Cert.AdamKvNormRefIdeal.main_v23) = v1 c
          ∧ r.2.mem ((c.tc : Thread Cert.AdamKvNormRefIdeal.nD Cert.AdamKvNormRefIdeal.τ).loc Cert.AdamKvNormRefIdeal.main_v4) = v2 c
          ∧ r.2.mem ((c.tc : Thread Cert.AdamKvNormRefIdeal.nD Cert.AdamKvNormRefIdeal.τ).loc Cert.AdamKvNormRefIdeal.main_v10) = v3 c
          ∧ r.2.mem ((c.tc : Thread Cert.AdamKvNormRefIdeal.nD Cert.AdamKvNormRefIdeal.τ).loc Cert.AdamKvNormRefIdeal.main_arg0) = m' ((c.tc : Thread Cert.AdamKvNormRefIdeal.nD Cert.AdamKvNormRefIdeal.τ).loc Cert.AdamKvNormRefIdeal.main_arg0)
          ∧ r.2.mem ((c.tc : Thread Cert.AdamKvNormRefIdeal.nD Cert.AdamKvNormRefIdeal.τ).loc Cert.AdamKvNormRefIdeal.main_arg1) = m' ((c.tc : Thread Cert.AdamKvNormRefIdeal.nD Cert.AdamKvNormRefIdeal.τ).loc Cert.AdamKvNormRefIdeal.main_arg1)
          ∧ r.2.mem ((c.tc : Thread Cert.AdamKvNormRefIdeal.nD Cert.AdamKvNormRefIdeal.τ).loc Cert.AdamKvNormRefIdeal.main_arg2) = m' ((c.tc : Thread Cert.AdamKvNormRefIdeal.nD Cert.AdamKvNormRefIdeal.τ).loc Cert.AdamKvNormRefIdeal.main_arg2)
          ∧ r.2.mem ((c.tc : Thread Cert.AdamKvNormRefIdeal.nD Cert.AdamKvNormRefIdeal.τ).loc Cert.AdamKvNormRefIdeal.main_arg3) = m' ((c.tc : Thread Cert.AdamKvNormRefIdeal.nD Cert.AdamKvNormRefIdeal.τ).loc Cert.AdamKvNormRefIdeal.main_arg3))

def preserves_AdamSguW_AdamSguWIdeal : Prop :=
  True

def algebraic_AdamSguWIdeal_AdamSguWRefIdeal [hAdamSguWIdeal : Cert.AdamSguWIdeal.Facts] [hAdamSguWRefIdeal : Cert.AdamSguWRefIdeal.Facts] : Prop :=
  ∀ (m : (ℓ : Loc Cert.AdamSguWIdeal.nD Cert.AdamSguWIdeal.τ Cert.AdamSguWIdeal.sig) → Buf (Elt Ideal) ℓ) (g : Dev Cert.AdamSguWIdeal.nD → PrngReg)
    (m' : (ℓ : Loc Cert.AdamSguWRefIdeal.nD Cert.AdamSguWRefIdeal.τ Cert.AdamSguWRefIdeal.sig) → Buf (Elt Ideal) ℓ) (g' : Dev Cert.AdamSguWRefIdeal.nD → PrngReg), Pre_AdamSguWIdeal m →
    (∀ c : Dev Cert.AdamSguWIdeal.nD,
      m' ((c.tc : Thread Cert.AdamSguWRefIdeal.nD Cert.AdamSguWRefIdeal.τ).loc Cert.AdamSguWRefIdeal.main_arg0) = m ((c.tc : Thread Cert.AdamSguWIdeal.nD Cert.AdamSguWIdeal.τ).loc Cert.AdamSguWIdeal.main_arg0)
      ∧ m' ((c.tc : Thread Cert.AdamSguWRefIdeal.nD Cert.AdamSguWRefIdeal.τ).loc Cert.AdamSguWRefIdeal.main_arg1) = m ((c.tc : Thread Cert.AdamSguWIdeal.nD Cert.AdamSguWIdeal.τ).loc Cert.AdamSguWIdeal.main_arg1)
      ∧ m' ((c.tc : Thread Cert.AdamSguWRefIdeal.nD Cert.AdamSguWRefIdeal.τ).loc Cert.AdamSguWRefIdeal.main_arg2) = m ((c.tc : Thread Cert.AdamSguWIdeal.nD Cert.AdamSguWIdeal.τ).loc Cert.AdamSguWIdeal.main_arg2)
      ∧ m' ((c.tc : Thread Cert.AdamSguWRefIdeal.nD Cert.AdamSguWRefIdeal.τ).loc Cert.AdamSguWRefIdeal.main_arg3) = m ((c.tc : Thread Cert.AdamSguWIdeal.nD Cert.AdamSguWIdeal.τ).loc Cert.AdamSguWIdeal.main_arg3)) →
    ∃ (v0 : (c : Dev Cert.AdamSguWIdeal.nD) → Buf (Elt Ideal) ((c.tc : Thread Cert.AdamSguWIdeal.nD Cert.AdamSguWIdeal.τ).loc Cert.AdamSguWIdeal.main_v4_0)) (v1 : (c : Dev Cert.AdamSguWIdeal.nD) → Buf (Elt Ideal) ((c.tc : Thread Cert.AdamSguWIdeal.nD Cert.AdamSguWIdeal.τ).loc Cert.AdamSguWIdeal.main_v4_1)) (v2 : (c : Dev Cert.AdamSguWIdeal.nD) → Buf (Elt Ideal) ((c.tc : Thread Cert.AdamSguWIdeal.nD Cert.AdamSguWIdeal.τ).loc Cert.AdamSguWIdeal.main_v4_2)) (v3 : (c : Dev Cert.AdamSguWIdeal.nD) → Buf (Elt Ideal) ((c.tc : Thread Cert.AdamSguWIdeal.nD Cert.AdamSguWIdeal.τ).loc Cert.AdamSguWIdeal.main_v4_3)),
      θ_run (Cert.AdamSguWIdeal.defs (F := Ideal)) (onTc (τ := Cert.AdamSguWIdeal.τ) (Cert.AdamSguWIdeal.main (F := Ideal))) ⟨m, fun _ => 0, g⟩ (fun r => ∀ c : Dev Cert.AdamSguWIdeal.nD,
          r.2.mem ((c.tc : Thread Cert.AdamSguWIdeal.nD Cert.AdamSguWIdeal.τ).loc Cert.AdamSguWIdeal.main_v4_0) = v0 c
          ∧ r.2.mem ((c.tc : Thread Cert.AdamSguWIdeal.nD Cert.AdamSguWIdeal.τ).loc Cert.AdamSguWIdeal.main_v4_1) = v1 c
          ∧ r.2.mem ((c.tc : Thread Cert.AdamSguWIdeal.nD Cert.AdamSguWIdeal.τ).loc Cert.AdamSguWIdeal.main_v4_2) = v2 c
          ∧ r.2.mem ((c.tc : Thread Cert.AdamSguWIdeal.nD Cert.AdamSguWIdeal.τ).loc Cert.AdamSguWIdeal.main_v4_3) = v3 c
          ∧ r.2.mem ((c.tc : Thread Cert.AdamSguWIdeal.nD Cert.AdamSguWIdeal.τ).loc Cert.AdamSguWIdeal.main_arg0) = m ((c.tc : Thread Cert.AdamSguWIdeal.nD Cert.AdamSguWIdeal.τ).loc Cert.AdamSguWIdeal.main_arg0)
          ∧ r.2.mem ((c.tc : Thread Cert.AdamSguWIdeal.nD Cert.AdamSguWIdeal.τ).loc Cert.AdamSguWIdeal.main_arg1) = m ((c.tc : Thread Cert.AdamSguWIdeal.nD Cert.AdamSguWIdeal.τ).loc Cert.AdamSguWIdeal.main_arg1)
          ∧ r.2.mem ((c.tc : Thread Cert.AdamSguWIdeal.nD Cert.AdamSguWIdeal.τ).loc Cert.AdamSguWIdeal.main_arg2) = m ((c.tc : Thread Cert.AdamSguWIdeal.nD Cert.AdamSguWIdeal.τ).loc Cert.AdamSguWIdeal.main_arg2)
          ∧ r.2.mem ((c.tc : Thread Cert.AdamSguWIdeal.nD Cert.AdamSguWIdeal.τ).loc Cert.AdamSguWIdeal.main_arg3) = m ((c.tc : Thread Cert.AdamSguWIdeal.nD Cert.AdamSguWIdeal.τ).loc Cert.AdamSguWIdeal.main_arg3))
      ∧ θ_run (Cert.AdamSguWRefIdeal.defs (F := Ideal)) (onTc (τ := Cert.AdamSguWRefIdeal.τ) (Cert.AdamSguWRefIdeal.main (F := Ideal))) ⟨m', fun _ => 0, g'⟩ (fun r => ∀ c : Dev Cert.AdamSguWRefIdeal.nD,
          r.2.mem ((c.tc : Thread Cert.AdamSguWRefIdeal.nD Cert.AdamSguWRefIdeal.τ).loc Cert.AdamSguWRefIdeal.main_v1) = v0 c
          ∧ r.2.mem ((c.tc : Thread Cert.AdamSguWRefIdeal.nD Cert.AdamSguWRefIdeal.τ).loc Cert.AdamSguWRefIdeal.main_v27) = v1 c
          ∧ r.2.mem ((c.tc : Thread Cert.AdamSguWRefIdeal.nD Cert.AdamSguWRefIdeal.τ).loc Cert.AdamSguWRefIdeal.main_v8) = v2 c
          ∧ r.2.mem ((c.tc : Thread Cert.AdamSguWRefIdeal.nD Cert.AdamSguWRefIdeal.τ).loc Cert.AdamSguWRefIdeal.main_v14) = v3 c
          ∧ r.2.mem ((c.tc : Thread Cert.AdamSguWRefIdeal.nD Cert.AdamSguWRefIdeal.τ).loc Cert.AdamSguWRefIdeal.main_arg0) = m' ((c.tc : Thread Cert.AdamSguWRefIdeal.nD Cert.AdamSguWRefIdeal.τ).loc Cert.AdamSguWRefIdeal.main_arg0)
          ∧ r.2.mem ((c.tc : Thread Cert.AdamSguWRefIdeal.nD Cert.AdamSguWRefIdeal.τ).loc Cert.AdamSguWRefIdeal.main_arg1) = m' ((c.tc : Thread Cert.AdamSguWRefIdeal.nD Cert.AdamSguWRefIdeal.τ).loc Cert.AdamSguWRefIdeal.main_arg1)
          ∧ r.2.mem ((c.tc : Thread Cert.AdamSguWRefIdeal.nD Cert.AdamSguWRefIdeal.τ).loc Cert.AdamSguWRefIdeal.main_arg2) = m' ((c.tc : Thread Cert.AdamSguWRefIdeal.nD Cert.AdamSguWRefIdeal.τ).loc Cert.AdamSguWRefIdeal.main_arg2)
          ∧ r.2.mem ((c.tc : Thread Cert.AdamSguWRefIdeal.nD Cert.AdamSguWRefIdeal.τ).loc Cert.AdamSguWRefIdeal.main_arg3) = m' ((c.tc : Thread Cert.AdamSguWRefIdeal.nD Cert.AdamSguWRefIdeal.τ).loc Cert.AdamSguWRefIdeal.main_arg3))

def preserves_AdamSguB_AdamSguBIdeal : Prop :=
  True

def algebraic_AdamSguBIdeal_AdamSguBRefIdeal [hAdamSguBIdeal : Cert.AdamSguBIdeal.Facts] [hAdamSguBRefIdeal : Cert.AdamSguBRefIdeal.Facts] : Prop :=
  ∀ (m : (ℓ : Loc Cert.AdamSguBIdeal.nD Cert.AdamSguBIdeal.τ Cert.AdamSguBIdeal.sig) → Buf (Elt Ideal) ℓ) (g : Dev Cert.AdamSguBIdeal.nD → PrngReg)
    (m' : (ℓ : Loc Cert.AdamSguBRefIdeal.nD Cert.AdamSguBRefIdeal.τ Cert.AdamSguBRefIdeal.sig) → Buf (Elt Ideal) ℓ) (g' : Dev Cert.AdamSguBRefIdeal.nD → PrngReg), Pre_AdamSguBIdeal m →
    (∀ c : Dev Cert.AdamSguBIdeal.nD,
      m' ((c.tc : Thread Cert.AdamSguBRefIdeal.nD Cert.AdamSguBRefIdeal.τ).loc Cert.AdamSguBRefIdeal.main_arg0) = m ((c.tc : Thread Cert.AdamSguBIdeal.nD Cert.AdamSguBIdeal.τ).loc Cert.AdamSguBIdeal.main_arg0)
      ∧ m' ((c.tc : Thread Cert.AdamSguBRefIdeal.nD Cert.AdamSguBRefIdeal.τ).loc Cert.AdamSguBRefIdeal.main_arg1) = m ((c.tc : Thread Cert.AdamSguBIdeal.nD Cert.AdamSguBIdeal.τ).loc Cert.AdamSguBIdeal.main_arg1)
      ∧ m' ((c.tc : Thread Cert.AdamSguBRefIdeal.nD Cert.AdamSguBRefIdeal.τ).loc Cert.AdamSguBRefIdeal.main_arg2) = m ((c.tc : Thread Cert.AdamSguBIdeal.nD Cert.AdamSguBIdeal.τ).loc Cert.AdamSguBIdeal.main_arg2)
      ∧ m' ((c.tc : Thread Cert.AdamSguBRefIdeal.nD Cert.AdamSguBRefIdeal.τ).loc Cert.AdamSguBRefIdeal.main_arg3) = m ((c.tc : Thread Cert.AdamSguBIdeal.nD Cert.AdamSguBIdeal.τ).loc Cert.AdamSguBIdeal.main_arg3)) →
    ∃ (v0 : (c : Dev Cert.AdamSguBIdeal.nD) → Buf (Elt Ideal) ((c.tc : Thread Cert.AdamSguBIdeal.nD Cert.AdamSguBIdeal.τ).loc Cert.AdamSguBIdeal.main_v4_0)) (v1 : (c : Dev Cert.AdamSguBIdeal.nD) → Buf (Elt Ideal) ((c.tc : Thread Cert.AdamSguBIdeal.nD Cert.AdamSguBIdeal.τ).loc Cert.AdamSguBIdeal.main_v4_1)) (v2 : (c : Dev Cert.AdamSguBIdeal.nD) → Buf (Elt Ideal) ((c.tc : Thread Cert.AdamSguBIdeal.nD Cert.AdamSguBIdeal.τ).loc Cert.AdamSguBIdeal.main_v4_2)) (v3 : (c : Dev Cert.AdamSguBIdeal.nD) → Buf (Elt Ideal) ((c.tc : Thread Cert.AdamSguBIdeal.nD Cert.AdamSguBIdeal.τ).loc Cert.AdamSguBIdeal.main_v4_3)),
      θ_run (Cert.AdamSguBIdeal.defs (F := Ideal)) (onTc (τ := Cert.AdamSguBIdeal.τ) (Cert.AdamSguBIdeal.main (F := Ideal))) ⟨m, fun _ => 0, g⟩ (fun r => ∀ c : Dev Cert.AdamSguBIdeal.nD,
          r.2.mem ((c.tc : Thread Cert.AdamSguBIdeal.nD Cert.AdamSguBIdeal.τ).loc Cert.AdamSguBIdeal.main_v4_0) = v0 c
          ∧ r.2.mem ((c.tc : Thread Cert.AdamSguBIdeal.nD Cert.AdamSguBIdeal.τ).loc Cert.AdamSguBIdeal.main_v4_1) = v1 c
          ∧ r.2.mem ((c.tc : Thread Cert.AdamSguBIdeal.nD Cert.AdamSguBIdeal.τ).loc Cert.AdamSguBIdeal.main_v4_2) = v2 c
          ∧ r.2.mem ((c.tc : Thread Cert.AdamSguBIdeal.nD Cert.AdamSguBIdeal.τ).loc Cert.AdamSguBIdeal.main_v4_3) = v3 c
          ∧ r.2.mem ((c.tc : Thread Cert.AdamSguBIdeal.nD Cert.AdamSguBIdeal.τ).loc Cert.AdamSguBIdeal.main_arg0) = m ((c.tc : Thread Cert.AdamSguBIdeal.nD Cert.AdamSguBIdeal.τ).loc Cert.AdamSguBIdeal.main_arg0)
          ∧ r.2.mem ((c.tc : Thread Cert.AdamSguBIdeal.nD Cert.AdamSguBIdeal.τ).loc Cert.AdamSguBIdeal.main_arg1) = m ((c.tc : Thread Cert.AdamSguBIdeal.nD Cert.AdamSguBIdeal.τ).loc Cert.AdamSguBIdeal.main_arg1)
          ∧ r.2.mem ((c.tc : Thread Cert.AdamSguBIdeal.nD Cert.AdamSguBIdeal.τ).loc Cert.AdamSguBIdeal.main_arg2) = m ((c.tc : Thread Cert.AdamSguBIdeal.nD Cert.AdamSguBIdeal.τ).loc Cert.AdamSguBIdeal.main_arg2)
          ∧ r.2.mem ((c.tc : Thread Cert.AdamSguBIdeal.nD Cert.AdamSguBIdeal.τ).loc Cert.AdamSguBIdeal.main_arg3) = m ((c.tc : Thread Cert.AdamSguBIdeal.nD Cert.AdamSguBIdeal.τ).loc Cert.AdamSguBIdeal.main_arg3))
      ∧ θ_run (Cert.AdamSguBRefIdeal.defs (F := Ideal)) (onTc (τ := Cert.AdamSguBRefIdeal.τ) (Cert.AdamSguBRefIdeal.main (F := Ideal))) ⟨m', fun _ => 0, g'⟩ (fun r => ∀ c : Dev Cert.AdamSguBRefIdeal.nD,
          r.2.mem ((c.tc : Thread Cert.AdamSguBRefIdeal.nD Cert.AdamSguBRefIdeal.τ).loc Cert.AdamSguBRefIdeal.main_v1) = v0 c
          ∧ r.2.mem ((c.tc : Thread Cert.AdamSguBRefIdeal.nD Cert.AdamSguBRefIdeal.τ).loc Cert.AdamSguBRefIdeal.main_v27) = v1 c
          ∧ r.2.mem ((c.tc : Thread Cert.AdamSguBRefIdeal.nD Cert.AdamSguBRefIdeal.τ).loc Cert.AdamSguBRefIdeal.main_v8) = v2 c
          ∧ r.2.mem ((c.tc : Thread Cert.AdamSguBRefIdeal.nD Cert.AdamSguBRefIdeal.τ).loc Cert.AdamSguBRefIdeal.main_v14) = v3 c
          ∧ r.2.mem ((c.tc : Thread Cert.AdamSguBRefIdeal.nD Cert.AdamSguBRefIdeal.τ).loc Cert.AdamSguBRefIdeal.main_arg0) = m' ((c.tc : Thread Cert.AdamSguBRefIdeal.nD Cert.AdamSguBRefIdeal.τ).loc Cert.AdamSguBRefIdeal.main_arg0)
          ∧ r.2.mem ((c.tc : Thread Cert.AdamSguBRefIdeal.nD Cert.AdamSguBRefIdeal.τ).loc Cert.AdamSguBRefIdeal.main_arg1) = m' ((c.tc : Thread Cert.AdamSguBRefIdeal.nD Cert.AdamSguBRefIdeal.τ).loc Cert.AdamSguBRefIdeal.main_arg1)
          ∧ r.2.mem ((c.tc : Thread Cert.AdamSguBRefIdeal.nD Cert.AdamSguBRefIdeal.τ).loc Cert.AdamSguBRefIdeal.main_arg2) = m' ((c.tc : Thread Cert.AdamSguBRefIdeal.nD Cert.AdamSguBRefIdeal.τ).loc Cert.AdamSguBRefIdeal.main_arg2)
          ∧ r.2.mem ((c.tc : Thread Cert.AdamSguBRefIdeal.nD Cert.AdamSguBRefIdeal.τ).loc Cert.AdamSguBRefIdeal.main_arg3) = m' ((c.tc : Thread Cert.AdamSguBRefIdeal.nD Cert.AdamSguBRefIdeal.τ).loc Cert.AdamSguBRefIdeal.main_arg3))

def preserves_AdamRow1024_AdamRow1024Ideal : Prop :=
  True

def algebraic_AdamRow1024Ideal_AdamRow1024RefIdeal [hAdamRow1024Ideal : Cert.AdamRow1024Ideal.Facts] [hAdamRow1024RefIdeal : Cert.AdamRow1024RefIdeal.Facts] : Prop :=
  ∀ (m : (ℓ : Loc Cert.AdamRow1024Ideal.nD Cert.AdamRow1024Ideal.τ Cert.AdamRow1024Ideal.sig) → Buf (Elt Ideal) ℓ) (g : Dev Cert.AdamRow1024Ideal.nD → PrngReg)
    (m' : (ℓ : Loc Cert.AdamRow1024RefIdeal.nD Cert.AdamRow1024RefIdeal.τ Cert.AdamRow1024RefIdeal.sig) → Buf (Elt Ideal) ℓ) (g' : Dev Cert.AdamRow1024RefIdeal.nD → PrngReg), Pre_AdamRow1024Ideal m →
    (∀ c : Dev Cert.AdamRow1024Ideal.nD,
      m' ((c.tc : Thread Cert.AdamRow1024RefIdeal.nD Cert.AdamRow1024RefIdeal.τ).loc Cert.AdamRow1024RefIdeal.main_arg0) = m ((c.tc : Thread Cert.AdamRow1024Ideal.nD Cert.AdamRow1024Ideal.τ).loc Cert.AdamRow1024Ideal.main_arg0)
      ∧ m' ((c.tc : Thread Cert.AdamRow1024RefIdeal.nD Cert.AdamRow1024RefIdeal.τ).loc Cert.AdamRow1024RefIdeal.main_arg1) = m ((c.tc : Thread Cert.AdamRow1024Ideal.nD Cert.AdamRow1024Ideal.τ).loc Cert.AdamRow1024Ideal.main_arg1)
      ∧ m' ((c.tc : Thread Cert.AdamRow1024RefIdeal.nD Cert.AdamRow1024RefIdeal.τ).loc Cert.AdamRow1024RefIdeal.main_arg2) = m ((c.tc : Thread Cert.AdamRow1024Ideal.nD Cert.AdamRow1024Ideal.τ).loc Cert.AdamRow1024Ideal.main_arg2)
      ∧ m' ((c.tc : Thread Cert.AdamRow1024RefIdeal.nD Cert.AdamRow1024RefIdeal.τ).loc Cert.AdamRow1024RefIdeal.main_arg3) = m ((c.tc : Thread Cert.AdamRow1024Ideal.nD Cert.AdamRow1024Ideal.τ).loc Cert.AdamRow1024Ideal.main_arg3)) →
    ∃ (v0 : (c : Dev Cert.AdamRow1024Ideal.nD) → Buf (Elt Ideal) ((c.tc : Thread Cert.AdamRow1024Ideal.nD Cert.AdamRow1024Ideal.τ).loc Cert.AdamRow1024Ideal.main_v0_0)) (v1 : (c : Dev Cert.AdamRow1024Ideal.nD) → Buf (Elt Ideal) ((c.tc : Thread Cert.AdamRow1024Ideal.nD Cert.AdamRow1024Ideal.τ).loc Cert.AdamRow1024Ideal.main_v0_1)) (v2 : (c : Dev Cert.AdamRow1024Ideal.nD) → Buf (Elt Ideal) ((c.tc : Thread Cert.AdamRow1024Ideal.nD Cert.AdamRow1024Ideal.τ).loc Cert.AdamRow1024Ideal.main_v0_2)) (v3 : (c : Dev Cert.AdamRow1024Ideal.nD) → Buf (Elt Ideal) ((c.tc : Thread Cert.AdamRow1024Ideal.nD Cert.AdamRow1024Ideal.τ).loc Cert.AdamRow1024Ideal.main_v0_3)),
      θ_run (Cert.AdamRow1024Ideal.defs (F := Ideal)) (onTc (τ := Cert.AdamRow1024Ideal.τ) (Cert.AdamRow1024Ideal.main (F := Ideal))) ⟨m, fun _ => 0, g⟩ (fun r => ∀ c : Dev Cert.AdamRow1024Ideal.nD,
          r.2.mem ((c.tc : Thread Cert.AdamRow1024Ideal.nD Cert.AdamRow1024Ideal.τ).loc Cert.AdamRow1024Ideal.main_v0_0) = v0 c
          ∧ r.2.mem ((c.tc : Thread Cert.AdamRow1024Ideal.nD Cert.AdamRow1024Ideal.τ).loc Cert.AdamRow1024Ideal.main_v0_1) = v1 c
          ∧ r.2.mem ((c.tc : Thread Cert.AdamRow1024Ideal.nD Cert.AdamRow1024Ideal.τ).loc Cert.AdamRow1024Ideal.main_v0_2) = v2 c
          ∧ r.2.mem ((c.tc : Thread Cert.AdamRow1024Ideal.nD Cert.AdamRow1024Ideal.τ).loc Cert.AdamRow1024Ideal.main_v0_3) = v3 c
          ∧ r.2.mem ((c.tc : Thread Cert.AdamRow1024Ideal.nD Cert.AdamRow1024Ideal.τ).loc Cert.AdamRow1024Ideal.main_arg0) = m ((c.tc : Thread Cert.AdamRow1024Ideal.nD Cert.AdamRow1024Ideal.τ).loc Cert.AdamRow1024Ideal.main_arg0)
          ∧ r.2.mem ((c.tc : Thread Cert.AdamRow1024Ideal.nD Cert.AdamRow1024Ideal.τ).loc Cert.AdamRow1024Ideal.main_arg1) = m ((c.tc : Thread Cert.AdamRow1024Ideal.nD Cert.AdamRow1024Ideal.τ).loc Cert.AdamRow1024Ideal.main_arg1)
          ∧ r.2.mem ((c.tc : Thread Cert.AdamRow1024Ideal.nD Cert.AdamRow1024Ideal.τ).loc Cert.AdamRow1024Ideal.main_arg2) = m ((c.tc : Thread Cert.AdamRow1024Ideal.nD Cert.AdamRow1024Ideal.τ).loc Cert.AdamRow1024Ideal.main_arg2)
          ∧ r.2.mem ((c.tc : Thread Cert.AdamRow1024Ideal.nD Cert.AdamRow1024Ideal.τ).loc Cert.AdamRow1024Ideal.main_arg3) = m ((c.tc : Thread Cert.AdamRow1024Ideal.nD Cert.AdamRow1024Ideal.τ).loc Cert.AdamRow1024Ideal.main_arg3))
      ∧ θ_run (Cert.AdamRow1024RefIdeal.defs (F := Ideal)) (onTc (τ := Cert.AdamRow1024RefIdeal.τ) (Cert.AdamRow1024RefIdeal.main (F := Ideal))) ⟨m', fun _ => 0, g'⟩ (fun r => ∀ c : Dev Cert.AdamRow1024RefIdeal.nD,
          r.2.mem ((c.tc : Thread Cert.AdamRow1024RefIdeal.nD Cert.AdamRow1024RefIdeal.τ).loc Cert.AdamRow1024RefIdeal.main_arg1) = v0 c
          ∧ r.2.mem ((c.tc : Thread Cert.AdamRow1024RefIdeal.nD Cert.AdamRow1024RefIdeal.τ).loc Cert.AdamRow1024RefIdeal.main_v23) = v1 c
          ∧ r.2.mem ((c.tc : Thread Cert.AdamRow1024RefIdeal.nD Cert.AdamRow1024RefIdeal.τ).loc Cert.AdamRow1024RefIdeal.main_v4) = v2 c
          ∧ r.2.mem ((c.tc : Thread Cert.AdamRow1024RefIdeal.nD Cert.AdamRow1024RefIdeal.τ).loc Cert.AdamRow1024RefIdeal.main_v10) = v3 c
          ∧ r.2.mem ((c.tc : Thread Cert.AdamRow1024RefIdeal.nD Cert.AdamRow1024RefIdeal.τ).loc Cert.AdamRow1024RefIdeal.main_arg0) = m' ((c.tc : Thread Cert.AdamRow1024RefIdeal.nD Cert.AdamRow1024RefIdeal.τ).loc Cert.AdamRow1024RefIdeal.main_arg0)
          ∧ r.2.mem ((c.tc : Thread Cert.AdamRow1024RefIdeal.nD Cert.AdamRow1024RefIdeal.τ).loc Cert.AdamRow1024RefIdeal.main_arg1) = m' ((c.tc : Thread Cert.AdamRow1024RefIdeal.nD Cert.AdamRow1024RefIdeal.τ).loc Cert.AdamRow1024RefIdeal.main_arg1)
          ∧ r.2.mem ((c.tc : Thread Cert.AdamRow1024RefIdeal.nD Cert.AdamRow1024RefIdeal.τ).loc Cert.AdamRow1024RefIdeal.main_arg2) = m' ((c.tc : Thread Cert.AdamRow1024RefIdeal.nD Cert.AdamRow1024RefIdeal.τ).loc Cert.AdamRow1024RefIdeal.main_arg2)
          ∧ r.2.mem ((c.tc : Thread Cert.AdamRow1024RefIdeal.nD Cert.AdamRow1024RefIdeal.τ).loc Cert.AdamRow1024RefIdeal.main_arg3) = m' ((c.tc : Thread Cert.AdamRow1024RefIdeal.nD Cert.AdamRow1024RefIdeal.τ).loc Cert.AdamRow1024RefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)
      ∧ m' ((c.tc : Thread Cert.AdamWInRefIdeal.nD Cert.AdamWInRefIdeal.τ).loc Cert.AdamWInRefIdeal.main_arg4) = m ((c.tc : Thread Cert.AdamWInIdeal.nD Cert.AdamWInIdeal.τ).loc Cert.AdamWInIdeal.main_arg4)
      ∧ m' ((c.tc : Thread Cert.AdamWInRefIdeal.nD Cert.AdamWInRefIdeal.τ).loc Cert.AdamWInRefIdeal.main_arg5) = m ((c.tc : Thread Cert.AdamWInIdeal.nD Cert.AdamWInIdeal.τ).loc Cert.AdamWInIdeal.main_arg5)
      ∧ m' ((c.tc : Thread Cert.AdamWInRefIdeal.nD Cert.AdamWInRefIdeal.τ).loc Cert.AdamWInRefIdeal.main_arg6) = m ((c.tc : Thread Cert.AdamWInIdeal.nD Cert.AdamWInIdeal.τ).loc Cert.AdamWInIdeal.main_arg6)) →
    ∃ (v0 : (c : Dev Cert.AdamWInIdeal.nD) → Buf (Elt Ideal) ((c.tc : Thread Cert.AdamWInIdeal.nD Cert.AdamWInIdeal.τ).loc Cert.AdamWInIdeal.main_v3_0)) (v1 : (c : Dev Cert.AdamWInIdeal.nD) → Buf (Elt Ideal) ((c.tc : Thread Cert.AdamWInIdeal.nD Cert.AdamWInIdeal.τ).loc Cert.AdamWInIdeal.main_v3_1)) (v2 : (c : Dev Cert.AdamWInIdeal.nD) → Buf (Elt Ideal) ((c.tc : Thread Cert.AdamWInIdeal.nD Cert.AdamWInIdeal.τ).loc Cert.AdamWInIdeal.main_v3_2)) (v3 : (c : Dev Cert.AdamWInIdeal.nD) → Buf (Elt Ideal) ((c.tc : Thread Cert.AdamWInIdeal.nD Cert.AdamWInIdeal.τ).loc Cert.AdamWInIdeal.main_v3_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v3_0) = v0 c
          ∧ r.2.mem ((c.tc : Thread Cert.AdamWInIdeal.nD Cert.AdamWInIdeal.τ).loc Cert.AdamWInIdeal.main_v3_1) = v1 c
          ∧ r.2.mem ((c.tc : Thread Cert.AdamWInIdeal.nD Cert.AdamWInIdeal.τ).loc Cert.AdamWInIdeal.main_v3_2) = v2 c
          ∧ r.2.mem ((c.tc : Thread Cert.AdamWInIdeal.nD Cert.AdamWInIdeal.τ).loc Cert.AdamWInIdeal.main_v3_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
          ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4)
          ∧ r.2.mem ((c.tc : Thread Cert.AdamWInIdeal.nD Cert.AdamWInIdeal.τ).loc Cert.AdamWInIdeal.main_arg5) = m ((c.tc : Thread Cert.AdamWInIdeal.nD Cert.AdamWInIdeal.τ).loc Cert.AdamWInIdeal.main_arg5)
          ∧ r.2.mem ((c.tc : Thread Cert.AdamWInIdeal.nD Cert.AdamWInIdeal.τ).loc Cert.AdamWInIdeal.main_arg6) = m ((c.tc : Thread Cert.AdamWInIdeal.nD Cert.AdamWInIdeal.τ).loc Cert.AdamWInIdeal.main_arg6))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v14) = v0 c
          ∧ r.2.mem ((c.tc : Thread Cert.AdamWInRefIdeal.nD Cert.AdamWInRefIdeal.τ).loc Cert.AdamWInRefIdeal.main_v40) = v1 c
          ∧ r.2.mem ((c.tc : Thread Cert.AdamWInRefIdeal.nD Cert.AdamWInRefIdeal.τ).loc Cert.AdamWInRefIdeal.main_v21) = v2 c
          ∧ r.2.mem ((c.tc : Thread Cert.AdamWInRefIdeal.nD Cert.AdamWInRefIdeal.τ).loc Cert.AdamWInRefIdeal.main_v27) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3)
          ∧ r.2.mem ((c.tc : Thread Cert.AdamWInRefIdeal.nD Cert.AdamWInRefIdeal.τ).loc Cert.AdamWInRefIdeal.main_arg4) = m' ((c.tc : Thread Cert.AdamWInRefIdeal.nD Cert.AdamWInRefIdeal.τ).loc Cert.AdamWInRefIdeal.main_arg4)
          ∧ r.2.mem ((c.tc : Thread Cert.AdamWInRefIdeal.nD Cert.AdamWInRefIdeal.τ).loc Cert.AdamWInRefIdeal.main_arg5) = m' ((c.tc : Thread Cert.AdamWInRefIdeal.nD Cert.AdamWInRefIdeal.τ).loc Cert.AdamWInRefIdeal.main_arg5)
          ∧ r.2.mem ((c.tc : Thread Cert.AdamWInRefIdeal.nD Cert.AdamWInRefIdeal.τ).loc Cert.AdamWInRefIdeal.main_arg6) = m' ((c.tc : Thread Cert.AdamWInRefIdeal.nD Cert.AdamWInRefIdeal.τ).loc Cert.AdamWInRefIdeal.main_arg6))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)
      ∧ m' ((c.tc : Thread Cert.AdamGluRefIdeal.nD Cert.AdamGluRefIdeal.τ).loc Cert.AdamGluRefIdeal.main_arg4) = m ((c.tc : Thread Cert.AdamGluIdeal.nD Cert.AdamGluIdeal.τ).loc Cert.AdamGluIdeal.main_arg4)
      ∧ m' ((c.tc : Thread Cert.AdamGluRefIdeal.nD Cert.AdamGluRefIdeal.τ).loc Cert.AdamGluRefIdeal.main_arg5) = m ((c.tc : Thread Cert.AdamGluIdeal.nD Cert.AdamGluIdeal.τ).loc Cert.AdamGluIdeal.main_arg5)
      ∧ m' ((c.tc : Thread Cert.AdamGluRefIdeal.nD Cert.AdamGluRefIdeal.τ).loc Cert.AdamGluRefIdeal.main_arg6) = m ((c.tc : Thread Cert.AdamGluIdeal.nD Cert.AdamGluIdeal.τ).loc Cert.AdamGluIdeal.main_arg6)) →
    ∃ (v0 : (c : Dev Cert.AdamGluIdeal.nD) → Buf (Elt Ideal) ((c.tc : Thread Cert.AdamGluIdeal.nD Cert.AdamGluIdeal.τ).loc Cert.AdamGluIdeal.main_v3_0)) (v1 : (c : Dev Cert.AdamGluIdeal.nD) → Buf (Elt Ideal) ((c.tc : Thread Cert.AdamGluIdeal.nD Cert.AdamGluIdeal.τ).loc Cert.AdamGluIdeal.main_v3_1)) (v2 : (c : Dev Cert.AdamGluIdeal.nD) → Buf (Elt Ideal) ((c.tc : Thread Cert.AdamGluIdeal.nD Cert.AdamGluIdeal.τ).loc Cert.AdamGluIdeal.main_v3_2)) (v3 : (c : Dev Cert.AdamGluIdeal.nD) → Buf (Elt Ideal) ((c.tc : Thread Cert.AdamGluIdeal.nD Cert.AdamGluIdeal.τ).loc Cert.AdamGluIdeal.main_v3_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v3_0) = v0 c
          ∧ r.2.mem ((c.tc : Thread Cert.AdamGluIdeal.nD Cert.AdamGluIdeal.τ).loc Cert.AdamGluIdeal.main_v3_1) = v1 c
          ∧ r.2.mem ((c.tc : Thread Cert.AdamGluIdeal.nD Cert.AdamGluIdeal.τ).loc Cert.AdamGluIdeal.main_v3_2) = v2 c
          ∧ r.2.mem ((c.tc : Thread Cert.AdamGluIdeal.nD Cert.AdamGluIdeal.τ).loc Cert.AdamGluIdeal.main_v3_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
          ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4)
          ∧ r.2.mem ((c.tc : Thread Cert.AdamGluIdeal.nD Cert.AdamGluIdeal.τ).loc Cert.AdamGluIdeal.main_arg5) = m ((c.tc : Thread Cert.AdamGluIdeal.nD Cert.AdamGluIdeal.τ).loc Cert.AdamGluIdeal.main_arg5)
          ∧ r.2.mem ((c.tc : Thread Cert.AdamGluIdeal.nD Cert.AdamGluIdeal.τ).loc Cert.AdamGluIdeal.main_arg6) = m ((c.tc : Thread Cert.AdamGluIdeal.nD Cert.AdamGluIdeal.τ).loc Cert.AdamGluIdeal.main_arg6))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v14) = v0 c
          ∧ r.2.mem ((c.tc : Thread Cert.AdamGluRefIdeal.nD Cert.AdamGluRefIdeal.τ).loc Cert.AdamGluRefIdeal.main_v40) = v1 c
          ∧ r.2.mem ((c.tc : Thread Cert.AdamGluRefIdeal.nD Cert.AdamGluRefIdeal.τ).loc Cert.AdamGluRefIdeal.main_v21) = v2 c
          ∧ r.2.mem ((c.tc : Thread Cert.AdamGluRefIdeal.nD Cert.AdamGluRefIdeal.τ).loc Cert.AdamGluRefIdeal.main_v27) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3)
          ∧ r.2.mem ((c.tc : Thread Cert.AdamGluRefIdeal.nD Cert.AdamGluRefIdeal.τ).loc Cert.AdamGluRefIdeal.main_arg4) = m' ((c.tc : Thread Cert.AdamGluRefIdeal.nD Cert.AdamGluRefIdeal.τ).loc Cert.AdamGluRefIdeal.main_arg4)
          ∧ r.2.mem ((c.tc : Thread Cert.AdamGluRefIdeal.nD Cert.AdamGluRefIdeal.τ).loc Cert.AdamGluRefIdeal.main_arg5) = m' ((c.tc : Thread Cert.AdamGluRefIdeal.nD Cert.AdamGluRefIdeal.τ).loc Cert.AdamGluRefIdeal.main_arg5)
          ∧ r.2.mem ((c.tc : Thread Cert.AdamGluRefIdeal.nD Cert.AdamGluRefIdeal.τ).loc Cert.AdamGluRefIdeal.main_arg6) = m' ((c.tc : Thread Cert.AdamGluRefIdeal.nD Cert.AdamGluRefIdeal.τ).loc Cert.AdamGluRefIdeal.main_arg6))

def preserves_AdamQUp_AdamQUpIdeal : Prop :=
  True

def algebraic_AdamQUpIdeal_AdamQUpRefIdeal [hAdamQUpIdeal : Cert.AdamQUpIdeal.Facts] [hAdamQUpRefIdeal : Cert.AdamQUpRefIdeal.Facts] : Prop :=
  ∀ (m : (ℓ : Loc Cert.AdamQUpIdeal.nD Cert.AdamQUpIdeal.τ Cert.AdamQUpIdeal.sig) → Buf (Elt Ideal) ℓ) (g : Dev Cert.AdamQUpIdeal.nD → PrngReg)
    (m' : (ℓ : Loc Cert.AdamQUpRefIdeal.nD Cert.AdamQUpRefIdeal.τ Cert.AdamQUpRefIdeal.sig) → Buf (Elt Ideal) ℓ) (g' : Dev Cert.AdamQUpRefIdeal.nD → PrngReg), Pre_AdamQUpIdeal m →
    (∀ c : Dev Cert.AdamQUpIdeal.nD,
      m' ((c.tc : Thread Cert.AdamQUpRefIdeal.nD Cert.AdamQUpRefIdeal.τ).loc Cert.AdamQUpRefIdeal.main_arg0) = m ((c.tc : Thread Cert.AdamQUpIdeal.nD Cert.AdamQUpIdeal.τ).loc Cert.AdamQUpIdeal.main_arg0)
      ∧ m' ((c.tc : Thread Cert.AdamQUpRefIdeal.nD Cert.AdamQUpRefIdeal.τ).loc Cert.AdamQUpRefIdeal.main_arg1) = m ((c.tc : Thread Cert.AdamQUpIdeal.nD Cert.AdamQUpIdeal.τ).loc Cert.AdamQUpIdeal.main_arg1)
      ∧ m' ((c.tc : Thread Cert.AdamQUpRefIdeal.nD Cert.AdamQUpRefIdeal.τ).loc Cert.AdamQUpRefIdeal.main_arg2) = m ((c.tc : Thread Cert.AdamQUpIdeal.nD Cert.AdamQUpIdeal.τ).loc Cert.AdamQUpIdeal.main_arg2)
      ∧ m' ((c.tc : Thread Cert.AdamQUpRefIdeal.nD Cert.AdamQUpRefIdeal.τ).loc Cert.AdamQUpRefIdeal.main_arg3) = m ((c.tc : Thread Cert.AdamQUpIdeal.nD Cert.AdamQUpIdeal.τ).loc Cert.AdamQUpIdeal.main_arg3)
      ∧ m' ((c.tc : Thread Cert.AdamQUpRefIdeal.nD Cert.AdamQUpRefIdeal.τ).loc Cert.AdamQUpRefIdeal.main_arg4) = m ((c.tc : Thread Cert.AdamQUpIdeal.nD Cert.AdamQUpIdeal.τ).loc Cert.AdamQUpIdeal.main_arg4)
      ∧ m' ((c.tc : Thread Cert.AdamQUpRefIdeal.nD Cert.AdamQUpRefIdeal.τ).loc Cert.AdamQUpRefIdeal.main_arg5) = m ((c.tc : Thread Cert.AdamQUpIdeal.nD Cert.AdamQUpIdeal.τ).loc Cert.AdamQUpIdeal.main_arg5)
      ∧ m' ((c.tc : Thread Cert.AdamQUpRefIdeal.nD Cert.AdamQUpRefIdeal.τ).loc Cert.AdamQUpRefIdeal.main_arg6) = m ((c.tc : Thread Cert.AdamQUpIdeal.nD Cert.AdamQUpIdeal.τ).loc Cert.AdamQUpIdeal.main_arg6)) →
    ∃ (v0 : (c : Dev Cert.AdamQUpIdeal.nD) → Buf (Elt Ideal) ((c.tc : Thread Cert.AdamQUpIdeal.nD Cert.AdamQUpIdeal.τ).loc Cert.AdamQUpIdeal.main_v3_0)) (v1 : (c : Dev Cert.AdamQUpIdeal.nD) → Buf (Elt Ideal) ((c.tc : Thread Cert.AdamQUpIdeal.nD Cert.AdamQUpIdeal.τ).loc Cert.AdamQUpIdeal.main_v3_1)) (v2 : (c : Dev Cert.AdamQUpIdeal.nD) → Buf (Elt Ideal) ((c.tc : Thread Cert.AdamQUpIdeal.nD Cert.AdamQUpIdeal.τ).loc Cert.AdamQUpIdeal.main_v3_2)) (v3 : (c : Dev Cert.AdamQUpIdeal.nD) → Buf (Elt Ideal) ((c.tc : Thread Cert.AdamQUpIdeal.nD Cert.AdamQUpIdeal.τ).loc Cert.AdamQUpIdeal.main_v3_3)),
      θ_run (Cert.AdamQUpIdeal.defs (F := Ideal)) (onTc (τ := Cert.AdamQUpIdeal.τ) (Cert.AdamQUpIdeal.main (F := Ideal))) ⟨m, fun _ => 0, g⟩ (fun r => ∀ c : Dev Cert.AdamQUpIdeal.nD,
          r.2.mem ((c.tc : Thread Cert.AdamQUpIdeal.nD Cert.AdamQUpIdeal.τ).loc Cert.AdamQUpIdeal.main_v3_0) = v0 c
          ∧ r.2.mem ((c.tc : Thread Cert.AdamQUpIdeal.nD Cert.AdamQUpIdeal.τ).loc Cert.AdamQUpIdeal.main_v3_1) = v1 c
          ∧ r.2.mem ((c.tc : Thread Cert.AdamQUpIdeal.nD Cert.AdamQUpIdeal.τ).loc Cert.AdamQUpIdeal.main_v3_2) = v2 c
          ∧ r.2.mem ((c.tc : Thread Cert.AdamQUpIdeal.nD Cert.AdamQUpIdeal.τ).loc Cert.AdamQUpIdeal.main_v3_3) = v3 c
          ∧ r.2.mem ((c.tc : Thread Cert.AdamQUpIdeal.nD Cert.AdamQUpIdeal.τ).loc Cert.AdamQUpIdeal.main_arg0) = m ((c.tc : Thread Cert.AdamQUpIdeal.nD Cert.AdamQUpIdeal.τ).loc Cert.AdamQUpIdeal.main_arg0)
          ∧ r.2.mem ((c.tc : Thread Cert.AdamQUpIdeal.nD Cert.AdamQUpIdeal.τ).loc Cert.AdamQUpIdeal.main_arg1) = m ((c.tc : Thread Cert.AdamQUpIdeal.nD Cert.AdamQUpIdeal.τ).loc Cert.AdamQUpIdeal.main_arg1)
          ∧ r.2.mem ((c.tc : Thread Cert.AdamQUpIdeal.nD Cert.AdamQUpIdeal.τ).loc Cert.AdamQUpIdeal.main_arg2) = m ((c.tc : Thread Cert.AdamQUpIdeal.nD Cert.AdamQUpIdeal.τ).loc Cert.AdamQUpIdeal.main_arg2)
          ∧ r.2.mem ((c.tc : Thread Cert.AdamQUpIdeal.nD Cert.AdamQUpIdeal.τ).loc Cert.AdamQUpIdeal.main_arg3) = m ((c.tc : Thread Cert.AdamQUpIdeal.nD Cert.AdamQUpIdeal.τ).loc Cert.AdamQUpIdeal.main_arg3)
          ∧ r.2.mem ((c.tc : Thread Cert.AdamQUpIdeal.nD Cert.AdamQUpIdeal.τ).loc Cert.AdamQUpIdeal.main_arg4) = m ((c.tc : Thread Cert.AdamQUpIdeal.nD Cert.AdamQUpIdeal.τ).loc Cert.AdamQUpIdeal.main_arg4)
          ∧ r.2.mem ((c.tc : Thread Cert.AdamQUpIdeal.nD Cert.AdamQUpIdeal.τ).loc Cert.AdamQUpIdeal.main_arg5) = m ((c.tc : Thread Cert.AdamQUpIdeal.nD Cert.AdamQUpIdeal.τ).loc Cert.AdamQUpIdeal.main_arg5)
          ∧ r.2.mem ((c.tc : Thread Cert.AdamQUpIdeal.nD Cert.AdamQUpIdeal.τ).loc Cert.AdamQUpIdeal.main_arg6) = m ((c.tc : Thread Cert.AdamQUpIdeal.nD Cert.AdamQUpIdeal.τ).loc Cert.AdamQUpIdeal.main_arg6))
      ∧ θ_run (Cert.AdamQUpRefIdeal.defs (F := Ideal)) (onTc (τ := Cert.AdamQUpRefIdeal.τ) (Cert.AdamQUpRefIdeal.main (F := Ideal))) ⟨m', fun _ => 0, g'⟩ (fun r => ∀ c : Dev Cert.AdamQUpRefIdeal.nD,
          r.2.mem ((c.tc : Thread Cert.AdamQUpRefIdeal.nD Cert.AdamQUpRefIdeal.τ).loc Cert.AdamQUpRefIdeal.main_v14) = v0 c
          ∧ r.2.mem ((c.tc : Thread Cert.AdamQUpRefIdeal.nD Cert.AdamQUpRefIdeal.τ).loc Cert.AdamQUpRefIdeal.main_v40) = v1 c
          ∧ r.2.mem ((c.tc : Thread Cert.AdamQUpRefIdeal.nD Cert.AdamQUpRefIdeal.τ).loc Cert.AdamQUpRefIdeal.main_v21) = v2 c
          ∧ r.2.mem ((c.tc : Thread Cert.AdamQUpRefIdeal.nD Cert.AdamQUpRefIdeal.τ).loc Cert.AdamQUpRefIdeal.main_v27) = v3 c
          ∧ r.2.mem ((c.tc : Thread Cert.AdamQUpRefIdeal.nD Cert.AdamQUpRefIdeal.τ).loc Cert.AdamQUpRefIdeal.main_arg0) = m' ((c.tc : Thread Cert.AdamQUpRefIdeal.nD Cert.AdamQUpRefIdeal.τ).loc Cert.AdamQUpRefIdeal.main_arg0)
          ∧ r.2.mem ((c.tc : Thread Cert.AdamQUpRefIdeal.nD Cert.AdamQUpRefIdeal.τ).loc Cert.AdamQUpRefIdeal.main_arg1) = m' ((c.tc : Thread Cert.AdamQUpRefIdeal.nD Cert.AdamQUpRefIdeal.τ).loc Cert.AdamQUpRefIdeal.main_arg1)
          ∧ r.2.mem ((c.tc : Thread Cert.AdamQUpRefIdeal.nD Cert.AdamQUpRefIdeal.τ).loc Cert.AdamQUpRefIdeal.main_arg2) = m' ((c.tc : Thread Cert.AdamQUpRefIdeal.nD Cert.AdamQUpRefIdeal.τ).loc Cert.AdamQUpRefIdeal.main_arg2)
          ∧ r.2.mem ((c.tc : Thread Cert.AdamQUpRefIdeal.nD Cert.AdamQUpRefIdeal.τ).loc Cert.AdamQUpRefIdeal.main_arg3) = m' ((c.tc : Thread Cert.AdamQUpRefIdeal.nD Cert.AdamQUpRefIdeal.τ).loc Cert.AdamQUpRefIdeal.main_arg3)
          ∧ r.2.mem ((c.tc : Thread Cert.AdamQUpRefIdeal.nD Cert.AdamQUpRefIdeal.τ).loc Cert.AdamQUpRefIdeal.main_arg4) = m' ((c.tc : Thread Cert.AdamQUpRefIdeal.nD Cert.AdamQUpRefIdeal.τ).loc Cert.AdamQUpRefIdeal.main_arg4)
          ∧ r.2.mem ((c.tc : Thread Cert.AdamQUpRefIdeal.nD Cert.AdamQUpRefIdeal.τ).loc Cert.AdamQUpRefIdeal.main_arg5) = m' ((c.tc : Thread Cert.AdamQUpRefIdeal.nD Cert.AdamQUpRefIdeal.τ).loc Cert.AdamQUpRefIdeal.main_arg5)
          ∧ r.2.mem ((c.tc : Thread Cert.AdamQUpRefIdeal.nD Cert.AdamQUpRefIdeal.τ).loc Cert.AdamQUpRefIdeal.main_arg6) = m' ((c.tc : Thread Cert.AdamQUpRefIdeal.nD Cert.AdamQUpRefIdeal.τ).loc Cert.AdamQUpRefIdeal.main_arg6))

def preserves_AdamKvUp_AdamKvUpIdeal : Prop :=
  True

def algebraic_AdamKvUpIdeal_AdamKvUpRefIdeal [hAdamKvUpIdeal : Cert.AdamKvUpIdeal.Facts] [hAdamKvUpRefIdeal : Cert.AdamKvUpRefIdeal.Facts] : Prop :=
  ∀ (m : (ℓ : Loc Cert.AdamKvUpIdeal.nD Cert.AdamKvUpIdeal.τ Cert.AdamKvUpIdeal.sig) → Buf (Elt Ideal) ℓ) (g : Dev Cert.AdamKvUpIdeal.nD → PrngReg)
    (m' : (ℓ : Loc Cert.AdamKvUpRefIdeal.nD Cert.AdamKvUpRefIdeal.τ Cert.AdamKvUpRefIdeal.sig) → Buf (Elt Ideal) ℓ) (g' : Dev Cert.AdamKvUpRefIdeal.nD → PrngReg), Pre_AdamKvUpIdeal m →
    (∀ c : Dev Cert.AdamKvUpIdeal.nD,
      m' ((c.tc : Thread Cert.AdamKvUpRefIdeal.nD Cert.AdamKvUpRefIdeal.τ).loc Cert.AdamKvUpRefIdeal.main_arg0) = m ((c.tc : Thread Cert.AdamKvUpIdeal.nD Cert.AdamKvUpIdeal.τ).loc Cert.AdamKvUpIdeal.main_arg0)
      ∧ m' ((c.tc : Thread Cert.AdamKvUpRefIdeal.nD Cert.AdamKvUpRefIdeal.τ).loc Cert.AdamKvUpRefIdeal.main_arg1) = m ((c.tc : Thread Cert.AdamKvUpIdeal.nD Cert.AdamKvUpIdeal.τ).loc Cert.AdamKvUpIdeal.main_arg1)
      ∧ m' ((c.tc : Thread Cert.AdamKvUpRefIdeal.nD Cert.AdamKvUpRefIdeal.τ).loc Cert.AdamKvUpRefIdeal.main_arg2) = m ((c.tc : Thread Cert.AdamKvUpIdeal.nD Cert.AdamKvUpIdeal.τ).loc Cert.AdamKvUpIdeal.main_arg2)
      ∧ m' ((c.tc : Thread Cert.AdamKvUpRefIdeal.nD Cert.AdamKvUpRefIdeal.τ).loc Cert.AdamKvUpRefIdeal.main_arg3) = m ((c.tc : Thread Cert.AdamKvUpIdeal.nD Cert.AdamKvUpIdeal.τ).loc Cert.AdamKvUpIdeal.main_arg3)
      ∧ m' ((c.tc : Thread Cert.AdamKvUpRefIdeal.nD Cert.AdamKvUpRefIdeal.τ).loc Cert.AdamKvUpRefIdeal.main_arg4) = m ((c.tc : Thread Cert.AdamKvUpIdeal.nD Cert.AdamKvUpIdeal.τ).loc Cert.AdamKvUpIdeal.main_arg4)
      ∧ m' ((c.tc : Thread Cert.AdamKvUpRefIdeal.nD Cert.AdamKvUpRefIdeal.τ).loc Cert.AdamKvUpRefIdeal.main_arg5) = m ((c.tc : Thread Cert.AdamKvUpIdeal.nD Cert.AdamKvUpIdeal.τ).loc Cert.AdamKvUpIdeal.main_arg5)
      ∧ m' ((c.tc : Thread Cert.AdamKvUpRefIdeal.nD Cert.AdamKvUpRefIdeal.τ).loc Cert.AdamKvUpRefIdeal.main_arg6) = m ((c.tc : Thread Cert.AdamKvUpIdeal.nD Cert.AdamKvUpIdeal.τ).loc Cert.AdamKvUpIdeal.main_arg6)) →
    ∃ (v0 : (c : Dev Cert.AdamKvUpIdeal.nD) → Buf (Elt Ideal) ((c.tc : Thread Cert.AdamKvUpIdeal.nD Cert.AdamKvUpIdeal.τ).loc Cert.AdamKvUpIdeal.main_v3_0)) (v1 : (c : Dev Cert.AdamKvUpIdeal.nD) → Buf (Elt Ideal) ((c.tc : Thread Cert.AdamKvUpIdeal.nD Cert.AdamKvUpIdeal.τ).loc Cert.AdamKvUpIdeal.main_v3_1)) (v2 : (c : Dev Cert.AdamKvUpIdeal.nD) → Buf (Elt Ideal) ((c.tc : Thread Cert.AdamKvUpIdeal.nD Cert.AdamKvUpIdeal.τ).loc Cert.AdamKvUpIdeal.main_v3_2)) (v3 : (c : Dev Cert.AdamKvUpIdeal.nD) → Buf (Elt Ideal) ((c.tc : Thread Cert.AdamKvUpIdeal.nD Cert.AdamKvUpIdeal.τ).loc Cert.AdamKvUpIdeal.main_v3_3)),
      θ_run (Cert.AdamKvUpIdeal.defs (F := Ideal)) (onTc (τ := Cert.AdamKvUpIdeal.τ) (Cert.AdamKvUpIdeal.main (F := Ideal))) ⟨m, fun _ => 0, g⟩ (fun r => ∀ c : Dev Cert.AdamKvUpIdeal.nD,
          r.2.mem ((c.tc : Thread Cert.AdamKvUpIdeal.nD Cert.AdamKvUpIdeal.τ).loc Cert.AdamKvUpIdeal.main_v3_0) = v0 c
          ∧ r.2.mem ((c.tc : Thread Cert.AdamKvUpIdeal.nD Cert.AdamKvUpIdeal.τ).loc Cert.AdamKvUpIdeal.main_v3_1) = v1 c
          ∧ r.2.mem ((c.tc : Thread Cert.AdamKvUpIdeal.nD Cert.AdamKvUpIdeal.τ).loc Cert.AdamKvUpIdeal.main_v3_2) = v2 c
          ∧ r.2.mem ((c.tc : Thread Cert.AdamKvUpIdeal.nD Cert.AdamKvUpIdeal.τ).loc Cert.AdamKvUpIdeal.main_v3_3) = v3 c
          ∧ r.2.mem ((c.tc : Thread Cert.AdamKvUpIdeal.nD Cert.AdamKvUpIdeal.τ).loc Cert.AdamKvUpIdeal.main_arg0) = m ((c.tc : Thread Cert.AdamKvUpIdeal.nD Cert.AdamKvUpIdeal.τ).loc Cert.AdamKvUpIdeal.main_arg0)
          ∧ r.2.mem ((c.tc : Thread Cert.AdamKvUpIdeal.nD Cert.AdamKvUpIdeal.τ).loc Cert.AdamKvUpIdeal.main_arg1) = m ((c.tc : Thread Cert.AdamKvUpIdeal.nD Cert.AdamKvUpIdeal.τ).loc Cert.AdamKvUpIdeal.main_arg1)
          ∧ r.2.mem ((c.tc : Thread Cert.AdamKvUpIdeal.nD Cert.AdamKvUpIdeal.τ).loc Cert.AdamKvUpIdeal.main_arg2) = m ((c.tc : Thread Cert.AdamKvUpIdeal.nD Cert.AdamKvUpIdeal.τ).loc Cert.AdamKvUpIdeal.main_arg2)
          ∧ r.2.mem ((c.tc : Thread Cert.AdamKvUpIdeal.nD Cert.AdamKvUpIdeal.τ).loc Cert.AdamKvUpIdeal.main_arg3) = m ((c.tc : Thread Cert.AdamKvUpIdeal.nD Cert.AdamKvUpIdeal.τ).loc Cert.AdamKvUpIdeal.main_arg3)
          ∧ r.2.mem ((c.tc : Thread Cert.AdamKvUpIdeal.nD Cert.AdamKvUpIdeal.τ).loc Cert.AdamKvUpIdeal.main_arg4) = m ((c.tc : Thread Cert.AdamKvUpIdeal.nD Cert.AdamKvUpIdeal.τ).loc Cert.AdamKvUpIdeal.main_arg4)
          ∧ r.2.mem ((c.tc : Thread Cert.AdamKvUpIdeal.nD Cert.AdamKvUpIdeal.τ).loc Cert.AdamKvUpIdeal.main_arg5) = m ((c.tc : Thread Cert.AdamKvUpIdeal.nD Cert.AdamKvUpIdeal.τ).loc Cert.AdamKvUpIdeal.main_arg5)
          ∧ r.2.mem ((c.tc : Thread Cert.AdamKvUpIdeal.nD Cert.AdamKvUpIdeal.τ).loc Cert.AdamKvUpIdeal.main_arg6) = m ((c.tc : Thread Cert.AdamKvUpIdeal.nD Cert.AdamKvUpIdeal.τ).loc Cert.AdamKvUpIdeal.main_arg6))
      ∧ θ_run (Cert.AdamKvUpRefIdeal.defs (F := Ideal)) (onTc (τ := Cert.AdamKvUpRefIdeal.τ) (Cert.AdamKvUpRefIdeal.main (F := Ideal))) ⟨m', fun _ => 0, g'⟩ (fun r => ∀ c : Dev Cert.AdamKvUpRefIdeal.nD,
          r.2.mem ((c.tc : Thread Cert.AdamKvUpRefIdeal.nD Cert.AdamKvUpRefIdeal.τ).loc Cert.AdamKvUpRefIdeal.main_v14) = v0 c
          ∧ r.2.mem ((c.tc : Thread Cert.AdamKvUpRefIdeal.nD Cert.AdamKvUpRefIdeal.τ).loc Cert.AdamKvUpRefIdeal.main_v40) = v1 c
          ∧ r.2.mem ((c.tc : Thread Cert.AdamKvUpRefIdeal.nD Cert.AdamKvUpRefIdeal.τ).loc Cert.AdamKvUpRefIdeal.main_v21) = v2 c
          ∧ r.2.mem ((c.tc : Thread Cert.AdamKvUpRefIdeal.nD Cert.AdamKvUpRefIdeal.τ).loc Cert.AdamKvUpRefIdeal.main_v27) = v3 c
          ∧ r.2.mem ((c.tc : Thread Cert.AdamKvUpRefIdeal.nD Cert.AdamKvUpRefIdeal.τ).loc Cert.AdamKvUpRefIdeal.main_arg0) = m' ((c.tc : Thread Cert.AdamKvUpRefIdeal.nD Cert.AdamKvUpRefIdeal.τ).loc Cert.AdamKvUpRefIdeal.main_arg0)
          ∧ r.2.mem ((c.tc : Thread Cert.AdamKvUpRefIdeal.nD Cert.AdamKvUpRefIdeal.τ).loc Cert.AdamKvUpRefIdeal.main_arg1) = m' ((c.tc : Thread Cert.AdamKvUpRefIdeal.nD Cert.AdamKvUpRefIdeal.τ).loc Cert.AdamKvUpRefIdeal.main_arg1)
          ∧ r.2.mem ((c.tc : Thread Cert.AdamKvUpRefIdeal.nD Cert.AdamKvUpRefIdeal.τ).loc Cert.AdamKvUpRefIdeal.main_arg2) = m' ((c.tc : Thread Cert.AdamKvUpRefIdeal.nD Cert.AdamKvUpRefIdeal.τ).loc Cert.AdamKvUpRefIdeal.main_arg2)
          ∧ r.2.mem ((c.tc : Thread Cert.AdamKvUpRefIdeal.nD Cert.AdamKvUpRefIdeal.τ).loc Cert.AdamKvUpRefIdeal.main_arg3) = m' ((c.tc : Thread Cert.AdamKvUpRefIdeal.nD Cert.AdamKvUpRefIdeal.τ).loc Cert.AdamKvUpRefIdeal.main_arg3)
          ∧ r.2.mem ((c.tc : Thread Cert.AdamKvUpRefIdeal.nD Cert.AdamKvUpRefIdeal.τ).loc Cert.AdamKvUpRefIdeal.main_arg4) = m' ((c.tc : Thread Cert.AdamKvUpRefIdeal.nD Cert.AdamKvUpRefIdeal.τ).loc Cert.AdamKvUpRefIdeal.main_arg4)
          ∧ r.2.mem ((c.tc : Thread Cert.AdamKvUpRefIdeal.nD Cert.AdamKvUpRefIdeal.τ).loc Cert.AdamKvUpRefIdeal.main_arg5) = m' ((c.tc : Thread Cert.AdamKvUpRefIdeal.nD Cert.AdamKvUpRefIdeal.τ).loc Cert.AdamKvUpRefIdeal.main_arg5)
          ∧ r.2.mem ((c.tc : Thread Cert.AdamKvUpRefIdeal.nD Cert.AdamKvUpRefIdeal.τ).loc Cert.AdamKvUpRefIdeal.main_arg6) = m' ((c.tc : Thread Cert.AdamKvUpRefIdeal.nD Cert.AdamKvUpRefIdeal.τ).loc Cert.AdamKvUpRefIdeal.main_arg6))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)
      ∧ m' ((c.tc : Thread Cert.AdamBranchRefIdeal.nD Cert.AdamBranchRefIdeal.τ).loc Cert.AdamBranchRefIdeal.main_arg4) = m ((c.tc : Thread Cert.AdamBranchIdeal.nD Cert.AdamBranchIdeal.τ).loc Cert.AdamBranchIdeal.main_arg4)
      ∧ m' ((c.tc : Thread Cert.AdamBranchRefIdeal.nD Cert.AdamBranchRefIdeal.τ).loc Cert.AdamBranchRefIdeal.main_arg5) = m ((c.tc : Thread Cert.AdamBranchIdeal.nD Cert.AdamBranchIdeal.τ).loc Cert.AdamBranchIdeal.main_arg5)
      ∧ m' ((c.tc : Thread Cert.AdamBranchRefIdeal.nD Cert.AdamBranchRefIdeal.τ).loc Cert.AdamBranchRefIdeal.main_arg6) = m ((c.tc : Thread Cert.AdamBranchIdeal.nD Cert.AdamBranchIdeal.τ).loc Cert.AdamBranchIdeal.main_arg6)) →
    ∃ (v0 : (c : Dev Cert.AdamBranchIdeal.nD) → Buf (Elt Ideal) ((c.tc : Thread Cert.AdamBranchIdeal.nD Cert.AdamBranchIdeal.τ).loc Cert.AdamBranchIdeal.main_v7_0)) (v1 : (c : Dev Cert.AdamBranchIdeal.nD) → Buf (Elt Ideal) ((c.tc : Thread Cert.AdamBranchIdeal.nD Cert.AdamBranchIdeal.τ).loc Cert.AdamBranchIdeal.main_v7_1)) (v2 : (c : Dev Cert.AdamBranchIdeal.nD) → Buf (Elt Ideal) ((c.tc : Thread Cert.AdamBranchIdeal.nD Cert.AdamBranchIdeal.τ).loc Cert.AdamBranchIdeal.main_v7_2)) (v3 : (c : Dev Cert.AdamBranchIdeal.nD) → Buf (Elt Ideal) ((c.tc : Thread Cert.AdamBranchIdeal.nD Cert.AdamBranchIdeal.τ).loc Cert.AdamBranchIdeal.main_v7_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v7_0) = v0 c
          ∧ r.2.mem ((c.tc : Thread Cert.AdamBranchIdeal.nD Cert.AdamBranchIdeal.τ).loc Cert.AdamBranchIdeal.main_v7_1) = v1 c
          ∧ r.2.mem ((c.tc : Thread Cert.AdamBranchIdeal.nD Cert.AdamBranchIdeal.τ).loc Cert.AdamBranchIdeal.main_v7_2) = v2 c
          ∧ r.2.mem ((c.tc : Thread Cert.AdamBranchIdeal.nD Cert.AdamBranchIdeal.τ).loc Cert.AdamBranchIdeal.main_v7_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
          ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
          ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5)
          ∧ r.2.mem ((c.tc : Thread Cert.AdamBranchIdeal.nD Cert.AdamBranchIdeal.τ).loc Cert.AdamBranchIdeal.main_arg6) = m ((c.tc : Thread Cert.AdamBranchIdeal.nD Cert.AdamBranchIdeal.τ).loc Cert.AdamBranchIdeal.main_arg6))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v14) = v0 c
          ∧ r.2.mem ((c.tc : Thread Cert.AdamBranchRefIdeal.nD Cert.AdamBranchRefIdeal.τ).loc Cert.AdamBranchRefIdeal.main_v40) = v1 c
          ∧ r.2.mem ((c.tc : Thread Cert.AdamBranchRefIdeal.nD Cert.AdamBranchRefIdeal.τ).loc Cert.AdamBranchRefIdeal.main_v21) = v2 c
          ∧ r.2.mem ((c.tc : Thread Cert.AdamBranchRefIdeal.nD Cert.AdamBranchRefIdeal.τ).loc Cert.AdamBranchRefIdeal.main_v27) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3)
          ∧ r.2.mem ((c.tc : Thread Cert.AdamBranchRefIdeal.nD Cert.AdamBranchRefIdeal.τ).loc Cert.AdamBranchRefIdeal.main_arg4) = m' ((c.tc : Thread Cert.AdamBranchRefIdeal.nD Cert.AdamBranchRefIdeal.τ).loc Cert.AdamBranchRefIdeal.main_arg4)
          ∧ r.2.mem ((c.tc : Thread Cert.AdamBranchRefIdeal.nD Cert.AdamBranchRefIdeal.τ).loc Cert.AdamBranchRefIdeal.main_arg5) = m' ((c.tc : Thread Cert.AdamBranchRefIdeal.nD Cert.AdamBranchRefIdeal.τ).loc Cert.AdamBranchRefIdeal.main_arg5)
          ∧ r.2.mem ((c.tc : Thread Cert.AdamBranchRefIdeal.nD Cert.AdamBranchRefIdeal.τ).loc Cert.AdamBranchRefIdeal.main_arg6) = m' ((c.tc : Thread Cert.AdamBranchRefIdeal.nD Cert.AdamBranchRefIdeal.τ).loc Cert.AdamBranchRefIdeal.main_arg6))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)
      ∧ m' ((c.tc : Thread Cert.AdamWOutRefIdeal.nD Cert.AdamWOutRefIdeal.τ).loc Cert.AdamWOutRefIdeal.main_arg4) = m ((c.tc : Thread Cert.AdamWOutIdeal.nD Cert.AdamWOutIdeal.τ).loc Cert.AdamWOutIdeal.main_arg4)
      ∧ m' ((c.tc : Thread Cert.AdamWOutRefIdeal.nD Cert.AdamWOutRefIdeal.τ).loc Cert.AdamWOutRefIdeal.main_arg5) = m ((c.tc : Thread Cert.AdamWOutIdeal.nD Cert.AdamWOutIdeal.τ).loc Cert.AdamWOutIdeal.main_arg5)
      ∧ m' ((c.tc : Thread Cert.AdamWOutRefIdeal.nD Cert.AdamWOutRefIdeal.τ).loc Cert.AdamWOutRefIdeal.main_arg6) = m ((c.tc : Thread Cert.AdamWOutIdeal.nD Cert.AdamWOutIdeal.τ).loc Cert.AdamWOutIdeal.main_arg6)) →
    ∃ (v0 : (c : Dev Cert.AdamWOutIdeal.nD) → Buf (Elt Ideal) ((c.tc : Thread Cert.AdamWOutIdeal.nD Cert.AdamWOutIdeal.τ).loc Cert.AdamWOutIdeal.main_v3_0)) (v1 : (c : Dev Cert.AdamWOutIdeal.nD) → Buf (Elt Ideal) ((c.tc : Thread Cert.AdamWOutIdeal.nD Cert.AdamWOutIdeal.τ).loc Cert.AdamWOutIdeal.main_v3_1)) (v2 : (c : Dev Cert.AdamWOutIdeal.nD) → Buf (Elt Ideal) ((c.tc : Thread Cert.AdamWOutIdeal.nD Cert.AdamWOutIdeal.τ).loc Cert.AdamWOutIdeal.main_v3_2)) (v3 : (c : Dev Cert.AdamWOutIdeal.nD) → Buf (Elt Ideal) ((c.tc : Thread Cert.AdamWOutIdeal.nD Cert.AdamWOutIdeal.τ).loc Cert.AdamWOutIdeal.main_v3_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v3_0) = v0 c
          ∧ r.2.mem ((c.tc : Thread Cert.AdamWOutIdeal.nD Cert.AdamWOutIdeal.τ).loc Cert.AdamWOutIdeal.main_v3_1) = v1 c
          ∧ r.2.mem ((c.tc : Thread Cert.AdamWOutIdeal.nD Cert.AdamWOutIdeal.τ).loc Cert.AdamWOutIdeal.main_v3_2) = v2 c
          ∧ r.2.mem ((c.tc : Thread Cert.AdamWOutIdeal.nD Cert.AdamWOutIdeal.τ).loc Cert.AdamWOutIdeal.main_v3_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
          ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4)
          ∧ r.2.mem ((c.tc : Thread Cert.AdamWOutIdeal.nD Cert.AdamWOutIdeal.τ).loc Cert.AdamWOutIdeal.main_arg5) = m ((c.tc : Thread Cert.AdamWOutIdeal.nD Cert.AdamWOutIdeal.τ).loc Cert.AdamWOutIdeal.main_arg5)
          ∧ r.2.mem ((c.tc : Thread Cert.AdamWOutIdeal.nD Cert.AdamWOutIdeal.τ).loc Cert.AdamWOutIdeal.main_arg6) = m ((c.tc : Thread Cert.AdamWOutIdeal.nD Cert.AdamWOutIdeal.τ).loc Cert.AdamWOutIdeal.main_arg6))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v14) = v0 c
          ∧ r.2.mem ((c.tc : Thread Cert.AdamWOutRefIdeal.nD Cert.AdamWOutRefIdeal.τ).loc Cert.AdamWOutRefIdeal.main_v40) = v1 c
          ∧ r.2.mem ((c.tc : Thread Cert.AdamWOutRefIdeal.nD Cert.AdamWOutRefIdeal.τ).loc Cert.AdamWOutRefIdeal.main_v21) = v2 c
          ∧ r.2.mem ((c.tc : Thread Cert.AdamWOutRefIdeal.nD Cert.AdamWOutRefIdeal.τ).loc Cert.AdamWOutRefIdeal.main_v27) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3)
          ∧ r.2.mem ((c.tc : Thread Cert.AdamWOutRefIdeal.nD Cert.AdamWOutRefIdeal.τ).loc Cert.AdamWOutRefIdeal.main_arg4) = m' ((c.tc : Thread Cert.AdamWOutRefIdeal.nD Cert.AdamWOutRefIdeal.τ).loc Cert.AdamWOutRefIdeal.main_arg4)
          ∧ r.2.mem ((c.tc : Thread Cert.AdamWOutRefIdeal.nD Cert.AdamWOutRefIdeal.τ).loc Cert.AdamWOutRefIdeal.main_arg5) = m' ((c.tc : Thread Cert.AdamWOutRefIdeal.nD Cert.AdamWOutRefIdeal.τ).loc Cert.AdamWOutRefIdeal.main_arg5)
          ∧ r.2.mem ((c.tc : Thread Cert.AdamWOutRefIdeal.nD Cert.AdamWOutRefIdeal.τ).loc Cert.AdamWOutRefIdeal.main_arg6) = m' ((c.tc : Thread Cert.AdamWOutRefIdeal.nD Cert.AdamWOutRefIdeal.τ).loc Cert.AdamWOutRefIdeal.main_arg6))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)
      ∧ m' ((c.tc : Thread Cert.AdamFfnInRefIdeal.nD Cert.AdamFfnInRefIdeal.τ).loc Cert.AdamFfnInRefIdeal.main_arg4) = m ((c.tc : Thread Cert.AdamFfnInIdeal.nD Cert.AdamFfnInIdeal.τ).loc Cert.AdamFfnInIdeal.main_arg4)
      ∧ m' ((c.tc : Thread Cert.AdamFfnInRefIdeal.nD Cert.AdamFfnInRefIdeal.τ).loc Cert.AdamFfnInRefIdeal.main_arg5) = m ((c.tc : Thread Cert.AdamFfnInIdeal.nD Cert.AdamFfnInIdeal.τ).loc Cert.AdamFfnInIdeal.main_arg5)
      ∧ m' ((c.tc : Thread Cert.AdamFfnInRefIdeal.nD Cert.AdamFfnInRefIdeal.τ).loc Cert.AdamFfnInRefIdeal.main_arg6) = m ((c.tc : Thread Cert.AdamFfnInIdeal.nD Cert.AdamFfnInIdeal.τ).loc Cert.AdamFfnInIdeal.main_arg6)) →
    ∃ (v0 : (c : Dev Cert.AdamFfnInIdeal.nD) → Buf (Elt Ideal) ((c.tc : Thread Cert.AdamFfnInIdeal.nD Cert.AdamFfnInIdeal.τ).loc Cert.AdamFfnInIdeal.main_v3_0)) (v1 : (c : Dev Cert.AdamFfnInIdeal.nD) → Buf (Elt Ideal) ((c.tc : Thread Cert.AdamFfnInIdeal.nD Cert.AdamFfnInIdeal.τ).loc Cert.AdamFfnInIdeal.main_v3_1)) (v2 : (c : Dev Cert.AdamFfnInIdeal.nD) → Buf (Elt Ideal) ((c.tc : Thread Cert.AdamFfnInIdeal.nD Cert.AdamFfnInIdeal.τ).loc Cert.AdamFfnInIdeal.main_v3_2)) (v3 : (c : Dev Cert.AdamFfnInIdeal.nD) → Buf (Elt Ideal) ((c.tc : Thread Cert.AdamFfnInIdeal.nD Cert.AdamFfnInIdeal.τ).loc Cert.AdamFfnInIdeal.main_v3_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v3_0) = v0 c
          ∧ r.2.mem ((c.tc : Thread Cert.AdamFfnInIdeal.nD Cert.AdamFfnInIdeal.τ).loc Cert.AdamFfnInIdeal.main_v3_1) = v1 c
          ∧ r.2.mem ((c.tc : Thread Cert.AdamFfnInIdeal.nD Cert.AdamFfnInIdeal.τ).loc Cert.AdamFfnInIdeal.main_v3_2) = v2 c
          ∧ r.2.mem ((c.tc : Thread Cert.AdamFfnInIdeal.nD Cert.AdamFfnInIdeal.τ).loc Cert.AdamFfnInIdeal.main_v3_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
          ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5)
          ∧ r.2.mem ((c.tc : Thread Cert.AdamFfnInIdeal.nD Cert.AdamFfnInIdeal.τ).loc Cert.AdamFfnInIdeal.main_arg6) = m ((c.tc : Thread Cert.AdamFfnInIdeal.nD Cert.AdamFfnInIdeal.τ).loc Cert.AdamFfnInIdeal.main_arg6))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v14) = v0 c
          ∧ r.2.mem ((c.tc : Thread Cert.AdamFfnInRefIdeal.nD Cert.AdamFfnInRefIdeal.τ).loc Cert.AdamFfnInRefIdeal.main_v40) = v1 c
          ∧ r.2.mem ((c.tc : Thread Cert.AdamFfnInRefIdeal.nD Cert.AdamFfnInRefIdeal.τ).loc Cert.AdamFfnInRefIdeal.main_v21) = v2 c
          ∧ r.2.mem ((c.tc : Thread Cert.AdamFfnInRefIdeal.nD Cert.AdamFfnInRefIdeal.τ).loc Cert.AdamFfnInRefIdeal.main_v27) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3)
          ∧ r.2.mem ((c.tc : Thread Cert.AdamFfnInRefIdeal.nD Cert.AdamFfnInRefIdeal.τ).loc Cert.AdamFfnInRefIdeal.main_arg4) = m' ((c.tc : Thread Cert.AdamFfnInRefIdeal.nD Cert.AdamFfnInRefIdeal.τ).loc Cert.AdamFfnInRefIdeal.main_arg4)
          ∧ r.2.mem ((c.tc : Thread Cert.AdamFfnInRefIdeal.nD Cert.AdamFfnInRefIdeal.τ).loc Cert.AdamFfnInRefIdeal.main_arg5) = m' ((c.tc : Thread Cert.AdamFfnInRefIdeal.nD Cert.AdamFfnInRefIdeal.τ).loc Cert.AdamFfnInRefIdeal.main_arg5)
          ∧ r.2.mem ((c.tc : Thread Cert.AdamFfnInRefIdeal.nD Cert.AdamFfnInRefIdeal.τ).loc Cert.AdamFfnInRefIdeal.main_arg6) = m' ((c.tc : Thread Cert.AdamFfnInRefIdeal.nD Cert.AdamFfnInRefIdeal.τ).loc Cert.AdamFfnInRefIdeal.main_arg6))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)
      ∧ m' ((c.tc : Thread Cert.AdamFfnOutRefIdeal.nD Cert.AdamFfnOutRefIdeal.τ).loc Cert.AdamFfnOutRefIdeal.main_arg4) = m ((c.tc : Thread Cert.AdamFfnOutIdeal.nD Cert.AdamFfnOutIdeal.τ).loc Cert.AdamFfnOutIdeal.main_arg4)
      ∧ m' ((c.tc : Thread Cert.AdamFfnOutRefIdeal.nD Cert.AdamFfnOutRefIdeal.τ).loc Cert.AdamFfnOutRefIdeal.main_arg5) = m ((c.tc : Thread Cert.AdamFfnOutIdeal.nD Cert.AdamFfnOutIdeal.τ).loc Cert.AdamFfnOutIdeal.main_arg5)
      ∧ m' ((c.tc : Thread Cert.AdamFfnOutRefIdeal.nD Cert.AdamFfnOutRefIdeal.τ).loc Cert.AdamFfnOutRefIdeal.main_arg6) = m ((c.tc : Thread Cert.AdamFfnOutIdeal.nD Cert.AdamFfnOutIdeal.τ).loc Cert.AdamFfnOutIdeal.main_arg6)) →
    ∃ (v0 : (c : Dev Cert.AdamFfnOutIdeal.nD) → Buf (Elt Ideal) ((c.tc : Thread Cert.AdamFfnOutIdeal.nD Cert.AdamFfnOutIdeal.τ).loc Cert.AdamFfnOutIdeal.main_v3_0)) (v1 : (c : Dev Cert.AdamFfnOutIdeal.nD) → Buf (Elt Ideal) ((c.tc : Thread Cert.AdamFfnOutIdeal.nD Cert.AdamFfnOutIdeal.τ).loc Cert.AdamFfnOutIdeal.main_v3_1)) (v2 : (c : Dev Cert.AdamFfnOutIdeal.nD) → Buf (Elt Ideal) ((c.tc : Thread Cert.AdamFfnOutIdeal.nD Cert.AdamFfnOutIdeal.τ).loc Cert.AdamFfnOutIdeal.main_v3_2)) (v3 : (c : Dev Cert.AdamFfnOutIdeal.nD) → Buf (Elt Ideal) ((c.tc : Thread Cert.AdamFfnOutIdeal.nD Cert.AdamFfnOutIdeal.τ).loc Cert.AdamFfnOutIdeal.main_v3_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v3_0) = v0 c
          ∧ r.2.mem ((c.tc : Thread Cert.AdamFfnOutIdeal.nD Cert.AdamFfnOutIdeal.τ).loc Cert.AdamFfnOutIdeal.main_v3_1) = v1 c
          ∧ r.2.mem ((c.tc : Thread Cert.AdamFfnOutIdeal.nD Cert.AdamFfnOutIdeal.τ).loc Cert.AdamFfnOutIdeal.main_v3_2) = v2 c
          ∧ r.2.mem ((c.tc : Thread Cert.AdamFfnOutIdeal.nD Cert.AdamFfnOutIdeal.τ).loc Cert.AdamFfnOutIdeal.main_v3_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
          ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5)
          ∧ r.2.mem ((c.tc : Thread Cert.AdamFfnOutIdeal.nD Cert.AdamFfnOutIdeal.τ).loc Cert.AdamFfnOutIdeal.main_arg6) = m ((c.tc : Thread Cert.AdamFfnOutIdeal.nD Cert.AdamFfnOutIdeal.τ).loc Cert.AdamFfnOutIdeal.main_arg6))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v14) = v0 c
          ∧ r.2.mem ((c.tc : Thread Cert.AdamFfnOutRefIdeal.nD Cert.AdamFfnOutRefIdeal.τ).loc Cert.AdamFfnOutRefIdeal.main_v40) = v1 c
          ∧ r.2.mem ((c.tc : Thread Cert.AdamFfnOutRefIdeal.nD Cert.AdamFfnOutRefIdeal.τ).loc Cert.AdamFfnOutRefIdeal.main_v21) = v2 c
          ∧ r.2.mem ((c.tc : Thread Cert.AdamFfnOutRefIdeal.nD Cert.AdamFfnOutRefIdeal.τ).loc Cert.AdamFfnOutRefIdeal.main_v27) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3)
          ∧ r.2.mem ((c.tc : Thread Cert.AdamFfnOutRefIdeal.nD Cert.AdamFfnOutRefIdeal.τ).loc Cert.AdamFfnOutRefIdeal.main_arg4) = m' ((c.tc : Thread Cert.AdamFfnOutRefIdeal.nD Cert.AdamFfnOutRefIdeal.τ).loc Cert.AdamFfnOutRefIdeal.main_arg4)
          ∧ r.2.mem ((c.tc : Thread Cert.AdamFfnOutRefIdeal.nD Cert.AdamFfnOutRefIdeal.τ).loc Cert.AdamFfnOutRefIdeal.main_arg5) = m' ((c.tc : Thread Cert.AdamFfnOutRefIdeal.nD Cert.AdamFfnOutRefIdeal.τ).loc Cert.AdamFfnOutRefIdeal.main_arg5)
          ∧ r.2.mem ((c.tc : Thread Cert.AdamFfnOutRefIdeal.nD Cert.AdamFfnOutRefIdeal.τ).loc Cert.AdamFfnOutRefIdeal.main_arg6) = m' ((c.tc : Thread Cert.AdamFfnOutRefIdeal.nD Cert.AdamFfnOutRefIdeal.τ).loc Cert.AdamFfnOutRefIdeal.main_arg6))

def Claim : Prop :=
  ∃ (hKernel : Cert.Kernel.Facts) (hKernelIdeal : Cert.KernelIdeal.Facts) (hKernelRefIdeal : Cert.KernelRefIdeal.Facts) (hFfn : Cert.Ffn.Facts) (hFfnIdeal : Cert.FfnIdeal.Facts) (hFfnRefIdeal : Cert.FfnRefIdeal.Facts) (hFfnDx : Cert.FfnDx.Facts) (hFfnDxIdeal : Cert.FfnDxIdeal.Facts) (hFfnDxRefIdeal : Cert.FfnDxRefIdeal.Facts) (hFfnDw : Cert.FfnDw.Facts) (hFfnDwIdeal : Cert.FfnDwIdeal.Facts) (hFfnDwRefIdeal : Cert.FfnDwRefIdeal.Facts) (hOutDw : Cert.OutDw.Facts) (hOutDwIdeal : Cert.OutDwIdeal.Facts) (hOutDwRefIdeal : Cert.OutDwRefIdeal.Facts) (hWoutDx : Cert.WoutDx.Facts) (hWoutDxIdeal : Cert.WoutDxIdeal.Facts) (hWoutDxRefIdeal : Cert.WoutDxRefIdeal.Facts) (hWoutDw : Cert.WoutDw.Facts) (hWoutDwIdeal : Cert.WoutDwIdeal.Facts) (hWoutDwRefIdeal : Cert.WoutDwRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hProj : Cert.Proj.Facts) (hProjIdeal : Cert.ProjIdeal.Facts) (hProjRefIdeal : Cert.ProjRefIdeal.Facts) (hFfnOut : Cert.FfnOut.Facts) (hFfnOutIdeal : Cert.FfnOutIdeal.Facts) (hFfnOutRefIdeal : Cert.FfnOutRefIdeal.Facts) (hWout : Cert.Wout.Facts) (hWoutIdeal : Cert.WoutIdeal.Facts) (hWoutRefIdeal : Cert.WoutRefIdeal.Facts) (hMerge : Cert.Merge.Facts) (hMergeIdeal : Cert.MergeIdeal.Facts) (hMergeRefIdeal : Cert.MergeRefIdeal.Facts) (hAdamAda : Cert.AdamAda.Facts) (hAdamAdaIdeal : Cert.AdamAdaIdeal.Facts) (hAdamAdaRefIdeal : Cert.AdamAdaRefIdeal.Facts) (hAdamBAda : Cert.AdamBAda.Facts) (hAdamBAdaIdeal : Cert.AdamBAdaIdeal.Facts) (hAdamBAdaRefIdeal : Cert.AdamBAdaRefIdeal.Facts) (hAdamBIn : Cert.AdamBIn.Facts) (hAdamBInIdeal : Cert.AdamBInIdeal.Facts) (hAdamBInRefIdeal : Cert.AdamBInRefIdeal.Facts) (hAdamLam : Cert.AdamLam.Facts) (hAdamLamIdeal : Cert.AdamLamIdeal.Facts) (hAdamLamRefIdeal : Cert.AdamLamRefIdeal.Facts) (hAdamLogDt : Cert.AdamLogDt.Facts) (hAdamLogDtIdeal : Cert.AdamLogDtIdeal.Facts) (hAdamLogDtRefIdeal : Cert.AdamLogDtRefIdeal.Facts) (hAdamS5B : Cert.AdamS5B.Facts) (hAdamS5BIdeal : Cert.AdamS5BIdeal.Facts) (hAdamS5BRefIdeal : Cert.AdamS5BRefIdeal.Facts) (hAdamS5C : Cert.AdamS5C.Facts) (hAdamS5CIdeal : Cert.AdamS5CIdeal.Facts) (hAdamS5CRefIdeal : Cert.AdamS5CRefIdeal.Facts) (hAdamRow512 : Cert.AdamRow512.Facts) (hAdamRow512Ideal : Cert.AdamRow512Ideal.Facts) (hAdamRow512RefIdeal : Cert.AdamRow512RefIdeal.Facts) (hAdamQNorm : Cert.AdamQNorm.Facts) (hAdamQNormIdeal : Cert.AdamQNormIdeal.Facts) (hAdamQNormRefIdeal : Cert.AdamQNormRefIdeal.Facts) (hAdamKvNorm : Cert.AdamKvNorm.Facts) (hAdamKvNormIdeal : Cert.AdamKvNormIdeal.Facts) (hAdamKvNormRefIdeal : Cert.AdamKvNormRefIdeal.Facts) (hAdamSguW : Cert.AdamSguW.Facts) (hAdamSguWIdeal : Cert.AdamSguWIdeal.Facts) (hAdamSguWRefIdeal : Cert.AdamSguWRefIdeal.Facts) (hAdamSguB : Cert.AdamSguB.Facts) (hAdamSguBIdeal : Cert.AdamSguBIdeal.Facts) (hAdamSguBRefIdeal : Cert.AdamSguBRefIdeal.Facts) (hAdamRow1024 : Cert.AdamRow1024.Facts) (hAdamRow1024Ideal : Cert.AdamRow1024Ideal.Facts) (hAdamRow1024RefIdeal : Cert.AdamRow1024RefIdeal.Facts) (hAdamWIn : Cert.AdamWIn.Facts) (hAdamWInIdeal : Cert.AdamWInIdeal.Facts) (hAdamWInRefIdeal : Cert.AdamWInRefIdeal.Facts) (hAdamGlu : Cert.AdamGlu.Facts) (hAdamGluIdeal : Cert.AdamGluIdeal.Facts) (hAdamGluRefIdeal : Cert.AdamGluRefIdeal.Facts) (hAdamQUp : Cert.AdamQUp.Facts) (hAdamQUpIdeal : Cert.AdamQUpIdeal.Facts) (hAdamQUpRefIdeal : Cert.AdamQUpRefIdeal.Facts) (hAdamKvUp : Cert.AdamKvUp.Facts) (hAdamKvUpIdeal : Cert.AdamKvUpIdeal.Facts) (hAdamKvUpRefIdeal : Cert.AdamKvUpRefIdeal.Facts) (hAdamBranch : Cert.AdamBranch.Facts) (hAdamBranchIdeal : Cert.AdamBranchIdeal.Facts) (hAdamBranchRefIdeal : Cert.AdamBranchRefIdeal.Facts) (hAdamWOut : Cert.AdamWOut.Facts) (hAdamWOutIdeal : Cert.AdamWOutIdeal.Facts) (hAdamWOutRefIdeal : Cert.AdamWOutRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts),
    quiescent_Kernel (hKernel := hKernel)
    ∧ quiescent_KernelIdeal (hKernelIdeal := hKernelIdeal)
    ∧ quiescent_KernelRefIdeal (hKernelRefIdeal := hKernelRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnDx (hFfnDx := hFfnDx)
    ∧ quiescent_FfnDxIdeal (hFfnDxIdeal := hFfnDxIdeal)
    ∧ quiescent_FfnDxRefIdeal (hFfnDxRefIdeal := hFfnDxRefIdeal)
    ∧ quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_WoutDx (hWoutDx := hWoutDx)
    ∧ quiescent_WoutDxIdeal (hWoutDxIdeal := hWoutDxIdeal)
    ∧ quiescent_WoutDxRefIdeal (hWoutDxRefIdeal := hWoutDxRefIdeal)
    ∧ quiescent_WoutDw (hWoutDw := hWoutDw)
    ∧ quiescent_WoutDwIdeal (hWoutDwIdeal := hWoutDwIdeal)
    ∧ quiescent_WoutDwRefIdeal (hWoutDwRefIdeal := hWoutDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_Proj (hProj := hProj)
    ∧ quiescent_ProjIdeal (hProjIdeal := hProjIdeal)
    ∧ quiescent_ProjRefIdeal (hProjRefIdeal := hProjRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Wout (hWout := hWout)
    ∧ quiescent_WoutIdeal (hWoutIdeal := hWoutIdeal)
    ∧ quiescent_WoutRefIdeal (hWoutRefIdeal := hWoutRefIdeal)
    ∧ quiescent_Merge (hMerge := hMerge)
    ∧ quiescent_MergeIdeal (hMergeIdeal := hMergeIdeal)
    ∧ quiescent_MergeRefIdeal (hMergeRefIdeal := hMergeRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamBAda (hAdamBAda := hAdamBAda)
    ∧ quiescent_AdamBAdaIdeal (hAdamBAdaIdeal := hAdamBAdaIdeal)
    ∧ quiescent_AdamBAdaRefIdeal (hAdamBAdaRefIdeal := hAdamBAdaRefIdeal)
    ∧ quiescent_AdamBIn (hAdamBIn := hAdamBIn)
    ∧ quiescent_AdamBInIdeal (hAdamBInIdeal := hAdamBInIdeal)
    ∧ quiescent_AdamBInRefIdeal (hAdamBInRefIdeal := hAdamBInRefIdeal)
    ∧ quiescent_AdamLam (hAdamLam := hAdamLam)
    ∧ quiescent_AdamLamIdeal (hAdamLamIdeal := hAdamLamIdeal)
    ∧ quiescent_AdamLamRefIdeal (hAdamLamRefIdeal := hAdamLamRefIdeal)
    ∧ quiescent_AdamLogDt (hAdamLogDt := hAdamLogDt)
    ∧ quiescent_AdamLogDtIdeal (hAdamLogDtIdeal := hAdamLogDtIdeal)
    ∧ quiescent_AdamLogDtRefIdeal (hAdamLogDtRefIdeal := hAdamLogDtRefIdeal)
    ∧ quiescent_AdamS5B (hAdamS5B := hAdamS5B)
    ∧ quiescent_AdamS5BIdeal (hAdamS5BIdeal := hAdamS5BIdeal)
    ∧ quiescent_AdamS5BRefIdeal (hAdamS5BRefIdeal := hAdamS5BRefIdeal)
    ∧ quiescent_AdamS5C (hAdamS5C := hAdamS5C)
    ∧ quiescent_AdamS5CIdeal (hAdamS5CIdeal := hAdamS5CIdeal)
    ∧ quiescent_AdamS5CRefIdeal (hAdamS5CRefIdeal := hAdamS5CRefIdeal)
    ∧ quiescent_AdamRow512 (hAdamRow512 := hAdamRow512)
    ∧ quiescent_AdamRow512Ideal (hAdamRow512Ideal := hAdamRow512Ideal)
    ∧ quiescent_AdamRow512RefIdeal (hAdamRow512RefIdeal := hAdamRow512RefIdeal)
    ∧ quiescent_AdamQNorm (hAdamQNorm := hAdamQNorm)
    ∧ quiescent_AdamQNormIdeal (hAdamQNormIdeal := hAdamQNormIdeal)
    ∧ quiescent_AdamQNormRefIdeal (hAdamQNormRefIdeal := hAdamQNormRefIdeal)
    ∧ quiescent_AdamKvNorm (hAdamKvNorm := hAdamKvNorm)
    ∧ quiescent_AdamKvNormIdeal (hAdamKvNormIdeal := hAdamKvNormIdeal)
    ∧ quiescent_AdamKvNormRefIdeal (hAdamKvNormRefIdeal := hAdamKvNormRefIdeal)
    ∧ quiescent_AdamSguW (hAdamSguW := hAdamSguW)
    ∧ quiescent_AdamSguWIdeal (hAdamSguWIdeal := hAdamSguWIdeal)
    ∧ quiescent_AdamSguWRefIdeal (hAdamSguWRefIdeal := hAdamSguWRefIdeal)
    ∧ quiescent_AdamSguB (hAdamSguB := hAdamSguB)
    ∧ quiescent_AdamSguBIdeal (hAdamSguBIdeal := hAdamSguBIdeal)
    ∧ quiescent_AdamSguBRefIdeal (hAdamSguBRefIdeal := hAdamSguBRefIdeal)
    ∧ quiescent_AdamRow1024 (hAdamRow1024 := hAdamRow1024)
    ∧ quiescent_AdamRow1024Ideal (hAdamRow1024Ideal := hAdamRow1024Ideal)
    ∧ quiescent_AdamRow1024RefIdeal (hAdamRow1024RefIdeal := hAdamRow1024RefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamQUp (hAdamQUp := hAdamQUp)
    ∧ quiescent_AdamQUpIdeal (hAdamQUpIdeal := hAdamQUpIdeal)
    ∧ quiescent_AdamQUpRefIdeal (hAdamQUpRefIdeal := hAdamQUpRefIdeal)
    ∧ quiescent_AdamKvUp (hAdamKvUp := hAdamKvUp)
    ∧ quiescent_AdamKvUpIdeal (hAdamKvUpIdeal := hAdamKvUpIdeal)
    ∧ quiescent_AdamKvUpRefIdeal (hAdamKvUpRefIdeal := hAdamKvUpRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ preserves_Kernel_KernelIdeal
    ∧ algebraic_KernelIdeal_KernelRefIdeal (hKernelIdeal := hKernelIdeal) (hKernelRefIdeal := hKernelRefIdeal)
    ∧ preserves_Ffn_FfnIdeal
    ∧ algebraic_FfnIdeal_FfnRefIdeal (hFfnIdeal := hFfnIdeal) (hFfnRefIdeal := hFfnRefIdeal)
    ∧ preserves_FfnDx_FfnDxIdeal
    ∧ algebraic_FfnDxIdeal_FfnDxRefIdeal (hFfnDxIdeal := hFfnDxIdeal) (hFfnDxRefIdeal := hFfnDxRefIdeal)
    ∧ preserves_FfnDw_FfnDwIdeal
    ∧ algebraic_FfnDwIdeal_FfnDwRefIdeal (hFfnDwIdeal := hFfnDwIdeal) (hFfnDwRefIdeal := hFfnDwRefIdeal)
    ∧ preserves_OutDw_OutDwIdeal
    ∧ algebraic_OutDwIdeal_OutDwRefIdeal (hOutDwIdeal := hOutDwIdeal) (hOutDwRefIdeal := hOutDwRefIdeal)
    ∧ preserves_WoutDx_WoutDxIdeal
    ∧ algebraic_WoutDxIdeal_WoutDxRefIdeal (hWoutDxIdeal := hWoutDxIdeal) (hWoutDxRefIdeal := hWoutDxRefIdeal)
    ∧ preserves_WoutDw_WoutDwIdeal
    ∧ algebraic_WoutDwIdeal_WoutDwRefIdeal (hWoutDwIdeal := hWoutDwIdeal) (hWoutDwRefIdeal := hWoutDwRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_Proj_ProjIdeal
    ∧ algebraic_ProjIdeal_ProjRefIdeal (hProjIdeal := hProjIdeal) (hProjRefIdeal := hProjRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Wout_WoutIdeal
    ∧ algebraic_WoutIdeal_WoutRefIdeal (hWoutIdeal := hWoutIdeal) (hWoutRefIdeal := hWoutRefIdeal)
    ∧ preserves_Merge_MergeIdeal
    ∧ algebraic_MergeIdeal_MergeRefIdeal (hMergeIdeal := hMergeIdeal) (hMergeRefIdeal := hMergeRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamBAda_AdamBAdaIdeal
    ∧ algebraic_AdamBAdaIdeal_AdamBAdaRefIdeal (hAdamBAdaIdeal := hAdamBAdaIdeal) (hAdamBAdaRefIdeal := hAdamBAdaRefIdeal)
    ∧ preserves_AdamBIn_AdamBInIdeal
    ∧ algebraic_AdamBInIdeal_AdamBInRefIdeal (hAdamBInIdeal := hAdamBInIdeal) (hAdamBInRefIdeal := hAdamBInRefIdeal)
    ∧ preserves_AdamLam_AdamLamIdeal
    ∧ algebraic_AdamLamIdeal_AdamLamRefIdeal (hAdamLamIdeal := hAdamLamIdeal) (hAdamLamRefIdeal := hAdamLamRefIdeal)
    ∧ preserves_AdamLogDt_AdamLogDtIdeal
    ∧ algebraic_AdamLogDtIdeal_AdamLogDtRefIdeal (hAdamLogDtIdeal := hAdamLogDtIdeal) (hAdamLogDtRefIdeal := hAdamLogDtRefIdeal)
    ∧ preserves_AdamS5B_AdamS5BIdeal
    ∧ algebraic_AdamS5BIdeal_AdamS5BRefIdeal (hAdamS5BIdeal := hAdamS5BIdeal) (hAdamS5BRefIdeal := hAdamS5BRefIdeal)
    ∧ preserves_AdamS5C_AdamS5CIdeal
    ∧ algebraic_AdamS5CIdeal_AdamS5CRefIdeal (hAdamS5CIdeal := hAdamS5CIdeal) (hAdamS5CRefIdeal := hAdamS5CRefIdeal)
    ∧ preserves_AdamRow512_AdamRow512Ideal
    ∧ algebraic_AdamRow512Ideal_AdamRow512RefIdeal (hAdamRow512Ideal := hAdamRow512Ideal) (hAdamRow512RefIdeal := hAdamRow512RefIdeal)
    ∧ preserves_AdamQNorm_AdamQNormIdeal
    ∧ algebraic_AdamQNormIdeal_AdamQNormRefIdeal (hAdamQNormIdeal := hAdamQNormIdeal) (hAdamQNormRefIdeal := hAdamQNormRefIdeal)
    ∧ preserves_AdamKvNorm_AdamKvNormIdeal
    ∧ algebraic_AdamKvNormIdeal_AdamKvNormRefIdeal (hAdamKvNormIdeal := hAdamKvNormIdeal) (hAdamKvNormRefIdeal := hAdamKvNormRefIdeal)
    ∧ preserves_AdamSguW_AdamSguWIdeal
    ∧ algebraic_AdamSguWIdeal_AdamSguWRefIdeal (hAdamSguWIdeal := hAdamSguWIdeal) (hAdamSguWRefIdeal := hAdamSguWRefIdeal)
    ∧ preserves_AdamSguB_AdamSguBIdeal
    ∧ algebraic_AdamSguBIdeal_AdamSguBRefIdeal (hAdamSguBIdeal := hAdamSguBIdeal) (hAdamSguBRefIdeal := hAdamSguBRefIdeal)
    ∧ preserves_AdamRow1024_AdamRow1024Ideal
    ∧ algebraic_AdamRow1024Ideal_AdamRow1024RefIdeal (hAdamRow1024Ideal := hAdamRow1024Ideal) (hAdamRow1024RefIdeal := hAdamRow1024RefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamQUp_AdamQUpIdeal
    ∧ algebraic_AdamQUpIdeal_AdamQUpRefIdeal (hAdamQUpIdeal := hAdamQUpIdeal) (hAdamQUpRefIdeal := hAdamQUpRefIdeal)
    ∧ preserves_AdamKvUp_AdamKvUpIdeal
    ∧ algebraic_AdamKvUpIdeal_AdamKvUpRefIdeal (hAdamKvUpIdeal := hAdamKvUpIdeal) (hAdamKvUpRefIdeal := hAdamKvUpRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
-- ==== Kernel.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S256x2816 : Shape := ⟨2, ![256, 2816]⟩
abbrev S256x1024 : Shape := ⟨2, ![256, 1024]⟩
abbrev S256x5632 : Shape := ⟨2, ![256, 5632]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x1024, .bf16⟩
  | .hbm, ⟨8, _⟩ => ⟨S2816x1024, .bf16⟩
  | .hbm, ⟨9, _⟩ => ⟨S4096x5632, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x1024, .bf16⟩
  | .local _ .vmem, ⟨5, _⟩ => ⟨S256x1024, .bf16⟩
  | .local _ .vmem, ⟨6, _⟩ => ⟨S2816x1024, .bf16⟩
  | .local _ .vmem, ⟨7, _⟩ => ⟨S256x5632, .bf16⟩
  | .local _ .vmem, ⟨8, _⟩ => ⟨S256x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelRefIdeal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Ffn.lean ====
abbrev S4096x1024 : Shape := ⟨2, ![4096, 1024]⟩
abbrev S1024x5632 : Shape := ⟨2, ![1024, 5632]⟩
abbrev S4096x2816 : Shape := ⟨2, ![4096, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x2816, .f32⟩
  | .hbm, ⟨5, _⟩ => ⟨S4096x2816, .f32⟩
  | .hbm, ⟨6, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== FfnDx.lean ====
abbrev S4096x5632 : Shape := ⟨2, ![4096, 5632]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x5632, .bf16⟩
  | .hbm, ⟨3, _⟩ => ⟨S1024x5632, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDxRefIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S_, .f32⟩
  | .hbm, ⟨3, _⟩ => ⟨S4096x1024, .f32⟩
  | .hbm, ⟨4, _⟩ => ⟨S4096x5632, .f32⟩
  | .hbm, ⟨5, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnDw.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WoutDx.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== WoutDw.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WoutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjDx.lean ====
abbrev S4096x5376 : Shape := ⟨2, ![4096, 5376]⟩
abbrev S1024x5376 : Shape := ⟨2, ![1024, 5376]⟩
abbrev S4096x1024 : Shape := ⟨2, ![4096, 1024]⟩
abbrev S1024x1792 : Shape := ⟨2, ![1024, 1792]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5376, .f32⟩
  | .hbm, ⟨1, _⟩ => ⟨S1024x5376, .f32⟩
  | .hbm, ⟨2, _⟩ => ⟨S4096x5376, .bf16⟩
  | .hbm, ⟨3, _⟩ => ⟨S1024x5376, .bf16⟩
  | .hbm, ⟨4, _⟩ => ⟨S4096x1024, .f32⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x5376 : Shape := ⟨2, ![4096, 5376]⟩
abbrev S1024x5376 : Shape := ⟨2, ![1024, 5376]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5376, .f32⟩
  | .hbm, ⟨1, _⟩ => ⟨S1024x5376, .f32⟩
  | .hbm, ⟨2, _⟩ => ⟨S_, .f32⟩
  | .hbm, ⟨3, _⟩ => ⟨S4096x1024, .f32⟩
  | .hbm, ⟨4, _⟩ => ⟨S4096x5376, .f32⟩
  | .hbm, ⟨5, _⟩ => ⟨S4096x1024, .f32⟩
  | _, _ => ⟨S4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjDw.lean ====
abbrev S4096x1024 : Shape := ⟨2, ![4096, 1024]⟩
abbrev S4096x5376 : Shape := ⟨2, ![4096, 5376]⟩
abbrev S1024x5376 : Shape := ⟨2, ![1024, 5376]⟩
abbrev S1024x512 : Shape := ⟨2, ![1024, 512]⟩
abbrev S1024x1792 : Shape := ⟨2, ![1024, 1792]⟩
abbrev S512x1792 : Shape := ⟨2, ![512, 1792]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5376, .f32⟩
  | .hbm, ⟨2, _⟩ => ⟨S4096x1024, .bf16⟩
  | .hbm, ⟨3, _⟩ => ⟨S4096x5376, .bf16⟩
  | .hbm, ⟨4, _⟩ => ⟨S1024x5376, .f32⟩
  | .local _ .vmem, ⟨0, _⟩ => ⟨S1024x512, .bf16⟩
  | .local _ .vmem, ⟨1, _⟩ => ⟨S1024x512, .bf16⟩
  | .local _ .vmem, ⟨2, _⟩ => ⟨S1024x1792, .bf16⟩
  | .local _ .vmem, ⟨3, _⟩ => ⟨S1024x1792, .bf16⟩
  | .local _ .vmem, ⟨4, _⟩ => ⟨S512x1792, .f32⟩
  | .local _ .vmem, ⟨5, _⟩ => ⟨S512x1792, .f32⟩
  | .local _ .vmem, ⟨6, _⟩ => ⟨S512x1792, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4096x1024 : Shape := ⟨2, ![4096, 1024]⟩
abbrev S4096x5376 : Shape := ⟨2, ![4096, 5376]⟩
abbrev S_ : Shape := ⟨0, ![]⟩
abbrev S1024x5376 : Shape := ⟨2, ![1024, 5376]⟩
abbrev S5376x1024 : Shape := ⟨2, ![5376, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5376, .f32⟩
  | .hbm, ⟨2, _⟩ => ⟨S_, .f32⟩
  | .hbm, ⟨3, _⟩ => ⟨S1024x5376, .f32⟩
  | .hbm, ⟨4, _⟩ => ⟨S4096x5376, .f32⟩
  | .hbm, ⟨5, _⟩ => ⟨S5376x1024, .f32⟩
  | .hbm, ⟨6, _⟩ => ⟨S1024x5376, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj.lean ====
abbrev S4096x1024 : Shape := ⟨2, ![4096, 1024]⟩
abbrev S1024x5376 : Shape := ⟨2, ![1024, 5376]⟩
abbrev S5376 : Shape := ⟨1, ![5376]⟩
abbrev S1x5376 : Shape := ⟨2, ![1, 5376]⟩
abbrev S4096x5376 : Shape := ⟨2, ![4096, 5376]⟩
abbrev S1024x1024 : Shape := ⟨2, ![1024, 1024]⟩
abbrev S1024x1792 : Shape := ⟨2, ![1024, 1792]⟩
abbrev S1x1792 : Shape := ⟨2, ![1, 1792]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x5376, .f32⟩
  | .hbm, ⟨2, _⟩ => ⟨S5376, .f32⟩
  | .hbm, ⟨3, _⟩ => ⟨S4096x1024, .bf16⟩
  | .hbm, ⟨4, _⟩ => ⟨S1024x5376, .bf16⟩
  | .hbm, ⟨5, _⟩ => ⟨S1x5376, .f32⟩
  | .hbm, ⟨6, _⟩ => ⟨S4096x5376, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1x1792, .f32⟩
  | .local _ .vmem, ⟨5, _⟩ => ⟨S1x1792, .f32⟩
  | .local _ .vmem, ⟨6, _⟩ => ⟨S1024x1792, .f32⟩
  | .local _ .vmem, ⟨7, _⟩ => ⟨S1024x1792, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjRefIdeal.lean ====
abbrev S4096x1024 : Shape := ⟨2, ![4096, 1024]⟩
abbrev S1024x5376 : Shape := ⟨2, ![1024, 5376]⟩
abbrev S5376 : Shape := ⟨1, ![5376]⟩
abbrev S4096x5376 : Shape := ⟨2, ![4096, 5376]⟩
abbrev S1x5376 : Shape := ⟨2, ![1, 5376]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5376, .f32⟩
  | .hbm, ⟨2, _⟩ => ⟨S5376, .f32⟩
  | .hbm, ⟨3, _⟩ => ⟨S4096x5376, .f32⟩
  | .hbm, ⟨4, _⟩ => ⟨S1x5376, .f32⟩
  | .hbm, ⟨5, _⟩ => ⟨S4096x5376, .f32⟩
  | .hbm, ⟨6, _⟩ => ⟨S4096x5376, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Wout.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Merge.lean ====
abbrev S4096x5376 : Shape := ⟨2, ![4096, 5376]⟩
abbrev S4096x512 : Shape := ⟨2, ![4096, 512]⟩
abbrev S4096x1024 : Shape := ⟨2, ![4096, 1024]⟩
abbrev S3x512x1024 : Shape := ⟨3, ![3, 512, 1024]⟩
abbrev S1536x1024 : Shape := ⟨2, ![1536, 1024]⟩
abbrev S256x512 : Shape := ⟨2, ![256, 512]⟩
abbrev S256x1024 : Shape := ⟨2, ![256, 1024]⟩
abbrev S512x1024 : Shape := ⟨2, ![512, 1024]⟩
abbrev S1024x1024 : Shape := ⟨2, ![1024, 1024]⟩

abbrev nBuf : Space → Nat
  | .hbm => 19
  | .vmem => 28
  | .smem => 0
  | _ => 0

abbrev bufTy : (tb : Table) → Fin (tcTables nBuf tb) → BufTy
  | .hbm, ⟨0, _⟩ => ⟨S4096x5376, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1024, .f32⟩
  | .hbm, ⟨5, _⟩ => ⟨S3x512x1024, .f32⟩
  | .hbm, ⟨6, _⟩ => ⟨S3x512x1024, .bf16⟩
  | .hbm, ⟨7, _⟩ => ⟨S1536x1024, .bf16⟩
  | .hbm, ⟨8, _⟩ => ⟨S1536x1024, .f32⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1536x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1536x1024, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S1536x1024, .f32⟩
  | _, _ => ⟨S4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v6_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1536x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeRefIdeal.lean ====
abbrev S4096x5376 : Shape := ⟨2, ![4096, 5376]⟩
abbrev S4096x512 : Shape := ⟨2, ![4096, 512]⟩
abbrev S4096x1024 : Shape := ⟨2, ![4096, 1024]⟩
abbrev S3x512x1024 : Shape := ⟨3, ![3, 512, 1024]⟩
abbrev S1x512x1024 : Shape := ⟨3, ![1, 512, 1024]⟩
abbrev S512x1024 : Shape := ⟨2, ![512, 1024]⟩
abbrev S_ : Shape := ⟨0, ![]⟩
abbrev S1024x512 : Shape := ⟨2, ![1024, 512]⟩
abbrev S1536x1024 : Shape := ⟨2, ![1536, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x5376, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1024, .f32⟩
  | .hbm, ⟨5, _⟩ => ⟨S3x512x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x512x1024, .f32⟩
  | .hbm, ⟨10, _⟩ => ⟨S512x1024, .f32⟩
  | .hbm, ⟨11, _⟩ => ⟨S1x512x1024, .f32⟩
  | .hbm, ⟨12, _⟩ => ⟨S512x1024, .f32⟩
  | .hbm, ⟨13, _⟩ => ⟨S1x512x1024, .f32⟩
  | .hbm, ⟨14, _⟩ => ⟨S512x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S1024x512, .f32⟩
  | .hbm, ⟨64, _⟩ => ⟨S512x1024, .f32⟩
  | .hbm, ⟨65, _⟩ => ⟨S4096x512, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S1024x512, .f32⟩
  | .hbm, ⟨70, _⟩ => ⟨S512x1024, .f32⟩
  | .hbm, ⟨71, _⟩ => ⟨S4096x512, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1024x512, .f32⟩
  | .hbm, ⟨76, _⟩ => ⟨S512x1024, .f32⟩
  | .hbm, ⟨77, _⟩ => ⟨S4096x512, .f32⟩
  | .hbm, ⟨78, _⟩ => ⟨S4096x1024, .f32⟩
  | .hbm, ⟨79, _⟩ => ⟨S1536x1024, .f32⟩
  | _, _ => ⟨S4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== AdamAda.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamAdaIdeal.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamAdaRefIdeal.lean ====
abbrev S4x1024x768 : Shape := ⟨3, ![4, 1024, 768]⟩
abbrev S4096x768 : Shape := ⟨2, ![4096, 768]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S_, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S4096x768, .f32⟩
  | .hbm, ⟨23, _⟩ => ⟨S_, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | .hbm, ⟨37, _⟩ => ⟨S4096x768, .f32⟩
  | .hbm, ⟨38, _⟩ => ⟨S_, .f32⟩
  | .hbm, ⟨39, _⟩ => ⟨S4096x768, .f32⟩
  | .hbm, ⟨40, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamBAda.lean ====
abbrev S4x6144 : Shape := ⟨2, ![4, 6144]⟩

abbrev nBuf : Space → Nat
  | .hbm => 8
  | .vmem => 8
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .hbm, ⟨7, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | .local _ .vmem, ⟨7, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamBAdaIdeal.lean ====
abbrev S4x6144 : Shape := ⟨2, ![4, 6144]⟩

abbrev nBuf : Space → Nat
  | .hbm => 8
  | .vmem => 8
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .hbm, ⟨7, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | .local _ .vmem, ⟨7, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamBAdaRefIdeal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBIn.lean ====
abbrev S4x5280 : Shape := ⟨2, ![4, 5280]⟩

abbrev nBuf : Space → Nat
  | .hbm => 8
  | .vmem => 8
  | .smem => 0
  | _ => 0

abbrev bufTy : (tb : Table) → Fin (tcTables nBuf tb) → BufTy
  | .hbm, ⟨0, _⟩ => ⟨S4x5280, .f32⟩
  | .hbm, ⟨1, _⟩ => ⟨S4x5280, .f32⟩
  | .hbm, ⟨2, _⟩ => ⟨S4x5280, .f32⟩
  | .hbm, ⟨3, _⟩ => ⟨S4x5280, .f32⟩
  | .hbm, ⟨4, _⟩ => ⟨S4x5280, .f32⟩
  | .hbm, ⟨5, _⟩ => ⟨S4x5280, .f32⟩
  | .hbm, ⟨6, _⟩ => ⟨S4x5280, .f32⟩
  | .hbm, ⟨7, _⟩ => ⟨S4x5280, .f32⟩
  | .local _ .vmem, ⟨0, _⟩ => ⟨S4x5280, .f32⟩
  | .local _ .vmem, ⟨1, _⟩ => ⟨S4x5280, .f32⟩
  | .local _ .vmem, ⟨2, _⟩ => ⟨S4x5280, .f32⟩
  | .local _ .vmem, ⟨3, _⟩ => ⟨S4x5280, .f32⟩
  | .local _ .vmem, ⟨4, _⟩ => ⟨S4x5280, .f32⟩
  | .local _ .vmem, ⟨5, _⟩ => ⟨S4x5280, .f32⟩
  | .local _ .vmem, ⟨6, _⟩ => ⟨S4x5280, .f32⟩
  | .local _ .vmem, ⟨7, _⟩ => ⟨S4x5280, .f32⟩
  | _, _ => ⟨S4x5280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x5280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x5280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x5280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x5280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x5280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x5280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x5280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x5280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamBInIdeal.lean ====
abbrev S4x5280 : Shape := ⟨2, ![4, 5280]⟩

abbrev nBuf : Space → Nat
  | .hbm => 8
  | .vmem => 8
  | .smem => 0
  | _ => 0

abbrev bufTy : (tb : Table) → Fin (tcTables nBuf tb) → BufTy
  | .hbm, ⟨0, _⟩ => ⟨S4x5280, .f32⟩
  | .hbm, ⟨1, _⟩ => ⟨S4x5280, .f32⟩
  | .hbm, ⟨2, _⟩ => ⟨S4x5280, .f32⟩
  | .hbm, ⟨3, _⟩ => ⟨S4x5280, .f32⟩
  | .hbm, ⟨4, _⟩ => ⟨S4x5280, .f32⟩
  | .hbm, ⟨5, _⟩ => ⟨S4x5280, .f32⟩
  | .hbm, ⟨6, _⟩ => ⟨S4x5280, .f32⟩
  | .hbm, ⟨7, _⟩ => ⟨S4x5280, .f32⟩
  | .local _ .vmem, ⟨0, _⟩ => ⟨S4x5280, .f32⟩
  | .local _ .vmem, ⟨1, _⟩ => ⟨S4x5280, .f32⟩
  | .local _ .vmem, ⟨2, _⟩ => ⟨S4x5280, .f32⟩
  | .local _ .vmem, ⟨3, _⟩ => ⟨S4x5280, .f32⟩
  | .local _ .vmem, ⟨4, _⟩ => ⟨S4x5280, .f32⟩
  | .local _ .vmem, ⟨5, _⟩ => ⟨S4x5280, .f32⟩
  | .local _ .vmem, ⟨6, _⟩ => ⟨S4x5280, .f32⟩
  | .local _ .vmem, ⟨7, _⟩ => ⟨S4x5280, .f32⟩
  | _, _ => ⟨S4x5280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x5280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x5280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x5280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x5280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x5280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x5280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x5280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x5280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamBInRefIdeal.lean ====
abbrev S4x5280 : Shape := ⟨2, ![4, 5280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5280, .f32⟩
  | .hbm, ⟨1, _⟩ => ⟨S4x5280, .f32⟩
  | .hbm, ⟨2, _⟩ => ⟨S4x5280, .f32⟩
  | .hbm, ⟨3, _⟩ => ⟨S4x5280, .f32⟩
  | .hbm, ⟨4, _⟩ => ⟨S_, .f32⟩
  | .hbm, ⟨5, _⟩ => ⟨S4x5280, .f32⟩
  | .hbm, ⟨6, _⟩ => ⟨S4x5280, .f32⟩
  | .hbm, ⟨7, _⟩ => ⟨S_, .f32⟩
  | .hbm, ⟨8, _⟩ => ⟨S4x5280, .f32⟩
  | .hbm, ⟨9, _⟩ => ⟨S4x5280, .f32⟩
  | .hbm, ⟨10, _⟩ => ⟨S4x5280, .f32⟩
  | .hbm, ⟨11, _⟩ => ⟨S_, .f32⟩
  | .hbm, ⟨12, _⟩ => ⟨S4x5280, .f32⟩
  | .hbm, ⟨13, _⟩ => ⟨S4x5280, .f32⟩
  | .hbm, ⟨14, _⟩ => ⟨S4x5280, .f32⟩
  | .hbm, ⟨15, _⟩ => ⟨S_, .f32⟩
  | .hbm, ⟨16, _⟩ => ⟨S4x5280, .f32⟩
  | .hbm, ⟨17, _⟩ => ⟨S4x5280, .f32⟩
  | .hbm, ⟨18, _⟩ => ⟨S4x5280, .f32⟩
  | .hbm, ⟨19, _⟩ => ⟨S_, .f32⟩
  | .hbm, ⟨20, _⟩ => ⟨S4x5280, .f32⟩
  | .hbm, ⟨21, _⟩ => ⟨S4x5280, .f32⟩
  | .hbm, ⟨22, _⟩ => ⟨S_, .f32⟩
  | .hbm, ⟨23, _⟩ => ⟨S4x5280, .f32⟩
  | .hbm, ⟨24, _⟩ => ⟨S4x5280, .f32⟩
  | .hbm, ⟨25, _⟩ => ⟨S4x5280, .f32⟩
  | .hbm, ⟨26, _⟩ => ⟨S_, .f32⟩
  | .hbm, ⟨27, _⟩ => ⟨S4x5280, .f32⟩
  | .hbm, ⟨28, _⟩ => ⟨S4x5280, .f32⟩
  | .hbm, ⟨29, _⟩ => ⟨S4x5280, .f32⟩
  | .hbm, ⟨30, _⟩ => ⟨S_, .f32⟩
  | .hbm, ⟨31, _⟩ => ⟨S4x5280, .f32⟩
  | .hbm, ⟨32, _⟩ => ⟨S4x5280, .f32⟩
  | .hbm, ⟨33, _⟩ => ⟨S4x5280, .f32⟩
  | .hbm, ⟨34, _⟩ => ⟨S_, .f32⟩
  | .hbm, ⟨35, _⟩ => ⟨S4x5280, .f32⟩
  | .hbm, ⟨36, _⟩ => ⟨S4x5280, .f32⟩
  | _, _ => ⟨S4x5280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLam.lean ====
abbrev S4x32x64 : Shape := ⟨3, ![4, 32, 64]⟩
abbrev S128x64 : Shape := ⟨2, ![128, 64]⟩

abbrev nBuf : Space → Nat
  | .hbm => 12
  | .vmem => 8
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32x64, .f32⟩
  | .hbm, ⟨3, _⟩ => ⟨S4x32x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | _, _ => ⟨S4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamLamIdeal.lean ====
abbrev S4x32x64 : Shape := ⟨3, ![4, 32, 64]⟩
abbrev S128x64 : Shape := ⟨2, ![128, 64]⟩

abbrev nBuf : Space → Nat
  | .hbm => 12
  | .vmem => 8
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32x64, .f32⟩
  | .hbm, ⟨3, _⟩ => ⟨S4x32x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | _, _ => ⟨S4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamLamRefIdeal.lean ====
abbrev S4x32x64 : Shape := ⟨3, ![4, 32, 64]⟩
abbrev S128x64 : Shape := ⟨2, ![128, 64]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32x64, .f32⟩
  | .hbm, ⟨3, _⟩ => ⟨S4x32x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S_, .f32⟩
  | .hbm, ⟨9, _⟩ => ⟨S128x64, .f32⟩
  | .hbm, ⟨10, _⟩ => ⟨S128x64, .f32⟩
  | .hbm, ⟨11, _⟩ => ⟨S_, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S_, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S_, .f32⟩
  | .hbm, ⟨20, _⟩ => ⟨S128x64, .f32⟩
  | .hbm, ⟨21, _⟩ => ⟨S128x64, .f32⟩
  | .hbm, ⟨22, _⟩ => ⟨S128x64, .f32⟩
  | .hbm, ⟨23, _⟩ => ⟨S_, .f32⟩
  | .hbm, ⟨24, _⟩ => ⟨S128x64, .f32⟩
  | .hbm, ⟨25, _⟩ => ⟨S128x64, .f32⟩
  | .hbm, ⟨26, _⟩ => ⟨S_, .f32⟩
  | .hbm, ⟨27, _⟩ => ⟨S128x64, .f32⟩
  | .hbm, ⟨28, _⟩ => ⟨S128x64, .f32⟩
  | .hbm, ⟨29, _⟩ => ⟨S128x64, .f32⟩
  | .hbm, ⟨30, _⟩ => ⟨S_, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S_, .f32⟩
  | .hbm, ⟨35, _⟩ => ⟨S128x64, .f32⟩
  | .hbm, ⟨36, _⟩ => ⟨S128x64, .f32⟩
  | .hbm, ⟨37, _⟩ => ⟨S128x64, .f32⟩
  | .hbm, ⟨38, _⟩ => ⟨S_, .f32⟩
  | .hbm, ⟨39, _⟩ => ⟨S128x64, .f32⟩
  | .hbm, ⟨40, _⟩ => ⟨S128x64, .f32⟩
  | _, _ => ⟨S4x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamLogDt.lean ====
abbrev S4x32 : Shape := ⟨2, ![4, 32]⟩

abbrev nBuf : Space → Nat
  | .hbm => 8
  | .vmem => 8
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .hbm, ⟨7, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | .local _ .vmem, ⟨7, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamLogDtIdeal.lean ====
abbrev S4x32 : Shape := ⟨2, ![4, 32]⟩

abbrev nBuf : Space → Nat
  | .hbm => 8
  | .vmem => 8
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .hbm, ⟨7, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | .local _ .vmem, ⟨7, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamLogDtRefIdeal.lean ====
abbrev S4x32 : Shape := ⟨2, ![4, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S_, .f32⟩
  | .hbm, ⟨5, _⟩ => ⟨S4x32, .f32⟩
  | .hbm, ⟨6, _⟩ => ⟨S4x32, .f32⟩
  | .hbm, ⟨7, _⟩ => ⟨S_, .f32⟩
  | .hbm, ⟨8, _⟩ => ⟨S4x32, .f32⟩
  | .hbm, ⟨9, _⟩ => ⟨S4x32, .f32⟩
  | .hbm, ⟨10, _⟩ => ⟨S4x32, .f32⟩
  | .hbm, ⟨11, _⟩ => ⟨S_, .f32⟩
  | .hbm, ⟨12, _⟩ => ⟨S4x32, .f32⟩
  | .hbm, ⟨13, _⟩ => ⟨S4x32, .f32⟩
  | .hbm, ⟨14, _⟩ => ⟨S4x32, .f32⟩
  | .hbm, ⟨15, _⟩ => ⟨S_, .f32⟩
  | .hbm, ⟨16, _⟩ => ⟨S4x32, .f32⟩
  | .hbm, ⟨17, _⟩ => ⟨S4x32, .f32⟩
  | .hbm, ⟨18, _⟩ => ⟨S4x32, .f32⟩
  | .hbm, ⟨19, _⟩ => ⟨S_, .f32⟩
  | .hbm, ⟨20, _⟩ => ⟨S4x32, .f32⟩
  | .hbm, ⟨21, _⟩ => ⟨S4x32, .f32⟩
  | .hbm, ⟨22, _⟩ => ⟨S_, .f32⟩
  | .hbm, ⟨23, _⟩ => ⟨S4x32, .f32⟩
  | .hbm, ⟨24, _⟩ => ⟨S4x32, .f32⟩
  | .hbm, ⟨25, _⟩ => ⟨S4x32, .f32⟩
  | .hbm, ⟨26, _⟩ => ⟨S_, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S_, .f32⟩
  | .hbm, ⟨31, _⟩ => ⟨S4x32, .f32⟩
  | .hbm, ⟨32, _⟩ => ⟨S4x32, .f32⟩
  | .hbm, ⟨33, _⟩ => ⟨S4x32, .f32⟩
  | .hbm, ⟨34, _⟩ => ⟨S_, .f32⟩
  | .hbm, ⟨35, _⟩ => ⟨S4x32, .f32⟩
  | .hbm, ⟨36, _⟩ => ⟨S4x32, .f32⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamS5B.lean ====
abbrev S4x32x64x16 : Shape := ⟨4, ![4, 32, 64, 16]⟩
abbrev S8192x16 : Shape := ⟨2, ![8192, 16]⟩
abbrev S256x16 : Shape := ⟨2, ![256, 16]⟩

abbrev nBuf : Space → Nat
  | .hbm => 12
  | .vmem => 16
  | .smem => 0
  | _ => 0

abbrev bufTy : (tb : Table) → Fin (tcTables nBuf tb) → BufTy
  | .hbm, ⟨0, _⟩ => ⟨S4x32x64x16, .f32⟩
  | .hbm, ⟨1, _⟩ => ⟨S4x32x64x16, .f32⟩
  | .hbm, ⟨2, _⟩ => ⟨S4x32x64x16, .f32⟩
  | .hbm, ⟨3, _⟩ => ⟨S4x32x64x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S8192x16, .f32⟩
  | .local _ .vmem, ⟨0, _⟩ => ⟨S256x16, .f32⟩
  | .local _ .vmem, ⟨1, _⟩ => ⟨S256x16, .f32⟩
  | .local _ .vmem, ⟨2, _⟩ => ⟨S256x16, .f32⟩
  | .local _ .vmem, ⟨3, _⟩ => ⟨S256x16, .f32⟩
  | .local _ .vmem, ⟨4, _⟩ => ⟨S256x16, .f32⟩
  | .local _ .vmem, ⟨5, _⟩ => ⟨S256x16, .f32⟩
  | .local _ .vmem, ⟨6, _⟩ => ⟨S256x16, .f32⟩
  | .local _ .vmem, ⟨7, _⟩ => ⟨S256x16, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | .local _ .vmem, ⟨12, _⟩ => ⟨S256x16, .f32⟩
  | .local _ .vmem, ⟨13, _⟩ => ⟨S256x16, .f32⟩
  | .local _ .vmem, ⟨14, _⟩ => ⟨S256x16, .f32⟩
  | .local _ .vmem, ⟨15, _⟩ => ⟨S256x16, .f32⟩
  | _, _ => ⟨S4x32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamS5BIdeal.lean ====
abbrev S4x32x64x16 : Shape := ⟨4, ![4, 32, 64, 16]⟩
abbrev S8192x16 : Shape := ⟨2, ![8192, 16]⟩
abbrev S256x16 : Shape := ⟨2, ![256, 16]⟩

abbrev nBuf : Space → Nat
  | .hbm => 12
  | .vmem => 16
  | .smem => 0
  | _ => 0

abbrev bufTy : (tb : Table) → Fin (tcTables nBuf tb) → BufTy
  | .hbm, ⟨0, _⟩ => ⟨S4x32x64x16, .f32⟩
  | .hbm, ⟨1, _⟩ => ⟨S4x32x64x16, .f32⟩
  | .hbm, ⟨2, _⟩ => ⟨S4x32x64x16, .f32⟩
  | .hbm, ⟨3, _⟩ => ⟨S4x32x64x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S8192x16, .f32⟩
  | .local _ .vmem, ⟨0, _⟩ => ⟨S256x16, .f32⟩
  | .local _ .vmem, ⟨1, _⟩ => ⟨S256x16, .f32⟩
  | .local _ .vmem, ⟨2, _⟩ => ⟨S256x16, .f32⟩
  | .local _ .vmem, ⟨3, _⟩ => ⟨S256x16, .f32⟩
  | .local _ .vmem, ⟨4, _⟩ => ⟨S256x16, .f32⟩
  | .local _ .vmem, ⟨5, _⟩ => ⟨S256x16, .f32⟩
  | .local _ .vmem, ⟨6, _⟩ => ⟨S256x16, .f32⟩
  | .local _ .vmem, ⟨7, _⟩ => ⟨S256x16, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | .local _ .vmem, ⟨12, _⟩ => ⟨S256x16, .f32⟩
  | .local _ .vmem, ⟨13, _⟩ => ⟨S256x16, .f32⟩
  | .local _ .vmem, ⟨14, _⟩ => ⟨S256x16, .f32⟩
  | .local _ .vmem, ⟨15, _⟩ => ⟨S256x16, .f32⟩
  | _, _ => ⟨S4x32x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamS5BRefIdeal.lean ====
abbrev S4x32x64x16 : Shape := ⟨4, ![4, 32, 64, 16]⟩
abbrev S8192x16 : Shape := ⟨2, ![8192, 16]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x32x64x16, .f32⟩
  | .hbm, ⟨1, _⟩ => ⟨S4x32x64x16, .f32⟩
  | .hbm, ⟨2, _⟩ => ⟨S4x32x64x16, .f32⟩
  | .hbm, ⟨3, _⟩ => ⟨S4x32x64x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S_, .f32⟩
  | .hbm, ⟨9, _⟩ => ⟨S8192x16, .f32⟩
  | .hbm, ⟨10, _⟩ => ⟨S8192x16, .f32⟩
  | .hbm, ⟨11, _⟩ => ⟨S_, .f32⟩
  | .hbm, ⟨12, _⟩ => ⟨S8192x16, .f32⟩
  | .hbm, ⟨13, _⟩ => ⟨S8192x16, .f32⟩
  | .hbm, ⟨14, _⟩ => ⟨S8192x16, .f32⟩
  | .hbm, ⟨15, _⟩ => ⟨S_, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S_, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S_, .f32⟩
  | .hbm, ⟨24, _⟩ => ⟨S8192x16, .f32⟩
  | .hbm, ⟨25, _⟩ => ⟨S8192x16, .f32⟩
  | .hbm, ⟨26, _⟩ => ⟨S_, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S_, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S_, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S_, .f32⟩
  | .hbm, ⟨39, _⟩ => ⟨S8192x16, .f32⟩
  | .hbm, ⟨40, _⟩ => ⟨S8192x16, .f32⟩
  | _, _ => ⟨S4x32x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamS5C.lean ====
abbrev S4x32x16x64 : Shape := ⟨4, ![4, 32, 16, 64]⟩
abbrev S2048x64 : Shape := ⟨2, ![2048, 64]⟩
abbrev S256x64 : Shape := ⟨2, ![256, 64]⟩

abbrev nBuf : Space → Nat
  | .hbm => 12
  | .vmem => 16
  | .smem => 0
  | _ => 0

abbrev bufTy : (tb : Table) → Fin (tcTables nBuf tb) → BufTy
  | .hbm, ⟨0, _⟩ => ⟨S4x32x16x64, .f32⟩
  | .hbm, ⟨1, _⟩ => ⟨S4x32x16x64, .f32⟩
  | .hbm, ⟨2, _⟩ => ⟨S4x32x16x64, .f32⟩
  | .hbm, ⟨3, _⟩ => ⟨S4x32x16x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S256x64, .f32⟩
  | .local _ .vmem, ⟨15, _⟩ => ⟨S256x64, .f32⟩
  | _, _ => ⟨S4x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamS5CIdeal.lean ====
abbrev S4x32x16x64 : Shape := ⟨4, ![4, 32, 16, 64]⟩
abbrev S2048x64 : Shape := ⟨2, ![2048, 64]⟩
abbrev S256x64 : Shape := ⟨2, ![256, 64]⟩

abbrev nBuf : Space → Nat
  | .hbm => 12
  | .vmem => 16
  | .smem => 0
  | _ => 0

abbrev bufTy : (tb : Table) → Fin (tcTables nBuf tb) → BufTy
  | .hbm, ⟨0, _⟩ => ⟨S4x32x16x64, .f32⟩
  | .hbm, ⟨1, _⟩ => ⟨S4x32x16x64, .f32⟩
  | .hbm, ⟨2, _⟩ => ⟨S4x32x16x64, .f32⟩
  | .hbm, ⟨3, _⟩ => ⟨S4x32x16x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S256x64, .f32⟩
  | .local _ .vmem, ⟨15, _⟩ => ⟨S256x64, .f32⟩
  | _, _ => ⟨S4x32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamS5CRefIdeal.lean ====
abbrev S4x32x16x64 : Shape := ⟨4, ![4, 32, 16, 64]⟩
abbrev S2048x64 : Shape := ⟨2, ![2048, 64]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x32x16x64, .f32⟩
  | .hbm, ⟨1, _⟩ => ⟨S4x32x16x64, .f32⟩
  | .hbm, ⟨2, _⟩ => ⟨S4x32x16x64, .f32⟩
  | .hbm, ⟨3, _⟩ => ⟨S4x32x16x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S_, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S_, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S_, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S_, .f32⟩
  | .hbm, ⟨24, _⟩ => ⟨S2048x64, .f32⟩
  | .hbm, ⟨25, _⟩ => ⟨S2048x64, .f32⟩
  | .hbm, ⟨26, _⟩ => ⟨S_, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S_, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S_, .f32⟩
  | .hbm, ⟨35, _⟩ => ⟨S2048x64, .f32⟩
  | .hbm, ⟨36, _⟩ => ⟨S2048x64, .f32⟩
  | .hbm, ⟨37, _⟩ => ⟨S2048x64, .f32⟩
  | .hbm, ⟨38, _⟩ => ⟨S_, .f32⟩
  | .hbm, ⟨39, _⟩ => ⟨S2048x64, .f32⟩
  | .hbm, ⟨40, _⟩ => ⟨S2048x64, .f32⟩
  | _, _ => ⟨S4x32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamRow512.lean ====
abbrev S4x512 : Shape := ⟨2, ![4, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamRow512Ideal.lean ====
abbrev S4x512 : Shape := ⟨2, ![4, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamRow512RefIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQNorm.lean ====
abbrev S4x384 : Shape := ⟨2, ![4, 384]⟩

abbrev nBuf : Space → Nat
  | .hbm => 8
  | .vmem => 8
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamQNormIdeal.lean ====
abbrev S4x384 : Shape := ⟨2, ![4, 384]⟩

abbrev nBuf : Space → Nat
  | .hbm => 8
  | .vmem => 8
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamQNormRefIdeal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvNorm.lean ====
abbrev S4x256 : Shape := ⟨2, ![4, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamKvNormIdeal.lean ====
abbrev S4x256 : Shape := ⟨2, ![4, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamKvNormRefIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSguW.lean ====
abbrev S4x4x128x128 : Shape := ⟨4, ![4, 4, 128, 128]⟩
abbrev S2048x128 : Shape := ⟨2, ![2048, 128]⟩
abbrev S256x128 : Shape := ⟨2, ![256, 128]⟩

abbrev nBuf : Space → Nat
  | .hbm => 12
  | .vmem => 16
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSguWIdeal.lean ====
abbrev S4x4x128x128 : Shape := ⟨4, ![4, 4, 128, 128]⟩
abbrev S2048x128 : Shape := ⟨2, ![2048, 128]⟩
abbrev S256x128 : Shape := ⟨2, ![256, 128]⟩

abbrev nBuf : Space → Nat
  | .hbm => 12
  | .vmem => 16
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSguWRefIdeal.lean ====
abbrev S4x4x128x128 : Shape := ⟨4, ![4, 4, 128, 128]⟩
abbrev S2048x128 : Shape := ⟨2, ![2048, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S_, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S_, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S_, .f32⟩
  | .hbm, ⟨39, _⟩ => ⟨S2048x128, .f32⟩
  | .hbm, ⟨40, _⟩ => ⟨S2048x128, .f32⟩
  | _, _ => ⟨S4x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamSguB.lean ====
abbrev S4x4x128 : Shape := ⟨3, ![4, 4, 128]⟩
abbrev S16x128 : Shape := ⟨2, ![16, 128]⟩

abbrev nBuf : Space → Nat
  | .hbm => 12
  | .vmem => 8
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSguBIdeal.lean ====
abbrev S4x4x128 : Shape := ⟨3, ![4, 4, 128]⟩
abbrev S16x128 : Shape := ⟨2, ![16, 128]⟩

abbrev nBuf : Space → Nat
  | .hbm => 12
  | .vmem => 8
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSguBRefIdeal.lean ====
abbrev S4x4x128 : Shape := ⟨3, ![4, 4, 128]⟩
abbrev S16x128 : Shape := ⟨2, ![16, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S_, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S16x128, .f32⟩
  | .hbm, ⟨23, _⟩ => ⟨S_, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | .hbm, ⟨37, _⟩ => ⟨S16x128, .f32⟩
  | .hbm, ⟨38, _⟩ => ⟨S_, .f32⟩
  | .hbm, ⟨39, _⟩ => ⟨S16x128, .f32⟩
  | .hbm, ⟨40, _⟩ => ⟨S16x128, .f32⟩
  | _, _ => ⟨S4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamRow1024.lean ====
abbrev S4x1024 : Shape := ⟨2, ![4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamRow1024RefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWIn.lean ====
abbrev S4x1024x660 : Shape := ⟨3, ![4, 1024, 660]⟩
abbrev S8x1024x660 : Shape := ⟨3, ![8, 1024, 660]⟩
abbrev S4096x660 : Shape := ⟨2, ![4096, 660]⟩
abbrev S256x660 : Shape := ⟨2, ![256, 660]⟩
abbrev S8x256x660 : Shape := ⟨3, ![8, 256, 660]⟩
abbrev S1x256x660 : Shape := ⟨3, ![1, 256, 660]⟩

abbrev nBuf : Space → Nat
  | .hbm => 14
  | .vmem => 22
  | .smem => 0
  | _ => 0

abbrev bufTy : (tb : Table) → Fin (tcTables nBuf tb) → BufTy
  | .hbm, ⟨0, _⟩ => ⟨S4x1024x660, .f32⟩
  | .hbm, ⟨1, _⟩ => ⟨S8x1024x660, .bf16⟩
  | .hbm, ⟨2, _⟩ => ⟨S8x1024x660, .bf16⟩
  | .hbm, ⟨3, _⟩ => ⟨S8x1024x660, .bf16⟩
  | .hbm, ⟨4, _⟩ => ⟨S8x1024x660, .bf16⟩
  | .hbm, ⟨5, _⟩ => ⟨S4x1024x660, .f32⟩
  | .hbm, ⟨6, _⟩ => ⟨S4x1024x660, .f32⟩
  | .hbm, ⟨7, _⟩ => ⟨S4096x660, .f32⟩
  | .hbm, ⟨8, _⟩ => ⟨S4096x660, .f32⟩
  | .hbm, ⟨9, _⟩ => ⟨S4096x660, .f32⟩
  | .hbm, ⟨10, _⟩ => ⟨S4096x660, .f32⟩
  | .hbm, ⟨11, _⟩ => ⟨S4096x660, .f32⟩
  | .hbm, ⟨12, _⟩ => ⟨S4096x660, .f32⟩
  | .hbm, ⟨13, _⟩ => ⟨S4096x660, .f32⟩
  | .local _ .vmem, ⟨0, _⟩ => ⟨S256x660, .f32⟩
  | .local _ .vmem, ⟨1, _⟩ => ⟨S256x660, .f32⟩
  | .local _ .vmem, ⟨2, _⟩ => ⟨S8x256x660, .bf16⟩
  | .local _ .vmem, ⟨3, _⟩ => ⟨S8x256x660, .bf16⟩
  | .local _ .vmem, ⟨4, _⟩ => ⟨S8x256x660, .bf16⟩
  | .local _ .vmem, ⟨5, _⟩ => ⟨S8x256x660, .bf16⟩
  | .local _ .vmem, ⟨6, _⟩ => ⟨S8x256x660, .bf16⟩
  | .local _ .vmem, ⟨7, _⟩ => ⟨S8x256x660, .bf16⟩
  | .local _ .vmem, ⟨8, _⟩ => ⟨S8x256x660, .bf16⟩
  | .local _ .vmem, ⟨9, _⟩ => ⟨S8x256x660, .bf16⟩
  | .local _ .vmem, ⟨10, _⟩ => ⟨S256x660, .f32⟩
  | .local _ .vmem, ⟨11, _⟩ => ⟨S256x660, .f32⟩
  | .local _ .vmem, ⟨12, _⟩ => ⟨S256x660, .f32⟩
  | .local _ .vmem, ⟨13, _⟩ => ⟨S256x660, .f32⟩
  | .local _ .vmem, ⟨14, _⟩ => ⟨S256x660, .f32⟩
  | .local _ .vmem, ⟨15, _⟩ => ⟨S256x660, .f32⟩
  | .local _ .vmem, ⟨16, _⟩ => ⟨S256x660, .f32⟩
  | .local _ .vmem, ⟨17, _⟩ => ⟨S256x660, .f32⟩
  | .local _ .vmem, ⟨18, _⟩ => ⟨S256x660, .f32⟩
  | .local _ .vmem, ⟨19, _⟩ => ⟨S256x660, .f32⟩
  | .local _ .vmem, ⟨20, _⟩ => ⟨S256x660, .f32⟩
  | .local _ .vmem, ⟨21, _⟩ => ⟨S256x660, .f32⟩
  | _, _ => ⟨S4x1024x660, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x660 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x660 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x660 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x660 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x660 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x660 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x660 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x660 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x660 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x660 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x660 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamWInIdeal.lean ====
abbrev S4x1024x660 : Shape := ⟨3, ![4, 1024, 660]⟩
abbrev S8x1024x660 : Shape := ⟨3, ![8, 1024, 660]⟩
abbrev S4096x660 : Shape := ⟨2, ![4096, 660]⟩
abbrev S256x660 : Shape := ⟨2, ![256, 660]⟩
abbrev S8x256x660 : Shape := ⟨3, ![8, 256, 660]⟩
abbrev S1x256x660 : Shape := ⟨3, ![1, 256, 660]⟩

abbrev nBuf : Space → Nat
  | .hbm => 14
  | .vmem => 22
  | .smem => 0
  | _ => 0

abbrev bufTy : (tb : Table) → Fin (tcTables nBuf tb) → BufTy
  | .hbm, ⟨0, _⟩ => ⟨S4x1024x660, .f32⟩
  | .hbm, ⟨1, _⟩ => ⟨S8x1024x660, .bf16⟩
  | .hbm, ⟨2, _⟩ => ⟨S8x1024x660, .bf16⟩
  | .hbm, ⟨3, _⟩ => ⟨S8x1024x660, .bf16⟩
  | .hbm, ⟨4, _⟩ => ⟨S8x1024x660, .bf16⟩
  | .hbm, ⟨5, _⟩ => ⟨S4x1024x660, .f32⟩
  | .hbm, ⟨6, _⟩ => ⟨S4x1024x660, .f32⟩
  | .hbm, ⟨7, _⟩ => ⟨S4096x660, .f32⟩
  | .hbm, ⟨8, _⟩ => ⟨S4096x660, .f32⟩
  | .hbm, ⟨9, _⟩ => ⟨S4096x660, .f32⟩
  | .hbm, ⟨10, _⟩ => ⟨S4096x660, .f32⟩
  | .hbm, ⟨11, _⟩ => ⟨S4096x660, .f32⟩
  | .hbm, ⟨12, _⟩ => ⟨S4096x660, .f32⟩
  | .hbm, ⟨13, _⟩ => ⟨S4096x660, .f32⟩
  | .local _ .vmem, ⟨0, _⟩ => ⟨S256x660, .f32⟩
  | .local _ .vmem, ⟨1, _⟩ => ⟨S256x660, .f32⟩
  | .local _ .vmem, ⟨2, _⟩ => ⟨S8x256x660, .bf16⟩
  | .local _ .vmem, ⟨3, _⟩ => ⟨S8x256x660, .bf16⟩
  | .local _ .vmem, ⟨4, _⟩ => ⟨S8x256x660, .bf16⟩
  | .local _ .vmem, ⟨5, _⟩ => ⟨S8x256x660, .bf16⟩
  | .local _ .vmem, ⟨6, _⟩ => ⟨S8x256x660, .bf16⟩
  | .local _ .vmem, ⟨7, _⟩ => ⟨S8x256x660, .bf16⟩
  | .local _ .vmem, ⟨8, _⟩ => ⟨S8x256x660, .bf16⟩
  | .local _ .vmem, ⟨9, _⟩ => ⟨S8x256x660, .bf16⟩
  | .local _ .vmem, ⟨10, _⟩ => ⟨S256x660, .f32⟩
  | .local _ .vmem, ⟨11, _⟩ => ⟨S256x660, .f32⟩
  | .local _ .vmem, ⟨12, _⟩ => ⟨S256x660, .f32⟩
  | .local _ .vmem, ⟨13, _⟩ => ⟨S256x660, .f32⟩
  | .local _ .vmem, ⟨14, _⟩ => ⟨S256x660, .f32⟩
  | .local _ .vmem, ⟨15, _⟩ => ⟨S256x660, .f32⟩
  | .local _ .vmem, ⟨16, _⟩ => ⟨S256x660, .f32⟩
  | .local _ .vmem, ⟨17, _⟩ => ⟨S256x660, .f32⟩
  | .local _ .vmem, ⟨18, _⟩ => ⟨S256x660, .f32⟩
  | .local _ .vmem, ⟨19, _⟩ => ⟨S256x660, .f32⟩
  | .local _ .vmem, ⟨20, _⟩ => ⟨S256x660, .f32⟩
  | .local _ .vmem, ⟨21, _⟩ => ⟨S256x660, .f32⟩
  | _, _ => ⟨S4x1024x660, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x660 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x660 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x660 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x660 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x660 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x660 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x660 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x660 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x660 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x660 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x660 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamWInRefIdeal.lean ====
abbrev S4x1024x660 : Shape := ⟨3, ![4, 1024, 660]⟩
abbrev S8x1024x660 : Shape := ⟨3, ![8, 1024, 660]⟩
abbrev S_ : Shape := ⟨0, ![]⟩
abbrev S1024x660 : Shape := ⟨2, ![1024, 660]⟩
abbrev S1x1024x660 : Shape := ⟨3, ![1, 1024, 660]⟩
abbrev S4096x660 : Shape := ⟨2, ![4096, 660]⟩

abbrev nBuf : Space → Nat
  | .hbm => 61
  | .vmem => 0
  | .smem => 0
  | _ => 0

abbrev bufTy : (tb : Table) → Fin (tcTables nBuf tb) → BufTy
  | .hbm, ⟨0, _⟩ => ⟨S4x1024x660, .f32⟩
  | .hbm, ⟨1, _⟩ => ⟨S8x1024x660, .bf16⟩
  | .hbm, ⟨2, _⟩ => ⟨S8x1024x660, .bf16⟩
  | .hbm, ⟨3, _⟩ => ⟨S8x1024x660, .bf16⟩
  | .hbm, ⟨4, _⟩ => ⟨S8x1024x660, .bf16⟩
  | .hbm, ⟨5, _⟩ => ⟨S4x1024x660, .f32⟩
  | .hbm, ⟨6, _⟩ => ⟨S4x1024x660, .f32⟩
  | .hbm, ⟨7, _⟩ => ⟨S8x1024x660, .f32⟩
  | .hbm, ⟨8, _⟩ => ⟨S_, .f32⟩
  | .hbm, ⟨9, _⟩ => ⟨S1024x660, .f32⟩
  | .hbm, ⟨10, _⟩ => ⟨S8x1024x660, .f32⟩
  | .hbm, ⟨11, _⟩ => ⟨S_, .f32⟩
  | .hbm, ⟨12, _⟩ => ⟨S1024x660, .f32⟩
  | .hbm, ⟨13, _⟩ => ⟨S8x1024x660, .f32⟩
  | .hbm, ⟨14, _⟩ => ⟨S_, .f32⟩
  | .hbm, ⟨15, _⟩ => ⟨S1024x660, .f32⟩
  | .hbm, ⟨16, _⟩ => ⟨S8x1024x660, .f32⟩
  | .hbm, ⟨17, _⟩ => ⟨S_, .f32⟩
  | .hbm, ⟨18, _⟩ => ⟨S1024x660, .f32⟩
  | .hbm, ⟨19, _⟩ => ⟨S1x1024x660, .f32⟩
  | .hbm, ⟨20, _⟩ => ⟨S1x1024x660, .f32⟩
  | .hbm, ⟨21, _⟩ => ⟨S1x1024x660, .f32⟩
  | .hbm, ⟨22, _⟩ => ⟨S1x1024x660, .f32⟩
  | .hbm, ⟨23, _⟩ => ⟨S4x1024x660, .f32⟩
  | .hbm, ⟨24, _⟩ => ⟨S4096x660, .f32⟩
  | .hbm, ⟨25, _⟩ => ⟨S4096x660, .f32⟩
  | .hbm, ⟨26, _⟩ => ⟨S4096x660, .f32⟩
  | .hbm, ⟨27, _⟩ => ⟨S4096x660, .f32⟩
  | .hbm, ⟨28, _⟩ => ⟨S_, .f32⟩
  | .hbm, ⟨29, _⟩ => ⟨S4096x660, .f32⟩
  | .hbm, ⟨30, _⟩ => ⟨S4096x660, .f32⟩
  | .hbm, ⟨31, _⟩ => ⟨S_, .f32⟩
  | .hbm, ⟨32, _⟩ => ⟨S4096x660, .f32⟩
  | .hbm, ⟨33, _⟩ => ⟨S4096x660, .f32⟩
  | .hbm, ⟨34, _⟩ => ⟨S4096x660, .f32⟩
  | .hbm, ⟨35, _⟩ => ⟨S_, .f32⟩
  | .hbm, ⟨36, _⟩ => ⟨S4096x660, .f32⟩
  | .hbm, ⟨37, _⟩ => ⟨S4096x660, .f32⟩
  | .hbm, ⟨38, _⟩ => ⟨S4096x660, .f32⟩
  | .hbm, ⟨39, _⟩ => ⟨S_, .f32⟩
  | .hbm, ⟨40, _⟩ => ⟨S4096x660, .f32⟩
  | .hbm, ⟨41, _⟩ => ⟨S4096x660, .f32⟩
  | .hbm, ⟨42, _⟩ => ⟨S4096x660, .f32⟩
  | .hbm, ⟨43, _⟩ => ⟨S_, .f32⟩
  | .hbm, ⟨44, _⟩ => ⟨S4096x660, .f32⟩
  | .hbm, ⟨45, _⟩ => ⟨S4096x660, .f32⟩
  | .hbm, ⟨46, _⟩ => ⟨S_, .f32⟩
  | .hbm, ⟨47, _⟩ => ⟨S4096x660, .f32⟩
  | .hbm, ⟨48, _⟩ => ⟨S4096x660, .f32⟩
  | .hbm, ⟨49, _⟩ => ⟨S4096x660, .f32⟩
  | .hbm, ⟨50, _⟩ => ⟨S_, .f32⟩
  | .hbm, ⟨51, _⟩ => ⟨S4096x660, .f32⟩
  | .hbm, ⟨52, _⟩ => ⟨S4096x660, .f32⟩
  | .hbm, ⟨53, _⟩ => ⟨S4096x660, .f32⟩
  | .hbm, ⟨54, _⟩ => ⟨S_, .f32⟩
  | .hbm, ⟨55, _⟩ => ⟨S4096x660, .f32⟩
  | .hbm, ⟨56, _⟩ => ⟨S4096x660, .f32⟩
  | .hbm, ⟨57, _⟩ => ⟨S4096x660, .f32⟩
  | .hbm, ⟨58, _⟩ => ⟨S_, .f32⟩
  | .hbm, ⟨59, _⟩ => ⟨S4096x660, .f32⟩
  | .hbm, ⟨60, _⟩ => ⟨S4096x660, .f32⟩
  | _, _ => ⟨S4x1024x660, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== AdamGlu.lean ====
abbrev S4x64x512 : Shape := ⟨3, ![4, 64, 512]⟩
abbrev S8x64x512 : Shape := ⟨3, ![8, 64, 512]⟩
abbrev S256x512 : Shape := ⟨2, ![256, 512]⟩
abbrev S64x512 : Shape := ⟨2, ![64, 512]⟩
abbrev S1x64x512 : Shape := ⟨3, ![1, 64, 512]⟩

abbrev nBuf : Space → Nat
  | .hbm => 14
  | .vmem => 22
  | .smem => 0
  | _ => 0

abbrev bufTy : (tb : Table) → Fin (tcTables nBuf tb) → BufTy
  | .hbm, ⟨0, _⟩ => ⟨S4x64x512, .f32⟩
  | .hbm, ⟨1, _⟩ => ⟨S8x64x512, .bf16⟩
  | .hbm, ⟨2, _⟩ => ⟨S8x64x512, .bf16⟩
  | .hbm, ⟨3, _⟩ => ⟨S8x64x512, .bf16⟩
  | .hbm, ⟨4, _⟩ => ⟨S8x64x512, .bf16⟩
  | .hbm, ⟨5, _⟩ => ⟨S4x64x512, .f32⟩
  | .hbm, ⟨6, _⟩ => ⟨S4x64x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S256x512, .f32⟩
  | .local _ .vmem, ⟨0, _⟩ => ⟨S64x512, .f32⟩
  | .local _ .vmem, ⟨1, _⟩ => ⟨S64x512, .f32⟩
  | .local _ .vmem, ⟨2, _⟩ => ⟨S8x64x512, .bf16⟩
  | .local _ .vmem, ⟨3, _⟩ => ⟨S8x64x512, .bf16⟩
  | .local _ .vmem, ⟨4, _⟩ => ⟨S8x64x512, .bf16⟩
  | .local _ .vmem, ⟨5, _⟩ => ⟨S8x64x512, .bf16⟩
  | .local _ .vmem, ⟨6, _⟩ => ⟨S8x64x512, .bf16⟩
  | .local _ .vmem, ⟨7, _⟩ => ⟨S8x64x512, .bf16⟩
  | .local _ .vmem, ⟨8, _⟩ => ⟨S8x64x512, .bf16⟩
  | .local _ .vmem, ⟨9, _⟩ => ⟨S8x64x512, .bf16⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | _, _ => ⟨S4x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamGluIdeal.lean ====
abbrev S4x64x512 : Shape := ⟨3, ![4, 64, 512]⟩
abbrev S8x64x512 : Shape := ⟨3, ![8, 64, 512]⟩
abbrev S256x512 : Shape := ⟨2, ![256, 512]⟩
abbrev S64x512 : Shape := ⟨2, ![64, 512]⟩
abbrev S1x64x512 : Shape := ⟨3, ![1, 64, 512]⟩

abbrev nBuf : Space → Nat
  | .hbm => 14
  | .vmem => 22
  | .smem => 0
  | _ => 0

abbrev bufTy : (tb : Table) → Fin (tcTables nBuf tb) → BufTy
  | .hbm, ⟨0, _⟩ => ⟨S4x64x512, .f32⟩
  | .hbm, ⟨1, _⟩ => ⟨S8x64x512, .bf16⟩
  | .hbm, ⟨2, _⟩ => ⟨S8x64x512, .bf16⟩
  | .hbm, ⟨3, _⟩ => ⟨S8x64x512, .bf16⟩
  | .hbm, ⟨4, _⟩ => ⟨S8x64x512, .bf16⟩
  | .hbm, ⟨5, _⟩ => ⟨S4x64x512, .f32⟩
  | .hbm, ⟨6, _⟩ => ⟨S4x64x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S256x512, .f32⟩
  | .local _ .vmem, ⟨0, _⟩ => ⟨S64x512, .f32⟩
  | .local _ .vmem, ⟨1, _⟩ => ⟨S64x512, .f32⟩
  | .local _ .vmem, ⟨2, _⟩ => ⟨S8x64x512, .bf16⟩
  | .local _ .vmem, ⟨3, _⟩ => ⟨S8x64x512, .bf16⟩
  | .local _ .vmem, ⟨4, _⟩ => ⟨S8x64x512, .bf16⟩
  | .local _ .vmem, ⟨5, _⟩ => ⟨S8x64x512, .bf16⟩
  | .local _ .vmem, ⟨6, _⟩ => ⟨S8x64x512, .bf16⟩
  | .local _ .vmem, ⟨7, _⟩ => ⟨S8x64x512, .bf16⟩
  | .local _ .vmem, ⟨8, _⟩ => ⟨S8x64x512, .bf16⟩
  | .local _ .vmem, ⟨9, _⟩ => ⟨S8x64x512, .bf16⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | _, _ => ⟨S4x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamGluRefIdeal.lean ====
abbrev S4x64x512 : Shape := ⟨3, ![4, 64, 512]⟩
abbrev S8x64x512 : Shape := ⟨3, ![8, 64, 512]⟩
abbrev S_ : Shape := ⟨0, ![]⟩
abbrev S64x512 : Shape := ⟨2, ![64, 512]⟩
abbrev S1x64x512 : Shape := ⟨3, ![1, 64, 512]⟩
abbrev S256x512 : Shape := ⟨2, ![256, 512]⟩

abbrev nBuf : Space → Nat
  | .hbm => 61
  | .vmem => 0
  | .smem => 0
  | _ => 0

abbrev bufTy : (tb : Table) → Fin (tcTables nBuf tb) → BufTy
  | .hbm, ⟨0, _⟩ => ⟨S4x64x512, .f32⟩
  | .hbm, ⟨1, _⟩ => ⟨S8x64x512, .bf16⟩
  | .hbm, ⟨2, _⟩ => ⟨S8x64x512, .bf16⟩
  | .hbm, ⟨3, _⟩ => ⟨S8x64x512, .bf16⟩
  | .hbm, ⟨4, _⟩ => ⟨S8x64x512, .bf16⟩
  | .hbm, ⟨5, _⟩ => ⟨S4x64x512, .f32⟩
  | .hbm, ⟨6, _⟩ => ⟨S4x64x512, .f32⟩
  | .hbm, ⟨7, _⟩ => ⟨S8x64x512, .f32⟩
  | .hbm, ⟨8, _⟩ => ⟨S_, .f32⟩
  | .hbm, ⟨9, _⟩ => ⟨S64x512, .f32⟩
  | .hbm, ⟨10, _⟩ => ⟨S8x64x512, .f32⟩
  | .hbm, ⟨11, _⟩ => ⟨S_, .f32⟩
  | .hbm, ⟨12, _⟩ => ⟨S64x512, .f32⟩
  | .hbm, ⟨13, _⟩ => ⟨S8x64x512, .f32⟩
  | .hbm, ⟨14, _⟩ => ⟨S_, .f32⟩
  | .hbm, ⟨15, _⟩ => ⟨S64x512, .f32⟩
  | .hbm, ⟨16, _⟩ => ⟨S8x64x512, .f32⟩
  | .hbm, ⟨17, _⟩ => ⟨S_, .f32⟩
  | .hbm, ⟨18, _⟩ => ⟨S64x512, .f32⟩
  | .hbm, ⟨19, _⟩ => ⟨S1x64x512, .f32⟩
  | .hbm, ⟨20, _⟩ => ⟨S1x64x512, .f32⟩
  | .hbm, ⟨21, _⟩ => ⟨S1x64x512, .f32⟩
  | .hbm, ⟨22, _⟩ => ⟨S1x64x512, .f32⟩
  | .hbm, ⟨23, _⟩ => ⟨S4x64x512, .f32⟩
  | .hbm, ⟨24, _⟩ => ⟨S256x512, .f32⟩
  | .hbm, ⟨25, _⟩ => ⟨S256x512, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S256x512, .f32⟩
  | .hbm, ⟨30, _⟩ => ⟨S256x512, .f32⟩
  | .hbm, ⟨31, _⟩ => ⟨S_, .f32⟩
  | .hbm, ⟨32, _⟩ => ⟨S256x512, .f32⟩
  | .hbm, ⟨33, _⟩ => ⟨S256x512, .f32⟩
  | .hbm, ⟨34, _⟩ => ⟨S256x512, .f32⟩
  | .hbm, ⟨35, _⟩ => ⟨S_, .f32⟩
  | .hbm, ⟨36, _⟩ => ⟨S256x512, .f32⟩
  | .hbm, ⟨37, _⟩ => ⟨S256x512, .f32⟩
  | .hbm, ⟨38, _⟩ => ⟨S256x512, .f32⟩
  | .hbm, ⟨39, _⟩ => ⟨S_, .f32⟩
  | .hbm, ⟨40, _⟩ => ⟨S256x512, .f32⟩
  | .hbm, ⟨41, _⟩ => ⟨S256x512, .f32⟩
  | .hbm, ⟨42, _⟩ => ⟨S256x512, .f32⟩
  | .hbm, ⟨43, _⟩ => ⟨S_, .f32⟩
  | .hbm, ⟨44, _⟩ => ⟨S256x512, .f32⟩
  | .hbm, ⟨45, _⟩ => ⟨S256x512, .f32⟩
  | .hbm, ⟨46, _⟩ => ⟨S_, .f32⟩
  | .hbm, ⟨47, _⟩ => ⟨S256x512, .f32⟩
  | .hbm, ⟨48, _⟩ => ⟨S256x512, .f32⟩
  | .hbm, ⟨49, _⟩ => ⟨S256x512, .f32⟩
  | .hbm, ⟨50, _⟩ => ⟨S_, .f32⟩
  | .hbm, ⟨51, _⟩ => ⟨S256x512, .f32⟩
  | .hbm, ⟨52, _⟩ => ⟨S256x512, .f32⟩
  | .hbm, ⟨53, _⟩ => ⟨S256x512, .f32⟩
  | .hbm, ⟨54, _⟩ => ⟨S_, .f32⟩
  | .hbm, ⟨55, _⟩ => ⟨S256x512, .f32⟩
  | .hbm, ⟨56, _⟩ => ⟨S256x512, .f32⟩
  | .hbm, ⟨57, _⟩ => ⟨S256x512, .f32⟩
  | .hbm, ⟨58, _⟩ => ⟨S_, .f32⟩
  | .hbm, ⟨59, _⟩ => ⟨S256x512, .f32⟩
  | .hbm, ⟨60, _⟩ => ⟨S256x512, .f32⟩
  | _, _ => ⟨S4x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== AdamQUp.lean ====
abbrev S4x384x96 : Shape := ⟨3, ![4, 384, 96]⟩
abbrev S8x384x96 : Shape := ⟨3, ![8, 384, 96]⟩
abbrev S1536x96 : Shape := ⟨2, ![1536, 96]⟩
abbrev S192x96 : Shape := ⟨2, ![192, 96]⟩
abbrev S8x192x96 : Shape := ⟨3, ![8, 192, 96]⟩
abbrev S1x192x96 : Shape := ⟨3, ![1, 192, 96]⟩

abbrev nBuf : Space → Nat
  | .hbm => 14
  | .vmem => 22
  | .smem => 0
  | _ => 0

abbrev bufTy : (tb : Table) → Fin (tcTables nBuf tb) → BufTy
  | .hbm, ⟨0, _⟩ => ⟨S4x384x96, .f32⟩
  | .hbm, ⟨1, _⟩ => ⟨S8x384x96, .bf16⟩
  | .hbm, ⟨2, _⟩ => ⟨S8x384x96, .bf16⟩
  | .hbm, ⟨3, _⟩ => ⟨S8x384x96, .bf16⟩
  | .hbm, ⟨4, _⟩ => ⟨S8x384x96, .bf16⟩
  | .hbm, ⟨5, _⟩ => ⟨S4x384x96, .f32⟩
  | .hbm, ⟨6, _⟩ => ⟨S4x384x96, .f32⟩
  | .hbm, ⟨7, _⟩ => ⟨S1536x96, .f32⟩
  | .hbm, ⟨8, _⟩ => ⟨S1536x96, .f32⟩
  | .hbm, ⟨9, _⟩ => ⟨S1536x96, .f32⟩
  | .hbm, ⟨10, _⟩ => ⟨S1536x96, .f32⟩
  | .hbm, ⟨11, _⟩ => ⟨S1536x96, .f32⟩
  | .hbm, ⟨12, _⟩ => ⟨S1536x96, .f32⟩
  | .hbm, ⟨13, _⟩ => ⟨S1536x96, .f32⟩
  | .local _ .vmem, ⟨0, _⟩ => ⟨S192x96, .f32⟩
  | .local _ .vmem, ⟨1, _⟩ => ⟨S192x96, .f32⟩
  | .local _ .vmem, ⟨2, _⟩ => ⟨S8x192x96, .bf16⟩
  | .local _ .vmem, ⟨3, _⟩ => ⟨S8x192x96, .bf16⟩
  | .local _ .vmem, ⟨4, _⟩ => ⟨S8x192x96, .bf16⟩
  | .local _ .vmem, ⟨5, _⟩ => ⟨S8x192x96, .bf16⟩
  | .local _ .vmem, ⟨6, _⟩ => ⟨S8x192x96, .bf16⟩
  | .local _ .vmem, ⟨7, _⟩ => ⟨S8x192x96, .bf16⟩
  | .local _ .vmem, ⟨8, _⟩ => ⟨S8x192x96, .bf16⟩
  | .local _ .vmem, ⟨9, _⟩ => ⟨S8x192x96, .bf16⟩
  | .local _ .vmem, ⟨10, _⟩ => ⟨S192x96, .f32⟩
  | .local _ .vmem, ⟨11, _⟩ => ⟨S192x96, .f32⟩
  | .local _ .vmem, ⟨12, _⟩ => ⟨S192x96, .f32⟩
  | .local _ .vmem, ⟨13, _⟩ => ⟨S192x96, .f32⟩
  | .local _ .vmem, ⟨14, _⟩ => ⟨S192x96, .f32⟩
  | .local _ .vmem, ⟨15, _⟩ => ⟨S192x96, .f32⟩
  | .local _ .vmem, ⟨16, _⟩ => ⟨S192x96, .f32⟩
  | .local _ .vmem, ⟨17, _⟩ => ⟨S192x96, .f32⟩
  | .local _ .vmem, ⟨18, _⟩ => ⟨S192x96, .f32⟩
  | .local _ .vmem, ⟨19, _⟩ => ⟨S192x96, .f32⟩
  | .local _ .vmem, ⟨20, _⟩ => ⟨S192x96, .f32⟩
  | .local _ .vmem, ⟨21, _⟩ => ⟨S192x96, .f32⟩
  | _, _ => ⟨S4x384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S192x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x192x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x192x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x192x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x192x96 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S192x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S192x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S192x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S192x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S192x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S192x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamQUpIdeal.lean ====
abbrev S4x384x96 : Shape := ⟨3, ![4, 384, 96]⟩
abbrev S8x384x96 : Shape := ⟨3, ![8, 384, 96]⟩
abbrev S1536x96 : Shape := ⟨2, ![1536, 96]⟩
abbrev S192x96 : Shape := ⟨2, ![192, 96]⟩
abbrev S8x192x96 : Shape := ⟨3, ![8, 192, 96]⟩
abbrev S1x192x96 : Shape := ⟨3, ![1, 192, 96]⟩

abbrev nBuf : Space → Nat
  | .hbm => 14
  | .vmem => 22
  | .smem => 0
  | _ => 0

abbrev bufTy : (tb : Table) → Fin (tcTables nBuf tb) → BufTy
  | .hbm, ⟨0, _⟩ => ⟨S4x384x96, .f32⟩
  | .hbm, ⟨1, _⟩ => ⟨S8x384x96, .bf16⟩
  | .hbm, ⟨2, _⟩ => ⟨S8x384x96, .bf16⟩
  | .hbm, ⟨3, _⟩ => ⟨S8x384x96, .bf16⟩
  | .hbm, ⟨4, _⟩ => ⟨S8x384x96, .bf16⟩
  | .hbm, ⟨5, _⟩ => ⟨S4x384x96, .f32⟩
  | .hbm, ⟨6, _⟩ => ⟨S4x384x96, .f32⟩
  | .hbm, ⟨7, _⟩ => ⟨S1536x96, .f32⟩
  | .hbm, ⟨8, _⟩ => ⟨S1536x96, .f32⟩
  | .hbm, ⟨9, _⟩ => ⟨S1536x96, .f32⟩
  | .hbm, ⟨10, _⟩ => ⟨S1536x96, .f32⟩
  | .hbm, ⟨11, _⟩ => ⟨S1536x96, .f32⟩
  | .hbm, ⟨12, _⟩ => ⟨S1536x96, .f32⟩
  | .hbm, ⟨13, _⟩ => ⟨S1536x96, .f32⟩
  | .local _ .vmem, ⟨0, _⟩ => ⟨S192x96, .f32⟩
  | .local _ .vmem, ⟨1, _⟩ => ⟨S192x96, .f32⟩
  | .local _ .vmem, ⟨2, _⟩ => ⟨S8x192x96, .bf16⟩
  | .local _ .vmem, ⟨3, _⟩ => ⟨S8x192x96, .bf16⟩
  | .local _ .vmem, ⟨4, _⟩ => ⟨S8x192x96, .bf16⟩
  | .local _ .vmem, ⟨5, _⟩ => ⟨S8x192x96, .bf16⟩
  | .local _ .vmem, ⟨6, _⟩ => ⟨S8x192x96, .bf16⟩
  | .local _ .vmem, ⟨7, _⟩ => ⟨S8x192x96, .bf16⟩
  | .local _ .vmem, ⟨8, _⟩ => ⟨S8x192x96, .bf16⟩
  | .local _ .vmem, ⟨9, _⟩ => ⟨S8x192x96, .bf16⟩
  | .local _ .vmem, ⟨10, _⟩ => ⟨S192x96, .f32⟩
  | .local _ .vmem, ⟨11, _⟩ => ⟨S192x96, .f32⟩
  | .local _ .vmem, ⟨12, _⟩ => ⟨S192x96, .f32⟩
  | .local _ .vmem, ⟨13, _⟩ => ⟨S192x96, .f32⟩
  | .local _ .vmem, ⟨14, _⟩ => ⟨S192x96, .f32⟩
  | .local _ .vmem, ⟨15, _⟩ => ⟨S192x96, .f32⟩
  | .local _ .vmem, ⟨16, _⟩ => ⟨S192x96, .f32⟩
  | .local _ .vmem, ⟨17, _⟩ => ⟨S192x96, .f32⟩
  | .local _ .vmem, ⟨18, _⟩ => ⟨S192x96, .f32⟩
  | .local _ .vmem, ⟨19, _⟩ => ⟨S192x96, .f32⟩
  | .local _ .vmem, ⟨20, _⟩ => ⟨S192x96, .f32⟩
  | .local _ .vmem, ⟨21, _⟩ => ⟨S192x96, .f32⟩
  | _, _ => ⟨S4x384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S192x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x192x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x192x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x192x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x192x96 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S192x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S192x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S192x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S192x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S192x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S192x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamQUpRefIdeal.lean ====
abbrev S4x384x96 : Shape := ⟨3, ![4, 384, 96]⟩
abbrev S8x384x96 : Shape := ⟨3, ![8, 384, 96]⟩
abbrev S_ : Shape := ⟨0, ![]⟩
abbrev S384x96 : Shape := ⟨2, ![384, 96]⟩
abbrev S1x384x96 : Shape := ⟨3, ![1, 384, 96]⟩
abbrev S1536x96 : Shape := ⟨2, ![1536, 96]⟩

abbrev nBuf : Space → Nat
  | .hbm => 61
  | .vmem => 0
  | .smem => 0
  | _ => 0

abbrev bufTy : (tb : Table) → Fin (tcTables nBuf tb) → BufTy
  | .hbm, ⟨0, _⟩ => ⟨S4x384x96, .f32⟩
  | .hbm, ⟨1, _⟩ => ⟨S8x384x96, .bf16⟩
  | .hbm, ⟨2, _⟩ => ⟨S8x384x96, .bf16⟩
  | .hbm, ⟨3, _⟩ => ⟨S8x384x96, .bf16⟩
  | .hbm, ⟨4, _⟩ => ⟨S8x384x96, .bf16⟩
  | .hbm, ⟨5, _⟩ => ⟨S4x384x96, .f32⟩
  | .hbm, ⟨6, _⟩ => ⟨S4x384x96, .f32⟩
  | .hbm, ⟨7, _⟩ => ⟨S8x384x96, .f32⟩
  | .hbm, ⟨8, _⟩ => ⟨S_, .f32⟩
  | .hbm, ⟨9, _⟩ => ⟨S384x96, .f32⟩
  | .hbm, ⟨10, _⟩ => ⟨S8x384x96, .f32⟩
  | .hbm, ⟨11, _⟩ => ⟨S_, .f32⟩
  | .hbm, ⟨12, _⟩ => ⟨S384x96, .f32⟩
  | .hbm, ⟨13, _⟩ => ⟨S8x384x96, .f32⟩
  | .hbm, ⟨14, _⟩ => ⟨S_, .f32⟩
  | .hbm, ⟨15, _⟩ => ⟨S384x96, .f32⟩
  | .hbm, ⟨16, _⟩ => ⟨S8x384x96, .f32⟩
  | .hbm, ⟨17, _⟩ => ⟨S_, .f32⟩
  | .hbm, ⟨18, _⟩ => ⟨S384x96, .f32⟩
  | .hbm, ⟨19, _⟩ => ⟨S1x384x96, .f32⟩
  | .hbm, ⟨20, _⟩ => ⟨S1x384x96, .f32⟩
  | .hbm, ⟨21, _⟩ => ⟨S1x384x96, .f32⟩
  | .hbm, ⟨22, _⟩ => ⟨S1x384x96, .f32⟩
  | .hbm, ⟨23, _⟩ => ⟨S4x384x96, .f32⟩
  | .hbm, ⟨24, _⟩ => ⟨S1536x96, .f32⟩
  | .hbm, ⟨25, _⟩ => ⟨S1536x96, .f32⟩
  | .hbm, ⟨26, _⟩ => ⟨S1536x96, .f32⟩
  | .hbm, ⟨27, _⟩ => ⟨S1536x96, .f32⟩
  | .hbm, ⟨28, _⟩ => ⟨S_, .f32⟩
  | .hbm, ⟨29, _⟩ => ⟨S1536x96, .f32⟩
  | .hbm, ⟨30, _⟩ => ⟨S1536x96, .f32⟩
  | .hbm, ⟨31, _⟩ => ⟨S_, .f32⟩
  | .hbm, ⟨32, _⟩ => ⟨S1536x96, .f32⟩
  | .hbm, ⟨33, _⟩ => ⟨S1536x96, .f32⟩
  | .hbm, ⟨34, _⟩ => ⟨S1536x96, .f32⟩
  | .hbm, ⟨35, _⟩ => ⟨S_, .f32⟩
  | .hbm, ⟨36, _⟩ => ⟨S1536x96, .f32⟩
  | .hbm, ⟨37, _⟩ => ⟨S1536x96, .f32⟩
  | .hbm, ⟨38, _⟩ => ⟨S1536x96, .f32⟩
  | .hbm, ⟨39, _⟩ => ⟨S_, .f32⟩
  | .hbm, ⟨40, _⟩ => ⟨S1536x96, .f32⟩
  | .hbm, ⟨41, _⟩ => ⟨S1536x96, .f32⟩
  | .hbm, ⟨42, _⟩ => ⟨S1536x96, .f32⟩
  | .hbm, ⟨43, _⟩ => ⟨S_, .f32⟩
  | .hbm, ⟨44, _⟩ => ⟨S1536x96, .f32⟩
  | .hbm, ⟨45, _⟩ => ⟨S1536x96, .f32⟩
  | .hbm, ⟨46, _⟩ => ⟨S_, .f32⟩
  | .hbm, ⟨47, _⟩ => ⟨S1536x96, .f32⟩
  | .hbm, ⟨48, _⟩ => ⟨S1536x96, .f32⟩
  | .hbm, ⟨49, _⟩ => ⟨S1536x96, .f32⟩
  | .hbm, ⟨50, _⟩ => ⟨S_, .f32⟩
  | .hbm, ⟨51, _⟩ => ⟨S1536x96, .f32⟩
  | .hbm, ⟨52, _⟩ => ⟨S1536x96, .f32⟩
  | .hbm, ⟨53, _⟩ => ⟨S1536x96, .f32⟩
  | .hbm, ⟨54, _⟩ => ⟨S_, .f32⟩
  | .hbm, ⟨55, _⟩ => ⟨S1536x96, .f32⟩
  | .hbm, ⟨56, _⟩ => ⟨S1536x96, .f32⟩
  | .hbm, ⟨57, _⟩ => ⟨S1536x96, .f32⟩
  | .hbm, ⟨58, _⟩ => ⟨S_, .f32⟩
  | .hbm, ⟨59, _⟩ => ⟨S1536x96, .f32⟩
  | .hbm, ⟨60, _⟩ => ⟨S1536x96, .f32⟩
  | _, _ => ⟨S4x384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== AdamKvUp.lean ====
abbrev S4x256x128 : Shape := ⟨3, ![4, 256, 128]⟩
abbrev S8x256x128 : Shape := ⟨3, ![8, 256, 128]⟩
abbrev S1024x128 : Shape := ⟨2, ![1024, 128]⟩
abbrev S256x128 : Shape := ⟨2, ![256, 128]⟩
abbrev S1x256x128 : Shape := ⟨3, ![1, 256, 128]⟩

abbrev nBuf : Space → Nat
  | .hbm => 14
  | .vmem => 22
  | .smem => 0
  | _ => 0

abbrev bufTy : (tb : Table) → Fin (tcTables nBuf tb) → BufTy
  | .hbm, ⟨0, _⟩ => ⟨S4x256x128, .f32⟩
  | .hbm, ⟨1, _⟩ => ⟨S8x256x128, .bf16⟩
  | .hbm, ⟨2, _⟩ => ⟨S8x256x128, .bf16⟩
  | .hbm, ⟨3, _⟩ => ⟨S8x256x128, .bf16⟩
  | .hbm, ⟨4, _⟩ => ⟨S8x256x128, .bf16⟩
  | .hbm, ⟨5, _⟩ => ⟨S4x256x128, .f32⟩
  | .hbm, ⟨6, _⟩ => ⟨S4x256x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S8x256x128, .bf16⟩
  | .local _ .vmem, ⟨3, _⟩ => ⟨S8x256x128, .bf16⟩
  | .local _ .vmem, ⟨4, _⟩ => ⟨S8x256x128, .bf16⟩
  | .local _ .vmem, ⟨5, _⟩ => ⟨S8x256x128, .bf16⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamKvUpIdeal.lean ====
abbrev S4x256x128 : Shape := ⟨3, ![4, 256, 128]⟩
abbrev S8x256x128 : Shape := ⟨3, ![8, 256, 128]⟩
abbrev S1024x128 : Shape := ⟨2, ![1024, 128]⟩
abbrev S256x128 : Shape := ⟨2, ![256, 128]⟩
abbrev S1x256x128 : Shape := ⟨3, ![1, 256, 128]⟩

abbrev nBuf : Space → Nat
  | .hbm => 14
  | .vmem => 22
  | .smem => 0
  | _ => 0

abbrev bufTy : (tb : Table) → Fin (tcTables nBuf tb) → BufTy
  | .hbm, ⟨0, _⟩ => ⟨S4x256x128, .f32⟩
  | .hbm, ⟨1, _⟩ => ⟨S8x256x128, .bf16⟩
  | .hbm, ⟨2, _⟩ => ⟨S8x256x128, .bf16⟩
  | .hbm, ⟨3, _⟩ => ⟨S8x256x128, .bf16⟩
  | .hbm, ⟨4, _⟩ => ⟨S8x256x128, .bf16⟩
  | .hbm, ⟨5, _⟩ => ⟨S4x256x128, .f32⟩
  | .hbm, ⟨6, _⟩ => ⟨S4x256x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S8x256x128, .bf16⟩
  | .local _ .vmem, ⟨3, _⟩ => ⟨S8x256x128, .bf16⟩
  | .local _ .vmem, ⟨4, _⟩ => ⟨S8x256x128, .bf16⟩
  | .local _ .vmem, ⟨5, _⟩ => ⟨S8x256x128, .bf16⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamKvUpRefIdeal.lean ====
abbrev S4x256x128 : Shape := ⟨3, ![4, 256, 128]⟩
abbrev S8x256x128 : Shape := ⟨3, ![8, 256, 128]⟩
abbrev S_ : Shape := ⟨0, ![]⟩
abbrev S256x128 : Shape := ⟨2, ![256, 128]⟩
abbrev S1x256x128 : Shape := ⟨3, ![1, 256, 128]⟩
abbrev S1024x128 : Shape := ⟨2, ![1024, 128]⟩

abbrev nBuf : Space → Nat
  | .hbm => 61
  | .vmem => 0
  | .smem => 0
  | _ => 0

abbrev bufTy : (tb : Table) → Fin (tcTables nBuf tb) → BufTy
  | .hbm, ⟨0, _⟩ => ⟨S4x256x128, .f32⟩
  | .hbm, ⟨1, _⟩ => ⟨S8x256x128, .bf16⟩
  | .hbm, ⟨2, _⟩ => ⟨S8x256x128, .bf16⟩
  | .hbm, ⟨3, _⟩ => ⟨S8x256x128, .bf16⟩
  | .hbm, ⟨4, _⟩ => ⟨S8x256x128, .bf16⟩
  | .hbm, ⟨5, _⟩ => ⟨S4x256x128, .f32⟩
  | .hbm, ⟨6, _⟩ => ⟨S4x256x128, .f32⟩
  | .hbm, ⟨7, _⟩ => ⟨S8x256x128, .f32⟩
  | .hbm, ⟨8, _⟩ => ⟨S_, .f32⟩
  | .hbm, ⟨9, _⟩ => ⟨S256x128, .f32⟩
  | .hbm, ⟨10, _⟩ => ⟨S8x256x128, .f32⟩
  | .hbm, ⟨11, _⟩ => ⟨S_, .f32⟩
  | .hbm, ⟨12, _⟩ => ⟨S256x128, .f32⟩
  | .hbm, ⟨13, _⟩ => ⟨S8x256x128, .f32⟩
  | .hbm, ⟨14, _⟩ => ⟨S_, .f32⟩
  | .hbm, ⟨15, _⟩ => ⟨S256x128, .f32⟩
  | .hbm, ⟨16, _⟩ => ⟨S8x256x128, .f32⟩
  | .hbm, ⟨17, _⟩ => ⟨S_, .f32⟩
  | .hbm, ⟨18, _⟩ => ⟨S256x128, .f32⟩
  | .hbm, ⟨19, _⟩ => ⟨S1x256x128, .f32⟩
  | .hbm, ⟨20, _⟩ => ⟨S1x256x128, .f32⟩
  | .hbm, ⟨21, _⟩ => ⟨S1x256x128, .f32⟩
  | .hbm, ⟨22, _⟩ => ⟨S1x256x128, .f32⟩
  | .hbm, ⟨23, _⟩ => ⟨S4x256x128, .f32⟩
  | .hbm, ⟨24, _⟩ => ⟨S1024x128, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S_, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S_, .f32⟩
  | .hbm, ⟨36, _⟩ => ⟨S1024x128, .f32⟩
  | .hbm, ⟨37, _⟩ => ⟨S1024x128, .f32⟩
  | .hbm, ⟨38, _⟩ => ⟨S1024x128, .f32⟩
  | .hbm, ⟨39, _⟩ => ⟨S_, .f32⟩
  | .hbm, ⟨40, _⟩ => ⟨S1024x128, .f32⟩
  | .hbm, ⟨41, _⟩ => ⟨S1024x128, .f32⟩
  | .hbm, ⟨42, _⟩ => ⟨S1024x128, .f32⟩
  | .hbm, ⟨43, _⟩ => ⟨S_, .f32⟩
  | .hbm, ⟨44, _⟩ => ⟨S1024x128, .f32⟩
  | .hbm, ⟨45, _⟩ => ⟨S1024x128, .f32⟩
  | .hbm, ⟨46, _⟩ => ⟨S_, .f32⟩
  | .hbm, ⟨47, _⟩ => ⟨S1024x128, .f32⟩
  | .hbm, ⟨48, _⟩ => ⟨S1024x128, .f32⟩
  | .hbm, ⟨49, _⟩ => ⟨S1024x128, .f32⟩
  | .hbm, ⟨50, _⟩ => ⟨S_, .f32⟩
  | .hbm, ⟨51, _⟩ => ⟨S1024x128, .f32⟩
  | .hbm, ⟨52, _⟩ => ⟨S1024x128, .f32⟩
  | .hbm, ⟨53, _⟩ => ⟨S1024x128, .f32⟩
  | .hbm, ⟨54, _⟩ => ⟨S_, .f32⟩
  | .hbm, ⟨55, _⟩ => ⟨S1024x128, .f32⟩
  | .hbm, ⟨56, _⟩ => ⟨S1024x128, .f32⟩
  | .hbm, ⟨57, _⟩ => ⟨S1024x128, .f32⟩
  | .hbm, ⟨58, _⟩ => ⟨S_, .f32⟩
  | .hbm, ⟨59, _⟩ => ⟨S1024x128, .f32⟩
  | .hbm, ⟨60, _⟩ => ⟨S1024x128, .f32⟩
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== AdamBranch.lean ====
abbrev S4x3x512x128 : Shape := ⟨4, ![4, 3, 512, 128]⟩
abbrev S8x3x512x128 : Shape := ⟨4, ![8, 3, 512, 128]⟩
abbrev S8x1536x128 : Shape := ⟨3, ![8, 1536, 128]⟩
abbrev S6144x128 : Shape := ⟨2, ![6144, 128]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 18
  | .vmem => 22
  | .smem => 0
  | _ => 0

abbrev bufTy : (tb : Table) → Fin (tcTables nBuf tb) → BufTy
  | .hbm, ⟨0, _⟩ => ⟨S4x3x512x128, .f32⟩
  | .hbm, ⟨1, _⟩ => ⟨S8x3x512x128, .bf16⟩
  | .hbm, ⟨2, _⟩ => ⟨S8x3x512x128, .bf16⟩
  | .hbm, ⟨3, _⟩ => ⟨S8x3x512x128, .bf16⟩
  | .hbm, ⟨4, _⟩ => ⟨S8x3x512x128, .bf16⟩
  | .hbm, ⟨5, _⟩ => ⟨S4x3x512x128, .f32⟩
  | .hbm, ⟨6, _⟩ => ⟨S4x3x512x128, .f32⟩
  | .hbm, ⟨7, _⟩ => ⟨S8x1536x128, .bf16⟩
  | .hbm, ⟨8, _⟩ => ⟨S8x1536x128, .bf16⟩
  | .hbm, ⟨9, _⟩ => ⟨S8x1536x128, .bf16⟩
  | .hbm, ⟨10, _⟩ => ⟨S8x1536x128, .bf16⟩
  | .hbm, ⟨11, _⟩ => ⟨S6144x128, .f32⟩
  | .hbm, ⟨12, _⟩ => ⟨S6144x128, .f32⟩
  | .hbm, ⟨13, _⟩ => ⟨S6144x128, .f32⟩
  | .hbm, ⟨14, _⟩ => ⟨S6144x128, .f32⟩
  | .hbm, ⟨15, _⟩ => ⟨S6144x128, .f32⟩
  | .hbm, ⟨16, _⟩ => ⟨S6144x128, .f32⟩
  | .hbm, ⟨17, _⟩ => ⟨S6144x128, .f32⟩
  | .local _ .vmem, ⟨0, _⟩ => ⟨S256x128, .f32⟩
  | .local _ .vmem, ⟨1, _⟩ => ⟨S256x128, .f32⟩
  | .local _ .vmem, ⟨2, _⟩ => ⟨S8x256x128, .bf16⟩
  | .local _ .vmem, ⟨3, _⟩ => ⟨S8x256x128, .bf16⟩
  | .local _ .vmem, ⟨4, _⟩ => ⟨S8x256x128, .bf16⟩
  | .local _ .vmem, ⟨5, _⟩ => ⟨S8x256x128, .bf16⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | _, _ => ⟨S4x3x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamBranchIdeal.lean ====
abbrev S4x3x512x128 : Shape := ⟨4, ![4, 3, 512, 128]⟩
abbrev S8x3x512x128 : Shape := ⟨4, ![8, 3, 512, 128]⟩
abbrev S8x1536x128 : Shape := ⟨3, ![8, 1536, 128]⟩
abbrev S6144x128 : Shape := ⟨2, ![6144, 128]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 18
  | .vmem => 22
  | .smem => 0
  | _ => 0

abbrev bufTy : (tb : Table) → Fin (tcTables nBuf tb) → BufTy
  | .hbm, ⟨0, _⟩ => ⟨S4x3x512x128, .f32⟩
  | .hbm, ⟨1, _⟩ => ⟨S8x3x512x128, .bf16⟩
  | .hbm, ⟨2, _⟩ => ⟨S8x3x512x128, .bf16⟩
  | .hbm, ⟨3, _⟩ => ⟨S8x3x512x128, .bf16⟩
  | .hbm, ⟨4, _⟩ => ⟨S8x3x512x128, .bf16⟩
  | .hbm, ⟨5, _⟩ => ⟨S4x3x512x128, .f32⟩
  | .hbm, ⟨6, _⟩ => ⟨S4x3x512x128, .f32⟩
  | .hbm, ⟨7, _⟩ => ⟨S8x1536x128, .bf16⟩
  | .hbm, ⟨8, _⟩ => ⟨S8x1536x128, .bf16⟩
  | .hbm, ⟨9, _⟩ => ⟨S8x1536x128, .bf16⟩
  | .hbm, ⟨10, _⟩ => ⟨S8x1536x128, .bf16⟩
  | .hbm, ⟨11, _⟩ => ⟨S6144x128, .f32⟩
  | .hbm, ⟨12, _⟩ => ⟨S6144x128, .f32⟩
  | .hbm, ⟨13, _⟩ => ⟨S6144x128, .f32⟩
  | .hbm, ⟨14, _⟩ => ⟨S6144x128, .f32⟩
  | .hbm, ⟨15, _⟩ => ⟨S6144x128, .f32⟩
  | .hbm, ⟨16, _⟩ => ⟨S6144x128, .f32⟩
  | .hbm, ⟨17, _⟩ => ⟨S6144x128, .f32⟩
  | .local _ .vmem, ⟨0, _⟩ => ⟨S256x128, .f32⟩
  | .local _ .vmem, ⟨1, _⟩ => ⟨S256x128, .f32⟩
  | .local _ .vmem, ⟨2, _⟩ => ⟨S8x256x128, .bf16⟩
  | .local _ .vmem, ⟨3, _⟩ => ⟨S8x256x128, .bf16⟩
  | .local _ .vmem, ⟨4, _⟩ => ⟨S8x256x128, .bf16⟩
  | .local _ .vmem, ⟨5, _⟩ => ⟨S8x256x128, .bf16⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | _, _ => ⟨S4x3x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamBranchRefIdeal.lean ====
abbrev S4x3x512x128 : Shape := ⟨4, ![4, 3, 512, 128]⟩
abbrev S8x3x512x128 : Shape := ⟨4, ![8, 3, 512, 128]⟩
abbrev S_ : Shape := ⟨0, ![]⟩
abbrev S3x512x128 : Shape := ⟨3, ![3, 512, 128]⟩
abbrev S1x3x512x128 : Shape := ⟨4, ![1, 3, 512, 128]⟩
abbrev S6144x128 : Shape := ⟨2, ![6144, 128]⟩

abbrev nBuf : Space → Nat
  | .hbm => 61
  | .vmem => 0
  | .smem => 0
  | _ => 0

abbrev bufTy : (tb : Table) → Fin (tcTables nBuf tb) → BufTy
  | .hbm, ⟨0, _⟩ => ⟨S4x3x512x128, .f32⟩
  | .hbm, ⟨1, _⟩ => ⟨S8x3x512x128, .bf16⟩
  | .hbm, ⟨2, _⟩ => ⟨S8x3x512x128, .bf16⟩
  | .hbm, ⟨3, _⟩ => ⟨S8x3x512x128, .bf16⟩
  | .hbm, ⟨4, _⟩ => ⟨S8x3x512x128, .bf16⟩
  | .hbm, ⟨5, _⟩ => ⟨S4x3x512x128, .f32⟩
  | .hbm, ⟨6, _⟩ => ⟨S4x3x512x128, .f32⟩
  | .hbm, ⟨7, _⟩ => ⟨S8x3x512x128, .f32⟩
  | .hbm, ⟨8, _⟩ => ⟨S_, .f32⟩
  | .hbm, ⟨9, _⟩ => ⟨S3x512x128, .f32⟩
  | .hbm, ⟨10, _⟩ => ⟨S8x3x512x128, .f32⟩
  | .hbm, ⟨11, _⟩ => ⟨S_, .f32⟩
  | .hbm, ⟨12, _⟩ => ⟨S3x512x128, .f32⟩
  | .hbm, ⟨13, _⟩ => ⟨S8x3x512x128, .f32⟩
  | .hbm, ⟨14, _⟩ => ⟨S_, .f32⟩
  | .hbm, ⟨15, _⟩ => ⟨S3x512x128, .f32⟩
  | .hbm, ⟨16, _⟩ => ⟨S8x3x512x128, .f32⟩
  | .hbm, ⟨17, _⟩ => ⟨S_, .f32⟩
  | .hbm, ⟨18, _⟩ => ⟨S3x512x128, .f32⟩
  | .hbm, ⟨19, _⟩ => ⟨S1x3x512x128, .f32⟩
  | .hbm, ⟨20, _⟩ => ⟨S1x3x512x128, .f32⟩
  | .hbm, ⟨21, _⟩ => ⟨S1x3x512x128, .f32⟩
  | .hbm, ⟨22, _⟩ => ⟨S1x3x512x128, .f32⟩
  | .hbm, ⟨23, _⟩ => ⟨S4x3x512x128, .f32⟩
  | .hbm, ⟨24, _⟩ => ⟨S6144x128, .f32⟩
  | .hbm, ⟨25, _⟩ => ⟨S6144x128, .f32⟩
  | .hbm, ⟨26, _⟩ => ⟨S6144x128, .f32⟩
  | .hbm, ⟨27, _⟩ => ⟨S6144x128, .f32⟩
  | .hbm, ⟨28, _⟩ => ⟨S_, .f32⟩
  | .hbm, ⟨29, _⟩ => ⟨S6144x128, .f32⟩
  | .hbm, ⟨30, _⟩ => ⟨S6144x128, .f32⟩
  | .hbm, ⟨31, _⟩ => ⟨S_, .f32⟩
  | .hbm, ⟨32, _⟩ => ⟨S6144x128, .f32⟩
  | .hbm, ⟨33, _⟩ => ⟨S6144x128, .f32⟩
  | .hbm, ⟨34, _⟩ => ⟨S6144x128, .f32⟩
  | .hbm, ⟨35, _⟩ => ⟨S_, .f32⟩
  | .hbm, ⟨36, _⟩ => ⟨S6144x128, .f32⟩
  | .hbm, ⟨37, _⟩ => ⟨S6144x128, .f32⟩
  | .hbm, ⟨38, _⟩ => ⟨S6144x128, .f32⟩
  | .hbm, ⟨39, _⟩ => ⟨S_, .f32⟩
  | .hbm, ⟨40, _⟩ => ⟨S6144x128, .f32⟩
  | .hbm, ⟨41, _⟩ => ⟨S6144x128, .f32⟩
  | .hbm, ⟨42, _⟩ => ⟨S6144x128, .f32⟩
  | .hbm, ⟨43, _⟩ => ⟨S_, .f32⟩
  | .hbm, ⟨44, _⟩ => ⟨S6144x128, .f32⟩
  | .hbm, ⟨45, _⟩ => ⟨S6144x128, .f32⟩
  | .hbm, ⟨46, _⟩ => ⟨S_, .f32⟩
  | .hbm, ⟨47, _⟩ => ⟨S6144x128, .f32⟩
  | .hbm, ⟨48, _⟩ => ⟨S6144x128, .f32⟩
  | .hbm, ⟨49, _⟩ => ⟨S6144x128, .f32⟩
  | .hbm, ⟨50, _⟩ => ⟨S_, .f32⟩
  | .hbm, ⟨51, _⟩ => ⟨S6144x128, .f32⟩
  | .hbm, ⟨52, _⟩ => ⟨S6144x128, .f32⟩
  | .hbm, ⟨53, _⟩ => ⟨S6144x128, .f32⟩
  | .hbm, ⟨54, _⟩ => ⟨S_, .f32⟩
  | .hbm, ⟨55, _⟩ => ⟨S6144x128, .f32⟩
  | .hbm, ⟨56, _⟩ => ⟨S6144x128, .f32⟩
  | .hbm, ⟨57, _⟩ => ⟨S6144x128, .f32⟩
  | .hbm, ⟨58, _⟩ => ⟨S_, .f32⟩
  | .hbm, ⟨59, _⟩ => ⟨S6144x128, .f32⟩
  | .hbm, ⟨60, _⟩ => ⟨S6144x128, .f32⟩
  | _, _ => ⟨S4x3x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== AdamWOut.lean ====
abbrev S4x128x1024 : Shape := ⟨3, ![4, 128, 1024]⟩
abbrev S8x128x1024 : Shape := ⟨3, ![8, 128, 1024]⟩
abbrev S512x1024 : Shape := ⟨2, ![512, 1024]⟩
abbrev S128x1024 : Shape := ⟨2, ![128, 1024]⟩
abbrev S1x128x1024 : Shape := ⟨3, ![1, 128, 1024]⟩

abbrev nBuf : Space → Nat
  | .hbm => 14
  | .vmem => 22
  | .smem => 0
  | _ => 0

abbrev bufTy : (tb : Table) → Fin (tcTables nBuf tb) → BufTy
  | .hbm, ⟨0, _⟩ => ⟨S4x128x1024, .f32⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S8x128x1024, .bf16⟩
  | .hbm, ⟨5, _⟩ => ⟨S4x128x1024, .f32⟩
  | .hbm, ⟨6, _⟩ => ⟨S4x128x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamWOutIdeal.lean ====
abbrev S4x128x1024 : Shape := ⟨3, ![4, 128, 1024]⟩
abbrev S8x128x1024 : Shape := ⟨3, ![8, 128, 1024]⟩
abbrev S512x1024 : Shape := ⟨2, ![512, 1024]⟩
abbrev S128x1024 : Shape := ⟨2, ![128, 1024]⟩
abbrev S1x128x1024 : Shape := ⟨3, ![1, 128, 1024]⟩

abbrev nBuf : Space → Nat
  | .hbm => 14
  | .vmem => 22
  | .smem => 0
  | _ => 0

abbrev bufTy : (tb : Table) → Fin (tcTables nBuf tb) → BufTy
  | .hbm, ⟨0, _⟩ => ⟨S4x128x1024, .f32⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S8x128x1024, .bf16⟩
  | .hbm, ⟨5, _⟩ => ⟨S4x128x1024, .f32⟩
  | .hbm, ⟨6, _⟩ => ⟨S4x128x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamWOutRefIdeal.lean ====
abbrev S4x128x1024 : Shape := ⟨3, ![4, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩
abbrev S512x1024 : Shape := ⟨2, ![512, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S8x128x1024, .bf16⟩
  | .hbm, ⟨5, _⟩ => ⟨S4x128x1024, .f32⟩
  | .hbm, ⟨6, _⟩ => ⟨S4x128x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S4x128x1024, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S_, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S512x1024, .f32⟩
  | .hbm, ⟨48, _⟩ => ⟨S512x1024, .f32⟩
  | .hbm, ⟨49, _⟩ => ⟨S512x1024, .f32⟩
  | .hbm, ⟨50, _⟩ => ⟨S_, .f32⟩
  | .hbm, ⟨51, _⟩ => ⟨S512x1024, .f32⟩
  | .hbm, ⟨52, _⟩ => ⟨S512x1024, .f32⟩
  | .hbm, ⟨53, _⟩ => ⟨S512x1024, .f32⟩
  | .hbm, ⟨54, _⟩ => ⟨S_, .f32⟩
  | .hbm, ⟨55, _⟩ => ⟨S512x1024, .f32⟩
  | .hbm, ⟨56, _⟩ => ⟨S512x1024, .f32⟩
  | .hbm, ⟨57, _⟩ => ⟨S512x1024, .f32⟩
  | .hbm, ⟨58, _⟩ => ⟨S_, .f32⟩
  | .hbm, ⟨59, _⟩ => ⟨S512x1024, .f32⟩
  | .hbm, ⟨60, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== AdamFfnIn.lean ====
abbrev S4x1024x704 : Shape := ⟨3, ![4, 1024, 704]⟩
abbrev S8x1024x704 : Shape := ⟨3, ![8, 1024, 704]⟩
abbrev S4096x704 : Shape := ⟨2, ![4096, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 14
  | .vmem => 22
  | .smem => 0
  | _ => 0

abbrev bufTy : (tb : Table) → Fin (tcTables nBuf tb) → BufTy
  | .hbm, ⟨0, _⟩ => ⟨S4x1024x704, .f32⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S8x1024x704, .bf16⟩
  | .hbm, ⟨5, _⟩ => ⟨S4x1024x704, .f32⟩
  | .hbm, ⟨6, _⟩ => ⟨S4x1024x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4096x704, .f32⟩
  | .hbm, ⟨12, _⟩ => ⟨S4096x704, .f32⟩
  | .hbm, ⟨13, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S8x256x704, .bf16⟩
  | .local _ .vmem, ⟨3, _⟩ => ⟨S8x256x704, .bf16⟩
  | .local _ .vmem, ⟨4, _⟩ => ⟨S8x256x704, .bf16⟩
  | .local _ .vmem, ⟨5, _⟩ => ⟨S8x256x704, .bf16⟩
  | .local _ .vmem, ⟨6, _⟩ => ⟨S8x256x704, .bf16⟩
  | .local _ .vmem, ⟨7, _⟩ => ⟨S8x256x704, .bf16⟩
  | .local _ .vmem, ⟨8, _⟩ => ⟨S8x256x704, .bf16⟩
  | .local _ .vmem, ⟨9, _⟩ => ⟨S8x256x704, .bf16⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | .local _ .vmem, ⟨18, _⟩ => ⟨S256x704, .f32⟩
  | .local _ .vmem, ⟨19, _⟩ => ⟨S256x704, .f32⟩
  | .local _ .vmem, ⟨20, _⟩ => ⟨S256x704, .f32⟩
  | .local _ .vmem, ⟨21, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfnInIdeal.lean ====
abbrev S4x1024x704 : Shape := ⟨3, ![4, 1024, 704]⟩
abbrev S8x1024x704 : Shape := ⟨3, ![8, 1024, 704]⟩
abbrev S4096x704 : Shape := ⟨2, ![4096, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 14
  | .vmem => 22
  | .smem => 0
  | _ => 0

abbrev bufTy : (tb : Table) → Fin (tcTables nBuf tb) → BufTy
  | .hbm, ⟨0, _⟩ => ⟨S4x1024x704, .f32⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S8x1024x704, .bf16⟩
  | .hbm, ⟨5, _⟩ => ⟨S4x1024x704, .f32⟩
  | .hbm, ⟨6, _⟩ => ⟨S4x1024x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4096x704, .f32⟩
  | .hbm, ⟨12, _⟩ => ⟨S4096x704, .f32⟩
  | .hbm, ⟨13, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S8x256x704, .bf16⟩
  | .local _ .vmem, ⟨3, _⟩ => ⟨S8x256x704, .bf16⟩
  | .local _ .vmem, ⟨4, _⟩ => ⟨S8x256x704, .bf16⟩
  | .local _ .vmem, ⟨5, _⟩ => ⟨S8x256x704, .bf16⟩
  | .local _ .vmem, ⟨6, _⟩ => ⟨S8x256x704, .bf16⟩
  | .local _ .vmem, ⟨7, _⟩ => ⟨S8x256x704, .bf16⟩
  | .local _ .vmem, ⟨8, _⟩ => ⟨S8x256x704, .bf16⟩
  | .local _ .vmem, ⟨9, _⟩ => ⟨S8x256x704, .bf16⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | .local _ .vmem, ⟨18, _⟩ => ⟨S256x704, .f32⟩
  | .local _ .vmem, ⟨19, _⟩ => ⟨S256x704, .f32⟩
  | .local _ .vmem, ⟨20, _⟩ => ⟨S256x704, .f32⟩
  | .local _ .vmem, ⟨21, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfnInRefIdeal.lean ====
abbrev S4x1024x704 : Shape := ⟨3, ![4, 1024, 704]⟩
abbrev S8x1024x704 : Shape := ⟨3, ![8, 1024, 704]⟩
abbrev S_ : Shape := ⟨0, ![]⟩
abbrev S1024x704 : Shape := ⟨2, ![1024, 704]⟩
abbrev S1x1024x704 : Shape := ⟨3, ![1, 1024, 704]⟩
abbrev S4096x704 : Shape := ⟨2, ![4096, 704]⟩

abbrev nBuf : Space → Nat
  | .hbm => 61
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S8x1024x704, .bf16⟩
  | .hbm, ⟨2, _⟩ => ⟨S8x1024x704, .bf16⟩
  | .hbm, ⟨3, _⟩ => ⟨S8x1024x704, .bf16⟩
  | .hbm, ⟨4, _⟩ => ⟨S8x1024x704, .bf16⟩
  | .hbm, ⟨5, _⟩ => ⟨S4x1024x704, .f32⟩
  | .hbm, ⟨6, _⟩ => ⟨S4x1024x704, .f32⟩
  | .hbm, ⟨7, _⟩ => ⟨S8x1024x704, .f32⟩
  | .hbm, ⟨8, _⟩ => ⟨S_, .f32⟩
  | .hbm, ⟨9, _⟩ => ⟨S1024x704, .f32⟩
  | .hbm, ⟨10, _⟩ => ⟨S8x1024x704, .f32⟩
  | .hbm, ⟨11, _⟩ => ⟨S_, .f32⟩
  | .hbm, ⟨12, _⟩ => ⟨S1024x704, .f32⟩
  | .hbm, ⟨13, _⟩ => ⟨S8x1024x704, .f32⟩
  | .hbm, ⟨14, _⟩ => ⟨S_, .f32⟩
  | .hbm, ⟨15, _⟩ => ⟨S1024x704, .f32⟩
  | .hbm, ⟨16, _⟩ => ⟨S8x1024x704, .f32⟩
  | .hbm, ⟨17, _⟩ => ⟨S_, .f32⟩
  | .hbm, ⟨18, _⟩ => ⟨S1024x704, .f32⟩
  | .hbm, ⟨19, _⟩ => ⟨S1x1024x704, .f32⟩
  | .hbm, ⟨20, _⟩ => ⟨S1x1024x704, .f32⟩
  | .hbm, ⟨21, _⟩ => ⟨S1x1024x704, .f32⟩
  | .hbm, ⟨22, _⟩ => ⟨S1x1024x704, .f32⟩
  | .hbm, ⟨23, _⟩ => ⟨S4x1024x704, .f32⟩
  | .hbm, ⟨24, _⟩ => ⟨S4096x704, .f32⟩
  | .hbm, ⟨25, _⟩ => ⟨S4096x704, .f32⟩
  | .hbm, ⟨26, _⟩ => ⟨S4096x704, .f32⟩
  | .hbm, ⟨27, _⟩ => ⟨S4096x704, .f32⟩
  | .hbm, ⟨28, _⟩ => ⟨S_, .f32⟩
  | .hbm, ⟨29, _⟩ => ⟨S4096x704, .f32⟩
  | .hbm, ⟨30, _⟩ => ⟨S4096x704, .f32⟩
  | .hbm, ⟨31, _⟩ => ⟨S_, .f32⟩
  | .hbm, ⟨32, _⟩ => ⟨S4096x704, .f32⟩
  | .hbm, ⟨33, _⟩ => ⟨S4096x704, .f32⟩
  | .hbm, ⟨34, _⟩ => ⟨S4096x704, .f32⟩
  | .hbm, ⟨35, _⟩ => ⟨S_, .f32⟩
  | .hbm, ⟨36, _⟩ => ⟨S4096x704, .f32⟩
  | .hbm, ⟨37, _⟩ => ⟨S4096x704, .f32⟩
  | .hbm, ⟨38, _⟩ => ⟨S4096x704, .f32⟩
  | .hbm, ⟨39, _⟩ => ⟨S_, .f32⟩
  | .hbm, ⟨40, _⟩ => ⟨S4096x704, .f32⟩
  | .hbm, ⟨41, _⟩ => ⟨S4096x704, .f32⟩
  | .hbm, ⟨42, _⟩ => ⟨S4096x704, .f32⟩
  | .hbm, ⟨43, _⟩ => ⟨S_, .f32⟩
  | .hbm, ⟨44, _⟩ => ⟨S4096x704, .f32⟩
  | .hbm, ⟨45, _⟩ => ⟨S4096x704, .f32⟩
  | .hbm, ⟨46, _⟩ => ⟨S_, .f32⟩
  | .hbm, ⟨47, _⟩ => ⟨S4096x704, .f32⟩
  | .hbm, ⟨48, _⟩ => ⟨S4096x704, .f32⟩
  | .hbm, ⟨49, _⟩ => ⟨S4096x704, .f32⟩
  | .hbm, ⟨50, _⟩ => ⟨S_, .f32⟩
  | .hbm, ⟨51, _⟩ => ⟨S4096x704, .f32⟩
  | .hbm, ⟨52, _⟩ => ⟨S4096x704, .f32⟩
  | .hbm, ⟨53, _⟩ => ⟨S4096x704, .f32⟩
  | .hbm, ⟨54, _⟩ => ⟨S_, .f32⟩
  | .hbm, ⟨55, _⟩ => ⟨S4096x704, .f32⟩
  | .hbm, ⟨56, _⟩ => ⟨S4096x704, .f32⟩
  | .hbm, ⟨57, _⟩ => ⟨S4096x704, .f32⟩
  | .hbm, ⟨58, _⟩ => ⟨S_, .f32⟩
  | .hbm, ⟨59, _⟩ => ⟨S4096x704, .f32⟩
  | .hbm, ⟨60, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== AdamFfnOut.lean ====
abbrev S4x352x1024 : Shape := ⟨3, ![4, 352, 1024]⟩
abbrev S8x352x1024 : Shape := ⟨3, ![8, 352, 1024]⟩
abbrev S1408x1024 : Shape := ⟨2, ![1408, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 14
  | .vmem => 22
  | .smem => 0
  | _ => 0

abbrev bufTy : (tb : Table) → Fin (tcTables nBuf tb) → BufTy
  | .hbm, ⟨0, _⟩ => ⟨S4x352x1024, .f32⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S8x352x1024, .bf16⟩
  | .hbm, ⟨5, _⟩ => ⟨S4x352x1024, .f32⟩
  | .hbm, ⟨6, _⟩ => ⟨S4x352x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S8x176x1024, .bf16⟩
  | .local _ .vmem, ⟨9, _⟩ => ⟨S8x176x1024, .bf16⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfnOutRefIdeal.lean ====
abbrev S4x352x1024 : Shape := ⟨3, ![4, 352, 1024]⟩
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩
abbrev S1408x1024 : Shape := ⟨2, ![1408, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S8x352x1024, .bf16⟩
  | .hbm, ⟨5, _⟩ => ⟨S4x352x1024, .f32⟩
  | .hbm, ⟨6, _⟩ => ⟨S4x352x1024, .f32⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S1x352x1024, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S4x352x1024, .f32⟩
  | .hbm, ⟨24, _⟩ => ⟨S1408x1024, .f32⟩
  | .hbm, ⟨25, _⟩ => ⟨S1408x1024, .f32⟩
  | .hbm, ⟨26, _⟩ => ⟨S1408x1024, .f32⟩
  | .hbm, ⟨27, _⟩ => ⟨S1408x1024, .f32⟩
  | .hbm, ⟨28, _⟩ => ⟨S_, .f32⟩
  | .hbm, ⟨29, _⟩ => ⟨S1408x1024, .f32⟩
  | .hbm, ⟨30, _⟩ => ⟨S1408x1024, .f32⟩
  | .hbm, ⟨31, _⟩ => ⟨S_, .f32⟩
  | .hbm, ⟨32, _⟩ => ⟨S1408x1024, .f32⟩
  | .hbm, ⟨33, _⟩ => ⟨S1408x1024, .f32⟩
  | .hbm, ⟨34, _⟩ => ⟨S1408x1024, .f32⟩
  | .hbm, ⟨35, _⟩ => ⟨S_, .f32⟩
  | .hbm, ⟨36, _⟩ => ⟨S1408x1024, .f32⟩
  | .hbm, ⟨37, _⟩ => ⟨S1408x1024, .f32⟩
  | .hbm, ⟨38, _⟩ => ⟨S1408x1024, .f32⟩
  | .hbm, ⟨39, _⟩ => ⟨S_, .f32⟩
  | .hbm, ⟨40, _⟩ => ⟨S1408x1024, .f32⟩
  | .hbm, ⟨41, _⟩ => ⟨S1408x1024, .f32⟩
  | .hbm, ⟨42, _⟩ => ⟨S1408x1024, .f32⟩
  | .hbm, ⟨43, _⟩ => ⟨S_, .f32⟩
  | .hbm, ⟨44, _⟩ => ⟨S1408x1024, .f32⟩
  | .hbm, ⟨45, _⟩ => ⟨S1408x1024, .f32⟩
  | .hbm, ⟨46, _⟩ => ⟨S_, .f32⟩
  | .hbm, ⟨47, _⟩ => ⟨S1408x1024, .f32⟩
  | .hbm, ⟨48, _⟩ => ⟨S1408x1024, .f32⟩
  | .hbm, ⟨49, _⟩ => ⟨S1408x1024, .f32⟩
  | .hbm, ⟨50, _⟩ => ⟨S_, .f32⟩
  | .hbm, ⟨51, _⟩ => ⟨S1408x1024, .f32⟩
  | .hbm, ⟨52, _⟩ => ⟨S1408x1024, .f32⟩
  | .hbm, ⟨53, _⟩ => ⟨S1408x1024, .f32⟩
  | .hbm, ⟨54, _⟩ => ⟨S_, .f32⟩
  | .hbm, ⟨55, _⟩ => ⟨S1408x1024, .f32⟩
  | .hbm, ⟨56, _⟩ => ⟨S1408x1024, .f32⟩
  | .hbm, ⟨57, _⟩ => ⟨S1408x1024, .f32⟩
  | .hbm, ⟨58, _⟩ => ⟨S_, .f32⟩
  | .hbm, ⟨59, _⟩ => ⟨S1408x1024, .f32⟩
  | .hbm, ⟨60, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.Sigmoid.lean ====
/-
  The logistic function over the extended reals, as the kernels spell it and as the references spell it.

  A kernel differentiates `1 / (1 + exp (-x))` through the quotient, a reference uses the closed form `s * (1 - s)` of the
  derivative. `slope_mul_exp` says that the two agree at every extended real, the infinities included.
-/
module

public import Idealize.ShloMosaic.PureOps.Ideal

@[expose] public section

noncomputable section

namespace Cert.Math

open Idealize.ShloMosaic

/-- The quotient by a nonzero real is a real quotient. -/
theorem one_div_real {y : ℝ} (h : y ≠ 0) : Ideal.div 1 (y : EReal) = ((1 / y : ℝ) : EReal) := by
  rw [Ideal.div_coe h, one_mul]

/-- One over plus infinity is zero. -/
theorem one_div_top : Ideal.div 1 (⊤ : EReal) = 0 := by
  rw [Ideal.div, if_neg (by simp)]; simp

/-- One over one is one. -/
theorem one_div_one : Ideal.div 1 (1 : EReal) = 1 := by
  have := one_div_real (y := 1) one_ne_zero
  simpa using this

/-- The logistic function: one over one plus the exponential of the negated argument. -/
def sigm (x : EReal) : EReal := Ideal.div 1 (1 + Ideal.exp (-x))

/-- The derivative of the logistic function in the form the quotient rule gives it, `exp (-x) / (1 + exp (-x))²`, is
    the closed form `s * (1 - s)`, at every extended real. -/
theorem slope_mul_exp (x : EReal) :
    Ideal.div 1 ((1 + Ideal.exp (-x)) * (1 + Ideal.exp (-x))) * Ideal.exp (-x) = sigm x * (1 - sigm x) := by
  unfold sigm
  induction x with
  | bot =>
    have h : (1 : EReal) + ⊤ = ⊤ := EReal.add_top_of_ne_bot (by decide)
    simp [Ideal.exp_top, h, one_div_top]
  | top =>
    have h : (1 : EReal) - 1 = 0 := EReal.sub_self (by decide) (by decide)
    simp [Ideal.exp_bot, one_div_one, h]
  | coe r =>
    have he : (0 : ℝ) < Real.exp (-r) := Real.exp_pos _
    have h1 : (1 + Real.exp (-r) : ℝ) ≠ 0 := by positivity
    have h2 : ((1 + Real.exp (-r)) * (1 + Real.exp (-r)) : ℝ) ≠ 0 := mul_ne_zero h1 h1
    have e1 : (1 : EReal) + Ideal.exp (-(r : EReal)) = ((1 + Real.exp (-r) : ℝ) : EReal) := by
      rw [← EReal.coe_neg, Ideal.exp_coe]; push_cast; rfl
    have e2 : Ideal.exp (-(r : EReal)) = ((Real.exp (-r) : ℝ) : EReal) := by
      rw [← EReal.coe_neg, Ideal.exp_coe]
    rw [e1, e2, ← EReal.coe_mul, one_div_real h1, one_div_real h2, ← EReal.coe_mul, ← EReal.coe_one, ← EReal.coe_sub,
      ← EReal.coe_mul]
    congr 1
    field_simp
    ring

/-- The backward pass through `1 / (1 + exp (-x))` as the quotient rule writes it, both minus signs kept, is the
    cotangent times `s * (1 - s)`. -/
theorem slope_chain (w x : EReal) :
    -(-(w * Ideal.div 1 ((1 + Ideal.exp (-x)) * (1 + Ideal.exp (-x)))) * Ideal.exp (-x)) = w * (sigm x * (1 - sigm x)) := by
  rw [← slope_mul_exp, EReal.neg_mul, neg_neg, mul_assoc]

end Cert.Math

end
-- ==== Proof.Swiglu.lean ====
/-
  The backward pass of the gated activation: every row block of the result array is the reference's function of the
  argument arrays, so the array after the run is that function.
-/
module

public import proofs.«01_k».proof.Proof.Gen.KernelIdeal.Value
public import proofs.«01_k».proof.Proof.Gen.KernelRefIdeal.Run
public import proofs.«01_k».proof.Proof.Sigmoid
public import Idealize.ShloMosaic.Lib.Pipeline.Value
public import Idealize.ShloMosaic.Lib.Pointwise
public import Idealize.ShloMosaic.Lib.Claim

@[expose] public section

set_option maxRecDepth 16384

noncomputable section

namespace Cert.Swiglu

open Idealize.ShloMosaic Idealize.ShloMosaic.TcCoe Idealize.SL.Sem
open Cert.Math

theorem hz : (![0, 0] : Fin 2 → Nat) = fun _ => 0 := funext fun a => by fin_cases a <;> rfl

/-! ## The reference, and both sides read at an entry -/

section Reference
open Cert.KernelRefIdeal Cert.KernelRefIdeal.Gen

/-- The reference's whole-array function: the two halves `a`, `b` of `h · w_in`, the cotangent `d · w_outᵀ` of
    `a * sigmoid(a) * b`, and side by side the gradients with respect to `a` and to `b`. -/
def ref (h d : FVec Ideal S4096x1024 .f32) (wi : FVec Ideal S1024x5632 .f32)
    (wo : FVec Ideal S2816x1024 .f32) : FVec Ideal S4096x5632 .bf16 :=
  let p := Host.dotGeneral dot_S4096x1024_S1024x5632_S4096x5632_1_0_0_1_n_n none h wi
  let a := extractStridedSlice S4096x2816 ![0, 0] p slices_S4096x5632_S4096x2816_0_0
  let b := extractStridedSlice S4096x2816 ![0, 2816] p slices_S4096x5632_S4096x2816_0_2816
  let one := broadcastInDim S4096x2816 ![] bcast_S_S4096x2816
    (constant (F := Ideal) S_ .f32 0x3F800000#32)
  let s := Host.divf one (addf one (Host.exp (Host.negf a)))
  let g := Host.dotGeneral dot_S4096x1024_S2816x1024_S4096x2816_1_1_0_0_n_n none d wo
  truncf .bf16 (concatenate S4096x5632 1
    [⟨S4096x2816, addf (mulf (mulf g b) s) (mulf (mulf a (mulf g b)) (mulf s (subf one s)))⟩,
     ⟨S4096x2816, mulf (mulf a s) g⟩]
    concatenates_S4096x2816_S4096x2816_S4096x5632_d1) bitsLt_bf16_f32

end Reference

open Cert.KernelIdeal Cert.KernelIdeal.Gen

/-- The gradient with respect to the gate `a`, from the entries of `a`, of `b` and of the cotangent `g`. -/
def gradGate (a b g : EReal) : EReal := g * b * sigm a + a * (g * b) * (sigm a * (1 - sigm a))

/-- The gradient with respect to the value `b`. -/
def gradValue (a g : EReal) : EReal := a * sigm a * g

/-- The product `h · w_in` at row `i`, column `k`. -/
def pre (h : FVec Ideal KernelRefIdeal.S4096x1024 .f32) (wi : FVec Ideal KernelRefIdeal.S1024x5632 .f32)
    (i : Fin 4096) (k : Fin 5632) : EReal := ∑ x : Fin 1024, h (ix2 i x) * wi (ix2 x k)

/-- The cotangent `d · w_outᵀ` at row `i`, column `k`. -/
def cot (d : FVec Ideal KernelRefIdeal.S4096x1024 .f32) (wo : FVec Ideal KernelRefIdeal.S2816x1024 .f32)
    (i : Fin 4096) (k : Fin 2816) : EReal := ∑ x : Fin 1024, d (ix2 i x) * wo (ix2 k x)

/-- The reference at row `i`, column `k`: left half the gradient of the gate, right half that of the value. -/
theorem ref_apply (h d : FVec Ideal KernelRefIdeal.S4096x1024 .f32) (wi : FVec Ideal KernelRefIdeal.S1024x5632 .f32)
    (wo : FVec Ideal KernelRefIdeal.S2816x1024 .f32) (i : Fin 4096) (k : Fin 5632) :
    ref h d wi wo (ix2 i k) = if hk : k.val < 2816
      then gradGate (pre h wi i ⟨k.val, by omega⟩) (pre h wi i ⟨2816 + k.val, by omega⟩) (cot d wo i ⟨k.val, hk⟩)
      else gradValue (pre h wi i ⟨k.val - 2816, by omega⟩) (cot d wo i ⟨k.val - 2816, by omega⟩) := by
  pointwise [ref, gradGate, gradValue, pre, cot, sigm]

/-- What one block's body stores, at row `r`, column `k` of the block: the same two expressions of the entries of the
    blocks of `a`, `b` and `d` and of `w_out`. -/
theorem out_apply (x0 x1 : Vec Ideal S256x2816 .f32) (x2 : Vec Ideal S256x1024 .bf16) (x3 : Vec Ideal S2816x1024 .bf16)
    (r : Fin 256) (k : Fin 5632) :
    out0_4 x0 x1 x2 x3 (ix2 r k) = if hk : k.val < 2816
      then gradGate (x0 (ix2 r ⟨k.val, hk⟩)) (x1 (ix2 r ⟨k.val, hk⟩)) (∑ x : Fin 1024, x2 (ix2 r x) * x3 (ix2 ⟨k.val, hk⟩ x))
      else gradValue (x0 (ix2 r ⟨k.val - 2816, by omega⟩)) (∑ x : Fin 1024, x2 (ix2 r x) * x3 (ix2 ⟨k.val - 2816, by omega⟩ x)) := by
  unfold out0_4
  rw [View.canon_unit_zero hz, View.ld_unit_zero hz, View.ld_unit_zero hz, View.ld_unit_zero hz, View.ld_unit_zero hz]
  pointwise [k0_pay1]
  simp only [zero_sub, slope_chain]
  rfl

/-! ## The blocks of the grid -/

variable (m : (ℓ : Loc nD τ sig) → Buf (Elt Ideal) ℓ) (ρ : Dev nD → PrngReg)

/-- Point `t` works on row block `t`, and on the whole of `w_out`. -/
theorem idx (t : Fin cfg0.N) : (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)) t

/-- The block of `a` at point `t`, read at an entry, is `h · w_in` at the entry's row of the whole array. -/
theorem blk0 (c : Dev nD) (t : Fin cfg0.N) (r : Fin 256) (k : Fin 2816) (i : Fin 4096) (hi : i.val = t.val * 256 + r.val) :
    iblk m c 0 t (ix2 r k) = pre (m ((c : Thread nD τ).loc main_arg0)) (m ((c : Thread nD τ).loc main_arg2)) i ⟨k.val, by omega⟩ := by
  have e : ((cfg0.win 0).blk t).view.emb (ix2 r k) = ix2 i k := by
    obtain ⟨⟨h0, h1⟩, -⟩ := idx t
    funext a; apply Fin.ext
    match a with
    | ⟨0, _⟩ => show win0_0.index t (0 : Fin 2) * 256 + 1 * r.val = i.val; omega
    | ⟨1, _⟩ => show win0_0.index t (1 : Fin 2) * 2816 + 1 * k.val = k.val; omega
  unfold iblk
  show V m c main_v1 (((cfg0.win 0).blk t).view.emb (ix2 r k)) = _
  rw [e]
  entry_read
  pointwise [pre]

/-- The block of `b` likewise, 2816 columns further right. -/
theorem blk1 (c : Dev nD) (t : Fin cfg0.N) (r : Fin 256) (k : Fin 2816) (i : Fin 4096) (hi : i.val = t.val * 256 + r.val) :
    iblk m c 1 t (ix2 r k) = pre (m ((c : Thread nD τ).loc main_arg0)) (m ((c : Thread nD τ).loc main_arg2)) i ⟨2816 + k.val, by omega⟩ := by
  have e : ((cfg0.win 1).blk t).view.emb (ix2 r k) = ix2 i k := by
    obtain ⟨-, ⟨h0, h1⟩, -⟩ := idx t
    funext a; apply Fin.ext
    match a with
    | ⟨0, _⟩ => show win0_1.index t (0 : Fin 2) * 256 + 1 * r.val = i.val; omega
    | ⟨1, _⟩ => show win0_1.index t (1 : Fin 2) * 2816 + 1 * k.val = k.val; omega
  unfold iblk
  show V m c main_v2 (((cfg0.win 1).blk t).view.emb (ix2 r k)) = _
  rw [e]
  entry_read
  pointwise [pre]

/-- The block of the cotangent `d` at point `t`, read at an entry. -/
theorem blk2 (c : Dev nD) (t : Fin cfg0.N) (r : Fin 256) (k : Fin 1024) (i : Fin 4096) (hi : i.val = t.val * 256 + r.val) :
    iblk m c 2 t (ix2 r k) = m ((c : Thread nD τ).loc main_arg1) (ix2 i k) := by
  have e : ((cfg0.win 2).blk t).view.emb (ix2 r k) = ix2 i k := by
    obtain ⟨-, -, ⟨h0, h1⟩, -⟩ := idx t
    funext a; apply Fin.ext
    match a with
    | ⟨0, _⟩ => show win0_2.index t (0 : Fin 2) * 256 + 1 * r.val = i.val; omega
    | ⟨1, _⟩ => show win0_2.index t (1 : Fin 2) * 1024 + 1 * k.val = k.val; omega
  unfold iblk
  show V m c main_v3 (((cfg0.win 2).blk t).view.emb (ix2 r k)) = _
  rw [e]
  entry_read
  rfl

/-- The block of `w_out` at every point is the whole array. -/
theorem blk3 (c : Dev nD) (t : Fin cfg0.N) (r : Fin 2816) (k : Fin 1024) :
    iblk m c 3 t (ix2 r k) = m ((c : Thread nD τ).loc main_arg3) (ix2 r k) := by
  have e : ((cfg0.win 3).blk t).view.emb (ix2 r k) = ix2 r k := by
    obtain ⟨-, -, -, ⟨h0, h1⟩, -⟩ := idx t
    funext a; apply Fin.ext
    match a with
    | ⟨0, _⟩ => show win0_3.index t (0 : Fin 2) * 2816 + 1 * r.val = r.val; omega
    | ⟨1, _⟩ => show win0_3.index t (1 : Fin 2) * 1024 + 1 * k.val = k.val; omega
  unfold iblk
  show V m c main_v4 (((cfg0.win 3).blk t).view.emb (ix2 r k)) = _
  rw [e]
  entry_read
  rfl

/-! ## The result array -/

/-- After the run the result array is the reference's function of the argument arrays. -/
theorem final (c : Dev nD) : (dats m 0 c).arrAt 4 cfg0.N
    = ref (m ((c : Thread nD τ).loc main_arg0)) (m ((c : Thread nD τ).loc main_arg1))
        (m ((c : Thread nD τ).loc main_arg2)) (m ((c : Thread nD τ).loc main_arg3)) := by
  funext j
  obtain ⟨i, k, rfl⟩ : ∃ (i : Fin 4096) (k : Fin 5632), j = ix2 i k := ⟨j 0, j 1, eq_ix2 j⟩
  have ht : i.val / 256 < cfg0.N := lt_of_lt_of_eq (show i.val / 256 < 16 by omega) (show 16 = cfg0.N from N_0.symm)
  obtain ⟨t, tv⟩ : ∃ t : Fin cfg0.N, t.val = i.val / 256 := ⟨⟨i.val / 256, ht⟩, rfl⟩
  obtain ⟨r, rv⟩ : ∃ r : Fin 256, r.val = i.val % 256 := ⟨⟨i.val % 256, by omega⟩, rfl⟩
  have hi : i.val = t.val * 256 + r.val := by omega
  have e : ((cfg0.win 4).blk t).view.emb (ix2 r k) = ix2 i k := by
    obtain ⟨-, -, -, -, h0, h1⟩ := idx t
    funext a; apply Fin.ext
    match a with
    | ⟨0, _⟩ => show win0_4.index t (0 : Fin 2) * 256 + 1 * r.val = i.val; omega
    | ⟨1, _⟩ => show win0_4.index t (1 : Fin 2) * 5632 + 1 * k.val = k.val; omega
  have hb := congrFun (Value.blocks4 m c t (flush0_4 t)) (ix2 r k)
  rw [Value.flushed4] at hb
  have hb' : (dats m 0 c).arrAt 4 cfg0.N (((cfg0.win 4).blk t).view.emb (ix2 r k))
      = out0_4 (iblk m c 0 t) (iblk m c 1 t) (iblk m c 2 t) (iblk m c 3 t) (ix2 r k) := hb
  rw [e] at hb'
  rw [hb', out_apply, ref_apply]
  by_cases hk : k.val < 2816
  · rw [dif_pos hk, dif_pos hk, blk0 m c t r _ i hi, blk1 m c t r _ i hi]
    simp only [blk2 m c t r _ i hi, blk3 m c t]
    rfl
  · rw [dif_neg hk, dif_neg hk, blk0 m c t r _ i hi]
    simp only [blk2 m c t r _ i hi, blk3 m c t]
    rfl

/-- The kernel's run: its result array ends at the reference's function of its arguments, which end unchanged. -/
theorem run : θ_run defs (onTc (τ := τ) (main (F := Ideal))) ⟨m, fun _ => 0, ρ⟩ fun r => ∀ c : Dev nD,
      r.2.mem ((c : Thread nD τ).loc main_v5) = ref (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.Swiglu

end
-- ==== Proof.Ffn.lean ====
/-
  The gated feed-forward input: the two halves of the product and the gated activation, block by block.
-/
module

public import proofs.«01_k».proof.Proof.Gen.FfnIdeal.Value
public import proofs.«01_k».proof.Proof.Gen.FfnRefIdeal.Run
public import proofs.«01_k».proof.Proof.Sigmoid
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Ffn

open Idealize.ShloMosaic Idealize.ShloMosaic.TcCoe Idealize.SL.Sem
open Cert.Math

/-! ## The reference, and both sides read at an entry -/

section Reference
open Cert.FfnRefIdeal Cert.FfnRefIdeal.Gen

/-- The left half of the product `h · w`: the gate before its sigmoid. -/
def ref0 (h : FVec Ideal S4096x1024 .f32) (w : FVec Ideal S1024x5632 .f32) : FVec Ideal S4096x2816 .f32 :=
  extractStridedSlice S4096x2816 ![0, 0] (Host.dotGeneral dot_S4096x1024_S1024x5632_S4096x5632_1_0_0_1_n_n none h w)
    slices_S4096x5632_S4096x2816_0_0

/-- The right half: the value. -/
def ref1 (h : FVec Ideal S4096x1024 .f32) (w : FVec Ideal S1024x5632 .f32) : FVec Ideal S4096x2816 .f32 :=
  extractStridedSlice S4096x2816 ![0, 2816] (Host.dotGeneral dot_S4096x1024_S1024x5632_S4096x5632_1_0_0_1_n_n none h w)
    slices_S4096x5632_S4096x2816_0_2816

/-- The activation `a * sigmoid(a) * b` of the halves `a`, `b`. -/
def ref2 (h : FVec Ideal S4096x1024 .f32) (w : FVec Ideal S1024x5632 .f32) : FVec Ideal S4096x2816 .bf16 :=
  let one := broadcastInDim S4096x2816 ![] bcast_S_S4096x2816 (constant (F := Ideal) S_ .f32 0x3F800000#32)
  truncf .bf16 (mulf (mulf (ref0 h w) (Host.divf one (addf one (Host.exp (Host.negf (ref0 h w)))))) (ref1 h w)) bitsLt_bf16_f32

/-- The product `h · w` at row `i`, column `k`. -/
def pre (h : FVec Ideal S4096x1024 .f32) (w : FVec Ideal S1024x5632 .f32) (i : Fin 4096) (k : Fin 5632) : EReal :=
  ∑ x : Fin 1024, h (ix2 i x) * w (ix2 x k)

/-- The left half at row `i`, column `j`. -/
theorem ref0_apply (h : FVec Ideal S4096x1024 .f32) (w : FVec Ideal S1024x5632 .f32) (i : Fin 4096) (j : Fin 2816) :
    ref0 h w (ix2 i j) = pre h w i ⟨j.val, by omega⟩ := by
  pointwise [ref0, pre]

/-- The right half at row `i`, column `j`. -/
theorem ref1_apply (h : FVec Ideal S4096x1024 .f32) (w : FVec Ideal S1024x5632 .f32) (i : Fin 4096) (j : Fin 2816) :
    ref1 h w (ix2 i j) = pre h w i ⟨2816 + j.val, by omega⟩ := by
  pointwise [ref1, pre]

/-- The activation at row `i`, column `j`. -/
theorem ref2_apply (h : FVec Ideal S4096x1024 .f32) (w : FVec Ideal S1024x5632 .f32) (i : Fin 4096) (j : Fin 2816) :
    ref2 h w (ix2 i j) = pre h w i ⟨j.val, by omega⟩ * sigm (pre h w i ⟨j.val, by omega⟩) * pre h w i ⟨2816 + j.val, by omega⟩ := by
  pointwise [ref2, ref0, ref1, pre, sigm]

end Reference

open Cert.FfnIdeal Cert.FfnIdeal.Gen

/-- The first product of a block body at an entry. -/
theorem pay2_apply (u : Vec Ideal S512x1024 .bf16) (v : Vec Ideal S1024x1408 .bf16) (a : Fin 512) (b : Fin 1408) :
    k0_pay2 u v (ix2 a b) = ∑ k : Fin 1024, u (ix2 a k) * v (ix2 k b) := by
  pointwise [k0_pay2, k0_pay1]

/-- The second product. -/
theorem pay3_apply (u : Vec Ideal S512x1024 .bf16) (v : Vec Ideal S1024x1408 .bf16) (a : Fin 512) (b : Fin 1408) :
    k0_pay3 u v (ix2 a b) = ∑ k : Fin 1024, u (ix2 a k) * v (ix2 k b) := by
  pointwise [k0_pay3, k0_pay1]

/-- The activation of the two. -/
theorem pay4_apply (u : Vec Ideal S512x1024 .bf16) (v w : Vec Ideal S1024x1408 .bf16) (a : Fin 512) (b : Fin 1408) :
    k0_pay4 u v w (ix2 a b) = k0_pay2 u v (ix2 a b) * sigm (k0_pay2 u v (ix2 a b)) * k0_pay3 u w (ix2 a b) := by
  pointwise [k0_pay4]
  simp only [zero_sub]
  rfl

/-! ## The blocks of the grid -/

variable (m : (ℓ : Loc nD τ sig) → Buf (Elt Ideal) ℓ) (ρ : Dev nD → PrngReg)

/-- Point `t` works on row block `t / 2` and column block `t % 2`; the second operand block lies two column blocks on. -/
theorem idx (t : Fin cfg0.N) : (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = 0 ∧ win0_2.index t (1 : Fin 2) = 2 + t.val % 2)
    ∧ ((win0_3.index t (0 : Fin 2) = t.val / 2 ∧ win0_3.index t (1 : Fin 2) = t.val % 2)
    ∧ (win0_4.index t (0 : Fin 2) = t.val / 2 ∧ win0_4.index t (1 : Fin 2) = t.val % 2)
    ∧ (win0_5.index t (0 : Fin 2) = t.val / 2 ∧ win0_5.index t (1 : Fin 2) = t.val % 2)) :=
  (by decide +kernel : ∀ t : Fin grid0.N, (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = 0 ∧ win0_2.index t (1 : Fin 2) = 2 + t.val % 2)
    ∧ ((win0_3.index t (0 : Fin 2) = t.val / 2 ∧ win0_3.index t (1 : Fin 2) = t.val % 2)
    ∧ (win0_4.index t (0 : Fin 2) = t.val / 2 ∧ win0_4.index t (1 : Fin 2) = t.val % 2)
    ∧ (win0_5.index t (0 : Fin 2) = t.val / 2 ∧ win0_5.index t (1 : Fin 2) = t.val % 2))) t

/-- The rows' block at point `t`, read at an entry. -/
theorem blk0 (c : Dev nD) (t : Fin cfg0.N) (a : Fin 512) (k : Fin 1024) (i : Fin 4096) (hi : i.val = t.val / 2 * 512 + a.val) :
    iblk m c 0 t (ix2 a k) = m ((c : Thread nD τ).loc main_arg0) (ix2 i k) := by
  have e : ((cfg0.win 0).blk t).view.emb (ix2 a k) = ix2 i k := by
    have h0 := (idx t).1
    funext d; apply Fin.ext
    match d with
    | ⟨0, _⟩ => show win0_0.index t (0 : Fin 2) * 512 + 1 * a.val = i.val; omega
    | ⟨1, _⟩ => show win0_0.index t (1 : Fin 2) * 1024 + 1 * k.val = k.val; omega
  unfold iblk
  show V m c main_v0 (((cfg0.win 0).blk t).view.emb (ix2 a k)) = _
  rw [e]
  entry_read
  rfl

/-- The gate columns' block. -/
theorem blk1 (c : Dev nD) (t : Fin cfg0.N) (k : Fin 1024) (b : Fin 1408) (j : Fin 5632) (hj : j.val = t.val % 2 * 1408 + b.val) :
    iblk m c 1 t (ix2 k b) = m ((c : Thread nD τ).loc main_arg1) (ix2 k j) := by
  have e : ((cfg0.win 1).blk t).view.emb (ix2 k b) = ix2 k j := by
    have h0 := (idx t).2.1
    funext d; apply Fin.ext
    match d with
    | ⟨0, _⟩ => show win0_1.index t (0 : Fin 2) * 1024 + 1 * k.val = k.val; omega
    | ⟨1, _⟩ => show win0_1.index t (1 : Fin 2) * 1408 + 1 * b.val = j.val; omega
  unfold iblk
  show V m c main_v1 (((cfg0.win 1).blk t).view.emb (ix2 k b)) = _
  rw [e]
  entry_read
  rfl

/-- The value columns' block. -/
theorem blk2 (c : Dev nD) (t : Fin cfg0.N) (k : Fin 1024) (b : Fin 1408) (j : Fin 5632) (hj : j.val = 2816 + (t.val % 2 * 1408 + b.val)) :
    iblk m c 2 t (ix2 k b) = m ((c : Thread nD τ).loc main_arg1) (ix2 k j) := by
  have e : ((cfg0.win 2).blk t).view.emb (ix2 k b) = ix2 k j := by
    have h0 := (idx t).2.2.1
    funext d; apply Fin.ext
    match d with
    | ⟨0, _⟩ => show win0_2.index t (0 : Fin 2) * 1024 + 1 * k.val = k.val; omega
    | ⟨1, _⟩ => show win0_2.index t (1 : Fin 2) * 1408 + 1 * b.val = j.val; omega
  unfold iblk
  show V m c main_v1 (((cfg0.win 2).blk t).view.emb (ix2 k b)) = _
  rw [e]
  entry_read
  rfl

/-- A point's first product is the whole product at the entry's place in the left half. -/
theorem gate_apply (c : Dev nD) (t : Fin cfg0.N) (a : Fin 512) (b : Fin 1408) (i : Fin 4096) (j : Fin 2816)
    (hi : i.val = t.val / 2 * 512 + a.val) (hj : j.val = t.val % 2 * 1408 + b.val) :
    k0_pay2 (F := Ideal) (iblk m c 0 t) (iblk m c 1 t) (ix2 a b) = pre (m ((c : Thread nD τ).loc main_arg0)) (m ((c : Thread nD τ).loc main_arg1)) i ⟨j.val, by omega⟩ := by
  rw [pay2_apply]
  refine Finset.sum_congr rfl fun k _ => ?_
  rw [blk0 m c t a k i hi, blk1 m c t k b ⟨j.val, by omega⟩ hj]

/-- Its second product is that in the right half. -/
theorem value_apply (c : Dev nD) (t : Fin cfg0.N) (a : Fin 512) (b : Fin 1408) (i : Fin 4096) (j : Fin 2816)
    (hi : i.val = t.val / 2 * 512 + a.val) (hj : j.val = t.val % 2 * 1408 + b.val) :
    k0_pay3 (F := Ideal) (iblk m c 0 t) (iblk m c 2 t) (ix2 a b) = pre (m ((c : Thread nD τ).loc main_arg0)) (m ((c : Thread nD τ).loc main_arg1)) i ⟨2816 + j.val, by omega⟩ := by
  rw [pay3_apply]
  refine Finset.sum_congr rfl fun k _ => ?_
  rw [blk0 m c t a k i hi, blk2 m c t k b ⟨2816 + j.val, by omega⟩ (by dsimp only; omega)]

/-! ## The result arrays -/

/-- After the run the array of the left halves is the reference's. -/
theorem final0 (c : Dev nD) : (dats m 0 c).arrAt 3 cfg0.N = ref0 (m ((c : Thread nD τ).loc main_arg0)) (m ((c : Thread nD τ).loc main_arg1)) := by
  refine (dats m 0 c).arrAt_eq_of_covers 3 _ (by decide +kernel) fun t hf y => ?_
  blk_simp
  rw [after0_3]
  frame_out
  obtain ⟨a, b, rfl⟩ : ∃ (a : Fin 512) (b : Fin 1408), y = ix2 a b := ⟨y 0, y 1, eq_ix2 y⟩
  have hN : t.val < 16 := lt_of_lt_of_eq t.isLt N_0
  obtain ⟨i, hi⟩ : ∃ i : Fin 4096, i.val = t.val / 2 * 512 + a.val := ⟨⟨t.val / 2 * 512 + a.val, by omega⟩, rfl⟩
  obtain ⟨j, hj⟩ : ∃ j : Fin 2816, j.val = t.val % 2 * 1408 + b.val := ⟨⟨t.val % 2 * 1408 + b.val, by omega⟩, rfl⟩
  have e : ((cfg0.win 3).blk t).view.emb (ix2 a b) = ix2 i j := by
    have h0 := (idx t).2.2.2.1
    funext d; apply Fin.ext
    match d with
    | ⟨0, _⟩ => show win0_3.index t (0 : Fin 2) * 512 + 1 * a.val = i.val; omega
    | ⟨1, _⟩ => show win0_3.index t (1 : Fin 2) * 1408 + 1 * b.val = j.val; omega
  rw [e, ref0_apply]
  exact gate_apply m c t a b i j hi hj

/-- After the run the array of the right halves is the reference's. -/
theorem final1 (c : Dev nD) : (dats m 0 c).arrAt 4 cfg0.N = ref1 (m ((c : Thread nD τ).loc main_arg0)) (m ((c : Thread nD τ).loc main_arg1)) := by
  refine (dats m 0 c).arrAt_eq_of_covers 4 _ (by decide +kernel) fun t hf y => ?_
  blk_simp
  rw [after0_4]
  frame_out
  obtain ⟨a, b, rfl⟩ : ∃ (a : Fin 512) (b : Fin 1408), y = ix2 a b := ⟨y 0, y 1, eq_ix2 y⟩
  have hN : t.val < 16 := lt_of_lt_of_eq t.isLt N_0
  obtain ⟨i, hi⟩ : ∃ i : Fin 4096, i.val = t.val / 2 * 512 + a.val := ⟨⟨t.val / 2 * 512 + a.val, by omega⟩, rfl⟩
  obtain ⟨j, hj⟩ : ∃ j : Fin 2816, j.val = t.val % 2 * 1408 + b.val := ⟨⟨t.val % 2 * 1408 + b.val, by omega⟩, rfl⟩
  have e : ((cfg0.win 4).blk t).view.emb (ix2 a b) = ix2 i j := by
    have h0 := (idx t).2.2.2.2.1
    funext d; apply Fin.ext
    match d with
    | ⟨0, _⟩ => show win0_4.index t (0 : Fin 2) * 512 + 1 * a.val = i.val; omega
    | ⟨1, _⟩ => show win0_4.index t (1 : Fin 2) * 1408 + 1 * b.val = j.val; omega
  rw [e, ref1_apply]
  exact value_apply m c t a b i j hi hj

/-- After the run the array of activations is the reference's. -/
theorem final2 (c : Dev nD) : (dats m 0 c).arrAt 5 cfg0.N = ref2 (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨a, b, rfl⟩ : ∃ (a : Fin 512) (b : Fin 1408), y = ix2 a b := ⟨y 0, y 1, eq_ix2 y⟩
  have hN : t.val < 16 := lt_of_lt_of_eq t.isLt N_0
  obtain ⟨i, hi⟩ : ∃ i : Fin 4096, i.val = t.val / 2 * 512 + a.val := ⟨⟨t.val / 2 * 512 + a.val, by omega⟩, rfl⟩
  obtain ⟨j, hj⟩ : ∃ j : Fin 2816, j.val = t.val % 2 * 1408 + b.val := ⟨⟨t.val % 2 * 1408 + b.val, by omega⟩, rfl⟩
  have e : ((cfg0.win 5).blk t).view.emb (ix2 a b) = ix2 i j := by
    have h0 := (idx t).2.2.2.2.2
    funext d; apply Fin.ext
    match d with
    | ⟨0, _⟩ => show win0_5.index t (0 : Fin 2) * 512 + 1 * a.val = i.val; omega
    | ⟨1, _⟩ => show win0_5.index t (1 : Fin 2) * 1408 + 1 * b.val = j.val; omega
  rw [e, ref2_apply, pay4_apply, gate_apply m c t a b i j hi hj, value_apply m c t a b i j hi hj]

/-- The kernel's run: its three result arrays end at the reference's functions of its arguments, which end unchanged. -/
theorem run : θ_run defs (onTc (τ := τ) (main (F := Ideal))) ⟨m, fun _ => 0, ρ⟩ fun r => ∀ c : Dev nD,
      r.2.mem ((c : Thread nD τ).loc main_v2_0) = ref0 (m ((c : Thread nD τ).loc main_arg0)) (m ((c : Thread nD τ).loc main_arg1))
      ∧ r.2.mem ((c : Thread nD τ).loc main_v2_1) = ref1 (m ((c : Thread nD τ).loc main_arg0)) (m ((c : Thread nD τ).loc main_arg1))
      ∧ r.2.mem ((c : Thread nD τ).loc main_v2_2) = ref2 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final0 m c), (h c).2.1.trans (final1 m c),
    (h c).2.2.1.trans (final2 m c), (h c).2.2.2⟩) (Value.run_blocks m ρ)

end Cert.Ffn

end
-- ==== Proof.FfnDx.lean ====
/-
  The gradient of the feed-forward input: the products of a run of grid points, accumulated, are the whole
  contraction, so the result array is the reference's product.
-/
module

public import proofs.«01_k».proof.Proof.Gen.FfnDxIdeal.Value
public import proofs.«01_k».proof.Proof.Gen.FfnDxRefIdeal.Run
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FfnDx

open Idealize.ShloMosaic Idealize.ShloMosaic.TcCoe Idealize.SL.Sem

/-! ## The reference and the product of two blocks, at an entry -/

section Reference
open Cert.FfnDxRefIdeal Cert.FfnDxRefIdeal.Gen

/-- The reference's whole-array function: the rows of `x` times the rows of `w`. -/
def ref (x : FVec Ideal S4096x5632 .f32) (w : FVec Ideal S1024x5632 .f32) : FVec Ideal S4096x1024 .f32 :=
  Host.dotGeneral dot_S4096x5632_S1024x5632_S4096x1024_1_1_0_0_n_n none x w

/-- One product of the contraction for row `i`, column `j`. -/
def factor (x : FVec Ideal S4096x5632 .f32) (w : FVec Ideal S1024x5632 .f32) (i : Fin 4096) (j : Fin 1024) (k : Fin 5632) : EReal :=
  x (ix2 i k) * w (ix2 j k)

/-- The reference at row `i`, column `j`. -/
theorem ref_apply (x : FVec Ideal S4096x5632 .f32) (w : FVec Ideal S1024x5632 .f32) (i : Fin 4096) (j : Fin 1024) :
    ref x w (ix2 i j) = ∑ k : Fin 5632, factor x w i j k := by
  pointwise [ref, factor]

end Reference

open Cert.FfnDxIdeal Cert.FfnDxIdeal.Gen

/-- The product of two blocks at an entry. -/
theorem prod_apply (u : Vec Ideal S1024x1408 .bf16) (v : Vec Ideal S1024x1408 .bf16) (a : Fin 1024) (b : Fin 1024) :
    k0_pay1 u v (ix2 a b) = ∑ k : Fin 1408, u (ix2 a k) * v (ix2 b k) := by
  pointwise [k0_pay1]

/-- What a first step of a run leaves in the accumulator. -/
theorem first_apply (u : Vec Ideal S1024x1408 .bf16) (v : Vec Ideal S1024x1408 .bf16) (y : S1024x1024.Idx) :
    k0_pay2 u v y = k0_pay1 u v y := by
  obtain ⟨a, b, rfl⟩ : ∃ (a : Fin 1024) (b : Fin 1024), y = ix2 a b := ⟨y 0, y 1, eq_ix2 y⟩
  pointwise [k0_pay2]

/-- What a later step leaves in it: what was there plus the product. -/
theorem next_apply (u : Vec Ideal S1024x1408 .bf16) (v : Vec Ideal S1024x1408 .bf16) (z : Vec Ideal S1024x1024 .f32)
    (y : S1024x1024.Idx) : k0_pay3 u v z y = z y + k0_pay1 u v y := by
  obtain ⟨a, b, rfl⟩ : ∃ (a : Fin 1024) (b : Fin 1024), y = ix2 a b := ⟨y 0, y 1, eq_ix2 y⟩
  pointwise [k0_pay3]

/-! ## The blocks of the grid -/

variable (m : (ℓ : Loc nD τ sig) → Buf (Elt Ideal) ℓ) (ρ : Dev nD → PrngReg)

/-- The blocks point `t` works on: the output's block, and the `t % 4`-th stretch of the contracted axis. -/
theorem idx (t : Fin cfg0.N) : (win0_0.index t (0 : Fin 2) = t.val / 4 ∧ win0_0.index t (1 : Fin 2) = t.val % 4)
    ∧ (win0_1.index t (0 : Fin 2) = 0 ∧ win0_1.index t (1 : Fin 2) = t.val % 4)
    ∧ (win0_2.index t (0 : Fin 2) = t.val / 4 ∧ win0_2.index t (1 : Fin 2) = 0) :=
  (by decide +kernel : ∀ t : Fin grid0.N, (win0_0.index t (0 : Fin 2) = t.val / 4 ∧ win0_0.index t (1 : Fin 2) = t.val % 4)
    ∧ (win0_1.index t (0 : Fin 2) = 0 ∧ win0_1.index t (1 : Fin 2) = t.val % 4)
    ∧ (win0_2.index t (0 : Fin 2) = t.val / 4 ∧ win0_2.index t (1 : Fin 2) = 0)) t

/-- The first operand's block at point `t`, read at an entry, is the operand at the entry's place in the whole array. -/
theorem blk0 (c : Dev nD) (t : Fin cfg0.N) (a : Fin 1024) (k : Fin 1408) (p : Fin 4096) (q : Fin 5632)
    (h0 : p.val = t.val / 4 * 1024 + a.val) (h1 : q.val = t.val % 4 * 1408 + k.val) :
    iblk m c 0 t (ix2 a k) = m ((c : Thread nD τ).loc main_arg0) (ix2 p q) := by
  have e : ((cfg0.win 0).blk t).view.emb (ix2 a k) = ix2 p q := by
    obtain ⟨⟨e0, e1⟩, -⟩ := idx t
    funext d; apply Fin.ext
    match d with
    | ⟨0, _⟩ => show win0_0.index t (0 : Fin 2) * 1024 + 1 * a.val = p.val; omega
    | ⟨1, _⟩ => show win0_0.index t (1 : Fin 2) * 1408 + 1 * k.val = q.val; omega
  unfold iblk
  show V m c main_v0 (((cfg0.win 0).blk t).view.emb (ix2 a k)) = _
  rw [e]
  entry_read
  rfl

/-- The second operand's block likewise. -/
theorem blk1 (c : Dev nD) (t : Fin cfg0.N) (b : Fin 1024) (k : Fin 1408) (p : Fin 1024) (q : Fin 5632)
    (h0 : p.val = b.val) (h1 : q.val = t.val % 4 * 1408 + k.val) :
    iblk m c 1 t (ix2 b k) = m ((c : Thread nD τ).loc main_arg1) (ix2 p q) := by
  have e : ((cfg0.win 1).blk t).view.emb (ix2 b k) = ix2 p q := by
    obtain ⟨-, ⟨e0, e1⟩, -⟩ := idx t
    funext d; apply Fin.ext
    match d with
    | ⟨0, _⟩ => show win0_1.index t (0 : Fin 2) * 1024 + 1 * b.val = p.val; omega
    | ⟨1, _⟩ => show win0_1.index t (1 : Fin 2) * 1408 + 1 * k.val = q.val; omega
  unfold iblk
  show V m c main_v1 (((cfg0.win 1).blk t).view.emb (ix2 b k)) = _
  rw [e]
  entry_read
  rfl

/-! ## The accumulator over a run of steps -/

/-- The products point `t` adds up for entry `y` of its block. -/
def term (c : Dev nD) (t : Fin cfg0.N) (y : S1024x1024.Idx) : EReal := k0_pay1 (F := Ideal) (iblk m c 0 t) (iblk m c 1 t) y

/-- After a run's first step the accumulator is that step's product. -/
theorem acc_first (c : Dev nD) (t : Fin cfg0.N) (h : t.val % 4 = 0) (y : S1024x1024.Idx) :
    (outsAt0 m c t.val t.isLt).2 y = 0 + term m c t y := by
  rw [zero_add, outsAt0_A m c t h (by omega) (by omega)]
  frame_out
  rw [first_apply]
  rfl

/-- A later step adds its product. -/
theorem acc_next (c : Dev nD) (t : Fin cfg0.N) (h : ¬t.val % 4 = 0) (y : S1024x1024.Idx) :
    (outsAt0 m c t.val t.isLt).2 y
      = (outsAt0 m c (t.val - 1) (lt_of_le_of_lt (Nat.sub_le _ _) t.isLt)).2 y + term m c t y := by
  by_cases h2 : t.val % 4 = 3
  · rw [outsAt0_C m c t h (by omega) h2]
    frame_out
    rw [next_apply]
    simp only [read_unread_whole]
    rfl
  · rw [outsAt0_B m c t h (by omega) h2]
    frame_out
    rw [next_apply]
    simp only [read_unread_whole]
    rfl

/-- The last step's output is what its accumulator holds. -/
theorem out_last (c : Dev nD) (t : Fin cfg0.N) (h : t.val % 4 = 3) (y : S1024x1024.Idx) :
    (outsAt0 m c t.val t.isLt).1 y = (outsAt0 m c t.val t.isLt).2 y := by
  rw [outsAt0_C m c t (by omega) (by omega) h]
  frame_out

/-- A step's products are a stretch of the contracted axis of the two operands. -/
theorem term_apply (c : Dev nD) (t : Fin cfg0.N) (a : Fin 1024) (b : Fin 1024) (i : Fin 4096) (j : Fin 1024)
    (hi : i.val = t.val / 4 * 1024 + a.val) (hj : j.val = b.val) :
    term m c t (ix2 a b) = ∑ k : Fin 1408, factor (m ((c : Thread nD τ).loc main_arg0)) (m ((c : Thread nD τ).loc main_arg1)) i j ⟨t.val % 4 * 1408 + k.val, by omega⟩ := by
  unfold term
  rw [prod_apply]
  refine Finset.sum_congr rfl fun k _ => ?_
  have hk : t.val % 4 * 1408 + k.val < 5632 := by omega
  rw [blk0 m c t a k i ⟨_, hk⟩ hi rfl, blk1 m c t b k j ⟨_, hk⟩ hj rfl]
  rfl

/-- After the run the result array is the reference's function of the argument arrays. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  blk_simp
  rw [after0_2]
  rw [out_last m c t hl]
  rw [Pipeline.eq_sum_fin_of_reset_step_apply_of_flush (fun n h => (outsAt0 m c n h).2) 4 (fun _ => 0) (term m c)
    (acc_first m c) (acc_next m c) t hl, zero_add]
  obtain ⟨a, b, rfl⟩ : ∃ (a : Fin 1024) (b : Fin 1024), y = ix2 a b := ⟨y 0, y 1, eq_ix2 y⟩
  have hN : t.val < 16 := lt_of_lt_of_eq t.isLt N_0
  obtain ⟨i, hi⟩ : ∃ i : Fin 4096, i.val = t.val / 4 * 1024 + a.val := ⟨⟨t.val / 4 * 1024 + a.val, by omega⟩, rfl⟩
  obtain ⟨j, hj⟩ : ∃ j : Fin 1024, j.val = b.val := ⟨⟨b.val, by omega⟩, rfl⟩
  have e : ((cfg0.win 2).blk t).view.emb (ix2 a b) = ix2 i j := by
    obtain ⟨-, -, h0, h1⟩ := idx t
    funext d; apply Fin.ext
    match d with
    | ⟨0, _⟩ => show win0_2.index t (0 : Fin 2) * 1024 + 1 * a.val = i.val; omega
    | ⟨1, _⟩ => show win0_2.index t (1 : Fin 2) * 1024 + 1 * b.val = j.val; omega
  rw [e, ref_apply]
  refine Eq.trans (α := EReal) ?_ (Fin.sum_mul_add_fin 4 1408 (factor (m ((c : Thread nD τ).loc main_arg0)) (m ((c : Thread nD τ).loc main_arg1)) i j))
  refine Finset.sum_congr rfl fun s _ => ?_
  rw [term_apply m c ⟨4 * (t.val / 4) + s.val, _⟩ a b i j (show i.val = (4 * (t.val / 4) + s.val) / 4 * 1024 + a.val by omega) hj]
  refine Finset.sum_congr rfl fun k _ => ?_
  have hs : (4 * (t.val / 4) + s.val) % 4 = s.val := by omega
  simp only [hs]

/-- The kernel's run: its result array ends at the reference's function of its arguments, which end unchanged. -/
theorem run : θ_run defs (onTc (τ := τ) (main (F := Ideal))) ⟨m, fun _ => 0, ρ⟩ fun r => ∀ c : Dev nD,
      r.2.mem ((c : Thread nD τ).loc main_v2) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.FfnDx

end
-- ==== Proof.FfnDw.lean ====
/-
  The gradient of the feed-forward input weights: the products of a run of grid points, accumulated, are the whole
  contraction, so the result array is the reference's product.
-/
module

public import proofs.«01_k».proof.Proof.Gen.FfnDwIdeal.Value
public import proofs.«01_k».proof.Proof.Gen.FfnDwRefIdeal.Run
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FfnDw

open Idealize.ShloMosaic Idealize.ShloMosaic.TcCoe Idealize.SL.Sem

/-! ## The reference and the product of two blocks, at an entry -/

section Reference
open Cert.FfnDwRefIdeal Cert.FfnDwRefIdeal.Gen

/-- The reference's whole-array function: the transpose of the columns of `w` times the columns of `x`. -/
def ref (x : FVec Ideal S4096x1024 .f32) (w : FVec Ideal S4096x5632 .f32) : FVec Ideal S1024x5632 .f32 :=
  transpose S1024x5632 [1, 0] (Host.dotGeneral dot_S4096x5632_S4096x1024_S5632x1024_0_0_1_1_n_n none w x) transposes_S5632x1024_S1024x5632_1_0

/-- One product of the contraction for row `i`, column `j`. -/
def factor (x : FVec Ideal S4096x1024 .f32) (w : FVec Ideal S4096x5632 .f32) (i : Fin 1024) (j : Fin 5632) (k : Fin 4096) : EReal :=
  x (ix2 k i) * w (ix2 k j)

/-- The reference at row `i`, column `j`. -/
theorem ref_apply (x : FVec Ideal S4096x1024 .f32) (w : FVec Ideal S4096x5632 .f32) (i : Fin 1024) (j : Fin 5632) :
    ref x w (ix2 i j) = ∑ k : Fin 4096, factor x w i j k := by
  pointwise [ref, factor]
  exact Finset.sum_congr rfl fun k _ => mul_comm _ _

end Reference

open Cert.FfnDwIdeal Cert.FfnDwIdeal.Gen

/-- The product of two blocks at an entry. -/
theorem prod_apply (u : Vec Ideal S1024x1024 .bf16) (v : Vec Ideal S1024x1408 .bf16) (a : Fin 1024) (b : Fin 1408) :
    k0_pay1 u v (ix2 a b) = ∑ k : Fin 1024, u (ix2 k a) * v (ix2 k b) := by
  pointwise [k0_pay1]

/-- What a first step of a run leaves in the accumulator. -/
theorem first_apply (u : Vec Ideal S1024x1024 .bf16) (v : Vec Ideal S1024x1408 .bf16) (y : S1024x1408.Idx) :
    k0_pay2 u v y = k0_pay1 u v y := by
  obtain ⟨a, b, rfl⟩ : ∃ (a : Fin 1024) (b : Fin 1408), y = ix2 a b := ⟨y 0, y 1, eq_ix2 y⟩
  pointwise [k0_pay2]

/-- What a later step leaves in it: what was there plus the product. -/
theorem next_apply (u : Vec Ideal S1024x1024 .bf16) (v : Vec Ideal S1024x1408 .bf16) (z : Vec Ideal S1024x1408 .f32)
    (y : S1024x1408.Idx) : k0_pay3 u v z y = z y + k0_pay1 u v y := by
  obtain ⟨a, b, rfl⟩ : ∃ (a : Fin 1024) (b : Fin 1408), y = ix2 a b := ⟨y 0, y 1, eq_ix2 y⟩
  pointwise [k0_pay3]

/-! ## The blocks of the grid -/

variable (m : (ℓ : Loc nD τ sig) → Buf (Elt Ideal) ℓ) (ρ : Dev nD → PrngReg)

/-- The blocks point `t` works on: the output's block, and the `t % 4`-th stretch of the contracted axis. -/
theorem idx (t : Fin cfg0.N) : (win0_0.index t (0 : Fin 2) = t.val % 4 ∧ win0_0.index t (1 : Fin 2) = 0)
    ∧ (win0_1.index t (0 : Fin 2) = t.val % 4 ∧ win0_1.index t (1 : Fin 2) = t.val / 4)
    ∧ (win0_2.index t (0 : Fin 2) = 0 ∧ win0_2.index t (1 : Fin 2) = t.val / 4) :=
  (by decide +kernel : ∀ t : Fin grid0.N, (win0_0.index t (0 : Fin 2) = t.val % 4 ∧ win0_0.index t (1 : Fin 2) = 0)
    ∧ (win0_1.index t (0 : Fin 2) = t.val % 4 ∧ win0_1.index t (1 : Fin 2) = t.val / 4)
    ∧ (win0_2.index t (0 : Fin 2) = 0 ∧ win0_2.index t (1 : Fin 2) = t.val / 4)) t

/-- The first operand's block at point `t`, read at an entry, is the operand at the entry's place in the whole array. -/
theorem blk0 (c : Dev nD) (t : Fin cfg0.N) (k : Fin 1024) (a : Fin 1024) (p : Fin 4096) (q : Fin 1024)
    (h0 : p.val = t.val % 4 * 1024 + k.val) (h1 : q.val = a.val) :
    iblk m c 0 t (ix2 k a) = m ((c : Thread nD τ).loc main_arg0) (ix2 p q) := by
  have e : ((cfg0.win 0).blk t).view.emb (ix2 k a) = ix2 p q := by
    obtain ⟨⟨e0, e1⟩, -⟩ := idx t
    funext d; apply Fin.ext
    match d with
    | ⟨0, _⟩ => show win0_0.index t (0 : Fin 2) * 1024 + 1 * k.val = p.val; omega
    | ⟨1, _⟩ => show win0_0.index t (1 : Fin 2) * 1024 + 1 * a.val = q.val; omega
  unfold iblk
  show V m c main_v0 (((cfg0.win 0).blk t).view.emb (ix2 k a)) = _
  rw [e]
  entry_read
  rfl

/-- The second operand's block likewise. -/
theorem blk1 (c : Dev nD) (t : Fin cfg0.N) (k : Fin 1024) (b : Fin 1408) (p : Fin 4096) (q : Fin 5632)
    (h0 : p.val = t.val % 4 * 1024 + k.val) (h1 : q.val = t.val / 4 * 1408 + b.val) :
    iblk m c 1 t (ix2 k b) = m ((c : Thread nD τ).loc main_arg1) (ix2 p q) := by
  have e : ((cfg0.win 1).blk t).view.emb (ix2 k b) = ix2 p q := by
    obtain ⟨-, ⟨e0, e1⟩, -⟩ := idx t
    funext d; apply Fin.ext
    match d with
    | ⟨0, _⟩ => show win0_1.index t (0 : Fin 2) * 1024 + 1 * k.val = p.val; omega
    | ⟨1, _⟩ => show win0_1.index t (1 : Fin 2) * 1408 + 1 * b.val = q.val; omega
  unfold iblk
  show V m c main_v1 (((cfg0.win 1).blk t).view.emb (ix2 k b)) = _
  rw [e]
  entry_read
  rfl

/-! ## The accumulator over a run of steps -/

/-- The products point `t` adds up for entry `y` of its block. -/
def term (c : Dev nD) (t : Fin cfg0.N) (y : S1024x1408.Idx) : EReal := k0_pay1 (F := Ideal) (iblk m c 0 t) (iblk m c 1 t) y

/-- After a run's first step the accumulator is that step's product. -/
theorem acc_first (c : Dev nD) (t : Fin cfg0.N) (h : t.val % 4 = 0) (y : S1024x1408.Idx) :
    (outsAt0 m c t.val t.isLt).2 y = 0 + term m c t y := by
  rw [zero_add, outsAt0_A m c t h (by omega) (by omega)]
  frame_out
  rw [first_apply]
  rfl

/-- A later step adds its product. -/
theorem acc_next (c : Dev nD) (t : Fin cfg0.N) (h : ¬t.val % 4 = 0) (y : S1024x1408.Idx) :
    (outsAt0 m c t.val t.isLt).2 y
      = (outsAt0 m c (t.val - 1) (lt_of_le_of_lt (Nat.sub_le _ _) t.isLt)).2 y + term m c t y := by
  by_cases h2 : t.val % 4 = 3
  · rw [outsAt0_C m c t h (by omega) h2]
    frame_out
    rw [next_apply]
    simp only [read_unread_whole]
    rfl
  · rw [outsAt0_B m c t h (by omega) h2]
    frame_out
    rw [next_apply]
    simp only [read_unread_whole]
    rfl

/-- The last step's output is what its accumulator holds. -/
theorem out_last (c : Dev nD) (t : Fin cfg0.N) (h : t.val % 4 = 3) (y : S1024x1408.Idx) :
    (outsAt0 m c t.val t.isLt).1 y = (outsAt0 m c t.val t.isLt).2 y := by
  rw [outsAt0_C m c t (by omega) (by omega) h]
  frame_out

/-- A step's products are a stretch of the contracted axis of the two operands. -/
theorem term_apply (c : Dev nD) (t : Fin cfg0.N) (a : Fin 1024) (b : Fin 1408) (i : Fin 1024) (j : Fin 5632)
    (hi : i.val = a.val) (hj : j.val = t.val / 4 * 1408 + b.val) :
    term m c t (ix2 a b) = ∑ k : Fin 1024, factor (m ((c : Thread nD τ).loc main_arg0)) (m ((c : Thread nD τ).loc main_arg1)) i j ⟨t.val % 4 * 1024 + k.val, by omega⟩ := by
  unfold term
  rw [prod_apply]
  refine Finset.sum_congr rfl fun k _ => ?_
  have hk : t.val % 4 * 1024 + k.val < 4096 := by omega
  rw [blk0 m c t k a ⟨_, hk⟩ i rfl hi, blk1 m c t k b ⟨_, hk⟩ j rfl hj]
  rfl

/-- After the run the result array is the reference's function of the argument arrays. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  blk_simp
  rw [after0_2]
  rw [out_last m c t hl]
  rw [Pipeline.eq_sum_fin_of_reset_step_apply_of_flush (fun n h => (outsAt0 m c n h).2) 4 (fun _ => 0) (term m c)
    (acc_first m c) (acc_next m c) t hl, zero_add]
  obtain ⟨a, b, rfl⟩ : ∃ (a : Fin 1024) (b : Fin 1408), y = ix2 a b := ⟨y 0, y 1, eq_ix2 y⟩
  have hN : t.val < 16 := lt_of_lt_of_eq t.isLt N_0
  obtain ⟨i, hi⟩ : ∃ i : Fin 1024, i.val = a.val := ⟨⟨a.val, by omega⟩, rfl⟩
  obtain ⟨j, hj⟩ : ∃ j : Fin 5632, j.val = t.val / 4 * 1408 + b.val := ⟨⟨t.val / 4 * 1408 + b.val, by omega⟩, rfl⟩
  have e : ((cfg0.win 2).blk t).view.emb (ix2 a b) = ix2 i j := by
    obtain ⟨-, -, h0, h1⟩ := idx t
    funext d; apply Fin.ext
    match d with
    | ⟨0, _⟩ => show win0_2.index t (0 : Fin 2) * 1024 + 1 * a.val = i.val; omega
    | ⟨1, _⟩ => show win0_2.index t (1 : Fin 2) * 1408 + 1 * b.val = j.val; omega
  rw [e, ref_apply]
  refine Eq.trans (α := EReal) ?_ (Fin.sum_mul_add_fin 4 1024 (factor (m ((c : Thread nD τ).loc main_arg0)) (m ((c : Thread nD τ).loc main_arg1)) i j))
  refine Finset.sum_congr rfl fun s _ => ?_
  rw [term_apply m c ⟨4 * (t.val / 4) + s.val, _⟩ a b i j hi (show j.val = (4 * (t.val / 4) + s.val) / 4 * 1408 + b.val by omega)]
  refine Finset.sum_congr rfl fun k _ => ?_
  have hs : (4 * (t.val / 4) + s.val) % 4 = s.val := by omega
  simp only [hs]

/-- The kernel's run: its result array ends at the reference's function of its arguments, which end unchanged. -/
theorem run : θ_run defs (onTc (τ := τ) (main (F := Ideal))) ⟨m, fun _ => 0, ρ⟩ fun r => ∀ c : Dev nD,
      r.2.mem ((c : Thread nD τ).loc main_v2) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.FfnDw

end
-- ==== Proof.OutDw.lean ====
/-
  The gradient of the feed-forward output weights: the products of a run of grid points, accumulated, are the whole
  contraction, so the result array is the reference's product.
-/
module

public import proofs.«01_k».proof.Proof.Gen.OutDwIdeal.Value
public import proofs.«01_k».proof.Proof.Gen.OutDwRefIdeal.Run
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.OutDw

open Idealize.ShloMosaic Idealize.ShloMosaic.TcCoe Idealize.SL.Sem

/-! ## The reference and the product of two blocks, at an entry -/

section Reference
open Cert.OutDwRefIdeal Cert.OutDwRefIdeal.Gen

/-- The reference's whole-array function: the transpose of the columns of `w` times the columns of `x`. -/
def ref (x : FVec Ideal S4096x2816 .f32) (w : FVec Ideal S4096x1024 .f32) : FVec Ideal S2816x1024 .f32 :=
  transpose S2816x1024 [1, 0] (Host.dotGeneral dot_S4096x1024_S4096x2816_S1024x2816_0_0_1_1_n_n none w x) transposes_S1024x2816_S2816x1024_1_0

/-- One product of the contraction for row `i`, column `j`. -/
def factor (x : FVec Ideal S4096x2816 .f32) (w : FVec Ideal S4096x1024 .f32) (i : Fin 2816) (j : Fin 1024) (k : Fin 4096) : EReal :=
  x (ix2 k i) * w (ix2 k j)

/-- The reference at row `i`, column `j`. -/
theorem ref_apply (x : FVec Ideal S4096x2816 .f32) (w : FVec Ideal S4096x1024 .f32) (i : Fin 2816) (j : Fin 1024) :
    ref x w (ix2 i j) = ∑ k : Fin 4096, factor x w i j k := by
  pointwise [ref, factor]
  exact Finset.sum_congr rfl fun k _ => mul_comm _ _

end Reference

open Cert.OutDwIdeal Cert.OutDwIdeal.Gen

/-- The product of two blocks at an entry. -/
theorem prod_apply (u : Vec Ideal S1024x1408 .bf16) (v : Vec Ideal S1024x1024 .bf16) (a : Fin 1408) (b : Fin 1024) :
    k0_pay1 u v (ix2 a b) = ∑ k : Fin 1024, u (ix2 k a) * v (ix2 k b) := by
  pointwise [k0_pay1]

/-- What a first step of a run leaves in the accumulator. -/
theorem first_apply (u : Vec Ideal S1024x1408 .bf16) (v : Vec Ideal S1024x1024 .bf16) (y : S1408x1024.Idx) :
    k0_pay2 u v y = k0_pay1 u v y := by
  obtain ⟨a, b, rfl⟩ : ∃ (a : Fin 1408) (b : Fin 1024), y = ix2 a b := ⟨y 0, y 1, eq_ix2 y⟩
  pointwise [k0_pay2]

/-- What a later step leaves in it: what was there plus the product. -/
theorem next_apply (u : Vec Ideal S1024x1408 .bf16) (v : Vec Ideal S1024x1024 .bf16) (z : Vec Ideal S1408x1024 .f32)
    (y : S1408x1024.Idx) : k0_pay3 u v z y = z y + k0_pay1 u v y := by
  obtain ⟨a, b, rfl⟩ : ∃ (a : Fin 1408) (b : Fin 1024), y = ix2 a b := ⟨y 0, y 1, eq_ix2 y⟩
  pointwise [k0_pay3]

/-! ## The blocks of the grid -/

variable (m : (ℓ : Loc nD τ sig) → Buf (Elt Ideal) ℓ) (ρ : Dev nD → PrngReg)

/-- The blocks point `t` works on: the output's block, and the `t % 4`-th stretch of the contracted axis. -/
theorem idx (t : Fin cfg0.N) : (win0_0.index t (0 : Fin 2) = t.val % 4 ∧ win0_0.index t (1 : Fin 2) = t.val / 4)
    ∧ (win0_1.index t (0 : Fin 2) = t.val % 4 ∧ win0_1.index t (1 : Fin 2) = 0)
    ∧ (win0_2.index t (0 : Fin 2) = t.val / 4 ∧ win0_2.index t (1 : Fin 2) = 0) :=
  (by decide +kernel : ∀ t : Fin grid0.N, (win0_0.index t (0 : Fin 2) = t.val % 4 ∧ win0_0.index t (1 : Fin 2) = t.val / 4)
    ∧ (win0_1.index t (0 : Fin 2) = t.val % 4 ∧ win0_1.index t (1 : Fin 2) = 0)
    ∧ (win0_2.index t (0 : Fin 2) = t.val / 4 ∧ win0_2.index t (1 : Fin 2) = 0)) t

/-- The first operand's block at point `t`, read at an entry, is the operand at the entry's place in the whole array. -/
theorem blk0 (c : Dev nD) (t : Fin cfg0.N) (k : Fin 1024) (a : Fin 1408) (p : Fin 4096) (q : Fin 2816)
    (h0 : p.val = t.val % 4 * 1024 + k.val) (h1 : q.val = t.val / 4 * 1408 + a.val) :
    iblk m c 0 t (ix2 k a) = m ((c : Thread nD τ).loc main_arg0) (ix2 p q) := by
  have e : ((cfg0.win 0).blk t).view.emb (ix2 k a) = ix2 p q := by
    obtain ⟨⟨e0, e1⟩, -⟩ := idx t
    funext d; apply Fin.ext
    match d with
    | ⟨0, _⟩ => show win0_0.index t (0 : Fin 2) * 1024 + 1 * k.val = p.val; omega
    | ⟨1, _⟩ => show win0_0.index t (1 : Fin 2) * 1408 + 1 * a.val = q.val; omega
  unfold iblk
  show V m c main_v0 (((cfg0.win 0).blk t).view.emb (ix2 k a)) = _
  rw [e]
  entry_read
  rfl

/-- The second operand's block likewise. -/
theorem blk1 (c : Dev nD) (t : Fin cfg0.N) (k : Fin 1024) (b : Fin 1024) (p : Fin 4096) (q : Fin 1024)
    (h0 : p.val = t.val % 4 * 1024 + k.val) (h1 : q.val = b.val) :
    iblk m c 1 t (ix2 k b) = m ((c : Thread nD τ).loc main_arg1) (ix2 p q) := by
  have e : ((cfg0.win 1).blk t).view.emb (ix2 k b) = ix2 p q := by
    obtain ⟨-, ⟨e0, e1⟩, -⟩ := idx t
    funext d; apply Fin.ext
    match d with
    | ⟨0, _⟩ => show win0_1.index t (0 : Fin 2) * 1024 + 1 * k.val = p.val; omega
    | ⟨1, _⟩ => show win0_1.index t (1 : Fin 2) * 1024 + 1 * b.val = q.val; omega
  unfold iblk
  show V m c main_v1 (((cfg0.win 1).blk t).view.emb (ix2 k b)) = _
  rw [e]
  entry_read
  rfl

/-! ## The accumulator over a run of steps -/

/-- The products point `t` adds up for entry `y` of its block. -/
def term (c : Dev nD) (t : Fin cfg0.N) (y : S1408x1024.Idx) : EReal := k0_pay1 (F := Ideal) (iblk m c 0 t) (iblk m c 1 t) y

/-- After a run's first step the accumulator is that step's product. -/
theorem acc_first (c : Dev nD) (t : Fin cfg0.N) (h : t.val % 4 = 0) (y : S1408x1024.Idx) :
    (outsAt0 m c t.val t.isLt).2 y = 0 + term m c t y := by
  rw [zero_add, outsAt0_A m c t h (by omega) (by omega)]
  frame_out
  rw [first_apply]
  rfl

/-- A later step adds its product. -/
theorem acc_next (c : Dev nD) (t : Fin cfg0.N) (h : ¬t.val % 4 = 0) (y : S1408x1024.Idx) :
    (outsAt0 m c t.val t.isLt).2 y
      = (outsAt0 m c (t.val - 1) (lt_of_le_of_lt (Nat.sub_le _ _) t.isLt)).2 y + term m c t y := by
  by_cases h2 : t.val % 4 = 3
  · rw [outsAt0_C m c t h (by omega) h2]
    frame_out
    rw [next_apply]
    simp only [read_unread_whole]
    rfl
  · rw [outsAt0_B m c t h (by omega) h2]
    frame_out
    rw [next_apply]
    simp only [read_unread_whole]
    rfl

/-- The last step's output is what its accumulator holds. -/
theorem out_last (c : Dev nD) (t : Fin cfg0.N) (h : t.val % 4 = 3) (y : S1408x1024.Idx) :
    (outsAt0 m c t.val t.isLt).1 y = (outsAt0 m c t.val t.isLt).2 y := by
  rw [outsAt0_C m c t (by omega) (by omega) h]
  frame_out

/-- A step's products are a stretch of the contracted axis of the two operands. -/
theorem term_apply (c : Dev nD) (t : Fin cfg0.N) (a : Fin 1408) (b : Fin 1024) (i : Fin 2816) (j : Fin 1024)
    (hi : i.val = t.val / 4 * 1408 + a.val) (hj : j.val = b.val) :
    term m c t (ix2 a b) = ∑ k : Fin 1024, factor (m ((c : Thread nD τ).loc main_arg0)) (m ((c : Thread nD τ).loc main_arg1)) i j ⟨t.val % 4 * 1024 + k.val, by omega⟩ := by
  unfold term
  rw [prod_apply]
  refine Finset.sum_congr rfl fun k _ => ?_
  have hk : t.val % 4 * 1024 + k.val < 4096 := by omega
  rw [blk0 m c t k a ⟨_, hk⟩ i rfl hi, blk1 m c t k b ⟨_, hk⟩ j rfl hj]
  rfl

/-- After the run the result array is the reference's function of the argument arrays. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  blk_simp
  rw [after0_2]
  rw [out_last m c t hl]
  rw [Pipeline.eq_sum_fin_of_reset_step_apply_of_flush (fun n h => (outsAt0 m c n h).2) 4 (fun _ => 0) (term m c)
    (acc_first m c) (acc_next m c) t hl, zero_add]
  obtain ⟨a, b, rfl⟩ : ∃ (a : Fin 1408) (b : Fin 1024), y = ix2 a b := ⟨y 0, y 1, eq_ix2 y⟩
  have hN : t.val < 8 := lt_of_lt_of_eq t.isLt N_0
  obtain ⟨i, hi⟩ : ∃ i : Fin 2816, i.val = t.val / 4 * 1408 + a.val := ⟨⟨t.val / 4 * 1408 + a.val, by omega⟩, rfl⟩
  obtain ⟨j, hj⟩ : ∃ j : Fin 1024, j.val = b.val := ⟨⟨b.val, by omega⟩, rfl⟩
  have e : ((cfg0.win 2).blk t).view.emb (ix2 a b) = ix2 i j := by
    obtain ⟨-, -, h0, h1⟩ := idx t
    funext d; apply Fin.ext
    match d with
    | ⟨0, _⟩ => show win0_2.index t (0 : Fin 2) * 1408 + 1 * a.val = i.val; omega
    | ⟨1, _⟩ => show win0_2.index t (1 : Fin 2) * 1024 + 1 * b.val = j.val; omega
  rw [e, ref_apply]
  refine Eq.trans (α := EReal) ?_ (Fin.sum_mul_add_fin 4 1024 (factor (m ((c : Thread nD τ).loc main_arg0)) (m ((c : Thread nD τ).loc main_arg1)) i j))
  refine Finset.sum_congr rfl fun s _ => ?_
  rw [term_apply m c ⟨4 * (t.val / 4) + s.val, _⟩ a b i j (show i.val = (4 * (t.val / 4) + s.val) / 4 * 1408 + a.val by omega) hj]
  refine Finset.sum_congr rfl fun k _ => ?_
  have hs : (4 * (t.val / 4) + s.val) % 4 = s.val := by omega
  simp only [hs]

/-- The kernel's run: its result array ends at the reference's function of its arguments, which end unchanged. -/
theorem run : θ_run defs (onTc (τ := τ) (main (F := Ideal))) ⟨m, fun _ => 0, ρ⟩ fun r => ∀ c : Dev nD,
      r.2.mem ((c : Thread nD τ).loc main_v2) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.OutDw

end
-- ==== Proof.WoutDx.lean ====
/-
  The gradient of the output projection's input: every block is the product of a row block
  and a column block, so the result array is the reference's product.
-/
module

public import proofs.«01_k».proof.Proof.Gen.WoutDxIdeal.Value
public import proofs.«01_k».proof.Proof.Gen.WoutDxRefIdeal.Run
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WoutDx

open Idealize.ShloMosaic Idealize.ShloMosaic.TcCoe Idealize.SL.Sem

/-! ## The reference and the product of two blocks, at an entry -/

section Reference
open Cert.WoutDxRefIdeal Cert.WoutDxRefIdeal.Gen

/-- The reference's whole-array function: the rows of `x` times the rows of `w`. -/
def ref (x : FVec Ideal S4096x1024 .f32) (w : FVec Ideal S1024x1024 .f32) : FVec Ideal S4096x1024 .f32 :=
  Host.dotGeneral dot_S4096x1024_S1024x1024_S4096x1024_1_1_0_0_n_n none x w

/-- One product of the contraction for row `i`, column `j`. -/
def factor (x : FVec Ideal S4096x1024 .f32) (w : FVec Ideal S1024x1024 .f32) (i : Fin 4096) (j : Fin 1024) (k : Fin 1024) : EReal :=
  x (ix2 i k) * w (ix2 j k)

/-- The reference at row `i`, column `j`. -/
theorem ref_apply (x : FVec Ideal S4096x1024 .f32) (w : FVec Ideal S1024x1024 .f32) (i : Fin 4096) (j : Fin 1024) :
    ref x w (ix2 i j) = ∑ k : Fin 1024, factor x w i j k := by
  pointwise [ref, factor]

end Reference

open Cert.WoutDxIdeal Cert.WoutDxIdeal.Gen

/-! ## The blocks of the grid -/

variable (m : (ℓ : Loc nD τ sig) → Buf (Elt Ideal) ℓ) (ρ : Dev nD → PrngReg)

/-- The blocks point `t` works on. -/
theorem idx (t : Fin cfg0.N) : (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)) t

/-- The first operand's block at point `t`, read at an entry, is the operand at the entry's place in the whole array. -/
theorem blk0 (c : Dev nD) (t : Fin cfg0.N) (a : Fin 1024) (k : Fin 1024) (p : Fin 4096) (q : Fin 1024)
    (h0 : p.val = t.val * 1024 + a.val) (h1 : q.val = k.val) :
    iblk m c 0 t (ix2 a k) = m ((c : Thread nD τ).loc main_arg0) (ix2 p q) := by
  have e : ((cfg0.win 0).blk t).view.emb (ix2 a k) = ix2 p q := by
    obtain ⟨⟨e0, e1⟩, -⟩ := idx t
    funext d; apply Fin.ext
    match d with
    | ⟨0, _⟩ => show win0_0.index t (0 : Fin 2) * 1024 + 1 * a.val = p.val; omega
    | ⟨1, _⟩ => show win0_0.index t (1 : Fin 2) * 1024 + 1 * k.val = q.val; omega
  unfold iblk
  show V m c main_v0 (((cfg0.win 0).blk t).view.emb (ix2 a k)) = _
  rw [e]
  entry_read
  rfl

/-- The second operand's block likewise. -/
theorem blk1 (c : Dev nD) (t : Fin cfg0.N) (b : Fin 1024) (k : Fin 1024) (p : Fin 1024) (q : Fin 1024)
    (h0 : p.val = b.val) (h1 : q.val = k.val) :
    iblk m c 1 t (ix2 b k) = m ((c : Thread nD τ).loc main_arg1) (ix2 p q) := by
  have e : ((cfg0.win 1).blk t).view.emb (ix2 b k) = ix2 p q := by
    obtain ⟨-, ⟨e0, e1⟩, -⟩ := idx t
    funext d; apply Fin.ext
    match d with
    | ⟨0, _⟩ => show win0_1.index t (0 : Fin 2) * 1024 + 1 * b.val = p.val; omega
    | ⟨1, _⟩ => show win0_1.index t (1 : Fin 2) * 1024 + 1 * k.val = q.val; omega
  unfold iblk
  show V m c main_v1 (((cfg0.win 1).blk t).view.emb (ix2 b k)) = _
  rw [e]
  entry_read
  rfl

/-- The block one point stores, at an entry: the product of its two operand blocks. -/
theorem out_apply (u : Vec Ideal S1024x1024 .bf16) (v : Vec Ideal S1024x1024 .bf16) (a : Fin 1024) (b : Fin 1024) :
    k0_pay1 u v (ix2 a b) = ∑ k : Fin 1024, u (ix2 a k) * v (ix2 b k) := by
  pointwise [k0_pay1]

/-- After the run the result array is the reference's function of the argument arrays. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1024) (b : Fin 1024), y = ix2 a b := ⟨y 0, y 1, eq_ix2 y⟩
  have hN : t.val < 4 := lt_of_lt_of_eq t.isLt N_0
  obtain ⟨i, hi⟩ : ∃ i : Fin 4096, i.val = t.val * 1024 + a.val := ⟨⟨t.val * 1024 + a.val, by omega⟩, rfl⟩
  obtain ⟨j, hj⟩ : ∃ j : Fin 1024, j.val = b.val := ⟨⟨b.val, by omega⟩, rfl⟩
  have e : ((cfg0.win 2).blk t).view.emb (ix2 a b) = ix2 i j := by
    obtain ⟨-, -, ⟨h0, h1⟩⟩ := idx t
    funext d; apply Fin.ext
    match d with
    | ⟨0, _⟩ => show win0_2.index t (0 : Fin 2) * 1024 + 1 * a.val = i.val; omega
    | ⟨1, _⟩ => show win0_2.index t (1 : Fin 2) * 1024 + 1 * b.val = j.val; omega
  rw [e, ref_apply, out_apply]
  refine Finset.sum_congr (M := EReal) rfl fun k _ => ?_
  rw [blk0 m c t a k i k hi rfl, blk1 m c t b k j k hj rfl]
  rfl

/-- The kernel's run: its result array ends at the reference's function of its arguments, which end unchanged. -/
theorem run : θ_run defs (onTc (τ := τ) (main (F := Ideal))) ⟨m, fun _ => 0, ρ⟩ fun r => ∀ c : Dev nD,
      r.2.mem ((c : Thread nD τ).loc main_v2) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.WoutDx

end
-- ==== Proof.WoutDw.lean ====
/-
  The gradient of the output projection's weights: the products of a run of grid points, accumulated, are the whole
  contraction, so the result array is the reference's product.
-/
module

public import proofs.«01_k».proof.Proof.Gen.WoutDwIdeal.Value
public import proofs.«01_k».proof.Proof.Gen.WoutDwRefIdeal.Run
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WoutDw

open Idealize.ShloMosaic Idealize.ShloMosaic.TcCoe Idealize.SL.Sem

/-! ## The reference and the product of two blocks, at an entry -/

section Reference
open Cert.WoutDwRefIdeal Cert.WoutDwRefIdeal.Gen

/-- The reference's whole-array function: the transpose of the columns of `w` times the columns of `x`. -/
def ref (x : FVec Ideal S4096x1024 .f32) (w : FVec Ideal S4096x1024 .f32) : FVec Ideal S1024x1024 .f32 :=
  transpose S1024x1024 [1, 0] (Host.dotGeneral dot_S4096x1024_S4096x1024_S1024x1024_0_0_1_1_n_n none w x) transposes_S1024x1024_S1024x1024_1_0

/-- One product of the contraction for row `i`, column `j`. -/
def factor (x : FVec Ideal S4096x1024 .f32) (w : FVec Ideal S4096x1024 .f32) (i : Fin 1024) (j : Fin 1024) (k : Fin 4096) : EReal :=
  x (ix2 k i) * w (ix2 k j)

/-- The reference at row `i`, column `j`. -/
theorem ref_apply (x : FVec Ideal S4096x1024 .f32) (w : FVec Ideal S4096x1024 .f32) (i : Fin 1024) (j : Fin 1024) :
    ref x w (ix2 i j) = ∑ k : Fin 4096, factor x w i j k := by
  pointwise [ref, factor]
  exact Finset.sum_congr rfl fun k _ => mul_comm _ _

end Reference

open Cert.WoutDwIdeal Cert.WoutDwIdeal.Gen

/-- The product of two blocks at an entry. -/
theorem prod_apply (u : Vec Ideal S1024x1024 .bf16) (v : Vec Ideal S1024x1024 .bf16) (a : Fin 1024) (b : Fin 1024) :
    k0_pay1 u v (ix2 a b) = ∑ k : Fin 1024, u (ix2 k a) * v (ix2 k b) := by
  pointwise [k0_pay1]

/-- What a first step of a run leaves in the accumulator. -/
theorem first_apply (u : Vec Ideal S1024x1024 .bf16) (v : Vec Ideal S1024x1024 .bf16) (y : S1024x1024.Idx) :
    k0_pay2 u v y = k0_pay1 u v y := by
  obtain ⟨a, b, rfl⟩ : ∃ (a : Fin 1024) (b : Fin 1024), y = ix2 a b := ⟨y 0, y 1, eq_ix2 y⟩
  pointwise [k0_pay2]

/-- What a later step leaves in it: what was there plus the product. -/
theorem next_apply (u : Vec Ideal S1024x1024 .bf16) (v : Vec Ideal S1024x1024 .bf16) (z : Vec Ideal S1024x1024 .f32)
    (y : S1024x1024.Idx) : k0_pay3 u v z y = z y + k0_pay1 u v y := by
  obtain ⟨a, b, rfl⟩ : ∃ (a : Fin 1024) (b : Fin 1024), y = ix2 a b := ⟨y 0, y 1, eq_ix2 y⟩
  pointwise [k0_pay3]

/-! ## The blocks of the grid -/

variable (m : (ℓ : Loc nD τ sig) → Buf (Elt Ideal) ℓ) (ρ : Dev nD → PrngReg)

/-- The blocks point `t` works on: the output's block, and the `t % 4`-th stretch of the contracted axis. -/
theorem idx (t : Fin cfg0.N) : (win0_0.index t (0 : Fin 2) = t.val % 4 ∧ win0_0.index t (1 : Fin 2) = 0)
    ∧ (win0_1.index t (0 : Fin 2) = t.val % 4 ∧ win0_1.index t (1 : Fin 2) = 0)
    ∧ (win0_2.index t (0 : Fin 2) = 0 ∧ win0_2.index t (1 : Fin 2) = 0) :=
  (by decide +kernel : ∀ t : Fin grid0.N, (win0_0.index t (0 : Fin 2) = t.val % 4 ∧ win0_0.index t (1 : Fin 2) = 0)
    ∧ (win0_1.index t (0 : Fin 2) = t.val % 4 ∧ win0_1.index t (1 : Fin 2) = 0)
    ∧ (win0_2.index t (0 : Fin 2) = 0 ∧ win0_2.index t (1 : Fin 2) = 0)) t

/-- The first operand's block at point `t`, read at an entry, is the operand at the entry's place in the whole array. -/
theorem blk0 (c : Dev nD) (t : Fin cfg0.N) (k : Fin 1024) (a : Fin 1024) (p : Fin 4096) (q : Fin 1024)
    (h0 : p.val = t.val % 4 * 1024 + k.val) (h1 : q.val = a.val) :
    iblk m c 0 t (ix2 k a) = m ((c : Thread nD τ).loc main_arg0) (ix2 p q) := by
  have e : ((cfg0.win 0).blk t).view.emb (ix2 k a) = ix2 p q := by
    obtain ⟨⟨e0, e1⟩, -⟩ := idx t
    funext d; apply Fin.ext
    match d with
    | ⟨0, _⟩ => show win0_0.index t (0 : Fin 2) * 1024 + 1 * k.val = p.val; omega
    | ⟨1, _⟩ => show win0_0.index t (1 : Fin 2) * 1024 + 1 * a.val = q.val; omega
  unfold iblk
  show V m c main_v0 (((cfg0.win 0).blk t).view.emb (ix2 k a)) = _
  rw [e]
  entry_read
  rfl

/-- The second operand's block likewise. -/
theorem blk1 (c : Dev nD) (t : Fin cfg0.N) (k : Fin 1024) (b : Fin 1024) (p : Fin 4096) (q : Fin 1024)
    (h0 : p.val = t.val % 4 * 1024 + k.val) (h1 : q.val = b.val) :
    iblk m c 1 t (ix2 k b) = m ((c : Thread nD τ).loc main_arg1) (ix2 p q) := by
  have e : ((cfg0.win 1).blk t).view.emb (ix2 k b) = ix2 p q := by
    obtain ⟨-, ⟨e0, e1⟩, -⟩ := idx t
    funext d; apply Fin.ext
    match d with
    | ⟨0, _⟩ => show win0_1.index t (0 : Fin 2) * 1024 + 1 * k.val = p.val; omega
    | ⟨1, _⟩ => show win0_1.index t (1 : Fin 2) * 1024 + 1 * b.val = q.val; omega
  unfold iblk
  show V m c main_v1 (((cfg0.win 1).blk t).view.emb (ix2 k b)) = _
  rw [e]
  entry_read
  rfl

/-! ## The accumulator over a run of steps -/

/-- The products point `t` adds up for entry `y` of its block. -/
def term (c : Dev nD) (t : Fin cfg0.N) (y : S1024x1024.Idx) : EReal := k0_pay1 (F := Ideal) (iblk m c 0 t) (iblk m c 1 t) y

/-- After a run's first step the accumulator is that step's product. -/
theorem acc_first (c : Dev nD) (t : Fin cfg0.N) (h : t.val % 4 = 0) (y : S1024x1024.Idx) :
    (outsAt0 m c t.val t.isLt).2 y = 0 + term m c t y := by
  have hN : t.val < 4 := lt_of_lt_of_eq t.isLt N_0
  rw [zero_add, outsAt0_A m c t h (by omega) (by omega)]
  frame_out
  rw [first_apply]
  rfl

/-- A later step adds its product. -/
theorem acc_next (c : Dev nD) (t : Fin cfg0.N) (h : ¬t.val % 4 = 0) (y : S1024x1024.Idx) :
    (outsAt0 m c t.val t.isLt).2 y
      = (outsAt0 m c (t.val - 1) (lt_of_le_of_lt (Nat.sub_le _ _) t.isLt)).2 y + term m c t y := by
  have hN : t.val < 4 := lt_of_lt_of_eq t.isLt N_0
  by_cases h2 : t.val % 4 = 3
  · rw [outsAt0_C m c t h (by omega) h2]
    frame_out
    rw [next_apply]
    simp only [read_unread_whole]
    rfl
  · rw [outsAt0_B m c t h (by omega) h2]
    frame_out
    rw [next_apply]
    simp only [read_unread_whole]
    rfl

/-- The last step's output is what its accumulator holds. -/
theorem out_last (c : Dev nD) (t : Fin cfg0.N) (h : t.val % 4 = 3) (y : S1024x1024.Idx) :
    (outsAt0 m c t.val t.isLt).1 y = (outsAt0 m c t.val t.isLt).2 y := by
  have hN : t.val < 4 := lt_of_lt_of_eq t.isLt N_0
  rw [outsAt0_C m c t (by omega) (by omega) h]
  frame_out

/-- A step's products are a stretch of the contracted axis of the two operands. -/
theorem term_apply (c : Dev nD) (t : Fin cfg0.N) (a : Fin 1024) (b : Fin 1024) (i : Fin 1024) (j : Fin 1024)
    (hi : i.val = a.val) (hj : j.val = b.val) :
    term m c t (ix2 a b) = ∑ k : Fin 1024, factor (m ((c : Thread nD τ).loc main_arg0)) (m ((c : Thread nD τ).loc main_arg1)) i j ⟨t.val % 4 * 1024 + k.val, by omega⟩ := by
  unfold term
  rw [prod_apply]
  refine Finset.sum_congr rfl fun k _ => ?_
  have hk : t.val % 4 * 1024 + k.val < 4096 := by omega
  rw [blk0 m c t k a ⟨_, hk⟩ i rfl hi, blk1 m c t k b ⟨_, hk⟩ j rfl hj]
  rfl

/-- After the run the result array is the reference's function of the argument arrays. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  blk_simp
  rw [after0_2]
  rw [out_last m c t hl]
  rw [Pipeline.eq_sum_fin_of_reset_step_apply_of_flush (fun n h => (outsAt0 m c n h).2) 4 (fun _ => 0) (term m c)
    (acc_first m c) (acc_next m c) t hl, zero_add]
  obtain ⟨a, b, rfl⟩ : ∃ (a : Fin 1024) (b : Fin 1024), y = ix2 a b := ⟨y 0, y 1, eq_ix2 y⟩
  have hN : t.val < 4 := lt_of_lt_of_eq t.isLt N_0
  obtain ⟨i, hi⟩ : ∃ i : Fin 1024, i.val = a.val := ⟨⟨a.val, by omega⟩, rfl⟩
  obtain ⟨j, hj⟩ : ∃ j : Fin 1024, j.val = b.val := ⟨⟨b.val, by omega⟩, rfl⟩
  have e : ((cfg0.win 2).blk t).view.emb (ix2 a b) = ix2 i j := by
    obtain ⟨-, -, h0, h1⟩ := idx t
    funext d; apply Fin.ext
    match d with
    | ⟨0, _⟩ => show win0_2.index t (0 : Fin 2) * 1024 + 1 * a.val = i.val; omega
    | ⟨1, _⟩ => show win0_2.index t (1 : Fin 2) * 1024 + 1 * b.val = j.val; omega
  rw [e, ref_apply]
  refine Eq.trans (α := EReal) ?_ (Fin.sum_mul_add_fin 4 1024 (factor (m ((c : Thread nD τ).loc main_arg0)) (m ((c : Thread nD τ).loc main_arg1)) i j))
  refine Finset.sum_congr rfl fun s _ => ?_
  rw [term_apply m c ⟨4 * (t.val / 4) + s.val, _⟩ a b i j hi hj]
  refine Finset.sum_congr rfl fun k _ => ?_
  have hs : (4 * (t.val / 4) + s.val) % 4 = s.val := by omega
  simp only [hs]

/-- The kernel's run: its result array ends at the reference's function of its arguments, which end unchanged. -/
theorem run : θ_run defs (onTc (τ := τ) (main (F := Ideal))) ⟨m, fun _ => 0, ρ⟩ fun r => ∀ c : Dev nD,
      r.2.mem ((c : Thread nD τ).loc main_v2) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.WoutDw

end
-- ==== Proof.ProjDx.lean ====
/-
  The gradient of the projections' input: the products of a run of grid points, accumulated, are the whole
  contraction, so the result array is the reference's product.
-/
module

public import proofs.«01_k».proof.Proof.Gen.ProjDxIdeal.Value
public import proofs.«01_k».proof.Proof.Gen.ProjDxRefIdeal.Run
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ProjDx

open Idealize.ShloMosaic Idealize.ShloMosaic.TcCoe Idealize.SL.Sem

/-! ## The reference and the product of two blocks, at an entry -/

section Reference
open Cert.ProjDxRefIdeal Cert.ProjDxRefIdeal.Gen

/-- The reference's whole-array function: the rows of `x` times the rows of `w`. -/
def ref (x : FVec Ideal S4096x5376 .f32) (w : FVec Ideal S1024x5376 .f32) : FVec Ideal S4096x1024 .f32 :=
  Host.dotGeneral dot_S4096x5376_S1024x5376_S4096x1024_1_1_0_0_n_n none x w

/-- One product of the contraction for row `i`, column `j`. -/
def factor (x : FVec Ideal S4096x5376 .f32) (w : FVec Ideal S1024x5376 .f32) (i : Fin 4096) (j : Fin 1024) (k : Fin 5376) : EReal :=
  x (ix2 i k) * w (ix2 j k)

/-- The reference at row `i`, column `j`. -/
theorem ref_apply (x : FVec Ideal S4096x5376 .f32) (w : FVec Ideal S1024x5376 .f32) (i : Fin 4096) (j : Fin 1024) :
    ref x w (ix2 i j) = ∑ k : Fin 5376, factor x w i j k := by
  pointwise [ref, factor]

end Reference

open Cert.ProjDxIdeal Cert.ProjDxIdeal.Gen

/-- The product of two blocks at an entry. -/
theorem prod_apply (u : Vec Ideal S1024x1792 .bf16) (v : Vec Ideal S1024x1792 .bf16) (a : Fin 1024) (b : Fin 1024) :
    k0_pay1 u v (ix2 a b) = ∑ k : Fin 1792, u (ix2 a k) * v (ix2 b k) := by
  pointwise [k0_pay1]

/-- What a first step of a run leaves in the accumulator. -/
theorem first_apply (u : Vec Ideal S1024x1792 .bf16) (v : Vec Ideal S1024x1792 .bf16) (y : S1024x1024.Idx) :
    k0_pay2 u v y = k0_pay1 u v y := by
  obtain ⟨a, b, rfl⟩ : ∃ (a : Fin 1024) (b : Fin 1024), y = ix2 a b := ⟨y 0, y 1, eq_ix2 y⟩
  pointwise [k0_pay2]

/-- What a later step leaves in it: what was there plus the product. -/
theorem next_apply (u : Vec Ideal S1024x1792 .bf16) (v : Vec Ideal S1024x1792 .bf16) (z : Vec Ideal S1024x1024 .f32)
    (y : S1024x1024.Idx) : k0_pay3 u v z y = z y + k0_pay1 u v y := by
  obtain ⟨a, b, rfl⟩ : ∃ (a : Fin 1024) (b : Fin 1024), y = ix2 a b := ⟨y 0, y 1, eq_ix2 y⟩
  pointwise [k0_pay3]

/-! ## The blocks of the grid -/

variable (m : (ℓ : Loc nD τ sig) → Buf (Elt Ideal) ℓ) (ρ : Dev nD → PrngReg)

/-- The blocks point `t` works on: the output's block, and the `t % 3`-th stretch of the contracted axis. -/
theorem idx (t : Fin cfg0.N) : (win0_0.index t (0 : Fin 2) = t.val / 3 ∧ win0_0.index t (1 : Fin 2) = t.val % 3)
    ∧ (win0_1.index t (0 : Fin 2) = 0 ∧ win0_1.index t (1 : Fin 2) = t.val % 3)
    ∧ (win0_2.index t (0 : Fin 2) = t.val / 3 ∧ win0_2.index t (1 : Fin 2) = 0) :=
  (by decide +kernel : ∀ t : Fin grid0.N, (win0_0.index t (0 : Fin 2) = t.val / 3 ∧ win0_0.index t (1 : Fin 2) = t.val % 3)
    ∧ (win0_1.index t (0 : Fin 2) = 0 ∧ win0_1.index t (1 : Fin 2) = t.val % 3)
    ∧ (win0_2.index t (0 : Fin 2) = t.val / 3 ∧ win0_2.index t (1 : Fin 2) = 0)) t

/-- The first operand's block at point `t`, read at an entry, is the operand at the entry's place in the whole array. -/
theorem blk0 (c : Dev nD) (t : Fin cfg0.N) (a : Fin 1024) (k : Fin 1792) (p : Fin 4096) (q : Fin 5376)
    (h0 : p.val = t.val / 3 * 1024 + a.val) (h1 : q.val = t.val % 3 * 1792 + k.val) :
    iblk m c 0 t (ix2 a k) = m ((c : Thread nD τ).loc main_arg0) (ix2 p q) := by
  have e : ((cfg0.win 0).blk t).view.emb (ix2 a k) = ix2 p q := by
    obtain ⟨⟨e0, e1⟩, -⟩ := idx t
    funext d; apply Fin.ext
    match d with
    | ⟨0, _⟩ => show win0_0.index t (0 : Fin 2) * 1024 + 1 * a.val = p.val; omega
    | ⟨1, _⟩ => show win0_0.index t (1 : Fin 2) * 1792 + 1 * k.val = q.val; omega
  unfold iblk
  show V m c main_v0 (((cfg0.win 0).blk t).view.emb (ix2 a k)) = _
  rw [e]
  entry_read
  rfl

/-- The second operand's block likewise. -/
theorem blk1 (c : Dev nD) (t : Fin cfg0.N) (b : Fin 1024) (k : Fin 1792) (p : Fin 1024) (q : Fin 5376)
    (h0 : p.val = b.val) (h1 : q.val = t.val % 3 * 1792 + k.val) :
    iblk m c 1 t (ix2 b k) = m ((c : Thread nD τ).loc main_arg1) (ix2 p q) := by
  have e : ((cfg0.win 1).blk t).view.emb (ix2 b k) = ix2 p q := by
    obtain ⟨-, ⟨e0, e1⟩, -⟩ := idx t
    funext d; apply Fin.ext
    match d with
    | ⟨0, _⟩ => show win0_1.index t (0 : Fin 2) * 1024 + 1 * b.val = p.val; omega
    | ⟨1, _⟩ => show win0_1.index t (1 : Fin 2) * 1792 + 1 * k.val = q.val; omega
  unfold iblk
  show V m c main_v1 (((cfg0.win 1).blk t).view.emb (ix2 b k)) = _
  rw [e]
  entry_read
  rfl

/-! ## The accumulator over a run of steps -/

/-- The products point `t` adds up for entry `y` of its block. -/
def term (c : Dev nD) (t : Fin cfg0.N) (y : S1024x1024.Idx) : EReal := k0_pay1 (F := Ideal) (iblk m c 0 t) (iblk m c 1 t) y

/-- After a run's first step the accumulator is that step's product. -/
theorem acc_first (c : Dev nD) (t : Fin cfg0.N) (h : t.val % 3 = 0) (y : S1024x1024.Idx) :
    (outsAt0 m c t.val t.isLt).2 y = 0 + term m c t y := by
  rw [zero_add, outsAt0_A m c t h (by omega) (by omega)]
  frame_out
  rw [first_apply]
  rfl

/-- A later step adds its product. -/
theorem acc_next (c : Dev nD) (t : Fin cfg0.N) (h : ¬t.val % 3 = 0) (y : S1024x1024.Idx) :
    (outsAt0 m c t.val t.isLt).2 y
      = (outsAt0 m c (t.val - 1) (lt_of_le_of_lt (Nat.sub_le _ _) t.isLt)).2 y + term m c t y := by
  by_cases h2 : t.val % 3 = 2
  · rw [outsAt0_C m c t h (by omega) h2]
    frame_out
    rw [next_apply]
    simp only [read_unread_whole]
    rfl
  · rw [outsAt0_B m c t h (by omega) h2]
    frame_out
    rw [next_apply]
    simp only [read_unread_whole]
    rfl

/-- The last step's output is what its accumulator holds. -/
theorem out_last (c : Dev nD) (t : Fin cfg0.N) (h : t.val % 3 = 2) (y : S1024x1024.Idx) :
    (outsAt0 m c t.val t.isLt).1 y = (outsAt0 m c t.val t.isLt).2 y := by
  rw [outsAt0_C m c t (by omega) (by omega) h]
  frame_out

/-- A step's products are a stretch of the contracted axis of the two operands. -/
theorem term_apply (c : Dev nD) (t : Fin cfg0.N) (a : Fin 1024) (b : Fin 1024) (i : Fin 4096) (j : Fin 1024)
    (hi : i.val = t.val / 3 * 1024 + a.val) (hj : j.val = b.val) :
    term m c t (ix2 a b) = ∑ k : Fin 1792, factor (m ((c : Thread nD τ).loc main_arg0)) (m ((c : Thread nD τ).loc main_arg1)) i j ⟨t.val % 3 * 1792 + k.val, by omega⟩ := by
  unfold term
  rw [prod_apply]
  refine Finset.sum_congr rfl fun k _ => ?_
  have hk : t.val % 3 * 1792 + k.val < 5376 := by omega
  rw [blk0 m c t a k i ⟨_, hk⟩ hi rfl, blk1 m c t b k j ⟨_, hk⟩ hj rfl]
  rfl

/-- After the run the result array is the reference's function of the argument arrays. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  have hl : t.val % 3 = 2 := (flush0_2 t).mp hf
  blk_simp
  rw [after0_2]
  rw [out_last m c t hl]
  rw [Pipeline.eq_sum_fin_of_reset_step_apply_of_flush (fun n h => (outsAt0 m c n h).2) 3 (fun _ => 0) (term m c)
    (acc_first m c) (acc_next m c) t hl, zero_add]
  obtain ⟨a, b, rfl⟩ : ∃ (a : Fin 1024) (b : Fin 1024), y = ix2 a b := ⟨y 0, y 1, eq_ix2 y⟩
  have hN : t.val < 12 := lt_of_lt_of_eq t.isLt N_0
  obtain ⟨i, hi⟩ : ∃ i : Fin 4096, i.val = t.val / 3 * 1024 + a.val := ⟨⟨t.val / 3 * 1024 + a.val, by omega⟩, rfl⟩
  obtain ⟨j, hj⟩ : ∃ j : Fin 1024, j.val = b.val := ⟨⟨b.val, by omega⟩, rfl⟩
  have e : ((cfg0.win 2).blk t).view.emb (ix2 a b) = ix2 i j := by
    obtain ⟨-, -, h0, h1⟩ := idx t
    funext d; apply Fin.ext
    match d with
    | ⟨0, _⟩ => show win0_2.index t (0 : Fin 2) * 1024 + 1 * a.val = i.val; omega
    | ⟨1, _⟩ => show win0_2.index t (1 : Fin 2) * 1024 + 1 * b.val = j.val; omega
  rw [e, ref_apply]
  refine Eq.trans (α := EReal) ?_ (Fin.sum_mul_add_fin 3 1792 (factor (m ((c : Thread nD τ).loc main_arg0)) (m ((c : Thread nD τ).loc main_arg1)) i j))
  refine Finset.sum_congr rfl fun s _ => ?_
  rw [term_apply m c ⟨3 * (t.val / 3) + s.val, _⟩ a b i j (show i.val = (3 * (t.val / 3) + s.val) / 3 * 1024 + a.val by omega) hj]
  refine Finset.sum_congr rfl fun k _ => ?_
  have hs : (3 * (t.val / 3) + s.val) % 3 = s.val := by omega
  simp only [hs]

/-- The kernel's run: its result array ends at the reference's function of its arguments, which end unchanged. -/
theorem run : θ_run defs (onTc (τ := τ) (main (F := Ideal))) ⟨m, fun _ => 0, ρ⟩ fun r => ∀ c : Dev nD,
      r.2.mem ((c : Thread nD τ).loc main_v2) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.ProjDx

end
-- ==== Proof.ProjDw.lean ====
/-
  The gradient of the projections' weights: the products of a run of grid points, accumulated, are the whole
  contraction, so the result array is the reference's product.
-/
module

public import proofs.«01_k».proof.Proof.Gen.ProjDwIdeal.Value
public import proofs.«01_k».proof.Proof.Gen.ProjDwRefIdeal.Run
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ProjDw

open Idealize.ShloMosaic Idealize.ShloMosaic.TcCoe Idealize.SL.Sem

/-! ## The reference and the product of two blocks, at an entry -/

section Reference
open Cert.ProjDwRefIdeal Cert.ProjDwRefIdeal.Gen

/-- The reference's whole-array function: the transpose of the columns of `w` times the columns of `x`. -/
def ref (x : FVec Ideal S4096x1024 .f32) (w : FVec Ideal S4096x5376 .f32) : FVec Ideal S1024x5376 .f32 :=
  transpose S1024x5376 [1, 0] (Host.dotGeneral dot_S4096x5376_S4096x1024_S5376x1024_0_0_1_1_n_n none w x) transposes_S5376x1024_S1024x5376_1_0

/-- One product of the contraction for row `i`, column `j`. -/
def factor (x : FVec Ideal S4096x1024 .f32) (w : FVec Ideal S4096x5376 .f32) (i : Fin 1024) (j : Fin 5376) (k : Fin 4096) : EReal :=
  x (ix2 k i) * w (ix2 k j)

/-- The reference at row `i`, column `j`. -/
theorem ref_apply (x : FVec Ideal S4096x1024 .f32) (w : FVec Ideal S4096x5376 .f32) (i : Fin 1024) (j : Fin 5376) :
    ref x w (ix2 i j) = ∑ k : Fin 4096, factor x w i j k := by
  pointwise [ref, factor]
  exact Finset.sum_congr rfl fun k _ => mul_comm _ _

end Reference

open Cert.ProjDwIdeal Cert.ProjDwIdeal.Gen

/-- The product of two blocks at an entry. -/
theorem prod_apply (u : Vec Ideal S1024x512 .bf16) (v : Vec Ideal S1024x1792 .bf16) (a : Fin 512) (b : Fin 1792) :
    k0_pay1 u v (ix2 a b) = ∑ k : Fin 1024, u (ix2 k a) * v (ix2 k b) := by
  pointwise [k0_pay1]

/-- What a first step of a run leaves in the accumulator. -/
theorem first_apply (u : Vec Ideal S1024x512 .bf16) (v : Vec Ideal S1024x1792 .bf16) (y : S512x1792.Idx) :
    k0_pay2 u v y = k0_pay1 u v y := by
  obtain ⟨a, b, rfl⟩ : ∃ (a : Fin 512) (b : Fin 1792), y = ix2 a b := ⟨y 0, y 1, eq_ix2 y⟩
  pointwise [k0_pay2]

/-- What a later step leaves in it: what was there plus the product. -/
theorem next_apply (u : Vec Ideal S1024x512 .bf16) (v : Vec Ideal S1024x1792 .bf16) (z : Vec Ideal S512x1792 .f32)
    (y : S512x1792.Idx) : k0_pay3 u v z y = z y + k0_pay1 u v y := by
  obtain ⟨a, b, rfl⟩ : ∃ (a : Fin 512) (b : Fin 1792), y = ix2 a b := ⟨y 0, y 1, eq_ix2 y⟩
  pointwise [k0_pay3]

/-! ## The blocks of the grid -/

variable (m : (ℓ : Loc nD τ sig) → Buf (Elt Ideal) ℓ) (ρ : Dev nD → PrngReg)

/-- The blocks point `t` works on: the output's block, and the `t % 4`-th stretch of the contracted axis. -/
theorem idx (t : Fin cfg0.N) : (win0_0.index t (0 : Fin 2) = t.val % 4 ∧ win0_0.index t (1 : Fin 2) = t.val / 12)
    ∧ (win0_1.index t (0 : Fin 2) = t.val % 4 ∧ win0_1.index t (1 : Fin 2) = t.val / 4 % 3)
    ∧ (win0_2.index t (0 : Fin 2) = t.val / 12 ∧ win0_2.index t (1 : Fin 2) = t.val / 4 % 3) :=
  (by decide +kernel : ∀ t : Fin grid0.N, (win0_0.index t (0 : Fin 2) = t.val % 4 ∧ win0_0.index t (1 : Fin 2) = t.val / 12)
    ∧ (win0_1.index t (0 : Fin 2) = t.val % 4 ∧ win0_1.index t (1 : Fin 2) = t.val / 4 % 3)
    ∧ (win0_2.index t (0 : Fin 2) = t.val / 12 ∧ win0_2.index t (1 : Fin 2) = t.val / 4 % 3)) t

/-- The first operand's block at point `t`, read at an entry, is the operand at the entry's place in the whole array. -/
theorem blk0 (c : Dev nD) (t : Fin cfg0.N) (k : Fin 1024) (a : Fin 512) (p : Fin 4096) (q : Fin 1024)
    (h0 : p.val = t.val % 4 * 1024 + k.val) (h1 : q.val = t.val / 12 * 512 + a.val) :
    iblk m c 0 t (ix2 k a) = m ((c : Thread nD τ).loc main_arg0) (ix2 p q) := by
  have e : ((cfg0.win 0).blk t).view.emb (ix2 k a) = ix2 p q := by
    obtain ⟨⟨e0, e1⟩, -⟩ := idx t
    funext d; apply Fin.ext
    match d with
    | ⟨0, _⟩ => show win0_0.index t (0 : Fin 2) * 1024 + 1 * k.val = p.val; omega
    | ⟨1, _⟩ => show win0_0.index t (1 : Fin 2) * 512 + 1 * a.val = q.val; omega
  unfold iblk
  show V m c main_v0 (((cfg0.win 0).blk t).view.emb (ix2 k a)) = _
  rw [e]
  entry_read
  rfl

/-- The second operand's block likewise. -/
theorem blk1 (c : Dev nD) (t : Fin cfg0.N) (k : Fin 1024) (b : Fin 1792) (p : Fin 4096) (q : Fin 5376)
    (h0 : p.val = t.val % 4 * 1024 + k.val) (h1 : q.val = t.val / 4 % 3 * 1792 + b.val) :
    iblk m c 1 t (ix2 k b) = m ((c : Thread nD τ).loc main_arg1) (ix2 p q) := by
  have e : ((cfg0.win 1).blk t).view.emb (ix2 k b) = ix2 p q := by
    obtain ⟨-, ⟨e0, e1⟩, -⟩ := idx t
    funext d; apply Fin.ext
    match d with
    | ⟨0, _⟩ => show win0_1.index t (0 : Fin 2) * 1024 + 1 * k.val = p.val; omega
    | ⟨1, _⟩ => show win0_1.index t (1 : Fin 2) * 1792 + 1 * b.val = q.val; omega
  unfold iblk
  show V m c main_v1 (((cfg0.win 1).blk t).view.emb (ix2 k b)) = _
  rw [e]
  entry_read
  rfl

/-! ## The accumulator over a run of steps -/

/-- The products point `t` adds up for entry `y` of its block. -/
def term (c : Dev nD) (t : Fin cfg0.N) (y : S512x1792.Idx) : EReal := k0_pay1 (F := Ideal) (iblk m c 0 t) (iblk m c 1 t) y

/-- After a run's first step the accumulator is that step's product. -/
theorem acc_first (c : Dev nD) (t : Fin cfg0.N) (h : t.val % 4 = 0) (y : S512x1792.Idx) :
    (outsAt0 m c t.val t.isLt).2 y = 0 + term m c t y := by
  rw [zero_add, outsAt0_A m c t h (by omega) (by omega)]
  frame_out
  rw [first_apply]
  rfl

/-- A later step adds its product. -/
theorem acc_next (c : Dev nD) (t : Fin cfg0.N) (h : ¬t.val % 4 = 0) (y : S512x1792.Idx) :
    (outsAt0 m c t.val t.isLt).2 y
      = (outsAt0 m c (t.val - 1) (lt_of_le_of_lt (Nat.sub_le _ _) t.isLt)).2 y + term m c t y := by
  by_cases h2 : t.val % 4 = 3
  · rw [outsAt0_C m c t h (by omega) h2]
    frame_out
    rw [next_apply]
    simp only [read_unread_whole]
    rfl
  · rw [outsAt0_B m c t h (by omega) h2]
    frame_out
    rw [next_apply]
    simp only [read_unread_whole]
    rfl

/-- The last step's output is what its accumulator holds. -/
theorem out_last (c : Dev nD) (t : Fin cfg0.N) (h : t.val % 4 = 3) (y : S512x1792.Idx) :
    (outsAt0 m c t.val t.isLt).1 y = (outsAt0 m c t.val t.isLt).2 y := by
  rw [outsAt0_C m c t (by omega) (by omega) h]
  frame_out

/-- A step's products are a stretch of the contracted axis of the two operands. -/
theorem term_apply (c : Dev nD) (t : Fin cfg0.N) (a : Fin 512) (b : Fin 1792) (i : Fin 1024) (j : Fin 5376)
    (hi : i.val = t.val / 12 * 512 + a.val) (hj : j.val = t.val / 4 % 3 * 1792 + b.val) :
    term m c t (ix2 a b) = ∑ k : Fin 1024, factor (m ((c : Thread nD τ).loc main_arg0)) (m ((c : Thread nD τ).loc main_arg1)) i j ⟨t.val % 4 * 1024 + k.val, by omega⟩ := by
  unfold term
  rw [prod_apply]
  refine Finset.sum_congr rfl fun k _ => ?_
  have hk : t.val % 4 * 1024 + k.val < 4096 := by omega
  rw [blk0 m c t k a ⟨_, hk⟩ i rfl hi, blk1 m c t k b ⟨_, hk⟩ j rfl hj]
  rfl

/-- After the run the result array is the reference's function of the argument arrays. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  blk_simp
  rw [after0_2]
  rw [out_last m c t hl]
  rw [Pipeline.eq_sum_fin_of_reset_step_apply_of_flush (fun n h => (outsAt0 m c n h).2) 4 (fun _ => 0) (term m c)
    (acc_first m c) (acc_next m c) t hl, zero_add]
  obtain ⟨a, b, rfl⟩ : ∃ (a : Fin 512) (b : Fin 1792), y = ix2 a b := ⟨y 0, y 1, eq_ix2 y⟩
  have hN : t.val < 24 := lt_of_lt_of_eq t.isLt N_0
  obtain ⟨i, hi⟩ : ∃ i : Fin 1024, i.val = t.val / 12 * 512 + a.val := ⟨⟨t.val / 12 * 512 + a.val, by omega⟩, rfl⟩
  obtain ⟨j, hj⟩ : ∃ j : Fin 5376, j.val = t.val / 4 % 3 * 1792 + b.val := ⟨⟨t.val / 4 % 3 * 1792 + b.val, by omega⟩, rfl⟩
  have e : ((cfg0.win 2).blk t).view.emb (ix2 a b) = ix2 i j := by
    obtain ⟨-, -, h0, h1⟩ := idx t
    funext d; apply Fin.ext
    match d with
    | ⟨0, _⟩ => show win0_2.index t (0 : Fin 2) * 512 + 1 * a.val = i.val; omega
    | ⟨1, _⟩ => show win0_2.index t (1 : Fin 2) * 1792 + 1 * b.val = j.val; omega
  rw [e, ref_apply]
  refine Eq.trans (α := EReal) ?_ (Fin.sum_mul_add_fin 4 1024 (factor (m ((c : Thread nD τ).loc main_arg0)) (m ((c : Thread nD τ).loc main_arg1)) i j))
  refine Finset.sum_congr rfl fun s _ => ?_
  rw [term_apply m c ⟨4 * (t.val / 4) + s.val, _⟩ a b i j (show i.val = (4 * (t.val / 4) + s.val) / 12 * 512 + a.val by omega) (show j.val = (4 * (t.val / 4) + s.val) / 4 % 3 * 1792 + b.val by omega)]
  refine Finset.sum_congr rfl fun k _ => ?_
  have hs : (4 * (t.val / 4) + s.val) % 4 = s.val := by omega
  simp only [hs]

/-- The kernel's run: its result array ends at the reference's function of its arguments, which end unchanged. -/
theorem run : θ_run defs (onTc (τ := τ) (main (F := Ideal))) ⟨m, fun _ => 0, ρ⟩ fun r => ∀ c : Dev nD,
      r.2.mem ((c : Thread nD τ).loc main_v2) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.ProjDw

end
-- ==== Proof.Proj.lean ====
/-
  The input projections: every block is the product of a row block
  and a column block, so the result array is the reference's product.
-/
module

public import proofs.«01_k».proof.Proof.Gen.ProjIdeal.Value
public import proofs.«01_k».proof.Proof.Gen.ProjRefIdeal.Run
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proj

open Idealize.ShloMosaic Idealize.ShloMosaic.TcCoe Idealize.SL.Sem

/-! ## The reference and the product of two blocks, at an entry -/

section Reference
open Cert.ProjRefIdeal Cert.ProjRefIdeal.Gen

/-- The reference's whole-array function: the product `x · w` with the bias `z` added to every row. -/
def ref (x : FVec Ideal S4096x1024 .f32) (w : FVec Ideal S1024x5376 .f32) (z : FVec Ideal S5376 .f32) : FVec Ideal S4096x5376 .f32 :=
  addf (Host.dotGeneral dot_S4096x1024_S1024x5376_S4096x5376_1_0_0_1_n_n none x w)
    (broadcastInDim S4096x5376 ![0, 1] bcast_S1x5376_S4096x5376_0_1 (broadcastInDim S1x5376 ![1] bcast_S5376_S1x5376_1 z))

/-- One product of the contraction for row `i`, column `j`. -/
def factor (x : FVec Ideal S4096x1024 .f32) (w : FVec Ideal S1024x5376 .f32) (i : Fin 4096) (j : Fin 5376) (k : Fin 1024) : EReal :=
  x (ix2 i k) * w (ix2 k j)

/-- The reference at row `i`, column `j`. -/
theorem ref_apply (x : FVec Ideal S4096x1024 .f32) (w : FVec Ideal S1024x5376 .f32) (z : FVec Ideal S5376 .f32) (i : Fin 4096) (j : Fin 5376) :
    ref x w z (ix2 i j) = (∑ k : Fin 1024, factor x w i j k) + z (ix1 j) := by
  pointwise [ref, factor]

end Reference

open Cert.ProjIdeal Cert.ProjIdeal.Gen

/-! ## The blocks of the grid -/

variable (m : (ℓ : Loc nD τ sig) → Buf (Elt Ideal) ℓ) (ρ : Dev nD → PrngReg)

/-- The blocks point `t` works on. -/
theorem idx (t : Fin cfg0.N) : (win0_0.index t (0 : Fin 2) = t.val / 3 ∧ win0_0.index t (1 : Fin 2) = 0)
    ∧ (win0_1.index t (0 : Fin 2) = 0 ∧ win0_1.index t (1 : Fin 2) = t.val % 3)
    ∧ (win0_3.index t (0 : Fin 2) = t.val / 3 ∧ win0_3.index t (1 : Fin 2) = t.val % 3)
    ∧ (win0_2.index t (0 : Fin 2) = 0 ∧ win0_2.index t (1 : Fin 2) = t.val % 3) :=
  (by decide +kernel : ∀ t : Fin grid0.N, (win0_0.index t (0 : Fin 2) = t.val / 3 ∧ win0_0.index t (1 : Fin 2) = 0)
    ∧ (win0_1.index t (0 : Fin 2) = 0 ∧ win0_1.index t (1 : Fin 2) = t.val % 3)
    ∧ (win0_3.index t (0 : Fin 2) = t.val / 3 ∧ win0_3.index t (1 : Fin 2) = t.val % 3)
    ∧ (win0_2.index t (0 : Fin 2) = 0 ∧ win0_2.index t (1 : Fin 2) = t.val % 3)) t

/-- The first operand's block at point `t`, read at an entry, is the operand at the entry's place in the whole array. -/
theorem blk0 (c : Dev nD) (t : Fin cfg0.N) (a : Fin 1024) (k : Fin 1024) (p : Fin 4096) (q : Fin 1024)
    (h0 : p.val = t.val / 3 * 1024 + a.val) (h1 : q.val = k.val) :
    iblk m c 0 t (ix2 a k) = m ((c : Thread nD τ).loc main_arg0) (ix2 p q) := by
  have e : ((cfg0.win 0).blk t).view.emb (ix2 a k) = ix2 p q := by
    obtain ⟨⟨e0, e1⟩, -⟩ := idx t
    funext d; apply Fin.ext
    match d with
    | ⟨0, _⟩ => show win0_0.index t (0 : Fin 2) * 1024 + 1 * a.val = p.val; omega
    | ⟨1, _⟩ => show win0_0.index t (1 : Fin 2) * 1024 + 1 * k.val = q.val; omega
  unfold iblk
  show V m c main_v0 (((cfg0.win 0).blk t).view.emb (ix2 a k)) = _
  rw [e]
  entry_read
  rfl

/-- The second operand's block likewise. -/
theorem blk1 (c : Dev nD) (t : Fin cfg0.N) (k : Fin 1024) (b : Fin 1792) (p : Fin 1024) (q : Fin 5376)
    (h0 : p.val = k.val) (h1 : q.val = t.val % 3 * 1792 + b.val) :
    iblk m c 1 t (ix2 k b) = m ((c : Thread nD τ).loc main_arg1) (ix2 p q) := by
  have e : ((cfg0.win 1).blk t).view.emb (ix2 k b) = ix2 p q := by
    obtain ⟨-, ⟨e0, e1⟩, -⟩ := idx t
    funext d; apply Fin.ext
    match d with
    | ⟨0, _⟩ => show win0_1.index t (0 : Fin 2) * 1024 + 1 * k.val = p.val; omega
    | ⟨1, _⟩ => show win0_1.index t (1 : Fin 2) * 1792 + 1 * b.val = q.val; omega
  unfold iblk
  show V m c main_v1 (((cfg0.win 1).blk t).view.emb (ix2 k b)) = _
  rw [e]
  entry_read
  rfl

/-- The bias block of point `t`, read at an entry. -/
theorem blk2 (c : Dev nD) (t : Fin cfg0.N) (b : Fin 1792) (q : Fin 5376) (hq : q.val = t.val % 3 * 1792 + b.val) :
    iblk m c 2 t (ix2 0 b) = m ((c : Thread nD τ).loc main_arg2) (ix1 q) := by
  have e : ((cfg0.win 2).blk t).view.emb (ix2 0 b) = ix2 (0 : Fin 1) q := by
    obtain ⟨-, -, -, e0, e1⟩ := idx t
    funext d; apply Fin.ext
    match d with
    | ⟨0, _⟩ => show win0_2.index t (0 : Fin 2) * 1 + 1 * 0 = 0; omega
    | ⟨1, _⟩ => show win0_2.index t (1 : Fin 2) * 1792 + 1 * b.val = q.val; omega
  unfold iblk
  show V m c main_v2 (((cfg0.win 2).blk t).view.emb (ix2 0 b)) = _
  rw [e]
  entry_read
  pointwise

/-- The block one point stores, at an entry: the product plus the bias. -/
theorem out_apply (u : Vec Ideal S1024x1024 .bf16) (v : Vec Ideal S1024x1792 .bf16) (z : Vec Ideal S1x1792 .f32) (a : Fin 1024) (b : Fin 1792) :
    k0_pay1 u v z (ix2 a b) = (∑ k : Fin 1024, u (ix2 a k) * v (ix2 k b)) + z (ix2 0 b) := by
  pointwise [k0_pay1]

/-- After the run the result array is the reference's function of the argument arrays. -/
theorem final (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨a, b, rfl⟩ : ∃ (a : Fin 1024) (b : Fin 1792), y = ix2 a b := ⟨y 0, y 1, eq_ix2 y⟩
  have hN : t.val < 12 := lt_of_lt_of_eq t.isLt N_0
  obtain ⟨i, hi⟩ : ∃ i : Fin 4096, i.val = t.val / 3 * 1024 + a.val := ⟨⟨t.val / 3 * 1024 + a.val, by omega⟩, rfl⟩
  obtain ⟨j, hj⟩ : ∃ j : Fin 5376, j.val = t.val % 3 * 1792 + b.val := ⟨⟨t.val % 3 * 1792 + b.val, by omega⟩, rfl⟩
  have e : ((cfg0.win 3).blk t).view.emb (ix2 a b) = ix2 i j := by
    obtain ⟨-, -, ⟨h0, h1⟩, -⟩ := idx t
    funext d; apply Fin.ext
    match d with
    | ⟨0, _⟩ => show win0_3.index t (0 : Fin 2) * 1024 + 1 * a.val = i.val; omega
    | ⟨1, _⟩ => show win0_3.index t (1 : Fin 2) * 1792 + 1 * b.val = j.val; omega
  rw [e, ref_apply, out_apply, blk2 m c t b j hj]
  refine congrArg (· + _) (Finset.sum_congr rfl fun k _ => ?_)
  rw [blk0 m c t a k i k hi rfl, blk1 m c t k b k j rfl hj]
  rfl

/-- The kernel's run: its result array ends at the reference's function of its arguments, which end unchanged. -/
theorem run : θ_run defs (onTc (τ := τ) (main (F := Ideal))) ⟨m, fun _ => 0, ρ⟩ fun r => ∀ c : Dev nD,
      r.2.mem ((c : Thread nD τ).loc main_v3) = ref (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Proj

end
-- ==== Proof.FfnOut.lean ====
/-
  The feed-forward output: every block is the product of a row block
  and a column block, so the result array is the reference's product.
-/
module

public import proofs.«01_k».proof.Proof.Gen.FfnOutIdeal.Value
public import proofs.«01_k».proof.Proof.Gen.FfnOutRefIdeal.Run
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FfnOut

open Idealize.ShloMosaic Idealize.ShloMosaic.TcCoe Idealize.SL.Sem

/-! ## The reference and the product of two blocks, at an entry -/

section Reference
open Cert.FfnOutRefIdeal Cert.FfnOutRefIdeal.Gen

/-- The reference's whole-array function: the product `x · w`. -/
def ref (x : FVec Ideal S4096x2816 .f32) (w : FVec Ideal S2816x1024 .f32) : FVec Ideal S4096x1024 .f32 :=
  Host.dotGeneral dot_S4096x2816_S2816x1024_S4096x1024_1_0_0_1_n_n none x w

/-- One product of the contraction for row `i`, column `j`. -/
def factor (x : FVec Ideal S4096x2816 .f32) (w : FVec Ideal S2816x1024 .f32) (i : Fin 4096) (j : Fin 1024) (k : Fin 2816) : EReal :=
  x (ix2 i k) * w (ix2 k j)

/-- The reference at row `i`, column `j`. -/
theorem ref_apply (x : FVec Ideal S4096x2816 .f32) (w : FVec Ideal S2816x1024 .f32) (i : Fin 4096) (j : Fin 1024) :
    ref x w (ix2 i j) = ∑ k : Fin 2816, factor x w i j k := by
  pointwise [ref, factor]

end Reference

open Cert.FfnOutIdeal Cert.FfnOutIdeal.Gen

/-! ## The blocks of the grid -/

variable (m : (ℓ : Loc nD τ sig) → Buf (Elt Ideal) ℓ) (ρ : Dev nD → PrngReg)

/-- The blocks point `t` works on. -/
theorem idx (t : Fin cfg0.N) : (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)) t

/-- The first operand's block at point `t`, read at an entry, is the operand at the entry's place in the whole array. -/
theorem blk0 (c : Dev nD) (t : Fin cfg0.N) (a : Fin 1024) (k : Fin 2816) (p : Fin 4096) (q : Fin 2816)
    (h0 : p.val = t.val * 1024 + a.val) (h1 : q.val = k.val) :
    iblk m c 0 t (ix2 a k) = m ((c : Thread nD τ).loc main_arg0) (ix2 p q) := by
  have e : ((cfg0.win 0).blk t).view.emb (ix2 a k) = ix2 p q := by
    obtain ⟨⟨e0, e1⟩, -⟩ := idx t
    funext d; apply Fin.ext
    match d with
    | ⟨0, _⟩ => show win0_0.index t (0 : Fin 2) * 1024 + 1 * a.val = p.val; omega
    | ⟨1, _⟩ => show win0_0.index t (1 : Fin 2) * 2816 + 1 * k.val = q.val; omega
  unfold iblk
  show V m c main_v0 (((cfg0.win 0).blk t).view.emb (ix2 a k)) = _
  rw [e]
  entry_read
  rfl

/-- The second operand's block likewise. -/
theorem blk1 (c : Dev nD) (t : Fin cfg0.N) (k : Fin 2816) (b : Fin 1024) (p : Fin 2816) (q : Fin 1024)
    (h0 : p.val = k.val) (h1 : q.val = b.val) :
    iblk m c 1 t (ix2 k b) = m ((c : Thread nD τ).loc main_arg1) (ix2 p q) := by
  have e : ((cfg0.win 1).blk t).view.emb (ix2 k b) = ix2 p q := by
    obtain ⟨-, ⟨e0, e1⟩, -⟩ := idx t
    funext d; apply Fin.ext
    match d with
    | ⟨0, _⟩ => show win0_1.index t (0 : Fin 2) * 2816 + 1 * k.val = p.val; omega
    | ⟨1, _⟩ => show win0_1.index t (1 : Fin 2) * 1024 + 1 * b.val = q.val; omega
  unfold iblk
  show V m c main_v1 (((cfg0.win 1).blk t).view.emb (ix2 k b)) = _
  rw [e]
  entry_read
  rfl

/-- The block one point stores, at an entry: the product of its two operand blocks. -/
theorem out_apply (u : Vec Ideal S1024x2816 .bf16) (v : Vec Ideal S2816x1024 .bf16) (a : Fin 1024) (b : Fin 1024) :
    k0_pay1 u v (ix2 a b) = ∑ k : Fin 2816, u (ix2 a k) * v (ix2 k b) := by
  pointwise [k0_pay1]

/-- After the run the result array is the reference's function of the argument arrays. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1024) (b : Fin 1024), y = ix2 a b := ⟨y 0, y 1, eq_ix2 y⟩
  have hN : t.val < 4 := lt_of_lt_of_eq t.isLt N_0
  obtain ⟨i, hi⟩ : ∃ i : Fin 4096, i.val = t.val * 1024 + a.val := ⟨⟨t.val * 1024 + a.val, by omega⟩, rfl⟩
  obtain ⟨j, hj⟩ : ∃ j : Fin 1024, j.val = b.val := ⟨⟨b.val, by omega⟩, rfl⟩
  have e : ((cfg0.win 2).blk t).view.emb (ix2 a b) = ix2 i j := by
    obtain ⟨-, -, ⟨h0, h1⟩⟩ := idx t
    funext d; apply Fin.ext
    match d with
    | ⟨0, _⟩ => show win0_2.index t (0 : Fin 2) * 1024 + 1 * a.val = i.val; omega
    | ⟨1, _⟩ => show win0_2.index t (1 : Fin 2) * 1024 + 1 * b.val = j.val; omega
  rw [e, ref_apply, out_apply]
  refine Finset.sum_congr (M := EReal) rfl fun k _ => ?_
  rw [blk0 m c t a k i k hi rfl, blk1 m c t k b k j rfl hj]
  rfl

/-- The kernel's run: its result array ends at the reference's function of its arguments, which end unchanged. -/
theorem run : θ_run defs (onTc (τ := τ) (main (F := Ideal))) ⟨m, fun _ => 0, ρ⟩ fun r => ∀ c : Dev nD,
      r.2.mem ((c : Thread nD τ).loc main_v2) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.FfnOut

end
-- ==== Proof.Wout.lean ====
/-
  The output projection: every block is the product of a row block
  and a column block, so the result array is the reference's product.
-/
module

public import proofs.«01_k».proof.Proof.Gen.WoutIdeal.Value
public import proofs.«01_k».proof.Proof.Gen.WoutRefIdeal.Run
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Wout

open Idealize.ShloMosaic Idealize.ShloMosaic.TcCoe Idealize.SL.Sem

/-! ## The reference and the product of two blocks, at an entry -/

section Reference
open Cert.WoutRefIdeal Cert.WoutRefIdeal.Gen

/-- The reference's whole-array function: the product `x · w`. -/
def ref (x : FVec Ideal S4096x1024 .f32) (w : FVec Ideal S1024x1024 .f32) : FVec Ideal S4096x1024 .f32 :=
  Host.dotGeneral dot_S4096x1024_S1024x1024_S4096x1024_1_0_0_1_n_n none x w

/-- One product of the contraction for row `i`, column `j`. -/
def factor (x : FVec Ideal S4096x1024 .f32) (w : FVec Ideal S1024x1024 .f32) (i : Fin 4096) (j : Fin 1024) (k : Fin 1024) : EReal :=
  x (ix2 i k) * w (ix2 k j)

/-- The reference at row `i`, column `j`. -/
theorem ref_apply (x : FVec Ideal S4096x1024 .f32) (w : FVec Ideal S1024x1024 .f32) (i : Fin 4096) (j : Fin 1024) :
    ref x w (ix2 i j) = ∑ k : Fin 1024, factor x w i j k := by
  pointwise [ref, factor]

end Reference

open Cert.WoutIdeal Cert.WoutIdeal.Gen

/-! ## The blocks of the grid -/

variable (m : (ℓ : Loc nD τ sig) → Buf (Elt Ideal) ℓ) (ρ : Dev nD → PrngReg)

/-- The blocks point `t` works on. -/
theorem idx (t : Fin cfg0.N) : (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)) t

/-- The first operand's block at point `t`, read at an entry, is the operand at the entry's place in the whole array. -/
theorem blk0 (c : Dev nD) (t : Fin cfg0.N) (a : Fin 1024) (k : Fin 1024) (p : Fin 4096) (q : Fin 1024)
    (h0 : p.val = t.val * 1024 + a.val) (h1 : q.val = k.val) :
    iblk m c 0 t (ix2 a k) = m ((c : Thread nD τ).loc main_arg0) (ix2 p q) := by
  have e : ((cfg0.win 0).blk t).view.emb (ix2 a k) = ix2 p q := by
    obtain ⟨⟨e0, e1⟩, -⟩ := idx t
    funext d; apply Fin.ext
    match d with
    | ⟨0, _⟩ => show win0_0.index t (0 : Fin 2) * 1024 + 1 * a.val = p.val; omega
    | ⟨1, _⟩ => show win0_0.index t (1 : Fin 2) * 1024 + 1 * k.val = q.val; omega
  unfold iblk
  show V m c main_v0 (((cfg0.win 0).blk t).view.emb (ix2 a k)) = _
  rw [e]
  entry_read
  rfl

/-- The second operand's block likewise. -/
theorem blk1 (c : Dev nD) (t : Fin cfg0.N) (k : Fin 1024) (b : Fin 1024) (p : Fin 1024) (q : Fin 1024)
    (h0 : p.val = k.val) (h1 : q.val = b.val) :
    iblk m c 1 t (ix2 k b) = m ((c : Thread nD τ).loc main_arg1) (ix2 p q) := by
  have e : ((cfg0.win 1).blk t).view.emb (ix2 k b) = ix2 p q := by
    obtain ⟨-, ⟨e0, e1⟩, -⟩ := idx t
    funext d; apply Fin.ext
    match d with
    | ⟨0, _⟩ => show win0_1.index t (0 : Fin 2) * 1024 + 1 * k.val = p.val; omega
    | ⟨1, _⟩ => show win0_1.index t (1 : Fin 2) * 1024 + 1 * b.val = q.val; omega
  unfold iblk
  show V m c main_v1 (((cfg0.win 1).blk t).view.emb (ix2 k b)) = _
  rw [e]
  entry_read
  rfl

/-- The block one point stores, at an entry: the product of its two operand blocks. -/
theorem out_apply (u : Vec Ideal S1024x1024 .bf16) (v : Vec Ideal S1024x1024 .bf16) (a : Fin 1024) (b : Fin 1024) :
    k0_pay1 u v (ix2 a b) = ∑ k : Fin 1024, u (ix2 a k) * v (ix2 k b) := by
  pointwise [k0_pay1]

/-- After the run the result array is the reference's function of the argument arrays. -/
theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1024) (b : Fin 1024), y = ix2 a b := ⟨y 0, y 1, eq_ix2 y⟩
  have hN : t.val < 4 := lt_of_lt_of_eq t.isLt N_0
  obtain ⟨i, hi⟩ : ∃ i : Fin 4096, i.val = t.val * 1024 + a.val := ⟨⟨t.val * 1024 + a.val, by omega⟩, rfl⟩
  obtain ⟨j, hj⟩ : ∃ j : Fin 1024, j.val = b.val := ⟨⟨b.val, by omega⟩, rfl⟩
  have e : ((cfg0.win 2).blk t).view.emb (ix2 a b) = ix2 i j := by
    obtain ⟨-, -, ⟨h0, h1⟩⟩ := idx t
    funext d; apply Fin.ext
    match d with
    | ⟨0, _⟩ => show win0_2.index t (0 : Fin 2) * 1024 + 1 * a.val = i.val; omega
    | ⟨1, _⟩ => show win0_2.index t (1 : Fin 2) * 1024 + 1 * b.val = j.val; omega
  rw [e, ref_apply, out_apply]
  refine Finset.sum_congr (M := EReal) rfl fun k _ => ?_
  rw [blk0 m c t a k i k hi rfl, blk1 m c t k b k j rfl hj]
  rfl

/-- The kernel's run: its result array ends at the reference's function of its arguments, which end unchanged. -/
theorem run : θ_run defs (onTc (τ := τ) (main (F := Ideal))) ⟨m, fun _ => 0, ρ⟩ fun r => ∀ c : Dev nD,
      r.2.mem ((c : Thread nD τ).loc main_v2) = ref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Wout

end
-- ==== Proof.Merge.lean ====
/-
  The backward pass of the gated merge: the three branches' products with their gates, and the gates' slopes. A row's
  gradients need that row alone, so each block of the six row-wise results is the reference's; the weights' gradient is
  a sum over all rows, accumulated block by block.
-/
module

public import proofs.«01_k».proof.Proof.Gen.MergeIdeal.Value
public import proofs.«01_k».proof.Proof.Gen.MergeRefIdeal.Run
public import proofs.«01_k».proof.Proof.Sigmoid
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Merge

open Idealize.ShloMosaic Idealize.ShloMosaic.TcCoe Idealize.SL.Sem Cert.Math

/-! ## The reference, at an entry -/

section Reference
open Cert.MergeRefIdeal Cert.MergeRefIdeal.Gen

/-- The gate `1 / (1 + exp (-l))` of the logits `l`. -/
def gate (l : FVec Ideal S4096x1024 .f32) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf l)))

/-- The cotangent times the gate. -/
def gated (l d : FVec Ideal S4096x1024 .f32) : FVec Ideal S4096x1024 .f32 :=
  mulf (gate l) (shapeCast _ d shapeCasts_S4096x1024_S4096x1024)

/-- The gradient of a branch's input: the gated cotangent times the rows of the branch's weights. -/
def dIn (l d : FVec Ideal S4096x1024 .f32) (w : FVec Ideal S512x1024 .f32) : FVec Ideal S4096x512 .f32 :=
  Host.dotGeneral dot_S4096x1024_S512x1024_S4096x512_1_1_0_0_n_n none (gated l d) w

/-- The gradient of a branch's logits: the cotangent times the branch's product times the gate's slope. -/
def dLogit (y : FVec Ideal S4096x512 .f32) (l d : FVec Ideal S4096x1024 .f32) (w : FVec Ideal S512x1024 .f32) : FVec Ideal S4096x1024 .f32 :=
  mulf (mulf (shapeCast _ d shapeCasts_S4096x1024_S4096x1024) (Host.dotGeneral dot_S4096x512_S512x1024_S4096x1024_1_0_0_1_n_n none y w))
    (mulf (gate l) (subf (broadcastInDim S4096x1024 ![] bcast_S_S4096x1024 (constant S_ .f32 0x3F800000#32)) (gate l)))

/-- The gradient of a branch's weights: the columns of the branch's input times the columns of the gated cotangent. -/
def dWeight (y : FVec Ideal S4096x512 .f32) (l d : FVec Ideal S4096x1024 .f32) : FVec Ideal S512x1024 .f32 :=
  transpose S512x1024 [1, 0] (Host.dotGeneral dot_S4096x1024_S4096x512_S1024x512_0_0_1_1_n_n none (gated l d) y) transposes_S1024x512_S512x1024_1_0

/-- The first branch's logits: columns `0` to `1023` of the projections. -/
def logit0 (p : FVec Ideal S4096x5376 .f32) : FVec Ideal S4096x1024 .f32 :=
  extractStridedSlice S4096x1024 ![0, 0] p slices_S4096x5376_S4096x1024_0_0

/-- The first branch's weights. -/
def weight0 (w : FVec Ideal S3x512x1024 .f32) : FVec Ideal S512x1024 .f32 :=
  shapeCast _ (extractStridedSlice S1x512x1024 ![0, 0, 0] w slices_S3x512x1024_S1x512x1024_0_0_0) shapeCasts_S1x512x1024_S512x1024

/-- The reference's gradient of the first branch's input. -/
def ref0 (p : FVec Ideal S4096x5376 .f32) (d : FVec Ideal S4096x1024 .f32) (w : FVec Ideal S3x512x1024 .f32) : FVec Ideal S4096x512 .f32 :=
  dIn (logit0 p) d (weight0 w)

/-- The reference's gradient of the first branch's logits. -/
def ref3 (p : FVec Ideal S4096x5376 .f32) (y : FVec Ideal S4096x512 .f32) (d : FVec Ideal S4096x1024 .f32) (w : FVec Ideal S3x512x1024 .f32) : FVec Ideal S4096x1024 .f32 :=
  dLogit y (logit0 p) d (weight0 w)

/-- The second branch's logits: columns `1024` to `2047` of the projections. -/
def logit1 (p : FVec Ideal S4096x5376 .f32) : FVec Ideal S4096x1024 .f32 :=
  extractStridedSlice S4096x1024 ![0, 1024] p slices_S4096x5376_S4096x1024_0_1024

/-- The second branch's weights. -/
def weight1 (w : FVec Ideal S3x512x1024 .f32) : FVec Ideal S512x1024 .f32 :=
  shapeCast _ (extractStridedSlice S1x512x1024 ![1, 0, 0] w slices_S3x512x1024_S1x512x1024_1_0_0) shapeCasts_S1x512x1024_S512x1024

/-- The reference's gradient of the second branch's input. -/
def ref1 (p : FVec Ideal S4096x5376 .f32) (d : FVec Ideal S4096x1024 .f32) (w : FVec Ideal S3x512x1024 .f32) : FVec Ideal S4096x512 .f32 :=
  dIn (logit1 p) d (weight1 w)

/-- The reference's gradient of the second branch's logits. -/
def ref4 (p : FVec Ideal S4096x5376 .f32) (y : FVec Ideal S4096x512 .f32) (d : FVec Ideal S4096x1024 .f32) (w : FVec Ideal S3x512x1024 .f32) : FVec Ideal S4096x1024 .f32 :=
  dLogit y (logit1 p) d (weight1 w)

/-- The third branch's logits: columns `2048` to `3071` of the projections. -/
def logit2 (p : FVec Ideal S4096x5376 .f32) : FVec Ideal S4096x1024 .f32 :=
  extractStridedSlice S4096x1024 ![0, 2048] p slices_S4096x5376_S4096x1024_0_2048

/-- The third branch's weights. -/
def weight2 (w : FVec Ideal S3x512x1024 .f32) : FVec Ideal S512x1024 .f32 :=
  shapeCast _ (extractStridedSlice S1x512x1024 ![2, 0, 0] w slices_S3x512x1024_S1x512x1024_2_0_0) shapeCasts_S1x512x1024_S512x1024

/-- The reference's gradient of the third branch's input. -/
def ref2 (p : FVec Ideal S4096x5376 .f32) (d : FVec Ideal S4096x1024 .f32) (w : FVec Ideal S3x512x1024 .f32) : FVec Ideal S4096x512 .f32 :=
  dIn (logit2 p) d (weight2 w)

/-- The reference's gradient of the third branch's logits. -/
def ref5 (p : FVec Ideal S4096x5376 .f32) (y : FVec Ideal S4096x512 .f32) (d : FVec Ideal S4096x1024 .f32) (w : FVec Ideal S3x512x1024 .f32) : FVec Ideal S4096x1024 .f32 :=
  dLogit y (logit2 p) d (weight2 w)

/-- The reference's gradient of the weights: the three branches' below one another. -/
def ref6 (p : FVec Ideal S4096x5376 .f32) (y0 y1 y2 : FVec Ideal S4096x512 .f32) (d : FVec Ideal S4096x1024 .f32) : FVec Ideal S1536x1024 .f32 :=
  concatenate S1536x1024 0 [⟨S512x1024, dWeight y0 (logit0 p) d⟩, ⟨S512x1024, dWeight y1 (logit1 p) d⟩, ⟨S512x1024, dWeight y2 (logit2 p) d⟩] concatenates_S512x1024_S512x1024_S512x1024_S1536x1024_d0

/-- A gated cotangent at an entry: the gate of the logit `l` times the cotangent `d`. -/
def g (l d : EReal) : EReal := sigm l * d

/-- A logit's gradient: `d` the cotangent, `u` the branch's product there, `l` the logit. -/
def slope (l d u : EReal) : EReal := d * u * (sigm l * (1 - sigm l))

theorem dIn_apply (l d : FVec Ideal S4096x1024 .f32) (w : FVec Ideal S512x1024 .f32) (i : Fin 4096) (q : Fin 512) :
    dIn l d w (ix2 i q) = ∑ k : Fin 1024, g (l (ix2 i k)) (d (ix2 i k)) * w (ix2 q k) := by
  pointwise [dIn, gated, gate, g, sigm]

theorem dLogit_apply (y : FVec Ideal S4096x512 .f32) (l d : FVec Ideal S4096x1024 .f32) (w : FVec Ideal S512x1024 .f32) (i : Fin 4096) (j : Fin 1024) :
    dLogit y l d w (ix2 i j) = slope (l (ix2 i j)) (d (ix2 i j)) (∑ k : Fin 512, y (ix2 i k) * w (ix2 k j)) := by
  pointwise [dLogit, gate, slope, sigm]

theorem dWeight_apply (y : FVec Ideal S4096x512 .f32) (l d : FVec Ideal S4096x1024 .f32) (q : Fin 512) (j : Fin 1024) :
    dWeight y l d (ix2 q j) = ∑ i : Fin 4096, g (l (ix2 i j)) (d (ix2 i j)) * y (ix2 i q) := by
  pointwise [dWeight, gated, gate, g, sigm]

theorem logit0_apply (p : FVec Ideal S4096x5376 .f32) (i : Fin 4096) (j : Fin 1024) (r : Fin 5376) (hr : r.val = 0 + j.val) :
    logit0 p (ix2 i j) = p (ix2 i r) := by
  pointwise [logit0]
  rw [show (⟨j.val, by omega⟩ : Fin 5376) = r from Fin.ext (show j.val = r.val by omega)]

theorem weight0_apply (w : FVec Ideal S3x512x1024 .f32) (q : Fin 512) (j : Fin 1024) :
    weight0 w (ix2 q j) = w (ix3 0 q j) := by
  pointwise [weight0]

theorem logit1_apply (p : FVec Ideal S4096x5376 .f32) (i : Fin 4096) (j : Fin 1024) (r : Fin 5376) (hr : r.val = 1024 + j.val) :
    logit1 p (ix2 i j) = p (ix2 i r) := by
  pointwise [logit1]
  rw [show (⟨1024 + j.val, by omega⟩ : Fin 5376) = r from Fin.ext (show 1024 + j.val = r.val by omega)]

theorem weight1_apply (w : FVec Ideal S3x512x1024 .f32) (q : Fin 512) (j : Fin 1024) :
    weight1 w (ix2 q j) = w (ix3 1 q j) := by
  pointwise [weight1]

theorem logit2_apply (p : FVec Ideal S4096x5376 .f32) (i : Fin 4096) (j : Fin 1024) (r : Fin 5376) (hr : r.val = 2048 + j.val) :
    logit2 p (ix2 i j) = p (ix2 i r) := by
  pointwise [logit2]
  rw [show (⟨2048 + j.val, by omega⟩ : Fin 5376) = r from Fin.ext (show 2048 + j.val = r.val by omega)]

theorem weight2_apply (w : FVec Ideal S3x512x1024 .f32) (q : Fin 512) (j : Fin 1024) :
    weight2 w (ix2 q j) = w (ix3 2 q j) := by
  pointwise [weight2]

/-- Row `0 + q` of the weights' gradient is row `q` of the first branch's. -/
theorem ref6_apply0 (p : FVec Ideal S4096x5376 .f32) (y0 y1 y2 : FVec Ideal S4096x512 .f32) (d : FVec Ideal S4096x1024 .f32)
    (r : Fin 1536) (q : Fin 512) (h : r.val = 0 + q.val) (j : Fin 1024) :
    ref6 p y0 y1 y2 d (ix2 r j) = dWeight y0 (logit0 p) d (ix2 q j) := by
  pointwise [ref6]
  rw [dif_pos (by omega)]
  exact congrArg (dWeight y0 (logit0 p) d) (congrArg (ix2 · j) (Fin.ext (show r.val = q.val by omega)))

/-- Row `512 + q` of the weights' gradient is row `q` of the second branch's. -/
theorem ref6_apply1 (p : FVec Ideal S4096x5376 .f32) (y0 y1 y2 : FVec Ideal S4096x512 .f32) (d : FVec Ideal S4096x1024 .f32)
    (r : Fin 1536) (q : Fin 512) (h : r.val = 512 + q.val) (j : Fin 1024) :
    ref6 p y0 y1 y2 d (ix2 r j) = dWeight y1 (logit1 p) d (ix2 q j) := by
  pointwise [ref6]
  rw [dif_neg (by omega), dif_pos (by omega)]
  exact congrArg (dWeight y1 (logit1 p) d) (congrArg (ix2 · j) (Fin.ext (show r.val - 512 = q.val by omega)))

/-- Row `1024 + q` of the weights' gradient is row `q` of the third branch's. -/
theorem ref6_apply2 (p : FVec Ideal S4096x5376 .f32) (y0 y1 y2 : FVec Ideal S4096x512 .f32) (d : FVec Ideal S4096x1024 .f32)
    (r : Fin 1536) (q : Fin 512) (h : r.val = 1024 + q.val) (j : Fin 1024) :
    ref6 p y0 y1 y2 d (ix2 r j) = dWeight y2 (logit2 p) d (ix2 q j) := by
  pointwise [ref6]
  rw [dif_neg (by omega), dif_neg (by omega)]
  exact congrArg (dWeight y2 (logit2 p) d) (congrArg (ix2 · j) (Fin.ext (show r.val - 512 - 512 = q.val by omega)))

end Reference

/-! ## One block's payloads, at an entry -/

open Cert.MergeIdeal Cert.MergeIdeal.Gen

variable (y0 y1 y2 : Vec Ideal S256x512 .bf16) (l d : Vec Ideal S256x1024 .f32) (w : Vec Ideal S1536x1024 .f32)

theorem in0_apply (a : Fin 256) (q : Fin 512) :
    k0_pay32 (k0_pay9 l) (k0_pay11 w) (k0_pay21 d) (ix2 a q) = ∑ k : Fin 1024, g (l (ix2 a k)) (d (ix2 a k)) * w (ix2 ⟨q.val, by omega⟩ k) := by
  pointwise [k0_pay32, k0_pay31, k0_pay9, k0_pay8, k0_pay7, k0_pay11, k0_pay3, k0_pay21, g, sigm]
  simp only [zero_sub]

theorem in1_apply (a : Fin 256) (q : Fin 512) :
    k0_pay29 d (k0_pay3 w) (k0_pay14 l) k0_pay15 (ix2 a q) = ∑ k : Fin 1024, g (l (ix2 a k)) (d (ix2 a k)) * w (ix2 ⟨512 + q.val, by omega⟩ k) := by
  pointwise [k0_pay29, k0_pay28, k0_pay17, k0_pay3, k0_pay14, k0_pay13, k0_pay15, k0_pay21, g, sigm]
  simp only [zero_sub]

theorem in2_apply (a : Fin 256) (q : Fin 512) :
    k0_pay24 l d (k0_pay3 w) (ix2 a q) = ∑ k : Fin 1024, g (l (ix2 a k)) (d (ix2 a k)) * w (ix2 ⟨1024 + q.val, by omega⟩ k) := by
  pointwise [k0_pay24, k0_pay23, k0_pay20, k0_pay19, k0_pay18, k0_pay3, k0_pay22, g, sigm]
  simp only [zero_sub]

theorem lg0_apply (a : Fin 256) (j : Fin 1024) :
    k0_pay34 (k0_pay7 l) (k0_pay10 l) (k0_pay12 y0 w) (k0_pay21 d) (ix2 a j)
      = slope (l (ix2 a j)) (d (ix2 a j)) (∑ k : Fin 512, y0 (ix2 a k) * w (ix2 ⟨k.val, by omega⟩ j)) := by
  pointwise [k0_pay34, k0_pay12, k0_pay11, k0_pay10, k0_pay8, k0_pay7, k0_pay4, k0_pay3, k0_pay21, slope]
  simp only [zero_sub, mul_one, slope_chain]

theorem lg1_apply (a : Fin 256) (j : Fin 1024) :
    k0_pay30 (k0_pay13 l) (k0_pay16 (k0_pay14 l)) (k0_pay27 d (k0_pay3 w) (k0_pay5 y1)) (ix2 a j)
      = slope (l (ix2 a j)) (d (ix2 a j)) (∑ k : Fin 512, y1 (ix2 a k) * w (ix2 ⟨512 + k.val, by omega⟩ j)) := by
  pointwise [k0_pay30, k0_pay27, k0_pay17, k0_pay16, k0_pay14, k0_pay13, k0_pay5, k0_pay3, k0_pay21, slope]
  simp only [zero_sub, mul_one, slope_chain]

theorem lg2_apply (a : Fin 256) (j : Fin 1024) :
    k0_pay26 l d (k0_pay3 w) (k0_pay6 y2) (ix2 a j)
      = slope (l (ix2 a j)) (d (ix2 a j)) (∑ k : Fin 512, y2 (ix2 a k) * w (ix2 ⟨1024 + k.val, by omega⟩ j)) := by
  pointwise [k0_pay26, k0_pay20, k0_pay19, k0_pay18, k0_pay6, k0_pay3, k0_pay22, slope]
  simp only [zero_sub, mul_one, slope_chain]

variable (l0 l1 l2 : Vec Ideal S256x1024 .f32)

/-- One block's share of the weights' gradient. -/
def part : Vec Ideal S1536x1024 .f32 :=
  k0_pay33 (k0_pay4 y0) (k0_pay5 y1) (k0_pay9 l0) (k0_pay21 d) (k0_pay25 l2 d (k0_pay6 y2)) (k0_pay28 d (k0_pay14 l1) k0_pay15)

/-- Its row `0 + q`: the first branch's products over the block's rows. -/
theorem part_apply0 (r : Fin 1536) (q : Fin 512) (h : r.val = 0 + q.val) (j : Fin 1024) :
    part y0 y1 y2 d l0 l1 l2 (ix2 r j) = ∑ i : Fin 256, g (l0 (ix2 i j)) (d (ix2 i j)) * y0 (ix2 i q) := by
  pointwise [part, k0_pay33, k0_pay31, k0_pay28, k0_pay25, k0_pay23, k0_pay22, k0_pay21, k0_pay19, k0_pay18, k0_pay15, k0_pay14, k0_pay13, k0_pay9, k0_pay8, k0_pay7, k0_pay6, k0_pay5, k0_pay4, g, sigm]
  rw [dif_pos (show r.val < 1024 by omega), dif_pos (show r.val < 1024 by omega), dif_pos (show r.val < 512 by omega), dif_pos (show r.val < 512 by omega), zero_add, zero_add]
  simp only [zero_sub]
  refine Finset.sum_congr rfl fun i _ => ?_
  rw [show (⟨r.val, by omega⟩ : Fin 512) = q from Fin.ext (show r.val = q.val by omega), mul_comm]

/-- Its row `512 + q`: the second branch's products over the block's rows. -/
theorem part_apply1 (r : Fin 1536) (q : Fin 512) (h : r.val = 512 + q.val) (j : Fin 1024) :
    part y0 y1 y2 d l0 l1 l2 (ix2 r j) = ∑ i : Fin 256, g (l1 (ix2 i j)) (d (ix2 i j)) * y1 (ix2 i q) := by
  pointwise [part, k0_pay33, k0_pay31, k0_pay28, k0_pay25, k0_pay23, k0_pay22, k0_pay21, k0_pay19, k0_pay18, k0_pay15, k0_pay14, k0_pay13, k0_pay9, k0_pay8, k0_pay7, k0_pay6, k0_pay5, k0_pay4, g, sigm]
  rw [dif_pos (show r.val < 1024 by omega), dif_pos (show r.val < 1024 by omega), dif_neg (show ¬r.val < 512 by omega), dif_neg (show ¬r.val < 512 by omega), zero_add, add_zero]
  simp only [zero_sub]
  refine Finset.sum_congr rfl fun i _ => ?_
  rw [show (⟨r.val - 512, by omega⟩ : Fin 512) = q from Fin.ext (show r.val - 512 = q.val by omega), mul_comm]

/-- Its row `1024 + q`: the third branch's products over the block's rows. -/
theorem part_apply2 (r : Fin 1536) (q : Fin 512) (h : r.val = 1024 + q.val) (j : Fin 1024) :
    part y0 y1 y2 d l0 l1 l2 (ix2 r j) = ∑ i : Fin 256, g (l2 (ix2 i j)) (d (ix2 i j)) * y2 (ix2 i q) := by
  pointwise [part, k0_pay33, k0_pay31, k0_pay28, k0_pay25, k0_pay23, k0_pay22, k0_pay21, k0_pay19, k0_pay18, k0_pay15, k0_pay14, k0_pay13, k0_pay9, k0_pay8, k0_pay7, k0_pay6, k0_pay5, k0_pay4, g, sigm]
  rw [dif_neg (show ¬r.val < 1024 by omega), dif_neg (show ¬r.val < 1024 by omega), dif_neg (show ¬r.val < 512 by omega), add_zero, add_zero]
  simp only [zero_sub]
  refine Finset.sum_congr rfl fun i _ => ?_
  rw [show (⟨r.val - 1024, by omega⟩ : Fin 512) = q from Fin.ext (show r.val - 1024 = q.val by omega), mul_comm]

/-- A first point's weights' gradient is reset; a later point adds its share. -/
theorem next_apply (v z : FVec Ideal S1536x1024 .f32) (y : S1536x1024.Idx) : k0_pay2 v z y = z y + v y := by
  obtain ⟨a, b, rfl⟩ : ∃ (a : Fin 1536) (b : Fin 1024), y = ix2 a b := ⟨y 0, y 1, eq_ix2 y⟩
  pointwise [k0_pay2]

theorem zero_apply (y : S1536x1024.Idx) : (k0_pay1 (F := Ideal)) y = 0 := by
  obtain ⟨a, b, rfl⟩ : ∃ (a : Fin 1536) (b : Fin 1024), y = ix2 a b := ⟨y 0, y 1, eq_ix2 y⟩
  pointwise [k0_pay1]

/-- The weights laid out as one matrix, the three branches' rows below one another. -/
theorem flat_apply (w : FVec Ideal S3x512x1024 .f32) (r : Fin 1536) (j : Fin 1024) :
    extf .f32 (shapeCast S1536x1024 (truncf .bf16 w bitsLt_bf16_f32) shapeCasts_S3x512x1024_S1536x1024) bitsLt_bf16_f32 (ix2 r j)
      = w (ix3 ⟨r.val / 512, by omega⟩ ⟨r.val % 512, by omega⟩ j) := by
  pointwise

/-! ## The blocks of the grid -/

variable (m : (ℓ : Loc nD τ sig) → Buf (Elt Ideal) ℓ) (ρ : Dev nD → PrngReg)

/-- The blocks point `t` works on: rows `256 t` to `256 t + 255`, the whole weights, and their whole gradient. -/
theorem idx (t : Fin cfg0.N) : (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 1)
    ∧ (win0_5.index t (0 : Fin 2) = t.val ∧ win0_5.index t (1 : Fin 2) = 2)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = 0 ∧ win0_14.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 1)
    ∧ (win0_5.index t (0 : Fin 2) = t.val ∧ win0_5.index t (1 : Fin 2) = 2)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = 0 ∧ win0_14.index t (1 : Fin 2) = 0)) t

/-- The first branch's input at point `t`. -/
theorem blkY0 (c : Dev nD) (t : Fin cfg0.N) (a : Fin 256) (q : Fin 512) (i : Fin 4096) (hi : i.val = t.val * 256 + a.val) :
    iblk m c 0 t (ix2 a q) = m ((c : Thread nD τ).loc main_arg1) (ix2 i q) := by
  have e : ((cfg0.win 0).blk t).view.emb (ix2 a q) = ix2 i q := by
    obtain ⟨⟨e0, e1⟩, -⟩ := idx t
    funext d; apply Fin.ext
    match d with
    | ⟨0, _⟩ => show win0_0.index t (0 : Fin 2) * 256 + 1 * a.val = i.val; omega
    | ⟨1, _⟩ => show win0_0.index t (1 : Fin 2) * 512 + 1 * q.val = q.val; omega
  unfold iblk
  show V m c main_v3 (((cfg0.win 0).blk t).view.emb (ix2 a q)) = _
  rw [e]
  entry_read
  rfl

/-- The second branch's input at point `t`. -/
theorem blkY1 (c : Dev nD) (t : Fin cfg0.N) (a : Fin 256) (q : Fin 512) (i : Fin 4096) (hi : i.val = t.val * 256 + a.val) :
    iblk m c 1 t (ix2 a q) = m ((c : Thread nD τ).loc main_arg2) (ix2 i q) := by
  have e : ((cfg0.win 1).blk t).view.emb (ix2 a q) = ix2 i q := by
    obtain ⟨-, ⟨e0, e1⟩, -⟩ := idx t
    funext d; apply Fin.ext
    match d with
    | ⟨0, _⟩ => show win0_1.index t (0 : Fin 2) * 256 + 1 * a.val = i.val; omega
    | ⟨1, _⟩ => show win0_1.index t (1 : Fin 2) * 512 + 1 * q.val = q.val; omega
  unfold iblk
  show V m c main_v4 (((cfg0.win 1).blk t).view.emb (ix2 a q)) = _
  rw [e]
  entry_read
  rfl

/-- The third branch's input at point `t`. -/
theorem blkY2 (c : Dev nD) (t : Fin cfg0.N) (a : Fin 256) (q : Fin 512) (i : Fin 4096) (hi : i.val = t.val * 256 + a.val) :
    iblk m c 2 t (ix2 a q) = m ((c : Thread nD τ).loc main_arg3) (ix2 i q) := by
  have e : ((cfg0.win 2).blk t).view.emb (ix2 a q) = ix2 i q := by
    obtain ⟨-, -, ⟨e0, e1⟩, -⟩ := idx t
    funext d; apply Fin.ext
    match d with
    | ⟨0, _⟩ => show win0_2.index t (0 : Fin 2) * 256 + 1 * a.val = i.val; omega
    | ⟨1, _⟩ => show win0_2.index t (1 : Fin 2) * 512 + 1 * q.val = q.val; omega
  unfold iblk
  show V m c main_v5 (((cfg0.win 2).blk t).view.emb (ix2 a q)) = _
  rw [e]
  entry_read
  rfl

/-- The first branch's logits at point `t`. -/
theorem blkL0 (c : Dev nD) (t : Fin cfg0.N) (a : Fin 256) (j : Fin 1024) (i : Fin 4096) (hi : i.val = t.val * 256 + a.val) :
    X0_3 m c t (ix2 a j) = logit0 (m ((c : Thread nD τ).loc main_arg0)) (ix2 i j) := by
  obtain ⟨r, hr⟩ : ∃ r : Fin 5376, r.val = 0 + j.val := ⟨⟨0 + j.val, by omega⟩, rfl⟩
  rw [logit0_apply _ i j r hr]
  have e (z : ((cfg0.win 3).xblock (cfg0.grid.coords t)).Idx) (h0 : (z (0 : Fin 2)).val = a.val) (h1 : (z (1 : Fin 2)).val = j.val) :
      ((cfg0.win 3).blk t).view.emb z = ix2 i r := by
    obtain ⟨-, -, -, ⟨e0, e1⟩, -⟩ := idx t
    funext d; apply Fin.ext
    match d with
    | ⟨0, _⟩ => show win0_3.index t (0 : Fin 2) * 256 + 1 * (z (0 : Fin 2)).val = i.val; omega
    | ⟨1, _⟩ => show win0_3.index t (1 : Fin 2) * 1024 + 1 * (z (1 : Fin 2)).val = r.val; omega
  unfold X0_3 Pipeline.Window.fill
  rw [dif_pos (moved0_3 t (ix2 a j))]
  unfold iblk
  show V m c main_arg0 (((cfg0.win 3).blk t).view.emb _) = _
  rw [e _ rfl rfl]
  entry_read
  rfl

/-- The second branch's logits at point `t`. -/
theorem blkL1 (c : Dev nD) (t : Fin cfg0.N) (a : Fin 256) (j : Fin 1024) (i : Fin 4096) (hi : i.val = t.val * 256 + a.val) :
    X0_4 m c t (ix2 a j) = logit1 (m ((c : Thread nD τ).loc main_arg0)) (ix2 i j) := by
  obtain ⟨r, hr⟩ : ∃ r : Fin 5376, r.val = 1024 + j.val := ⟨⟨1024 + j.val, by omega⟩, rfl⟩
  rw [logit1_apply _ i j r hr]
  have e (z : ((cfg0.win 4).xblock (cfg0.grid.coords t)).Idx) (h0 : (z (0 : Fin 2)).val = a.val) (h1 : (z (1 : Fin 2)).val = j.val) :
      ((cfg0.win 4).blk t).view.emb z = ix2 i r := by
    obtain ⟨-, -, -, -, ⟨e0, e1⟩, -⟩ := idx t
    funext d; apply Fin.ext
    match d with
    | ⟨0, _⟩ => show win0_4.index t (0 : Fin 2) * 256 + 1 * (z (0 : Fin 2)).val = i.val; omega
    | ⟨1, _⟩ => show win0_4.index t (1 : Fin 2) * 1024 + 1 * (z (1 : Fin 2)).val = r.val; omega
  unfold X0_4 Pipeline.Window.fill
  rw [dif_pos (moved0_4 t (ix2 a j))]
  unfold iblk
  show V m c main_arg0 (((cfg0.win 4).blk t).view.emb _) = _
  rw [e _ rfl rfl]
  entry_read
  rfl

/-- The third branch's logits at point `t`. -/
theorem blkL2 (c : Dev nD) (t : Fin cfg0.N) (a : Fin 256) (j : Fin 1024) (i : Fin 4096) (hi : i.val = t.val * 256 + a.val) :
    X0_5 m c t (ix2 a j) = logit2 (m ((c : Thread nD τ).loc main_arg0)) (ix2 i j) := by
  obtain ⟨r, hr⟩ : ∃ r : Fin 5376, r.val = 2048 + j.val := ⟨⟨2048 + j.val, by omega⟩, rfl⟩
  rw [logit2_apply _ i j r hr]
  have e (z : ((cfg0.win 5).xblock (cfg0.grid.coords t)).Idx) (h0 : (z (0 : Fin 2)).val = a.val) (h1 : (z (1 : Fin 2)).val = j.val) :
      ((cfg0.win 5).blk t).view.emb z = ix2 i r := by
    obtain ⟨-, -, -, -, -, ⟨e0, e1⟩, -⟩ := idx t
    funext d; apply Fin.ext
    match d with
    | ⟨0, _⟩ => show win0_5.index t (0 : Fin 2) * 256 + 1 * (z (0 : Fin 2)).val = i.val; omega
    | ⟨1, _⟩ => show win0_5.index t (1 : Fin 2) * 1024 + 1 * (z (1 : Fin 2)).val = r.val; omega
  unfold X0_5 Pipeline.Window.fill
  rw [dif_pos (moved0_5 t (ix2 a j))]
  unfold iblk
  show V m c main_arg0 (((cfg0.win 5).blk t).view.emb _) = _
  rw [e _ rfl rfl]
  entry_read
  rfl

/-- The cotangent at point `t`. -/
theorem blkD (c : Dev nD) (t : Fin cfg0.N) (a : Fin 256) (j : Fin 1024) (i : Fin 4096) (hi : i.val = t.val * 256 + a.val) :
    iblk m c 6 t (ix2 a j) = m ((c : Thread nD τ).loc main_arg4) (ix2 i j) := by
  have e : ((cfg0.win 6).blk t).view.emb (ix2 a j) = ix2 i j := by
    obtain ⟨-, -, -, -, -, -, ⟨e0, e1⟩, -⟩ := idx t
    funext d; apply Fin.ext
    match d with
    | ⟨0, _⟩ => show win0_6.index t (0 : Fin 2) * 256 + 1 * a.val = i.val; omega
    | ⟨1, _⟩ => show win0_6.index t (1 : Fin 2) * 1024 + 1 * j.val = j.val; omega
  unfold iblk
  show V m c main_arg4 (((cfg0.win 6).blk t).view.emb (ix2 a j)) = _
  rw [e]
  entry_read
  rfl

/-- The first branch's weights at point `t`. -/
theorem blkW0 (c : Dev nD) (t : Fin cfg0.N) (q : Fin 512) (j : Fin 1024) (r : Fin 1536) (hr : r.val = 0 + q.val) :
    iblk m c 7 t (ix2 r j) = weight0 (m ((c : Thread nD τ).loc main_arg5)) (ix2 q j) := by
  rw [weight0_apply]
  have e : ((cfg0.win 7).blk t).view.emb (ix2 r j) = ix2 r j := by
    obtain ⟨-, -, -, -, -, -, -, ⟨e0, e1⟩, -⟩ := idx t
    funext d; apply Fin.ext
    match d with
    | ⟨0, _⟩ => show win0_7.index t (0 : Fin 2) * 1536 + 1 * r.val = r.val; omega
    | ⟨1, _⟩ => show win0_7.index t (1 : Fin 2) * 1024 + 1 * j.val = j.val; omega
  unfold iblk
  show V m c main_v2 (((cfg0.win 7).blk t).view.emb (ix2 r j)) = _
  rw [e]
  entry_read
  refine (flat_apply (m ((c : Thread nD τ).loc main_arg5)) r j).trans ?_
  have h0 : (⟨r.val / 512, by omega⟩ : Fin 3) = 0 := Fin.ext (show r.val / 512 = 0 by omega)
  have h1 : (⟨r.val % 512, by omega⟩ : Fin 512) = q := Fin.ext (show r.val % 512 = q.val by omega)
  rw [h0, h1]

/-- The second branch's weights at point `t`. -/
theorem blkW1 (c : Dev nD) (t : Fin cfg0.N) (q : Fin 512) (j : Fin 1024) (r : Fin 1536) (hr : r.val = 512 + q.val) :
    iblk m c 7 t (ix2 r j) = weight1 (m ((c : Thread nD τ).loc main_arg5)) (ix2 q j) := by
  rw [weight1_apply]
  have e : ((cfg0.win 7).blk t).view.emb (ix2 r j) = ix2 r j := by
    obtain ⟨-, -, -, -, -, -, -, ⟨e0, e1⟩, -⟩ := idx t
    funext d; apply Fin.ext
    match d with
    | ⟨0, _⟩ => show win0_7.index t (0 : Fin 2) * 1536 + 1 * r.val = r.val; omega
    | ⟨1, _⟩ => show win0_7.index t (1 : Fin 2) * 1024 + 1 * j.val = j.val; omega
  unfold iblk
  show V m c main_v2 (((cfg0.win 7).blk t).view.emb (ix2 r j)) = _
  rw [e]
  entry_read
  refine (flat_apply (m ((c : Thread nD τ).loc main_arg5)) r j).trans ?_
  have h0 : (⟨r.val / 512, by omega⟩ : Fin 3) = 1 := Fin.ext (show r.val / 512 = 1 by omega)
  have h1 : (⟨r.val % 512, by omega⟩ : Fin 512) = q := Fin.ext (show r.val % 512 = q.val by omega)
  rw [h0, h1]

/-- The third branch's weights at point `t`. -/
theorem blkW2 (c : Dev nD) (t : Fin cfg0.N) (q : Fin 512) (j : Fin 1024) (r : Fin 1536) (hr : r.val = 1024 + q.val) :
    iblk m c 7 t (ix2 r j) = weight2 (m ((c : Thread nD τ).loc main_arg5)) (ix2 q j) := by
  rw [weight2_apply]
  have e : ((cfg0.win 7).blk t).view.emb (ix2 r j) = ix2 r j := by
    obtain ⟨-, -, -, -, -, -, -, ⟨e0, e1⟩, -⟩ := idx t
    funext d; apply Fin.ext
    match d with
    | ⟨0, _⟩ => show win0_7.index t (0 : Fin 2) * 1536 + 1 * r.val = r.val; omega
    | ⟨1, _⟩ => show win0_7.index t (1 : Fin 2) * 1024 + 1 * j.val = j.val; omega
  unfold iblk
  show V m c main_v2 (((cfg0.win 7).blk t).view.emb (ix2 r j)) = _
  rw [e]
  entry_read
  refine (flat_apply (m ((c : Thread nD τ).loc main_arg5)) r j).trans ?_
  have h0 : (⟨r.val / 512, by omega⟩ : Fin 3) = 2 := Fin.ext (show r.val / 512 = 2 by omega)
  have h1 : (⟨r.val % 512, by omega⟩ : Fin 512) = q := Fin.ext (show r.val % 512 = q.val by omega)
  rw [h0, h1]

/-! ## The results -/

/-- The first branch's input gradient at a block's entry is the reference's at that entry of the whole array. -/
theorem blk_final0 (c : Dev nD) (t : Fin cfg0.N) (a : Fin 256) (q : Fin 512) (i : Fin 4096) (hi : i.val = t.val * 256 + a.val) :
    k0_pay32 (k0_pay9 (X0_3 m c t)) (k0_pay11 (iblk m c 7 t)) (k0_pay21 (iblk m c 6 t)) (ix2 a q) = ref0 (m ((c : Thread nD τ).loc main_arg0)) (m ((c : Thread nD τ).loc main_arg4)) (m ((c : Thread nD τ).loc main_arg5)) (ix2 i q) := by
  rw [in0_apply, ref0, dIn_apply]
  refine Finset.sum_congr (M := EReal) rfl fun k _ => ?_
  rw [blkL0 m c t a k i hi, blkD m c t a k i hi, blkW0 m c t q k _ (show _ = _ by simp)]

/-- The array of them after the run. -/
theorem final0 (c : Dev nD) : (dats m 0 c).arrAt 8 cfg0.N = ref0 (m ((c : Thread nD τ).loc main_arg0)) (m ((c : Thread nD τ).loc main_arg4)) (m ((c : Thread nD τ).loc main_arg5)) := by
  refine (dats m 0 c).arrAt_eq_of_covers 8 _ (by decide +kernel) fun t hf y => ?_
  blk_simp
  rw [after0_8]
  obtain ⟨a, b, rfl⟩ : ∃ (a : Fin 256) (b : Fin 512), y = ix2 a b := ⟨y 0, y 1, eq_ix2 y⟩
  have hN : t.val < 16 := lt_of_lt_of_eq t.isLt N_0
  obtain ⟨i, hi⟩ : ∃ i : Fin 4096, i.val = t.val * 256 + a.val := ⟨⟨t.val * 256 + a.val, by omega⟩, rfl⟩
  have e : ((cfg0.win 8).blk t).view.emb (ix2 a b) = ix2 i b := by
    obtain ⟨-, -, -, -, -, -, -, -, ⟨e0, e1⟩, -⟩ := idx t
    funext d; apply Fin.ext
    match d with
    | ⟨0, _⟩ => show win0_8.index t (0 : Fin 2) * 256 + 1 * a.val = i.val; omega
    | ⟨1, _⟩ => show win0_8.index t (1 : Fin 2) * 512 + 1 * b.val = b.val; omega
  rw [e]
  by_cases h : t.val % 16 = 0
  · rw [outsAt0_A m c t h]
    frame_out
    exact blk_final0 m c t a b i hi
  · rw [outsAt0_B m c t h]
    frame_out
    exact blk_final0 m c t a b i hi

/-- The second branch's input gradient at a block's entry is the reference's at that entry of the whole array. -/
theorem blk_final1 (c : Dev nD) (t : Fin cfg0.N) (a : Fin 256) (q : Fin 512) (i : Fin 4096) (hi : i.val = t.val * 256 + a.val) :
    k0_pay29 (iblk m c 6 t) (k0_pay3 (iblk m c 7 t)) (k0_pay14 (X0_4 m c t)) k0_pay15 (ix2 a q) = ref1 (m ((c : Thread nD τ).loc main_arg0)) (m ((c : Thread nD τ).loc main_arg4)) (m ((c : Thread nD τ).loc main_arg5)) (ix2 i q) := by
  rw [in1_apply, ref1, dIn_apply]
  refine Finset.sum_congr (M := EReal) rfl fun k _ => ?_
  rw [blkL1 m c t a k i hi, blkD m c t a k i hi, blkW1 m c t q k _ (show _ = _ by simp)]

/-- The array of them after the run. -/
theorem final1 (c : Dev nD) : (dats m 0 c).arrAt 9 cfg0.N = ref1 (m ((c : Thread nD τ).loc main_arg0)) (m ((c : Thread nD τ).loc main_arg4)) (m ((c : Thread nD τ).loc main_arg5)) := by
  refine (dats m 0 c).arrAt_eq_of_covers 9 _ (by decide +kernel) fun t hf y => ?_
  blk_simp
  rw [after0_9]
  obtain ⟨a, b, rfl⟩ : ∃ (a : Fin 256) (b : Fin 512), y = ix2 a b := ⟨y 0, y 1, eq_ix2 y⟩
  have hN : t.val < 16 := lt_of_lt_of_eq t.isLt N_0
  obtain ⟨i, hi⟩ : ∃ i : Fin 4096, i.val = t.val * 256 + a.val := ⟨⟨t.val * 256 + a.val, by omega⟩, rfl⟩
  have e : ((cfg0.win 9).blk t).view.emb (ix2 a b) = ix2 i b := by
    obtain ⟨-, -, -, -, -, -, -, -, -, ⟨e0, e1⟩, -⟩ := idx t
    funext d; apply Fin.ext
    match d with
    | ⟨0, _⟩ => show win0_9.index t (0 : Fin 2) * 256 + 1 * a.val = i.val; omega
    | ⟨1, _⟩ => show win0_9.index t (1 : Fin 2) * 512 + 1 * b.val = b.val; omega
  rw [e]
  by_cases h : t.val % 16 = 0
  · rw [outsAt0_A m c t h]
    frame_out
    exact blk_final1 m c t a b i hi
  · rw [outsAt0_B m c t h]
    frame_out
    exact blk_final1 m c t a b i hi

/-- The third branch's input gradient at a block's entry is the reference's at that entry of the whole array. -/
theorem blk_final2 (c : Dev nD) (t : Fin cfg0.N) (a : Fin 256) (q : Fin 512) (i : Fin 4096) (hi : i.val = t.val * 256 + a.val) :
    k0_pay24 (X0_5 m c t) (iblk m c 6 t) (k0_pay3 (iblk m c 7 t)) (ix2 a q) = ref2 (m ((c : Thread nD τ).loc main_arg0)) (m ((c : Thread nD τ).loc main_arg4)) (m ((c : Thread nD τ).loc main_arg5)) (ix2 i q) := by
  rw [in2_apply, ref2, dIn_apply]
  refine Finset.sum_congr (M := EReal) rfl fun k _ => ?_
  rw [blkL2 m c t a k i hi, blkD m c t a k i hi, blkW2 m c t q k _ (show _ = _ by simp)]

/-- The array of them after the run. -/
theorem final2 (c : Dev nD) : (dats m 0 c).arrAt 10 cfg0.N = ref2 (m ((c : Thread nD τ).loc main_arg0)) (m ((c : Thread nD τ).loc main_arg4)) (m ((c : Thread nD τ).loc main_arg5)) := by
  refine (dats m 0 c).arrAt_eq_of_covers 10 _ (by decide +kernel) fun t hf y => ?_
  blk_simp
  rw [after0_10]
  obtain ⟨a, b, rfl⟩ : ∃ (a : Fin 256) (b : Fin 512), y = ix2 a b := ⟨y 0, y 1, eq_ix2 y⟩
  have hN : t.val < 16 := lt_of_lt_of_eq t.isLt N_0
  obtain ⟨i, hi⟩ : ∃ i : Fin 4096, i.val = t.val * 256 + a.val := ⟨⟨t.val * 256 + a.val, by omega⟩, rfl⟩
  have e : ((cfg0.win 10).blk t).view.emb (ix2 a b) = ix2 i b := by
    obtain ⟨-, -, -, -, -, -, -, -, -, -, ⟨e0, e1⟩, -⟩ := idx t
    funext d; apply Fin.ext
    match d with
    | ⟨0, _⟩ => show win0_10.index t (0 : Fin 2) * 256 + 1 * a.val = i.val; omega
    | ⟨1, _⟩ => show win0_10.index t (1 : Fin 2) * 512 + 1 * b.val = b.val; omega
  rw [e]
  by_cases h : t.val % 16 = 0
  · rw [outsAt0_A m c t h]
    frame_out
    exact blk_final2 m c t a b i hi
  · rw [outsAt0_B m c t h]
    frame_out
    exact blk_final2 m c t a b i hi

/-- The first branch's logit gradient at a block's entry is the reference's at that entry of the whole array. -/
theorem blk_final3 (c : Dev nD) (t : Fin cfg0.N) (a : Fin 256) (j : Fin 1024) (i : Fin 4096) (hi : i.val = t.val * 256 + a.val) :
    k0_pay34 (k0_pay7 (X0_3 m c t)) (k0_pay10 (X0_3 m c t)) (k0_pay12 (iblk m c 0 t) (iblk m c 7 t)) (k0_pay21 (iblk m c 6 t)) (ix2 a j) = ref3 (m ((c : Thread nD τ).loc main_arg0)) (m ((c : Thread nD τ).loc main_arg1)) (m ((c : Thread nD τ).loc main_arg4)) (m ((c : Thread nD τ).loc main_arg5)) (ix2 i j) := by
  rw [lg0_apply, ref3, dLogit_apply, blkL0 m c t a j i hi, blkD m c t a j i hi]
  refine congrArg (slope _ _) (Finset.sum_congr (M := EReal) rfl fun k _ => ?_)
  rw [blkY0 m c t a k i hi, blkW0 m c t k j _ (show _ = _ by simp)]

/-- The array of them after the run. -/
theorem final3 (c : Dev nD) : (dats m 0 c).arrAt 11 cfg0.N = ref3 (m ((c : Thread nD τ).loc main_arg0)) (m ((c : Thread nD τ).loc main_arg1)) (m ((c : Thread nD τ).loc main_arg4)) (m ((c : Thread nD τ).loc main_arg5)) := by
  refine (dats m 0 c).arrAt_eq_of_covers 11 _ (by decide +kernel) fun t hf y => ?_
  blk_simp
  rw [after0_11]
  obtain ⟨a, b, rfl⟩ : ∃ (a : Fin 256) (b : Fin 1024), y = ix2 a b := ⟨y 0, y 1, eq_ix2 y⟩
  have hN : t.val < 16 := lt_of_lt_of_eq t.isLt N_0
  obtain ⟨i, hi⟩ : ∃ i : Fin 4096, i.val = t.val * 256 + a.val := ⟨⟨t.val * 256 + a.val, by omega⟩, rfl⟩
  have e : ((cfg0.win 11).blk t).view.emb (ix2 a b) = ix2 i b := by
    obtain ⟨-, -, -, -, -, -, -, -, -, -, -, ⟨e0, e1⟩, -⟩ := idx t
    funext d; apply Fin.ext
    match d with
    | ⟨0, _⟩ => show win0_11.index t (0 : Fin 2) * 256 + 1 * a.val = i.val; omega
    | ⟨1, _⟩ => show win0_11.index t (1 : Fin 2) * 1024 + 1 * b.val = b.val; omega
  rw [e]
  by_cases h : t.val % 16 = 0
  · rw [outsAt0_A m c t h]
    frame_out
    exact blk_final3 m c t a b i hi
  · rw [outsAt0_B m c t h]
    frame_out
    exact blk_final3 m c t a b i hi

/-- The second branch's logit gradient at a block's entry is the reference's at that entry of the whole array. -/
theorem blk_final4 (c : Dev nD) (t : Fin cfg0.N) (a : Fin 256) (j : Fin 1024) (i : Fin 4096) (hi : i.val = t.val * 256 + a.val) :
    k0_pay30 (k0_pay13 (X0_4 m c t)) (k0_pay16 (k0_pay14 (X0_4 m c t))) (k0_pay27 (iblk m c 6 t) (k0_pay3 (iblk m c 7 t)) (k0_pay5 (iblk m c 1 t))) (ix2 a j) = ref4 (m ((c : Thread nD τ).loc main_arg0)) (m ((c : Thread nD τ).loc main_arg2)) (m ((c : Thread nD τ).loc main_arg4)) (m ((c : Thread nD τ).loc main_arg5)) (ix2 i j) := by
  rw [lg1_apply, ref4, dLogit_apply, blkL1 m c t a j i hi, blkD m c t a j i hi]
  refine congrArg (slope _ _) (Finset.sum_congr (M := EReal) rfl fun k _ => ?_)
  rw [blkY1 m c t a k i hi, blkW1 m c t k j _ (show _ = _ by simp)]

/-- The array of them after the run. -/
theorem final4 (c : Dev nD) : (dats m 0 c).arrAt 12 cfg0.N = ref4 (m ((c : Thread nD τ).loc main_arg0)) (m ((c : Thread nD τ).loc main_arg2)) (m ((c : Thread nD τ).loc main_arg4)) (m ((c : Thread nD τ).loc main_arg5)) := by
  refine (dats m 0 c).arrAt_eq_of_covers 12 _ (by decide +kernel) fun t hf y => ?_
  blk_simp
  rw [after0_12]
  obtain ⟨a, b, rfl⟩ : ∃ (a : Fin 256) (b : Fin 1024), y = ix2 a b := ⟨y 0, y 1, eq_ix2 y⟩
  have hN : t.val < 16 := lt_of_lt_of_eq t.isLt N_0
  obtain ⟨i, hi⟩ : ∃ i : Fin 4096, i.val = t.val * 256 + a.val := ⟨⟨t.val * 256 + a.val, by omega⟩, rfl⟩
  have e : ((cfg0.win 12).blk t).view.emb (ix2 a b) = ix2 i b := by
    obtain ⟨-, -, -, -, -, -, -, -, -, -, -, -, ⟨e0, e1⟩, -⟩ := idx t
    funext d; apply Fin.ext
    match d with
    | ⟨0, _⟩ => show win0_12.index t (0 : Fin 2) * 256 + 1 * a.val = i.val; omega
    | ⟨1, _⟩ => show win0_12.index t (1 : Fin 2) * 1024 + 1 * b.val = b.val; omega
  rw [e]
  by_cases h : t.val % 16 = 0
  · rw [outsAt0_A m c t h]
    frame_out
    exact blk_final4 m c t a b i hi
  · rw [outsAt0_B m c t h]
    frame_out
    exact blk_final4 m c t a b i hi

/-- The third branch's logit gradient at a block's entry is the reference's at that entry of the whole array. -/
theorem blk_final5 (c : Dev nD) (t : Fin cfg0.N) (a : Fin 256) (j : Fin 1024) (i : Fin 4096) (hi : i.val = t.val * 256 + a.val) :
    k0_pay26 (X0_5 m c t) (iblk m c 6 t) (k0_pay3 (iblk m c 7 t)) (k0_pay6 (iblk m c 2 t)) (ix2 a j) = ref5 (m ((c : Thread nD τ).loc main_arg0)) (m ((c : Thread nD τ).loc main_arg3)) (m ((c : Thread nD τ).loc main_arg4)) (m ((c : Thread nD τ).loc main_arg5)) (ix2 i j) := by
  rw [lg2_apply, ref5, dLogit_apply, blkL2 m c t a j i hi, blkD m c t a j i hi]
  refine congrArg (slope _ _) (Finset.sum_congr (M := EReal) rfl fun k _ => ?_)
  rw [blkY2 m c t a k i hi, blkW2 m c t k j _ (show _ = _ by simp)]

/-- The array of them after the run. -/
theorem final5 (c : Dev nD) : (dats m 0 c).arrAt 13 cfg0.N = ref5 (m ((c : Thread nD τ).loc main_arg0)) (m ((c : Thread nD τ).loc main_arg3)) (m ((c : Thread nD τ).loc main_arg4)) (m ((c : Thread nD τ).loc main_arg5)) := by
  refine (dats m 0 c).arrAt_eq_of_covers 13 _ (by decide +kernel) fun t hf y => ?_
  blk_simp
  rw [after0_13]
  obtain ⟨a, b, rfl⟩ : ∃ (a : Fin 256) (b : Fin 1024), y = ix2 a b := ⟨y 0, y 1, eq_ix2 y⟩
  have hN : t.val < 16 := lt_of_lt_of_eq t.isLt N_0
  obtain ⟨i, hi⟩ : ∃ i : Fin 4096, i.val = t.val * 256 + a.val := ⟨⟨t.val * 256 + a.val, by omega⟩, rfl⟩
  have e : ((cfg0.win 13).blk t).view.emb (ix2 a b) = ix2 i b := by
    obtain ⟨-, -, -, -, -, -, -, -, -, -, -, -, -, ⟨e0, e1⟩, -⟩ := idx t
    funext d; apply Fin.ext
    match d with
    | ⟨0, _⟩ => show win0_13.index t (0 : Fin 2) * 256 + 1 * a.val = i.val; omega
    | ⟨1, _⟩ => show win0_13.index t (1 : Fin 2) * 1024 + 1 * b.val = b.val; omega
  rw [e]
  by_cases h : t.val % 16 = 0
  · rw [outsAt0_A m c t h]
    frame_out
    exact blk_final5 m c t a b i hi
  · rw [outsAt0_B m c t h]
    frame_out
    exact blk_final5 m c t a b i hi

/-- Point `t`'s share of the weights' gradient. -/
def term (c : Dev nD) (t : Fin cfg0.N) (y : S1536x1024.Idx) : EReal :=
  part (iblk m c 0 t) (iblk m c 1 t) (iblk m c 2 t) (iblk m c 6 t) (X0_3 m c t) (X0_4 m c t) (X0_5 m c t) y

/-- After the first point the accumulator is that point's share. -/
theorem acc_first (c : Dev nD) (t : Fin cfg0.N) (h : t.val % 16 = 0) (y : S1536x1024.Idx) :
    (outsAt0 m c t.val t.isLt).2.2.2.2.2.2 y = 0 + term m c t y := by
  rw [outsAt0_A m c t h]
  frame_out
  rw [next_apply]
  exact congrArg (· + term m c t y) (zero_apply y)

/-- A later point adds its share. -/
theorem acc_next (c : Dev nD) (t : Fin cfg0.N) (h : ¬t.val % 16 = 0) (y : S1536x1024.Idx) :
    (outsAt0 m c t.val t.isLt).2.2.2.2.2.2 y
      = (outsAt0 m c (t.val - 1) (lt_of_le_of_lt (Nat.sub_le _ _) t.isLt)).2.2.2.2.2.2 y + term m c t y := by
  rw [outsAt0_B m c t h]
  frame_out
  rw [next_apply]
  rfl

/-- One row's summand of a branch's weights' gradient. -/
def summand (y : FVec Ideal Cert.MergeRefIdeal.S4096x512 .f32) (l d : FVec Ideal Cert.MergeRefIdeal.S4096x1024 .f32) (q : Fin 512) (j : Fin 1024) (i : Fin 4096) : EReal :=
  g (l (ix2 i j)) (d (ix2 i j)) * y (ix2 i q)

/-- A point's share is a stretch of the first branch's sum over the rows. -/
theorem term_apply0 (c : Dev nD) (t : Fin cfg0.N) (r : Fin 1536) (q : Fin 512) (h : r.val = 0 + q.val) (j : Fin 1024) (ht : t.val < 16) :
    term m c t (ix2 r j) = ∑ i : Fin 256, summand (m ((c : Thread nD τ).loc main_arg1)) (logit0 (m ((c : Thread nD τ).loc main_arg0))) (m ((c : Thread nD τ).loc main_arg4)) q j ⟨t.val * 256 + i.val, by omega⟩ := by
  unfold term
  rw [part_apply0 _ _ _ _ _ _ _ r q h j]
  refine Finset.sum_congr rfl fun i _ => ?_
  have hi : t.val * 256 + i.val < 4096 := by omega
  rw [blkL0 m c t i j ⟨_, hi⟩ rfl, blkD m c t i j ⟨_, hi⟩ rfl, blkY0 m c t i q ⟨_, hi⟩ rfl]
  rfl

/-- A point's share is a stretch of the second branch's sum over the rows. -/
theorem term_apply1 (c : Dev nD) (t : Fin cfg0.N) (r : Fin 1536) (q : Fin 512) (h : r.val = 512 + q.val) (j : Fin 1024) (ht : t.val < 16) :
    term m c t (ix2 r j) = ∑ i : Fin 256, summand (m ((c : Thread nD τ).loc main_arg2)) (logit1 (m ((c : Thread nD τ).loc main_arg0))) (m ((c : Thread nD τ).loc main_arg4)) q j ⟨t.val * 256 + i.val, by omega⟩ := by
  unfold term
  rw [part_apply1 _ _ _ _ _ _ _ r q h j]
  refine Finset.sum_congr rfl fun i _ => ?_
  have hi : t.val * 256 + i.val < 4096 := by omega
  rw [blkL1 m c t i j ⟨_, hi⟩ rfl, blkD m c t i j ⟨_, hi⟩ rfl, blkY1 m c t i q ⟨_, hi⟩ rfl]
  rfl

/-- A point's share is a stretch of the third branch's sum over the rows. -/
theorem term_apply2 (c : Dev nD) (t : Fin cfg0.N) (r : Fin 1536) (q : Fin 512) (h : r.val = 1024 + q.val) (j : Fin 1024) (ht : t.val < 16) :
    term m c t (ix2 r j) = ∑ i : Fin 256, summand (m ((c : Thread nD τ).loc main_arg3)) (logit2 (m ((c : Thread nD τ).loc main_arg0))) (m ((c : Thread nD τ).loc main_arg4)) q j ⟨t.val * 256 + i.val, by omega⟩ := by
  unfold term
  rw [part_apply2 _ _ _ _ _ _ _ r q h j]
  refine Finset.sum_congr rfl fun i _ => ?_
  have hi : t.val * 256 + i.val < 4096 := by omega
  rw [blkL2 m c t i j ⟨_, hi⟩ rfl, blkD m c t i j ⟨_, hi⟩ rfl, blkY2 m c t i q ⟨_, hi⟩ rfl]
  rfl

theorem final6 (c : Dev nD) : (dats m 0 c).arrAt 14 cfg0.N = ref6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 14 _ (by decide +kernel) fun t hf y => ?_
  have hl : t.val % 16 = 15 := (flush0_14 t).mp hf
  blk_simp
  rw [after0_14]
  rw [Pipeline.eq_sum_fin_of_reset_step_apply_of_flush (fun n h => (outsAt0 m c n h).2.2.2.2.2.2) 16 (fun _ => 0) (term m c)
    (acc_first m c) (acc_next m c) t hl, zero_add]
  obtain ⟨r, j, rfl⟩ : ∃ (r : Fin 1536) (j : Fin 1024), y = ix2 r j := ⟨y 0, y 1, eq_ix2 y⟩
  have hN : t.val < 16 := lt_of_lt_of_eq t.isLt N_0
  have e : ((cfg0.win 14).blk t).view.emb (ix2 r j) = ix2 r j := by
    obtain ⟨-, -, -, -, -, -, -, -, -, -, -, -, -, -, e0, e1⟩ := idx t
    funext d; apply Fin.ext
    match d with
    | ⟨0, _⟩ => show win0_14.index t (0 : Fin 2) * 1536 + 1 * r.val = r.val; omega
    | ⟨1, _⟩ => show win0_14.index t (1 : Fin 2) * 1024 + 1 * j.val = j.val; omega
  rw [e]
  have hs (s : Fin 16) : 16 * (t.val / 16) + s.val = s.val := by omega
  by_cases h0 : r.val < 512
  · have hq : r.val = 0 + (⟨r.val, by omega⟩ : Fin 512).val := show r.val = 0 + (r.val) by omega
    rw [ref6_apply0 _ _ _ _ _ r _ hq j, dWeight_apply]
    refine Eq.trans (α := EReal) ?_ (Fin.sum_mul_add_fin 16 256 (summand (m ((c : Thread nD τ).loc main_arg1)) (logit0 (m ((c : Thread nD τ).loc main_arg0))) (m ((c : Thread nD τ).loc main_arg4)) ⟨r.val, by omega⟩ j))
    refine Finset.sum_congr rfl fun s _ => ?_
    rw [term_apply0 m c ⟨16 * (t.val / 16) + s.val, _⟩ r _ hq j (show 16 * (t.val / 16) + s.val < 16 by omega)]
    refine Finset.sum_congr rfl fun k _ => ?_
    simp only [hs]
  · by_cases h1 : r.val < 1024
    · have hq : r.val = 512 + (⟨r.val - 512, by omega⟩ : Fin 512).val := show r.val = 512 + (r.val - 512) by omega
      rw [ref6_apply1 _ _ _ _ _ r _ hq j, dWeight_apply]
      refine Eq.trans (α := EReal) ?_ (Fin.sum_mul_add_fin 16 256 (summand (m ((c : Thread nD τ).loc main_arg2)) (logit1 (m ((c : Thread nD τ).loc main_arg0))) (m ((c : Thread nD τ).loc main_arg4)) ⟨r.val - 512, by omega⟩ j))
      refine Finset.sum_congr rfl fun s _ => ?_
      rw [term_apply1 m c ⟨16 * (t.val / 16) + s.val, _⟩ r _ hq j (show 16 * (t.val / 16) + s.val < 16 by omega)]
      refine Finset.sum_congr rfl fun k _ => ?_
      simp only [hs]
    · have hq : r.val = 1024 + (⟨r.val - 1024, by omega⟩ : Fin 512).val := show r.val = 1024 + (r.val - 1024) by omega
      rw [ref6_apply2 _ _ _ _ _ r _ hq j, dWeight_apply]
      refine Eq.trans (α := EReal) ?_ (Fin.sum_mul_add_fin 16 256 (summand (m ((c : Thread nD τ).loc main_arg3)) (logit2 (m ((c : Thread nD τ).loc main_arg0))) (m ((c : Thread nD τ).loc main_arg4)) ⟨r.val - 1024, by omega⟩ j))
      refine Finset.sum_congr rfl fun s _ => ?_
      rw [term_apply2 m c ⟨16 * (t.val / 16) + s.val, _⟩ r _ hq j (show 16 * (t.val / 16) + s.val < 16 by omega)]
      refine Finset.sum_congr rfl fun k _ => ?_
      simp only [hs]

/-- The kernel's run: its seven result arrays end at the reference's functions of its arguments, which end unchanged. -/
theorem run : θ_run defs (onTc (τ := τ) (main (F := Ideal))) ⟨m, fun _ => 0, ρ⟩ fun r => ∀ c : Dev nD,
      r.2.mem ((c : Thread nD τ).loc main_v6_0) = ref0 (m ((c : Thread nD τ).loc main_arg0)) (m ((c : Thread nD τ).loc main_arg4)) (m ((c : Thread nD τ).loc main_arg5))
      ∧ r.2.mem ((c : Thread nD τ).loc main_v6_1) = ref1 (m ((c : Thread nD τ).loc main_arg0)) (m ((c : Thread nD τ).loc main_arg4)) (m ((c : Thread nD τ).loc main_arg5))
      ∧ r.2.mem ((c : Thread nD τ).loc main_v6_2) = ref2 (m ((c : Thread nD τ).loc main_arg0)) (m ((c : Thread nD τ).loc main_arg4)) (m ((c : Thread nD τ).loc main_arg5))
      ∧ r.2.mem ((c : Thread nD τ).loc main_v6_3) = ref3 (m ((c : Thread nD τ).loc main_arg0)) (m ((c : Thread nD τ).loc main_arg1)) (m ((c : Thread nD τ).loc main_arg4)) (m ((c : Thread nD τ).loc main_arg5))
      ∧ r.2.mem ((c : Thread nD τ).loc main_v6_4) = ref4 (m ((c : Thread nD τ).loc main_arg0)) (m ((c : Thread nD τ).loc main_arg2)) (m ((c : Thread nD τ).loc main_arg4)) (m ((c : Thread nD τ).loc main_arg5))
      ∧ r.2.mem ((c : Thread nD τ).loc main_v6_5) = ref5 (m ((c : Thread nD τ).loc main_arg0)) (m ((c : Thread nD τ).loc main_arg3)) (m ((c : Thread nD τ).loc main_arg4)) (m ((c : Thread nD τ).loc main_arg5))
      ∧ r.2.mem ((c : Thread nD τ).loc main_v6_6) = ref6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final0 m c), (h c).2.1.trans (final1 m c), (h c).2.2.1.trans (final2 m c), (h c).2.2.2.1.trans (final3 m c),
    (h c).2.2.2.2.1.trans (final4 m c), (h c).2.2.2.2.2.1.trans (final5 m c), (h c).2.2.2.2.2.2.1.trans (final6 m c), (h c).2.2.2.2.2.2.2⟩) (Value.run_blocks m ρ)
/-- The reference's run, its results by their names above. -/
theorem reference_run (m : (ℓ : Loc Cert.MergeRefIdeal.nD Cert.MergeRefIdeal.τ Cert.MergeRefIdeal.sig) → Buf (Elt Ideal) ℓ) (ρ : Dev Cert.MergeRefIdeal.nD → PrngReg) :
    θ_run Cert.MergeRefIdeal.defs (onTc (τ := Cert.MergeRefIdeal.τ) (Cert.MergeRefIdeal.main (F := Ideal))) ⟨m, fun _ => 0, ρ⟩ fun r => ∀ c : Dev Cert.MergeRefIdeal.nD,
      r.2.mem ((c.tc : Thread Cert.MergeRefIdeal.nD Cert.MergeRefIdeal.τ).loc Cert.MergeRefIdeal.main_v62) = ref0 (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))
      ∧ r.2.mem ((c.tc : Thread Cert.MergeRefIdeal.nD Cert.MergeRefIdeal.τ).loc Cert.MergeRefIdeal.main_v56) = ref1 (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))
      ∧ r.2.mem ((c.tc : Thread Cert.MergeRefIdeal.nD Cert.MergeRefIdeal.τ).loc Cert.MergeRefIdeal.main_v50) = ref2 (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))
      ∧ r.2.mem ((c.tc : Thread Cert.MergeRefIdeal.nD Cert.MergeRefIdeal.τ).loc Cert.MergeRefIdeal.main_v63) = ref3 (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))
      ∧ r.2.mem ((c.tc : Thread Cert.MergeRefIdeal.nD Cert.MergeRefIdeal.τ).loc Cert.MergeRefIdeal.main_v57) = ref4 (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))
      ∧ r.2.mem ((c.tc : Thread Cert.MergeRefIdeal.nD Cert.MergeRefIdeal.τ).loc Cert.MergeRefIdeal.main_v51) = ref5 (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5))
      ∧ r.2.mem ((c.tc : Thread Cert.MergeRefIdeal.nD Cert.MergeRefIdeal.τ).loc Cert.MergeRefIdeal.main_v64) = ref6 (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4))
      ∧ r.2.mem ((c.tc : Thread Cert.MergeRefIdeal.nD Cert.MergeRefIdeal.τ).loc Cert.MergeRefIdeal.main_arg0) = (m ((c.tc : Thread Cert.MergeRefIdeal.nD Cert.MergeRefIdeal.τ).loc Cert.MergeRefIdeal.main_arg0))
      ∧ r.2.mem ((c.tc : Thread Cert.MergeRefIdeal.nD Cert.MergeRefIdeal.τ).loc Cert.MergeRefIdeal.main_arg1) = (m ((c.tc : Thread Cert.MergeRefIdeal.nD Cert.MergeRefIdeal.τ).loc Cert.MergeRefIdeal.main_arg1))
      ∧ r.2.mem ((c.tc : Thread Cert.MergeRefIdeal.nD Cert.MergeRefIdeal.τ).loc Cert.MergeRefIdeal.main_arg2) = (m ((c.tc : Thread Cert.MergeRefIdeal.nD Cert.MergeRefIdeal.τ).loc Cert.MergeRefIdeal.main_arg2))
      ∧ r.2.mem ((c.tc : Thread Cert.MergeRefIdeal.nD Cert.MergeRefIdeal.τ).loc Cert.MergeRefIdeal.main_arg3) = (m ((c.tc : Thread Cert.MergeRefIdeal.nD Cert.MergeRefIdeal.τ).loc Cert.MergeRefIdeal.main_arg3))
      ∧ r.2.mem ((c.tc : Thread Cert.MergeRefIdeal.nD Cert.MergeRefIdeal.τ).loc Cert.MergeRefIdeal.main_arg4) = (m ((c.tc : Thread Cert.MergeRefIdeal.nD Cert.MergeRefIdeal.τ).loc Cert.MergeRefIdeal.main_arg4))
      ∧ r.2.mem ((c.tc : Thread Cert.MergeRefIdeal.nD Cert.MergeRefIdeal.τ).loc Cert.MergeRefIdeal.main_arg5) = (m ((c.tc : Thread Cert.MergeRefIdeal.nD Cert.MergeRefIdeal.τ).loc Cert.MergeRefIdeal.main_arg5)) :=
  Cert.MergeRefIdeal.Value.run m ρ

end Cert.Merge

end
-- ==== Proof.Adam.lean ====
/-
  The optimiser's step on whole arrays, shared by the programs of the parameters' shapes, and where a block's entry lies
  in a whole array.
-/
module

public import Idealize.ShloMosaic.Lib.Pipeline.Value
public import Idealize.ShloMosaic.Lib.Pointwise

@[expose] public section

noncomputable section

namespace Cert.Adam

open Idealize.ShloMosaic

variable {S : Shape} (num : BitVec 32 → FVec Ideal S .f32)

/-- The first moment after the step, `B1 * m + (1 - B1) * g`; `num` gives the whole array holding one number. -/
def first (g m : FVec Ideal S .f32) : FVec Ideal S .f32 :=
  addf (mulf (num 0x3F666666#32) m) (mulf (num 0x3DCCCCCD#32) g)

/-- The second moment after the step, `B2 * v + (1 - B2) * g²`. -/
def second (g v : FVec Ideal S .f32) : FVec Ideal S .f32 :=
  addf (mulf (num 0x3F7FBE77#32) v) (mulf (num 0x3A83126F#32) (mulf g g))

/-- The change of the parameter: minus the rate times the corrected first moment over the root of the corrected second
    moment, plus the decay of the parameter. -/
def change (w g m v : FVec Ideal S .f32) : FVec Ideal S .f32 :=
  mulf (num 0xBA83126F#32)
    (addf (Host.divf (Host.divf (first num g m) (num 0x3F26BD02#32))
        (addf (Host.sqrt (Host.divf (second num g v) (num 0x3C231ACC#32))) (num 0x322BCC77#32)))
      (mulf (num 0x3C23D70A#32) w))

/-- Row `r` of block `t`, blocks of `T` rows. -/
theorem row_at {x t T r i : Nat} (h : x = t) (hi : i = t * T + r) : x * T + 1 * r = i := by
  rw [h, hi, one_mul]

/-- A position on an axis that the blocks do not divide. -/
theorem all_at {x C k : Nat} (h : x = 0) : x * C + 1 * k = k := by
  rw [h, zero_mul, zero_add, one_mul]

/-- An entry of a matrix from its two positions. -/
theorem at2 {a b : Nat} {f : (⟨2, ![a, b]⟩ : Shape).Idx} {i : Fin a} {k : Fin b} (h0 : (f (0 : Fin 2)).val = i.val)
    (h1 : (f (1 : Fin 2)).val = k.val) : f = ix2 i k := by
  funext d; apply Fin.ext
  match d with
  | ⟨0, _⟩ => exact h0
  | ⟨1, _⟩ => exact h1

/-- An entry of an array of three axes from its three positions. -/
theorem at3 {a b c : Nat} {f : (⟨3, ![a, b, c]⟩ : Shape).Idx} {i : Fin a} {j : Fin b} {k : Fin c}
    (h0 : (f (0 : Fin 3)).val = i.val) (h1 : (f (1 : Fin 3)).val = j.val) (h2 : (f (2 : Fin 3)).val = k.val) : f = ix3 i j k := by
  funext d; apply Fin.ext
  match d with
  | ⟨0, _⟩ => exact h0
  | ⟨1, _⟩ => exact h1
  | ⟨2, _⟩ => exact h2

theorem origin : (![0, 0] : Fin 2 → Nat) = fun _ => 0 := funext fun a => by fin_cases a <;> rfl

end Cert.Adam

end
-- ==== Proof.AdamAda.lean ====
/-
  The optimiser's step of the conditioning weights: every row block of the four result arrays is the reference's update of the argument arrays at
  that block, so the arrays after the run are the reference's.
-/
module

public import proofs.«01_k».proof.Proof.Gen.AdamAdaIdeal.Value
public import proofs.«01_k».proof.Proof.Gen.AdamAdaRefIdeal.Run
public import proofs.«01_k».proof.Proof.Adam
public import Idealize.ShloMosaic.Lib.Pipeline.ValueKit
public import Idealize.ShloMosaic.Lib.Claim

@[expose] public section

set_option maxRecDepth 16384

noncomputable section

namespace Cert.AdamAda

open Idealize.ShloMosaic Idealize.ShloMosaic.TcCoe Idealize.SL.Sem Cert.Adam

section Reference
open Cert.AdamAdaRefIdeal Cert.AdamAdaRefIdeal.Gen

/-- The whole array holding one number. -/
abbrev num (b : BitVec 32) : FVec Ideal S4096x768 .f32 := broadcastInDim S4096x768 ![] bcast_S_S4096x768 (constant (F := Ideal) S_ .f32 b)

/-- The parameter's axes but the last, as rows. -/
def rows (x : FVec Ideal S4x1024x768 .f32) : FVec Ideal S4096x768 .f32 := (shapeCast S4096x768 x shapeCasts_S4x1024x768_S4096x768)

/-- The gradient. -/
def ref0 (g : FVec Ideal S4x1024x768 .f32) : FVec Ideal S4096x768 .f32 := rows g

/-- The change of the parameter. -/
def ref1 (w g m v : FVec Ideal S4x1024x768 .f32) : FVec Ideal S4096x768 .f32 := change num (rows w) (rows g) (rows m) (rows v)

/-- The first moment. -/
def ref2 (g m : FVec Ideal S4x1024x768 .f32) : FVec Ideal S4096x768 .f32 := first num (rows g) (rows m)

/-- The second moment. -/
def ref3 (g v : FVec Ideal S4x1024x768 .f32) : FVec Ideal S4096x768 .f32 := second num (rows g) (rows v)

end Reference

open Cert.AdamAdaIdeal Cert.AdamAdaIdeal.Gen

/-! ## What one block's body stores, where its input blocks hold entries of whole arrays -/

section Body
variable (x0 x1 x2 x3 : Vec Ideal S256x768 .f32) (w g p q : FVec Ideal AdamAdaRefIdeal.S4096x768 .f32) (r : Fin 256) (k : Fin 768) (i : Fin 4096)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3, k0_pay4]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, k0_pay4, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, k0_pay4, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, k0_pay4, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S256x768.Idx) : ∃ (r : Fin 256) (k : Fin 768) (i : Fin 4096), y = ix2 r k ∧ i.val = t.val * 256 + r.val := by
  have hN : t.val < 16 := lt_of_lt_of_eq t.isLt N_0
  exact ⟨y 0, y 1, ⟨t.val * 256 + (y 0).val, by have := (y 0).isLt; change _ < 256 at this; omega⟩, eq_ix2 y, rfl⟩

section Blocks
variable (r : Fin 256) (k : Fin 768) (i : Fin 4096) (hi : i.val = t.val * 256 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_v1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_v2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_v3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v4_0) = ref0 (m ((c : Thread nD τ).loc main_arg1))
      ∧ r.2.mem ((c : Thread nD τ).loc main_v4_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v4_2) = ref2 (m ((c : Thread nD τ).loc main_arg1)) (m ((c : Thread nD τ).loc main_arg2))
      ∧ r.2.mem ((c : Thread nD τ).loc main_v4_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamAda

end
-- ==== Proof.AdamBAda.lean ====
/-
  The optimiser's step of the conditioning offsets: every row block of the four result arrays is the reference's update of the argument arrays at
  that block, so the arrays after the run are the reference's.
-/
module

public import proofs.«01_k».proof.Proof.Gen.AdamBAdaIdeal.Value
public import proofs.«01_k».proof.Proof.Gen.AdamBAdaRefIdeal.Run
public import proofs.«01_k».proof.Proof.Adam
public import Idealize.ShloMosaic.Lib.Pipeline.ValueKit
public import Idealize.ShloMosaic.Lib.Claim

@[expose] public section

set_option maxRecDepth 16384

noncomputable section

namespace Cert.AdamBAda

open Idealize.ShloMosaic Idealize.ShloMosaic.TcCoe Idealize.SL.Sem Cert.Adam

section Reference
open Cert.AdamBAdaRefIdeal Cert.AdamBAdaRefIdeal.Gen

/-- The whole array holding one number. -/
abbrev num (b : BitVec 32) : FVec Ideal S4x6144 .f32 := broadcastInDim S4x6144 ![] bcast_S_S4x6144 (constant (F := Ideal) S_ .f32 b)

/-- The parameter's axes but the last, as rows. -/
def rows (x : FVec Ideal S4x6144 .f32) : FVec Ideal S4x6144 .f32 := x

/-- The gradient. -/
def ref0 (g : FVec Ideal S4x6144 .f32) : FVec Ideal S4x6144 .f32 := rows g

/-- The change of the parameter. -/
def ref1 (w g m v : FVec Ideal S4x6144 .f32) : FVec Ideal S4x6144 .f32 := change num (rows w) (rows g) (rows m) (rows v)

/-- The first moment. -/
def ref2 (g m : FVec Ideal S4x6144 .f32) : FVec Ideal S4x6144 .f32 := first num (rows g) (rows m)

/-- The second moment. -/
def ref3 (g v : FVec Ideal S4x6144 .f32) : FVec Ideal S4x6144 .f32 := second num (rows g) (rows v)

end Reference

open Cert.AdamBAdaIdeal Cert.AdamBAdaIdeal.Gen

/-! ## What one block's body stores, where its input blocks hold entries of whole arrays -/

section Body
variable (x0 x1 x2 x3 : Vec Ideal S4x6144 .f32) (w g p q : FVec Ideal AdamBAdaRefIdeal.S4x6144 .f32) (r : Fin 4) (k : Fin 6144) (i : Fin 4)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S4x6144.Idx) : ∃ (r : Fin 4) (k : Fin 6144) (i : Fin 4), y = ix2 r k ∧ i.val = t.val * 4 + r.val := by
  have hN : t.val < 1 := lt_of_lt_of_eq t.isLt N_0
  exact ⟨y 0, y 1, ⟨t.val * 4 + (y 0).val, by have := (y 0).isLt; change _ < 4 at this; omega⟩, eq_ix2 y, rfl⟩

section Blocks
variable (r : Fin 4) (k : Fin 6144) (i : Fin 4) (hi : i.val = t.val * 4 + r.val)
include hi

/-- Window 0's block, read at an entry, is its argument's entry there. -/
theorem blk0 : iblk m c 0 t (ix2 r k) = rows (m ((c : Thread nD τ).loc main_arg0)) (ix2 i k) := by
  unfold iblk
  show V m c main_arg0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_arg1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_arg2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_arg3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v0_0) = ref0 (m ((c : Thread nD τ).loc main_arg1))
      ∧ r.2.mem ((c : Thread nD τ).loc main_v0_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = ref2 (m ((c : Thread nD τ).loc main_arg1)) (m ((c : Thread nD τ).loc main_arg2))
      ∧ r.2.mem ((c : Thread nD τ).loc main_v0_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamBAda

end
-- ==== Proof.AdamBIn.lean ====
/-
  The optimiser's step of the input projection's offsets: every row block of the four result arrays is the reference's update of the argument arrays at
  that block, so the arrays after the run are the reference's.
-/
module

public import proofs.«01_k».proof.Proof.Gen.AdamBInIdeal.Value
public import proofs.«01_k».proof.Proof.Gen.AdamBInRefIdeal.Run
public import proofs.«01_k».proof.Proof.Adam
public import Idealize.ShloMosaic.Lib.Pipeline.ValueKit
public import Idealize.ShloMosaic.Lib.Claim

@[expose] public section

set_option maxRecDepth 16384

noncomputable section

namespace Cert.AdamBIn

open Idealize.ShloMosaic Idealize.ShloMosaic.TcCoe Idealize.SL.Sem Cert.Adam

section Reference
open Cert.AdamBInRefIdeal Cert.AdamBInRefIdeal.Gen

/-- The whole array holding one number. -/
abbrev num (b : BitVec 32) : FVec Ideal S4x5280 .f32 := broadcastInDim S4x5280 ![] bcast_S_S4x5280 (constant (F := Ideal) S_ .f32 b)

/-- The parameter's axes but the last, as rows. -/
def rows (x : FVec Ideal S4x5280 .f32) : FVec Ideal S4x5280 .f32 := x

/-- The gradient. -/
def ref0 (g : FVec Ideal S4x5280 .f32) : FVec Ideal S4x5280 .f32 := rows g

/-- The change of the parameter. -/
def ref1 (w g m v : FVec Ideal S4x5280 .f32) : FVec Ideal S4x5280 .f32 := change num (rows w) (rows g) (rows m) (rows v)

/-- The first moment. -/
def ref2 (g m : FVec Ideal S4x5280 .f32) : FVec Ideal S4x5280 .f32 := first num (rows g) (rows m)

/-- The second moment. -/
def ref3 (g v : FVec Ideal S4x5280 .f32) : FVec Ideal S4x5280 .f32 := second num (rows g) (rows v)

end Reference

open Cert.AdamBInIdeal Cert.AdamBInIdeal.Gen

/-! ## What one block's body stores, where its input blocks hold entries of whole arrays -/

section Body
variable (x0 x1 x2 x3 : Vec Ideal S4x5280 .f32) (w g p q : FVec Ideal AdamBInRefIdeal.S4x5280 .f32) (r : Fin 4) (k : Fin 5280) (i : Fin 4)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S4x5280.Idx) : ∃ (r : Fin 4) (k : Fin 5280) (i : Fin 4), y = ix2 r k ∧ i.val = t.val * 4 + r.val := by
  have hN : t.val < 1 := lt_of_lt_of_eq t.isLt N_0
  exact ⟨y 0, y 1, ⟨t.val * 4 + (y 0).val, by have := (y 0).isLt; change _ < 4 at this; omega⟩, eq_ix2 y, rfl⟩

section Blocks
variable (r : Fin 4) (k : Fin 5280) (i : Fin 4) (hi : i.val = t.val * 4 + r.val)
include hi

/-- Window 0's block, read at an entry, is its argument's entry there. -/
theorem blk0 : iblk m c 0 t (ix2 r k) = rows (m ((c : Thread nD τ).loc main_arg0)) (ix2 i k) := by
  unfold iblk
  show V m c main_arg0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_arg1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_arg2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_arg3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v0_0) = ref0 (m ((c : Thread nD τ).loc main_arg1))
      ∧ r.2.mem ((c : Thread nD τ).loc main_v0_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = ref2 (m ((c : Thread nD τ).loc main_arg1)) (m ((c : Thread nD τ).loc main_arg2))
      ∧ r.2.mem ((c : Thread nD τ).loc main_v0_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamBIn

end
-- ==== Proof.AdamLam.lean ====
/-
  The optimiser's step of the state-space layer's poles: every row block of the four result arrays is the reference's update of the argument arrays at
  that block, so the arrays after the run are the reference's.
-/
module

public import proofs.«01_k».proof.Proof.Gen.AdamLamIdeal.Value
public import proofs.«01_k».proof.Proof.Gen.AdamLamRefIdeal.Run
public import proofs.«01_k».proof.Proof.Adam
public import Idealize.ShloMosaic.Lib.Pipeline.ValueKit
public import Idealize.ShloMosaic.Lib.Claim

@[expose] public section

set_option maxRecDepth 16384

noncomputable section

namespace Cert.AdamLam

open Idealize.ShloMosaic Idealize.ShloMosaic.TcCoe Idealize.SL.Sem Cert.Adam

section Reference
open Cert.AdamLamRefIdeal Cert.AdamLamRefIdeal.Gen

/-- The whole array holding one number. -/
abbrev num (b : BitVec 32) : FVec Ideal S128x64 .f32 := broadcastInDim S128x64 ![] bcast_S_S128x64 (constant (F := Ideal) S_ .f32 b)

/-- The parameter's axes but the last, as rows. -/
def rows (x : FVec Ideal S4x32x64 .f32) : FVec Ideal S128x64 .f32 := (shapeCast S128x64 x shapeCasts_S4x32x64_S128x64)

/-- The gradient. -/
def ref0 (g : FVec Ideal S4x32x64 .f32) : FVec Ideal S128x64 .f32 := rows g

/-- The change of the parameter. -/
def ref1 (w g m v : FVec Ideal S4x32x64 .f32) : FVec Ideal S128x64 .f32 := change num (rows w) (rows g) (rows m) (rows v)

/-- The first moment. -/
def ref2 (g m : FVec Ideal S4x32x64 .f32) : FVec Ideal S128x64 .f32 := first num (rows g) (rows m)

/-- The second moment. -/
def ref3 (g v : FVec Ideal S4x32x64 .f32) : FVec Ideal S128x64 .f32 := second num (rows g) (rows v)

end Reference

open Cert.AdamLamIdeal Cert.AdamLamIdeal.Gen

/-! ## What one block's body stores, where its input blocks hold entries of whole arrays -/

section Body
variable (x0 x1 x2 x3 : Vec Ideal S128x64 .f32) (w g p q : FVec Ideal AdamLamRefIdeal.S128x64 .f32) (r : Fin 128) (k : Fin 64) (i : Fin 128)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3, k0_pay4]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, k0_pay4, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, k0_pay4, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, k0_pay4, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S128x64.Idx) : ∃ (r : Fin 128) (k : Fin 64) (i : Fin 128), y = ix2 r k ∧ i.val = t.val * 128 + r.val := by
  have hN : t.val < 1 := lt_of_lt_of_eq t.isLt N_0
  exact ⟨y 0, y 1, ⟨t.val * 128 + (y 0).val, by have := (y 0).isLt; change _ < 128 at this; omega⟩, eq_ix2 y, rfl⟩

section Blocks
variable (r : Fin 128) (k : Fin 64) (i : Fin 128) (hi : i.val = t.val * 128 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_v1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_v2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_v3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v4_0) = ref0 (m ((c : Thread nD τ).loc main_arg1))
      ∧ r.2.mem ((c : Thread nD τ).loc main_v4_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v4_2) = ref2 (m ((c : Thread nD τ).loc main_arg1)) (m ((c : Thread nD τ).loc main_arg2))
      ∧ r.2.mem ((c : Thread nD τ).loc main_v4_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamLam

end
-- ==== Proof.AdamLogDt.lean ====
/-
  The optimiser's step of the state-space layer's step sizes: every row block of the four result arrays is the reference's update of the argument arrays at
  that block, so the arrays after the run are the reference's.
-/
module

public import proofs.«01_k».proof.Proof.Gen.AdamLogDtIdeal.Value
public import proofs.«01_k».proof.Proof.Gen.AdamLogDtRefIdeal.Run
public import proofs.«01_k».proof.Proof.Adam
public import Idealize.ShloMosaic.Lib.Pipeline.ValueKit
public import Idealize.ShloMosaic.Lib.Claim

@[expose] public section

set_option maxRecDepth 16384

noncomputable section

namespace Cert.AdamLogDt

open Idealize.ShloMosaic Idealize.ShloMosaic.TcCoe Idealize.SL.Sem Cert.Adam

section Reference
open Cert.AdamLogDtRefIdeal Cert.AdamLogDtRefIdeal.Gen

/-- The whole array holding one number. -/
abbrev num (b : BitVec 32) : FVec Ideal S4x32 .f32 := broadcastInDim S4x32 ![] bcast_S_S4x32 (constant (F := Ideal) S_ .f32 b)

/-- The parameter's axes but the last, as rows. -/
def rows (x : FVec Ideal S4x32 .f32) : FVec Ideal S4x32 .f32 := x

/-- The gradient. -/
def ref0 (g : FVec Ideal S4x32 .f32) : FVec Ideal S4x32 .f32 := rows g

/-- The change of the parameter. -/
def ref1 (w g m v : FVec Ideal S4x32 .f32) : FVec Ideal S4x32 .f32 := change num (rows w) (rows g) (rows m) (rows v)

/-- The first moment. -/
def ref2 (g m : FVec Ideal S4x32 .f32) : FVec Ideal S4x32 .f32 := first num (rows g) (rows m)

/-- The second moment. -/
def ref3 (g v : FVec Ideal S4x32 .f32) : FVec Ideal S4x32 .f32 := second num (rows g) (rows v)

end Reference

open Cert.AdamLogDtIdeal Cert.AdamLogDtIdeal.Gen

/-! ## What one block's body stores, where its input blocks hold entries of whole arrays -/

section Body
variable (x0 x1 x2 x3 : Vec Ideal S4x32 .f32) (w g p q : FVec Ideal AdamLogDtRefIdeal.S4x32 .f32) (r : Fin 4) (k : Fin 32) (i : Fin 4)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S4x32.Idx) : ∃ (r : Fin 4) (k : Fin 32) (i : Fin 4), y = ix2 r k ∧ i.val = t.val * 4 + r.val := by
  have hN : t.val < 1 := lt_of_lt_of_eq t.isLt N_0
  exact ⟨y 0, y 1, ⟨t.val * 4 + (y 0).val, by have := (y 0).isLt; change _ < 4 at this; omega⟩, eq_ix2 y, rfl⟩

section Blocks
variable (r : Fin 4) (k : Fin 32) (i : Fin 4) (hi : i.val = t.val * 4 + r.val)
include hi

/-- Window 0's block, read at an entry, is its argument's entry there. -/
theorem blk0 : iblk m c 0 t (ix2 r k) = rows (m ((c : Thread nD τ).loc main_arg0)) (ix2 i k) := by
  unfold iblk
  show V m c main_arg0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_arg1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_arg2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_arg3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v0_0) = ref0 (m ((c : Thread nD τ).loc main_arg1))
      ∧ r.2.mem ((c : Thread nD τ).loc main_v0_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = ref2 (m ((c : Thread nD τ).loc main_arg1)) (m ((c : Thread nD τ).loc main_arg2))
      ∧ r.2.mem ((c : Thread nD τ).loc main_v0_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamLogDt

end
-- ==== Proof.AdamS5B.lean ====
/-
  The optimiser's step of the state-space layer's input matrices: every row block of the four result arrays is the reference's update of the argument arrays at
  that block, so the arrays after the run are the reference's.
-/
module

public import proofs.«01_k».proof.Proof.Gen.AdamS5BIdeal.Value
public import proofs.«01_k».proof.Proof.Gen.AdamS5BRefIdeal.Run
public import proofs.«01_k».proof.Proof.Adam
public import Idealize.ShloMosaic.Lib.Pipeline.ValueKit
public import Idealize.ShloMosaic.Lib.Claim

@[expose] public section

set_option maxRecDepth 16384

noncomputable section

namespace Cert.AdamS5B

open Idealize.ShloMosaic Idealize.ShloMosaic.TcCoe Idealize.SL.Sem Cert.Adam

section Reference
open Cert.AdamS5BRefIdeal Cert.AdamS5BRefIdeal.Gen

/-- The whole array holding one number. -/
abbrev num (b : BitVec 32) : FVec Ideal S8192x16 .f32 := broadcastInDim S8192x16 ![] bcast_S_S8192x16 (constant (F := Ideal) S_ .f32 b)

/-- The parameter's axes but the last, as rows. -/
def rows (x : FVec Ideal S4x32x64x16 .f32) : FVec Ideal S8192x16 .f32 := (shapeCast S8192x16 x shapeCasts_S4x32x64x16_S8192x16)

/-- The gradient. -/
def ref0 (g : FVec Ideal S4x32x64x16 .f32) : FVec Ideal S8192x16 .f32 := rows g

/-- The change of the parameter. -/
def ref1 (w g m v : FVec Ideal S4x32x64x16 .f32) : FVec Ideal S8192x16 .f32 := change num (rows w) (rows g) (rows m) (rows v)

/-- The first moment. -/
def ref2 (g m : FVec Ideal S4x32x64x16 .f32) : FVec Ideal S8192x16 .f32 := first num (rows g) (rows m)

/-- The second moment. -/
def ref3 (g v : FVec Ideal S4x32x64x16 .f32) : FVec Ideal S8192x16 .f32 := second num (rows g) (rows v)

end Reference

open Cert.AdamS5BIdeal Cert.AdamS5BIdeal.Gen

/-! ## What one block's body stores, where its input blocks hold entries of whole arrays -/

section Body
variable (x0 x1 x2 x3 : Vec Ideal S256x16 .f32) (w g p q : FVec Ideal AdamS5BRefIdeal.S8192x16 .f32) (r : Fin 256) (k : Fin 16) (i : Fin 8192)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3, k0_pay4]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, k0_pay4, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, k0_pay4, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, k0_pay4, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S256x16.Idx) : ∃ (r : Fin 256) (k : Fin 16) (i : Fin 8192), y = ix2 r k ∧ i.val = t.val * 256 + r.val := by
  have hN : t.val < 32 := lt_of_lt_of_eq t.isLt N_0
  exact ⟨y 0, y 1, ⟨t.val * 256 + (y 0).val, by have := (y 0).isLt; change _ < 256 at this; omega⟩, eq_ix2 y, rfl⟩

section Blocks
variable (r : Fin 256) (k : Fin 16) (i : Fin 8192) (hi : i.val = t.val * 256 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_v1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_v2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_v3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v4_0) = ref0 (m ((c : Thread nD τ).loc main_arg1))
      ∧ r.2.mem ((c : Thread nD τ).loc main_v4_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v4_2) = ref2 (m ((c : Thread nD τ).loc main_arg1)) (m ((c : Thread nD τ).loc main_arg2))
      ∧ r.2.mem ((c : Thread nD τ).loc main_v4_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamS5B

end
-- ==== Proof.AdamS5C.lean ====
/-
  The optimiser's step of the state-space layer's output matrices: every row block of the four result arrays is the reference's update of the argument arrays at
  that block, so the arrays after the run are the reference's.
-/
module

public import proofs.«01_k».proof.Proof.Gen.AdamS5CIdeal.Value
public import proofs.«01_k».proof.Proof.Gen.AdamS5CRefIdeal.Run
public import proofs.«01_k».proof.Proof.Adam
public import Idealize.ShloMosaic.Lib.Pipeline.ValueKit
public import Idealize.ShloMosaic.Lib.Claim

@[expose] public section

set_option maxRecDepth 16384

noncomputable section

namespace Cert.AdamS5C

open Idealize.ShloMosaic Idealize.ShloMosaic.TcCoe Idealize.SL.Sem Cert.Adam

section Reference
open Cert.AdamS5CRefIdeal Cert.AdamS5CRefIdeal.Gen

/-- The whole array holding one number. -/
abbrev num (b : BitVec 32) : FVec Ideal S2048x64 .f32 := broadcastInDim S2048x64 ![] bcast_S_S2048x64 (constant (F := Ideal) S_ .f32 b)

/-- The parameter's axes but the last, as rows. -/
def rows (x : FVec Ideal S4x32x16x64 .f32) : FVec Ideal S2048x64 .f32 := (shapeCast S2048x64 x shapeCasts_S4x32x16x64_S2048x64)

/-- The gradient. -/
def ref0 (g : FVec Ideal S4x32x16x64 .f32) : FVec Ideal S2048x64 .f32 := rows g

/-- The change of the parameter. -/
def ref1 (w g m v : FVec Ideal S4x32x16x64 .f32) : FVec Ideal S2048x64 .f32 := change num (rows w) (rows g) (rows m) (rows v)

/-- The first moment. -/
def ref2 (g m : FVec Ideal S4x32x16x64 .f32) : FVec Ideal S2048x64 .f32 := first num (rows g) (rows m)

/-- The second moment. -/
def ref3 (g v : FVec Ideal S4x32x16x64 .f32) : FVec Ideal S2048x64 .f32 := second num (rows g) (rows v)

end Reference

open Cert.AdamS5CIdeal Cert.AdamS5CIdeal.Gen

/-! ## What one block's body stores, where its input blocks hold entries of whole arrays -/

section Body
variable (x0 x1 x2 x3 : Vec Ideal S256x64 .f32) (w g p q : FVec Ideal AdamS5CRefIdeal.S2048x64 .f32) (r : Fin 256) (k : Fin 64) (i : Fin 2048)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3, k0_pay4]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, k0_pay4, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, k0_pay4, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, k0_pay4, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S256x64.Idx) : ∃ (r : Fin 256) (k : Fin 64) (i : Fin 2048), y = ix2 r k ∧ i.val = t.val * 256 + r.val := by
  have hN : t.val < 8 := lt_of_lt_of_eq t.isLt N_0
  exact ⟨y 0, y 1, ⟨t.val * 256 + (y 0).val, by have := (y 0).isLt; change _ < 256 at this; omega⟩, eq_ix2 y, rfl⟩

section Blocks
variable (r : Fin 256) (k : Fin 64) (i : Fin 2048) (hi : i.val = t.val * 256 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_v1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_v2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_v3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v4_0) = ref0 (m ((c : Thread nD τ).loc main_arg1))
      ∧ r.2.mem ((c : Thread nD τ).loc main_v4_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v4_2) = ref2 (m ((c : Thread nD τ).loc main_arg1)) (m ((c : Thread nD τ).loc main_arg2))
      ∧ r.2.mem ((c : Thread nD τ).loc main_v4_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamS5C

end
-- ==== Proof.AdamRow512.lean ====
/-
  The optimiser's step of a parameter of 512 numbers a layer: every row block of the four result arrays is the reference's update of the argument arrays at
  that block, so the arrays after the run are the reference's.
-/
module

public import proofs.«01_k».proof.Proof.Gen.AdamRow512Ideal.Value
public import proofs.«01_k».proof.Proof.Gen.AdamRow512RefIdeal.Run
public import proofs.«01_k».proof.Proof.Adam
public import Idealize.ShloMosaic.Lib.Pipeline.ValueKit
public import Idealize.ShloMosaic.Lib.Claim

@[expose] public section

set_option maxRecDepth 16384

noncomputable section

namespace Cert.AdamRow512

open Idealize.ShloMosaic Idealize.ShloMosaic.TcCoe Idealize.SL.Sem Cert.Adam

section Reference
open Cert.AdamRow512RefIdeal Cert.AdamRow512RefIdeal.Gen

/-- The whole array holding one number. -/
abbrev num (b : BitVec 32) : FVec Ideal S4x512 .f32 := broadcastInDim S4x512 ![] bcast_S_S4x512 (constant (F := Ideal) S_ .f32 b)

/-- The parameter's axes but the last, as rows. -/
def rows (x : FVec Ideal S4x512 .f32) : FVec Ideal S4x512 .f32 := x

/-- The gradient. -/
def ref0 (g : FVec Ideal S4x512 .f32) : FVec Ideal S4x512 .f32 := rows g

/-- The change of the parameter. -/
def ref1 (w g m v : FVec Ideal S4x512 .f32) : FVec Ideal S4x512 .f32 := change num (rows w) (rows g) (rows m) (rows v)

/-- The first moment. -/
def ref2 (g m : FVec Ideal S4x512 .f32) : FVec Ideal S4x512 .f32 := first num (rows g) (rows m)

/-- The second moment. -/
def ref3 (g v : FVec Ideal S4x512 .f32) : FVec Ideal S4x512 .f32 := second num (rows g) (rows v)

end Reference

open Cert.AdamRow512Ideal Cert.AdamRow512Ideal.Gen

/-! ## What one block's body stores, where its input blocks hold entries of whole arrays -/

section Body
variable (x0 x1 x2 x3 : Vec Ideal S4x512 .f32) (w g p q : FVec Ideal AdamRow512RefIdeal.S4x512 .f32) (r : Fin 4) (k : Fin 512) (i : Fin 4)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S4x512.Idx) : ∃ (r : Fin 4) (k : Fin 512) (i : Fin 4), y = ix2 r k ∧ i.val = t.val * 4 + r.val := by
  have hN : t.val < 1 := lt_of_lt_of_eq t.isLt N_0
  exact ⟨y 0, y 1, ⟨t.val * 4 + (y 0).val, by have := (y 0).isLt; change _ < 4 at this; omega⟩, eq_ix2 y, rfl⟩

section Blocks
variable (r : Fin 4) (k : Fin 512) (i : Fin 4) (hi : i.val = t.val * 4 + r.val)
include hi

/-- Window 0's block, read at an entry, is its argument's entry there. -/
theorem blk0 : iblk m c 0 t (ix2 r k) = rows (m ((c : Thread nD τ).loc main_arg0)) (ix2 i k) := by
  unfold iblk
  show V m c main_arg0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_arg1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_arg2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_arg3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v0_0) = ref0 (m ((c : Thread nD τ).loc main_arg1))
      ∧ r.2.mem ((c : Thread nD τ).loc main_v0_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = ref2 (m ((c : Thread nD τ).loc main_arg1)) (m ((c : Thread nD τ).loc main_arg2))
      ∧ r.2.mem ((c : Thread nD τ).loc main_v0_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamRow512

end
-- ==== Proof.AdamQNorm.lean ====
/-
  The optimiser's step of the query norm's gains: every row block of the four result arrays is the reference's update of the argument arrays at
  that block, so the arrays after the run are the reference's.
-/
module

public import proofs.«01_k».proof.Proof.Gen.AdamQNormIdeal.Value
public import proofs.«01_k».proof.Proof.Gen.AdamQNormRefIdeal.Run
public import proofs.«01_k».proof.Proof.Adam
public import Idealize.ShloMosaic.Lib.Pipeline.ValueKit
public import Idealize.ShloMosaic.Lib.Claim

@[expose] public section

set_option maxRecDepth 16384

noncomputable section

namespace Cert.AdamQNorm

open Idealize.ShloMosaic Idealize.ShloMosaic.TcCoe Idealize.SL.Sem Cert.Adam

section Reference
open Cert.AdamQNormRefIdeal Cert.AdamQNormRefIdeal.Gen

/-- The whole array holding one number. -/
abbrev num (b : BitVec 32) : FVec Ideal S4x384 .f32 := broadcastInDim S4x384 ![] bcast_S_S4x384 (constant (F := Ideal) S_ .f32 b)

/-- The parameter's axes but the last, as rows. -/
def rows (x : FVec Ideal S4x384 .f32) : FVec Ideal S4x384 .f32 := x

/-- The gradient. -/
def ref0 (g : FVec Ideal S4x384 .f32) : FVec Ideal S4x384 .f32 := rows g

/-- The change of the parameter. -/
def ref1 (w g m v : FVec Ideal S4x384 .f32) : FVec Ideal S4x384 .f32 := change num (rows w) (rows g) (rows m) (rows v)

/-- The first moment. -/
def ref2 (g m : FVec Ideal S4x384 .f32) : FVec Ideal S4x384 .f32 := first num (rows g) (rows m)

/-- The second moment. -/
def ref3 (g v : FVec Ideal S4x384 .f32) : FVec Ideal S4x384 .f32 := second num (rows g) (rows v)

end Reference

open Cert.AdamQNormIdeal Cert.AdamQNormIdeal.Gen

/-! ## What one block's body stores, where its input blocks hold entries of whole arrays -/

section Body
variable (x0 x1 x2 x3 : Vec Ideal S4x384 .f32) (w g p q : FVec Ideal AdamQNormRefIdeal.S4x384 .f32) (r : Fin 4) (k : Fin 384) (i : Fin 4)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S4x384.Idx) : ∃ (r : Fin 4) (k : Fin 384) (i : Fin 4), y = ix2 r k ∧ i.val = t.val * 4 + r.val := by
  have hN : t.val < 1 := lt_of_lt_of_eq t.isLt N_0
  exact ⟨y 0, y 1, ⟨t.val * 4 + (y 0).val, by have := (y 0).isLt; change _ < 4 at this; omega⟩, eq_ix2 y, rfl⟩

section Blocks
variable (r : Fin 4) (k : Fin 384) (i : Fin 4) (hi : i.val = t.val * 4 + r.val)
include hi

/-- Window 0's block, read at an entry, is its argument's entry there. -/
theorem blk0 : iblk m c 0 t (ix2 r k) = rows (m ((c : Thread nD τ).loc main_arg0)) (ix2 i k) := by
  unfold iblk
  show V m c main_arg0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_arg1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_arg2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_arg3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v0_0) = ref0 (m ((c : Thread nD τ).loc main_arg1))
      ∧ r.2.mem ((c : Thread nD τ).loc main_v0_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = ref2 (m ((c : Thread nD τ).loc main_arg1)) (m ((c : Thread nD τ).loc main_arg2))
      ∧ r.2.mem ((c : Thread nD τ).loc main_v0_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamQNorm

end
-- ==== Proof.AdamKvNorm.lean ====
/-
  The optimiser's step of the key and value norm's gains: every row block of the four result arrays is the reference's update of the argument arrays at
  that block, so the arrays after the run are the reference's.
-/
module

public import proofs.«01_k».proof.Proof.Gen.AdamKvNormIdeal.Value
public import proofs.«01_k».proof.Proof.Gen.AdamKvNormRefIdeal.Run
public import proofs.«01_k».proof.Proof.Adam
public import Idealize.ShloMosaic.Lib.Pipeline.ValueKit
public import Idealize.ShloMosaic.Lib.Claim

@[expose] public section

set_option maxRecDepth 16384

noncomputable section

namespace Cert.AdamKvNorm

open Idealize.ShloMosaic Idealize.ShloMosaic.TcCoe Idealize.SL.Sem Cert.Adam

section Reference
open Cert.AdamKvNormRefIdeal Cert.AdamKvNormRefIdeal.Gen

/-- The whole array holding one number. -/
abbrev num (b : BitVec 32) : FVec Ideal S4x256 .f32 := broadcastInDim S4x256 ![] bcast_S_S4x256 (constant (F := Ideal) S_ .f32 b)

/-- The parameter's axes but the last, as rows. -/
def rows (x : FVec Ideal S4x256 .f32) : FVec Ideal S4x256 .f32 := x

/-- The gradient. -/
def ref0 (g : FVec Ideal S4x256 .f32) : FVec Ideal S4x256 .f32 := rows g

/-- The change of the parameter. -/
def ref1 (w g m v : FVec Ideal S4x256 .f32) : FVec Ideal S4x256 .f32 := change num (rows w) (rows g) (rows m) (rows v)

/-- The first moment. -/
def ref2 (g m : FVec Ideal S4x256 .f32) : FVec Ideal S4x256 .f32 := first num (rows g) (rows m)

/-- The second moment. -/
def ref3 (g v : FVec Ideal S4x256 .f32) : FVec Ideal S4x256 .f32 := second num (rows g) (rows v)

end Reference

open Cert.AdamKvNormIdeal Cert.AdamKvNormIdeal.Gen

/-! ## What one block's body stores, where its input blocks hold entries of whole arrays -/

section Body
variable (x0 x1 x2 x3 : Vec Ideal S4x256 .f32) (w g p q : FVec Ideal AdamKvNormRefIdeal.S4x256 .f32) (r : Fin 4) (k : Fin 256) (i : Fin 4)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S4x256.Idx) : ∃ (r : Fin 4) (k : Fin 256) (i : Fin 4), y = ix2 r k ∧ i.val = t.val * 4 + r.val := by
  have hN : t.val < 1 := lt_of_lt_of_eq t.isLt N_0
  exact ⟨y 0, y 1, ⟨t.val * 4 + (y 0).val, by have := (y 0).isLt; change _ < 4 at this; omega⟩, eq_ix2 y, rfl⟩

section Blocks
variable (r : Fin 4) (k : Fin 256) (i : Fin 4) (hi : i.val = t.val * 4 + r.val)
include hi

/-- Window 0's block, read at an entry, is its argument's entry there. -/
theorem blk0 : iblk m c 0 t (ix2 r k) = rows (m ((c : Thread nD τ).loc main_arg0)) (ix2 i k) := by
  unfold iblk
  show V m c main_arg0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_arg1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_arg2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_arg3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v0_0) = ref0 (m ((c : Thread nD τ).loc main_arg1))
      ∧ r.2.mem ((c : Thread nD τ).loc main_v0_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = ref2 (m ((c : Thread nD τ).loc main_arg1)) (m ((c : Thread nD τ).loc main_arg2))
      ∧ r.2.mem ((c : Thread nD τ).loc main_v0_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamKvNorm

end
-- ==== Proof.AdamSguW.lean ====
/-
  The optimiser's step of the spatial gate's weights: every row block of the four result arrays is the reference's update of the argument arrays at
  that block, so the arrays after the run are the reference's.
-/
module

public import proofs.«01_k».proof.Proof.Gen.AdamSguWIdeal.Value
public import proofs.«01_k».proof.Proof.Gen.AdamSguWRefIdeal.Run
public import proofs.«01_k».proof.Proof.Adam
public import Idealize.ShloMosaic.Lib.Pipeline.ValueKit
public import Idealize.ShloMosaic.Lib.Claim

@[expose] public section

set_option maxRecDepth 16384

noncomputable section

namespace Cert.AdamSguW

open Idealize.ShloMosaic Idealize.ShloMosaic.TcCoe Idealize.SL.Sem Cert.Adam

section Reference
open Cert.AdamSguWRefIdeal Cert.AdamSguWRefIdeal.Gen

/-- The whole array holding one number. -/
abbrev num (b : BitVec 32) : FVec Ideal S2048x128 .f32 := broadcastInDim S2048x128 ![] bcast_S_S2048x128 (constant (F := Ideal) S_ .f32 b)

/-- The parameter's axes but the last, as rows. -/
def rows (x : FVec Ideal S4x4x128x128 .f32) : FVec Ideal S2048x128 .f32 := (shapeCast S2048x128 x shapeCasts_S4x4x128x128_S2048x128)

/-- The gradient. -/
def ref0 (g : FVec Ideal S4x4x128x128 .f32) : FVec Ideal S2048x128 .f32 := rows g

/-- The change of the parameter. -/
def ref1 (w g m v : FVec Ideal S4x4x128x128 .f32) : FVec Ideal S2048x128 .f32 := change num (rows w) (rows g) (rows m) (rows v)

/-- The first moment. -/
def ref2 (g m : FVec Ideal S4x4x128x128 .f32) : FVec Ideal S2048x128 .f32 := first num (rows g) (rows m)

/-- The second moment. -/
def ref3 (g v : FVec Ideal S4x4x128x128 .f32) : FVec Ideal S2048x128 .f32 := second num (rows g) (rows v)

end Reference

open Cert.AdamSguWIdeal Cert.AdamSguWIdeal.Gen

/-! ## What one block's body stores, where its input blocks hold entries of whole arrays -/

section Body
variable (x0 x1 x2 x3 : Vec Ideal S256x128 .f32) (w g p q : FVec Ideal AdamSguWRefIdeal.S2048x128 .f32) (r : Fin 256) (k : Fin 128) (i : Fin 2048)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3, k0_pay4]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, k0_pay4, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, k0_pay4, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, k0_pay4, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S256x128.Idx) : ∃ (r : Fin 256) (k : Fin 128) (i : Fin 2048), y = ix2 r k ∧ i.val = t.val * 256 + r.val := by
  have hN : t.val < 8 := lt_of_lt_of_eq t.isLt N_0
  exact ⟨y 0, y 1, ⟨t.val * 256 + (y 0).val, by have := (y 0).isLt; change _ < 256 at this; omega⟩, eq_ix2 y, rfl⟩

section Blocks
variable (r : Fin 256) (k : Fin 128) (i : Fin 2048) (hi : i.val = t.val * 256 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_v1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_v2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_v3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v4_0) = ref0 (m ((c : Thread nD τ).loc main_arg1))
      ∧ r.2.mem ((c : Thread nD τ).loc main_v4_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v4_2) = ref2 (m ((c : Thread nD τ).loc main_arg1)) (m ((c : Thread nD τ).loc main_arg2))
      ∧ r.2.mem ((c : Thread nD τ).loc main_v4_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamSguW

end
-- ==== Proof.AdamSguB.lean ====
/-
  The optimiser's step of the spatial gate's offsets: every row block of the four result arrays is the reference's update of the argument arrays at
  that block, so the arrays after the run are the reference's.
-/
module

public import proofs.«01_k».proof.Proof.Gen.AdamSguBIdeal.Value
public import proofs.«01_k».proof.Proof.Gen.AdamSguBRefIdeal.Run
public import proofs.«01_k».proof.Proof.Adam
public import Idealize.ShloMosaic.Lib.Pipeline.ValueKit
public import Idealize.ShloMosaic.Lib.Claim

@[expose] public section

set_option maxRecDepth 16384

noncomputable section

namespace Cert.AdamSguB

open Idealize.ShloMosaic Idealize.ShloMosaic.TcCoe Idealize.SL.Sem Cert.Adam

section Reference
open Cert.AdamSguBRefIdeal Cert.AdamSguBRefIdeal.Gen

/-- The whole array holding one number. -/
abbrev num (b : BitVec 32) : FVec Ideal S16x128 .f32 := broadcastInDim S16x128 ![] bcast_S_S16x128 (constant (F := Ideal) S_ .f32 b)

/-- The parameter's axes but the last, as rows. -/
def rows (x : FVec Ideal S4x4x128 .f32) : FVec Ideal S16x128 .f32 := (shapeCast S16x128 x shapeCasts_S4x4x128_S16x128)

/-- The gradient. -/
def ref0 (g : FVec Ideal S4x4x128 .f32) : FVec Ideal S16x128 .f32 := rows g

/-- The change of the parameter. -/
def ref1 (w g m v : FVec Ideal S4x4x128 .f32) : FVec Ideal S16x128 .f32 := change num (rows w) (rows g) (rows m) (rows v)

/-- The first moment. -/
def ref2 (g m : FVec Ideal S4x4x128 .f32) : FVec Ideal S16x128 .f32 := first num (rows g) (rows m)

/-- The second moment. -/
def ref3 (g v : FVec Ideal S4x4x128 .f32) : FVec Ideal S16x128 .f32 := second num (rows g) (rows v)

end Reference

open Cert.AdamSguBIdeal Cert.AdamSguBIdeal.Gen

/-! ## What one block's body stores, where its input blocks hold entries of whole arrays -/

section Body
variable (x0 x1 x2 x3 : Vec Ideal S16x128 .f32) (w g p q : FVec Ideal AdamSguBRefIdeal.S16x128 .f32) (r : Fin 16) (k : Fin 128) (i : Fin 16)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3, k0_pay4]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, k0_pay4, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, k0_pay4, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, k0_pay4, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S16x128.Idx) : ∃ (r : Fin 16) (k : Fin 128) (i : Fin 16), y = ix2 r k ∧ i.val = t.val * 16 + r.val := by
  have hN : t.val < 1 := lt_of_lt_of_eq t.isLt N_0
  exact ⟨y 0, y 1, ⟨t.val * 16 + (y 0).val, by have := (y 0).isLt; change _ < 16 at this; omega⟩, eq_ix2 y, rfl⟩

section Blocks
variable (r : Fin 16) (k : Fin 128) (i : Fin 16) (hi : i.val = t.val * 16 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_v1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_v2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_v3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v4_0) = ref0 (m ((c : Thread nD τ).loc main_arg1))
      ∧ r.2.mem ((c : Thread nD τ).loc main_v4_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v4_2) = ref2 (m ((c : Thread nD τ).loc main_arg1)) (m ((c : Thread nD τ).loc main_arg2))
      ∧ r.2.mem ((c : Thread nD τ).loc main_v4_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamSguB

end
-- ==== Proof.AdamRow1024.lean ====
/-
  The optimiser's step of a parameter of 1024 numbers a layer: every row block of the four result arrays is the reference's update of the argument arrays at
  that block, so the arrays after the run are the reference's.
-/
module

public import proofs.«01_k».proof.Proof.Gen.AdamRow1024Ideal.Value
public import proofs.«01_k».proof.Proof.Gen.AdamRow1024RefIdeal.Run
public import proofs.«01_k».proof.Proof.Adam
public import Idealize.ShloMosaic.Lib.Pipeline.ValueKit
public import Idealize.ShloMosaic.Lib.Claim

@[expose] public section

set_option maxRecDepth 16384

noncomputable section

namespace Cert.AdamRow1024

open Idealize.ShloMosaic Idealize.ShloMosaic.TcCoe Idealize.SL.Sem Cert.Adam

section Reference
open Cert.AdamRow1024RefIdeal Cert.AdamRow1024RefIdeal.Gen

/-- The whole array holding one number. -/
abbrev num (b : BitVec 32) : FVec Ideal S4x1024 .f32 := broadcastInDim S4x1024 ![] bcast_S_S4x1024 (constant (F := Ideal) S_ .f32 b)

/-- The parameter's axes but the last, as rows. -/
def rows (x : FVec Ideal S4x1024 .f32) : FVec Ideal S4x1024 .f32 := x

/-- The gradient. -/
def ref0 (g : FVec Ideal S4x1024 .f32) : FVec Ideal S4x1024 .f32 := rows g

/-- The change of the parameter. -/
def ref1 (w g m v : FVec Ideal S4x1024 .f32) : FVec Ideal S4x1024 .f32 := change num (rows w) (rows g) (rows m) (rows v)

/-- The first moment. -/
def ref2 (g m : FVec Ideal S4x1024 .f32) : FVec Ideal S4x1024 .f32 := first num (rows g) (rows m)

/-- The second moment. -/
def ref3 (g v : FVec Ideal S4x1024 .f32) : FVec Ideal S4x1024 .f32 := second num (rows g) (rows v)

end Reference

open Cert.AdamRow1024Ideal Cert.AdamRow1024Ideal.Gen

/-! ## What one block's body stores, where its input blocks hold entries of whole arrays -/

section Body
variable (x0 x1 x2 x3 : Vec Ideal S4x1024 .f32) (w g p q : FVec Ideal AdamRow1024RefIdeal.S4x1024 .f32) (r : Fin 4) (k : Fin 1024) (i : Fin 4)

/-- The gradient's block. -/
theorem out4 (h1 : x1 (ix2 r k) = g (ix2 i k)) : out0_4 x0 x1 x2 x3 (ix2 r k) = g (ix2 i k) := by
  unfold out0_4
  rw [View.canon_unit_zero origin, View.ld_unit_zero origin]
  pointwise [k0_pay1, k0_pay2, k0_pay3]
  exact h1

/-- The change's block. -/
theorem out5 (h0 : x0 (ix2 r k) = w (ix2 i k)) (h1 : x1 (ix2 r k) = g (ix2 i k)) (h2 : x2 (ix2 r k) = p (ix2 i k))
    (h3 : x3 (ix2 r k) = q (ix2 i k)) : out0_5 x0 x1 x2 x3 (ix2 r k) = change num w g p q (ix2 i k) := by
  unfold out0_5
  rw [View.canon_unit_zero origin, View.ld_unit_zero origin, View.ld_unit_zero origin, View.ld_unit_zero origin, View.ld_unit_zero origin]
  pointwise [k0_pay1, k0_pay2, k0_pay3, change, first, second, num]
  rw [h0, h1, h2, h3]

/-- The first moment's block. -/
theorem out6 (h1 : x1 (ix2 r k) = g (ix2 i k)) (h2 : x2 (ix2 r k) = p (ix2 i k)) :
    out0_6 x0 x1 x2 x3 (ix2 r k) = first num g p (ix2 i k) := by
  unfold out0_6
  rw [View.canon_unit_zero origin, View.ld_unit_zero origin, View.ld_unit_zero origin]
  pointwise [k0_pay1, k0_pay2, k0_pay3, first, num]
  rw [h1, h2]

/-- The second moment's block. -/
theorem out7 (h1 : x1 (ix2 r k) = g (ix2 i k)) (h3 : x3 (ix2 r k) = q (ix2 i k)) :
    out0_7 x0 x1 x2 x3 (ix2 r k) = second num g q (ix2 i k) := by
  unfold out0_7
  rw [View.canon_unit_zero origin, View.ld_unit_zero origin, View.ld_unit_zero origin]
  pointwise [k0_pay1, k0_pay2, k0_pay3, second, num]
  rw [h1, h3]

end Body

/-! ## The blocks of the grid -/

variable (m : (ℓ : Loc nD τ sig) → Buf (Elt Ideal) ℓ) (ρ : Dev nD → PrngReg) (c : Dev nD) (t : Fin cfg0.N)

/-- Point `t` works on row block `t` of every array. -/
theorem idx : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

/-- An entry of a block, and its row in the whole array. -/
theorem place (y : S4x1024.Idx) : ∃ (r : Fin 4) (k : Fin 1024) (i : Fin 4), y = ix2 r k ∧ i.val = t.val * 4 + r.val := by
  have hN : t.val < 1 := lt_of_lt_of_eq t.isLt N_0
  exact ⟨y 0, y 1, ⟨t.val * 4 + (y 0).val, by have := (y 0).isLt; change _ < 4 at this; omega⟩, eq_ix2 y, rfl⟩

section Blocks
variable (r : Fin 4) (k : Fin 1024) (i : Fin 4) (hi : i.val = t.val * 4 + r.val)
include hi

/-- Window 0's block, read at an entry, is its argument's entry there. -/
theorem blk0 : iblk m c 0 t (ix2 r k) = rows (m ((c : Thread nD τ).loc main_arg0)) (ix2 i k) := by
  unfold iblk
  show V m c main_arg0 (((cfg0.win 0).blk t).view.emb (ix2 r k)) = _
  rw [show ((cfg0.win 0).blk t).view.emb (ix2 r k) = ix2 i k from at2 (row_at (idx t).1.1 hi) (all_at (idx t).1.2)]
  entry_read
  rfl

/-- Window 1's block, read at an entry, is its argument's entry there. -/
theorem blk1 : iblk m c 1 t (ix2 r k) = rows (m ((c : Thread nD τ).loc main_arg1)) (ix2 i k) := by
  unfold iblk
  show V m c main_arg1 (((cfg0.win 1).blk t).view.emb (ix2 r k)) = _
  rw [show ((cfg0.win 1).blk t).view.emb (ix2 r k) = ix2 i k from at2 (row_at (idx t).2.1.1 hi) (all_at (idx t).2.1.2)]
  entry_read
  rfl

/-- Window 2's block, read at an entry, is its argument's entry there. -/
theorem blk2 : iblk m c 2 t (ix2 r k) = rows (m ((c : Thread nD τ).loc main_arg2)) (ix2 i k) := by
  unfold iblk
  show V m c main_arg2 (((cfg0.win 2).blk t).view.emb (ix2 r k)) = _
  rw [show ((cfg0.win 2).blk t).view.emb (ix2 r k) = ix2 i k from at2 (row_at (idx t).2.2.1.1 hi) (all_at (idx t).2.2.1.2)]
  entry_read
  rfl

/-- Window 3's block, read at an entry, is its argument's entry there. -/
theorem blk3 : iblk m c 3 t (ix2 r k) = rows (m ((c : Thread nD τ).loc main_arg3)) (ix2 i k) := by
  unfold iblk
  show V m c main_arg3 (((cfg0.win 3).blk t).view.emb (ix2 r k)) = _
  rw [show ((cfg0.win 3).blk t).view.emb (ix2 r k) = ix2 i k from at2 (row_at (idx t).2.2.2.1.1 hi) (all_at (idx t).2.2.2.1.2)]
  entry_read
  rfl

end Blocks

/-! ## The result arrays -/

/-- After the run the gradient array is the reference's. -/
theorem final4 : (dats m 0 c).arrAt 4 cfg0.N = ref0 (m ((c : Thread nD τ).loc main_arg1)) := by
  refine (dats m 0 c).arrAt_eq_of_covers 4 _ (by decide +kernel) fun t _ y => ?_
  blk_simp
  rw [after0_4]
  obtain ⟨r, k, i, rfl, hi⟩ := place t y
  rw [show ((cfg0.win 4).blk t).view.emb (ix2 r k) = ix2 i k from at2 (row_at (idx t).2.2.2.2.1.1 hi) (all_at (idx t).2.2.2.2.1.2)]
  exact out4 _ _ _ _ _ r k i (blk1 m c t r k i hi)

/-- After the run the change array is the reference's. -/
theorem final5 : (dats m 0 c).arrAt 5 cfg0.N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, k, i, rfl, hi⟩ := place t y
  rw [show ((cfg0.win 5).blk t).view.emb (ix2 r k) = ix2 i k from at2 (row_at (idx t).2.2.2.2.2.1.1 hi) (all_at (idx t).2.2.2.2.2.1.2)]
  exact out5 _ _ _ _ _ _ _ _ r k i (blk0 m c t r k i hi) (blk1 m c t r k i hi) (blk2 m c t r k i hi) (blk3 m c t r k i hi)

/-- After the run the first-moment array is the reference's. -/
theorem final6 : (dats m 0 c).arrAt 6 cfg0.N = ref2 (m ((c : Thread nD τ).loc main_arg1)) (m ((c : Thread nD τ).loc main_arg2)) := by
  refine (dats m 0 c).arrAt_eq_of_covers 6 _ (by decide +kernel) fun t _ y => ?_
  blk_simp
  rw [after0_6]
  obtain ⟨r, k, i, rfl, hi⟩ := place t y
  rw [show ((cfg0.win 6).blk t).view.emb (ix2 r k) = ix2 i k from at2 (row_at (idx t).2.2.2.2.2.2.1.1 hi) (all_at (idx t).2.2.2.2.2.2.1.2)]
  exact out6 _ _ _ _ _ _ r k i (blk1 m c t r k i hi) (blk2 m c t r k i hi)

/-- After the run the second-moment array is the reference's. -/
theorem final7 : (dats m 0 c).arrAt 7 cfg0.N = ref3 (m ((c : Thread nD τ).loc main_arg1)) (m ((c : Thread nD τ).loc main_arg3)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.2.2.2.2.1 hi) (all_at (idx t).2.2.2.2.2.2.2.2)]
  exact out7 _ _ _ _ _ _ r k i (blk1 m c t r k i hi) (blk3 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v0_0) = ref0 (m ((c : Thread nD τ).loc main_arg1))
      ∧ r.2.mem ((c : Thread nD τ).loc main_v0_1) = ref1 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = ref2 (m ((c : Thread nD τ).loc main_arg1)) (m ((c : Thread nD τ).loc main_arg2))
      ∧ r.2.mem ((c : Thread nD τ).loc main_v0_3) = ref3 (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
    (h c).2.2.1.trans (final6 m c), (h c).2.2.2.1.trans (final7 m c), (h c).2.2.2.2⟩) (Value.run_blocks m ρ)

end Cert.AdamRow1024

end
-- ==== Proof.AdamWIn.lean ====
/-
  The optimiser's step of the input projection's weights: the gradient is the sum of the eight parts that arrived for a layer; every
  row block of the four result arrays is the reference's update of the argument arrays at that block.
-/
module

public import proofs.«01_k».proof.Proof.Gen.AdamWInIdeal.Value
public import proofs.«01_k».proof.Proof.Gen.AdamWInRefIdeal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamWIn

open Idealize.ShloMosaic Idealize.ShloMosaic.TcCoe Idealize.SL.Sem Cert.Adam

section Reference
open Cert.AdamWInRefIdeal Cert.AdamWInRefIdeal.Gen

/-- The whole array holding one number. -/
abbrev num (b : BitVec 32) : FVec Ideal S4096x660 .f32 := broadcastInDim S4096x660 ![] bcast_S_S4096x660 (constant (F := Ideal) S_ .f32 b)

/-- The parameter's axes but the last, as rows. -/
def rows (x : FVec Ideal S4x1024x660 .f32) : FVec Ideal S4096x660 .f32 := shapeCast S4096x660 x shapeCasts_S4x1024x660_S4096x660

/-- The sum of a layer's eight parts. -/
def total (g : FVec Ideal S8x1024x660 .bf16) : FVec Ideal S1x1024x660 .f32 :=
  broadcastInDim S1x1024x660 ![1, 2] bcast_S1024x660_S1x1024x660_1_2
    (Host.reduceAdd (extf .f32 g bitsLt_bf16_f32) (constant (F := Ideal) S_ .f32 0x00000000#32) reducesTo_S8x1024x660_S1024x660_d0 h_S_)

variable (g0 g1 g2 g3 : FVec Ideal S8x1024x660 .bf16) (w m v : FVec Ideal S4x1024x660 .f32)

/-- The gradient: the layers' sums one after another, as rows. -/
def ref0 : FVec Ideal S4096x660 .f32 :=
  rows (concatenate S4x1024x660 0 [⟨S1x1024x660, total g0⟩, ⟨S1x1024x660, total g1⟩, ⟨S1x1024x660, total g2⟩, ⟨S1x1024x660, total g3⟩]
    concatenates_S1x1024x660_S1x1024x660_S1x1024x660_S1x1024x660_S4x1024x660_d0)

/-- The change of the parameter. -/
def ref1 : FVec Ideal S4096x660 .f32 := change num (rows w) (ref0 g0 g1 g2 g3) (rows m) (rows v)

/-- The first moment. -/
def ref2 : FVec Ideal S4096x660 .f32 := first num (ref0 g0 g1 g2 g3) (rows m)

/-- The second moment. -/
def ref3 : FVec Ideal S4096x660 .f32 := second num (ref0 g0 g1 g2 g3) (rows v)

/-- The reference's run, its results named. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v40) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v21) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v27) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Cert.AdamWInRefIdeal.Value.run m ρ

end Reference

section Entries
variable (g0 g1 g2 g3 : FVec Ideal AdamWInRefIdeal.S8x1024x660 .bf16) (b : Fin 1024) (k : Fin 660) (i : Fin 4096)

/-- The gradient at a row of layer 0: the sum of the eight parts at the row of the layer. -/
theorem grad0 (h : i.val = 0 + b.val) : ref0 g0 g1 g2 g3 (ix2 i k) = ∑ d : Fin 8, g0 (ix3 d b k) := by
  pointwise [ref0, rows, total]
  rw [dif_pos (show i.val / 1024 < 1 by omega)]
  simp only [show (⟨i.val % 1024, Nat.mod_lt _ (by decide)⟩ : Fin 1024) = b from Fin.ext (show i.val % 1024 = b.val by omega)]

/-- The gradient at a row of layer 1: the sum of the eight parts at the row of the layer. -/
theorem grad1 (h : i.val = 1024 + b.val) : ref0 g0 g1 g2 g3 (ix2 i k) = ∑ d : Fin 8, g1 (ix3 d b k) := by
  pointwise [ref0, rows, total]
  rw [dif_neg (show ¬i.val / 1024 < 1 by omega), dif_pos (show i.val / 1024 - 1 < 1 by omega)]
  simp only [show (⟨i.val % 1024, Nat.mod_lt _ (by decide)⟩ : Fin 1024) = b from Fin.ext (show i.val % 1024 = b.val by omega)]

/-- The gradient at a row of layer 2: the sum of the eight parts at the row of the layer. -/
theorem grad2 (h : i.val = 2048 + b.val) : ref0 g0 g1 g2 g3 (ix2 i k) = ∑ d : Fin 8, g2 (ix3 d b k) := by
  pointwise [ref0, rows, total]
  rw [dif_neg (show ¬i.val / 1024 < 1 by omega), dif_neg (show ¬i.val / 1024 - 1 < 1 by omega), dif_pos (show i.val / 1024 - 1 - 1 < 1 by omega)]
  simp only [show (⟨i.val % 1024, Nat.mod_lt _ (by decide)⟩ : Fin 1024) = b from Fin.ext (show i.val % 1024 = b.val by omega)]

/-- The gradient at a row of layer 3: the sum of the eight parts at the row of the layer. -/
theorem grad3 (h : i.val = 3072 + b.val) : ref0 g0 g1 g2 g3 (ix2 i k) = ∑ d : Fin 8, g3 (ix3 d b k) := by
  pointwise [ref0, rows, total]
  rw [dif_neg (show ¬i.val / 1024 < 1 by omega), dif_neg (show ¬i.val / 1024 - 1 < 1 by omega), dif_neg (show ¬i.val / 1024 - 1 - 1 < 1 by omega)]
  simp only [show (⟨i.val % 1024, Nat.mod_lt _ (by decide)⟩ : Fin 1024) = b from Fin.ext (show i.val % 1024 = b.val by omega)]

end Entries

open Cert.AdamWInIdeal Cert.AdamWInIdeal.Gen

/-! ## What one block's body stores, where its input blocks hold entries of whole arrays -/

/-- The body's sum of the eight parts of a block. -/
def sum8 (x : Vec Ideal S8x256x660 .bf16) : FVec Ideal S256x660 .f32 :=
  k0_pay13 (View.ld x (Rect.unit ![0, 0, 0] ![1, 256, 660] inb_S8x256x660_S1x256x660_0_0_0))
    (View.ld x (Rect.unit ![1, 0, 0] ![1, 256, 660] inb_S8x256x660_S1x256x660_1_0_0))
    (View.ld x (Rect.unit ![2, 0, 0] ![1, 256, 660] inb_S8x256x660_S1x256x660_2_0_0))
    (View.ld x (Rect.unit ![3, 0, 0] ![1, 256, 660] inb_S8x256x660_S1x256x660_3_0_0))
    (View.ld x (Rect.unit ![4, 0, 0] ![1, 256, 660] inb_S8x256x660_S1x256x660_4_0_0))
    (View.ld x (Rect.unit ![5, 0, 0] ![1, 256, 660] inb_S8x256x660_S1x256x660_5_0_0))
    (View.ld x (Rect.unit ![6, 0, 0] ![1, 256, 660] inb_S8x256x660_S1x256x660_6_0_0))
    (View.ld x (Rect.unit ![7, 0, 0] ![1, 256, 660] inb_S8x256x660_S1x256x660_7_0_0))

section Body
variable (z : FVec Ideal S256x660 .f32) (x0 x2 x3 : Vec Ideal S256x660 .f32) (x : Vec Ideal S8x256x660 .bf16)
  (w g p q : FVec Ideal AdamWInRefIdeal.S4096x660 .f32) (r : Fin 256) (k : Fin 660) (i : Fin 4096)

/-- That sum at an entry. -/
theorem sum8_apply (y : Fin 8 → EReal) (h : ∀ d, x (ix3 d r k) = y d) : sum8 x (ix2 r k) = ∑ d, y d := by
  pointwise [sum8, k0_pay13]
  rw [Fin.sum_univ_eight]
  simp only [← h]

/-- The first moment's block. -/
theorem out9 (h1 : z (ix2 r k) = g (ix2 i k)) (h2 : x2 (ix2 r k) = p (ix2 i k)) :
    k0_pay1 z (k0_pay14 x2) (FloatOps.ofBits FTy.f32 1063675494#32) (ix2 r k) = first num g p (ix2 i k) := by
  pointwise [k0_pay1, k0_pay14, first, num]
  rw [h1, h2]

/-- The second moment's block. -/
theorem out10 (h1 : z (ix2 r k) = g (ix2 i k)) (h3 : x3 (ix2 r k) = q (ix2 i k)) :
    k0_pay2 z x3 (ix2 r k) = second num g q (ix2 i k) := by
  pointwise [k0_pay2, second, num]
  rw [h1, h3]

/-- The change's block. -/
theorem out8 (h0 : x0 (ix2 r k) = w (ix2 i k)) (h1 : z (ix2 r k) = g (ix2 i k)) (h2 : x2 (ix2 r k) = p (ix2 i k))
    (h3 : x3 (ix2 r k) = q (ix2 i k)) :
    k0_pay3 z (k0_pay14 x2) (FloatOps.ofBits FTy.f32 1063675494#32) x3 x0 (ix2 r k) = change num w g p q (ix2 i k) := by
  pointwise [k0_pay1, k0_pay2, k0_pay3, k0_pay14, change, first, second, num]
  rw [h0, h1, h2, h3]

end Body

/-! ## The blocks of the grid -/

variable (m : (ℓ : Loc nD τ sig) → Buf (Elt Ideal) ℓ) (ρ : Dev nD → PrngReg) (c : Dev nD) (t : Fin cfg0.N)

/-- Point `t` works on row block `t` of the parameter, and on the parts of the layer it lies in. -/
theorem idx : ∀ t : Fin grid0.N, (win0_0.index t (0 : Fin 2) = t.val ∧ win0_0.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (t.val / 4 = 0 → win0_1.index t (0 : Fin 3) = 0 ∧ win0_1.index t (1 : Fin 3) = t.val - 0 ∧ win0_1.index t (2 : Fin 3) = 0)
    ∧ (t.val / 4 = 1 → win0_2.index t (0 : Fin 3) = 0 ∧ win0_2.index t (1 : Fin 3) = t.val - 4 ∧ win0_2.index t (2 : Fin 3) = 0)
    ∧ (t.val / 4 = 2 → win0_3.index t (0 : Fin 3) = 0 ∧ win0_3.index t (1 : Fin 3) = t.val - 8 ∧ win0_3.index t (2 : Fin 3) = 0)
    ∧ (t.val / 4 = 3 → win0_4.index t (0 : Fin 3) = 0 ∧ win0_4.index t (1 : Fin 3) = t.val - 12 ∧ win0_4.index t (2 : Fin 3) = 0) := by
  decide +kernel

/-- An entry of a block, and its row in the whole array. -/
theorem place (y : S256x660.Idx) : ∃ (r : Fin 256) (k : Fin 660) (i : Fin 4096), y = ix2 r k ∧ i.val = t.val * 256 + r.val := by
  have hN : t.val < 16 := lt_of_lt_of_eq t.isLt N_0
  exact ⟨y 0, y 1, ⟨t.val * 256 + (y 0).val, by have := (y 0).isLt; change _ < 256 at this; omega⟩, eq_ix2 y, rfl⟩

/-- The layer of a point. -/
theorem layer : t.val / 4 = 0 ∨ t.val / 4 = 1 ∨ t.val / 4 = 2 ∨ t.val / 4 = 3 := by
  have hN : t.val < 16 := lt_of_lt_of_eq t.isLt N_0
  omega

section Blocks
variable (r : Fin 256) (k : Fin 660) (i : Fin 4096) (hi : i.val = t.val * 256 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 5's block, read at an entry, is its argument's entry there. -/
theorem blk5 : iblk m c 5 t (ix2 r k) = rows (m ((c : Thread nD τ).loc main_arg5)) (ix2 i k) := by
  unfold iblk
  show V m c main_v1 (((cfg0.win 5).blk t).view.emb (ix2 r k)) = _
  rw [show ((cfg0.win 5).blk t).view.emb (ix2 r k) = ix2 i k from at2 (row_at (idx t).2.1.1 hi) (all_at (idx t).2.1.2)]
  entry_read
  rfl

/-- Window 6's block, read at an entry, is its argument's entry there. -/
theorem blk6 : iblk m c 6 t (ix2 r k) = rows (m ((c : Thread nD τ).loc main_arg6)) (ix2 i k) := by
  unfold iblk
  show V m c main_v2 (((cfg0.win 6).blk t).view.emb (ix2 r k)) = _
  rw [show ((cfg0.win 6).blk t).view.emb (ix2 r k) = ix2 i k from at2 (row_at (idx t).2.2.1.1 hi) (all_at (idx t).2.2.1.2)]
  entry_read
  rfl

/-- The gradient a point of layer 0 computes is the reference's at the block's rows. -/
theorem point0 (hl : t.val / 4 = 0) : sum8 (iblk m c 1 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1024, 0 + b.val = i.val := ⟨⟨i.val - 0, by omega⟩, by show 0 + (i.val - 0) = i.val; omega⟩
  rw [grad0 _ _ _ _ b k i hb.symm]
  refine sum8_apply _ r k _ fun d => ?_
  obtain ⟨h0, h1, h2⟩ := (idx t).2.2.2.2.2.2.2.1 hl
  unfold iblk
  show V m c main_arg1 (((cfg0.win 1).blk t).view.emb (ix3 d r k)) = _
  rw [show ((cfg0.win 1).blk t).view.emb (ix3 d r k) = ix3 d b k from
    at3 (all_at h0) (row_at h1 (show b.val = (t.val - 0) * 256 + r.val by omega)) (all_at h2)]
  entry_read
  rfl

/-- The gradient a point of layer 1 computes is the reference's at the block's rows. -/
theorem point1 (hl : t.val / 4 = 1) : sum8 (iblk m c 2 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1024, 1024 + b.val = i.val := ⟨⟨i.val - 1024, by omega⟩, by show 1024 + (i.val - 1024) = i.val; omega⟩
  rw [grad1 _ _ _ _ b k i hb.symm]
  refine sum8_apply _ r k _ fun d => ?_
  obtain ⟨h0, h1, h2⟩ := (idx t).2.2.2.2.2.2.2.2.1 hl
  unfold iblk
  show V m c main_arg2 (((cfg0.win 2).blk t).view.emb (ix3 d r k)) = _
  rw [show ((cfg0.win 2).blk t).view.emb (ix3 d r k) = ix3 d b k from
    at3 (all_at h0) (row_at h1 (show b.val = (t.val - 4) * 256 + r.val by omega)) (all_at h2)]
  entry_read
  rfl

/-- The gradient a point of layer 2 computes is the reference's at the block's rows. -/
theorem point2 (hl : t.val / 4 = 2) : sum8 (iblk m c 3 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1024, 2048 + b.val = i.val := ⟨⟨i.val - 2048, by omega⟩, by show 2048 + (i.val - 2048) = i.val; omega⟩
  rw [grad2 _ _ _ _ b k i hb.symm]
  refine sum8_apply _ r k _ fun d => ?_
  obtain ⟨h0, h1, h2⟩ := (idx t).2.2.2.2.2.2.2.2.2.1 hl
  unfold iblk
  show V m c main_arg3 (((cfg0.win 3).blk t).view.emb (ix3 d r k)) = _
  rw [show ((cfg0.win 3).blk t).view.emb (ix3 d r k) = ix3 d b k from
    at3 (all_at h0) (row_at h1 (show b.val = (t.val - 8) * 256 + r.val by omega)) (all_at h2)]
  entry_read
  rfl

/-- The gradient a point of layer 3 computes is the reference's at the block's rows. -/
theorem point3 (hl : t.val / 4 = 3) : sum8 (iblk m c 4 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1024, 3072 + b.val = i.val := ⟨⟨i.val - 3072, by omega⟩, by show 3072 + (i.val - 3072) = i.val; omega⟩
  rw [grad3 _ _ _ _ b k i hb.symm]
  refine sum8_apply _ r k _ fun d => ?_
  obtain ⟨h0, h1, h2⟩ := (idx t).2.2.2.2.2.2.2.2.2.2 hl
  unfold iblk
  show V m c main_arg4 (((cfg0.win 4).blk t).view.emb (ix3 d r k)) = _
  rw [show ((cfg0.win 4).blk t).view.emb (ix3 d r k) = ix3 d b k from
    at3 (all_at h0) (row_at h1 (show b.val = (t.val - 12) * 256 + r.val by omega)) (all_at h2)]
  entry_read
  rfl

end Blocks

/-! ## The result arrays -/

/-- After the run the gradient array is the reference's. -/
theorem final7 : (dats m 0 c).arrAt 7 cfg0.N = ref0 (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.1.1 hi) (all_at (idx t).2.2.2.1.2)]
  obtain hl | hl | hl | hl := layer t
  · rw [outsAt0_A m c t (by omega) (by omega) (by omega) (by omega)]
    frame_out
    exact point0 m c t r k i hi hl
  · rw [outsAt0_B m c t (by omega) (by omega) (by omega) (by omega)]
    frame_out
    exact point1 m c t r k i hi hl
  · rw [outsAt0_C m c t (by omega) (by omega) (by omega) (by omega)]
    frame_out
    exact point2 m c t r k i hi hl
  · rw [outsAt0_D m c t (by omega) (by omega) (by omega) (by omega)]
    frame_out
    exact point3 m c t r k i hi hl

/-- After the run the change array is the reference's. -/
theorem final8 : (dats m 0 c).arrAt 8 cfg0.N = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6)) := by
  refine (dats m 0 c).arrAt_eq_of_covers 8 _ (by decide +kernel) fun t _ y => ?_
  blk_simp
  rw [after0_8]
  obtain ⟨r, k, i, rfl, hi⟩ := place t y
  rw [show ((cfg0.win 8).blk t).view.emb (ix2 r k) = ix2 i k from at2 (row_at (idx t).2.2.2.2.1.1 hi) (all_at (idx t).2.2.2.2.1.2)]
  obtain hl | hl | hl | hl := layer t
  · rw [outsAt0_A m c t (by omega) (by omega) (by omega) (by omega)]
    frame_out
    exact out8 _ _ _ _ _ _ _ _ r k i (blk0 m c t r k i hi) (point0 m c t r k i hi hl) (blk5 m c t r k i hi) (blk6 m c t r k i hi)
  · rw [outsAt0_B m c t (by omega) (by omega) (by omega) (by omega)]
    frame_out
    exact out8 _ _ _ _ _ _ _ _ r k i (blk0 m c t r k i hi) (point1 m c t r k i hi hl) (blk5 m c t r k i hi) (blk6 m c t r k i hi)
  · rw [outsAt0_C m c t (by omega) (by omega) (by omega) (by omega)]
    frame_out
    exact out8 _ _ _ _ _ _ _ _ r k i (blk0 m c t r k i hi) (point2 m c t r k i hi hl) (blk5 m c t r k i hi) (blk6 m c t r k i hi)
  · rw [outsAt0_D m c t (by omega) (by omega) (by omega) (by omega)]
    frame_out
    exact out8 _ _ _ _ _ _ _ _ r k i (blk0 m c t r k i hi) (point3 m c t r k i hi hl) (blk5 m c t r k i hi) (blk6 m c t r k i hi)

/-- After the run the first-moment array is the reference's. -/
theorem final9 : (dats m 0 c).arrAt 9 cfg0.N = ref2 (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  obtain ⟨r, k, i, rfl, hi⟩ := place t y
  rw [show ((cfg0.win 9).blk t).view.emb (ix2 r k) = ix2 i k from at2 (row_at (idx t).2.2.2.2.2.1.1 hi) (all_at (idx t).2.2.2.2.2.1.2)]
  obtain hl | hl | hl | hl := layer t
  · rw [outsAt0_A m c t (by omega) (by omega) (by omega) (by omega)]
    frame_out
    exact out9 _ _ _ _ r k i (point0 m c t r k i hi hl) (blk5 m c t r k i hi)
  · rw [outsAt0_B m c t (by omega) (by omega) (by omega) (by omega)]
    frame_out
    exact out9 _ _ _ _ r k i (point1 m c t r k i hi hl) (blk5 m c t r k i hi)
  · rw [outsAt0_C m c t (by omega) (by omega) (by omega) (by omega)]
    frame_out
    exact out9 _ _ _ _ r k i (point2 m c t r k i hi hl) (blk5 m c t r k i hi)
  · rw [outsAt0_D m c t (by omega) (by omega) (by omega) (by omega)]
    frame_out
    exact out9 _ _ _ _ r k i (point3 m c t r k i hi hl) (blk5 m c t r k i hi)

/-- After the run the second-moment array is the reference's. -/
theorem final10 : (dats m 0 c).arrAt 10 cfg0.N = ref3 (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  obtain ⟨r, k, i, rfl, hi⟩ := place t y
  rw [show ((cfg0.win 10).blk t).view.emb (ix2 r k) = ix2 i k from at2 (row_at (idx t).2.2.2.2.2.2.1.1 hi) (all_at (idx t).2.2.2.2.2.2.1.2)]
  obtain hl | hl | hl | hl := layer t
  · rw [outsAt0_A m c t (by omega) (by omega) (by omega) (by omega)]
    frame_out
    exact out10 _ _ _ _ r k i (point0 m c t r k i hi hl) (blk6 m c t r k i hi)
  · rw [outsAt0_B m c t (by omega) (by omega) (by omega) (by omega)]
    frame_out
    exact out10 _ _ _ _ r k i (point1 m c t r k i hi hl) (blk6 m c t r k i hi)
  · rw [outsAt0_C m c t (by omega) (by omega) (by omega) (by omega)]
    frame_out
    exact out10 _ _ _ _ r k i (point2 m c t r k i hi hl) (blk6 m c t r k i hi)
  · rw [outsAt0_D m c t (by omega) (by omega) (by omega) (by omega)]
    frame_out
    exact out10 _ _ _ _ r k i (point3 m c t r k i hi hl) (blk6 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v3_0) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v3_2) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v3_3) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c),
    (h c).2.2.1.trans (final9 m c), (h c).2.2.2.1.trans (final10 m c), (h c).2.2.2.2⟩) (Value.run_blocks m ρ)

end Cert.AdamWIn

end
-- ==== Proof.AdamGlu.lean ====
/-
  The optimiser's step of the state-space gate's weights: the gradient is the sum of the eight parts that arrived for a layer; every
  row block of the four result arrays is the reference's update of the argument arrays at that block.
-/
module

public import proofs.«01_k».proof.Proof.Gen.AdamGluIdeal.Value
public import proofs.«01_k».proof.Proof.Gen.AdamGluRefIdeal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamGlu

open Idealize.ShloMosaic Idealize.ShloMosaic.TcCoe Idealize.SL.Sem Cert.Adam

section Reference
open Cert.AdamGluRefIdeal Cert.AdamGluRefIdeal.Gen

/-- The whole array holding one number. -/
abbrev num (b : BitVec 32) : FVec Ideal S256x512 .f32 := broadcastInDim S256x512 ![] bcast_S_S256x512 (constant (F := Ideal) S_ .f32 b)

/-- The parameter's axes but the last, as rows. -/
def rows (x : FVec Ideal S4x64x512 .f32) : FVec Ideal S256x512 .f32 := shapeCast S256x512 x shapeCasts_S4x64x512_S256x512

/-- The sum of a layer's eight parts. -/
def total (g : FVec Ideal S8x64x512 .bf16) : FVec Ideal S1x64x512 .f32 :=
  broadcastInDim S1x64x512 ![1, 2] bcast_S64x512_S1x64x512_1_2
    (Host.reduceAdd (extf .f32 g bitsLt_bf16_f32) (constant (F := Ideal) S_ .f32 0x00000000#32) reducesTo_S8x64x512_S64x512_d0 h_S_)

variable (g0 g1 g2 g3 : FVec Ideal S8x64x512 .bf16) (w m v : FVec Ideal S4x64x512 .f32)

/-- The gradient: the layers' sums one after another, as rows. -/
def ref0 : FVec Ideal S256x512 .f32 :=
  rows (concatenate S4x64x512 0 [⟨S1x64x512, total g0⟩, ⟨S1x64x512, total g1⟩, ⟨S1x64x512, total g2⟩, ⟨S1x64x512, total g3⟩]
    concatenates_S1x64x512_S1x64x512_S1x64x512_S1x64x512_S4x64x512_d0)

/-- The change of the parameter. -/
def ref1 : FVec Ideal S256x512 .f32 := change num (rows w) (ref0 g0 g1 g2 g3) (rows m) (rows v)

/-- The first moment. -/
def ref2 : FVec Ideal S256x512 .f32 := first num (ref0 g0 g1 g2 g3) (rows m)

/-- The second moment. -/
def ref3 : FVec Ideal S256x512 .f32 := second num (ref0 g0 g1 g2 g3) (rows v)

/-- The reference's run, its results named. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v40) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v21) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v27) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Cert.AdamGluRefIdeal.Value.run m ρ

end Reference

section Entries
variable (g0 g1 g2 g3 : FVec Ideal AdamGluRefIdeal.S8x64x512 .bf16) (b : Fin 64) (k : Fin 512) (i : Fin 256)

/-- The gradient at a row of layer 0: the sum of the eight parts at the row of the layer. -/
theorem grad0 (h : i.val = 0 + b.val) : ref0 g0 g1 g2 g3 (ix2 i k) = ∑ d : Fin 8, g0 (ix3 d b k) := by
  pointwise [ref0, rows, total]
  rw [dif_pos (show i.val / 64 < 1 by omega)]
  simp only [show (⟨i.val % 64, Nat.mod_lt _ (by decide)⟩ : Fin 64) = b from Fin.ext (show i.val % 64 = b.val by omega)]

/-- The gradient at a row of layer 1: the sum of the eight parts at the row of the layer. -/
theorem grad1 (h : i.val = 64 + b.val) : ref0 g0 g1 g2 g3 (ix2 i k) = ∑ d : Fin 8, g1 (ix3 d b k) := by
  pointwise [ref0, rows, total]
  rw [dif_neg (show ¬i.val / 64 < 1 by omega), dif_pos (show i.val / 64 - 1 < 1 by omega)]
  simp only [show (⟨i.val % 64, Nat.mod_lt _ (by decide)⟩ : Fin 64) = b from Fin.ext (show i.val % 64 = b.val by omega)]

/-- The gradient at a row of layer 2: the sum of the eight parts at the row of the layer. -/
theorem grad2 (h : i.val = 128 + b.val) : ref0 g0 g1 g2 g3 (ix2 i k) = ∑ d : Fin 8, g2 (ix3 d b k) := by
  pointwise [ref0, rows, total]
  rw [dif_neg (show ¬i.val / 64 < 1 by omega), dif_neg (show ¬i.val / 64 - 1 < 1 by omega), dif_pos (show i.val / 64 - 1 - 1 < 1 by omega)]
  simp only [show (⟨i.val % 64, Nat.mod_lt _ (by decide)⟩ : Fin 64) = b from Fin.ext (show i.val % 64 = b.val by omega)]

/-- The gradient at a row of layer 3: the sum of the eight parts at the row of the layer. -/
theorem grad3 (h : i.val = 192 + b.val) : ref0 g0 g1 g2 g3 (ix2 i k) = ∑ d : Fin 8, g3 (ix3 d b k) := by
  pointwise [ref0, rows, total]
  rw [dif_neg (show ¬i.val / 64 < 1 by omega), dif_neg (show ¬i.val / 64 - 1 < 1 by omega), dif_neg (show ¬i.val / 64 - 1 - 1 < 1 by omega)]
  simp only [show (⟨i.val % 64, Nat.mod_lt _ (by decide)⟩ : Fin 64) = b from Fin.ext (show i.val % 64 = b.val by omega)]

end Entries

open Cert.AdamGluIdeal Cert.AdamGluIdeal.Gen

/-! ## What one block's body stores, where its input blocks hold entries of whole arrays -/

/-- The body's sum of the eight parts of a block. -/
def sum8 (x : Vec Ideal S8x64x512 .bf16) : FVec Ideal S64x512 .f32 :=
  k0_pay13 (View.ld x (Rect.unit ![0, 0, 0] ![1, 64, 512] inb_S8x64x512_S1x64x512_0_0_0))
    (View.ld x (Rect.unit ![1, 0, 0] ![1, 64, 512] inb_S8x64x512_S1x64x512_1_0_0))
    (View.ld x (Rect.unit ![2, 0, 0] ![1, 64, 512] inb_S8x64x512_S1x64x512_2_0_0))
    (View.ld x (Rect.unit ![3, 0, 0] ![1, 64, 512] inb_S8x64x512_S1x64x512_3_0_0))
    (View.ld x (Rect.unit ![4, 0, 0] ![1, 64, 512] inb_S8x64x512_S1x64x512_4_0_0))
    (View.ld x (Rect.unit ![5, 0, 0] ![1, 64, 512] inb_S8x64x512_S1x64x512_5_0_0))
    (View.ld x (Rect.unit ![6, 0, 0] ![1, 64, 512] inb_S8x64x512_S1x64x512_6_0_0))
    (View.ld x (Rect.unit ![7, 0, 0] ![1, 64, 512] inb_S8x64x512_S1x64x512_7_0_0))

section Body
variable (z : FVec Ideal S64x512 .f32) (x0 x2 x3 : Vec Ideal S64x512 .f32) (x : Vec Ideal S8x64x512 .bf16)
  (w g p q : FVec Ideal AdamGluRefIdeal.S256x512 .f32) (r : Fin 64) (k : Fin 512) (i : Fin 256)

/-- That sum at an entry. -/
theorem sum8_apply (y : Fin 8 → EReal) (h : ∀ d, x (ix3 d r k) = y d) : sum8 x (ix2 r k) = ∑ d, y d := by
  pointwise [sum8, k0_pay13]
  rw [Fin.sum_univ_eight]
  simp only [← h]

/-- The first moment's block. -/
theorem out9 (h1 : z (ix2 r k) = g (ix2 i k)) (h2 : x2 (ix2 r k) = p (ix2 i k)) :
    k0_pay1 z (k0_pay14 x2) (FloatOps.ofBits FTy.f32 1063675494#32) (ix2 r k) = first num g p (ix2 i k) := by
  pointwise [k0_pay1, k0_pay14, first, num]
  rw [h1, h2]

/-- The second moment's block. -/
theorem out10 (h1 : z (ix2 r k) = g (ix2 i k)) (h3 : x3 (ix2 r k) = q (ix2 i k)) :
    k0_pay2 z x3 (ix2 r k) = second num g q (ix2 i k) := by
  pointwise [k0_pay2, second, num]
  rw [h1, h3]

/-- The change's block. -/
theorem out8 (h0 : x0 (ix2 r k) = w (ix2 i k)) (h1 : z (ix2 r k) = g (ix2 i k)) (h2 : x2 (ix2 r k) = p (ix2 i k))
    (h3 : x3 (ix2 r k) = q (ix2 i k)) :
    k0_pay3 z (k0_pay14 x2) (FloatOps.ofBits FTy.f32 1063675494#32) x3 x0 (ix2 r k) = change num w g p q (ix2 i k) := by
  pointwise [k0_pay1, k0_pay2, k0_pay3, k0_pay14, change, first, second, num]
  rw [h0, h1, h2, h3]

end Body

/-! ## The blocks of the grid -/

variable (m : (ℓ : Loc nD τ sig) → Buf (Elt Ideal) ℓ) (ρ : Dev nD → PrngReg) (c : Dev nD) (t : Fin cfg0.N)

/-- Point `t` works on row block `t` of the parameter, and on the parts of the layer it lies in. -/
theorem idx : ∀ t : Fin grid0.N, (win0_0.index t (0 : Fin 2) = t.val ∧ win0_0.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (t.val / 1 = 0 → win0_1.index t (0 : Fin 3) = 0 ∧ win0_1.index t (1 : Fin 3) = t.val - 0 ∧ win0_1.index t (2 : Fin 3) = 0)
    ∧ (t.val / 1 = 1 → win0_2.index t (0 : Fin 3) = 0 ∧ win0_2.index t (1 : Fin 3) = t.val - 1 ∧ win0_2.index t (2 : Fin 3) = 0)
    ∧ (t.val / 1 = 2 → win0_3.index t (0 : Fin 3) = 0 ∧ win0_3.index t (1 : Fin 3) = t.val - 2 ∧ win0_3.index t (2 : Fin 3) = 0)
    ∧ (t.val / 1 = 3 → win0_4.index t (0 : Fin 3) = 0 ∧ win0_4.index t (1 : Fin 3) = t.val - 3 ∧ win0_4.index t (2 : Fin 3) = 0) := by
  decide +kernel

/-- An entry of a block, and its row in the whole array. -/
theorem place (y : S64x512.Idx) : ∃ (r : Fin 64) (k : Fin 512) (i : Fin 256), y = ix2 r k ∧ i.val = t.val * 64 + r.val := by
  have hN : t.val < 4 := lt_of_lt_of_eq t.isLt N_0
  exact ⟨y 0, y 1, ⟨t.val * 64 + (y 0).val, by have := (y 0).isLt; change _ < 64 at this; omega⟩, eq_ix2 y, rfl⟩

/-- The layer of a point. -/
theorem layer : t.val / 1 = 0 ∨ t.val / 1 = 1 ∨ t.val / 1 = 2 ∨ t.val / 1 = 3 := by
  have hN : t.val < 4 := lt_of_lt_of_eq t.isLt N_0
  omega

section Blocks
variable (r : Fin 64) (k : Fin 512) (i : Fin 256) (hi : i.val = t.val * 64 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 5's block, read at an entry, is its argument's entry there. -/
theorem blk5 : iblk m c 5 t (ix2 r k) = rows (m ((c : Thread nD τ).loc main_arg5)) (ix2 i k) := by
  unfold iblk
  show V m c main_v1 (((cfg0.win 5).blk t).view.emb (ix2 r k)) = _
  rw [show ((cfg0.win 5).blk t).view.emb (ix2 r k) = ix2 i k from at2 (row_at (idx t).2.1.1 hi) (all_at (idx t).2.1.2)]
  entry_read
  rfl

/-- Window 6's block, read at an entry, is its argument's entry there. -/
theorem blk6 : iblk m c 6 t (ix2 r k) = rows (m ((c : Thread nD τ).loc main_arg6)) (ix2 i k) := by
  unfold iblk
  show V m c main_v2 (((cfg0.win 6).blk t).view.emb (ix2 r k)) = _
  rw [show ((cfg0.win 6).blk t).view.emb (ix2 r k) = ix2 i k from at2 (row_at (idx t).2.2.1.1 hi) (all_at (idx t).2.2.1.2)]
  entry_read
  rfl

/-- The gradient a point of layer 0 computes is the reference's at the block's rows. -/
theorem point0 (hl : t.val / 1 = 0) : sum8 (iblk m c 1 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 64, 0 + b.val = i.val := ⟨⟨i.val - 0, by omega⟩, by show 0 + (i.val - 0) = i.val; omega⟩
  rw [grad0 _ _ _ _ b k i hb.symm]
  refine sum8_apply _ r k _ fun d => ?_
  obtain ⟨h0, h1, h2⟩ := (idx t).2.2.2.2.2.2.2.1 hl
  unfold iblk
  show V m c main_arg1 (((cfg0.win 1).blk t).view.emb (ix3 d r k)) = _
  rw [show ((cfg0.win 1).blk t).view.emb (ix3 d r k) = ix3 d b k from
    at3 (all_at h0) (row_at h1 (show b.val = (t.val - 0) * 64 + r.val by omega)) (all_at h2)]
  entry_read
  rfl

/-- The gradient a point of layer 1 computes is the reference's at the block's rows. -/
theorem point1 (hl : t.val / 1 = 1) : sum8 (iblk m c 2 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 64, 64 + b.val = i.val := ⟨⟨i.val - 64, by omega⟩, by show 64 + (i.val - 64) = i.val; omega⟩
  rw [grad1 _ _ _ _ b k i hb.symm]
  refine sum8_apply _ r k _ fun d => ?_
  obtain ⟨h0, h1, h2⟩ := (idx t).2.2.2.2.2.2.2.2.1 hl
  unfold iblk
  show V m c main_arg2 (((cfg0.win 2).blk t).view.emb (ix3 d r k)) = _
  rw [show ((cfg0.win 2).blk t).view.emb (ix3 d r k) = ix3 d b k from
    at3 (all_at h0) (row_at h1 (show b.val = (t.val - 1) * 64 + r.val by omega)) (all_at h2)]
  entry_read
  rfl

/-- The gradient a point of layer 2 computes is the reference's at the block's rows. -/
theorem point2 (hl : t.val / 1 = 2) : sum8 (iblk m c 3 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 64, 128 + b.val = i.val := ⟨⟨i.val - 128, by omega⟩, by show 128 + (i.val - 128) = i.val; omega⟩
  rw [grad2 _ _ _ _ b k i hb.symm]
  refine sum8_apply _ r k _ fun d => ?_
  obtain ⟨h0, h1, h2⟩ := (idx t).2.2.2.2.2.2.2.2.2.1 hl
  unfold iblk
  show V m c main_arg3 (((cfg0.win 3).blk t).view.emb (ix3 d r k)) = _
  rw [show ((cfg0.win 3).blk t).view.emb (ix3 d r k) = ix3 d b k from
    at3 (all_at h0) (row_at h1 (show b.val = (t.val - 2) * 64 + r.val by omega)) (all_at h2)]
  entry_read
  rfl

/-- The gradient a point of layer 3 computes is the reference's at the block's rows. -/
theorem point3 (hl : t.val / 1 = 3) : sum8 (iblk m c 4 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 64, 192 + b.val = i.val := ⟨⟨i.val - 192, by omega⟩, by show 192 + (i.val - 192) = i.val; omega⟩
  rw [grad3 _ _ _ _ b k i hb.symm]
  refine sum8_apply _ r k _ fun d => ?_
  obtain ⟨h0, h1, h2⟩ := (idx t).2.2.2.2.2.2.2.2.2.2 hl
  unfold iblk
  show V m c main_arg4 (((cfg0.win 4).blk t).view.emb (ix3 d r k)) = _
  rw [show ((cfg0.win 4).blk t).view.emb (ix3 d r k) = ix3 d b k from
    at3 (all_at h0) (row_at h1 (show b.val = (t.val - 3) * 64 + r.val by omega)) (all_at h2)]
  entry_read
  rfl

end Blocks

/-! ## The result arrays -/

/-- After the run the gradient array is the reference's. -/
theorem final7 : (dats m 0 c).arrAt 7 cfg0.N = ref0 (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.1.1 hi) (all_at (idx t).2.2.2.1.2)]
  obtain hl | hl | hl | hl := layer t
  · rw [outsAt0_A m c t (by omega) (by omega) (by omega) (by omega)]
    frame_out
    exact point0 m c t r k i hi hl
  · rw [outsAt0_B m c t (by omega) (by omega) (by omega) (by omega)]
    frame_out
    exact point1 m c t r k i hi hl
  · rw [outsAt0_C m c t (by omega) (by omega) (by omega) (by omega)]
    frame_out
    exact point2 m c t r k i hi hl
  · rw [outsAt0_D m c t (by omega) (by omega) (by omega) (by omega)]
    frame_out
    exact point3 m c t r k i hi hl

/-- After the run the change array is the reference's. -/
theorem final8 : (dats m 0 c).arrAt 8 cfg0.N = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6)) := by
  refine (dats m 0 c).arrAt_eq_of_covers 8 _ (by decide +kernel) fun t _ y => ?_
  blk_simp
  rw [after0_8]
  obtain ⟨r, k, i, rfl, hi⟩ := place t y
  rw [show ((cfg0.win 8).blk t).view.emb (ix2 r k) = ix2 i k from at2 (row_at (idx t).2.2.2.2.1.1 hi) (all_at (idx t).2.2.2.2.1.2)]
  obtain hl | hl | hl | hl := layer t
  · rw [outsAt0_A m c t (by omega) (by omega) (by omega) (by omega)]
    frame_out
    exact out8 _ _ _ _ _ _ _ _ r k i (blk0 m c t r k i hi) (point0 m c t r k i hi hl) (blk5 m c t r k i hi) (blk6 m c t r k i hi)
  · rw [outsAt0_B m c t (by omega) (by omega) (by omega) (by omega)]
    frame_out
    exact out8 _ _ _ _ _ _ _ _ r k i (blk0 m c t r k i hi) (point1 m c t r k i hi hl) (blk5 m c t r k i hi) (blk6 m c t r k i hi)
  · rw [outsAt0_C m c t (by omega) (by omega) (by omega) (by omega)]
    frame_out
    exact out8 _ _ _ _ _ _ _ _ r k i (blk0 m c t r k i hi) (point2 m c t r k i hi hl) (blk5 m c t r k i hi) (blk6 m c t r k i hi)
  · rw [outsAt0_D m c t (by omega) (by omega) (by omega) (by omega)]
    frame_out
    exact out8 _ _ _ _ _ _ _ _ r k i (blk0 m c t r k i hi) (point3 m c t r k i hi hl) (blk5 m c t r k i hi) (blk6 m c t r k i hi)

/-- After the run the first-moment array is the reference's. -/
theorem final9 : (dats m 0 c).arrAt 9 cfg0.N = ref2 (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  obtain ⟨r, k, i, rfl, hi⟩ := place t y
  rw [show ((cfg0.win 9).blk t).view.emb (ix2 r k) = ix2 i k from at2 (row_at (idx t).2.2.2.2.2.1.1 hi) (all_at (idx t).2.2.2.2.2.1.2)]
  obtain hl | hl | hl | hl := layer t
  · rw [outsAt0_A m c t (by omega) (by omega) (by omega) (by omega)]
    frame_out
    exact out9 _ _ _ _ r k i (point0 m c t r k i hi hl) (blk5 m c t r k i hi)
  · rw [outsAt0_B m c t (by omega) (by omega) (by omega) (by omega)]
    frame_out
    exact out9 _ _ _ _ r k i (point1 m c t r k i hi hl) (blk5 m c t r k i hi)
  · rw [outsAt0_C m c t (by omega) (by omega) (by omega) (by omega)]
    frame_out
    exact out9 _ _ _ _ r k i (point2 m c t r k i hi hl) (blk5 m c t r k i hi)
  · rw [outsAt0_D m c t (by omega) (by omega) (by omega) (by omega)]
    frame_out
    exact out9 _ _ _ _ r k i (point3 m c t r k i hi hl) (blk5 m c t r k i hi)

/-- After the run the second-moment array is the reference's. -/
theorem final10 : (dats m 0 c).arrAt 10 cfg0.N = ref3 (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  obtain ⟨r, k, i, rfl, hi⟩ := place t y
  rw [show ((cfg0.win 10).blk t).view.emb (ix2 r k) = ix2 i k from at2 (row_at (idx t).2.2.2.2.2.2.1.1 hi) (all_at (idx t).2.2.2.2.2.2.1.2)]
  obtain hl | hl | hl | hl := layer t
  · rw [outsAt0_A m c t (by omega) (by omega) (by omega) (by omega)]
    frame_out
    exact out10 _ _ _ _ r k i (point0 m c t r k i hi hl) (blk6 m c t r k i hi)
  · rw [outsAt0_B m c t (by omega) (by omega) (by omega) (by omega)]
    frame_out
    exact out10 _ _ _ _ r k i (point1 m c t r k i hi hl) (blk6 m c t r k i hi)
  · rw [outsAt0_C m c t (by omega) (by omega) (by omega) (by omega)]
    frame_out
    exact out10 _ _ _ _ r k i (point2 m c t r k i hi hl) (blk6 m c t r k i hi)
  · rw [outsAt0_D m c t (by omega) (by omega) (by omega) (by omega)]
    frame_out
    exact out10 _ _ _ _ r k i (point3 m c t r k i hi hl) (blk6 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v3_0) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v3_2) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v3_3) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c),
    (h c).2.2.1.trans (final9 m c), (h c).2.2.2.1.trans (final10 m c), (h c).2.2.2.2⟩) (Value.run_blocks m ρ)

end Cert.AdamGlu

end
-- ==== Proof.AdamQUp.lean ====
/-
  The optimiser's step of the query weights: the gradient is the sum of the eight parts that arrived for a layer; every
  row block of the four result arrays is the reference's update of the argument arrays at that block.
-/
module

public import proofs.«01_k».proof.Proof.Gen.AdamQUpIdeal.Value
public import proofs.«01_k».proof.Proof.Gen.AdamQUpRefIdeal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamQUp

open Idealize.ShloMosaic Idealize.ShloMosaic.TcCoe Idealize.SL.Sem Cert.Adam

section Reference
open Cert.AdamQUpRefIdeal Cert.AdamQUpRefIdeal.Gen

/-- The whole array holding one number. -/
abbrev num (b : BitVec 32) : FVec Ideal S1536x96 .f32 := broadcastInDim S1536x96 ![] bcast_S_S1536x96 (constant (F := Ideal) S_ .f32 b)

/-- The parameter's axes but the last, as rows. -/
def rows (x : FVec Ideal S4x384x96 .f32) : FVec Ideal S1536x96 .f32 := shapeCast S1536x96 x shapeCasts_S4x384x96_S1536x96

/-- The sum of a layer's eight parts. -/
def total (g : FVec Ideal S8x384x96 .bf16) : FVec Ideal S1x384x96 .f32 :=
  broadcastInDim S1x384x96 ![1, 2] bcast_S384x96_S1x384x96_1_2
    (Host.reduceAdd (extf .f32 g bitsLt_bf16_f32) (constant (F := Ideal) S_ .f32 0x00000000#32) reducesTo_S8x384x96_S384x96_d0 h_S_)

variable (g0 g1 g2 g3 : FVec Ideal S8x384x96 .bf16) (w m v : FVec Ideal S4x384x96 .f32)

/-- The gradient: the layers' sums one after another, as rows. -/
def ref0 : FVec Ideal S1536x96 .f32 :=
  rows (concatenate S4x384x96 0 [⟨S1x384x96, total g0⟩, ⟨S1x384x96, total g1⟩, ⟨S1x384x96, total g2⟩, ⟨S1x384x96, total g3⟩]
    concatenates_S1x384x96_S1x384x96_S1x384x96_S1x384x96_S4x384x96_d0)

/-- The change of the parameter. -/
def ref1 : FVec Ideal S1536x96 .f32 := change num (rows w) (ref0 g0 g1 g2 g3) (rows m) (rows v)

/-- The first moment. -/
def ref2 : FVec Ideal S1536x96 .f32 := first num (ref0 g0 g1 g2 g3) (rows m)

/-- The second moment. -/
def ref3 : FVec Ideal S1536x96 .f32 := second num (ref0 g0 g1 g2 g3) (rows v)

/-- The reference's run, its results named. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v40) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v21) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v27) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Cert.AdamQUpRefIdeal.Value.run m ρ

end Reference

section Entries
variable (g0 g1 g2 g3 : FVec Ideal AdamQUpRefIdeal.S8x384x96 .bf16) (b : Fin 384) (k : Fin 96) (i : Fin 1536)

/-- The gradient at a row of layer 0: the sum of the eight parts at the row of the layer. -/
theorem grad0 (h : i.val = 0 + b.val) : ref0 g0 g1 g2 g3 (ix2 i k) = ∑ d : Fin 8, g0 (ix3 d b k) := by
  pointwise [ref0, rows, total]
  rw [dif_pos (show i.val / 384 < 1 by omega)]
  simp only [show (⟨i.val % 384, Nat.mod_lt _ (by decide)⟩ : Fin 384) = b from Fin.ext (show i.val % 384 = b.val by omega)]

/-- The gradient at a row of layer 1: the sum of the eight parts at the row of the layer. -/
theorem grad1 (h : i.val = 384 + b.val) : ref0 g0 g1 g2 g3 (ix2 i k) = ∑ d : Fin 8, g1 (ix3 d b k) := by
  pointwise [ref0, rows, total]
  rw [dif_neg (show ¬i.val / 384 < 1 by omega), dif_pos (show i.val / 384 - 1 < 1 by omega)]
  simp only [show (⟨i.val % 384, Nat.mod_lt _ (by decide)⟩ : Fin 384) = b from Fin.ext (show i.val % 384 = b.val by omega)]

/-- The gradient at a row of layer 2: the sum of the eight parts at the row of the layer. -/
theorem grad2 (h : i.val = 768 + b.val) : ref0 g0 g1 g2 g3 (ix2 i k) = ∑ d : Fin 8, g2 (ix3 d b k) := by
  pointwise [ref0, rows, total]
  rw [dif_neg (show ¬i.val / 384 < 1 by omega), dif_neg (show ¬i.val / 384 - 1 < 1 by omega), dif_pos (show i.val / 384 - 1 - 1 < 1 by omega)]
  simp only [show (⟨i.val % 384, Nat.mod_lt _ (by decide)⟩ : Fin 384) = b from Fin.ext (show i.val % 384 = b.val by omega)]

/-- The gradient at a row of layer 3: the sum of the eight parts at the row of the layer. -/
theorem grad3 (h : i.val = 1152 + b.val) : ref0 g0 g1 g2 g3 (ix2 i k) = ∑ d : Fin 8, g3 (ix3 d b k) := by
  pointwise [ref0, rows, total]
  rw [dif_neg (show ¬i.val / 384 < 1 by omega), dif_neg (show ¬i.val / 384 - 1 < 1 by omega), dif_neg (show ¬i.val / 384 - 1 - 1 < 1 by omega)]
  simp only [show (⟨i.val % 384, Nat.mod_lt _ (by decide)⟩ : Fin 384) = b from Fin.ext (show i.val % 384 = b.val by omega)]

end Entries

open Cert.AdamQUpIdeal Cert.AdamQUpIdeal.Gen

/-! ## What one block's body stores, where its input blocks hold entries of whole arrays -/

/-- The body's sum of the eight parts of a block. -/
def sum8 (x : Vec Ideal S8x192x96 .bf16) : FVec Ideal S192x96 .f32 :=
  k0_pay13 (View.ld x (Rect.unit ![0, 0, 0] ![1, 192, 96] inb_S8x192x96_S1x192x96_0_0_0))
    (View.ld x (Rect.unit ![1, 0, 0] ![1, 192, 96] inb_S8x192x96_S1x192x96_1_0_0))
    (View.ld x (Rect.unit ![2, 0, 0] ![1, 192, 96] inb_S8x192x96_S1x192x96_2_0_0))
    (View.ld x (Rect.unit ![3, 0, 0] ![1, 192, 96] inb_S8x192x96_S1x192x96_3_0_0))
    (View.ld x (Rect.unit ![4, 0, 0] ![1, 192, 96] inb_S8x192x96_S1x192x96_4_0_0))
    (View.ld x (Rect.unit ![5, 0, 0] ![1, 192, 96] inb_S8x192x96_S1x192x96_5_0_0))
    (View.ld x (Rect.unit ![6, 0, 0] ![1, 192, 96] inb_S8x192x96_S1x192x96_6_0_0))
    (View.ld x (Rect.unit ![7, 0, 0] ![1, 192, 96] inb_S8x192x96_S1x192x96_7_0_0))

section Body
variable (z : FVec Ideal S192x96 .f32) (x0 x2 x3 : Vec Ideal S192x96 .f32) (x : Vec Ideal S8x192x96 .bf16)
  (w g p q : FVec Ideal AdamQUpRefIdeal.S1536x96 .f32) (r : Fin 192) (k : Fin 96) (i : Fin 1536)

/-- That sum at an entry. -/
theorem sum8_apply (y : Fin 8 → EReal) (h : ∀ d, x (ix3 d r k) = y d) : sum8 x (ix2 r k) = ∑ d, y d := by
  pointwise [sum8, k0_pay13]
  rw [Fin.sum_univ_eight]
  simp only [← h]

/-- The first moment's block. -/
theorem out9 (h1 : z (ix2 r k) = g (ix2 i k)) (h2 : x2 (ix2 r k) = p (ix2 i k)) :
    k0_pay1 z (k0_pay14 x2) (FloatOps.ofBits FTy.f32 1063675494#32) (ix2 r k) = first num g p (ix2 i k) := by
  pointwise [k0_pay1, k0_pay14, first, num]
  rw [h1, h2]

/-- The second moment's block. -/
theorem out10 (h1 : z (ix2 r k) = g (ix2 i k)) (h3 : x3 (ix2 r k) = q (ix2 i k)) :
    k0_pay2 z x3 (ix2 r k) = second num g q (ix2 i k) := by
  pointwise [k0_pay2, second, num]
  rw [h1, h3]

/-- The change's block. -/
theorem out8 (h0 : x0 (ix2 r k) = w (ix2 i k)) (h1 : z (ix2 r k) = g (ix2 i k)) (h2 : x2 (ix2 r k) = p (ix2 i k))
    (h3 : x3 (ix2 r k) = q (ix2 i k)) :
    k0_pay3 z (k0_pay14 x2) (FloatOps.ofBits FTy.f32 1063675494#32) x3 x0 (ix2 r k) = change num w g p q (ix2 i k) := by
  pointwise [k0_pay1, k0_pay2, k0_pay3, k0_pay14, change, first, second, num]
  rw [h0, h1, h2, h3]

end Body

/-! ## The blocks of the grid -/

variable (m : (ℓ : Loc nD τ sig) → Buf (Elt Ideal) ℓ) (ρ : Dev nD → PrngReg) (c : Dev nD) (t : Fin cfg0.N)

/-- Point `t` works on row block `t` of the parameter, and on the parts of the layer it lies in. -/
theorem idx : ∀ t : Fin grid0.N, (win0_0.index t (0 : Fin 2) = t.val ∧ win0_0.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (t.val / 2 = 0 → win0_1.index t (0 : Fin 3) = 0 ∧ win0_1.index t (1 : Fin 3) = t.val - 0 ∧ win0_1.index t (2 : Fin 3) = 0)
    ∧ (t.val / 2 = 1 → win0_2.index t (0 : Fin 3) = 0 ∧ win0_2.index t (1 : Fin 3) = t.val - 2 ∧ win0_2.index t (2 : Fin 3) = 0)
    ∧ (t.val / 2 = 2 → win0_3.index t (0 : Fin 3) = 0 ∧ win0_3.index t (1 : Fin 3) = t.val - 4 ∧ win0_3.index t (2 : Fin 3) = 0)
    ∧ (t.val / 2 = 3 → win0_4.index t (0 : Fin 3) = 0 ∧ win0_4.index t (1 : Fin 3) = t.val - 6 ∧ win0_4.index t (2 : Fin 3) = 0) := by
  decide +kernel

/-- An entry of a block, and its row in the whole array. -/
theorem place (y : S192x96.Idx) : ∃ (r : Fin 192) (k : Fin 96) (i : Fin 1536), y = ix2 r k ∧ i.val = t.val * 192 + r.val := by
  have hN : t.val < 8 := lt_of_lt_of_eq t.isLt N_0
  exact ⟨y 0, y 1, ⟨t.val * 192 + (y 0).val, by have := (y 0).isLt; change _ < 192 at this; omega⟩, eq_ix2 y, rfl⟩

/-- The layer of a point. -/
theorem layer : t.val / 2 = 0 ∨ t.val / 2 = 1 ∨ t.val / 2 = 2 ∨ t.val / 2 = 3 := by
  have hN : t.val < 8 := lt_of_lt_of_eq t.isLt N_0
  omega

section Blocks
variable (r : Fin 192) (k : Fin 96) (i : Fin 1536) (hi : i.val = t.val * 192 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 5's block, read at an entry, is its argument's entry there. -/
theorem blk5 : iblk m c 5 t (ix2 r k) = rows (m ((c : Thread nD τ).loc main_arg5)) (ix2 i k) := by
  unfold iblk
  show V m c main_v1 (((cfg0.win 5).blk t).view.emb (ix2 r k)) = _
  rw [show ((cfg0.win 5).blk t).view.emb (ix2 r k) = ix2 i k from at2 (row_at (idx t).2.1.1 hi) (all_at (idx t).2.1.2)]
  entry_read
  rfl

/-- Window 6's block, read at an entry, is its argument's entry there. -/
theorem blk6 : iblk m c 6 t (ix2 r k) = rows (m ((c : Thread nD τ).loc main_arg6)) (ix2 i k) := by
  unfold iblk
  show V m c main_v2 (((cfg0.win 6).blk t).view.emb (ix2 r k)) = _
  rw [show ((cfg0.win 6).blk t).view.emb (ix2 r k) = ix2 i k from at2 (row_at (idx t).2.2.1.1 hi) (all_at (idx t).2.2.1.2)]
  entry_read
  rfl

/-- The gradient a point of layer 0 computes is the reference's at the block's rows. -/
theorem point0 (hl : t.val / 2 = 0) : sum8 (iblk m c 1 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 384, 0 + b.val = i.val := ⟨⟨i.val - 0, by omega⟩, by show 0 + (i.val - 0) = i.val; omega⟩
  rw [grad0 _ _ _ _ b k i hb.symm]
  refine sum8_apply _ r k _ fun d => ?_
  obtain ⟨h0, h1, h2⟩ := (idx t).2.2.2.2.2.2.2.1 hl
  unfold iblk
  show V m c main_arg1 (((cfg0.win 1).blk t).view.emb (ix3 d r k)) = _
  rw [show ((cfg0.win 1).blk t).view.emb (ix3 d r k) = ix3 d b k from
    at3 (all_at h0) (row_at h1 (show b.val = (t.val - 0) * 192 + r.val by omega)) (all_at h2)]
  entry_read
  rfl

/-- The gradient a point of layer 1 computes is the reference's at the block's rows. -/
theorem point1 (hl : t.val / 2 = 1) : sum8 (iblk m c 2 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 384, 384 + b.val = i.val := ⟨⟨i.val - 384, by omega⟩, by show 384 + (i.val - 384) = i.val; omega⟩
  rw [grad1 _ _ _ _ b k i hb.symm]
  refine sum8_apply _ r k _ fun d => ?_
  obtain ⟨h0, h1, h2⟩ := (idx t).2.2.2.2.2.2.2.2.1 hl
  unfold iblk
  show V m c main_arg2 (((cfg0.win 2).blk t).view.emb (ix3 d r k)) = _
  rw [show ((cfg0.win 2).blk t).view.emb (ix3 d r k) = ix3 d b k from
    at3 (all_at h0) (row_at h1 (show b.val = (t.val - 2) * 192 + r.val by omega)) (all_at h2)]
  entry_read
  rfl

/-- The gradient a point of layer 2 computes is the reference's at the block's rows. -/
theorem point2 (hl : t.val / 2 = 2) : sum8 (iblk m c 3 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 384, 768 + b.val = i.val := ⟨⟨i.val - 768, by omega⟩, by show 768 + (i.val - 768) = i.val; omega⟩
  rw [grad2 _ _ _ _ b k i hb.symm]
  refine sum8_apply _ r k _ fun d => ?_
  obtain ⟨h0, h1, h2⟩ := (idx t).2.2.2.2.2.2.2.2.2.1 hl
  unfold iblk
  show V m c main_arg3 (((cfg0.win 3).blk t).view.emb (ix3 d r k)) = _
  rw [show ((cfg0.win 3).blk t).view.emb (ix3 d r k) = ix3 d b k from
    at3 (all_at h0) (row_at h1 (show b.val = (t.val - 4) * 192 + r.val by omega)) (all_at h2)]
  entry_read
  rfl

/-- The gradient a point of layer 3 computes is the reference's at the block's rows. -/
theorem point3 (hl : t.val / 2 = 3) : sum8 (iblk m c 4 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 384, 1152 + b.val = i.val := ⟨⟨i.val - 1152, by omega⟩, by show 1152 + (i.val - 1152) = i.val; omega⟩
  rw [grad3 _ _ _ _ b k i hb.symm]
  refine sum8_apply _ r k _ fun d => ?_
  obtain ⟨h0, h1, h2⟩ := (idx t).2.2.2.2.2.2.2.2.2.2 hl
  unfold iblk
  show V m c main_arg4 (((cfg0.win 4).blk t).view.emb (ix3 d r k)) = _
  rw [show ((cfg0.win 4).blk t).view.emb (ix3 d r k) = ix3 d b k from
    at3 (all_at h0) (row_at h1 (show b.val = (t.val - 6) * 192 + r.val by omega)) (all_at h2)]
  entry_read
  rfl

end Blocks

/-! ## The result arrays -/

/-- After the run the gradient array is the reference's. -/
theorem final7 : (dats m 0 c).arrAt 7 cfg0.N = ref0 (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.1.1 hi) (all_at (idx t).2.2.2.1.2)]
  obtain hl | hl | hl | hl := layer t
  · rw [outsAt0_A m c t (by omega) (by omega) (by omega) (by omega)]
    frame_out
    exact point0 m c t r k i hi hl
  · rw [outsAt0_B m c t (by omega) (by omega) (by omega) (by omega)]
    frame_out
    exact point1 m c t r k i hi hl
  · rw [outsAt0_C m c t (by omega) (by omega) (by omega) (by omega)]
    frame_out
    exact point2 m c t r k i hi hl
  · rw [outsAt0_D m c t (by omega) (by omega) (by omega) (by omega)]
    frame_out
    exact point3 m c t r k i hi hl

/-- After the run the change array is the reference's. -/
theorem final8 : (dats m 0 c).arrAt 8 cfg0.N = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6)) := by
  refine (dats m 0 c).arrAt_eq_of_covers 8 _ (by decide +kernel) fun t _ y => ?_
  blk_simp
  rw [after0_8]
  obtain ⟨r, k, i, rfl, hi⟩ := place t y
  rw [show ((cfg0.win 8).blk t).view.emb (ix2 r k) = ix2 i k from at2 (row_at (idx t).2.2.2.2.1.1 hi) (all_at (idx t).2.2.2.2.1.2)]
  obtain hl | hl | hl | hl := layer t
  · rw [outsAt0_A m c t (by omega) (by omega) (by omega) (by omega)]
    frame_out
    exact out8 _ _ _ _ _ _ _ _ r k i (blk0 m c t r k i hi) (point0 m c t r k i hi hl) (blk5 m c t r k i hi) (blk6 m c t r k i hi)
  · rw [outsAt0_B m c t (by omega) (by omega) (by omega) (by omega)]
    frame_out
    exact out8 _ _ _ _ _ _ _ _ r k i (blk0 m c t r k i hi) (point1 m c t r k i hi hl) (blk5 m c t r k i hi) (blk6 m c t r k i hi)
  · rw [outsAt0_C m c t (by omega) (by omega) (by omega) (by omega)]
    frame_out
    exact out8 _ _ _ _ _ _ _ _ r k i (blk0 m c t r k i hi) (point2 m c t r k i hi hl) (blk5 m c t r k i hi) (blk6 m c t r k i hi)
  · rw [outsAt0_D m c t (by omega) (by omega) (by omega) (by omega)]
    frame_out
    exact out8 _ _ _ _ _ _ _ _ r k i (blk0 m c t r k i hi) (point3 m c t r k i hi hl) (blk5 m c t r k i hi) (blk6 m c t r k i hi)

/-- After the run the first-moment array is the reference's. -/
theorem final9 : (dats m 0 c).arrAt 9 cfg0.N = ref2 (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  obtain ⟨r, k, i, rfl, hi⟩ := place t y
  rw [show ((cfg0.win 9).blk t).view.emb (ix2 r k) = ix2 i k from at2 (row_at (idx t).2.2.2.2.2.1.1 hi) (all_at (idx t).2.2.2.2.2.1.2)]
  obtain hl | hl | hl | hl := layer t
  · rw [outsAt0_A m c t (by omega) (by omega) (by omega) (by omega)]
    frame_out
    exact out9 _ _ _ _ r k i (point0 m c t r k i hi hl) (blk5 m c t r k i hi)
  · rw [outsAt0_B m c t (by omega) (by omega) (by omega) (by omega)]
    frame_out
    exact out9 _ _ _ _ r k i (point1 m c t r k i hi hl) (blk5 m c t r k i hi)
  · rw [outsAt0_C m c t (by omega) (by omega) (by omega) (by omega)]
    frame_out
    exact out9 _ _ _ _ r k i (point2 m c t r k i hi hl) (blk5 m c t r k i hi)
  · rw [outsAt0_D m c t (by omega) (by omega) (by omega) (by omega)]
    frame_out
    exact out9 _ _ _ _ r k i (point3 m c t r k i hi hl) (blk5 m c t r k i hi)

/-- After the run the second-moment array is the reference's. -/
theorem final10 : (dats m 0 c).arrAt 10 cfg0.N = ref3 (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  obtain ⟨r, k, i, rfl, hi⟩ := place t y
  rw [show ((cfg0.win 10).blk t).view.emb (ix2 r k) = ix2 i k from at2 (row_at (idx t).2.2.2.2.2.2.1.1 hi) (all_at (idx t).2.2.2.2.2.2.1.2)]
  obtain hl | hl | hl | hl := layer t
  · rw [outsAt0_A m c t (by omega) (by omega) (by omega) (by omega)]
    frame_out
    exact out10 _ _ _ _ r k i (point0 m c t r k i hi hl) (blk6 m c t r k i hi)
  · rw [outsAt0_B m c t (by omega) (by omega) (by omega) (by omega)]
    frame_out
    exact out10 _ _ _ _ r k i (point1 m c t r k i hi hl) (blk6 m c t r k i hi)
  · rw [outsAt0_C m c t (by omega) (by omega) (by omega) (by omega)]
    frame_out
    exact out10 _ _ _ _ r k i (point2 m c t r k i hi hl) (blk6 m c t r k i hi)
  · rw [outsAt0_D m c t (by omega) (by omega) (by omega) (by omega)]
    frame_out
    exact out10 _ _ _ _ r k i (point3 m c t r k i hi hl) (blk6 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v3_0) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v3_2) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v3_3) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c),
    (h c).2.2.1.trans (final9 m c), (h c).2.2.2.1.trans (final10 m c), (h c).2.2.2.2⟩) (Value.run_blocks m ρ)

end Cert.AdamQUp

end
-- ==== Proof.AdamKvUp.lean ====
/-
  The optimiser's step of the key and value weights: the gradient is the sum of the eight parts that arrived for a layer; every
  row block of the four result arrays is the reference's update of the argument arrays at that block.
-/
module

public import proofs.«01_k».proof.Proof.Gen.AdamKvUpIdeal.Value
public import proofs.«01_k».proof.Proof.Gen.AdamKvUpRefIdeal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamKvUp

open Idealize.ShloMosaic Idealize.ShloMosaic.TcCoe Idealize.SL.Sem Cert.Adam

section Reference
open Cert.AdamKvUpRefIdeal Cert.AdamKvUpRefIdeal.Gen

/-- The whole array holding one number. -/
abbrev num (b : BitVec 32) : FVec Ideal S1024x128 .f32 := broadcastInDim S1024x128 ![] bcast_S_S1024x128 (constant (F := Ideal) S_ .f32 b)

/-- The parameter's axes but the last, as rows. -/
def rows (x : FVec Ideal S4x256x128 .f32) : FVec Ideal S1024x128 .f32 := shapeCast S1024x128 x shapeCasts_S4x256x128_S1024x128

/-- The sum of a layer's eight parts. -/
def total (g : FVec Ideal S8x256x128 .bf16) : FVec Ideal S1x256x128 .f32 :=
  broadcastInDim S1x256x128 ![1, 2] bcast_S256x128_S1x256x128_1_2
    (Host.reduceAdd (extf .f32 g bitsLt_bf16_f32) (constant (F := Ideal) S_ .f32 0x00000000#32) reducesTo_S8x256x128_S256x128_d0 h_S_)

variable (g0 g1 g2 g3 : FVec Ideal S8x256x128 .bf16) (w m v : FVec Ideal S4x256x128 .f32)

/-- The gradient: the layers' sums one after another, as rows. -/
def ref0 : FVec Ideal S1024x128 .f32 :=
  rows (concatenate S4x256x128 0 [⟨S1x256x128, total g0⟩, ⟨S1x256x128, total g1⟩, ⟨S1x256x128, total g2⟩, ⟨S1x256x128, total g3⟩]
    concatenates_S1x256x128_S1x256x128_S1x256x128_S1x256x128_S4x256x128_d0)

/-- The change of the parameter. -/
def ref1 : FVec Ideal S1024x128 .f32 := change num (rows w) (ref0 g0 g1 g2 g3) (rows m) (rows v)

/-- The first moment. -/
def ref2 : FVec Ideal S1024x128 .f32 := first num (ref0 g0 g1 g2 g3) (rows m)

/-- The second moment. -/
def ref3 : FVec Ideal S1024x128 .f32 := second num (ref0 g0 g1 g2 g3) (rows v)

/-- The reference's run, its results named. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v40) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v21) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v27) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Cert.AdamKvUpRefIdeal.Value.run m ρ

end Reference

section Entries
variable (g0 g1 g2 g3 : FVec Ideal AdamKvUpRefIdeal.S8x256x128 .bf16) (b : Fin 256) (k : Fin 128) (i : Fin 1024)

/-- The gradient at a row of layer 0: the sum of the eight parts at the row of the layer. -/
theorem grad0 (h : i.val = 0 + b.val) : ref0 g0 g1 g2 g3 (ix2 i k) = ∑ d : Fin 8, g0 (ix3 d b k) := by
  pointwise [ref0, rows, total]
  rw [dif_pos (show i.val / 256 < 1 by omega)]
  simp only [show (⟨i.val % 256, Nat.mod_lt _ (by decide)⟩ : Fin 256) = b from Fin.ext (show i.val % 256 = b.val by omega)]

/-- The gradient at a row of layer 1: the sum of the eight parts at the row of the layer. -/
theorem grad1 (h : i.val = 256 + b.val) : ref0 g0 g1 g2 g3 (ix2 i k) = ∑ d : Fin 8, g1 (ix3 d b k) := by
  pointwise [ref0, rows, total]
  rw [dif_neg (show ¬i.val / 256 < 1 by omega), dif_pos (show i.val / 256 - 1 < 1 by omega)]
  simp only [show (⟨i.val % 256, Nat.mod_lt _ (by decide)⟩ : Fin 256) = b from Fin.ext (show i.val % 256 = b.val by omega)]

/-- The gradient at a row of layer 2: the sum of the eight parts at the row of the layer. -/
theorem grad2 (h : i.val = 512 + b.val) : ref0 g0 g1 g2 g3 (ix2 i k) = ∑ d : Fin 8, g2 (ix3 d b k) := by
  pointwise [ref0, rows, total]
  rw [dif_neg (show ¬i.val / 256 < 1 by omega), dif_neg (show ¬i.val / 256 - 1 < 1 by omega), dif_pos (show i.val / 256 - 1 - 1 < 1 by omega)]
  simp only [show (⟨i.val % 256, Nat.mod_lt _ (by decide)⟩ : Fin 256) = b from Fin.ext (show i.val % 256 = b.val by omega)]

/-- The gradient at a row of layer 3: the sum of the eight parts at the row of the layer. -/
theorem grad3 (h : i.val = 768 + b.val) : ref0 g0 g1 g2 g3 (ix2 i k) = ∑ d : Fin 8, g3 (ix3 d b k) := by
  pointwise [ref0, rows, total]
  rw [dif_neg (show ¬i.val / 256 < 1 by omega), dif_neg (show ¬i.val / 256 - 1 < 1 by omega), dif_neg (show ¬i.val / 256 - 1 - 1 < 1 by omega)]
  simp only [show (⟨i.val % 256, Nat.mod_lt _ (by decide)⟩ : Fin 256) = b from Fin.ext (show i.val % 256 = b.val by omega)]

end Entries

open Cert.AdamKvUpIdeal Cert.AdamKvUpIdeal.Gen

/-! ## What one block's body stores, where its input blocks hold entries of whole arrays -/

/-- The body's sum of the eight parts of a block. -/
def sum8 (x : Vec Ideal S8x256x128 .bf16) : FVec Ideal S256x128 .f32 :=
  k0_pay13 (View.ld x (Rect.unit ![0, 0, 0] ![1, 256, 128] inb_S8x256x128_S1x256x128_0_0_0))
    (View.ld x (Rect.unit ![1, 0, 0] ![1, 256, 128] inb_S8x256x128_S1x256x128_1_0_0))
    (View.ld x (Rect.unit ![2, 0, 0] ![1, 256, 128] inb_S8x256x128_S1x256x128_2_0_0))
    (View.ld x (Rect.unit ![3, 0, 0] ![1, 256, 128] inb_S8x256x128_S1x256x128_3_0_0))
    (View.ld x (Rect.unit ![4, 0, 0] ![1, 256, 128] inb_S8x256x128_S1x256x128_4_0_0))
    (View.ld x (Rect.unit ![5, 0, 0] ![1, 256, 128] inb_S8x256x128_S1x256x128_5_0_0))
    (View.ld x (Rect.unit ![6, 0, 0] ![1, 256, 128] inb_S8x256x128_S1x256x128_6_0_0))
    (View.ld x (Rect.unit ![7, 0, 0] ![1, 256, 128] inb_S8x256x128_S1x256x128_7_0_0))

section Body
variable (z : FVec Ideal S256x128 .f32) (x0 x2 x3 : Vec Ideal S256x128 .f32) (x : Vec Ideal S8x256x128 .bf16)
  (w g p q : FVec Ideal AdamKvUpRefIdeal.S1024x128 .f32) (r : Fin 256) (k : Fin 128) (i : Fin 1024)

/-- That sum at an entry. -/
theorem sum8_apply (y : Fin 8 → EReal) (h : ∀ d, x (ix3 d r k) = y d) : sum8 x (ix2 r k) = ∑ d, y d := by
  pointwise [sum8, k0_pay13]
  rw [Fin.sum_univ_eight]
  simp only [← h]

/-- The first moment's block. -/
theorem out9 (h1 : z (ix2 r k) = g (ix2 i k)) (h2 : x2 (ix2 r k) = p (ix2 i k)) :
    k0_pay1 z (k0_pay14 x2) (FloatOps.ofBits FTy.f32 1063675494#32) (ix2 r k) = first num g p (ix2 i k) := by
  pointwise [k0_pay1, k0_pay14, first, num]
  rw [h1, h2]

/-- The second moment's block. -/
theorem out10 (h1 : z (ix2 r k) = g (ix2 i k)) (h3 : x3 (ix2 r k) = q (ix2 i k)) :
    k0_pay2 z x3 (ix2 r k) = second num g q (ix2 i k) := by
  pointwise [k0_pay2, second, num]
  rw [h1, h3]

/-- The change's block. -/
theorem out8 (h0 : x0 (ix2 r k) = w (ix2 i k)) (h1 : z (ix2 r k) = g (ix2 i k)) (h2 : x2 (ix2 r k) = p (ix2 i k))
    (h3 : x3 (ix2 r k) = q (ix2 i k)) :
    k0_pay3 z (k0_pay14 x2) (FloatOps.ofBits FTy.f32 1063675494#32) x3 x0 (ix2 r k) = change num w g p q (ix2 i k) := by
  pointwise [k0_pay1, k0_pay2, k0_pay3, k0_pay14, change, first, second, num]
  rw [h0, h1, h2, h3]

end Body

/-! ## The blocks of the grid -/

variable (m : (ℓ : Loc nD τ sig) → Buf (Elt Ideal) ℓ) (ρ : Dev nD → PrngReg) (c : Dev nD) (t : Fin cfg0.N)

/-- Point `t` works on row block `t` of the parameter, and on the parts of the layer it lies in. -/
theorem idx : ∀ t : Fin grid0.N, (win0_0.index t (0 : Fin 2) = t.val ∧ win0_0.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (t.val / 1 = 0 → win0_1.index t (0 : Fin 3) = 0 ∧ win0_1.index t (1 : Fin 3) = t.val - 0 ∧ win0_1.index t (2 : Fin 3) = 0)
    ∧ (t.val / 1 = 1 → win0_2.index t (0 : Fin 3) = 0 ∧ win0_2.index t (1 : Fin 3) = t.val - 1 ∧ win0_2.index t (2 : Fin 3) = 0)
    ∧ (t.val / 1 = 2 → win0_3.index t (0 : Fin 3) = 0 ∧ win0_3.index t (1 : Fin 3) = t.val - 2 ∧ win0_3.index t (2 : Fin 3) = 0)
    ∧ (t.val / 1 = 3 → win0_4.index t (0 : Fin 3) = 0 ∧ win0_4.index t (1 : Fin 3) = t.val - 3 ∧ win0_4.index t (2 : Fin 3) = 0) := by
  decide +kernel

/-- An entry of a block, and its row in the whole array. -/
theorem place (y : S256x128.Idx) : ∃ (r : Fin 256) (k : Fin 128) (i : Fin 1024), y = ix2 r k ∧ i.val = t.val * 256 + r.val := by
  have hN : t.val < 4 := lt_of_lt_of_eq t.isLt N_0
  exact ⟨y 0, y 1, ⟨t.val * 256 + (y 0).val, by have := (y 0).isLt; change _ < 256 at this; omega⟩, eq_ix2 y, rfl⟩

/-- The layer of a point. -/
theorem layer : t.val / 1 = 0 ∨ t.val / 1 = 1 ∨ t.val / 1 = 2 ∨ t.val / 1 = 3 := by
  have hN : t.val < 4 := lt_of_lt_of_eq t.isLt N_0
  omega

section Blocks
variable (r : Fin 256) (k : Fin 128) (i : Fin 1024) (hi : i.val = t.val * 256 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 5's block, read at an entry, is its argument's entry there. -/
theorem blk5 : iblk m c 5 t (ix2 r k) = rows (m ((c : Thread nD τ).loc main_arg5)) (ix2 i k) := by
  unfold iblk
  show V m c main_v1 (((cfg0.win 5).blk t).view.emb (ix2 r k)) = _
  rw [show ((cfg0.win 5).blk t).view.emb (ix2 r k) = ix2 i k from at2 (row_at (idx t).2.1.1 hi) (all_at (idx t).2.1.2)]
  entry_read
  rfl

/-- Window 6's block, read at an entry, is its argument's entry there. -/
theorem blk6 : iblk m c 6 t (ix2 r k) = rows (m ((c : Thread nD τ).loc main_arg6)) (ix2 i k) := by
  unfold iblk
  show V m c main_v2 (((cfg0.win 6).blk t).view.emb (ix2 r k)) = _
  rw [show ((cfg0.win 6).blk t).view.emb (ix2 r k) = ix2 i k from at2 (row_at (idx t).2.2.1.1 hi) (all_at (idx t).2.2.1.2)]
  entry_read
  rfl

/-- The gradient a point of layer 0 computes is the reference's at the block's rows. -/
theorem point0 (hl : t.val / 1 = 0) : sum8 (iblk m c 1 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 256, 0 + b.val = i.val := ⟨⟨i.val - 0, by omega⟩, by show 0 + (i.val - 0) = i.val; omega⟩
  rw [grad0 _ _ _ _ b k i hb.symm]
  refine sum8_apply _ r k _ fun d => ?_
  obtain ⟨h0, h1, h2⟩ := (idx t).2.2.2.2.2.2.2.1 hl
  unfold iblk
  show V m c main_arg1 (((cfg0.win 1).blk t).view.emb (ix3 d r k)) = _
  rw [show ((cfg0.win 1).blk t).view.emb (ix3 d r k) = ix3 d b k from
    at3 (all_at h0) (row_at h1 (show b.val = (t.val - 0) * 256 + r.val by omega)) (all_at h2)]
  entry_read
  rfl

/-- The gradient a point of layer 1 computes is the reference's at the block's rows. -/
theorem point1 (hl : t.val / 1 = 1) : sum8 (iblk m c 2 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 256, 256 + b.val = i.val := ⟨⟨i.val - 256, by omega⟩, by show 256 + (i.val - 256) = i.val; omega⟩
  rw [grad1 _ _ _ _ b k i hb.symm]
  refine sum8_apply _ r k _ fun d => ?_
  obtain ⟨h0, h1, h2⟩ := (idx t).2.2.2.2.2.2.2.2.1 hl
  unfold iblk
  show V m c main_arg2 (((cfg0.win 2).blk t).view.emb (ix3 d r k)) = _
  rw [show ((cfg0.win 2).blk t).view.emb (ix3 d r k) = ix3 d b k from
    at3 (all_at h0) (row_at h1 (show b.val = (t.val - 1) * 256 + r.val by omega)) (all_at h2)]
  entry_read
  rfl

/-- The gradient a point of layer 2 computes is the reference's at the block's rows. -/
theorem point2 (hl : t.val / 1 = 2) : sum8 (iblk m c 3 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 256, 512 + b.val = i.val := ⟨⟨i.val - 512, by omega⟩, by show 512 + (i.val - 512) = i.val; omega⟩
  rw [grad2 _ _ _ _ b k i hb.symm]
  refine sum8_apply _ r k _ fun d => ?_
  obtain ⟨h0, h1, h2⟩ := (idx t).2.2.2.2.2.2.2.2.2.1 hl
  unfold iblk
  show V m c main_arg3 (((cfg0.win 3).blk t).view.emb (ix3 d r k)) = _
  rw [show ((cfg0.win 3).blk t).view.emb (ix3 d r k) = ix3 d b k from
    at3 (all_at h0) (row_at h1 (show b.val = (t.val - 2) * 256 + r.val by omega)) (all_at h2)]
  entry_read
  rfl

/-- The gradient a point of layer 3 computes is the reference's at the block's rows. -/
theorem point3 (hl : t.val / 1 = 3) : sum8 (iblk m c 4 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 256, 768 + b.val = i.val := ⟨⟨i.val - 768, by omega⟩, by show 768 + (i.val - 768) = i.val; omega⟩
  rw [grad3 _ _ _ _ b k i hb.symm]
  refine sum8_apply _ r k _ fun d => ?_
  obtain ⟨h0, h1, h2⟩ := (idx t).2.2.2.2.2.2.2.2.2.2 hl
  unfold iblk
  show V m c main_arg4 (((cfg0.win 4).blk t).view.emb (ix3 d r k)) = _
  rw [show ((cfg0.win 4).blk t).view.emb (ix3 d r k) = ix3 d b k from
    at3 (all_at h0) (row_at h1 (show b.val = (t.val - 3) * 256 + r.val by omega)) (all_at h2)]
  entry_read
  rfl

end Blocks

/-! ## The result arrays -/

/-- After the run the gradient array is the reference's. -/
theorem final7 : (dats m 0 c).arrAt 7 cfg0.N = ref0 (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.1.1 hi) (all_at (idx t).2.2.2.1.2)]
  obtain hl | hl | hl | hl := layer t
  · rw [outsAt0_A m c t (by omega) (by omega) (by omega) (by omega)]
    frame_out
    exact point0 m c t r k i hi hl
  · rw [outsAt0_B m c t (by omega) (by omega) (by omega) (by omega)]
    frame_out
    exact point1 m c t r k i hi hl
  · rw [outsAt0_C m c t (by omega) (by omega) (by omega) (by omega)]
    frame_out
    exact point2 m c t r k i hi hl
  · rw [outsAt0_D m c t (by omega) (by omega) (by omega) (by omega)]
    frame_out
    exact point3 m c t r k i hi hl

/-- After the run the change array is the reference's. -/
theorem final8 : (dats m 0 c).arrAt 8 cfg0.N = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6)) := by
  refine (dats m 0 c).arrAt_eq_of_covers 8 _ (by decide +kernel) fun t _ y => ?_
  blk_simp
  rw [after0_8]
  obtain ⟨r, k, i, rfl, hi⟩ := place t y
  rw [show ((cfg0.win 8).blk t).view.emb (ix2 r k) = ix2 i k from at2 (row_at (idx t).2.2.2.2.1.1 hi) (all_at (idx t).2.2.2.2.1.2)]
  obtain hl | hl | hl | hl := layer t
  · rw [outsAt0_A m c t (by omega) (by omega) (by omega) (by omega)]
    frame_out
    exact out8 _ _ _ _ _ _ _ _ r k i (blk0 m c t r k i hi) (point0 m c t r k i hi hl) (blk5 m c t r k i hi) (blk6 m c t r k i hi)
  · rw [outsAt0_B m c t (by omega) (by omega) (by omega) (by omega)]
    frame_out
    exact out8 _ _ _ _ _ _ _ _ r k i (blk0 m c t r k i hi) (point1 m c t r k i hi hl) (blk5 m c t r k i hi) (blk6 m c t r k i hi)
  · rw [outsAt0_C m c t (by omega) (by omega) (by omega) (by omega)]
    frame_out
    exact out8 _ _ _ _ _ _ _ _ r k i (blk0 m c t r k i hi) (point2 m c t r k i hi hl) (blk5 m c t r k i hi) (blk6 m c t r k i hi)
  · rw [outsAt0_D m c t (by omega) (by omega) (by omega) (by omega)]
    frame_out
    exact out8 _ _ _ _ _ _ _ _ r k i (blk0 m c t r k i hi) (point3 m c t r k i hi hl) (blk5 m c t r k i hi) (blk6 m c t r k i hi)

/-- After the run the first-moment array is the reference's. -/
theorem final9 : (dats m 0 c).arrAt 9 cfg0.N = ref2 (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  obtain ⟨r, k, i, rfl, hi⟩ := place t y
  rw [show ((cfg0.win 9).blk t).view.emb (ix2 r k) = ix2 i k from at2 (row_at (idx t).2.2.2.2.2.1.1 hi) (all_at (idx t).2.2.2.2.2.1.2)]
  obtain hl | hl | hl | hl := layer t
  · rw [outsAt0_A m c t (by omega) (by omega) (by omega) (by omega)]
    frame_out
    exact out9 _ _ _ _ r k i (point0 m c t r k i hi hl) (blk5 m c t r k i hi)
  · rw [outsAt0_B m c t (by omega) (by omega) (by omega) (by omega)]
    frame_out
    exact out9 _ _ _ _ r k i (point1 m c t r k i hi hl) (blk5 m c t r k i hi)
  · rw [outsAt0_C m c t (by omega) (by omega) (by omega) (by omega)]
    frame_out
    exact out9 _ _ _ _ r k i (point2 m c t r k i hi hl) (blk5 m c t r k i hi)
  · rw [outsAt0_D m c t (by omega) (by omega) (by omega) (by omega)]
    frame_out
    exact out9 _ _ _ _ r k i (point3 m c t r k i hi hl) (blk5 m c t r k i hi)

/-- After the run the second-moment array is the reference's. -/
theorem final10 : (dats m 0 c).arrAt 10 cfg0.N = ref3 (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  obtain ⟨r, k, i, rfl, hi⟩ := place t y
  rw [show ((cfg0.win 10).blk t).view.emb (ix2 r k) = ix2 i k from at2 (row_at (idx t).2.2.2.2.2.2.1.1 hi) (all_at (idx t).2.2.2.2.2.2.1.2)]
  obtain hl | hl | hl | hl := layer t
  · rw [outsAt0_A m c t (by omega) (by omega) (by omega) (by omega)]
    frame_out
    exact out10 _ _ _ _ r k i (point0 m c t r k i hi hl) (blk6 m c t r k i hi)
  · rw [outsAt0_B m c t (by omega) (by omega) (by omega) (by omega)]
    frame_out
    exact out10 _ _ _ _ r k i (point1 m c t r k i hi hl) (blk6 m c t r k i hi)
  · rw [outsAt0_C m c t (by omega) (by omega) (by omega) (by omega)]
    frame_out
    exact out10 _ _ _ _ r k i (point2 m c t r k i hi hl) (blk6 m c t r k i hi)
  · rw [outsAt0_D m c t (by omega) (by omega) (by omega) (by omega)]
    frame_out
    exact out10 _ _ _ _ r k i (point3 m c t r k i hi hl) (blk6 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v3_0) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v3_2) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v3_3) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c),
    (h c).2.2.1.trans (final9 m c), (h c).2.2.2.1.trans (final10 m c), (h c).2.2.2.2⟩) (Value.run_blocks m ρ)

end Cert.AdamKvUp

end
-- ==== Proof.AdamBranch.lean ====
/-
  The optimiser's step of the branches' weights: the gradient is the sum of the eight parts that arrived for a layer; every
  row block of the four result arrays is the reference's update of the argument arrays at that block.
-/
module

public import proofs.«01_k».proof.Proof.Gen.AdamBranchIdeal.Value
public import proofs.«01_k».proof.Proof.Gen.AdamBranchRefIdeal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamBranch

open Idealize.ShloMosaic Idealize.ShloMosaic.TcCoe Idealize.SL.Sem Cert.Adam

section Reference
open Cert.AdamBranchRefIdeal Cert.AdamBranchRefIdeal.Gen

/-- The whole array holding one number. -/
abbrev num (b : BitVec 32) : FVec Ideal S6144x128 .f32 := broadcastInDim S6144x128 ![] bcast_S_S6144x128 (constant (F := Ideal) S_ .f32 b)

/-- The parameter's axes but the last, as rows. -/
def rows (x : FVec Ideal S4x3x512x128 .f32) : FVec Ideal S6144x128 .f32 := shapeCast S6144x128 x shapeCasts_S4x3x512x128_S6144x128

/-- The sum of a layer's eight parts. -/
def total (g : FVec Ideal S8x3x512x128 .bf16) : FVec Ideal S1x3x512x128 .f32 :=
  broadcastInDim S1x3x512x128 ![1, 2, 3] bcast_S3x512x128_S1x3x512x128_1_2_3
    (Host.reduceAdd (extf .f32 g bitsLt_bf16_f32) (constant (F := Ideal) S_ .f32 0x00000000#32) reducesTo_S8x3x512x128_S3x512x128_d0 h_S_)

variable (g0 g1 g2 g3 : FVec Ideal S8x3x512x128 .bf16) (w m v : FVec Ideal S4x3x512x128 .f32)

/-- The gradient: the layers' sums one after another, as rows. -/
def ref0 : FVec Ideal S6144x128 .f32 :=
  rows (concatenate S4x3x512x128 0 [⟨S1x3x512x128, total g0⟩, ⟨S1x3x512x128, total g1⟩, ⟨S1x3x512x128, total g2⟩, ⟨S1x3x512x128, total g3⟩]
    concatenates_S1x3x512x128_S1x3x512x128_S1x3x512x128_S1x3x512x128_S4x3x512x128_d0)

/-- The change of the parameter. -/
def ref1 : FVec Ideal S6144x128 .f32 := change num (rows w) (ref0 g0 g1 g2 g3) (rows m) (rows v)

/-- The first moment. -/
def ref2 : FVec Ideal S6144x128 .f32 := first num (ref0 g0 g1 g2 g3) (rows m)

/-- The second moment. -/
def ref3 : FVec Ideal S6144x128 .f32 := second num (ref0 g0 g1 g2 g3) (rows v)

/-- The reference's run, its results named. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v40) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v21) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v27) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Cert.AdamBranchRefIdeal.Value.run m ρ

end Reference

section Entries
variable (g0 g1 g2 g3 : FVec Ideal AdamBranchRefIdeal.S8x3x512x128 .bf16) (b : Fin 1536) (k : Fin 128) (i : Fin 6144)

/-- The gradient at a row of layer 0: the sum of the eight parts at the row of the layer. -/
theorem grad0 (h : i.val = 0 + b.val) : ref0 g0 g1 g2 g3 (ix2 i k) = ∑ d : Fin 8, g0 (ix4 d (⟨b.val / 512, by omega⟩ : Fin 3) (⟨b.val % 512, by omega⟩ : Fin 512) k) := by
  pointwise [ref0, rows, total]
  rw [dif_pos (show i.val / 1536 < 1 by omega)]
  simp only [show (⟨i.val / 512 % 3, Nat.mod_lt _ (by decide)⟩ : Fin 3) = ⟨b.val / 512, by omega⟩ from Fin.ext (show i.val / 512 % 3 = b.val / 512 by omega),
    show (⟨i.val % 512, Nat.mod_lt _ (by decide)⟩ : Fin 512) = ⟨b.val % 512, by omega⟩ from Fin.ext (show i.val % 512 = b.val % 512 by omega)]

/-- The gradient at a row of layer 1: the sum of the eight parts at the row of the layer. -/
theorem grad1 (h : i.val = 1536 + b.val) : ref0 g0 g1 g2 g3 (ix2 i k) = ∑ d : Fin 8, g1 (ix4 d (⟨b.val / 512, by omega⟩ : Fin 3) (⟨b.val % 512, by omega⟩ : Fin 512) k) := by
  pointwise [ref0, rows, total]
  rw [dif_neg (show ¬i.val / 1536 < 1 by omega), dif_pos (show i.val / 1536 - 1 < 1 by omega)]
  simp only [show (⟨i.val / 512 % 3, Nat.mod_lt _ (by decide)⟩ : Fin 3) = ⟨b.val / 512, by omega⟩ from Fin.ext (show i.val / 512 % 3 = b.val / 512 by omega),
    show (⟨i.val % 512, Nat.mod_lt _ (by decide)⟩ : Fin 512) = ⟨b.val % 512, by omega⟩ from Fin.ext (show i.val % 512 = b.val % 512 by omega)]

/-- The gradient at a row of layer 2: the sum of the eight parts at the row of the layer. -/
theorem grad2 (h : i.val = 3072 + b.val) : ref0 g0 g1 g2 g3 (ix2 i k) = ∑ d : Fin 8, g2 (ix4 d (⟨b.val / 512, by omega⟩ : Fin 3) (⟨b.val % 512, by omega⟩ : Fin 512) k) := by
  pointwise [ref0, rows, total]
  rw [dif_neg (show ¬i.val / 1536 < 1 by omega), dif_neg (show ¬i.val / 1536 - 1 < 1 by omega), dif_pos (show i.val / 1536 - 1 - 1 < 1 by omega)]
  simp only [show (⟨i.val / 512 % 3, Nat.mod_lt _ (by decide)⟩ : Fin 3) = ⟨b.val / 512, by omega⟩ from Fin.ext (show i.val / 512 % 3 = b.val / 512 by omega),
    show (⟨i.val % 512, Nat.mod_lt _ (by decide)⟩ : Fin 512) = ⟨b.val % 512, by omega⟩ from Fin.ext (show i.val % 512 = b.val % 512 by omega)]

/-- The gradient at a row of layer 3: the sum of the eight parts at the row of the layer. -/
theorem grad3 (h : i.val = 4608 + b.val) : ref0 g0 g1 g2 g3 (ix2 i k) = ∑ d : Fin 8, g3 (ix4 d (⟨b.val / 512, by omega⟩ : Fin 3) (⟨b.val % 512, by omega⟩ : Fin 512) k) := by
  pointwise [ref0, rows, total]
  rw [dif_neg (show ¬i.val / 1536 < 1 by omega), dif_neg (show ¬i.val / 1536 - 1 < 1 by omega), dif_neg (show ¬i.val / 1536 - 1 - 1 < 1 by omega)]
  simp only [show (⟨i.val / 512 % 3, Nat.mod_lt _ (by decide)⟩ : Fin 3) = ⟨b.val / 512, by omega⟩ from Fin.ext (show i.val / 512 % 3 = b.val / 512 by omega),
    show (⟨i.val % 512, Nat.mod_lt _ (by decide)⟩ : Fin 512) = ⟨b.val % 512, by omega⟩ from Fin.ext (show i.val % 512 = b.val % 512 by omega)]

end Entries

open Cert.AdamBranchIdeal Cert.AdamBranchIdeal.Gen

/-! ## What one block's body stores, where its input blocks hold entries of whole arrays -/

/-- The body's sum of the eight parts of a block. -/
def sum8 (x : Vec Ideal S8x256x128 .bf16) : FVec Ideal S256x128 .f32 :=
  k0_pay13 (View.ld x (Rect.unit ![0, 0, 0] ![1, 256, 128] inb_S8x256x128_S1x256x128_0_0_0))
    (View.ld x (Rect.unit ![1, 0, 0] ![1, 256, 128] inb_S8x256x128_S1x256x128_1_0_0))
    (View.ld x (Rect.unit ![2, 0, 0] ![1, 256, 128] inb_S8x256x128_S1x256x128_2_0_0))
    (View.ld x (Rect.unit ![3, 0, 0] ![1, 256, 128] inb_S8x256x128_S1x256x128_3_0_0))
    (View.ld x (Rect.unit ![4, 0, 0] ![1, 256, 128] inb_S8x256x128_S1x256x128_4_0_0))
    (View.ld x (Rect.unit ![5, 0, 0] ![1, 256, 128] inb_S8x256x128_S1x256x128_5_0_0))
    (View.ld x (Rect.unit ![6, 0, 0] ![1, 256, 128] inb_S8x256x128_S1x256x128_6_0_0))
    (View.ld x (Rect.unit ![7, 0, 0] ![1, 256, 128] inb_S8x256x128_S1x256x128_7_0_0))

section Body
variable (z : FVec Ideal S256x128 .f32) (x0 x2 x3 : Vec Ideal S256x128 .f32) (x : Vec Ideal S8x256x128 .bf16)
  (w g p q : FVec Ideal AdamBranchRefIdeal.S6144x128 .f32) (r : Fin 256) (k : Fin 128) (i : Fin 6144)

/-- That sum at an entry. -/
theorem sum8_apply (y : Fin 8 → EReal) (h : ∀ d, x (ix3 d r k) = y d) : sum8 x (ix2 r k) = ∑ d, y d := by
  pointwise [sum8, k0_pay13]
  rw [Fin.sum_univ_eight]
  simp only [← h]

/-- The first moment's block. -/
theorem out9 (h1 : z (ix2 r k) = g (ix2 i k)) (h2 : x2 (ix2 r k) = p (ix2 i k)) :
    k0_pay1 z (k0_pay14 x2) (FloatOps.ofBits FTy.f32 1063675494#32) (ix2 r k) = first num g p (ix2 i k) := by
  pointwise [k0_pay1, k0_pay14, first, num]
  rw [h1, h2]

/-- The second moment's block. -/
theorem out10 (h1 : z (ix2 r k) = g (ix2 i k)) (h3 : x3 (ix2 r k) = q (ix2 i k)) :
    k0_pay2 z x3 (ix2 r k) = second num g q (ix2 i k) := by
  pointwise [k0_pay2, second, num]
  rw [h1, h3]

/-- The change's block. -/
theorem out8 (h0 : x0 (ix2 r k) = w (ix2 i k)) (h1 : z (ix2 r k) = g (ix2 i k)) (h2 : x2 (ix2 r k) = p (ix2 i k))
    (h3 : x3 (ix2 r k) = q (ix2 i k)) :
    k0_pay3 z (k0_pay14 x2) (FloatOps.ofBits FTy.f32 1063675494#32) x3 x0 (ix2 r k) = change num w g p q (ix2 i k) := by
  pointwise [k0_pay1, k0_pay2, k0_pay3, k0_pay14, change, first, second, num]
  rw [h0, h1, h2, h3]

end Body

/-! ## The blocks of the grid -/

variable (m : (ℓ : Loc nD τ sig) → Buf (Elt Ideal) ℓ) (ρ : Dev nD → PrngReg) (c : Dev nD) (t : Fin cfg0.N)

/-- Point `t` works on row block `t` of the parameter, and on the parts of the layer it lies in. -/
theorem idx : ∀ t : Fin grid0.N, (win0_0.index t (0 : Fin 2) = t.val ∧ win0_0.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (t.val / 6 = 0 → win0_1.index t (0 : Fin 3) = 0 ∧ win0_1.index t (1 : Fin 3) = t.val - 0 ∧ win0_1.index t (2 : Fin 3) = 0)
    ∧ (t.val / 6 = 1 → win0_2.index t (0 : Fin 3) = 0 ∧ win0_2.index t (1 : Fin 3) = t.val - 6 ∧ win0_2.index t (2 : Fin 3) = 0)
    ∧ (t.val / 6 = 2 → win0_3.index t (0 : Fin 3) = 0 ∧ win0_3.index t (1 : Fin 3) = t.val - 12 ∧ win0_3.index t (2 : Fin 3) = 0)
    ∧ (t.val / 6 = 3 → win0_4.index t (0 : Fin 3) = 0 ∧ win0_4.index t (1 : Fin 3) = t.val - 18 ∧ win0_4.index t (2 : Fin 3) = 0) := by
  decide +kernel

/-- An entry of a block, and its row in the whole array. -/
theorem place (y : S256x128.Idx) : ∃ (r : Fin 256) (k : Fin 128) (i : Fin 6144), y = ix2 r k ∧ i.val = t.val * 256 + r.val := by
  have hN : t.val < 24 := lt_of_lt_of_eq t.isLt N_0
  exact ⟨y 0, y 1, ⟨t.val * 256 + (y 0).val, by have := (y 0).isLt; change _ < 256 at this; omega⟩, eq_ix2 y, rfl⟩

/-- The layer of a point. -/
theorem layer : t.val / 6 = 0 ∨ t.val / 6 = 1 ∨ t.val / 6 = 2 ∨ t.val / 6 = 3 := by
  have hN : t.val < 24 := lt_of_lt_of_eq t.isLt N_0
  omega

section Blocks
variable (r : Fin 256) (k : Fin 128) (i : Fin 6144) (hi : i.val = t.val * 256 + r.val)
include hi

/-- Window 0's block, read at an entry, is its argument's entry there. -/
theorem blk0 : iblk m c 0 t (ix2 r k) = rows (m ((c : Thread nD τ).loc main_arg0)) (ix2 i k) := by
  unfold iblk
  show V m c main_v4 (((cfg0.win 0).blk t).view.emb (ix2 r k)) = _
  rw [show ((cfg0.win 0).blk t).view.emb (ix2 r k) = ix2 i k from at2 (row_at (idx t).1.1 hi) (all_at (idx t).1.2)]
  entry_read
  rfl

/-- Window 5's block, read at an entry, is its argument's entry there. -/
theorem blk5 : iblk m c 5 t (ix2 r k) = rows (m ((c : Thread nD τ).loc main_arg5)) (ix2 i k) := by
  unfold iblk
  show V m c main_v5 (((cfg0.win 5).blk t).view.emb (ix2 r k)) = _
  rw [show ((cfg0.win 5).blk t).view.emb (ix2 r k) = ix2 i k from at2 (row_at (idx t).2.1.1 hi) (all_at (idx t).2.1.2)]
  entry_read
  rfl

/-- Window 6's block, read at an entry, is its argument's entry there. -/
theorem blk6 : iblk m c 6 t (ix2 r k) = rows (m ((c : Thread nD τ).loc main_arg6)) (ix2 i k) := by
  unfold iblk
  show V m c main_v6 (((cfg0.win 6).blk t).view.emb (ix2 r k)) = _
  rw [show ((cfg0.win 6).blk t).view.emb (ix2 r k) = ix2 i k from at2 (row_at (idx t).2.2.1.1 hi) (all_at (idx t).2.2.1.2)]
  entry_read
  rfl

/-- The gradient a point of layer 0 computes is the reference's at the block's rows. -/
theorem point0 (hl : t.val / 6 = 0) : sum8 (iblk m c 1 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1536, 0 + b.val = i.val := ⟨⟨i.val - 0, by omega⟩, by show 0 + (i.val - 0) = i.val; omega⟩
  rw [grad0 _ _ _ _ b k i hb.symm]
  refine sum8_apply _ r k _ fun d => ?_
  obtain ⟨h0, h1, h2⟩ := (idx t).2.2.2.2.2.2.2.1 hl
  unfold iblk
  show V m c main_v0 (((cfg0.win 1).blk t).view.emb (ix3 d r k)) = _
  rw [show ((cfg0.win 1).blk t).view.emb (ix3 d r k) = ix3 d b k from
    at3 (all_at h0) (row_at h1 (show b.val = (t.val - 0) * 256 + r.val by omega)) (all_at h2)]
  entry_read
  pointwise

/-- The gradient a point of layer 1 computes is the reference's at the block's rows. -/
theorem point1 (hl : t.val / 6 = 1) : sum8 (iblk m c 2 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1536, 1536 + b.val = i.val := ⟨⟨i.val - 1536, by omega⟩, by show 1536 + (i.val - 1536) = i.val; omega⟩
  rw [grad1 _ _ _ _ b k i hb.symm]
  refine sum8_apply _ r k _ fun d => ?_
  obtain ⟨h0, h1, h2⟩ := (idx t).2.2.2.2.2.2.2.2.1 hl
  unfold iblk
  show V m c main_v1 (((cfg0.win 2).blk t).view.emb (ix3 d r k)) = _
  rw [show ((cfg0.win 2).blk t).view.emb (ix3 d r k) = ix3 d b k from
    at3 (all_at h0) (row_at h1 (show b.val = (t.val - 6) * 256 + r.val by omega)) (all_at h2)]
  entry_read
  pointwise

/-- The gradient a point of layer 2 computes is the reference's at the block's rows. -/
theorem point2 (hl : t.val / 6 = 2) : sum8 (iblk m c 3 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1536, 3072 + b.val = i.val := ⟨⟨i.val - 3072, by omega⟩, by show 3072 + (i.val - 3072) = i.val; omega⟩
  rw [grad2 _ _ _ _ b k i hb.symm]
  refine sum8_apply _ r k _ fun d => ?_
  obtain ⟨h0, h1, h2⟩ := (idx t).2.2.2.2.2.2.2.2.2.1 hl
  unfold iblk
  show V m c main_v2 (((cfg0.win 3).blk t).view.emb (ix3 d r k)) = _
  rw [show ((cfg0.win 3).blk t).view.emb (ix3 d r k) = ix3 d b k from
    at3 (all_at h0) (row_at h1 (show b.val = (t.val - 12) * 256 + r.val by omega)) (all_at h2)]
  entry_read
  pointwise

/-- The gradient a point of layer 3 computes is the reference's at the block's rows. -/
theorem point3 (hl : t.val / 6 = 3) : sum8 (iblk m c 4 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1536, 4608 + b.val = i.val := ⟨⟨i.val - 4608, by omega⟩, by show 4608 + (i.val - 4608) = i.val; omega⟩
  rw [grad3 _ _ _ _ b k i hb.symm]
  refine sum8_apply _ r k _ fun d => ?_
  obtain ⟨h0, h1, h2⟩ := (idx t).2.2.2.2.2.2.2.2.2.2 hl
  unfold iblk
  show V m c main_v3 (((cfg0.win 4).blk t).view.emb (ix3 d r k)) = _
  rw [show ((cfg0.win 4).blk t).view.emb (ix3 d r k) = ix3 d b k from
    at3 (all_at h0) (row_at h1 (show b.val = (t.val - 18) * 256 + r.val by omega)) (all_at h2)]
  entry_read
  pointwise

end Blocks

/-! ## The result arrays -/

/-- After the run the gradient array is the reference's. -/
theorem final7 : (dats m 0 c).arrAt 7 cfg0.N = ref0 (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.1.1 hi) (all_at (idx t).2.2.2.1.2)]
  obtain hl | hl | hl | hl := layer t
  · rw [outsAt0_A m c t (by omega) (by omega) (by omega) (by omega)]
    frame_out
    exact point0 m c t r k i hi hl
  · rw [outsAt0_B m c t (by omega) (by omega) (by omega) (by omega)]
    frame_out
    exact point1 m c t r k i hi hl
  · rw [outsAt0_C m c t (by omega) (by omega) (by omega) (by omega)]
    frame_out
    exact point2 m c t r k i hi hl
  · rw [outsAt0_D m c t (by omega) (by omega) (by omega) (by omega)]
    frame_out
    exact point3 m c t r k i hi hl

/-- After the run the change array is the reference's. -/
theorem final8 : (dats m 0 c).arrAt 8 cfg0.N = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6)) := by
  refine (dats m 0 c).arrAt_eq_of_covers 8 _ (by decide +kernel) fun t _ y => ?_
  blk_simp
  rw [after0_8]
  obtain ⟨r, k, i, rfl, hi⟩ := place t y
  rw [show ((cfg0.win 8).blk t).view.emb (ix2 r k) = ix2 i k from at2 (row_at (idx t).2.2.2.2.1.1 hi) (all_at (idx t).2.2.2.2.1.2)]
  obtain hl | hl | hl | hl := layer t
  · rw [outsAt0_A m c t (by omega) (by omega) (by omega) (by omega)]
    frame_out
    exact out8 _ _ _ _ _ _ _ _ r k i (blk0 m c t r k i hi) (point0 m c t r k i hi hl) (blk5 m c t r k i hi) (blk6 m c t r k i hi)
  · rw [outsAt0_B m c t (by omega) (by omega) (by omega) (by omega)]
    frame_out
    exact out8 _ _ _ _ _ _ _ _ r k i (blk0 m c t r k i hi) (point1 m c t r k i hi hl) (blk5 m c t r k i hi) (blk6 m c t r k i hi)
  · rw [outsAt0_C m c t (by omega) (by omega) (by omega) (by omega)]
    frame_out
    exact out8 _ _ _ _ _ _ _ _ r k i (blk0 m c t r k i hi) (point2 m c t r k i hi hl) (blk5 m c t r k i hi) (blk6 m c t r k i hi)
  · rw [outsAt0_D m c t (by omega) (by omega) (by omega) (by omega)]
    frame_out
    exact out8 _ _ _ _ _ _ _ _ r k i (blk0 m c t r k i hi) (point3 m c t r k i hi hl) (blk5 m c t r k i hi) (blk6 m c t r k i hi)

/-- After the run the first-moment array is the reference's. -/
theorem final9 : (dats m 0 c).arrAt 9 cfg0.N = ref2 (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  obtain ⟨r, k, i, rfl, hi⟩ := place t y
  rw [show ((cfg0.win 9).blk t).view.emb (ix2 r k) = ix2 i k from at2 (row_at (idx t).2.2.2.2.2.1.1 hi) (all_at (idx t).2.2.2.2.2.1.2)]
  obtain hl | hl | hl | hl := layer t
  · rw [outsAt0_A m c t (by omega) (by omega) (by omega) (by omega)]
    frame_out
    exact out9 _ _ _ _ r k i (point0 m c t r k i hi hl) (blk5 m c t r k i hi)
  · rw [outsAt0_B m c t (by omega) (by omega) (by omega) (by omega)]
    frame_out
    exact out9 _ _ _ _ r k i (point1 m c t r k i hi hl) (blk5 m c t r k i hi)
  · rw [outsAt0_C m c t (by omega) (by omega) (by omega) (by omega)]
    frame_out
    exact out9 _ _ _ _ r k i (point2 m c t r k i hi hl) (blk5 m c t r k i hi)
  · rw [outsAt0_D m c t (by omega) (by omega) (by omega) (by omega)]
    frame_out
    exact out9 _ _ _ _ r k i (point3 m c t r k i hi hl) (blk5 m c t r k i hi)

/-- After the run the second-moment array is the reference's. -/
theorem final10 : (dats m 0 c).arrAt 10 cfg0.N = ref3 (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  obtain ⟨r, k, i, rfl, hi⟩ := place t y
  rw [show ((cfg0.win 10).blk t).view.emb (ix2 r k) = ix2 i k from at2 (row_at (idx t).2.2.2.2.2.2.1.1 hi) (all_at (idx t).2.2.2.2.2.2.1.2)]
  obtain hl | hl | hl | hl := layer t
  · rw [outsAt0_A m c t (by omega) (by omega) (by omega) (by omega)]
    frame_out
    exact out10 _ _ _ _ r k i (point0 m c t r k i hi hl) (blk6 m c t r k i hi)
  · rw [outsAt0_B m c t (by omega) (by omega) (by omega) (by omega)]
    frame_out
    exact out10 _ _ _ _ r k i (point1 m c t r k i hi hl) (blk6 m c t r k i hi)
  · rw [outsAt0_C m c t (by omega) (by omega) (by omega) (by omega)]
    frame_out
    exact out10 _ _ _ _ r k i (point2 m c t r k i hi hl) (blk6 m c t r k i hi)
  · rw [outsAt0_D m c t (by omega) (by omega) (by omega) (by omega)]
    frame_out
    exact out10 _ _ _ _ r k i (point3 m c t r k i hi hl) (blk6 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v7_0) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v7_1) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v7_2) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v7_3) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c),
    (h c).2.2.1.trans (final9 m c), (h c).2.2.2.1.trans (final10 m c), (h c).2.2.2.2⟩) (Value.run_blocks m ρ)

end Cert.AdamBranch

end
-- ==== Proof.AdamWOut.lean ====
/-
  The optimiser's step of the output weights: the gradient is the sum of the eight parts that arrived for a layer; every
  row block of the four result arrays is the reference's update of the argument arrays at that block.
-/
module

public import proofs.«01_k».proof.Proof.Gen.AdamWOutIdeal.Value
public import proofs.«01_k».proof.Proof.Gen.AdamWOutRefIdeal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamWOut

open Idealize.ShloMosaic Idealize.ShloMosaic.TcCoe Idealize.SL.Sem Cert.Adam

section Reference
open Cert.AdamWOutRefIdeal Cert.AdamWOutRefIdeal.Gen

/-- The whole array holding one number. -/
abbrev num (b : BitVec 32) : FVec Ideal S512x1024 .f32 := broadcastInDim S512x1024 ![] bcast_S_S512x1024 (constant (F := Ideal) S_ .f32 b)

/-- The parameter's axes but the last, as rows. -/
def rows (x : FVec Ideal S4x128x1024 .f32) : FVec Ideal S512x1024 .f32 := shapeCast S512x1024 x shapeCasts_S4x128x1024_S512x1024

/-- The sum of a layer's eight parts. -/
def total (g : FVec Ideal S8x128x1024 .bf16) : FVec Ideal S1x128x1024 .f32 :=
  broadcastInDim S1x128x1024 ![1, 2] bcast_S128x1024_S1x128x1024_1_2
    (Host.reduceAdd (extf .f32 g bitsLt_bf16_f32) (constant (F := Ideal) S_ .f32 0x00000000#32) reducesTo_S8x128x1024_S128x1024_d0 h_S_)

variable (g0 g1 g2 g3 : FVec Ideal S8x128x1024 .bf16) (w m v : FVec Ideal S4x128x1024 .f32)

/-- The gradient: the layers' sums one after another, as rows. -/
def ref0 : FVec Ideal S512x1024 .f32 :=
  rows (concatenate S4x128x1024 0 [⟨S1x128x1024, total g0⟩, ⟨S1x128x1024, total g1⟩, ⟨S1x128x1024, total g2⟩, ⟨S1x128x1024, total g3⟩]
    concatenates_S1x128x1024_S1x128x1024_S1x128x1024_S1x128x1024_S4x128x1024_d0)

/-- The change of the parameter. -/
def ref1 : FVec Ideal S512x1024 .f32 := change num (rows w) (ref0 g0 g1 g2 g3) (rows m) (rows v)

/-- The first moment. -/
def ref2 : FVec Ideal S512x1024 .f32 := first num (ref0 g0 g1 g2 g3) (rows m)

/-- The second moment. -/
def ref3 : FVec Ideal S512x1024 .f32 := second num (ref0 g0 g1 g2 g3) (rows v)

/-- The reference's run, its results named. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v40) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v21) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v27) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Cert.AdamWOutRefIdeal.Value.run m ρ

end Reference

section Entries
variable (g0 g1 g2 g3 : FVec Ideal AdamWOutRefIdeal.S8x128x1024 .bf16) (b : Fin 128) (k : Fin 1024) (i : Fin 512)

/-- The gradient at a row of layer 0: the sum of the eight parts at the row of the layer. -/
theorem grad0 (h : i.val = 0 + b.val) : ref0 g0 g1 g2 g3 (ix2 i k) = ∑ d : Fin 8, g0 (ix3 d b k) := by
  pointwise [ref0, rows, total]
  rw [dif_pos (show i.val / 128 < 1 by omega)]
  simp only [show (⟨i.val % 128, Nat.mod_lt _ (by decide)⟩ : Fin 128) = b from Fin.ext (show i.val % 128 = b.val by omega)]

/-- The gradient at a row of layer 1: the sum of the eight parts at the row of the layer. -/
theorem grad1 (h : i.val = 128 + b.val) : ref0 g0 g1 g2 g3 (ix2 i k) = ∑ d : Fin 8, g1 (ix3 d b k) := by
  pointwise [ref0, rows, total]
  rw [dif_neg (show ¬i.val / 128 < 1 by omega), dif_pos (show i.val / 128 - 1 < 1 by omega)]
  simp only [show (⟨i.val % 128, Nat.mod_lt _ (by decide)⟩ : Fin 128) = b from Fin.ext (show i.val % 128 = b.val by omega)]

/-- The gradient at a row of layer 2: the sum of the eight parts at the row of the layer. -/
theorem grad2 (h : i.val = 256 + b.val) : ref0 g0 g1 g2 g3 (ix2 i k) = ∑ d : Fin 8, g2 (ix3 d b k) := by
  pointwise [ref0, rows, total]
  rw [dif_neg (show ¬i.val / 128 < 1 by omega), dif_neg (show ¬i.val / 128 - 1 < 1 by omega), dif_pos (show i.val / 128 - 1 - 1 < 1 by omega)]
  simp only [show (⟨i.val % 128, Nat.mod_lt _ (by decide)⟩ : Fin 128) = b from Fin.ext (show i.val % 128 = b.val by omega)]

/-- The gradient at a row of layer 3: the sum of the eight parts at the row of the layer. -/
theorem grad3 (h : i.val = 384 + b.val) : ref0 g0 g1 g2 g3 (ix2 i k) = ∑ d : Fin 8, g3 (ix3 d b k) := by
  pointwise [ref0, rows, total]
  rw [dif_neg (show ¬i.val / 128 < 1 by omega), dif_neg (show ¬i.val / 128 - 1 < 1 by omega), dif_neg (show ¬i.val / 128 - 1 - 1 < 1 by omega)]
  simp only [show (⟨i.val % 128, Nat.mod_lt _ (by decide)⟩ : Fin 128) = b from Fin.ext (show i.val % 128 = b.val by omega)]

end Entries

open Cert.AdamWOutIdeal Cert.AdamWOutIdeal.Gen

/-! ## What one block's body stores, where its input blocks hold entries of whole arrays -/

/-- The body's sum of the eight parts of a block. -/
def sum8 (x : Vec Ideal S8x128x1024 .bf16) : FVec Ideal S128x1024 .f32 :=
  k0_pay13 (View.ld x (Rect.unit ![0, 0, 0] ![1, 128, 1024] inb_S8x128x1024_S1x128x1024_0_0_0))
    (View.ld x (Rect.unit ![1, 0, 0] ![1, 128, 1024] inb_S8x128x1024_S1x128x1024_1_0_0))
    (View.ld x (Rect.unit ![2, 0, 0] ![1, 128, 1024] inb_S8x128x1024_S1x128x1024_2_0_0))
    (View.ld x (Rect.unit ![3, 0, 0] ![1, 128, 1024] inb_S8x128x1024_S1x128x1024_3_0_0))
    (View.ld x (Rect.unit ![4, 0, 0] ![1, 128, 1024] inb_S8x128x1024_S1x128x1024_4_0_0))
    (View.ld x (Rect.unit ![5, 0, 0] ![1, 128, 1024] inb_S8x128x1024_S1x128x1024_5_0_0))
    (View.ld x (Rect.unit ![6, 0, 0] ![1, 128, 1024] inb_S8x128x1024_S1x128x1024_6_0_0))
    (View.ld x (Rect.unit ![7, 0, 0] ![1, 128, 1024] inb_S8x128x1024_S1x128x1024_7_0_0))

section Body
variable (z : FVec Ideal S128x1024 .f32) (x0 x2 x3 : Vec Ideal S128x1024 .f32) (x : Vec Ideal S8x128x1024 .bf16)
  (w g p q : FVec Ideal AdamWOutRefIdeal.S512x1024 .f32) (r : Fin 128) (k : Fin 1024) (i : Fin 512)

/-- That sum at an entry. -/
theorem sum8_apply (y : Fin 8 → EReal) (h : ∀ d, x (ix3 d r k) = y d) : sum8 x (ix2 r k) = ∑ d, y d := by
  pointwise [sum8, k0_pay13]
  rw [Fin.sum_univ_eight]
  simp only [← h]

/-- The first moment's block. -/
theorem out9 (h1 : z (ix2 r k) = g (ix2 i k)) (h2 : x2 (ix2 r k) = p (ix2 i k)) :
    k0_pay1 z (k0_pay14 x2) (FloatOps.ofBits FTy.f32 1063675494#32) (ix2 r k) = first num g p (ix2 i k) := by
  pointwise [k0_pay1, k0_pay14, first, num]
  rw [h1, h2]

/-- The second moment's block. -/
theorem out10 (h1 : z (ix2 r k) = g (ix2 i k)) (h3 : x3 (ix2 r k) = q (ix2 i k)) :
    k0_pay2 z x3 (ix2 r k) = second num g q (ix2 i k) := by
  pointwise [k0_pay2, second, num]
  rw [h1, h3]

/-- The change's block. -/
theorem out8 (h0 : x0 (ix2 r k) = w (ix2 i k)) (h1 : z (ix2 r k) = g (ix2 i k)) (h2 : x2 (ix2 r k) = p (ix2 i k))
    (h3 : x3 (ix2 r k) = q (ix2 i k)) :
    k0_pay3 z (k0_pay14 x2) (FloatOps.ofBits FTy.f32 1063675494#32) x3 x0 (ix2 r k) = change num w g p q (ix2 i k) := by
  pointwise [k0_pay1, k0_pay2, k0_pay3, k0_pay14, change, first, second, num]
  rw [h0, h1, h2, h3]

end Body

/-! ## The blocks of the grid -/

variable (m : (ℓ : Loc nD τ sig) → Buf (Elt Ideal) ℓ) (ρ : Dev nD → PrngReg) (c : Dev nD) (t : Fin cfg0.N)

/-- Point `t` works on row block `t` of the parameter, and on the parts of the layer it lies in. -/
theorem idx : ∀ t : Fin grid0.N, (win0_0.index t (0 : Fin 2) = t.val ∧ win0_0.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (t.val / 1 = 0 → win0_1.index t (0 : Fin 3) = 0 ∧ win0_1.index t (1 : Fin 3) = t.val - 0 ∧ win0_1.index t (2 : Fin 3) = 0)
    ∧ (t.val / 1 = 1 → win0_2.index t (0 : Fin 3) = 0 ∧ win0_2.index t (1 : Fin 3) = t.val - 1 ∧ win0_2.index t (2 : Fin 3) = 0)
    ∧ (t.val / 1 = 2 → win0_3.index t (0 : Fin 3) = 0 ∧ win0_3.index t (1 : Fin 3) = t.val - 2 ∧ win0_3.index t (2 : Fin 3) = 0)
    ∧ (t.val / 1 = 3 → win0_4.index t (0 : Fin 3) = 0 ∧ win0_4.index t (1 : Fin 3) = t.val - 3 ∧ win0_4.index t (2 : Fin 3) = 0) := by
  decide +kernel

/-- An entry of a block, and its row in the whole array. -/
theorem place (y : S128x1024.Idx) : ∃ (r : Fin 128) (k : Fin 1024) (i : Fin 512), y = ix2 r k ∧ i.val = t.val * 128 + r.val := by
  have hN : t.val < 4 := lt_of_lt_of_eq t.isLt N_0
  exact ⟨y 0, y 1, ⟨t.val * 128 + (y 0).val, by have := (y 0).isLt; change _ < 128 at this; omega⟩, eq_ix2 y, rfl⟩

/-- The layer of a point. -/
theorem layer : t.val / 1 = 0 ∨ t.val / 1 = 1 ∨ t.val / 1 = 2 ∨ t.val / 1 = 3 := by
  have hN : t.val < 4 := lt_of_lt_of_eq t.isLt N_0
  omega

section Blocks
variable (r : Fin 128) (k : Fin 1024) (i : Fin 512) (hi : i.val = t.val * 128 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 5's block, read at an entry, is its argument's entry there. -/
theorem blk5 : iblk m c 5 t (ix2 r k) = rows (m ((c : Thread nD τ).loc main_arg5)) (ix2 i k) := by
  unfold iblk
  show V m c main_v1 (((cfg0.win 5).blk t).view.emb (ix2 r k)) = _
  rw [show ((cfg0.win 5).blk t).view.emb (ix2 r k) = ix2 i k from at2 (row_at (idx t).2.1.1 hi) (all_at (idx t).2.1.2)]
  entry_read
  rfl

/-- Window 6's block, read at an entry, is its argument's entry there. -/
theorem blk6 : iblk m c 6 t (ix2 r k) = rows (m ((c : Thread nD τ).loc main_arg6)) (ix2 i k) := by
  unfold iblk
  show V m c main_v2 (((cfg0.win 6).blk t).view.emb (ix2 r k)) = _
  rw [show ((cfg0.win 6).blk t).view.emb (ix2 r k) = ix2 i k from at2 (row_at (idx t).2.2.1.1 hi) (all_at (idx t).2.2.1.2)]
  entry_read
  rfl

/-- The gradient a point of layer 0 computes is the reference's at the block's rows. -/
theorem point0 (hl : t.val / 1 = 0) : sum8 (iblk m c 1 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 128, 0 + b.val = i.val := ⟨⟨i.val - 0, by omega⟩, by show 0 + (i.val - 0) = i.val; omega⟩
  rw [grad0 _ _ _ _ b k i hb.symm]
  refine sum8_apply _ r k _ fun d => ?_
  obtain ⟨h0, h1, h2⟩ := (idx t).2.2.2.2.2.2.2.1 hl
  unfold iblk
  show V m c main_arg1 (((cfg0.win 1).blk t).view.emb (ix3 d r k)) = _
  rw [show ((cfg0.win 1).blk t).view.emb (ix3 d r k) = ix3 d b k from
    at3 (all_at h0) (row_at h1 (show b.val = (t.val - 0) * 128 + r.val by omega)) (all_at h2)]
  entry_read
  rfl

/-- The gradient a point of layer 1 computes is the reference's at the block's rows. -/
theorem point1 (hl : t.val / 1 = 1) : sum8 (iblk m c 2 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 128, 128 + b.val = i.val := ⟨⟨i.val - 128, by omega⟩, by show 128 + (i.val - 128) = i.val; omega⟩
  rw [grad1 _ _ _ _ b k i hb.symm]
  refine sum8_apply _ r k _ fun d => ?_
  obtain ⟨h0, h1, h2⟩ := (idx t).2.2.2.2.2.2.2.2.1 hl
  unfold iblk
  show V m c main_arg2 (((cfg0.win 2).blk t).view.emb (ix3 d r k)) = _
  rw [show ((cfg0.win 2).blk t).view.emb (ix3 d r k) = ix3 d b k from
    at3 (all_at h0) (row_at h1 (show b.val = (t.val - 1) * 128 + r.val by omega)) (all_at h2)]
  entry_read
  rfl

/-- The gradient a point of layer 2 computes is the reference's at the block's rows. -/
theorem point2 (hl : t.val / 1 = 2) : sum8 (iblk m c 3 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 128, 256 + b.val = i.val := ⟨⟨i.val - 256, by omega⟩, by show 256 + (i.val - 256) = i.val; omega⟩
  rw [grad2 _ _ _ _ b k i hb.symm]
  refine sum8_apply _ r k _ fun d => ?_
  obtain ⟨h0, h1, h2⟩ := (idx t).2.2.2.2.2.2.2.2.2.1 hl
  unfold iblk
  show V m c main_arg3 (((cfg0.win 3).blk t).view.emb (ix3 d r k)) = _
  rw [show ((cfg0.win 3).blk t).view.emb (ix3 d r k) = ix3 d b k from
    at3 (all_at h0) (row_at h1 (show b.val = (t.val - 2) * 128 + r.val by omega)) (all_at h2)]
  entry_read
  rfl

/-- The gradient a point of layer 3 computes is the reference's at the block's rows. -/
theorem point3 (hl : t.val / 1 = 3) : sum8 (iblk m c 4 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 128, 384 + b.val = i.val := ⟨⟨i.val - 384, by omega⟩, by show 384 + (i.val - 384) = i.val; omega⟩
  rw [grad3 _ _ _ _ b k i hb.symm]
  refine sum8_apply _ r k _ fun d => ?_
  obtain ⟨h0, h1, h2⟩ := (idx t).2.2.2.2.2.2.2.2.2.2 hl
  unfold iblk
  show V m c main_arg4 (((cfg0.win 4).blk t).view.emb (ix3 d r k)) = _
  rw [show ((cfg0.win 4).blk t).view.emb (ix3 d r k) = ix3 d b k from
    at3 (all_at h0) (row_at h1 (show b.val = (t.val - 3) * 128 + r.val by omega)) (all_at h2)]
  entry_read
  rfl

end Blocks

/-! ## The result arrays -/

/-- After the run the gradient array is the reference's. -/
theorem final7 : (dats m 0 c).arrAt 7 cfg0.N = ref0 (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.1.1 hi) (all_at (idx t).2.2.2.1.2)]
  obtain hl | hl | hl | hl := layer t
  · rw [outsAt0_A m c t (by omega) (by omega) (by omega) (by omega)]
    frame_out
    exact point0 m c t r k i hi hl
  · rw [outsAt0_B m c t (by omega) (by omega) (by omega) (by omega)]
    frame_out
    exact point1 m c t r k i hi hl
  · rw [outsAt0_C m c t (by omega) (by omega) (by omega) (by omega)]
    frame_out
    exact point2 m c t r k i hi hl
  · rw [outsAt0_D m c t (by omega) (by omega) (by omega) (by omega)]
    frame_out
    exact point3 m c t r k i hi hl

/-- After the run the change array is the reference's. -/
theorem final8 : (dats m 0 c).arrAt 8 cfg0.N = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6)) := by
  refine (dats m 0 c).arrAt_eq_of_covers 8 _ (by decide +kernel) fun t _ y => ?_
  blk_simp
  rw [after0_8]
  obtain ⟨r, k, i, rfl, hi⟩ := place t y
  rw [show ((cfg0.win 8).blk t).view.emb (ix2 r k) = ix2 i k from at2 (row_at (idx t).2.2.2.2.1.1 hi) (all_at (idx t).2.2.2.2.1.2)]
  obtain hl | hl | hl | hl := layer t
  · rw [outsAt0_A m c t (by omega) (by omega) (by omega) (by omega)]
    frame_out
    exact out8 _ _ _ _ _ _ _ _ r k i (blk0 m c t r k i hi) (point0 m c t r k i hi hl) (blk5 m c t r k i hi) (blk6 m c t r k i hi)
  · rw [outsAt0_B m c t (by omega) (by omega) (by omega) (by omega)]
    frame_out
    exact out8 _ _ _ _ _ _ _ _ r k i (blk0 m c t r k i hi) (point1 m c t r k i hi hl) (blk5 m c t r k i hi) (blk6 m c t r k i hi)
  · rw [outsAt0_C m c t (by omega) (by omega) (by omega) (by omega)]
    frame_out
    exact out8 _ _ _ _ _ _ _ _ r k i (blk0 m c t r k i hi) (point2 m c t r k i hi hl) (blk5 m c t r k i hi) (blk6 m c t r k i hi)
  · rw [outsAt0_D m c t (by omega) (by omega) (by omega) (by omega)]
    frame_out
    exact out8 _ _ _ _ _ _ _ _ r k i (blk0 m c t r k i hi) (point3 m c t r k i hi hl) (blk5 m c t r k i hi) (blk6 m c t r k i hi)

/-- After the run the first-moment array is the reference's. -/
theorem final9 : (dats m 0 c).arrAt 9 cfg0.N = ref2 (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  obtain ⟨r, k, i, rfl, hi⟩ := place t y
  rw [show ((cfg0.win 9).blk t).view.emb (ix2 r k) = ix2 i k from at2 (row_at (idx t).2.2.2.2.2.1.1 hi) (all_at (idx t).2.2.2.2.2.1.2)]
  obtain hl | hl | hl | hl := layer t
  · rw [outsAt0_A m c t (by omega) (by omega) (by omega) (by omega)]
    frame_out
    exact out9 _ _ _ _ r k i (point0 m c t r k i hi hl) (blk5 m c t r k i hi)
  · rw [outsAt0_B m c t (by omega) (by omega) (by omega) (by omega)]
    frame_out
    exact out9 _ _ _ _ r k i (point1 m c t r k i hi hl) (blk5 m c t r k i hi)
  · rw [outsAt0_C m c t (by omega) (by omega) (by omega) (by omega)]
    frame_out
    exact out9 _ _ _ _ r k i (point2 m c t r k i hi hl) (blk5 m c t r k i hi)
  · rw [outsAt0_D m c t (by omega) (by omega) (by omega) (by omega)]
    frame_out
    exact out9 _ _ _ _ r k i (point3 m c t r k i hi hl) (blk5 m c t r k i hi)

/-- After the run the second-moment array is the reference's. -/
theorem final10 : (dats m 0 c).arrAt 10 cfg0.N = ref3 (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  obtain ⟨r, k, i, rfl, hi⟩ := place t y
  rw [show ((cfg0.win 10).blk t).view.emb (ix2 r k) = ix2 i k from at2 (row_at (idx t).2.2.2.2.2.2.1.1 hi) (all_at (idx t).2.2.2.2.2.2.1.2)]
  obtain hl | hl | hl | hl := layer t
  · rw [outsAt0_A m c t (by omega) (by omega) (by omega) (by omega)]
    frame_out
    exact out10 _ _ _ _ r k i (point0 m c t r k i hi hl) (blk6 m c t r k i hi)
  · rw [outsAt0_B m c t (by omega) (by omega) (by omega) (by omega)]
    frame_out
    exact out10 _ _ _ _ r k i (point1 m c t r k i hi hl) (blk6 m c t r k i hi)
  · rw [outsAt0_C m c t (by omega) (by omega) (by omega) (by omega)]
    frame_out
    exact out10 _ _ _ _ r k i (point2 m c t r k i hi hl) (blk6 m c t r k i hi)
  · rw [outsAt0_D m c t (by omega) (by omega) (by omega) (by omega)]
    frame_out
    exact out10 _ _ _ _ r k i (point3 m c t r k i hi hl) (blk6 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v3_0) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v3_2) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v3_3) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c),
    (h c).2.2.1.trans (final9 m c), (h c).2.2.2.1.trans (final10 m c), (h c).2.2.2.2⟩) (Value.run_blocks m ρ)

end Cert.AdamWOut

end
-- ==== Proof.AdamFfnIn.lean ====
/-
  The optimiser's step of the feed-forward input weights: the gradient is the sum of the eight parts that arrived for a layer; every
  row block of the four result arrays is the reference's update of the argument arrays at that block.
-/
module

public import proofs.«01_k».proof.Proof.Gen.AdamFfnInIdeal.Value
public import proofs.«01_k».proof.Proof.Gen.AdamFfnInRefIdeal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamFfnIn

open Idealize.ShloMosaic Idealize.ShloMosaic.TcCoe Idealize.SL.Sem Cert.Adam

section Reference
open Cert.AdamFfnInRefIdeal Cert.AdamFfnInRefIdeal.Gen

/-- The whole array holding one number. -/
abbrev num (b : BitVec 32) : FVec Ideal S4096x704 .f32 := broadcastInDim S4096x704 ![] bcast_S_S4096x704 (constant (F := Ideal) S_ .f32 b)

/-- The parameter's axes but the last, as rows. -/
def rows (x : FVec Ideal S4x1024x704 .f32) : FVec Ideal S4096x704 .f32 := shapeCast S4096x704 x shapeCasts_S4x1024x704_S4096x704

/-- The sum of a layer's eight parts. -/
def total (g : FVec Ideal S8x1024x704 .bf16) : FVec Ideal S1x1024x704 .f32 :=
  broadcastInDim S1x1024x704 ![1, 2] bcast_S1024x704_S1x1024x704_1_2
    (Host.reduceAdd (extf .f32 g bitsLt_bf16_f32) (constant (F := Ideal) S_ .f32 0x00000000#32) reducesTo_S8x1024x704_S1024x704_d0 h_S_)

variable (g0 g1 g2 g3 : FVec Ideal S8x1024x704 .bf16) (w m v : FVec Ideal S4x1024x704 .f32)

/-- The gradient: the layers' sums one after another, as rows. -/
def ref0 : FVec Ideal S4096x704 .f32 :=
  rows (concatenate S4x1024x704 0 [⟨S1x1024x704, total g0⟩, ⟨S1x1024x704, total g1⟩, ⟨S1x1024x704, total g2⟩, ⟨S1x1024x704, total g3⟩]
    concatenates_S1x1024x704_S1x1024x704_S1x1024x704_S1x1024x704_S4x1024x704_d0)

/-- The change of the parameter. -/
def ref1 : FVec Ideal S4096x704 .f32 := change num (rows w) (ref0 g0 g1 g2 g3) (rows m) (rows v)

/-- The first moment. -/
def ref2 : FVec Ideal S4096x704 .f32 := first num (ref0 g0 g1 g2 g3) (rows m)

/-- The second moment. -/
def ref3 : FVec Ideal S4096x704 .f32 := second num (ref0 g0 g1 g2 g3) (rows v)

/-- The reference's run, its results named. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v40) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v21) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v27) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Cert.AdamFfnInRefIdeal.Value.run m ρ

end Reference

section Entries
variable (g0 g1 g2 g3 : FVec Ideal AdamFfnInRefIdeal.S8x1024x704 .bf16) (b : Fin 1024) (k : Fin 704) (i : Fin 4096)

/-- The gradient at a row of layer 0: the sum of the eight parts at the row of the layer. -/
theorem grad0 (h : i.val = 0 + b.val) : ref0 g0 g1 g2 g3 (ix2 i k) = ∑ d : Fin 8, g0 (ix3 d b k) := by
  pointwise [ref0, rows, total]
  rw [dif_pos (show i.val / 1024 < 1 by omega)]
  simp only [show (⟨i.val % 1024, Nat.mod_lt _ (by decide)⟩ : Fin 1024) = b from Fin.ext (show i.val % 1024 = b.val by omega)]

/-- The gradient at a row of layer 1: the sum of the eight parts at the row of the layer. -/
theorem grad1 (h : i.val = 1024 + b.val) : ref0 g0 g1 g2 g3 (ix2 i k) = ∑ d : Fin 8, g1 (ix3 d b k) := by
  pointwise [ref0, rows, total]
  rw [dif_neg (show ¬i.val / 1024 < 1 by omega), dif_pos (show i.val / 1024 - 1 < 1 by omega)]
  simp only [show (⟨i.val % 1024, Nat.mod_lt _ (by decide)⟩ : Fin 1024) = b from Fin.ext (show i.val % 1024 = b.val by omega)]

/-- The gradient at a row of layer 2: the sum of the eight parts at the row of the layer. -/
theorem grad2 (h : i.val = 2048 + b.val) : ref0 g0 g1 g2 g3 (ix2 i k) = ∑ d : Fin 8, g2 (ix3 d b k) := by
  pointwise [ref0, rows, total]
  rw [dif_neg (show ¬i.val / 1024 < 1 by omega), dif_neg (show ¬i.val / 1024 - 1 < 1 by omega), dif_pos (show i.val / 1024 - 1 - 1 < 1 by omega)]
  simp only [show (⟨i.val % 1024, Nat.mod_lt _ (by decide)⟩ : Fin 1024) = b from Fin.ext (show i.val % 1024 = b.val by omega)]

/-- The gradient at a row of layer 3: the sum of the eight parts at the row of the layer. -/
theorem grad3 (h : i.val = 3072 + b.val) : ref0 g0 g1 g2 g3 (ix2 i k) = ∑ d : Fin 8, g3 (ix3 d b k) := by
  pointwise [ref0, rows, total]
  rw [dif_neg (show ¬i.val / 1024 < 1 by omega), dif_neg (show ¬i.val / 1024 - 1 < 1 by omega), dif_neg (show ¬i.val / 1024 - 1 - 1 < 1 by omega)]
  simp only [show (⟨i.val % 1024, Nat.mod_lt _ (by decide)⟩ : Fin 1024) = b from Fin.ext (show i.val % 1024 = b.val by omega)]

end Entries

open Cert.AdamFfnInIdeal Cert.AdamFfnInIdeal.Gen

/-! ## What one block's body stores, where its input blocks hold entries of whole arrays -/

/-- The body's sum of the eight parts of a block. -/
def sum8 (x : Vec Ideal S8x256x704 .bf16) : FVec Ideal S256x704 .f32 :=
  k0_pay13 (View.ld x (Rect.unit ![0, 0, 0] ![1, 256, 704] inb_S8x256x704_S1x256x704_0_0_0))
    (View.ld x (Rect.unit ![1, 0, 0] ![1, 256, 704] inb_S8x256x704_S1x256x704_1_0_0))
    (View.ld x (Rect.unit ![2, 0, 0] ![1, 256, 704] inb_S8x256x704_S1x256x704_2_0_0))
    (View.ld x (Rect.unit ![3, 0, 0] ![1, 256, 704] inb_S8x256x704_S1x256x704_3_0_0))
    (View.ld x (Rect.unit ![4, 0, 0] ![1, 256, 704] inb_S8x256x704_S1x256x704_4_0_0))
    (View.ld x (Rect.unit ![5, 0, 0] ![1, 256, 704] inb_S8x256x704_S1x256x704_5_0_0))
    (View.ld x (Rect.unit ![6, 0, 0] ![1, 256, 704] inb_S8x256x704_S1x256x704_6_0_0))
    (View.ld x (Rect.unit ![7, 0, 0] ![1, 256, 704] inb_S8x256x704_S1x256x704_7_0_0))

section Body
variable (z : FVec Ideal S256x704 .f32) (x0 x2 x3 : Vec Ideal S256x704 .f32) (x : Vec Ideal S8x256x704 .bf16)
  (w g p q : FVec Ideal AdamFfnInRefIdeal.S4096x704 .f32) (r : Fin 256) (k : Fin 704) (i : Fin 4096)

/-- That sum at an entry. -/
theorem sum8_apply (y : Fin 8 → EReal) (h : ∀ d, x (ix3 d r k) = y d) : sum8 x (ix2 r k) = ∑ d, y d := by
  pointwise [sum8, k0_pay13]
  rw [Fin.sum_univ_eight]
  simp only [← h]

/-- The first moment's block. -/
theorem out9 (h1 : z (ix2 r k) = g (ix2 i k)) (h2 : x2 (ix2 r k) = p (ix2 i k)) :
    k0_pay1 z (k0_pay14 x2) (FloatOps.ofBits FTy.f32 1063675494#32) (ix2 r k) = first num g p (ix2 i k) := by
  pointwise [k0_pay1, k0_pay14, first, num]
  rw [h1, h2]

/-- The second moment's block. -/
theorem out10 (h1 : z (ix2 r k) = g (ix2 i k)) (h3 : x3 (ix2 r k) = q (ix2 i k)) :
    k0_pay2 z x3 (ix2 r k) = second num g q (ix2 i k) := by
  pointwise [k0_pay2, second, num]
  rw [h1, h3]

/-- The change's block. -/
theorem out8 (h0 : x0 (ix2 r k) = w (ix2 i k)) (h1 : z (ix2 r k) = g (ix2 i k)) (h2 : x2 (ix2 r k) = p (ix2 i k))
    (h3 : x3 (ix2 r k) = q (ix2 i k)) :
    k0_pay3 z (k0_pay14 x2) (FloatOps.ofBits FTy.f32 1063675494#32) x3 x0 (ix2 r k) = change num w g p q (ix2 i k) := by
  pointwise [k0_pay1, k0_pay2, k0_pay3, k0_pay14, change, first, second, num]
  rw [h0, h1, h2, h3]

end Body

/-! ## The blocks of the grid -/

variable (m : (ℓ : Loc nD τ sig) → Buf (Elt Ideal) ℓ) (ρ : Dev nD → PrngReg) (c : Dev nD) (t : Fin cfg0.N)

/-- Point `t` works on row block `t` of the parameter, and on the parts of the layer it lies in. -/
theorem idx : ∀ t : Fin grid0.N, (win0_0.index t (0 : Fin 2) = t.val ∧ win0_0.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (t.val / 4 = 0 → win0_1.index t (0 : Fin 3) = 0 ∧ win0_1.index t (1 : Fin 3) = t.val - 0 ∧ win0_1.index t (2 : Fin 3) = 0)
    ∧ (t.val / 4 = 1 → win0_2.index t (0 : Fin 3) = 0 ∧ win0_2.index t (1 : Fin 3) = t.val - 4 ∧ win0_2.index t (2 : Fin 3) = 0)
    ∧ (t.val / 4 = 2 → win0_3.index t (0 : Fin 3) = 0 ∧ win0_3.index t (1 : Fin 3) = t.val - 8 ∧ win0_3.index t (2 : Fin 3) = 0)
    ∧ (t.val / 4 = 3 → win0_4.index t (0 : Fin 3) = 0 ∧ win0_4.index t (1 : Fin 3) = t.val - 12 ∧ win0_4.index t (2 : Fin 3) = 0) := by
  decide +kernel

/-- An entry of a block, and its row in the whole array. -/
theorem place (y : S256x704.Idx) : ∃ (r : Fin 256) (k : Fin 704) (i : Fin 4096), y = ix2 r k ∧ i.val = t.val * 256 + r.val := by
  have hN : t.val < 16 := lt_of_lt_of_eq t.isLt N_0
  exact ⟨y 0, y 1, ⟨t.val * 256 + (y 0).val, by have := (y 0).isLt; change _ < 256 at this; omega⟩, eq_ix2 y, rfl⟩

/-- The layer of a point. -/
theorem layer : t.val / 4 = 0 ∨ t.val / 4 = 1 ∨ t.val / 4 = 2 ∨ t.val / 4 = 3 := by
  have hN : t.val < 16 := lt_of_lt_of_eq t.isLt N_0
  omega

section Blocks
variable (r : Fin 256) (k : Fin 704) (i : Fin 4096) (hi : i.val = t.val * 256 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 5's block, read at an entry, is its argument's entry there. -/
theorem blk5 : iblk m c 5 t (ix2 r k) = rows (m ((c : Thread nD τ).loc main_arg5)) (ix2 i k) := by
  unfold iblk
  show V m c main_v1 (((cfg0.win 5).blk t).view.emb (ix2 r k)) = _
  rw [show ((cfg0.win 5).blk t).view.emb (ix2 r k) = ix2 i k from at2 (row_at (idx t).2.1.1 hi) (all_at (idx t).2.1.2)]
  entry_read
  rfl

/-- Window 6's block, read at an entry, is its argument's entry there. -/
theorem blk6 : iblk m c 6 t (ix2 r k) = rows (m ((c : Thread nD τ).loc main_arg6)) (ix2 i k) := by
  unfold iblk
  show V m c main_v2 (((cfg0.win 6).blk t).view.emb (ix2 r k)) = _
  rw [show ((cfg0.win 6).blk t).view.emb (ix2 r k) = ix2 i k from at2 (row_at (idx t).2.2.1.1 hi) (all_at (idx t).2.2.1.2)]
  entry_read
  rfl

/-- The gradient a point of layer 0 computes is the reference's at the block's rows. -/
theorem point0 (hl : t.val / 4 = 0) : sum8 (iblk m c 1 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1024, 0 + b.val = i.val := ⟨⟨i.val - 0, by omega⟩, by show 0 + (i.val - 0) = i.val; omega⟩
  rw [grad0 _ _ _ _ b k i hb.symm]
  refine sum8_apply _ r k _ fun d => ?_
  obtain ⟨h0, h1, h2⟩ := (idx t).2.2.2.2.2.2.2.1 hl
  unfold iblk
  show V m c main_arg1 (((cfg0.win 1).blk t).view.emb (ix3 d r k)) = _
  rw [show ((cfg0.win 1).blk t).view.emb (ix3 d r k) = ix3 d b k from
    at3 (all_at h0) (row_at h1 (show b.val = (t.val - 0) * 256 + r.val by omega)) (all_at h2)]
  entry_read
  rfl

/-- The gradient a point of layer 1 computes is the reference's at the block's rows. -/
theorem point1 (hl : t.val / 4 = 1) : sum8 (iblk m c 2 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1024, 1024 + b.val = i.val := ⟨⟨i.val - 1024, by omega⟩, by show 1024 + (i.val - 1024) = i.val; omega⟩
  rw [grad1 _ _ _ _ b k i hb.symm]
  refine sum8_apply _ r k _ fun d => ?_
  obtain ⟨h0, h1, h2⟩ := (idx t).2.2.2.2.2.2.2.2.1 hl
  unfold iblk
  show V m c main_arg2 (((cfg0.win 2).blk t).view.emb (ix3 d r k)) = _
  rw [show ((cfg0.win 2).blk t).view.emb (ix3 d r k) = ix3 d b k from
    at3 (all_at h0) (row_at h1 (show b.val = (t.val - 4) * 256 + r.val by omega)) (all_at h2)]
  entry_read
  rfl

/-- The gradient a point of layer 2 computes is the reference's at the block's rows. -/
theorem point2 (hl : t.val / 4 = 2) : sum8 (iblk m c 3 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1024, 2048 + b.val = i.val := ⟨⟨i.val - 2048, by omega⟩, by show 2048 + (i.val - 2048) = i.val; omega⟩
  rw [grad2 _ _ _ _ b k i hb.symm]
  refine sum8_apply _ r k _ fun d => ?_
  obtain ⟨h0, h1, h2⟩ := (idx t).2.2.2.2.2.2.2.2.2.1 hl
  unfold iblk
  show V m c main_arg3 (((cfg0.win 3).blk t).view.emb (ix3 d r k)) = _
  rw [show ((cfg0.win 3).blk t).view.emb (ix3 d r k) = ix3 d b k from
    at3 (all_at h0) (row_at h1 (show b.val = (t.val - 8) * 256 + r.val by omega)) (all_at h2)]
  entry_read
  rfl

/-- The gradient a point of layer 3 computes is the reference's at the block's rows. -/
theorem point3 (hl : t.val / 4 = 3) : sum8 (iblk m c 4 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 1024, 3072 + b.val = i.val := ⟨⟨i.val - 3072, by omega⟩, by show 3072 + (i.val - 3072) = i.val; omega⟩
  rw [grad3 _ _ _ _ b k i hb.symm]
  refine sum8_apply _ r k _ fun d => ?_
  obtain ⟨h0, h1, h2⟩ := (idx t).2.2.2.2.2.2.2.2.2.2 hl
  unfold iblk
  show V m c main_arg4 (((cfg0.win 4).blk t).view.emb (ix3 d r k)) = _
  rw [show ((cfg0.win 4).blk t).view.emb (ix3 d r k) = ix3 d b k from
    at3 (all_at h0) (row_at h1 (show b.val = (t.val - 12) * 256 + r.val by omega)) (all_at h2)]
  entry_read
  rfl

end Blocks

/-! ## The result arrays -/

/-- After the run the gradient array is the reference's. -/
theorem final7 : (dats m 0 c).arrAt 7 cfg0.N = ref0 (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.1.1 hi) (all_at (idx t).2.2.2.1.2)]
  obtain hl | hl | hl | hl := layer t
  · rw [outsAt0_A m c t (by omega) (by omega) (by omega) (by omega)]
    frame_out
    exact point0 m c t r k i hi hl
  · rw [outsAt0_B m c t (by omega) (by omega) (by omega) (by omega)]
    frame_out
    exact point1 m c t r k i hi hl
  · rw [outsAt0_C m c t (by omega) (by omega) (by omega) (by omega)]
    frame_out
    exact point2 m c t r k i hi hl
  · rw [outsAt0_D m c t (by omega) (by omega) (by omega) (by omega)]
    frame_out
    exact point3 m c t r k i hi hl

/-- After the run the change array is the reference's. -/
theorem final8 : (dats m 0 c).arrAt 8 cfg0.N = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6)) := by
  refine (dats m 0 c).arrAt_eq_of_covers 8 _ (by decide +kernel) fun t _ y => ?_
  blk_simp
  rw [after0_8]
  obtain ⟨r, k, i, rfl, hi⟩ := place t y
  rw [show ((cfg0.win 8).blk t).view.emb (ix2 r k) = ix2 i k from at2 (row_at (idx t).2.2.2.2.1.1 hi) (all_at (idx t).2.2.2.2.1.2)]
  obtain hl | hl | hl | hl := layer t
  · rw [outsAt0_A m c t (by omega) (by omega) (by omega) (by omega)]
    frame_out
    exact out8 _ _ _ _ _ _ _ _ r k i (blk0 m c t r k i hi) (point0 m c t r k i hi hl) (blk5 m c t r k i hi) (blk6 m c t r k i hi)
  · rw [outsAt0_B m c t (by omega) (by omega) (by omega) (by omega)]
    frame_out
    exact out8 _ _ _ _ _ _ _ _ r k i (blk0 m c t r k i hi) (point1 m c t r k i hi hl) (blk5 m c t r k i hi) (blk6 m c t r k i hi)
  · rw [outsAt0_C m c t (by omega) (by omega) (by omega) (by omega)]
    frame_out
    exact out8 _ _ _ _ _ _ _ _ r k i (blk0 m c t r k i hi) (point2 m c t r k i hi hl) (blk5 m c t r k i hi) (blk6 m c t r k i hi)
  · rw [outsAt0_D m c t (by omega) (by omega) (by omega) (by omega)]
    frame_out
    exact out8 _ _ _ _ _ _ _ _ r k i (blk0 m c t r k i hi) (point3 m c t r k i hi hl) (blk5 m c t r k i hi) (blk6 m c t r k i hi)

/-- After the run the first-moment array is the reference's. -/
theorem final9 : (dats m 0 c).arrAt 9 cfg0.N = ref2 (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  obtain ⟨r, k, i, rfl, hi⟩ := place t y
  rw [show ((cfg0.win 9).blk t).view.emb (ix2 r k) = ix2 i k from at2 (row_at (idx t).2.2.2.2.2.1.1 hi) (all_at (idx t).2.2.2.2.2.1.2)]
  obtain hl | hl | hl | hl := layer t
  · rw [outsAt0_A m c t (by omega) (by omega) (by omega) (by omega)]
    frame_out
    exact out9 _ _ _ _ r k i (point0 m c t r k i hi hl) (blk5 m c t r k i hi)
  · rw [outsAt0_B m c t (by omega) (by omega) (by omega) (by omega)]
    frame_out
    exact out9 _ _ _ _ r k i (point1 m c t r k i hi hl) (blk5 m c t r k i hi)
  · rw [outsAt0_C m c t (by omega) (by omega) (by omega) (by omega)]
    frame_out
    exact out9 _ _ _ _ r k i (point2 m c t r k i hi hl) (blk5 m c t r k i hi)
  · rw [outsAt0_D m c t (by omega) (by omega) (by omega) (by omega)]
    frame_out
    exact out9 _ _ _ _ r k i (point3 m c t r k i hi hl) (blk5 m c t r k i hi)

/-- After the run the second-moment array is the reference's. -/
theorem final10 : (dats m 0 c).arrAt 10 cfg0.N = ref3 (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  obtain ⟨r, k, i, rfl, hi⟩ := place t y
  rw [show ((cfg0.win 10).blk t).view.emb (ix2 r k) = ix2 i k from at2 (row_at (idx t).2.2.2.2.2.2.1.1 hi) (all_at (idx t).2.2.2.2.2.2.1.2)]
  obtain hl | hl | hl | hl := layer t
  · rw [outsAt0_A m c t (by omega) (by omega) (by omega) (by omega)]
    frame_out
    exact out10 _ _ _ _ r k i (point0 m c t r k i hi hl) (blk6 m c t r k i hi)
  · rw [outsAt0_B m c t (by omega) (by omega) (by omega) (by omega)]
    frame_out
    exact out10 _ _ _ _ r k i (point1 m c t r k i hi hl) (blk6 m c t r k i hi)
  · rw [outsAt0_C m c t (by omega) (by omega) (by omega) (by omega)]
    frame_out
    exact out10 _ _ _ _ r k i (point2 m c t r k i hi hl) (blk6 m c t r k i hi)
  · rw [outsAt0_D m c t (by omega) (by omega) (by omega) (by omega)]
    frame_out
    exact out10 _ _ _ _ r k i (point3 m c t r k i hi hl) (blk6 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v3_0) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v3_2) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v3_3) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c),
    (h c).2.2.1.trans (final9 m c), (h c).2.2.2.1.trans (final10 m c), (h c).2.2.2.2⟩) (Value.run_blocks m ρ)

end Cert.AdamFfnIn

end
-- ==== Proof.AdamFfnOut.lean ====
/-
  The optimiser's step of the feed-forward output weights: the gradient is the sum of the eight parts that arrived for a layer; every
  row block of the four result arrays is the reference's update of the argument arrays at that block.
-/
module

public import proofs.«01_k».proof.Proof.Gen.AdamFfnOutIdeal.Value
public import proofs.«01_k».proof.Proof.Gen.AdamFfnOutRefIdeal.Run
public import proofs.«01_k».proof.Proof.Adam
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamFfnOut

open Idealize.ShloMosaic Idealize.ShloMosaic.TcCoe Idealize.SL.Sem Cert.Adam

section Reference
open Cert.AdamFfnOutRefIdeal Cert.AdamFfnOutRefIdeal.Gen

/-- The whole array holding one number. -/
abbrev num (b : BitVec 32) : FVec Ideal S1408x1024 .f32 := broadcastInDim S1408x1024 ![] bcast_S_S1408x1024 (constant (F := Ideal) S_ .f32 b)

/-- The parameter's axes but the last, as rows. -/
def rows (x : FVec Ideal S4x352x1024 .f32) : FVec Ideal S1408x1024 .f32 := shapeCast S1408x1024 x shapeCasts_S4x352x1024_S1408x1024

/-- The sum of a layer's eight parts. -/
def total (g : FVec Ideal S8x352x1024 .bf16) : FVec Ideal S1x352x1024 .f32 :=
  broadcastInDim S1x352x1024 ![1, 2] bcast_S352x1024_S1x352x1024_1_2
    (Host.reduceAdd (extf .f32 g bitsLt_bf16_f32) (constant (F := Ideal) S_ .f32 0x00000000#32) reducesTo_S8x352x1024_S352x1024_d0 h_S_)

variable (g0 g1 g2 g3 : FVec Ideal S8x352x1024 .bf16) (w m v : FVec Ideal S4x352x1024 .f32)

/-- The gradient: the layers' sums one after another, as rows. -/
def ref0 : FVec Ideal S1408x1024 .f32 :=
  rows (concatenate S4x352x1024 0 [⟨S1x352x1024, total g0⟩, ⟨S1x352x1024, total g1⟩, ⟨S1x352x1024, total g2⟩, ⟨S1x352x1024, total g3⟩]
    concatenates_S1x352x1024_S1x352x1024_S1x352x1024_S1x352x1024_S4x352x1024_d0)

/-- The change of the parameter. -/
def ref1 : FVec Ideal S1408x1024 .f32 := change num (rows w) (ref0 g0 g1 g2 g3) (rows m) (rows v)

/-- The first moment. -/
def ref2 : FVec Ideal S1408x1024 .f32 := first num (ref0 g0 g1 g2 g3) (rows m)

/-- The second moment. -/
def ref3 : FVec Ideal S1408x1024 .f32 := second num (ref0 g0 g1 g2 g3) (rows v)

/-- The reference's run, its results named. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v40) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v21) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v27) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  Cert.AdamFfnOutRefIdeal.Value.run m ρ

end Reference

section Entries
variable (g0 g1 g2 g3 : FVec Ideal AdamFfnOutRefIdeal.S8x352x1024 .bf16) (b : Fin 352) (k : Fin 1024) (i : Fin 1408)

/-- The gradient at a row of layer 0: the sum of the eight parts at the row of the layer. -/
theorem grad0 (h : i.val = 0 + b.val) : ref0 g0 g1 g2 g3 (ix2 i k) = ∑ d : Fin 8, g0 (ix3 d b k) := by
  pointwise [ref0, rows, total]
  rw [dif_pos (show i.val / 352 < 1 by omega)]
  simp only [show (⟨i.val % 352, Nat.mod_lt _ (by decide)⟩ : Fin 352) = b from Fin.ext (show i.val % 352 = b.val by omega)]

/-- The gradient at a row of layer 1: the sum of the eight parts at the row of the layer. -/
theorem grad1 (h : i.val = 352 + b.val) : ref0 g0 g1 g2 g3 (ix2 i k) = ∑ d : Fin 8, g1 (ix3 d b k) := by
  pointwise [ref0, rows, total]
  rw [dif_neg (show ¬i.val / 352 < 1 by omega), dif_pos (show i.val / 352 - 1 < 1 by omega)]
  simp only [show (⟨i.val % 352, Nat.mod_lt _ (by decide)⟩ : Fin 352) = b from Fin.ext (show i.val % 352 = b.val by omega)]

/-- The gradient at a row of layer 2: the sum of the eight parts at the row of the layer. -/
theorem grad2 (h : i.val = 704 + b.val) : ref0 g0 g1 g2 g3 (ix2 i k) = ∑ d : Fin 8, g2 (ix3 d b k) := by
  pointwise [ref0, rows, total]
  rw [dif_neg (show ¬i.val / 352 < 1 by omega), dif_neg (show ¬i.val / 352 - 1 < 1 by omega), dif_pos (show i.val / 352 - 1 - 1 < 1 by omega)]
  simp only [show (⟨i.val % 352, Nat.mod_lt _ (by decide)⟩ : Fin 352) = b from Fin.ext (show i.val % 352 = b.val by omega)]

/-- The gradient at a row of layer 3: the sum of the eight parts at the row of the layer. -/
theorem grad3 (h : i.val = 1056 + b.val) : ref0 g0 g1 g2 g3 (ix2 i k) = ∑ d : Fin 8, g3 (ix3 d b k) := by
  pointwise [ref0, rows, total]
  rw [dif_neg (show ¬i.val / 352 < 1 by omega), dif_neg (show ¬i.val / 352 - 1 < 1 by omega), dif_neg (show ¬i.val / 352 - 1 - 1 < 1 by omega)]
  simp only [show (⟨i.val % 352, Nat.mod_lt _ (by decide)⟩ : Fin 352) = b from Fin.ext (show i.val % 352 = b.val by omega)]

end Entries

open Cert.AdamFfnOutIdeal Cert.AdamFfnOutIdeal.Gen

/-! ## What one block's body stores, where its input blocks hold entries of whole arrays -/

/-- The body's sum of the eight parts of a block. -/
def sum8 (x : Vec Ideal S8x176x1024 .bf16) : FVec Ideal S176x1024 .f32 :=
  k0_pay13 (View.ld x (Rect.unit ![0, 0, 0] ![1, 176, 1024] inb_S8x176x1024_S1x176x1024_0_0_0))
    (View.ld x (Rect.unit ![1, 0, 0] ![1, 176, 1024] inb_S8x176x1024_S1x176x1024_1_0_0))
    (View.ld x (Rect.unit ![2, 0, 0] ![1, 176, 1024] inb_S8x176x1024_S1x176x1024_2_0_0))
    (View.ld x (Rect.unit ![3, 0, 0] ![1, 176, 1024] inb_S8x176x1024_S1x176x1024_3_0_0))
    (View.ld x (Rect.unit ![4, 0, 0] ![1, 176, 1024] inb_S8x176x1024_S1x176x1024_4_0_0))
    (View.ld x (Rect.unit ![5, 0, 0] ![1, 176, 1024] inb_S8x176x1024_S1x176x1024_5_0_0))
    (View.ld x (Rect.unit ![6, 0, 0] ![1, 176, 1024] inb_S8x176x1024_S1x176x1024_6_0_0))
    (View.ld x (Rect.unit ![7, 0, 0] ![1, 176, 1024] inb_S8x176x1024_S1x176x1024_7_0_0))

section Body
variable (z : FVec Ideal S176x1024 .f32) (x0 x2 x3 : Vec Ideal S176x1024 .f32) (x : Vec Ideal S8x176x1024 .bf16)
  (w g p q : FVec Ideal AdamFfnOutRefIdeal.S1408x1024 .f32) (r : Fin 176) (k : Fin 1024) (i : Fin 1408)

/-- That sum at an entry. -/
theorem sum8_apply (y : Fin 8 → EReal) (h : ∀ d, x (ix3 d r k) = y d) : sum8 x (ix2 r k) = ∑ d, y d := by
  pointwise [sum8, k0_pay13]
  rw [Fin.sum_univ_eight]
  simp only [← h]

/-- The first moment's block. -/
theorem out9 (h1 : z (ix2 r k) = g (ix2 i k)) (h2 : x2 (ix2 r k) = p (ix2 i k)) :
    k0_pay1 z (k0_pay14 x2) (FloatOps.ofBits FTy.f32 1063675494#32) (ix2 r k) = first num g p (ix2 i k) := by
  pointwise [k0_pay1, k0_pay14, first, num]
  rw [h1, h2]

/-- The second moment's block. -/
theorem out10 (h1 : z (ix2 r k) = g (ix2 i k)) (h3 : x3 (ix2 r k) = q (ix2 i k)) :
    k0_pay2 z x3 (ix2 r k) = second num g q (ix2 i k) := by
  pointwise [k0_pay2, second, num]
  rw [h1, h3]

/-- The change's block. -/
theorem out8 (h0 : x0 (ix2 r k) = w (ix2 i k)) (h1 : z (ix2 r k) = g (ix2 i k)) (h2 : x2 (ix2 r k) = p (ix2 i k))
    (h3 : x3 (ix2 r k) = q (ix2 i k)) :
    k0_pay3 z (k0_pay14 x2) (FloatOps.ofBits FTy.f32 1063675494#32) x3 x0 (ix2 r k) = change num w g p q (ix2 i k) := by
  pointwise [k0_pay1, k0_pay2, k0_pay3, k0_pay14, change, first, second, num]
  rw [h0, h1, h2, h3]

end Body

/-! ## The blocks of the grid -/

variable (m : (ℓ : Loc nD τ sig) → Buf (Elt Ideal) ℓ) (ρ : Dev nD → PrngReg) (c : Dev nD) (t : Fin cfg0.N)

/-- Point `t` works on row block `t` of the parameter, and on the parts of the layer it lies in. -/
theorem idx : ∀ t : Fin grid0.N, (win0_0.index t (0 : Fin 2) = t.val ∧ win0_0.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (t.val / 2 = 0 → win0_1.index t (0 : Fin 3) = 0 ∧ win0_1.index t (1 : Fin 3) = t.val - 0 ∧ win0_1.index t (2 : Fin 3) = 0)
    ∧ (t.val / 2 = 1 → win0_2.index t (0 : Fin 3) = 0 ∧ win0_2.index t (1 : Fin 3) = t.val - 2 ∧ win0_2.index t (2 : Fin 3) = 0)
    ∧ (t.val / 2 = 2 → win0_3.index t (0 : Fin 3) = 0 ∧ win0_3.index t (1 : Fin 3) = t.val - 4 ∧ win0_3.index t (2 : Fin 3) = 0)
    ∧ (t.val / 2 = 3 → win0_4.index t (0 : Fin 3) = 0 ∧ win0_4.index t (1 : Fin 3) = t.val - 6 ∧ win0_4.index t (2 : Fin 3) = 0) := by
  decide +kernel

/-- An entry of a block, and its row in the whole array. -/
theorem place (y : S176x1024.Idx) : ∃ (r : Fin 176) (k : Fin 1024) (i : Fin 1408), y = ix2 r k ∧ i.val = t.val * 176 + r.val := by
  have hN : t.val < 8 := lt_of_lt_of_eq t.isLt N_0
  exact ⟨y 0, y 1, ⟨t.val * 176 + (y 0).val, by have := (y 0).isLt; change _ < 176 at this; omega⟩, eq_ix2 y, rfl⟩

/-- The layer of a point. -/
theorem layer : t.val / 2 = 0 ∨ t.val / 2 = 1 ∨ t.val / 2 = 2 ∨ t.val / 2 = 3 := by
  have hN : t.val < 8 := lt_of_lt_of_eq t.isLt N_0
  omega

section Blocks
variable (r : Fin 176) (k : Fin 1024) (i : Fin 1408) (hi : i.val = t.val * 176 + r.val)
include hi

/-- Window 0's block, read at an entry, is its argument's entry there. -/
theorem blk0 : iblk m c 0 t (ix2 r k) = rows (m ((c : Thread nD τ).loc main_arg0)) (ix2 i k) := by
  unfold iblk
  show V m c main_v0 (((cfg0.win 0).blk t).view.emb (ix2 r k)) = _
  rw [show ((cfg0.win 0).blk t).view.emb (ix2 r k) = ix2 i k from at2 (row_at (idx t).1.1 hi) (all_at (idx t).1.2)]
  entry_read
  rfl

/-- Window 5's block, read at an entry, is its argument's entry there. -/
theorem blk5 : iblk m c 5 t (ix2 r k) = rows (m ((c : Thread nD τ).loc main_arg5)) (ix2 i k) := by
  unfold iblk
  show V m c main_v1 (((cfg0.win 5).blk t).view.emb (ix2 r k)) = _
  rw [show ((cfg0.win 5).blk t).view.emb (ix2 r k) = ix2 i k from at2 (row_at (idx t).2.1.1 hi) (all_at (idx t).2.1.2)]
  entry_read
  rfl

/-- Window 6's block, read at an entry, is its argument's entry there. -/
theorem blk6 : iblk m c 6 t (ix2 r k) = rows (m ((c : Thread nD τ).loc main_arg6)) (ix2 i k) := by
  unfold iblk
  show V m c main_v2 (((cfg0.win 6).blk t).view.emb (ix2 r k)) = _
  rw [show ((cfg0.win 6).blk t).view.emb (ix2 r k) = ix2 i k from at2 (row_at (idx t).2.2.1.1 hi) (all_at (idx t).2.2.1.2)]
  entry_read
  rfl

/-- The gradient a point of layer 0 computes is the reference's at the block's rows. -/
theorem point0 (hl : t.val / 2 = 0) : sum8 (iblk m c 1 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 352, 0 + b.val = i.val := ⟨⟨i.val - 0, by omega⟩, by show 0 + (i.val - 0) = i.val; omega⟩
  rw [grad0 _ _ _ _ b k i hb.symm]
  refine sum8_apply _ r k _ fun d => ?_
  obtain ⟨h0, h1, h2⟩ := (idx t).2.2.2.2.2.2.2.1 hl
  unfold iblk
  show V m c main_arg1 (((cfg0.win 1).blk t).view.emb (ix3 d r k)) = _
  rw [show ((cfg0.win 1).blk t).view.emb (ix3 d r k) = ix3 d b k from
    at3 (all_at h0) (row_at h1 (show b.val = (t.val - 0) * 176 + r.val by omega)) (all_at h2)]
  entry_read
  rfl

/-- The gradient a point of layer 1 computes is the reference's at the block's rows. -/
theorem point1 (hl : t.val / 2 = 1) : sum8 (iblk m c 2 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 352, 352 + b.val = i.val := ⟨⟨i.val - 352, by omega⟩, by show 352 + (i.val - 352) = i.val; omega⟩
  rw [grad1 _ _ _ _ b k i hb.symm]
  refine sum8_apply _ r k _ fun d => ?_
  obtain ⟨h0, h1, h2⟩ := (idx t).2.2.2.2.2.2.2.2.1 hl
  unfold iblk
  show V m c main_arg2 (((cfg0.win 2).blk t).view.emb (ix3 d r k)) = _
  rw [show ((cfg0.win 2).blk t).view.emb (ix3 d r k) = ix3 d b k from
    at3 (all_at h0) (row_at h1 (show b.val = (t.val - 2) * 176 + r.val by omega)) (all_at h2)]
  entry_read
  rfl

/-- The gradient a point of layer 2 computes is the reference's at the block's rows. -/
theorem point2 (hl : t.val / 2 = 2) : sum8 (iblk m c 3 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 352, 704 + b.val = i.val := ⟨⟨i.val - 704, by omega⟩, by show 704 + (i.val - 704) = i.val; omega⟩
  rw [grad2 _ _ _ _ b k i hb.symm]
  refine sum8_apply _ r k _ fun d => ?_
  obtain ⟨h0, h1, h2⟩ := (idx t).2.2.2.2.2.2.2.2.2.1 hl
  unfold iblk
  show V m c main_arg3 (((cfg0.win 3).blk t).view.emb (ix3 d r k)) = _
  rw [show ((cfg0.win 3).blk t).view.emb (ix3 d r k) = ix3 d b k from
    at3 (all_at h0) (row_at h1 (show b.val = (t.val - 4) * 176 + r.val by omega)) (all_at h2)]
  entry_read
  rfl

/-- The gradient a point of layer 3 computes is the reference's at the block's rows. -/
theorem point3 (hl : t.val / 2 = 3) : sum8 (iblk m c 4 t) (ix2 r k)
    = ref0 (m ((c : Thread nD τ).loc main_arg1)) (m ((c : Thread nD τ).loc main_arg2)) (m ((c : Thread nD τ).loc main_arg3)) (m ((c : Thread nD τ).loc main_arg4)) (ix2 i k) := by
  obtain ⟨b, hb⟩ : ∃ b : Fin 352, 1056 + b.val = i.val := ⟨⟨i.val - 1056, by omega⟩, by show 1056 + (i.val - 1056) = i.val; omega⟩
  rw [grad3 _ _ _ _ b k i hb.symm]
  refine sum8_apply _ r k _ fun d => ?_
  obtain ⟨h0, h1, h2⟩ := (idx t).2.2.2.2.2.2.2.2.2.2 hl
  unfold iblk
  show V m c main_arg4 (((cfg0.win 4).blk t).view.emb (ix3 d r k)) = _
  rw [show ((cfg0.win 4).blk t).view.emb (ix3 d r k) = ix3 d b k from
    at3 (all_at h0) (row_at h1 (show b.val = (t.val - 6) * 176 + r.val by omega)) (all_at h2)]
  entry_read
  rfl

end Blocks

/-! ## The result arrays -/

/-- After the run the gradient array is the reference's. -/
theorem final7 : (dats m 0 c).arrAt 7 cfg0.N = ref0 (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  obtain ⟨r, k, i, rfl, hi⟩ := place t y
  rw [show ((cfg0.win 7).blk t).view.emb (ix2 r k) = ix2 i k from at2 (row_at (idx t).2.2.2.1.1 hi) (all_at (idx t).2.2.2.1.2)]
  obtain hl | hl | hl | hl := layer t
  · rw [outsAt0_A m c t (by omega) (by omega) (by omega) (by omega)]
    frame_out
    exact point0 m c t r k i hi hl
  · rw [outsAt0_B m c t (by omega) (by omega) (by omega) (by omega)]
    frame_out
    exact point1 m c t r k i hi hl
  · rw [outsAt0_C m c t (by omega) (by omega) (by omega) (by omega)]
    frame_out
    exact point2 m c t r k i hi hl
  · rw [outsAt0_D m c t (by omega) (by omega) (by omega) (by omega)]
    frame_out
    exact point3 m c t r k i hi hl

/-- After the run the change array is the reference's. -/
theorem final8 : (dats m 0 c).arrAt 8 cfg0.N = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6)) := by
  refine (dats m 0 c).arrAt_eq_of_covers 8 _ (by decide +kernel) fun t _ y => ?_
  blk_simp
  rw [after0_8]
  obtain ⟨r, k, i, rfl, hi⟩ := place t y
  rw [show ((cfg0.win 8).blk t).view.emb (ix2 r k) = ix2 i k from at2 (row_at (idx t).2.2.2.2.1.1 hi) (all_at (idx t).2.2.2.2.1.2)]
  obtain hl | hl | hl | hl := layer t
  · rw [outsAt0_A m c t (by omega) (by omega) (by omega) (by omega)]
    frame_out
    exact out8 _ _ _ _ _ _ _ _ r k i (blk0 m c t r k i hi) (point0 m c t r k i hi hl) (blk5 m c t r k i hi) (blk6 m c t r k i hi)
  · rw [outsAt0_B m c t (by omega) (by omega) (by omega) (by omega)]
    frame_out
    exact out8 _ _ _ _ _ _ _ _ r k i (blk0 m c t r k i hi) (point1 m c t r k i hi hl) (blk5 m c t r k i hi) (blk6 m c t r k i hi)
  · rw [outsAt0_C m c t (by omega) (by omega) (by omega) (by omega)]
    frame_out
    exact out8 _ _ _ _ _ _ _ _ r k i (blk0 m c t r k i hi) (point2 m c t r k i hi hl) (blk5 m c t r k i hi) (blk6 m c t r k i hi)
  · rw [outsAt0_D m c t (by omega) (by omega) (by omega) (by omega)]
    frame_out
    exact out8 _ _ _ _ _ _ _ _ r k i (blk0 m c t r k i hi) (point3 m c t r k i hi hl) (blk5 m c t r k i hi) (blk6 m c t r k i hi)

/-- After the run the first-moment array is the reference's. -/
theorem final9 : (dats m 0 c).arrAt 9 cfg0.N = ref2 (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  obtain ⟨r, k, i, rfl, hi⟩ := place t y
  rw [show ((cfg0.win 9).blk t).view.emb (ix2 r k) = ix2 i k from at2 (row_at (idx t).2.2.2.2.2.1.1 hi) (all_at (idx t).2.2.2.2.2.1.2)]
  obtain hl | hl | hl | hl := layer t
  · rw [outsAt0_A m c t (by omega) (by omega) (by omega) (by omega)]
    frame_out
    exact out9 _ _ _ _ r k i (point0 m c t r k i hi hl) (blk5 m c t r k i hi)
  · rw [outsAt0_B m c t (by omega) (by omega) (by omega) (by omega)]
    frame_out
    exact out9 _ _ _ _ r k i (point1 m c t r k i hi hl) (blk5 m c t r k i hi)
  · rw [outsAt0_C m c t (by omega) (by omega) (by omega) (by omega)]
    frame_out
    exact out9 _ _ _ _ r k i (point2 m c t r k i hi hl) (blk5 m c t r k i hi)
  · rw [outsAt0_D m c t (by omega) (by omega) (by omega) (by omega)]
    frame_out
    exact out9 _ _ _ _ r k i (point3 m c t r k i hi hl) (blk5 m c t r k i hi)

/-- After the run the second-moment array is the reference's. -/
theorem final10 : (dats m 0 c).arrAt 10 cfg0.N = ref3 (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  obtain ⟨r, k, i, rfl, hi⟩ := place t y
  rw [show ((cfg0.win 10).blk t).view.emb (ix2 r k) = ix2 i k from at2 (row_at (idx t).2.2.2.2.2.2.1.1 hi) (all_at (idx t).2.2.2.2.2.2.1.2)]
  obtain hl | hl | hl | hl := layer t
  · rw [outsAt0_A m c t (by omega) (by omega) (by omega) (by omega)]
    frame_out
    exact out10 _ _ _ _ r k i (point0 m c t r k i hi hl) (blk6 m c t r k i hi)
  · rw [outsAt0_B m c t (by omega) (by omega) (by omega) (by omega)]
    frame_out
    exact out10 _ _ _ _ r k i (point1 m c t r k i hi hl) (blk6 m c t r k i hi)
  · rw [outsAt0_C m c t (by omega) (by omega) (by omega) (by omega)]
    frame_out
    exact out10 _ _ _ _ r k i (point2 m c t r k i hi hl) (blk6 m c t r k i hi)
  · rw [outsAt0_D m c t (by omega) (by omega) (by omega) (by omega)]
    frame_out
    exact out10 _ _ _ _ r k i (point3 m c t r k i hi hl) (blk6 m c t r k i hi)

/-- The kernel's run: its results end at the reference's functions of its arguments, which end unchanged. -/
theorem run : θ_run defs (onTc (τ := τ) (main (F := Ideal))) ⟨m, fun _ => 0, ρ⟩ fun r => ∀ c : Dev nD,
      r.2.mem ((c : Thread nD τ).loc main_v3_0) = ref0 (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = ref1 (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (m ((c : Thread nD τ).loc main_arg6))
      ∧ r.2.mem ((c : Thread nD τ).loc main_v3_2) = ref2 (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v3_3) = ref3 (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final7 m c), (h c).2.1.trans (final8 m c),
    (h c).2.2.1.trans (final9 m c), (h c).2.2.2.1.trans (final10 m c), (h c).2.2.2.2⟩) (Value.run_blocks m ρ)

end Cert.AdamFfnOut

end
-- ==== Proof.lean ====
/-
  The claims, put together: the frames of each call's program, of the same program on extended reals and of its
  reference, and the equality of the call's results with the reference's on extended reals. The work is in the modules
  imported below, one per call.
-/
module

public import proofs.«01_k».proof.Defs
public import proofs.«01_k».proof.Proof.Gen.Kernel.Frame
public import proofs.«01_k».proof.Proof.Swiglu
public import proofs.«01_k».proof.Proof.Gen.Ffn.Frame
public import proofs.«01_k».proof.Proof.Ffn
public import proofs.«01_k».proof.Proof.Gen.FfnDx.Frame
public import proofs.«01_k».proof.Proof.FfnDx
public import proofs.«01_k».proof.Proof.Gen.FfnDw.Frame
public import proofs.«01_k».proof.Proof.FfnDw
public import proofs.«01_k».proof.Proof.Gen.OutDw.Frame
public import proofs.«01_k».proof.Proof.OutDw
public import proofs.«01_k».proof.Proof.Gen.WoutDx.Frame
public import proofs.«01_k».proof.Proof.WoutDx
public import proofs.«01_k».proof.Proof.Gen.WoutDw.Frame
public import proofs.«01_k».proof.Proof.WoutDw
public import proofs.«01_k».proof.Proof.Gen.ProjDx.Frame
public import proofs.«01_k».proof.Proof.ProjDx
public import proofs.«01_k».proof.Proof.Gen.ProjDw.Frame
public import proofs.«01_k».proof.Proof.ProjDw
public import proofs.«01_k».proof.Proof.Gen.Proj.Frame
public import proofs.«01_k».proof.Proof.Proj
public import proofs.«01_k».proof.Proof.Gen.FfnOut.Frame
public import proofs.«01_k».proof.Proof.FfnOut
public import proofs.«01_k».proof.Proof.Gen.Wout.Frame
public import proofs.«01_k».proof.Proof.Wout
public import proofs.«01_k».proof.Proof.Gen.Merge.Frame
public import proofs.«01_k».proof.Proof.Merge
public import proofs.«01_k».proof.Proof.Gen.AdamAda.Frame
public import proofs.«01_k».proof.Proof.AdamAda
public import proofs.«01_k».proof.Proof.Gen.AdamBAda.Frame
public import proofs.«01_k».proof.Proof.AdamBAda
public import proofs.«01_k».proof.Proof.Gen.AdamBIn.Frame
public import proofs.«01_k».proof.Proof.AdamBIn
public import proofs.«01_k».proof.Proof.Gen.AdamLam.Frame
public import proofs.«01_k».proof.Proof.AdamLam
public import proofs.«01_k».proof.Proof.Gen.AdamLogDt.Frame
public import proofs.«01_k».proof.Proof.AdamLogDt
public import proofs.«01_k».proof.Proof.Gen.AdamS5B.Frame
public import proofs.«01_k».proof.Proof.AdamS5B
public import proofs.«01_k».proof.Proof.Gen.AdamS5C.Frame
public import proofs.«01_k».proof.Proof.AdamS5C
public import proofs.«01_k».proof.Proof.Gen.AdamRow512.Frame
public import proofs.«01_k».proof.Proof.AdamRow512
public import proofs.«01_k».proof.Proof.Gen.AdamQNorm.Frame
public import proofs.«01_k».proof.Proof.AdamQNorm
public import proofs.«01_k».proof.Proof.Gen.AdamKvNorm.Frame
public import proofs.«01_k».proof.Proof.AdamKvNorm
public import proofs.«01_k».proof.Proof.Gen.AdamSguW.Frame
public import proofs.«01_k».proof.Proof.AdamSguW
public import proofs.«01_k».proof.Proof.Gen.AdamSguB.Frame
public import proofs.«01_k».proof.Proof.AdamSguB
public import proofs.«01_k».proof.Proof.Gen.AdamRow1024.Frame
public import proofs.«01_k».proof.Proof.AdamRow1024
public import proofs.«01_k».proof.Proof.Gen.AdamWIn.Frame
public import proofs.«01_k».proof.Proof.AdamWIn
public import proofs.«01_k».proof.Proof.Gen.AdamGlu.Frame
public import proofs.«01_k».proof.Proof.AdamGlu
public import proofs.«01_k».proof.Proof.Gen.AdamQUp.Frame
public import proofs.«01_k».proof.Proof.AdamQUp
public import proofs.«01_k».proof.Proof.Gen.AdamKvUp.Frame
public import proofs.«01_k».proof.Proof.AdamKvUp
public import proofs.«01_k».proof.Proof.Gen.AdamBranch.Frame
public import proofs.«01_k».proof.Proof.AdamBranch
public import proofs.«01_k».proof.Proof.Gen.AdamWOut.Frame
public import proofs.«01_k».proof.Proof.AdamWOut
public import proofs.«01_k».proof.Proof.Gen.AdamFfnIn.Frame
public import proofs.«01_k».proof.Proof.AdamFfnIn
public import proofs.«01_k».proof.Proof.Gen.AdamFfnOut.Frame
public import proofs.«01_k».proof.Proof.AdamFfnOut
public import Idealize.ShloMosaic.Lib.Quiescent

@[expose] public section

set_option maxRecDepth 16384

noncomputable section

namespace Cert.Proof

open Idealize.ShloMosaic Idealize.ShloMosaic.TcCoe Idealize.SL.Sem

/-- The reference of the gated activation's backward pass runs, its arguments end unchanged and every counter ends at zero. -/
theorem swiglu_reference_frame : Cert.quiescent_KernelRefIdeal (hKernelRefIdeal := Cert.KernelRefIdeal.Gen.facts) := by
  intro m ρ _
  exact (θ_run Cert.KernelRefIdeal.defs _ _).mono (fun r h => ⟨fun c => (h c).2, sem_eq_zero_of_no_sems (by decide) r.2⟩)
    (Cert.KernelRefIdeal.Value.run m ρ)

set_option maxHeartbeats 1000000 in
/-- On extended reals the gated activation's backward pass and its reference, from equal arguments, end with equal results. -/
theorem swiglu_algebraic : Cert.algebraic_KernelIdeal_KernelRefIdeal (hKernelIdeal := Cert.KernelIdeal.Gen.facts) (hKernelRefIdeal := Cert.KernelRefIdeal.Gen.facts) :=
  fun m ρ m' ρ' _ hag => ⟨_,
    Swiglu.run m ρ,
    (θ_run _ _ _).mono (fun _ h c => ⟨(h c).1.trans (by obtain ⟨e0, e1, e2, e3⟩ := hag c; rw [e0, e1, e2, e3]; rfl),
      (h c).2⟩) (Cert.KernelRefIdeal.Value.run m' ρ')⟩

/-- The reference of the gated feed-forward input runs, its arguments end unchanged and every counter ends at zero. -/
theorem ffn_reference_frame : Cert.quiescent_FfnRefIdeal (hFfnRefIdeal := Cert.FfnRefIdeal.Gen.facts) := by
  intro m ρ _
  exact (θ_run Cert.FfnRefIdeal.defs _ _).mono (fun r h => ⟨fun c => (h c).2.2.2, sem_eq_zero_of_no_sems (by decide) r.2⟩)
    (Cert.FfnRefIdeal.Value.run m ρ)

set_option maxHeartbeats 1000000 in
/-- On extended reals the gated feed-forward input and its reference, from equal arguments, end with equal results. -/
theorem ffn_algebraic : Cert.algebraic_FfnIdeal_FfnRefIdeal (hFfnIdeal := Cert.FfnIdeal.Gen.facts) (hFfnRefIdeal := Cert.FfnRefIdeal.Gen.facts) :=
  fun m ρ m' ρ' _ hag => ⟨_, _, _,
    Ffn.run m ρ,
    (θ_run _ _ _).mono (fun _ h c => ⟨(h c).1.trans (by obtain ⟨e0, e1⟩ := hag c; rw [e0, e1]; rfl),
      (h c).2.1.trans (by obtain ⟨e0, e1⟩ := hag c; rw [e0, e1]; rfl),
      (h c).2.2.1.trans (by obtain ⟨e0, e1⟩ := hag c; rw [e0, e1]; rfl),
      (h c).2.2.2⟩) (Cert.FfnRefIdeal.Value.run m' ρ')⟩

/-- The reference of the gradient of the feed-forward input runs, its arguments end unchanged and every counter ends at zero. -/
theorem ffnDx_reference_frame : Cert.quiescent_FfnDxRefIdeal (hFfnDxRefIdeal := Cert.FfnDxRefIdeal.Gen.facts) := by
  intro m ρ _
  exact (θ_run Cert.FfnDxRefIdeal.defs _ _).mono (fun r h => ⟨fun c => (h c).2, sem_eq_zero_of_no_sems (by decide) r.2⟩)
    (Cert.FfnDxRefIdeal.Value.run m ρ)

set_option maxHeartbeats 1000000 in
/-- On extended reals the gradient of the feed-forward input and its reference, from equal arguments, end with equal results. -/
theorem ffnDx_algebraic : Cert.algebraic_FfnDxIdeal_FfnDxRefIdeal (hFfnDxIdeal := Cert.FfnDxIdeal.Gen.facts) (hFfnDxRefIdeal := Cert.FfnDxRefIdeal.Gen.facts) :=
  fun m ρ m' ρ' _ hag => ⟨_,
    FfnDx.run m ρ,
    (θ_run _ _ _).mono (fun _ h c => ⟨(h c).1.trans (by obtain ⟨e0, e1⟩ := hag c; rw [e0, e1]; rfl),
      (h c).2⟩) (Cert.FfnDxRefIdeal.Value.run m' ρ')⟩

/-- The reference of the gradient of the feed-forward input weights runs, its arguments end unchanged and every counter ends at zero. -/
theorem ffnDw_reference_frame : Cert.quiescent_FfnDwRefIdeal (hFfnDwRefIdeal := Cert.FfnDwRefIdeal.Gen.facts) := by
  intro m ρ _
  exact (θ_run Cert.FfnDwRefIdeal.defs _ _).mono (fun r h => ⟨fun c => (h c).2, sem_eq_zero_of_no_sems (by decide) r.2⟩)
    (Cert.FfnDwRefIdeal.Value.run m ρ)

set_option maxHeartbeats 1000000 in
/-- On extended reals the gradient of the feed-forward input weights and its reference, from equal arguments, end with equal results. -/
theorem ffnDw_algebraic : Cert.algebraic_FfnDwIdeal_FfnDwRefIdeal (hFfnDwIdeal := Cert.FfnDwIdeal.Gen.facts) (hFfnDwRefIdeal := Cert.FfnDwRefIdeal.Gen.facts) :=
  fun m ρ m' ρ' _ hag => ⟨_,
    FfnDw.run m ρ,
    (θ_run _ _ _).mono (fun _ h c => ⟨(h c).1.trans (by obtain ⟨e0, e1⟩ := hag c; rw [e0, e1]; rfl),
      (h c).2⟩) (Cert.FfnDwRefIdeal.Value.run m' ρ')⟩

/-- The reference of the gradient of the feed-forward output weights runs, its arguments end unchanged and every counter ends at zero. -/
theorem outDw_reference_frame : Cert.quiescent_OutDwRefIdeal (hOutDwRefIdeal := Cert.OutDwRefIdeal.Gen.facts) := by
  intro m ρ _
  exact (θ_run Cert.OutDwRefIdeal.defs _ _).mono (fun r h => ⟨fun c => (h c).2, sem_eq_zero_of_no_sems (by decide) r.2⟩)
    (Cert.OutDwRefIdeal.Value.run m ρ)

set_option maxHeartbeats 1000000 in
/-- On extended reals the gradient of the feed-forward output weights and its reference, from equal arguments, end with equal results. -/
theorem outDw_algebraic : Cert.algebraic_OutDwIdeal_OutDwRefIdeal (hOutDwIdeal := Cert.OutDwIdeal.Gen.facts) (hOutDwRefIdeal := Cert.OutDwRefIdeal.Gen.facts) :=
  fun m ρ m' ρ' _ hag => ⟨_,
    OutDw.run m ρ,
    (θ_run _ _ _).mono (fun _ h c => ⟨(h c).1.trans (by obtain ⟨e0, e1⟩ := hag c; rw [e0, e1]; rfl),
      (h c).2⟩) (Cert.OutDwRefIdeal.Value.run m' ρ')⟩

/-- The reference of the gradient of the output projection's input runs, its arguments end unchanged and every counter ends at zero. -/
theorem woutDx_reference_frame : Cert.quiescent_WoutDxRefIdeal (hWoutDxRefIdeal := Cert.WoutDxRefIdeal.Gen.facts) := by
  intro m ρ _
  exact (θ_run Cert.WoutDxRefIdeal.defs _ _).mono (fun r h => ⟨fun c => (h c).2, sem_eq_zero_of_no_sems (by decide) r.2⟩)
    (Cert.WoutDxRefIdeal.Value.run m ρ)

set_option maxHeartbeats 1000000 in
/-- On extended reals the gradient of the output projection's input and its reference, from equal arguments, end with equal results. -/
theorem woutDx_algebraic : Cert.algebraic_WoutDxIdeal_WoutDxRefIdeal (hWoutDxIdeal := Cert.WoutDxIdeal.Gen.facts) (hWoutDxRefIdeal := Cert.WoutDxRefIdeal.Gen.facts) :=
  fun m ρ m' ρ' _ hag => ⟨_,
    WoutDx.run m ρ,
    (θ_run _ _ _).mono (fun _ h c => ⟨(h c).1.trans (by obtain ⟨e0, e1⟩ := hag c; rw [e0, e1]; rfl),
      (h c).2⟩) (Cert.WoutDxRefIdeal.Value.run m' ρ')⟩

/-- The reference of the gradient of the output projection's weights runs, its arguments end unchanged and every counter ends at zero. -/
theorem woutDw_reference_frame : Cert.quiescent_WoutDwRefIdeal (hWoutDwRefIdeal := Cert.WoutDwRefIdeal.Gen.facts) := by
  intro m ρ _
  exact (θ_run Cert.WoutDwRefIdeal.defs _ _).mono (fun r h => ⟨fun c => (h c).2, sem_eq_zero_of_no_sems (by decide) r.2⟩)
    (Cert.WoutDwRefIdeal.Value.run m ρ)

set_option maxHeartbeats 1000000 in
/-- On extended reals the gradient of the output projection's weights and its reference, from equal arguments, end with equal results. -/
theorem woutDw_algebraic : Cert.algebraic_WoutDwIdeal_WoutDwRefIdeal (hWoutDwIdeal := Cert.WoutDwIdeal.Gen.facts) (hWoutDwRefIdeal := Cert.WoutDwRefIdeal.Gen.facts) :=
  fun m ρ m' ρ' _ hag => ⟨_,
    WoutDw.run m ρ,
    (θ_run _ _ _).mono (fun _ h c => ⟨(h c).1.trans (by obtain ⟨e0, e1⟩ := hag c; rw [e0, e1]; rfl),
      (h c).2⟩) (Cert.WoutDwRefIdeal.Value.run m' ρ')⟩

/-- The reference of the gradient of the projections' input runs, its arguments end unchanged and every counter ends at zero. -/
theorem projDx_reference_frame : Cert.quiescent_ProjDxRefIdeal (hProjDxRefIdeal := Cert.ProjDxRefIdeal.Gen.facts) := by
  intro m ρ _
  exact (θ_run Cert.ProjDxRefIdeal.defs _ _).mono (fun r h => ⟨fun c => (h c).2, sem_eq_zero_of_no_sems (by decide) r.2⟩)
    (Cert.ProjDxRefIdeal.Value.run m ρ)

set_option maxHeartbeats 1000000 in
/-- On extended reals the gradient of the projections' input and its reference, from equal arguments, end with equal results. -/
theorem projDx_algebraic : Cert.algebraic_ProjDxIdeal_ProjDxRefIdeal (hProjDxIdeal := Cert.ProjDxIdeal.Gen.facts) (hProjDxRefIdeal := Cert.ProjDxRefIdeal.Gen.facts) :=
  fun m ρ m' ρ' _ hag => ⟨_,
    ProjDx.run m ρ,
    (θ_run _ _ _).mono (fun _ h c => ⟨(h c).1.trans (by obtain ⟨e0, e1⟩ := hag c; rw [e0, e1]; rfl),
      (h c).2⟩) (Cert.ProjDxRefIdeal.Value.run m' ρ')⟩

/-- The reference of the gradient of the projections' weights runs, its arguments end unchanged and every counter ends at zero. -/
theorem projDw_reference_frame : Cert.quiescent_ProjDwRefIdeal (hProjDwRefIdeal := Cert.ProjDwRefIdeal.Gen.facts) := by
  intro m ρ _
  exact (θ_run Cert.ProjDwRefIdeal.defs _ _).mono (fun r h => ⟨fun c => (h c).2, sem_eq_zero_of_no_sems (by decide) r.2⟩)
    (Cert.ProjDwRefIdeal.Value.run m ρ)

set_option maxHeartbeats 1000000 in
/-- On extended reals the gradient of the projections' weights and its reference, from equal arguments, end with equal results. -/
theorem projDw_algebraic : Cert.algebraic_ProjDwIdeal_ProjDwRefIdeal (hProjDwIdeal := Cert.ProjDwIdeal.Gen.facts) (hProjDwRefIdeal := Cert.ProjDwRefIdeal.Gen.facts) :=
  fun m ρ m' ρ' _ hag => ⟨_,
    ProjDw.run m ρ,
    (θ_run _ _ _).mono (fun _ h c => ⟨(h c).1.trans (by obtain ⟨e0, e1⟩ := hag c; rw [e0, e1]; rfl),
      (h c).2⟩) (Cert.ProjDwRefIdeal.Value.run m' ρ')⟩

/-- The reference of the input projections runs, its arguments end unchanged and every counter ends at zero. -/
theorem proj_reference_frame : Cert.quiescent_ProjRefIdeal (hProjRefIdeal := Cert.ProjRefIdeal.Gen.facts) := by
  intro m ρ _
  exact (θ_run Cert.ProjRefIdeal.defs _ _).mono (fun r h => ⟨fun c => (h c).2, sem_eq_zero_of_no_sems (by decide) r.2⟩)
    (Cert.ProjRefIdeal.Value.run m ρ)

set_option maxHeartbeats 1000000 in
/-- On extended reals the input projections and its reference, from equal arguments, end with equal results. -/
theorem proj_algebraic : Cert.algebraic_ProjIdeal_ProjRefIdeal (hProjIdeal := Cert.ProjIdeal.Gen.facts) (hProjRefIdeal := Cert.ProjRefIdeal.Gen.facts) :=
  fun m ρ m' ρ' _ hag => ⟨_,
    Proj.run m ρ,
    (θ_run _ _ _).mono (fun _ h c => ⟨(h c).1.trans (by obtain ⟨e0, e1, e2⟩ := hag c; rw [e0, e1, e2]; rfl),
      (h c).2⟩) (Cert.ProjRefIdeal.Value.run m' ρ')⟩

/-- The reference of the feed-forward output runs, its arguments end unchanged and every counter ends at zero. -/
theorem ffnOut_reference_frame : Cert.quiescent_FfnOutRefIdeal (hFfnOutRefIdeal := Cert.FfnOutRefIdeal.Gen.facts) := by
  intro m ρ _
  exact (θ_run Cert.FfnOutRefIdeal.defs _ _).mono (fun r h => ⟨fun c => (h c).2, sem_eq_zero_of_no_sems (by decide) r.2⟩)
    (Cert.FfnOutRefIdeal.Value.run m ρ)

set_option maxHeartbeats 1000000 in
/-- On extended reals the feed-forward output and its reference, from equal arguments, end with equal results. -/
theorem ffnOut_algebraic : Cert.algebraic_FfnOutIdeal_FfnOutRefIdeal (hFfnOutIdeal := Cert.FfnOutIdeal.Gen.facts) (hFfnOutRefIdeal := Cert.FfnOutRefIdeal.Gen.facts) :=
  fun m ρ m' ρ' _ hag => ⟨_,
    FfnOut.run m ρ,
    (θ_run _ _ _).mono (fun _ h c => ⟨(h c).1.trans (by obtain ⟨e0, e1⟩ := hag c; rw [e0, e1]; rfl),
      (h c).2⟩) (Cert.FfnOutRefIdeal.Value.run m' ρ')⟩

/-- The reference of the output projection runs, its arguments end unchanged and every counter ends at zero. -/
theorem wout_reference_frame : Cert.quiescent_WoutRefIdeal (hWoutRefIdeal := Cert.WoutRefIdeal.Gen.facts) := by
  intro m ρ _
  exact (θ_run Cert.WoutRefIdeal.defs _ _).mono (fun r h => ⟨fun c => (h c).2, sem_eq_zero_of_no_sems (by decide) r.2⟩)
    (Cert.WoutRefIdeal.Value.run m ρ)

set_option maxHeartbeats 1000000 in
/-- On extended reals the output projection and its reference, from equal arguments, end with equal results. -/
theorem wout_algebraic : Cert.algebraic_WoutIdeal_WoutRefIdeal (hWoutIdeal := Cert.WoutIdeal.Gen.facts) (hWoutRefIdeal := Cert.WoutRefIdeal.Gen.facts) :=
  fun m ρ m' ρ' _ hag => ⟨_,
    Wout.run m ρ,
    (θ_run _ _ _).mono (fun _ h c => ⟨(h c).1.trans (by obtain ⟨e0, e1⟩ := hag c; rw [e0, e1]; rfl),
      (h c).2⟩) (Cert.WoutRefIdeal.Value.run m' ρ')⟩

/-- The reference of the gated merge's backward pass runs, its arguments end unchanged and every counter ends at zero. -/
theorem merge_reference_frame : Cert.quiescent_MergeRefIdeal (hMergeRefIdeal := Cert.MergeRefIdeal.Gen.facts) := by
  intro m ρ _
  exact (θ_run Cert.MergeRefIdeal.defs _ _).mono (fun r h => ⟨fun c => (h c).2.2.2.2.2.2.2, sem_eq_zero_of_no_sems (by decide) r.2⟩)
    (Cert.MergeRefIdeal.Value.run m ρ)

set_option maxHeartbeats 1000000 in
/-- On extended reals the gated merge's backward pass and its reference, from equal arguments, end with equal results. -/
theorem merge_algebraic : Cert.algebraic_MergeIdeal_MergeRefIdeal (hMergeIdeal := Cert.MergeIdeal.Gen.facts) (hMergeRefIdeal := Cert.MergeRefIdeal.Gen.facts) :=
  fun m ρ m' ρ' _ hag => ⟨_, _, _, _, _, _, _,
    Merge.run m ρ,
    (θ_run _ _ _).mono (fun _ h c => ⟨(h c).1.trans (by obtain ⟨e0, e1, e2, e3, e4, e5⟩ := hag c; rw [e0, e4, e5]),
      (h c).2.1.trans (by obtain ⟨e0, e1, e2, e3, e4, e5⟩ := hag c; rw [e0, e4, e5]),
      (h c).2.2.1.trans (by obtain ⟨e0, e1, e2, e3, e4, e5⟩ := hag c; rw [e0, e4, e5]),
      (h c).2.2.2.1.trans (by obtain ⟨e0, e1, e2, e3, e4, e5⟩ := hag c; rw [e0, e1, e4, e5]),
      (h c).2.2.2.2.1.trans (by obtain ⟨e0, e1, e2, e3, e4, e5⟩ := hag c; rw [e0, e2, e4, e5]),
      (h c).2.2.2.2.2.1.trans (by obtain ⟨e0, e1, e2, e3, e4, e5⟩ := hag c; rw [e0, e3, e4, e5]),
      (h c).2.2.2.2.2.2.1.trans (by obtain ⟨e0, e1, e2, e3, e4, e5⟩ := hag c; rw [e0, e1, e2, e3, e4]),
      (h c).2.2.2.2.2.2.2⟩) (Merge.reference_run m' ρ')⟩

/-- The reference of the step of the conditioning weights runs, its arguments end unchanged and every counter ends at zero. -/
theorem adamAda_reference_frame : Cert.quiescent_AdamAdaRefIdeal (hAdamAdaRefIdeal := Cert.AdamAdaRefIdeal.Gen.facts) := by
  intro m ρ _
  exact (θ_run Cert.AdamAdaRefIdeal.defs _ _).mono (fun r h => ⟨fun c => (h c).2.2.2.2, sem_eq_zero_of_no_sems (by decide) r.2⟩)
    (Cert.AdamAdaRefIdeal.Value.run m ρ)

set_option maxHeartbeats 1000000 in
/-- On extended reals the step of the conditioning weights and its reference, from equal arguments, end with equal results. -/
theorem adamAda_algebraic : Cert.algebraic_AdamAdaIdeal_AdamAdaRefIdeal (hAdamAdaIdeal := Cert.AdamAdaIdeal.Gen.facts) (hAdamAdaRefIdeal := Cert.AdamAdaRefIdeal.Gen.facts) :=
  fun m ρ m' ρ' _ hag => ⟨_, _, _, _,
    AdamAda.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamAdaRefIdeal.Value.run m' ρ')⟩

/-- The reference of the step of the conditioning offsets runs, its arguments end unchanged and every counter ends at zero. -/
theorem adamBAda_reference_frame : Cert.quiescent_AdamBAdaRefIdeal (hAdamBAdaRefIdeal := Cert.AdamBAdaRefIdeal.Gen.facts) := by
  intro m ρ _
  exact (θ_run Cert.AdamBAdaRefIdeal.defs _ _).mono (fun r h => ⟨fun c => (h c).2.2.2.2, sem_eq_zero_of_no_sems (by decide) r.2⟩)
    (Cert.AdamBAdaRefIdeal.Value.run m ρ)

set_option maxHeartbeats 1000000 in
/-- On extended reals the step of the conditioning offsets and its reference, from equal arguments, end with equal results. -/
theorem adamBAda_algebraic : Cert.algebraic_AdamBAdaIdeal_AdamBAdaRefIdeal (hAdamBAdaIdeal := Cert.AdamBAdaIdeal.Gen.facts) (hAdamBAdaRefIdeal := Cert.AdamBAdaRefIdeal.Gen.facts) :=
  fun m ρ m' ρ' _ hag => ⟨_, _, _, _,
    AdamBAda.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamBAdaRefIdeal.Value.run m' ρ')⟩

/-- The reference of the step of the input projection's offsets runs, its arguments end unchanged and every counter ends at zero. -/
theorem adamBIn_reference_frame : Cert.quiescent_AdamBInRefIdeal (hAdamBInRefIdeal := Cert.AdamBInRefIdeal.Gen.facts) := by
  intro m ρ _
  exact (θ_run Cert.AdamBInRefIdeal.defs _ _).mono (fun r h => ⟨fun c => (h c).2.2.2.2, sem_eq_zero_of_no_sems (by decide) r.2⟩)
    (Cert.AdamBInRefIdeal.Value.run m ρ)

set_option maxHeartbeats 1000000 in
/-- On extended reals the step of the input projection's offsets and its reference, from equal arguments, end with equal results. -/
theorem adamBIn_algebraic : Cert.algebraic_AdamBInIdeal_AdamBInRefIdeal (hAdamBInIdeal := Cert.AdamBInIdeal.Gen.facts) (hAdamBInRefIdeal := Cert.AdamBInRefIdeal.Gen.facts) :=
  fun m ρ m' ρ' _ hag => ⟨_, _, _, _,
    AdamBIn.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamBInRefIdeal.Value.run m' ρ')⟩

/-- The reference of the step of the state-space poles runs, its arguments end unchanged and every counter ends at zero. -/
theorem adamLam_reference_frame : Cert.quiescent_AdamLamRefIdeal (hAdamLamRefIdeal := Cert.AdamLamRefIdeal.Gen.facts) := by
  intro m ρ _
  exact (θ_run Cert.AdamLamRefIdeal.defs _ _).mono (fun r h => ⟨fun c => (h c).2.2.2.2, sem_eq_zero_of_no_sems (by decide) r.2⟩)
    (Cert.AdamLamRefIdeal.Value.run m ρ)

set_option maxHeartbeats 1000000 in
/-- On extended reals the step of the state-space poles and its reference, from equal arguments, end with equal results. -/
theorem adamLam_algebraic : Cert.algebraic_AdamLamIdeal_AdamLamRefIdeal (hAdamLamIdeal := Cert.AdamLamIdeal.Gen.facts) (hAdamLamRefIdeal := Cert.AdamLamRefIdeal.Gen.facts) :=
  fun m ρ m' ρ' _ hag => ⟨_, _, _, _,
    AdamLam.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamLamRefIdeal.Value.run m' ρ')⟩

/-- The reference of the step of the state-space step sizes runs, its arguments end unchanged and every counter ends at zero. -/
theorem adamLogDt_reference_frame : Cert.quiescent_AdamLogDtRefIdeal (hAdamLogDtRefIdeal := Cert.AdamLogDtRefIdeal.Gen.facts) := by
  intro m ρ _
  exact (θ_run Cert.AdamLogDtRefIdeal.defs _ _).mono (fun r h => ⟨fun c => (h c).2.2.2.2, sem_eq_zero_of_no_sems (by decide) r.2⟩)
    (Cert.AdamLogDtRefIdeal.Value.run m ρ)

set_option maxHeartbeats 1000000 in
/-- On extended reals the step of the state-space step sizes and its reference, from equal arguments, end with equal results. -/
theorem adamLogDt_algebraic : Cert.algebraic_AdamLogDtIdeal_AdamLogDtRefIdeal (hAdamLogDtIdeal := Cert.AdamLogDtIdeal.Gen.facts) (hAdamLogDtRefIdeal := Cert.AdamLogDtRefIdeal.Gen.facts) :=
  fun m ρ m' ρ' _ hag => ⟨_, _, _, _,
    AdamLogDt.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamLogDtRefIdeal.Value.run m' ρ')⟩

/-- The reference of the step of the state-space input matrices runs, its arguments end unchanged and every counter ends at zero. -/
theorem adamS5B_reference_frame : Cert.quiescent_AdamS5BRefIdeal (hAdamS5BRefIdeal := Cert.AdamS5BRefIdeal.Gen.facts) := by
  intro m ρ _
  exact (θ_run Cert.AdamS5BRefIdeal.defs _ _).mono (fun r h => ⟨fun c => (h c).2.2.2.2, sem_eq_zero_of_no_sems (by decide) r.2⟩)
    (Cert.AdamS5BRefIdeal.Value.run m ρ)

set_option maxHeartbeats 1000000 in
/-- On extended reals the step of the state-space input matrices and its reference, from equal arguments, end with equal results. -/
theorem adamS5B_algebraic : Cert.algebraic_AdamS5BIdeal_AdamS5BRefIdeal (hAdamS5BIdeal := Cert.AdamS5BIdeal.Gen.facts) (hAdamS5BRefIdeal := Cert.AdamS5BRefIdeal.Gen.facts) :=
  fun m ρ m' ρ' _ hag => ⟨_, _, _, _,
    AdamS5B.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamS5BRefIdeal.Value.run m' ρ')⟩

/-- The reference of the step of the state-space output matrices runs, its arguments end unchanged and every counter ends at zero. -/
theorem adamS5C_reference_frame : Cert.quiescent_AdamS5CRefIdeal (hAdamS5CRefIdeal := Cert.AdamS5CRefIdeal.Gen.facts) := by
  intro m ρ _
  exact (θ_run Cert.AdamS5CRefIdeal.defs _ _).mono (fun r h => ⟨fun c => (h c).2.2.2.2, sem_eq_zero_of_no_sems (by decide) r.2⟩)
    (Cert.AdamS5CRefIdeal.Value.run m ρ)

set_option maxHeartbeats 1000000 in
/-- On extended reals the step of the state-space output matrices and its reference, from equal arguments, end with equal results. -/
theorem adamS5C_algebraic : Cert.algebraic_AdamS5CIdeal_AdamS5CRefIdeal (hAdamS5CIdeal := Cert.AdamS5CIdeal.Gen.facts) (hAdamS5CRefIdeal := Cert.AdamS5CRefIdeal.Gen.facts) :=
  fun m ρ m' ρ' _ hag => ⟨_, _, _, _,
    AdamS5C.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamS5CRefIdeal.Value.run m' ρ')⟩

/-- The reference of the step of a parameter of 512 numbers a layer runs, its arguments end unchanged and every counter ends at zero. -/
theorem adamRow512_reference_frame : Cert.quiescent_AdamRow512RefIdeal (hAdamRow512RefIdeal := Cert.AdamRow512RefIdeal.Gen.facts) := by
  intro m ρ _
  exact (θ_run Cert.AdamRow512RefIdeal.defs _ _).mono (fun r h => ⟨fun c => (h c).2.2.2.2, sem_eq_zero_of_no_sems (by decide) r.2⟩)
    (Cert.AdamRow512RefIdeal.Value.run m ρ)

set_option maxHeartbeats 1000000 in
/-- On extended reals the step of a parameter of 512 numbers a layer and its reference, from equal arguments, end with equal results. -/
theorem adamRow512_algebraic : Cert.algebraic_AdamRow512Ideal_AdamRow512RefIdeal (hAdamRow512Ideal := Cert.AdamRow512Ideal.Gen.facts) (hAdamRow512RefIdeal := Cert.AdamRow512RefIdeal.Gen.facts) :=
  fun m ρ m' ρ' _ hag => ⟨_, _, _, _,
    AdamRow512.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamRow512RefIdeal.Value.run m' ρ')⟩

/-- The reference of the step of the query norm's gains runs, its arguments end unchanged and every counter ends at zero. -/
theorem adamQNorm_reference_frame : Cert.quiescent_AdamQNormRefIdeal (hAdamQNormRefIdeal := Cert.AdamQNormRefIdeal.Gen.facts) := by
  intro m ρ _
  exact (θ_run Cert.AdamQNormRefIdeal.defs _ _).mono (fun r h => ⟨fun c => (h c).2.2.2.2, sem_eq_zero_of_no_sems (by decide) r.2⟩)
    (Cert.AdamQNormRefIdeal.Value.run m ρ)

set_option maxHeartbeats 1000000 in
/-- On extended reals the step of the query norm's gains and its reference, from equal arguments, end with equal results. -/
theorem adamQNorm_algebraic : Cert.algebraic_AdamQNormIdeal_AdamQNormRefIdeal (hAdamQNormIdeal := Cert.AdamQNormIdeal.Gen.facts) (hAdamQNormRefIdeal := Cert.AdamQNormRefIdeal.Gen.facts) :=
  fun m ρ m' ρ' _ hag => ⟨_, _, _, _,
    AdamQNorm.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamQNormRefIdeal.Value.run m' ρ')⟩

/-- The reference of the step of the key and value norm's gains runs, its arguments end unchanged and every counter ends at zero. -/
theorem adamKvNorm_reference_frame : Cert.quiescent_AdamKvNormRefIdeal (hAdamKvNormRefIdeal := Cert.AdamKvNormRefIdeal.Gen.facts) := by
  intro m ρ _
  exact (θ_run Cert.AdamKvNormRefIdeal.defs _ _).mono (fun r h => ⟨fun c => (h c).2.2.2.2, sem_eq_zero_of_no_sems (by decide) r.2⟩)
    (Cert.AdamKvNormRefIdeal.Value.run m ρ)

set_option maxHeartbeats 1000000 in
/-- On extended reals the step of the key and value norm's gains and its reference, from equal arguments, end with equal results. -/
theorem adamKvNorm_algebraic : Cert.algebraic_AdamKvNormIdeal_AdamKvNormRefIdeal (hAdamKvNormIdeal := Cert.AdamKvNormIdeal.Gen.facts) (hAdamKvNormRefIdeal := Cert.AdamKvNormRefIdeal.Gen.facts) :=
  fun m ρ m' ρ' _ hag => ⟨_, _, _, _,
    AdamKvNorm.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamKvNormRefIdeal.Value.run m' ρ')⟩

/-- The reference of the step of the spatial gate's weights runs, its arguments end unchanged and every counter ends at zero. -/
theorem adamSguW_reference_frame : Cert.quiescent_AdamSguWRefIdeal (hAdamSguWRefIdeal := Cert.AdamSguWRefIdeal.Gen.facts) := by
  intro m ρ _
  exact (θ_run Cert.AdamSguWRefIdeal.defs _ _).mono (fun r h => ⟨fun c => (h c).2.2.2.2, sem_eq_zero_of_no_sems (by decide) r.2⟩)
    (Cert.AdamSguWRefIdeal.Value.run m ρ)

set_option maxHeartbeats 1000000 in
/-- On extended reals the step of the spatial gate's weights and its reference, from equal arguments, end with equal results. -/
theorem adamSguW_algebraic : Cert.algebraic_AdamSguWIdeal_AdamSguWRefIdeal (hAdamSguWIdeal := Cert.AdamSguWIdeal.Gen.facts) (hAdamSguWRefIdeal := Cert.AdamSguWRefIdeal.Gen.facts) :=
  fun m ρ m' ρ' _ hag => ⟨_, _, _, _,
    AdamSguW.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamSguWRefIdeal.Value.run m' ρ')⟩

/-- The reference of the step of the spatial gate's offsets runs, its arguments end unchanged and every counter ends at zero. -/
theorem adamSguB_reference_frame : Cert.quiescent_AdamSguBRefIdeal (hAdamSguBRefIdeal := Cert.AdamSguBRefIdeal.Gen.facts) := by
  intro m ρ _
  exact (θ_run Cert.AdamSguBRefIdeal.defs _ _).mono (fun r h => ⟨fun c => (h c).2.2.2.2, sem_eq_zero_of_no_sems (by decide) r.2⟩)
    (Cert.AdamSguBRefIdeal.Value.run m ρ)

set_option maxHeartbeats 1000000 in
/-- On extended reals the step of the spatial gate's offsets and its reference, from equal arguments, end with equal results. -/
theorem adamSguB_algebraic : Cert.algebraic_AdamSguBIdeal_AdamSguBRefIdeal (hAdamSguBIdeal := Cert.AdamSguBIdeal.Gen.facts) (hAdamSguBRefIdeal := Cert.AdamSguBRefIdeal.Gen.facts) :=
  fun m ρ m' ρ' _ hag => ⟨_, _, _, _,
    AdamSguB.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamSguBRefIdeal.Value.run m' ρ')⟩

/-- The reference of the step of a parameter of 1024 numbers a layer runs, its arguments end unchanged and every counter ends at zero. -/
theorem adamRow1024_reference_frame : Cert.quiescent_AdamRow1024RefIdeal (hAdamRow1024RefIdeal := Cert.AdamRow1024RefIdeal.Gen.facts) := by
  intro m ρ _
  exact (θ_run Cert.AdamRow1024RefIdeal.defs _ _).mono (fun r h => ⟨fun c => (h c).2.2.2.2, sem_eq_zero_of_no_sems (by decide) r.2⟩)
    (Cert.AdamRow1024RefIdeal.Value.run m ρ)

set_option maxHeartbeats 1000000 in
/-- On extended reals the step of a parameter of 1024 numbers a layer and its reference, from equal arguments, end with equal results. -/
theorem adamRow1024_algebraic : Cert.algebraic_AdamRow1024Ideal_AdamRow1024RefIdeal (hAdamRow1024Ideal := Cert.AdamRow1024Ideal.Gen.facts) (hAdamRow1024RefIdeal := Cert.AdamRow1024RefIdeal.Gen.facts) :=
  fun m ρ m' ρ' _ hag => ⟨_, _, _, _,
    AdamRow1024.run m ρ,
    (θ_run _ _ _).mono (fun _ h c => ⟨(h c).1.trans (by obtain ⟨e0, e1, e2, e3⟩ := hag c; rw [e1]; rfl),
      (h c).2.1.trans (by obtain ⟨e0, e1, e2, e3⟩ := hag c; rw [e0, e1, e2, e3]; rfl),
      (h c).2.2.1.trans (by obtain ⟨e0, e1, e2, e3⟩ := hag c; rw [e1, e2]; rfl),
      (h c).2.2.2.1.trans (by obtain ⟨e0, e1, e2, e3⟩ := hag c; rw [e1, e3]; rfl),
      (h c).2.2.2.2⟩) (Cert.AdamRow1024RefIdeal.Value.run m' ρ')⟩

/-- The reference of the step of the input projection's weights runs, its arguments end unchanged and every counter ends at zero. -/
theorem adamWIn_reference_frame : Cert.quiescent_AdamWInRefIdeal (hAdamWInRefIdeal := Cert.AdamWInRefIdeal.Gen.facts) := by
  intro m ρ _
  exact (θ_run Cert.AdamWInRefIdeal.defs _ _).mono (fun r h => ⟨fun c => (h c).2.2.2.2, sem_eq_zero_of_no_sems (by decide) r.2⟩)
    (Cert.AdamWInRefIdeal.Value.run m ρ)

set_option maxHeartbeats 1000000 in
/-- On extended reals the step of the input projection's weights and its reference, from equal arguments, end with equal results. -/
theorem adamWIn_algebraic : Cert.algebraic_AdamWInIdeal_AdamWInRefIdeal (hAdamWInIdeal := Cert.AdamWInIdeal.Gen.facts) (hAdamWInRefIdeal := Cert.AdamWInRefIdeal.Gen.facts) :=
  fun m ρ m' ρ' _ hag => ⟨_, _, _, _,
    AdamWIn.run m ρ,
    (θ_run _ _ _).mono (fun _ h c => ⟨(h c).1.trans (by obtain ⟨e0, e1, e2, e3, e4, e5, e6⟩ := hag c; rw [e1, e2, e3, e4]),
      (h c).2.1.trans (by obtain ⟨e0, e1, e2, e3, e4, e5, e6⟩ := hag c; rw [e1, e2, e3, e4, e0, e5, e6]),
      (h c).2.2.1.trans (by obtain ⟨e0, e1, e2, e3, e4, e5, e6⟩ := hag c; rw [e1, e2, e3, e4, e5]),
      (h c).2.2.2.1.trans (by obtain ⟨e0, e1, e2, e3, e4, e5, e6⟩ := hag c; rw [e1, e2, e3, e4, e6]),
      (h c).2.2.2.2⟩) (AdamWIn.reference_run m' ρ')⟩

/-- The reference of the step of the state-space gate's weights runs, its arguments end unchanged and every counter ends at zero. -/
theorem adamGlu_reference_frame : Cert.quiescent_AdamGluRefIdeal (hAdamGluRefIdeal := Cert.AdamGluRefIdeal.Gen.facts) := by
  intro m ρ _
  exact (θ_run Cert.AdamGluRefIdeal.defs _ _).mono (fun r h => ⟨fun c => (h c).2.2.2.2, sem_eq_zero_of_no_sems (by decide) r.2⟩)
    (Cert.AdamGluRefIdeal.Value.run m ρ)

set_option maxHeartbeats 1000000 in
/-- On extended reals the step of the state-space gate's weights and its reference, from equal arguments, end with equal results. -/
theorem adamGlu_algebraic : Cert.algebraic_AdamGluIdeal_AdamGluRefIdeal (hAdamGluIdeal := Cert.AdamGluIdeal.Gen.facts) (hAdamGluRefIdeal := Cert.AdamGluRefIdeal.Gen.facts) :=
  fun m ρ m' ρ' _ hag => ⟨_, _, _, _,
    AdamGlu.run m ρ,
    (θ_run _ _ _).mono (fun _ h c => ⟨(h c).1.trans (by obtain ⟨e0, e1, e2, e3, e4, e5, e6⟩ := hag c; rw [e1, e2, e3, e4]),
      (h c).2.1.trans (by obtain ⟨e0, e1, e2, e3, e4, e5, e6⟩ := hag c; rw [e1, e2, e3, e4, e0, e5, e6]),
      (h c).2.2.1.trans (by obtain ⟨e0, e1, e2, e3, e4, e5, e6⟩ := hag c; rw [e1, e2, e3, e4, e5]),
      (h c).2.2.2.1.trans (by obtain ⟨e0, e1, e2, e3, e4, e5, e6⟩ := hag c; rw [e1, e2, e3, e4, e6]),
      (h c).2.2.2.2⟩) (AdamGlu.reference_run m' ρ')⟩

/-- The reference of the step of the query weights runs, its arguments end unchanged and every counter ends at zero. -/
theorem adamQUp_reference_frame : Cert.quiescent_AdamQUpRefIdeal (hAdamQUpRefIdeal := Cert.AdamQUpRefIdeal.Gen.facts) := by
  intro m ρ _
  exact (θ_run Cert.AdamQUpRefIdeal.defs _ _).mono (fun r h => ⟨fun c => (h c).2.2.2.2, sem_eq_zero_of_no_sems (by decide) r.2⟩)
    (Cert.AdamQUpRefIdeal.Value.run m ρ)

set_option maxHeartbeats 1000000 in
/-- On extended reals the step of the query weights and its reference, from equal arguments, end with equal results. -/
theorem adamQUp_algebraic : Cert.algebraic_AdamQUpIdeal_AdamQUpRefIdeal (hAdamQUpIdeal := Cert.AdamQUpIdeal.Gen.facts) (hAdamQUpRefIdeal := Cert.AdamQUpRefIdeal.Gen.facts) :=
  fun m ρ m' ρ' _ hag => ⟨_, _, _, _,
    AdamQUp.run m ρ,
    (θ_run _ _ _).mono (fun _ h c => ⟨(h c).1.trans (by obtain ⟨e0, e1, e2, e3, e4, e5, e6⟩ := hag c; rw [e1, e2, e3, e4]),
      (h c).2.1.trans (by obtain ⟨e0, e1, e2, e3, e4, e5, e6⟩ := hag c; rw [e1, e2, e3, e4, e0, e5, e6]),
      (h c).2.2.1.trans (by obtain ⟨e0, e1, e2, e3, e4, e5, e6⟩ := hag c; rw [e1, e2, e3, e4, e5]),
      (h c).2.2.2.1.trans (by obtain ⟨e0, e1, e2, e3, e4, e5, e6⟩ := hag c; rw [e1, e2, e3, e4, e6]),
      (h c).2.2.2.2⟩) (AdamQUp.reference_run m' ρ')⟩

/-- The reference of the step of the key and value weights runs, its arguments end unchanged and every counter ends at zero. -/
theorem adamKvUp_reference_frame : Cert.quiescent_AdamKvUpRefIdeal (hAdamKvUpRefIdeal := Cert.AdamKvUpRefIdeal.Gen.facts) := by
  intro m ρ _
  exact (θ_run Cert.AdamKvUpRefIdeal.defs _ _).mono (fun r h => ⟨fun c => (h c).2.2.2.2, sem_eq_zero_of_no_sems (by decide) r.2⟩)
    (Cert.AdamKvUpRefIdeal.Value.run m ρ)

set_option maxHeartbeats 1000000 in
/-- On extended reals the step of the key and value weights and its reference, from equal arguments, end with equal results. -/
theorem adamKvUp_algebraic : Cert.algebraic_AdamKvUpIdeal_AdamKvUpRefIdeal (hAdamKvUpIdeal := Cert.AdamKvUpIdeal.Gen.facts) (hAdamKvUpRefIdeal := Cert.AdamKvUpRefIdeal.Gen.facts) :=
  fun m ρ m' ρ' _ hag => ⟨_, _, _, _,
    AdamKvUp.run m ρ,
    (θ_run _ _ _).mono (fun _ h c => ⟨(h c).1.trans (by obtain ⟨e0, e1, e2, e3, e4, e5, e6⟩ := hag c; rw [e1, e2, e3, e4]),
      (h c).2.1.trans (by obtain ⟨e0, e1, e2, e3, e4, e5, e6⟩ := hag c; rw [e1, e2, e3, e4, e0, e5, e6]),
      (h c).2.2.1.trans (by obtain ⟨e0, e1, e2, e3, e4, e5, e6⟩ := hag c; rw [e1, e2, e3, e4, e5]),
      (h c).2.2.2.1.trans (by obtain ⟨e0, e1, e2, e3, e4, e5, e6⟩ := hag c; rw [e1, e2, e3, e4, e6]),
      (h c).2.2.2.2⟩) (AdamKvUp.reference_run m' ρ')⟩

/-- The reference of the step of the branches' weights runs, its arguments end unchanged and every counter ends at zero. -/
theorem adamBranch_reference_frame : Cert.quiescent_AdamBranchRefIdeal (hAdamBranchRefIdeal := Cert.AdamBranchRefIdeal.Gen.facts) := by
  intro m ρ _
  exact (θ_run Cert.AdamBranchRefIdeal.defs _ _).mono (fun r h => ⟨fun c => (h c).2.2.2.2, sem_eq_zero_of_no_sems (by decide) r.2⟩)
    (Cert.AdamBranchRefIdeal.Value.run m ρ)

set_option maxHeartbeats 1000000 in
/-- On extended reals the step of the branches' weights and its reference, from equal arguments, end with equal results. -/
theorem adamBranch_algebraic : Cert.algebraic_AdamBranchIdeal_AdamBranchRefIdeal (hAdamBranchIdeal := Cert.AdamBranchIdeal.Gen.facts) (hAdamBranchRefIdeal := Cert.AdamBranchRefIdeal.Gen.facts) :=
  fun m ρ m' ρ' _ hag => ⟨_, _, _, _,
    AdamBranch.run m ρ,
    (θ_run _ _ _).mono (fun _ h c => ⟨(h c).1.trans (by obtain ⟨e0, e1, e2, e3, e4, e5, e6⟩ := hag c; rw [e1, e2, e3, e4]),
      (h c).2.1.trans (by obtain ⟨e0, e1, e2, e3, e4, e5, e6⟩ := hag c; rw [e1, e2, e3, e4, e0, e5, e6]),
      (h c).2.2.1.trans (by obtain ⟨e0, e1, e2, e3, e4, e5, e6⟩ := hag c; rw [e1, e2, e3, e4, e5]),
      (h c).2.2.2.1.trans (by obtain ⟨e0, e1, e2, e3, e4, e5, e6⟩ := hag c; rw [e1, e2, e3, e4, e6]),
      (h c).2.2.2.2⟩) (AdamBranch.reference_run m' ρ')⟩

/-- The reference of the step of the output weights runs, its arguments end unchanged and every counter ends at zero. -/
theorem adamWOut_reference_frame : Cert.quiescent_AdamWOutRefIdeal (hAdamWOutRefIdeal := Cert.AdamWOutRefIdeal.Gen.facts) := by
  intro m ρ _
  exact (θ_run Cert.AdamWOutRefIdeal.defs _ _).mono (fun r h => ⟨fun c => (h c).2.2.2.2, sem_eq_zero_of_no_sems (by decide) r.2⟩)
    (Cert.AdamWOutRefIdeal.Value.run m ρ)

set_option maxHeartbeats 1000000 in
/-- On extended reals the step of the output weights and its reference, from equal arguments, end with equal results. -/
theorem adamWOut_algebraic : Cert.algebraic_AdamWOutIdeal_AdamWOutRefIdeal (hAdamWOutIdeal := Cert.AdamWOutIdeal.Gen.facts) (hAdamWOutRefIdeal := Cert.AdamWOutRefIdeal.Gen.facts) :=
  fun m ρ m' ρ' _ hag => ⟨_, _, _, _,
    AdamWOut.run m ρ,
    (θ_run _ _ _).mono (fun _ h c => ⟨(h c).1.trans (by obtain ⟨e0, e1, e2, e3, e4, e5, e6⟩ := hag c; rw [e1, e2, e3, e4]),
      (h c).2.1.trans (by obtain ⟨e0, e1, e2, e3, e4, e5, e6⟩ := hag c; rw [e1, e2, e3, e4, e0, e5, e6]),
      (h c).2.2.1.trans (by obtain ⟨e0, e1, e2, e3, e4, e5, e6⟩ := hag c; rw [e1, e2, e3, e4, e5]),
      (h c).2.2.2.1.trans (by obtain ⟨e0, e1, e2, e3, e4, e5, e6⟩ := hag c; rw [e1, e2, e3, e4, e6]),
      (h c).2.2.2.2⟩) (AdamWOut.reference_run m' ρ')⟩

/-- The reference of the step of the feed-forward input weights runs, its arguments end unchanged and every counter ends at zero. -/
theorem adamFfnIn_reference_frame : Cert.quiescent_AdamFfnInRefIdeal (hAdamFfnInRefIdeal := Cert.AdamFfnInRefIdeal.Gen.facts) := by
  intro m ρ _
  exact (θ_run Cert.AdamFfnInRefIdeal.defs _ _).mono (fun r h => ⟨fun c => (h c).2.2.2.2, sem_eq_zero_of_no_sems (by decide) r.2⟩)
    (Cert.AdamFfnInRefIdeal.Value.run m ρ)

set_option maxHeartbeats 1000000 in
/-- On extended reals the step of the feed-forward input weights and its reference, from equal arguments, end with equal results. -/
theorem adamFfnIn_algebraic : Cert.algebraic_AdamFfnInIdeal_AdamFfnInRefIdeal (hAdamFfnInIdeal := Cert.AdamFfnInIdeal.Gen.facts) (hAdamFfnInRefIdeal := Cert.AdamFfnInRefIdeal.Gen.facts) :=
  fun m ρ m' ρ' _ hag => ⟨_, _, _, _,
    AdamFfnIn.run m ρ,
    (θ_run _ _ _).mono (fun _ h c => ⟨(h c).1.trans (by obtain ⟨e0, e1, e2, e3, e4, e5, e6⟩ := hag c; rw [e1, e2, e3, e4]),
      (h c).2.1.trans (by obtain ⟨e0, e1, e2, e3, e4, e5, e6⟩ := hag c; rw [e1, e2, e3, e4, e0, e5, e6]),
      (h c).2.2.1.trans (by obtain ⟨e0, e1, e2, e3, e4, e5, e6⟩ := hag c; rw [e1, e2, e3, e4, e5]),
      (h c).2.2.2.1.trans (by obtain ⟨e0, e1, e2, e3, e4, e5, e6⟩ := hag c; rw [e1, e2, e3, e4, e6]),
      (h c).2.2.2.2⟩) (AdamFfnIn.reference_run m' ρ')⟩

/-- The reference of the step of the feed-forward output weights runs, its arguments end unchanged and every counter ends at zero. -/
theorem adamFfnOut_reference_frame : Cert.quiescent_AdamFfnOutRefIdeal (hAdamFfnOutRefIdeal := Cert.AdamFfnOutRefIdeal.Gen.facts) := by
  intro m ρ _
  exact (θ_run Cert.AdamFfnOutRefIdeal.defs _ _).mono (fun r h => ⟨fun c => (h c).2.2.2.2, sem_eq_zero_of_no_sems (by decide) r.2⟩)
    (Cert.AdamFfnOutRefIdeal.Value.run m ρ)

set_option maxHeartbeats 1000000 in
/-- On extended reals the step of the feed-forward output weights and its reference, from equal arguments, end with equal results. -/
theorem adamFfnOut_algebraic : Cert.algebraic_AdamFfnOutIdeal_AdamFfnOutRefIdeal (hAdamFfnOutIdeal := Cert.AdamFfnOutIdeal.Gen.facts) (hAdamFfnOutRefIdeal := Cert.AdamFfnOutRefIdeal.Gen.facts) :=
  fun m ρ m' ρ' _ hag => ⟨_, _, _, _,
    AdamFfnOut.run m ρ,
    (θ_run _ _ _).mono (fun _ h c => ⟨(h c).1.trans (by obtain ⟨e0, e1, e2, e3, e4, e5, e6⟩ := hag c; rw [e1, e2, e3, e4]),
      (h c).2.1.trans (by obtain ⟨e0, e1, e2, e3, e4, e5, e6⟩ := hag c; rw [e1, e2, e3, e4, e0, e5, e6]),
      (h c).2.2.1.trans (by obtain ⟨e0, e1, e2, e3, e4, e5, e6⟩ := hag c; rw [e1, e2, e3, e4, e5]),
      (h c).2.2.2.1.trans (by obtain ⟨e0, e1, e2, e3, e4, e5, e6⟩ := hag c; rw [e1, e2, e3, e4, e6]),
      (h c).2.2.2.2⟩) (AdamFfnOut.reference_run m' ρ')⟩

/-- Everything that is claimed. -/
theorem claim : Cert.Claim := ⟨Cert.Kernel.Gen.facts, Cert.KernelIdeal.Gen.facts, Cert.KernelRefIdeal.Gen.facts, Cert.Ffn.Gen.facts, Cert.FfnIdeal.Gen.facts, Cert.FfnRefIdeal.Gen.facts, Cert.FfnDx.Gen.facts, Cert.FfnDxIdeal.Gen.facts, Cert.FfnDxRefIdeal.Gen.facts, Cert.FfnDw.Gen.facts, Cert.FfnDwIdeal.Gen.facts, Cert.FfnDwRefIdeal.Gen.facts, Cert.OutDw.Gen.facts, Cert.OutDwIdeal.Gen.facts, Cert.OutDwRefIdeal.Gen.facts, Cert.WoutDx.Gen.facts, Cert.WoutDxIdeal.Gen.facts, Cert.WoutDxRefIdeal.Gen.facts, Cert.WoutDw.Gen.facts, Cert.WoutDwIdeal.Gen.facts, Cert.WoutDwRefIdeal.Gen.facts, Cert.ProjDx.Gen.facts, Cert.ProjDxIdeal.Gen.facts, Cert.ProjDxRefIdeal.Gen.facts, Cert.ProjDw.Gen.facts, Cert.ProjDwIdeal.Gen.facts, Cert.ProjDwRefIdeal.Gen.facts, Cert.Proj.Gen.facts, Cert.ProjIdeal.Gen.facts, Cert.ProjRefIdeal.Gen.facts, Cert.FfnOut.Gen.facts, Cert.FfnOutIdeal.Gen.facts, Cert.FfnOutRefIdeal.Gen.facts, Cert.Wout.Gen.facts, Cert.WoutIdeal.Gen.facts, Cert.WoutRefIdeal.Gen.facts, Cert.Merge.Gen.facts, Cert.MergeIdeal.Gen.facts, Cert.MergeRefIdeal.Gen.facts, Cert.AdamAda.Gen.facts, Cert.AdamAdaIdeal.Gen.facts, Cert.AdamAdaRefIdeal.Gen.facts, Cert.AdamBAda.Gen.facts, Cert.AdamBAdaIdeal.Gen.facts, Cert.AdamBAdaRefIdeal.Gen.facts, Cert.AdamBIn.Gen.facts, Cert.AdamBInIdeal.Gen.facts, Cert.AdamBInRefIdeal.Gen.facts, Cert.AdamLam.Gen.facts, Cert.AdamLamIdeal.Gen.facts, Cert.AdamLamRefIdeal.Gen.facts, Cert.AdamLogDt.Gen.facts, Cert.AdamLogDtIdeal.Gen.facts, Cert.AdamLogDtRefIdeal.Gen.facts, Cert.AdamS5B.Gen.facts, Cert.AdamS5BIdeal.Gen.facts, Cert.AdamS5BRefIdeal.Gen.facts, Cert.AdamS5C.Gen.facts, Cert.AdamS5CIdeal.Gen.facts, Cert.AdamS5CRefIdeal.Gen.facts, Cert.AdamRow512.Gen.facts, Cert.AdamRow512Ideal.Gen.facts, Cert.AdamRow512RefIdeal.Gen.facts, Cert.AdamQNorm.Gen.facts, Cert.AdamQNormIdeal.Gen.facts, Cert.AdamQNormRefIdeal.Gen.facts, Cert.AdamKvNorm.Gen.facts, Cert.AdamKvNormIdeal.Gen.facts, Cert.AdamKvNormRefIdeal.Gen.facts, Cert.AdamSguW.Gen.facts, Cert.AdamSguWIdeal.Gen.facts, Cert.AdamSguWRefIdeal.Gen.facts, Cert.AdamSguB.Gen.facts, Cert.AdamSguBIdeal.Gen.facts, Cert.AdamSguBRefIdeal.Gen.facts, Cert.AdamRow1024.Gen.facts, Cert.AdamRow1024Ideal.Gen.facts, Cert.AdamRow1024RefIdeal.Gen.facts, Cert.AdamWIn.Gen.facts, Cert.AdamWInIdeal.Gen.facts, Cert.AdamWInRefIdeal.Gen.facts, Cert.AdamGlu.Gen.facts, Cert.AdamGluIdeal.Gen.facts, Cert.AdamGluRefIdeal.Gen.facts, Cert.AdamQUp.Gen.facts, Cert.AdamQUpIdeal.Gen.facts, Cert.AdamQUpRefIdeal.Gen.facts, Cert.AdamKvUp.Gen.facts, Cert.AdamKvUpIdeal.Gen.facts, Cert.AdamKvUpRefIdeal.Gen.facts, Cert.AdamBranch.Gen.facts, Cert.AdamBranchIdeal.Gen.facts, Cert.AdamBranchRefIdeal.Gen.facts, Cert.AdamWOut.Gen.facts, Cert.AdamWOutIdeal.Gen.facts, Cert.AdamWOutRefIdeal.Gen.facts, Cert.AdamFfnIn.Gen.facts, Cert.AdamFfnInIdeal.Gen.facts, Cert.AdamFfnInRefIdeal.Gen.facts, Cert.AdamFfnOut.Gen.facts, Cert.AdamFfnOutIdeal.Gen.facts, Cert.AdamFfnOutRefIdeal.Gen.facts,
  fun m ρ _ => Cert.Kernel.Gen.frame m ρ,
  fun m ρ _ => Cert.KernelIdeal.Gen.frame m ρ,
  swiglu_reference_frame,
  fun m ρ _ => Cert.Ffn.Gen.frame m ρ,
  fun m ρ _ => Cert.FfnIdeal.Gen.frame m ρ,
  ffn_reference_frame,
  fun m ρ _ => Cert.FfnDx.Gen.frame m ρ,
  fun m ρ _ => Cert.FfnDxIdeal.Gen.frame m ρ,
  ffnDx_reference_frame,
  fun m ρ _ => Cert.FfnDw.Gen.frame m ρ,
  fun m ρ _ => Cert.FfnDwIdeal.Gen.frame m ρ,
  ffnDw_reference_frame,
  fun m ρ _ => Cert.OutDw.Gen.frame m ρ,
  fun m ρ _ => Cert.OutDwIdeal.Gen.frame m ρ,
  outDw_reference_frame,
  fun m ρ _ => Cert.WoutDx.Gen.frame m ρ,
  fun m ρ _ => Cert.WoutDxIdeal.Gen.frame m ρ,
  woutDx_reference_frame,
  fun m ρ _ => Cert.WoutDw.Gen.frame m ρ,
  fun m ρ _ => Cert.WoutDwIdeal.Gen.frame m ρ,
  woutDw_reference_frame,
  fun m ρ _ => Cert.ProjDx.Gen.frame m ρ,
  fun m ρ _ => Cert.ProjDxIdeal.Gen.frame m ρ,
  projDx_reference_frame,
  fun m ρ _ => Cert.ProjDw.Gen.frame m ρ,
  fun m ρ _ => Cert.ProjDwIdeal.Gen.frame m ρ,
  projDw_reference_frame,
  fun m ρ _ => Cert.Proj.Gen.frame m ρ,
  fun m ρ _ => Cert.ProjIdeal.Gen.frame m ρ,
  proj_reference_frame,
  fun m ρ _ => Cert.FfnOut.Gen.frame m ρ,
  fun m ρ _ => Cert.FfnOutIdeal.Gen.frame m ρ,
  ffnOut_reference_frame,
  fun m ρ _ => Cert.Wout.Gen.frame m ρ,
  fun m ρ _ => Cert.WoutIdeal.Gen.frame m ρ,
  wout_reference_frame,
  fun m ρ _ => Cert.Merge.Gen.frame m ρ,
  fun m ρ _ => Cert.MergeIdeal.Gen.frame m ρ,
  merge_reference_frame,
  fun m ρ _ => Cert.AdamAda.Gen.frame m ρ,
  fun m ρ _ => Cert.AdamAdaIdeal.Gen.frame m ρ,
  adamAda_reference_frame,
  fun m ρ _ => Cert.AdamBAda.Gen.frame m ρ,
  fun m ρ _ => Cert.AdamBAdaIdeal.Gen.frame m ρ,
  adamBAda_reference_frame,
  fun m ρ _ => Cert.AdamBIn.Gen.frame m ρ,
  fun m ρ _ => Cert.AdamBInIdeal.Gen.frame m ρ,
  adamBIn_reference_frame,
  fun m ρ _ => Cert.AdamLam.Gen.frame m ρ,
  fun m ρ _ => Cert.AdamLamIdeal.Gen.frame m ρ,
  adamLam_reference_frame,
  fun m ρ _ => Cert.AdamLogDt.Gen.frame m ρ,
  fun m ρ _ => Cert.AdamLogDtIdeal.Gen.frame m ρ,
  adamLogDt_reference_frame,
  fun m ρ _ => Cert.AdamS5B.Gen.frame m ρ,
  fun m ρ _ => Cert.AdamS5BIdeal.Gen.frame m ρ,
  adamS5B_reference_frame,
  fun m ρ _ => Cert.AdamS5C.Gen.frame m ρ,
  fun m ρ _ => Cert.AdamS5CIdeal.Gen.frame m ρ,
  adamS5C_reference_frame,
  fun m ρ _ => Cert.AdamRow512.Gen.frame m ρ,
  fun m ρ _ => Cert.AdamRow512Ideal.Gen.frame m ρ,
  adamRow512_reference_frame,
  fun m ρ _ => Cert.AdamQNorm.Gen.frame m ρ,
  fun m ρ _ => Cert.AdamQNormIdeal.Gen.frame m ρ,
  adamQNorm_reference_frame,
  fun m ρ _ => Cert.AdamKvNorm.Gen.frame m ρ,
  fun m ρ _ => Cert.AdamKvNormIdeal.Gen.frame m ρ,
  adamKvNorm_reference_frame,
  fun m ρ _ => Cert.AdamSguW.Gen.frame m ρ,
  fun m ρ _ => Cert.AdamSguWIdeal.Gen.frame m ρ,
  adamSguW_reference_frame,
  fun m ρ _ => Cert.AdamSguB.Gen.frame m ρ,
  fun m ρ _ => Cert.AdamSguBIdeal.Gen.frame m ρ,
  adamSguB_reference_frame,
  fun m ρ _ => Cert.AdamRow1024.Gen.frame m ρ,
  fun m ρ _ => Cert.AdamRow1024Ideal.Gen.frame m ρ,
  adamRow1024_reference_frame,
  fun m ρ _ => Cert.AdamWIn.Gen.frame m ρ,
  fun m ρ _ => Cert.AdamWInIdeal.Gen.frame m ρ,
  adamWIn_reference_frame,
  fun m ρ _ => Cert.AdamGlu.Gen.frame m ρ,
  fun m ρ _ => Cert.AdamGluIdeal.Gen.frame m ρ,
  adamGlu_reference_frame,
  fun m ρ _ => Cert.AdamQUp.Gen.frame m ρ,
  fun m ρ _ => Cert.AdamQUpIdeal.Gen.frame m ρ,
  adamQUp_reference_frame,
  fun m ρ _ => Cert.AdamKvUp.Gen.frame m ρ,
  fun m ρ _ => Cert.AdamKvUpIdeal.Gen.frame m ρ,
  adamKvUp_reference_frame,
  fun m ρ _ => Cert.AdamBranch.Gen.frame m ρ,
  fun m ρ _ => Cert.AdamBranchIdeal.Gen.frame m ρ,
  adamBranch_reference_frame,
  fun m ρ _ => Cert.AdamWOut.Gen.frame m ρ,
  fun m ρ _ => Cert.AdamWOutIdeal.Gen.frame m ρ,
  adamWOut_reference_frame,
  fun m ρ _ => Cert.AdamFfnIn.Gen.frame m ρ,
  fun m ρ _ => Cert.AdamFfnInIdeal.Gen.frame m ρ,
  adamFfnIn_reference_frame,
  fun m ρ _ => Cert.AdamFfnOut.Gen.frame m ρ,
  fun m ρ _ => Cert.AdamFfnOutIdeal.Gen.frame m ρ,
  adamFfnOut_reference_frame,
  trivial, swiglu_algebraic, trivial, ffn_algebraic, trivial, ffnDx_algebraic, trivial, ffnDw_algebraic, trivial, outDw_algebraic, trivial, woutDx_algebraic, trivial, woutDw_algebraic, trivial, projDx_algebraic, trivial, projDw_algebraic, trivial, proj_algebraic, trivial, ffnOut_algebraic, trivial, wout_algebraic, trivial, merge_algebraic, trivial, adamAda_algebraic, trivial, adamBAda_algebraic, trivial, adamBIn_algebraic, trivial, adamLam_algebraic, trivial, adamLogDt_algebraic, trivial, adamS5B_algebraic, trivial, adamS5C_algebraic, trivial, adamRow512_algebraic, trivial, adamQNorm_algebraic, trivial, adamKvNorm_algebraic, trivial, adamSguW_algebraic, trivial, adamSguB_algebraic, trivial, adamRow1024_algebraic, trivial, adamWIn_algebraic, trivial, adamGlu_algebraic, trivial, adamQUp_algebraic, trivial, adamKvUp_algebraic, trivial, adamBranch_algebraic, trivial, adamWOut_algebraic, trivial, adamFfnIn_algebraic, trivial, adamFfnOut_algebraic⟩

end Cert.Proof

end
